-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_MixBRefIdeal (m : (ℓ : Loc Cert.MixBRefIdeal.nD Cert.MixBRefIdeal.τ Cert.MixBRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MmDf (m : (ℓ : Loc Cert.MmDf.nD Cert.MmDf.τ Cert.MmDf.sig) → Buf (Elt Bits) ℓ) : Prop :=
  True

def Pre_MmDfIdeal (m : (ℓ : Loc Cert.MmDfIdeal.nD Cert.MmDfIdeal.τ Cert.MmDfIdeal.sig) → Buf (Elt Ideal) ℓ) : Prop :=
  True

def Pre_MmDfRefIdeal (m : (ℓ : Loc Cert.MmDfRefIdeal.nD Cert.MmDfRefIdeal.τ Cert.MmDfRefIdeal.sig) → Buf (Elt Ideal) ℓ) : Prop :=
  True

def Pre_MmDxn3 (m : (ℓ : Loc Cert.MmDxn3.nD Cert.MmDxn3.τ Cert.MmDxn3.sig) → Buf (Elt Bits) ℓ) : Prop :=
  True

def Pre_MmDxn3Ideal (m : (ℓ : Loc Cert.MmDxn3Ideal.nD Cert.MmDxn3Ideal.τ Cert.MmDxn3Ideal.sig) → Buf (Elt Ideal) ℓ) : Prop :=
  True

def Pre_MmDxn3RefIdeal (m : (ℓ : Loc Cert.MmDxn3RefIdeal.nD Cert.MmDxn3RefIdeal.τ Cert.MmDxn3RefIdeal.sig) → Buf (Elt Ideal) ℓ) : Prop :=
  True

def Pre_MmDo (m : (ℓ : Loc Cert.MmDo.nD Cert.MmDo.τ Cert.MmDo.sig) → Buf (Elt Bits) ℓ) : Prop :=
  True

def Pre_MmDoIdeal (m : (ℓ : Loc Cert.MmDoIdeal.nD Cert.MmDoIdeal.τ Cert.MmDoIdeal.sig) → Buf (Elt Ideal) ℓ) : Prop :=
  True

def Pre_MmDoRefIdeal (m : (ℓ : Loc Cert.MmDoRefIdeal.nD Cert.MmDoRefIdeal.τ Cert.MmDoRefIdeal.sig) → Buf (Elt Ideal) ℓ) : Prop :=
  True

def Pre_MmDxn2 (m : (ℓ : Loc Cert.MmDxn2.nD Cert.MmDxn2.τ Cert.MmDxn2.sig) → Buf (Elt Bits) ℓ) : Prop :=
  True

def Pre_MmDxn2Ideal (m : (ℓ : Loc Cert.MmDxn2Ideal.nD Cert.MmDxn2Ideal.τ Cert.MmDxn2Ideal.sig) → Buf (Elt Ideal) ℓ) : Prop :=
  True

def Pre_MmDxn2RefIdeal (m : (ℓ : Loc Cert.MmDxn2RefIdeal.nD Cert.MmDxn2RefIdeal.τ Cert.MmDxn2RefIdeal.sig) → Buf (Elt Ideal) ℓ) : Prop :=
  True

def Pre_MmDmem (m : (ℓ : Loc Cert.MmDmem.nD Cert.MmDmem.τ Cert.MmDmem.sig) → Buf (Elt Bits) ℓ) : Prop :=
  True

def Pre_MmDmemIdeal (m : (ℓ : Loc Cert.MmDmemIdeal.nD Cert.MmDmemIdeal.τ Cert.MmDmemIdeal.sig) → Buf (Elt Ideal) ℓ) : Prop :=
  True

def Pre_MmDmemRefIdeal (m : (ℓ : Loc Cert.MmDmemRefIdeal.nD Cert.MmDmemRefIdeal.τ Cert.MmDmemRefIdeal.sig) → Buf (Elt Ideal) ℓ) : Prop :=
  True

def Pre_DwInSib [hPre_core_dw_in_sib : Cert.Pre_core_dw_in_sib.Facts] (m : (ℓ : Loc Cert.DwInSib.nD Cert.DwInSib.τ Cert.DwInSib.sig) → Buf (Elt Bits) ℓ) : Prop :=
  ∀ c : Dev Cert.DwInSib.nD,
    (Cert.Pre_core_dw_in_sib.fn (F := Bits) (m ((c.tc : Thread Cert.DwInSib.nD Cert.DwInSib.τ).loc Cert.DwInSib.main_arg0)) (m ((c.tc : Thread Cert.DwInSib.nD Cert.DwInSib.τ).loc Cert.DwInSib.main_arg1)) (m ((c.tc : Thread Cert.DwInSib.nD Cert.DwInSib.τ).loc Cert.DwInSib.main_arg2)) (m ((c.tc : Thread Cert.DwInSib.nD Cert.DwInSib.τ).loc Cert.DwInSib.main_arg3))) = (fun _ => 1#1)

def Pre_DwInSibIdeal [hPre_core_dw_in_sib : Cert.Pre_core_dw_in_sib.Facts] (m : (ℓ : Loc Cert.DwInSibIdeal.nD Cert.DwInSibIdeal.τ Cert.DwInSibIdeal.sig) → Buf (Elt Ideal) ℓ) : Prop :=
  ∀ c : Dev Cert.DwInSibIdeal.nD,
    (Cert.Pre_core_dw_in_sib.fn (F := Ideal) (m ((c.tc : Thread Cert.DwInSibIdeal.nD Cert.DwInSibIdeal.τ).loc Cert.DwInSibIdeal.main_arg0)) (m ((c.tc : Thread Cert.DwInSibIdeal.nD Cert.DwInSibIdeal.τ).loc Cert.DwInSibIdeal.main_arg1)) (m ((c.tc : Thread Cert.DwInSibIdeal.nD Cert.DwInSibIdeal.τ).loc Cert.DwInSibIdeal.main_arg2)) (m ((c.tc : Thread Cert.DwInSibIdeal.nD Cert.DwInSibIdeal.τ).loc Cert.DwInSibIdeal.main_arg3))) = (fun _ => 1#1)

def Pre_DwInSibRefIdeal [hPre_core_dw_in_sib : Cert.Pre_core_dw_in_sib.Facts] (m : (ℓ : Loc Cert.DwInSibRefIdeal.nD Cert.DwInSibRefIdeal.τ Cert.DwInSibRefIdeal.sig) → Buf (Elt Ideal) ℓ) : Prop :=
  ∀ c : Dev Cert.DwInSibRefIdeal.nD,
    (Cert.Pre_core_dw_in_sib.fn (F := Ideal) (m ((c.tc : Thread Cert.DwInSibRefIdeal.nD Cert.DwInSibRefIdeal.τ).loc Cert.DwInSibRefIdeal.main_arg0)) (m ((c.tc : Thread Cert.DwInSibRefIdeal.nD Cert.DwInSibRefIdeal.τ).loc Cert.DwInSibRefIdeal.main_arg1)) (m ((c.tc : Thread Cert.DwInSibRefIdeal.nD Cert.DwInSibRefIdeal.τ).loc Cert.DwInSibRefIdeal.main_arg2)) (m ((c.tc : Thread Cert.DwInSibRefIdeal.nD Cert.DwInSibRefIdeal.τ).loc Cert.DwInSibRefIdeal.main_arg3))) = (fun _ => 1#1)

def Pre_DwInOwn [hPre_core_dw_in_own : Cert.Pre_core_dw_in_own.Facts] (m : (ℓ : Loc Cert.DwInOwn.nD Cert.DwInOwn.τ Cert.DwInOwn.sig) → Buf (Elt Bits) ℓ) : Prop :=
  ∀ c : Dev Cert.DwInOwn.nD,
    (Cert.Pre_core_dw_in_own.fn (F := Bits) (m ((c.tc : Thread Cert.DwInOwn.nD Cert.DwInOwn.τ).loc Cert.DwInOwn.main_arg0)) (m ((c.tc : Thread Cert.DwInOwn.nD Cert.DwInOwn.τ).loc Cert.DwInOwn.main_arg1)) (m ((c.tc : Thread Cert.DwInOwn.nD Cert.DwInOwn.τ).loc Cert.DwInOwn.main_arg2)) (m ((c.tc : Thread Cert.DwInOwn.nD Cert.DwInOwn.τ).loc Cert.DwInOwn.main_arg3))) = (fun _ => 1#1)

def Pre_DwInOwnIdeal [hPre_core_dw_in_own : Cert.Pre_core_dw_in_own.Facts] (m : (ℓ : Loc Cert.DwInOwnIdeal.nD Cert.DwInOwnIdeal.τ Cert.DwInOwnIdeal.sig) → Buf (Elt Ideal) ℓ) : Prop :=
  ∀ c : Dev Cert.DwInOwnIdeal.nD,
    (Cert.Pre_core_dw_in_own.fn (F := Ideal) (m ((c.tc : Thread Cert.DwInOwnIdeal.nD Cert.DwInOwnIdeal.τ).loc Cert.DwInOwnIdeal.main_arg0)) (m ((c.tc : Thread Cert.DwInOwnIdeal.nD Cert.DwInOwnIdeal.τ).loc Cert.DwInOwnIdeal.main_arg1)) (m ((c.tc : Thread Cert.DwInOwnIdeal.nD Cert.DwInOwnIdeal.τ).loc Cert.DwInOwnIdeal.main_arg2)) (m ((c.tc : Thread Cert.DwInOwnIdeal.nD Cert.DwInOwnIdeal.τ).loc Cert.DwInOwnIdeal.main_arg3))) = (fun _ => 1#1)

def Pre_DwInOwnRefIdeal [hPre_core_dw_in_own : Cert.Pre_core_dw_in_own.Facts] (m : (ℓ : Loc Cert.DwInOwnRefIdeal.nD Cert.DwInOwnRefIdeal.τ Cert.DwInOwnRefIdeal.sig) → Buf (Elt Ideal) ℓ) : Prop :=
  ∀ c : Dev Cert.DwInOwnRefIdeal.nD,
    (Cert.Pre_core_dw_in_own.fn (F := Ideal) (m ((c.tc : Thread Cert.DwInOwnRefIdeal.nD Cert.DwInOwnRefIdeal.τ).loc Cert.DwInOwnRefIdeal.main_arg0)) (m ((c.tc : Thread Cert.DwInOwnRefIdeal.nD Cert.DwInOwnRefIdeal.τ).loc Cert.DwInOwnRefIdeal.main_arg1)) (m ((c.tc : Thread Cert.DwInOwnRefIdeal.nD Cert.DwInOwnRefIdeal.τ).loc Cert.DwInOwnRefIdeal.main_arg2)) (m ((c.tc : Thread Cert.DwInOwnRefIdeal.nD Cert.DwInOwnRefIdeal.τ).loc Cert.DwInOwnRefIdeal.main_arg3))) = (fun _ => 1#1)

def Pre_DwOSib [hPre_core_dw_o_sib : Cert.Pre_core_dw_o_sib.Facts] (m : (ℓ : Loc Cert.DwOSib.nD Cert.DwOSib.τ Cert.DwOSib.sig) → Buf (Elt Bits) ℓ) : Prop :=
  ∀ c : Dev Cert.DwOSib.nD,
    (Cert.Pre_core_dw_o_sib.fn (F := Bits) (m ((c.tc : Thread Cert.DwOSib.nD Cert.DwOSib.τ).loc Cert.DwOSib.main_arg0)) (m ((c.tc : Thread Cert.DwOSib.nD Cert.DwOSib.τ).loc Cert.DwOSib.main_arg1)) (m ((c.tc : Thread Cert.DwOSib.nD Cert.DwOSib.τ).loc Cert.DwOSib.main_arg2)) (m ((c.tc : Thread Cert.DwOSib.nD Cert.DwOSib.τ).loc Cert.DwOSib.main_arg3))) = (fun _ => 1#1)

def Pre_DwOSibIdeal [hPre_core_dw_o_sib : Cert.Pre_core_dw_o_sib.Facts] (m : (ℓ : Loc Cert.DwOSibIdeal.nD Cert.DwOSibIdeal.τ Cert.DwOSibIdeal.sig) → Buf (Elt Ideal) ℓ) : Prop :=
  ∀ c : Dev Cert.DwOSibIdeal.nD,
    (Cert.Pre_core_dw_o_sib.fn (F := Ideal) (m ((c.tc : Thread Cert.DwOSibIdeal.nD Cert.DwOSibIdeal.τ).loc Cert.DwOSibIdeal.main_arg0)) (m ((c.tc : Thread Cert.DwOSibIdeal.nD Cert.DwOSibIdeal.τ).loc Cert.DwOSibIdeal.main_arg1)) (m ((c.tc : Thread Cert.DwOSibIdeal.nD Cert.DwOSibIdeal.τ).loc Cert.DwOSibIdeal.main_arg2)) (m ((c.tc : Thread Cert.DwOSibIdeal.nD Cert.DwOSibIdeal.τ).loc Cert.DwOSibIdeal.main_arg3))) = (fun _ => 1#1)

def Pre_DwOSibRefIdeal [hPre_core_dw_o_sib : Cert.Pre_core_dw_o_sib.Facts] (m : (ℓ : Loc Cert.DwOSibRefIdeal.nD Cert.DwOSibRefIdeal.τ Cert.DwOSibRefIdeal.sig) → Buf (Elt Ideal) ℓ) : Prop :=
  ∀ c : Dev Cert.DwOSibRefIdeal.nD,
    (Cert.Pre_core_dw_o_sib.fn (F := Ideal) (m ((c.tc : Thread Cert.DwOSibRefIdeal.nD Cert.DwOSibRefIdeal.τ).loc Cert.DwOSibRefIdeal.main_arg0)) (m ((c.tc : Thread Cert.DwOSibRefIdeal.nD Cert.DwOSibRefIdeal.τ).loc Cert.DwOSibRefIdeal.main_arg1)) (m ((c.tc : Thread Cert.DwOSibRefIdeal.nD Cert.DwOSibRefIdeal.τ).loc Cert.DwOSibRefIdeal.main_arg2)) (m ((c.tc : Thread Cert.DwOSibRefIdeal.nD Cert.DwOSibRefIdeal.τ).loc Cert.DwOSibRefIdeal.main_arg3))) = (fun _ => 1#1)

def Pre_DwOOwn [hPre_core_dw_o_own : Cert.Pre_core_dw_o_own.Facts] (m : (ℓ : Loc Cert.DwOOwn.nD Cert.DwOOwn.τ Cert.DwOOwn.sig) → Buf (Elt Bits) ℓ) : Prop :=
  ∀ c : Dev Cert.DwOOwn.nD,
    (Cert.Pre_core_dw_o_own.fn (F := Bits) (m ((c.tc : Thread Cert.DwOOwn.nD Cert.DwOOwn.τ).loc Cert.DwOOwn.main_arg0)) (m ((c.tc : Thread Cert.DwOOwn.nD Cert.DwOOwn.τ).loc Cert.DwOOwn.main_arg1)) (m ((c.tc : Thread Cert.DwOOwn.nD Cert.DwOOwn.τ).loc Cert.DwOOwn.main_arg2)) (m ((c.tc : Thread Cert.DwOOwn.nD Cert.DwOOwn.τ).loc Cert.DwOOwn.main_arg3))) = (fun _ => 1#1)

def Pre_DwOOwnIdeal [hPre_core_dw_o_own : Cert.Pre_core_dw_o_own.Facts] (m : (ℓ : Loc Cert.DwOOwnIdeal.nD Cert.DwOOwnIdeal.τ Cert.DwOOwnIdeal.sig) → Buf (Elt Ideal) ℓ) : Prop :=
  ∀ c : Dev Cert.DwOOwnIdeal.nD,
    (Cert.Pre_core_dw_o_own.fn (F := Ideal) (m ((c.tc : Thread Cert.DwOOwnIdeal.nD Cert.DwOOwnIdeal.τ).loc Cert.DwOOwnIdeal.main_arg0)) (m ((c.tc : Thread Cert.DwOOwnIdeal.nD Cert.DwOOwnIdeal.τ).loc Cert.DwOOwnIdeal.main_arg1)) (m ((c.tc : Thread Cert.DwOOwnIdeal.nD Cert.DwOOwnIdeal.τ).loc Cert.DwOOwnIdeal.main_arg2)) (m ((c.tc : Thread Cert.DwOOwnIdeal.nD Cert.DwOOwnIdeal.τ).loc Cert.DwOOwnIdeal.main_arg3))) = (fun _ => 1#1)

def Pre_DwOOwnRefIdeal [hPre_core_dw_o_own : Cert.Pre_core_dw_o_own.Facts] (m : (ℓ : Loc Cert.DwOOwnRefIdeal.nD Cert.DwOOwnRefIdeal.τ Cert.DwOOwnRefIdeal.sig) → Buf (Elt Ideal) ℓ) : Prop :=
  ∀ c : Dev Cert.DwOOwnRefIdeal.nD,
    (Cert.Pre_core_dw_o_own.fn (F := Ideal) (m ((c.tc : Thread Cert.DwOOwnRefIdeal.nD Cert.DwOOwnRefIdeal.τ).loc Cert.DwOOwnRefIdeal.main_arg0)) (m ((c.tc : Thread Cert.DwOOwnRefIdeal.nD Cert.DwOOwnRefIdeal.τ).loc Cert.DwOOwnRefIdeal.main_arg1)) (m ((c.tc : Thread Cert.DwOOwnRefIdeal.nD Cert.DwOOwnRefIdeal.τ).loc Cert.DwOOwnRefIdeal.main_arg2)) (m ((c.tc : Thread Cert.DwOOwnRefIdeal.nD Cert.DwOOwnRefIdeal.τ).loc Cert.DwOOwnRefIdeal.main_arg3))) = (fun _ => 1#1)

def Pre_DwKSib [hPre_core_dw_k_sib : Cert.Pre_core_dw_k_sib.Facts] (m : (ℓ : Loc Cert.DwKSib.nD Cert.DwKSib.τ Cert.DwKSib.sig) → Buf (Elt Bits) ℓ) : Prop :=
  ∀ c : Dev Cert.DwKSib.nD,
    (Cert.Pre_core_dw_k_sib.fn (F := Bits) (m ((c.tc : Thread Cert.DwKSib.nD Cert.DwKSib.τ).loc Cert.DwKSib.main_arg0)) (m ((c.tc : Thread Cert.DwKSib.nD Cert.DwKSib.τ).loc Cert.DwKSib.main_arg1)) (m ((c.tc : Thread Cert.DwKSib.nD Cert.DwKSib.τ).loc Cert.DwKSib.main_arg2)) (m ((c.tc : Thread Cert.DwKSib.nD Cert.DwKSib.τ).loc Cert.DwKSib.main_arg3))) = (fun _ => 1#1)

def Pre_DwKSibIdeal [hPre_core_dw_k_sib : Cert.Pre_core_dw_k_sib.Facts] (m : (ℓ : Loc Cert.DwKSibIdeal.nD Cert.DwKSibIdeal.τ Cert.DwKSibIdeal.sig) → Buf (Elt Ideal) ℓ) : Prop :=
  ∀ c : Dev Cert.DwKSibIdeal.nD,
    (Cert.Pre_core_dw_k_sib.fn (F := Ideal) (m ((c.tc : Thread Cert.DwKSibIdeal.nD Cert.DwKSibIdeal.τ).loc Cert.DwKSibIdeal.main_arg0)) (m ((c.tc : Thread Cert.DwKSibIdeal.nD Cert.DwKSibIdeal.τ).loc Cert.DwKSibIdeal.main_arg1)) (m ((c.tc : Thread Cert.DwKSibIdeal.nD Cert.DwKSibIdeal.τ).loc Cert.DwKSibIdeal.main_arg2)) (m ((c.tc : Thread Cert.DwKSibIdeal.nD Cert.DwKSibIdeal.τ).loc Cert.DwKSibIdeal.main_arg3))) = (fun _ => 1#1)

def Pre_DwKSibRefIdeal [hPre_core_dw_k_sib : Cert.Pre_core_dw_k_sib.Facts] (m : (ℓ : Loc Cert.DwKSibRefIdeal.nD Cert.DwKSibRefIdeal.τ Cert.DwKSibRefIdeal.sig) → Buf (Elt Ideal) ℓ) : Prop :=
  ∀ c : Dev Cert.DwKSibRefIdeal.nD,
    (Cert.Pre_core_dw_k_sib.fn (F := Ideal) (m ((c.tc : Thread Cert.DwKSibRefIdeal.nD Cert.DwKSibRefIdeal.τ).loc Cert.DwKSibRefIdeal.main_arg0)) (m ((c.tc : Thread Cert.DwKSibRefIdeal.nD Cert.DwKSibRefIdeal.τ).loc Cert.DwKSibRefIdeal.main_arg1)) (m ((c.tc : Thread Cert.DwKSibRefIdeal.nD Cert.DwKSibRefIdeal.τ).loc Cert.DwKSibRefIdeal.main_arg2)) (m ((c.tc : Thread Cert.DwKSibRefIdeal.nD Cert.DwKSibRefIdeal.τ).loc Cert.DwKSibRefIdeal.main_arg3))) = (fun _ => 1#1)

def Pre_DwKOwn [hPre_core_dw_k_own : Cert.Pre_core_dw_k_own.Facts] (m : (ℓ : Loc Cert.DwKOwn.nD Cert.DwKOwn.τ Cert.DwKOwn.sig) → Buf (Elt Bits) ℓ) : Prop :=
  ∀ c : Dev Cert.DwKOwn.nD,
    (Cert.Pre_core_dw_k_own.fn (F := Bits) (m ((c.tc : Thread Cert.DwKOwn.nD Cert.DwKOwn.τ).loc Cert.DwKOwn.main_arg0)) (m ((c.tc : Thread Cert.DwKOwn.nD Cert.DwKOwn.τ).loc Cert.DwKOwn.main_arg1)) (m ((c.tc : Thread Cert.DwKOwn.nD Cert.DwKOwn.τ).loc Cert.DwKOwn.main_arg2)) (m ((c.tc : Thread Cert.DwKOwn.nD Cert.DwKOwn.τ).loc Cert.DwKOwn.main_arg3))) = (fun _ => 1#1)

def Pre_DwKOwnIdeal [hPre_core_dw_k_own : Cert.Pre_core_dw_k_own.Facts] (m : (ℓ : Loc Cert.DwKOwnIdeal.nD Cert.DwKOwnIdeal.τ Cert.DwKOwnIdeal.sig) → Buf (Elt Ideal) ℓ) : Prop :=
  ∀ c : Dev Cert.DwKOwnIdeal.nD,
    (Cert.Pre_core_dw_k_own.fn (F := Ideal) (m ((c.tc : Thread Cert.DwKOwnIdeal.nD Cert.DwKOwnIdeal.τ).loc Cert.DwKOwnIdeal.main_arg0)) (m ((c.tc : Thread Cert.DwKOwnIdeal.nD Cert.DwKOwnIdeal.τ).loc Cert.DwKOwnIdeal.main_arg1)) (m ((c.tc : Thread Cert.DwKOwnIdeal.nD Cert.DwKOwnIdeal.τ).loc Cert.DwKOwnIdeal.main_arg2)) (m ((c.tc : Thread Cert.DwKOwnIdeal.nD Cert.DwKOwnIdeal.τ).loc Cert.DwKOwnIdeal.main_arg3))) = (fun _ => 1#1)

def Pre_DwKOwnRefIdeal [hPre_core_dw_k_own : Cert.Pre_core_dw_k_own.Facts] (m : (ℓ : Loc Cert.DwKOwnRefIdeal.nD Cert.DwKOwnRefIdeal.τ Cert.DwKOwnRefIdeal.sig) → Buf (Elt Ideal) ℓ) : Prop :=
  ∀ c : Dev Cert.DwKOwnRefIdeal.nD,
    (Cert.Pre_core_dw_k_own.fn (F := Ideal) (m ((c.tc : Thread Cert.DwKOwnRefIdeal.nD Cert.DwKOwnRefIdeal.τ).loc Cert.DwKOwnRefIdeal.main_arg0)) (m ((c.tc : Thread Cert.DwKOwnRefIdeal.nD Cert.DwKOwnRefIdeal.τ).loc Cert.DwKOwnRefIdeal.main_arg1)) (m ((c.tc : Thread Cert.DwKOwnRefIdeal.nD Cert.DwKOwnRefIdeal.τ).loc Cert.DwKOwnRefIdeal.main_arg2)) (m ((c.tc : Thread Cert.DwKOwnRefIdeal.nD Cert.DwKOwnRefIdeal.τ).loc Cert.DwKOwnRefIdeal.main_arg3))) = (fun _ => 1#1)

def Pre_DwGateSib [hPre_core_dw_gate_sib : Cert.Pre_core_dw_gate_sib.Facts] (m : (ℓ : Loc Cert.DwGateSib.nD Cert.DwGateSib.τ Cert.DwGateSib.sig) → Buf (Elt Bits) ℓ) : Prop :=
  ∀ c : Dev Cert.DwGateSib.nD,
    (Cert.Pre_core_dw_gate_sib.fn (F := Bits) (m ((c.tc : Thread Cert.DwGateSib.nD Cert.DwGateSib.τ).loc Cert.DwGateSib.main_arg0)) (m ((c.tc : Thread Cert.DwGateSib.nD Cert.DwGateSib.τ).loc Cert.DwGateSib.main_arg1)) (m ((c.tc : Thread Cert.DwGateSib.nD Cert.DwGateSib.τ).loc Cert.DwGateSib.main_arg2)) (m ((c.tc : Thread Cert.DwGateSib.nD Cert.DwGateSib.τ).loc Cert.DwGateSib.main_arg3))) = (fun _ => 1#1)

def Pre_DwGateSibIdeal [hPre_core_dw_gate_sib : Cert.Pre_core_dw_gate_sib.Facts] (m : (ℓ : Loc Cert.DwGateSibIdeal.nD Cert.DwGateSibIdeal.τ Cert.DwGateSibIdeal.sig) → Buf (Elt Ideal) ℓ) : Prop :=
  ∀ c : Dev Cert.DwGateSibIdeal.nD,
    (Cert.Pre_core_dw_gate_sib.fn (F := Ideal) (m ((c.tc : Thread Cert.DwGateSibIdeal.nD Cert.DwGateSibIdeal.τ).loc Cert.DwGateSibIdeal.main_arg0)) (m ((c.tc : Thread Cert.DwGateSibIdeal.nD Cert.DwGateSibIdeal.τ).loc Cert.DwGateSibIdeal.main_arg1)) (m ((c.tc : Thread Cert.DwGateSibIdeal.nD Cert.DwGateSibIdeal.τ).loc Cert.DwGateSibIdeal.main_arg2)) (m ((c.tc : Thread Cert.DwGateSibIdeal.nD Cert.DwGateSibIdeal.τ).loc Cert.DwGateSibIdeal.main_arg3))) = (fun _ => 1#1)

def Pre_DwGateSibRefIdeal [hPre_core_dw_gate_sib : Cert.Pre_core_dw_gate_sib.Facts] (m : (ℓ : Loc Cert.DwGateSibRefIdeal.nD Cert.DwGateSibRefIdeal.τ Cert.DwGateSibRefIdeal.sig) → Buf (Elt Ideal) ℓ) : Prop :=
  ∀ c : Dev Cert.DwGateSibRefIdeal.nD,
    (Cert.Pre_core_dw_gate_sib.fn (F := Ideal) (m ((c.tc : Thread Cert.DwGateSibRefIdeal.nD Cert.DwGateSibRefIdeal.τ).loc Cert.DwGateSibRefIdeal.main_arg0)) (m ((c.tc : Thread Cert.DwGateSibRefIdeal.nD Cert.DwGateSibRefIdeal.τ).loc Cert.DwGateSibRefIdeal.main_arg1)) (m ((c.tc : Thread Cert.DwGateSibRefIdeal.nD Cert.DwGateSibRefIdeal.τ).loc Cert.DwGateSibRefIdeal.main_arg2)) (m ((c.tc : Thread Cert.DwGateSibRefIdeal.nD Cert.DwGateSibRefIdeal.τ).loc Cert.DwGateSibRefIdeal.main_arg3))) = (fun _ => 1#1)

def Pre_DwGateOwn [hPre_core_dw_gate_own : Cert.Pre_core_dw_gate_own.Facts] (m : (ℓ : Loc Cert.DwGateOwn.nD Cert.DwGateOwn.τ Cert.DwGateOwn.sig) → Buf (Elt Bits) ℓ) : Prop :=
  ∀ c : Dev Cert.DwGateOwn.nD,
    (Cert.Pre_core_dw_gate_own.fn (F := Bits) (m ((c.tc : Thread Cert.DwGateOwn.nD Cert.DwGateOwn.τ).loc Cert.DwGateOwn.main_arg0)) (m ((c.tc : Thread Cert.DwGateOwn.nD Cert.DwGateOwn.τ).loc Cert.DwGateOwn.main_arg1)) (m ((c.tc : Thread Cert.DwGateOwn.nD Cert.DwGateOwn.τ).loc Cert.DwGateOwn.main_arg2)) (m ((c.tc : Thread Cert.DwGateOwn.nD Cert.DwGateOwn.τ).loc Cert.DwGateOwn.main_arg3))) = (fun _ => 1#1)

def Pre_DwGateOwnIdeal [hPre_core_dw_gate_own : Cert.Pre_core_dw_gate_own.Facts] (m : (ℓ : Loc Cert.DwGateOwnIdeal.nD Cert.DwGateOwnIdeal.τ Cert.DwGateOwnIdeal.sig) → Buf (Elt Ideal) ℓ) : Prop :=
  ∀ c : Dev Cert.DwGateOwnIdeal.nD,
    (Cert.Pre_core_dw_gate_own.fn (F := Ideal) (m ((c.tc : Thread Cert.DwGateOwnIdeal.nD Cert.DwGateOwnIdeal.τ).loc Cert.DwGateOwnIdeal.main_arg0)) (m ((c.tc : Thread Cert.DwGateOwnIdeal.nD Cert.DwGateOwnIdeal.τ).loc Cert.DwGateOwnIdeal.main_arg1)) (m ((c.tc : Thread Cert.DwGateOwnIdeal.nD Cert.DwGateOwnIdeal.τ).loc Cert.DwGateOwnIdeal.main_arg2)) (m ((c.tc : Thread Cert.DwGateOwnIdeal.nD Cert.DwGateOwnIdeal.τ).loc Cert.DwGateOwnIdeal.main_arg3))) = (fun _ => 1#1)

def Pre_DwGateOwnRefIdeal [hPre_core_dw_gate_own : Cert.Pre_core_dw_gate_own.Facts] (m : (ℓ : Loc Cert.DwGateOwnRefIdeal.nD Cert.DwGateOwnRefIdeal.τ Cert.DwGateOwnRefIdeal.sig) → Buf (Elt Ideal) ℓ) : Prop :=
  ∀ c : Dev Cert.DwGateOwnRefIdeal.nD,
    (Cert.Pre_core_dw_gate_own.fn (F := Ideal) (m ((c.tc : Thread Cert.DwGateOwnRefIdeal.nD Cert.DwGateOwnRefIdeal.τ).loc Cert.DwGateOwnRefIdeal.main_arg0)) (m ((c.tc : Thread Cert.DwGateOwnRefIdeal.nD Cert.DwGateOwnRefIdeal.τ).loc Cert.DwGateOwnRefIdeal.main_arg1)) (m ((c.tc : Thread Cert.DwGateOwnRefIdeal.nD Cert.DwGateOwnRefIdeal.τ).loc Cert.DwGateOwnRefIdeal.main_arg2)) (m ((c.tc : Thread Cert.DwGateOwnRefIdeal.nD Cert.DwGateOwnRefIdeal.τ).loc Cert.DwGateOwnRefIdeal.main_arg3))) = (fun _ => 1#1)

def Pre_DwDownSib [hPre_core_dw_down_sib : Cert.Pre_core_dw_down_sib.Facts] (m : (ℓ : Loc Cert.DwDownSib.nD Cert.DwDownSib.τ Cert.DwDownSib.sig) → Buf (Elt Bits) ℓ) : Prop :=
  ∀ c : Dev Cert.DwDownSib.nD,
    (Cert.Pre_core_dw_down_sib.fn (F := Bits) (m ((c.tc : Thread Cert.DwDownSib.nD Cert.DwDownSib.τ).loc Cert.DwDownSib.main_arg0)) (m ((c.tc : Thread Cert.DwDownSib.nD Cert.DwDownSib.τ).loc Cert.DwDownSib.main_arg1)) (m ((c.tc : Thread Cert.DwDownSib.nD Cert.DwDownSib.τ).loc Cert.DwDownSib.main_arg2)) (m ((c.tc : Thread Cert.DwDownSib.nD Cert.DwDownSib.τ).loc Cert.DwDownSib.main_arg3))) = (fun _ => 1#1)

def Pre_DwDownSibIdeal [hPre_core_dw_down_sib : Cert.Pre_core_dw_down_sib.Facts] (m : (ℓ : Loc Cert.DwDownSibIdeal.nD Cert.DwDownSibIdeal.τ Cert.DwDownSibIdeal.sig) → Buf (Elt Ideal) ℓ) : Prop :=
  ∀ c : Dev Cert.DwDownSibIdeal.nD,
    (Cert.Pre_core_dw_down_sib.fn (F := Ideal) (m ((c.tc : Thread Cert.DwDownSibIdeal.nD Cert.DwDownSibIdeal.τ).loc Cert.DwDownSibIdeal.main_arg0)) (m ((c.tc : Thread Cert.DwDownSibIdeal.nD Cert.DwDownSibIdeal.τ).loc Cert.DwDownSibIdeal.main_arg1)) (m ((c.tc : Thread Cert.DwDownSibIdeal.nD Cert.DwDownSibIdeal.τ).loc Cert.DwDownSibIdeal.main_arg2)) (m ((c.tc : Thread Cert.DwDownSibIdeal.nD Cert.DwDownSibIdeal.τ).loc Cert.DwDownSibIdeal.main_arg3))) = (fun _ => 1#1)

def Pre_DwDownSibRefIdeal [hPre_core_dw_down_sib : Cert.Pre_core_dw_down_sib.Facts] (m : (ℓ : Loc Cert.DwDownSibRefIdeal.nD Cert.DwDownSibRefIdeal.τ Cert.DwDownSibRefIdeal.sig) → Buf (Elt Ideal) ℓ) : Prop :=
  ∀ c : Dev Cert.DwDownSibRefIdeal.nD,
    (Cert.Pre_core_dw_down_sib.fn (F := Ideal) (m ((c.tc : Thread Cert.DwDownSibRefIdeal.nD Cert.DwDownSibRefIdeal.τ).loc Cert.DwDownSibRefIdeal.main_arg0)) (m ((c.tc : Thread Cert.DwDownSibRefIdeal.nD Cert.DwDownSibRefIdeal.τ).loc Cert.DwDownSibRefIdeal.main_arg1)) (m ((c.tc : Thread Cert.DwDownSibRefIdeal.nD Cert.DwDownSibRefIdeal.τ).loc Cert.DwDownSibRefIdeal.main_arg2)) (m ((c.tc : Thread Cert.DwDownSibRefIdeal.nD Cert.DwDownSibRefIdeal.τ).loc Cert.DwDownSibRefIdeal.main_arg3))) = (fun _ => 1#1)

def Pre_DwDownOwn [hPre_core_dw_down_own : Cert.Pre_core_dw_down_own.Facts] (m : (ℓ : Loc Cert.DwDownOwn.nD Cert.DwDownOwn.τ Cert.DwDownOwn.sig) → Buf (Elt Bits) ℓ) : Prop :=
  ∀ c : Dev Cert.DwDownOwn.nD,
    (Cert.Pre_core_dw_down_own.fn (F := Bits) (m ((c.tc : Thread Cert.DwDownOwn.nD Cert.DwDownOwn.τ).loc Cert.DwDownOwn.main_arg0)) (m ((c.tc : Thread Cert.DwDownOwn.nD Cert.DwDownOwn.τ).loc Cert.DwDownOwn.main_arg1)) (m ((c.tc : Thread Cert.DwDownOwn.nD Cert.DwDownOwn.τ).loc Cert.DwDownOwn.main_arg2)) (m ((c.tc : Thread Cert.DwDownOwn.nD Cert.DwDownOwn.τ).loc Cert.DwDownOwn.main_arg3))) = (fun _ => 1#1)

def Pre_DwDownOwnIdeal [hPre_core_dw_down_own : Cert.Pre_core_dw_down_own.Facts] (m : (ℓ : Loc Cert.DwDownOwnIdeal.nD Cert.DwDownOwnIdeal.τ Cert.DwDownOwnIdeal.sig) → Buf (Elt Ideal) ℓ) : Prop :=
  ∀ c : Dev Cert.DwDownOwnIdeal.nD,
    (Cert.Pre_core_dw_down_own.fn (F := Ideal) (m ((c.tc : Thread Cert.DwDownOwnIdeal.nD Cert.DwDownOwnIdeal.τ).loc Cert.DwDownOwnIdeal.main_arg0)) (m ((c.tc : Thread Cert.DwDownOwnIdeal.nD Cert.DwDownOwnIdeal.τ).loc Cert.DwDownOwnIdeal.main_arg1)) (m ((c.tc : Thread Cert.DwDownOwnIdeal.nD Cert.DwDownOwnIdeal.τ).loc Cert.DwDownOwnIdeal.main_arg2)) (m ((c.tc : Thread Cert.DwDownOwnIdeal.nD Cert.DwDownOwnIdeal.τ).loc Cert.DwDownOwnIdeal.main_arg3))) = (fun _ => 1#1)

def Pre_DwDownOwnRefIdeal [hPre_core_dw_down_own : Cert.Pre_core_dw_down_own.Facts] (m : (ℓ : Loc Cert.DwDownOwnRefIdeal.nD Cert.DwDownOwnRefIdeal.τ Cert.DwDownOwnRefIdeal.sig) → Buf (Elt Ideal) ℓ) : Prop :=
  ∀ c : Dev Cert.DwDownOwnRefIdeal.nD,
    (Cert.Pre_core_dw_down_own.fn (F := Ideal) (m ((c.tc : Thread Cert.DwDownOwnRefIdeal.nD Cert.DwDownOwnRefIdeal.τ).loc Cert.DwDownOwnRefIdeal.main_arg0)) (m ((c.tc : Thread Cert.DwDownOwnRefIdeal.nD Cert.DwDownOwnRefIdeal.τ).loc Cert.DwDownOwnRefIdeal.main_arg1)) (m ((c.tc : Thread Cert.DwDownOwnRefIdeal.nD Cert.DwDownOwnRefIdeal.τ).loc Cert.DwDownOwnRefIdeal.main_arg2)) (m ((c.tc : Thread Cert.DwDownOwnRefIdeal.nD Cert.DwDownOwnRefIdeal.τ).loc Cert.DwDownOwnRefIdeal.main_arg3))) = (fun _ => 1#1)

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmQ (m : (ℓ : Loc Cert.MmQ.nD Cert.MmQ.τ Cert.MmQ.sig) → Buf (Elt Bits) ℓ) : Prop :=
  True

def Pre_MmQIdeal (m : (ℓ : Loc Cert.MmQIdeal.nD Cert.MmQIdeal.τ Cert.MmQIdeal.sig) → Buf (Elt Ideal) ℓ) : Prop :=
  True

def Pre_MmQRefIdeal (m : (ℓ : Loc Cert.MmQRefIdeal.nD Cert.MmQRefIdeal.τ Cert.MmQRefIdeal.sig) → Buf (Elt Ideal) ℓ) : Prop :=
  True

def Pre_MmK (m : (ℓ : Loc Cert.MmK.nD Cert.MmK.τ Cert.MmK.sig) → Buf (Elt Bits) ℓ) : Prop :=
  True

def Pre_MmKIdeal (m : (ℓ : Loc Cert.MmKIdeal.nD Cert.MmKIdeal.τ Cert.MmKIdeal.sig) → Buf (Elt Ideal) ℓ) : Prop :=
  True

def Pre_MmKRefIdeal (m : (ℓ : Loc Cert.MmKRefIdeal.nD Cert.MmKRefIdeal.τ Cert.MmKRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmDxn1Lo (m : (ℓ : Loc Cert.MmDxn1Lo.nD Cert.MmDxn1Lo.τ Cert.MmDxn1Lo.sig) → Buf (Elt Bits) ℓ) : Prop :=
  True

def Pre_MmDxn1LoIdeal (m : (ℓ : Loc Cert.MmDxn1LoIdeal.nD Cert.MmDxn1LoIdeal.τ Cert.MmDxn1LoIdeal.sig) → Buf (Elt Ideal) ℓ) : Prop :=
  True

def Pre_MmDxn1LoRefIdeal (m : (ℓ : Loc Cert.MmDxn1LoRefIdeal.nD Cert.MmDxn1LoRefIdeal.τ Cert.MmDxn1LoRefIdeal.sig) → Buf (Elt Ideal) ℓ) : Prop :=
  True

def Pre_MmDxn1Hi (m : (ℓ : Loc Cert.MmDxn1Hi.nD Cert.MmDxn1Hi.τ Cert.MmDxn1Hi.sig) → Buf (Elt Bits) ℓ) : Prop :=
  True

def Pre_MmDxn1HiIdeal (m : (ℓ : Loc Cert.MmDxn1HiIdeal.nD Cert.MmDxn1HiIdeal.τ Cert.MmDxn1HiIdeal.sig) → Buf (Elt Ideal) ℓ) : Prop :=
  True

def Pre_MmDxn1HiRefIdeal (m : (ℓ : Loc Cert.MmDxn1HiRefIdeal.nD Cert.MmDxn1HiRefIdeal.τ Cert.MmDxn1HiRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_MixBFwd (m : (ℓ : Loc Cert.MixBFwd.nD Cert.MixBFwd.τ Cert.MixBFwd.sig) → Buf (Elt Bits) ℓ) : Prop :=
  True

def Pre_MixBFwdIdeal (m : (ℓ : Loc Cert.MixBFwdIdeal.nD Cert.MixBFwdIdeal.τ Cert.MixBFwdIdeal.sig) → Buf (Elt Ideal) ℓ) : Prop :=
  True

def Pre_MixBFwdRefIdeal (m : (ℓ : Loc Cert.MixBFwdRefIdeal.nD Cert.MixBFwdRefIdeal.τ Cert.MixBFwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2))
      ∧ r.2.sem = fun _ => 0)

def quiescent_MixBRefIdeal [hMixBRefIdeal : Cert.MixBRefIdeal.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MmDf [hMmDf : Cert.MmDf.Facts] : Prop :=
  ∀ (m : (ℓ : Loc Cert.MmDf.nD Cert.MmDf.τ Cert.MmDf.sig) → Buf (Elt Bits) ℓ) (g : Dev Cert.MmDf.nD → PrngReg), Pre_MmDf m →
    θ_run (Cert.MmDf.defs (F := Bits)) (onTc (τ := Cert.MmDf.τ) (Cert.MmDf.main (F := Bits))) ⟨m, fun _ => 0, g⟩ (fun r => (∀ c : Dev Cert.MmDf.nD,
      r.2.mem ((c.tc : Thread Cert.MmDf.nD Cert.MmDf.τ).loc Cert.MmDf.main_arg0) = m ((c.tc : Thread Cert.MmDf.nD Cert.MmDf.τ).loc Cert.MmDf.main_arg0)
      ∧ r.2.mem ((c.tc : Thread Cert.MmDf.nD Cert.MmDf.τ).loc Cert.MmDf.main_arg1) = m ((c.tc : Thread Cert.MmDf.nD Cert.MmDf.τ).loc Cert.MmDf.main_arg1))
      ∧ r.2.sem = fun _ => 0)

def quiescent_MmDfIdeal [hMmDfIdeal : Cert.MmDfIdeal.Facts] : Prop :=
  ∀ (m : (ℓ : Loc Cert.MmDfIdeal.nD Cert.MmDfIdeal.τ Cert.MmDfIdeal.sig) → Buf (Elt Ideal) ℓ) (g : Dev Cert.MmDfIdeal.nD → PrngReg), Pre_MmDfIdeal m →
    θ_run (Cert.MmDfIdeal.defs (F := Ideal)) (onTc (τ := Cert.MmDfIdeal.τ) (Cert.MmDfIdeal.main (F := Ideal))) ⟨m, fun _ => 0, g⟩ (fun r => (∀ c : Dev Cert.MmDfIdeal.nD,
      r.2.mem ((c.tc : Thread Cert.MmDfIdeal.nD Cert.MmDfIdeal.τ).loc Cert.MmDfIdeal.main_arg0) = m ((c.tc : Thread Cert.MmDfIdeal.nD Cert.MmDfIdeal.τ).loc Cert.MmDfIdeal.main_arg0)
      ∧ r.2.mem ((c.tc : Thread Cert.MmDfIdeal.nD Cert.MmDfIdeal.τ).loc Cert.MmDfIdeal.main_arg1) = m ((c.tc : Thread Cert.MmDfIdeal.nD Cert.MmDfIdeal.τ).loc Cert.MmDfIdeal.main_arg1))
      ∧ r.2.sem = fun _ => 0)

def quiescent_MmDfRefIdeal [hMmDfRefIdeal : Cert.MmDfRefIdeal.Facts] : Prop :=
  ∀ (m : (ℓ : Loc Cert.MmDfRefIdeal.nD Cert.MmDfRefIdeal.τ Cert.MmDfRefIdeal.sig) → Buf (Elt Ideal) ℓ) (g : Dev Cert.MmDfRefIdeal.nD → PrngReg), Pre_MmDfRefIdeal m →
    θ_run (Cert.MmDfRefIdeal.defs (F := Ideal)) (onTc (τ := Cert.MmDfRefIdeal.τ) (Cert.MmDfRefIdeal.main (F := Ideal))) ⟨m, fun _ => 0, g⟩ (fun r => (∀ c : Dev Cert.MmDfRefIdeal.nD,
      r.2.mem ((c.tc : Thread Cert.MmDfRefIdeal.nD Cert.MmDfRefIdeal.τ).loc Cert.MmDfRefIdeal.main_arg0) = m ((c.tc : Thread Cert.MmDfRefIdeal.nD Cert.MmDfRefIdeal.τ).loc Cert.MmDfRefIdeal.main_arg0)
      ∧ r.2.mem ((c.tc : Thread Cert.MmDfRefIdeal.nD Cert.MmDfRefIdeal.τ).loc Cert.MmDfRefIdeal.main_arg1) = m ((c.tc : Thread Cert.MmDfRefIdeal.nD Cert.MmDfRefIdeal.τ).loc Cert.MmDfRefIdeal.main_arg1))
      ∧ r.2.sem = fun _ => 0)

def quiescent_MmDxn3 [hMmDxn3 : Cert.MmDxn3.Facts] : Prop :=
  ∀ (m : (ℓ : Loc Cert.MmDxn3.nD Cert.MmDxn3.τ Cert.MmDxn3.sig) → Buf (Elt Bits) ℓ) (g : Dev Cert.MmDxn3.nD → PrngReg), Pre_MmDxn3 m →
    θ_run (Cert.MmDxn3.defs (F := Bits)) (onTc (τ := Cert.MmDxn3.τ) (Cert.MmDxn3.main (F := Bits))) ⟨m, fun _ => 0, g⟩ (fun r => (∀ c : Dev Cert.MmDxn3.nD,
      r.2.mem ((c.tc : Thread Cert.MmDxn3.nD Cert.MmDxn3.τ).loc Cert.MmDxn3.main_arg0) = m ((c.tc : Thread Cert.MmDxn3.nD Cert.MmDxn3.τ).loc Cert.MmDxn3.main_arg0)
      ∧ r.2.mem ((c.tc : Thread Cert.MmDxn3.nD Cert.MmDxn3.τ).loc Cert.MmDxn3.main_arg1) = m ((c.tc : Thread Cert.MmDxn3.nD Cert.MmDxn3.τ).loc Cert.MmDxn3.main_arg1)
      ∧ r.2.mem ((c.tc : Thread Cert.MmDxn3.nD Cert.MmDxn3.τ).loc Cert.MmDxn3.main_arg2) = m ((c.tc : Thread Cert.MmDxn3.nD Cert.MmDxn3.τ).loc Cert.MmDxn3.main_arg2)
      ∧ r.2.mem ((c.tc : Thread Cert.MmDxn3.nD Cert.MmDxn3.τ).loc Cert.MmDxn3.main_arg3) = m ((c.tc : Thread Cert.MmDxn3.nD Cert.MmDxn3.τ).loc Cert.MmDxn3.main_arg3)
      ∧ r.2.mem ((c.tc : Thread Cert.MmDxn3.nD Cert.MmDxn3.τ).loc Cert.MmDxn3.main_arg4) = m ((c.tc : Thread Cert.MmDxn3.nD Cert.MmDxn3.τ).loc Cert.MmDxn3.main_arg4))
      ∧ r.2.sem = fun _ => 0)

def quiescent_MmDxn3Ideal [hMmDxn3Ideal : Cert.MmDxn3Ideal.Facts] : Prop :=
  ∀ (m : (ℓ : Loc Cert.MmDxn3Ideal.nD Cert.MmDxn3Ideal.τ Cert.MmDxn3Ideal.sig) → Buf (Elt Ideal) ℓ) (g : Dev Cert.MmDxn3Ideal.nD → PrngReg), Pre_MmDxn3Ideal m →
    θ_run (Cert.MmDxn3Ideal.defs (F := Ideal)) (onTc (τ := Cert.MmDxn3Ideal.τ) (Cert.MmDxn3Ideal.main (F := Ideal))) ⟨m, fun _ => 0, g⟩ (fun r => (∀ c : Dev Cert.MmDxn3Ideal.nD,
      r.2.mem ((c.tc : Thread Cert.MmDxn3Ideal.nD Cert.MmDxn3Ideal.τ).loc Cert.MmDxn3Ideal.main_arg0) = m ((c.tc : Thread Cert.MmDxn3Ideal.nD Cert.MmDxn3Ideal.τ).loc Cert.MmDxn3Ideal.main_arg0)
      ∧ r.2.mem ((c.tc : Thread Cert.MmDxn3Ideal.nD Cert.MmDxn3Ideal.τ).loc Cert.MmDxn3Ideal.main_arg1) = m ((c.tc : Thread Cert.MmDxn3Ideal.nD Cert.MmDxn3Ideal.τ).loc Cert.MmDxn3Ideal.main_arg1)
      ∧ r.2.mem ((c.tc : Thread Cert.MmDxn3Ideal.nD Cert.MmDxn3Ideal.τ).loc Cert.MmDxn3Ideal.main_arg2) = m ((c.tc : Thread Cert.MmDxn3Ideal.nD Cert.MmDxn3Ideal.τ).loc Cert.MmDxn3Ideal.main_arg2)
      ∧ r.2.mem ((c.tc : Thread Cert.MmDxn3Ideal.nD Cert.MmDxn3Ideal.τ).loc Cert.MmDxn3Ideal.main_arg3) = m ((c.tc : Thread Cert.MmDxn3Ideal.nD Cert.MmDxn3Ideal.τ).loc Cert.MmDxn3Ideal.main_arg3)
      ∧ r.2.mem ((c.tc : Thread Cert.MmDxn3Ideal.nD Cert.MmDxn3Ideal.τ).loc Cert.MmDxn3Ideal.main_arg4) = m ((c.tc : Thread Cert.MmDxn3Ideal.nD Cert.MmDxn3Ideal.τ).loc Cert.MmDxn3Ideal.main_arg4))
      ∧ r.2.sem = fun _ => 0)

def quiescent_MmDxn3RefIdeal [hMmDxn3RefIdeal : Cert.MmDxn3RefIdeal.Facts] : Prop :=
  ∀ (m : (ℓ : Loc Cert.MmDxn3RefIdeal.nD Cert.MmDxn3RefIdeal.τ Cert.MmDxn3RefIdeal.sig) → Buf (Elt Ideal) ℓ) (g : Dev Cert.MmDxn3RefIdeal.nD → PrngReg), Pre_MmDxn3RefIdeal m →
    θ_run (Cert.MmDxn3RefIdeal.defs (F := Ideal)) (onTc (τ := Cert.MmDxn3RefIdeal.τ) (Cert.MmDxn3RefIdeal.main (F := Ideal))) ⟨m, fun _ => 0, g⟩ (fun r => (∀ c : Dev Cert.MmDxn3RefIdeal.nD,
      r.2.mem ((c.tc : Thread Cert.MmDxn3RefIdeal.nD Cert.MmDxn3RefIdeal.τ).loc Cert.MmDxn3RefIdeal.main_arg0) = m ((c.tc : Thread Cert.MmDxn3RefIdeal.nD Cert.MmDxn3RefIdeal.τ).loc Cert.MmDxn3RefIdeal.main_arg0)
      ∧ r.2.mem ((c.tc : Thread Cert.MmDxn3RefIdeal.nD Cert.MmDxn3RefIdeal.τ).loc Cert.MmDxn3RefIdeal.main_arg1) = m ((c.tc : Thread Cert.MmDxn3RefIdeal.nD Cert.MmDxn3RefIdeal.τ).loc Cert.MmDxn3RefIdeal.main_arg1)
      ∧ r.2.mem ((c.tc : Thread Cert.MmDxn3RefIdeal.nD Cert.MmDxn3RefIdeal.τ).loc Cert.MmDxn3RefIdeal.main_arg2) = m ((c.tc : Thread Cert.MmDxn3RefIdeal.nD Cert.MmDxn3RefIdeal.τ).loc Cert.MmDxn3RefIdeal.main_arg2)
      ∧ r.2.mem ((c.tc : Thread Cert.MmDxn3RefIdeal.nD Cert.MmDxn3RefIdeal.τ).loc Cert.MmDxn3RefIdeal.main_arg3) = m ((c.tc : Thread Cert.MmDxn3RefIdeal.nD Cert.MmDxn3RefIdeal.τ).loc Cert.MmDxn3RefIdeal.main_arg3)
      ∧ r.2.mem ((c.tc : Thread Cert.MmDxn3RefIdeal.nD Cert.MmDxn3RefIdeal.τ).loc Cert.MmDxn3RefIdeal.main_arg4) = m ((c.tc : Thread Cert.MmDxn3RefIdeal.nD Cert.MmDxn3RefIdeal.τ).loc Cert.MmDxn3RefIdeal.main_arg4))
      ∧ r.2.sem = fun _ => 0)

def quiescent_MmDo [hMmDo : Cert.MmDo.Facts] : Prop :=
  ∀ (m : (ℓ : Loc Cert.MmDo.nD Cert.MmDo.τ Cert.MmDo.sig) → Buf (Elt Bits) ℓ) (g : Dev Cert.MmDo.nD → PrngReg), Pre_MmDo m →
    θ_run (Cert.MmDo.defs (F := Bits)) (onTc (τ := Cert.MmDo.τ) (Cert.MmDo.main (F := Bits))) ⟨m, fun _ => 0, g⟩ (fun r => (∀ c : Dev Cert.MmDo.nD,
      r.2.mem ((c.tc : Thread Cert.MmDo.nD Cert.MmDo.τ).loc Cert.MmDo.main_arg0) = m ((c.tc : Thread Cert.MmDo.nD Cert.MmDo.τ).loc Cert.MmDo.main_arg0)
      ∧ r.2.mem ((c.tc : Thread Cert.MmDo.nD Cert.MmDo.τ).loc Cert.MmDo.main_arg1) = m ((c.tc : Thread Cert.MmDo.nD Cert.MmDo.τ).loc Cert.MmDo.main_arg1)
      ∧ r.2.mem ((c.tc : Thread Cert.MmDo.nD Cert.MmDo.τ).loc Cert.MmDo.main_arg2) = m ((c.tc : Thread Cert.MmDo.nD Cert.MmDo.τ).loc Cert.MmDo.main_arg2))
      ∧ r.2.sem = fun _ => 0)

def quiescent_MmDoIdeal [hMmDoIdeal : Cert.MmDoIdeal.Facts] : Prop :=
  ∀ (m : (ℓ : Loc Cert.MmDoIdeal.nD Cert.MmDoIdeal.τ Cert.MmDoIdeal.sig) → Buf (Elt Ideal) ℓ) (g : Dev Cert.MmDoIdeal.nD → PrngReg), Pre_MmDoIdeal m →
    θ_run (Cert.MmDoIdeal.defs (F := Ideal)) (onTc (τ := Cert.MmDoIdeal.τ) (Cert.MmDoIdeal.main (F := Ideal))) ⟨m, fun _ => 0, g⟩ (fun r => (∀ c : Dev Cert.MmDoIdeal.nD,
      r.2.mem ((c.tc : Thread Cert.MmDoIdeal.nD Cert.MmDoIdeal.τ).loc Cert.MmDoIdeal.main_arg0) = m ((c.tc : Thread Cert.MmDoIdeal.nD Cert.MmDoIdeal.τ).loc Cert.MmDoIdeal.main_arg0)
      ∧ r.2.mem ((c.tc : Thread Cert.MmDoIdeal.nD Cert.MmDoIdeal.τ).loc Cert.MmDoIdeal.main_arg1) = m ((c.tc : Thread Cert.MmDoIdeal.nD Cert.MmDoIdeal.τ).loc Cert.MmDoIdeal.main_arg1)
      ∧ r.2.mem ((c.tc : Thread Cert.MmDoIdeal.nD Cert.MmDoIdeal.τ).loc Cert.MmDoIdeal.main_arg2) = m ((c.tc : Thread Cert.MmDoIdeal.nD Cert.MmDoIdeal.τ).loc Cert.MmDoIdeal.main_arg2))
      ∧ r.2.sem = fun _ => 0)

def quiescent_MmDoRefIdeal [hMmDoRefIdeal : Cert.MmDoRefIdeal.Facts] : Prop :=
  ∀ (m : (ℓ : Loc Cert.MmDoRefIdeal.nD Cert.MmDoRefIdeal.τ Cert.MmDoRefIdeal.sig) → Buf (Elt Ideal) ℓ) (g : Dev Cert.MmDoRefIdeal.nD → PrngReg), Pre_MmDoRefIdeal m →
    θ_run (Cert.MmDoRefIdeal.defs (F := Ideal)) (onTc (τ := Cert.MmDoRefIdeal.τ) (Cert.MmDoRefIdeal.main (F := Ideal))) ⟨m, fun _ => 0, g⟩ (fun r => (∀ c : Dev Cert.MmDoRefIdeal.nD,
      r.2.mem ((c.tc : Thread Cert.MmDoRefIdeal.nD Cert.MmDoRefIdeal.τ).loc Cert.MmDoRefIdeal.main_arg0) = m ((c.tc : Thread Cert.MmDoRefIdeal.nD Cert.MmDoRefIdeal.τ).loc Cert.MmDoRefIdeal.main_arg0)
      ∧ r.2.mem ((c.tc : Thread Cert.MmDoRefIdeal.nD Cert.MmDoRefIdeal.τ).loc Cert.MmDoRefIdeal.main_arg1) = m ((c.tc : Thread Cert.MmDoRefIdeal.nD Cert.MmDoRefIdeal.τ).loc Cert.MmDoRefIdeal.main_arg1)
      ∧ r.2.mem ((c.tc : Thread Cert.MmDoRefIdeal.nD Cert.MmDoRefIdeal.τ).loc Cert.MmDoRefIdeal.main_arg2) = m ((c.tc : Thread Cert.MmDoRefIdeal.nD Cert.MmDoRefIdeal.τ).loc Cert.MmDoRefIdeal.main_arg2))
      ∧ r.2.sem = fun _ => 0)

def quiescent_MmDxn2 [hMmDxn2 : Cert.MmDxn2.Facts] : Prop :=
  ∀ (m : (ℓ : Loc Cert.MmDxn2.nD Cert.MmDxn2.τ Cert.MmDxn2.sig) → Buf (Elt Bits) ℓ) (g : Dev Cert.MmDxn2.nD → PrngReg), Pre_MmDxn2 m →
    θ_run (Cert.MmDxn2.defs (F := Bits)) (onTc (τ := Cert.MmDxn2.τ) (Cert.MmDxn2.main (F := Bits))) ⟨m, fun _ => 0, g⟩ (fun r => (∀ c : Dev Cert.MmDxn2.nD,
      r.2.mem ((c.tc : Thread Cert.MmDxn2.nD Cert.MmDxn2.τ).loc Cert.MmDxn2.main_arg0) = m ((c.tc : Thread Cert.MmDxn2.nD Cert.MmDxn2.τ).loc Cert.MmDxn2.main_arg0)
      ∧ r.2.mem ((c.tc : Thread Cert.MmDxn2.nD Cert.MmDxn2.τ).loc Cert.MmDxn2.main_arg1) = m ((c.tc : Thread Cert.MmDxn2.nD Cert.MmDxn2.τ).loc Cert.MmDxn2.main_arg1)
      ∧ r.2.mem ((c.tc : Thread Cert.MmDxn2.nD Cert.MmDxn2.τ).loc Cert.MmDxn2.main_arg2) = m ((c.tc : Thread Cert.MmDxn2.nD Cert.MmDxn2.τ).loc Cert.MmDxn2.main_arg2))
      ∧ r.2.sem = fun _ => 0)

def quiescent_MmDxn2Ideal [hMmDxn2Ideal : Cert.MmDxn2Ideal.Facts] : Prop :=
  ∀ (m : (ℓ : Loc Cert.MmDxn2Ideal.nD Cert.MmDxn2Ideal.τ Cert.MmDxn2Ideal.sig) → Buf (Elt Ideal) ℓ) (g : Dev Cert.MmDxn2Ideal.nD → PrngReg), Pre_MmDxn2Ideal m →
    θ_run (Cert.MmDxn2Ideal.defs (F := Ideal)) (onTc (τ := Cert.MmDxn2Ideal.τ) (Cert.MmDxn2Ideal.main (F := Ideal))) ⟨m, fun _ => 0, g⟩ (fun r => (∀ c : Dev Cert.MmDxn2Ideal.nD,
      r.2.mem ((c.tc : Thread Cert.MmDxn2Ideal.nD Cert.MmDxn2Ideal.τ).loc Cert.MmDxn2Ideal.main_arg0) = m ((c.tc : Thread Cert.MmDxn2Ideal.nD Cert.MmDxn2Ideal.τ).loc Cert.MmDxn2Ideal.main_arg0)
      ∧ r.2.mem ((c.tc : Thread Cert.MmDxn2Ideal.nD Cert.MmDxn2Ideal.τ).loc Cert.MmDxn2Ideal.main_arg1) = m ((c.tc : Thread Cert.MmDxn2Ideal.nD Cert.MmDxn2Ideal.τ).loc Cert.MmDxn2Ideal.main_arg1)
      ∧ r.2.mem ((c.tc : Thread Cert.MmDxn2Ideal.nD Cert.MmDxn2Ideal.τ).loc Cert.MmDxn2Ideal.main_arg2) = m ((c.tc : Thread Cert.MmDxn2Ideal.nD Cert.MmDxn2Ideal.τ).loc Cert.MmDxn2Ideal.main_arg2))
      ∧ r.2.sem = fun _ => 0)

def quiescent_MmDxn2RefIdeal [hMmDxn2RefIdeal : Cert.MmDxn2RefIdeal.Facts] : Prop :=
  ∀ (m : (ℓ : Loc Cert.MmDxn2RefIdeal.nD Cert.MmDxn2RefIdeal.τ Cert.MmDxn2RefIdeal.sig) → Buf (Elt Ideal) ℓ) (g : Dev Cert.MmDxn2RefIdeal.nD → PrngReg), Pre_MmDxn2RefIdeal m →
    θ_run (Cert.MmDxn2RefIdeal.defs (F := Ideal)) (onTc (τ := Cert.MmDxn2RefIdeal.τ) (Cert.MmDxn2RefIdeal.main (F := Ideal))) ⟨m, fun _ => 0, g⟩ (fun r => (∀ c : Dev Cert.MmDxn2RefIdeal.nD,
      r.2.mem ((c.tc : Thread Cert.MmDxn2RefIdeal.nD Cert.MmDxn2RefIdeal.τ).loc Cert.MmDxn2RefIdeal.main_arg0) = m ((c.tc : Thread Cert.MmDxn2RefIdeal.nD Cert.MmDxn2RefIdeal.τ).loc Cert.MmDxn2RefIdeal.main_arg0)
      ∧ r.2.mem ((c.tc : Thread Cert.MmDxn2RefIdeal.nD Cert.MmDxn2RefIdeal.τ).loc Cert.MmDxn2RefIdeal.main_arg1) = m ((c.tc : Thread Cert.MmDxn2RefIdeal.nD Cert.MmDxn2RefIdeal.τ).loc Cert.MmDxn2RefIdeal.main_arg1)
      ∧ r.2.mem ((c.tc : Thread Cert.MmDxn2RefIdeal.nD Cert.MmDxn2RefIdeal.τ).loc Cert.MmDxn2RefIdeal.main_arg2) = m ((c.tc : Thread Cert.MmDxn2RefIdeal.nD Cert.MmDxn2RefIdeal.τ).loc Cert.MmDxn2RefIdeal.main_arg2))
      ∧ r.2.sem = fun _ => 0)

def quiescent_MmDmem [hMmDmem : Cert.MmDmem.Facts] : Prop :=
  ∀ (m : (ℓ : Loc Cert.MmDmem.nD Cert.MmDmem.τ Cert.MmDmem.sig) → Buf (Elt Bits) ℓ) (g : Dev Cert.MmDmem.nD → PrngReg), Pre_MmDmem m →
    θ_run (Cert.MmDmem.defs (F := Bits)) (onTc (τ := Cert.MmDmem.τ) (Cert.MmDmem.main (F := Bits))) ⟨m, fun _ => 0, g⟩ (fun r => (∀ c : Dev Cert.MmDmem.nD,
      r.2.mem ((c.tc : Thread Cert.MmDmem.nD Cert.MmDmem.τ).loc Cert.MmDmem.main_arg0) = m ((c.tc : Thread Cert.MmDmem.nD Cert.MmDmem.τ).loc Cert.MmDmem.main_arg0)
      ∧ r.2.mem ((c.tc : Thread Cert.MmDmem.nD Cert.MmDmem.τ).loc Cert.MmDmem.main_arg1) = m ((c.tc : Thread Cert.MmDmem.nD Cert.MmDmem.τ).loc Cert.MmDmem.main_arg1)
      ∧ r.2.mem ((c.tc : Thread Cert.MmDmem.nD Cert.MmDmem.τ).loc Cert.MmDmem.main_arg2) = m ((c.tc : Thread Cert.MmDmem.nD Cert.MmDmem.τ).loc Cert.MmDmem.main_arg2)
      ∧ r.2.mem ((c.tc : Thread Cert.MmDmem.nD Cert.MmDmem.τ).loc Cert.MmDmem.main_arg3) = m ((c.tc : Thread Cert.MmDmem.nD Cert.MmDmem.τ).loc Cert.MmDmem.main_arg3))
      ∧ r.2.sem = fun _ => 0)

def quiescent_MmDmemIdeal [hMmDmemIdeal : Cert.MmDmemIdeal.Facts] : Prop :=
  ∀ (m : (ℓ : Loc Cert.MmDmemIdeal.nD Cert.MmDmemIdeal.τ Cert.MmDmemIdeal.sig) → Buf (Elt Ideal) ℓ) (g : Dev Cert.MmDmemIdeal.nD → PrngReg), Pre_MmDmemIdeal m →
    θ_run (Cert.MmDmemIdeal.defs (F := Ideal)) (onTc (τ := Cert.MmDmemIdeal.τ) (Cert.MmDmemIdeal.main (F := Ideal))) ⟨m, fun _ => 0, g⟩ (fun r => (∀ c : Dev Cert.MmDmemIdeal.nD,
      r.2.mem ((c.tc : Thread Cert.MmDmemIdeal.nD Cert.MmDmemIdeal.τ).loc Cert.MmDmemIdeal.main_arg0) = m ((c.tc : Thread Cert.MmDmemIdeal.nD Cert.MmDmemIdeal.τ).loc Cert.MmDmemIdeal.main_arg0)
      ∧ r.2.mem ((c.tc : Thread Cert.MmDmemIdeal.nD Cert.MmDmemIdeal.τ).loc Cert.MmDmemIdeal.main_arg1) = m ((c.tc : Thread Cert.MmDmemIdeal.nD Cert.MmDmemIdeal.τ).loc Cert.MmDmemIdeal.main_arg1)
      ∧ r.2.mem ((c.tc : Thread Cert.MmDmemIdeal.nD Cert.MmDmemIdeal.τ).loc Cert.MmDmemIdeal.main_arg2) = m ((c.tc : Thread Cert.MmDmemIdeal.nD Cert.MmDmemIdeal.τ).loc Cert.MmDmemIdeal.main_arg2)
      ∧ r.2.mem ((c.tc : Thread Cert.MmDmemIdeal.nD Cert.MmDmemIdeal.τ).loc Cert.MmDmemIdeal.main_arg3) = m ((c.tc : Thread Cert.MmDmemIdeal.nD Cert.MmDmemIdeal.τ).loc Cert.MmDmemIdeal.main_arg3))
      ∧ r.2.sem = fun _ => 0)

def quiescent_MmDmemRefIdeal [hMmDmemRefIdeal : Cert.MmDmemRefIdeal.Facts] : Prop :=
  ∀ (m : (ℓ : Loc Cert.MmDmemRefIdeal.nD Cert.MmDmemRefIdeal.τ Cert.MmDmemRefIdeal.sig) → Buf (Elt Ideal) ℓ) (g : Dev Cert.MmDmemRefIdeal.nD → PrngReg), Pre_MmDmemRefIdeal m →
    θ_run (Cert.MmDmemRefIdeal.defs (F := Ideal)) (onTc (τ := Cert.MmDmemRefIdeal.τ) (Cert.MmDmemRefIdeal.main (F := Ideal))) ⟨m, fun _ => 0, g⟩ (fun r => (∀ c : Dev Cert.MmDmemRefIdeal.nD,
      r.2.mem ((c.tc : Thread Cert.MmDmemRefIdeal.nD Cert.MmDmemRefIdeal.τ).loc Cert.MmDmemRefIdeal.main_arg0) = m ((c.tc : Thread Cert.MmDmemRefIdeal.nD Cert.MmDmemRefIdeal.τ).loc Cert.MmDmemRefIdeal.main_arg0)
      ∧ r.2.mem ((c.tc : Thread Cert.MmDmemRefIdeal.nD Cert.MmDmemRefIdeal.τ).loc Cert.MmDmemRefIdeal.main_arg1) = m ((c.tc : Thread Cert.MmDmemRefIdeal.nD Cert.MmDmemRefIdeal.τ).loc Cert.MmDmemRefIdeal.main_arg1)
      ∧ r.2.mem ((c.tc : Thread Cert.MmDmemRefIdeal.nD Cert.MmDmemRefIdeal.τ).loc Cert.MmDmemRefIdeal.main_arg2) = m ((c.tc : Thread Cert.MmDmemRefIdeal.nD Cert.MmDmemRefIdeal.τ).loc Cert.MmDmemRefIdeal.main_arg2)
      ∧ r.2.mem ((c.tc : Thread Cert.MmDmemRefIdeal.nD Cert.MmDmemRefIdeal.τ).loc Cert.MmDmemRefIdeal.main_arg3) = m ((c.tc : Thread Cert.MmDmemRefIdeal.nD Cert.MmDmemRefIdeal.τ).loc Cert.MmDmemRefIdeal.main_arg3))
      ∧ r.2.sem = fun _ => 0)

def quiescent_DwInSib [hDwInSib : Cert.DwInSib.Facts] [hPre_core_dw_in_sib : Cert.Pre_core_dw_in_sib.Facts] : Prop :=
  ∀ (m : (ℓ : Loc Cert.DwInSib.nD Cert.DwInSib.τ Cert.DwInSib.sig) → Buf (Elt Bits) ℓ) (g : Dev Cert.DwInSib.nD → PrngReg), Pre_DwInSib m →
    θ_run (Cert.DwInSib.defs (F := Bits)) (onTc (τ := Cert.DwInSib.τ) (Cert.DwInSib.main (F := Bits))) ⟨m, fun _ => 0, g⟩ (fun r => (∀ c : Dev Cert.DwInSib.nD,
      r.2.mem ((c.tc : Thread Cert.DwInSib.nD Cert.DwInSib.τ).loc Cert.DwInSib.main_arg0) = m ((c.tc : Thread Cert.DwInSib.nD Cert.DwInSib.τ).loc Cert.DwInSib.main_arg0)
      ∧ r.2.mem ((c.tc : Thread Cert.DwInSib.nD Cert.DwInSib.τ).loc Cert.DwInSib.main_arg1) = m ((c.tc : Thread Cert.DwInSib.nD Cert.DwInSib.τ).loc Cert.DwInSib.main_arg1)
      ∧ r.2.mem ((c.tc : Thread Cert.DwInSib.nD Cert.DwInSib.τ).loc Cert.DwInSib.main_arg2) = m ((c.tc : Thread Cert.DwInSib.nD Cert.DwInSib.τ).loc Cert.DwInSib.main_arg2)
      ∧ r.2.mem ((c.tc : Thread Cert.DwInSib.nD Cert.DwInSib.τ).loc Cert.DwInSib.main_arg3) = m ((c.tc : Thread Cert.DwInSib.nD Cert.DwInSib.τ).loc Cert.DwInSib.main_arg3))
      ∧ r.2.sem = fun _ => 0)

def quiescent_DwInSibIdeal [hDwInSibIdeal : Cert.DwInSibIdeal.Facts] [hPre_core_dw_in_sib : Cert.Pre_core_dw_in_sib.Facts] : Prop :=
  ∀ (m : (ℓ : Loc Cert.DwInSibIdeal.nD Cert.DwInSibIdeal.τ Cert.DwInSibIdeal.sig) → Buf (Elt Ideal) ℓ) (g : Dev Cert.DwInSibIdeal.nD → PrngReg), Pre_DwInSibIdeal m →
    θ_run (Cert.DwInSibIdeal.defs (F := Ideal)) (onTc (τ := Cert.DwInSibIdeal.τ) (Cert.DwInSibIdeal.main (F := Ideal))) ⟨m, fun _ => 0, g⟩ (fun r => (∀ c : Dev Cert.DwInSibIdeal.nD,
      r.2.mem ((c.tc : Thread Cert.DwInSibIdeal.nD Cert.DwInSibIdeal.τ).loc Cert.DwInSibIdeal.main_arg0) = m ((c.tc : Thread Cert.DwInSibIdeal.nD Cert.DwInSibIdeal.τ).loc Cert.DwInSibIdeal.main_arg0)
      ∧ r.2.mem ((c.tc : Thread Cert.DwInSibIdeal.nD Cert.DwInSibIdeal.τ).loc Cert.DwInSibIdeal.main_arg1) = m ((c.tc : Thread Cert.DwInSibIdeal.nD Cert.DwInSibIdeal.τ).loc Cert.DwInSibIdeal.main_arg1)
      ∧ r.2.mem ((c.tc : Thread Cert.DwInSibIdeal.nD Cert.DwInSibIdeal.τ).loc Cert.DwInSibIdeal.main_arg2) = m ((c.tc : Thread Cert.DwInSibIdeal.nD Cert.DwInSibIdeal.τ).loc Cert.DwInSibIdeal.main_arg2)
      ∧ r.2.mem ((c.tc : Thread Cert.DwInSibIdeal.nD Cert.DwInSibIdeal.τ).loc Cert.DwInSibIdeal.main_arg3) = m ((c.tc : Thread Cert.DwInSibIdeal.nD Cert.DwInSibIdeal.τ).loc Cert.DwInSibIdeal.main_arg3))
      ∧ r.2.sem = fun _ => 0)

def quiescent_DwInSibRefIdeal [hDwInSibRefIdeal : Cert.DwInSibRefIdeal.Facts] [hPre_core_dw_in_sib : Cert.Pre_core_dw_in_sib.Facts] : Prop :=
  ∀ (m : (ℓ : Loc Cert.DwInSibRefIdeal.nD Cert.DwInSibRefIdeal.τ Cert.DwInSibRefIdeal.sig) → Buf (Elt Ideal) ℓ) (g : Dev Cert.DwInSibRefIdeal.nD → PrngReg), Pre_DwInSibRefIdeal m →
    θ_run (Cert.DwInSibRefIdeal.defs (F := Ideal)) (onTc (τ := Cert.DwInSibRefIdeal.τ) (Cert.DwInSibRefIdeal.main (F := Ideal))) ⟨m, fun _ => 0, g⟩ (fun r => (∀ c : Dev Cert.DwInSibRefIdeal.nD,
      r.2.mem ((c.tc : Thread Cert.DwInSibRefIdeal.nD Cert.DwInSibRefIdeal.τ).loc Cert.DwInSibRefIdeal.main_arg0) = m ((c.tc : Thread Cert.DwInSibRefIdeal.nD Cert.DwInSibRefIdeal.τ).loc Cert.DwInSibRefIdeal.main_arg0)
      ∧ r.2.mem ((c.tc : Thread Cert.DwInSibRefIdeal.nD Cert.DwInSibRefIdeal.τ).loc Cert.DwInSibRefIdeal.main_arg1) = m ((c.tc : Thread Cert.DwInSibRefIdeal.nD Cert.DwInSibRefIdeal.τ).loc Cert.DwInSibRefIdeal.main_arg1)
      ∧ r.2.mem ((c.tc : Thread Cert.DwInSibRefIdeal.nD Cert.DwInSibRefIdeal.τ).loc Cert.DwInSibRefIdeal.main_arg2) = m ((c.tc : Thread Cert.DwInSibRefIdeal.nD Cert.DwInSibRefIdeal.τ).loc Cert.DwInSibRefIdeal.main_arg2)
      ∧ r.2.mem ((c.tc : Thread Cert.DwInSibRefIdeal.nD Cert.DwInSibRefIdeal.τ).loc Cert.DwInSibRefIdeal.main_arg3) = m ((c.tc : Thread Cert.DwInSibRefIdeal.nD Cert.DwInSibRefIdeal.τ).loc Cert.DwInSibRefIdeal.main_arg3))
      ∧ r.2.sem = fun _ => 0)

def quiescent_DwInOwn [hDwInOwn : Cert.DwInOwn.Facts] [hPre_core_dw_in_own : Cert.Pre_core_dw_in_own.Facts] : Prop :=
  ∀ (m : (ℓ : Loc Cert.DwInOwn.nD Cert.DwInOwn.τ Cert.DwInOwn.sig) → Buf (Elt Bits) ℓ) (g : Dev Cert.DwInOwn.nD → PrngReg), Pre_DwInOwn m →
    θ_run (Cert.DwInOwn.defs (F := Bits)) (onTc (τ := Cert.DwInOwn.τ) (Cert.DwInOwn.main (F := Bits))) ⟨m, fun _ => 0, g⟩ (fun r => (∀ c : Dev Cert.DwInOwn.nD,
      r.2.mem ((c.tc : Thread Cert.DwInOwn.nD Cert.DwInOwn.τ).loc Cert.DwInOwn.main_arg0) = m ((c.tc : Thread Cert.DwInOwn.nD Cert.DwInOwn.τ).loc Cert.DwInOwn.main_arg0)
      ∧ r.2.mem ((c.tc : Thread Cert.DwInOwn.nD Cert.DwInOwn.τ).loc Cert.DwInOwn.main_arg1) = m ((c.tc : Thread Cert.DwInOwn.nD Cert.DwInOwn.τ).loc Cert.DwInOwn.main_arg1)
      ∧ r.2.mem ((c.tc : Thread Cert.DwInOwn.nD Cert.DwInOwn.τ).loc Cert.DwInOwn.main_arg2) = m ((c.tc : Thread Cert.DwInOwn.nD Cert.DwInOwn.τ).loc Cert.DwInOwn.main_arg2)
      ∧ r.2.mem ((c.tc : Thread Cert.DwInOwn.nD Cert.DwInOwn.τ).loc Cert.DwInOwn.main_arg3) = m ((c.tc : Thread Cert.DwInOwn.nD Cert.DwInOwn.τ).loc Cert.DwInOwn.main_arg3))
      ∧ r.2.sem = fun _ => 0)

def quiescent_DwInOwnIdeal [hDwInOwnIdeal : Cert.DwInOwnIdeal.Facts] [hPre_core_dw_in_own : Cert.Pre_core_dw_in_own.Facts] : Prop :=
  ∀ (m : (ℓ : Loc Cert.DwInOwnIdeal.nD Cert.DwInOwnIdeal.τ Cert.DwInOwnIdeal.sig) → Buf (Elt Ideal) ℓ) (g : Dev Cert.DwInOwnIdeal.nD → PrngReg), Pre_DwInOwnIdeal m →
    θ_run (Cert.DwInOwnIdeal.defs (F := Ideal)) (onTc (τ := Cert.DwInOwnIdeal.τ) (Cert.DwInOwnIdeal.main (F := Ideal))) ⟨m, fun _ => 0, g⟩ (fun r => (∀ c : Dev Cert.DwInOwnIdeal.nD,
      r.2.mem ((c.tc : Thread Cert.DwInOwnIdeal.nD Cert.DwInOwnIdeal.τ).loc Cert.DwInOwnIdeal.main_arg0) = m ((c.tc : Thread Cert.DwInOwnIdeal.nD Cert.DwInOwnIdeal.τ).loc Cert.DwInOwnIdeal.main_arg0)
      ∧ r.2.mem ((c.tc : Thread Cert.DwInOwnIdeal.nD Cert.DwInOwnIdeal.τ).loc Cert.DwInOwnIdeal.main_arg1) = m ((c.tc : Thread Cert.DwInOwnIdeal.nD Cert.DwInOwnIdeal.τ).loc Cert.DwInOwnIdeal.main_arg1)
      ∧ r.2.mem ((c.tc : Thread Cert.DwInOwnIdeal.nD Cert.DwInOwnIdeal.τ).loc Cert.DwInOwnIdeal.main_arg2) = m ((c.tc : Thread Cert.DwInOwnIdeal.nD Cert.DwInOwnIdeal.τ).loc Cert.DwInOwnIdeal.main_arg2)
      ∧ r.2.mem ((c.tc : Thread Cert.DwInOwnIdeal.nD Cert.DwInOwnIdeal.τ).loc Cert.DwInOwnIdeal.main_arg3) = m ((c.tc : Thread Cert.DwInOwnIdeal.nD Cert.DwInOwnIdeal.τ).loc Cert.DwInOwnIdeal.main_arg3))
      ∧ r.2.sem = fun _ => 0)

def quiescent_DwInOwnRefIdeal [hDwInOwnRefIdeal : Cert.DwInOwnRefIdeal.Facts] [hPre_core_dw_in_own : Cert.Pre_core_dw_in_own.Facts] : Prop :=
  ∀ (m : (ℓ : Loc Cert.DwInOwnRefIdeal.nD Cert.DwInOwnRefIdeal.τ Cert.DwInOwnRefIdeal.sig) → Buf (Elt Ideal) ℓ) (g : Dev Cert.DwInOwnRefIdeal.nD → PrngReg), Pre_DwInOwnRefIdeal m →
    θ_run (Cert.DwInOwnRefIdeal.defs (F := Ideal)) (onTc (τ := Cert.DwInOwnRefIdeal.τ) (Cert.DwInOwnRefIdeal.main (F := Ideal))) ⟨m, fun _ => 0, g⟩ (fun r => (∀ c : Dev Cert.DwInOwnRefIdeal.nD,
      r.2.mem ((c.tc : Thread Cert.DwInOwnRefIdeal.nD Cert.DwInOwnRefIdeal.τ).loc Cert.DwInOwnRefIdeal.main_arg0) = m ((c.tc : Thread Cert.DwInOwnRefIdeal.nD Cert.DwInOwnRefIdeal.τ).loc Cert.DwInOwnRefIdeal.main_arg0)
      ∧ r.2.mem ((c.tc : Thread Cert.DwInOwnRefIdeal.nD Cert.DwInOwnRefIdeal.τ).loc Cert.DwInOwnRefIdeal.main_arg1) = m ((c.tc : Thread Cert.DwInOwnRefIdeal.nD Cert.DwInOwnRefIdeal.τ).loc Cert.DwInOwnRefIdeal.main_arg1)
      ∧ r.2.mem ((c.tc : Thread Cert.DwInOwnRefIdeal.nD Cert.DwInOwnRefIdeal.τ).loc Cert.DwInOwnRefIdeal.main_arg2) = m ((c.tc : Thread Cert.DwInOwnRefIdeal.nD Cert.DwInOwnRefIdeal.τ).loc Cert.DwInOwnRefIdeal.main_arg2)
      ∧ r.2.mem ((c.tc : Thread Cert.DwInOwnRefIdeal.nD Cert.DwInOwnRefIdeal.τ).loc Cert.DwInOwnRefIdeal.main_arg3) = m ((c.tc : Thread Cert.DwInOwnRefIdeal.nD Cert.DwInOwnRefIdeal.τ).loc Cert.DwInOwnRefIdeal.main_arg3))
      ∧ r.2.sem = fun _ => 0)

def quiescent_DwOSib [hDwOSib : Cert.DwOSib.Facts] [hPre_core_dw_o_sib : Cert.Pre_core_dw_o_sib.Facts] : Prop :=
  ∀ (m : (ℓ : Loc Cert.DwOSib.nD Cert.DwOSib.τ Cert.DwOSib.sig) → Buf (Elt Bits) ℓ) (g : Dev Cert.DwOSib.nD → PrngReg), Pre_DwOSib m →
    θ_run (Cert.DwOSib.defs (F := Bits)) (onTc (τ := Cert.DwOSib.τ) (Cert.DwOSib.main (F := Bits))) ⟨m, fun _ => 0, g⟩ (fun r => (∀ c : Dev Cert.DwOSib.nD,
      r.2.mem ((c.tc : Thread Cert.DwOSib.nD Cert.DwOSib.τ).loc Cert.DwOSib.main_arg0) = m ((c.tc : Thread Cert.DwOSib.nD Cert.DwOSib.τ).loc Cert.DwOSib.main_arg0)
      ∧ r.2.mem ((c.tc : Thread Cert.DwOSib.nD Cert.DwOSib.τ).loc Cert.DwOSib.main_arg1) = m ((c.tc : Thread Cert.DwOSib.nD Cert.DwOSib.τ).loc Cert.DwOSib.main_arg1)
      ∧ r.2.mem ((c.tc : Thread Cert.DwOSib.nD Cert.DwOSib.τ).loc Cert.DwOSib.main_arg2) = m ((c.tc : Thread Cert.DwOSib.nD Cert.DwOSib.τ).loc Cert.DwOSib.main_arg2)
      ∧ r.2.mem ((c.tc : Thread Cert.DwOSib.nD Cert.DwOSib.τ).loc Cert.DwOSib.main_arg3) = m ((c.tc : Thread Cert.DwOSib.nD Cert.DwOSib.τ).loc Cert.DwOSib.main_arg3))
      ∧ r.2.sem = fun _ => 0)

def quiescent_DwOSibIdeal [hDwOSibIdeal : Cert.DwOSibIdeal.Facts] [hPre_core_dw_o_sib : Cert.Pre_core_dw_o_sib.Facts] : Prop :=
  ∀ (m : (ℓ : Loc Cert.DwOSibIdeal.nD Cert.DwOSibIdeal.τ Cert.DwOSibIdeal.sig) → Buf (Elt Ideal) ℓ) (g : Dev Cert.DwOSibIdeal.nD → PrngReg), Pre_DwOSibIdeal m →
    θ_run (Cert.DwOSibIdeal.defs (F := Ideal)) (onTc (τ := Cert.DwOSibIdeal.τ) (Cert.DwOSibIdeal.main (F := Ideal))) ⟨m, fun _ => 0, g⟩ (fun r => (∀ c : Dev Cert.DwOSibIdeal.nD,
      r.2.mem ((c.tc : Thread Cert.DwOSibIdeal.nD Cert.DwOSibIdeal.τ).loc Cert.DwOSibIdeal.main_arg0) = m ((c.tc : Thread Cert.DwOSibIdeal.nD Cert.DwOSibIdeal.τ).loc Cert.DwOSibIdeal.main_arg0)
      ∧ r.2.mem ((c.tc : Thread Cert.DwOSibIdeal.nD Cert.DwOSibIdeal.τ).loc Cert.DwOSibIdeal.main_arg1) = m ((c.tc : Thread Cert.DwOSibIdeal.nD Cert.DwOSibIdeal.τ).loc Cert.DwOSibIdeal.main_arg1)
      ∧ r.2.mem ((c.tc : Thread Cert.DwOSibIdeal.nD Cert.DwOSibIdeal.τ).loc Cert.DwOSibIdeal.main_arg2) = m ((c.tc : Thread Cert.DwOSibIdeal.nD Cert.DwOSibIdeal.τ).loc Cert.DwOSibIdeal.main_arg2)
      ∧ r.2.mem ((c.tc : Thread Cert.DwOSibIdeal.nD Cert.DwOSibIdeal.τ).loc Cert.DwOSibIdeal.main_arg3) = m ((c.tc : Thread Cert.DwOSibIdeal.nD Cert.DwOSibIdeal.τ).loc Cert.DwOSibIdeal.main_arg3))
      ∧ r.2.sem = fun _ => 0)

def quiescent_DwOSibRefIdeal [hDwOSibRefIdeal : Cert.DwOSibRefIdeal.Facts] [hPre_core_dw_o_sib : Cert.Pre_core_dw_o_sib.Facts] : Prop :=
  ∀ (m : (ℓ : Loc Cert.DwOSibRefIdeal.nD Cert.DwOSibRefIdeal.τ Cert.DwOSibRefIdeal.sig) → Buf (Elt Ideal) ℓ) (g : Dev Cert.DwOSibRefIdeal.nD → PrngReg), Pre_DwOSibRefIdeal m →
    θ_run (Cert.DwOSibRefIdeal.defs (F := Ideal)) (onTc (τ := Cert.DwOSibRefIdeal.τ) (Cert.DwOSibRefIdeal.main (F := Ideal))) ⟨m, fun _ => 0, g⟩ (fun r => (∀ c : Dev Cert.DwOSibRefIdeal.nD,
      r.2.mem ((c.tc : Thread Cert.DwOSibRefIdeal.nD Cert.DwOSibRefIdeal.τ).loc Cert.DwOSibRefIdeal.main_arg0) = m ((c.tc : Thread Cert.DwOSibRefIdeal.nD Cert.DwOSibRefIdeal.τ).loc Cert.DwOSibRefIdeal.main_arg0)
      ∧ r.2.mem ((c.tc : Thread Cert.DwOSibRefIdeal.nD Cert.DwOSibRefIdeal.τ).loc Cert.DwOSibRefIdeal.main_arg1) = m ((c.tc : Thread Cert.DwOSibRefIdeal.nD Cert.DwOSibRefIdeal.τ).loc Cert.DwOSibRefIdeal.main_arg1)
      ∧ r.2.mem ((c.tc : Thread Cert.DwOSibRefIdeal.nD Cert.DwOSibRefIdeal.τ).loc Cert.DwOSibRefIdeal.main_arg2) = m ((c.tc : Thread Cert.DwOSibRefIdeal.nD Cert.DwOSibRefIdeal.τ).loc Cert.DwOSibRefIdeal.main_arg2)
      ∧ r.2.mem ((c.tc : Thread Cert.DwOSibRefIdeal.nD Cert.DwOSibRefIdeal.τ).loc Cert.DwOSibRefIdeal.main_arg3) = m ((c.tc : Thread Cert.DwOSibRefIdeal.nD Cert.DwOSibRefIdeal.τ).loc Cert.DwOSibRefIdeal.main_arg3))
      ∧ r.2.sem = fun _ => 0)

def quiescent_DwOOwn [hDwOOwn : Cert.DwOOwn.Facts] [hPre_core_dw_o_own : Cert.Pre_core_dw_o_own.Facts] : Prop :=
  ∀ (m : (ℓ : Loc Cert.DwOOwn.nD Cert.DwOOwn.τ Cert.DwOOwn.sig) → Buf (Elt Bits) ℓ) (g : Dev Cert.DwOOwn.nD → PrngReg), Pre_DwOOwn m →
    θ_run (Cert.DwOOwn.defs (F := Bits)) (onTc (τ := Cert.DwOOwn.τ) (Cert.DwOOwn.main (F := Bits))) ⟨m, fun _ => 0, g⟩ (fun r => (∀ c : Dev Cert.DwOOwn.nD,
      r.2.mem ((c.tc : Thread Cert.DwOOwn.nD Cert.DwOOwn.τ).loc Cert.DwOOwn.main_arg0) = m ((c.tc : Thread Cert.DwOOwn.nD Cert.DwOOwn.τ).loc Cert.DwOOwn.main_arg0)
      ∧ r.2.mem ((c.tc : Thread Cert.DwOOwn.nD Cert.DwOOwn.τ).loc Cert.DwOOwn.main_arg1) = m ((c.tc : Thread Cert.DwOOwn.nD Cert.DwOOwn.τ).loc Cert.DwOOwn.main_arg1)
      ∧ r.2.mem ((c.tc : Thread Cert.DwOOwn.nD Cert.DwOOwn.τ).loc Cert.DwOOwn.main_arg2) = m ((c.tc : Thread Cert.DwOOwn.nD Cert.DwOOwn.τ).loc Cert.DwOOwn.main_arg2)
      ∧ r.2.mem ((c.tc : Thread Cert.DwOOwn.nD Cert.DwOOwn.τ).loc Cert.DwOOwn.main_arg3) = m ((c.tc : Thread Cert.DwOOwn.nD Cert.DwOOwn.τ).loc Cert.DwOOwn.main_arg3))
      ∧ r.2.sem = fun _ => 0)

def quiescent_DwOOwnIdeal [hDwOOwnIdeal : Cert.DwOOwnIdeal.Facts] [hPre_core_dw_o_own : Cert.Pre_core_dw_o_own.Facts] : Prop :=
  ∀ (m : (ℓ : Loc Cert.DwOOwnIdeal.nD Cert.DwOOwnIdeal.τ Cert.DwOOwnIdeal.sig) → Buf (Elt Ideal) ℓ) (g : Dev Cert.DwOOwnIdeal.nD → PrngReg), Pre_DwOOwnIdeal m →
    θ_run (Cert.DwOOwnIdeal.defs (F := Ideal)) (onTc (τ := Cert.DwOOwnIdeal.τ) (Cert.DwOOwnIdeal.main (F := Ideal))) ⟨m, fun _ => 0, g⟩ (fun r => (∀ c : Dev Cert.DwOOwnIdeal.nD,
      r.2.mem ((c.tc : Thread Cert.DwOOwnIdeal.nD Cert.DwOOwnIdeal.τ).loc Cert.DwOOwnIdeal.main_arg0) = m ((c.tc : Thread Cert.DwOOwnIdeal.nD Cert.DwOOwnIdeal.τ).loc Cert.DwOOwnIdeal.main_arg0)
      ∧ r.2.mem ((c.tc : Thread Cert.DwOOwnIdeal.nD Cert.DwOOwnIdeal.τ).loc Cert.DwOOwnIdeal.main_arg1) = m ((c.tc : Thread Cert.DwOOwnIdeal.nD Cert.DwOOwnIdeal.τ).loc Cert.DwOOwnIdeal.main_arg1)
      ∧ r.2.mem ((c.tc : Thread Cert.DwOOwnIdeal.nD Cert.DwOOwnIdeal.τ).loc Cert.DwOOwnIdeal.main_arg2) = m ((c.tc : Thread Cert.DwOOwnIdeal.nD Cert.DwOOwnIdeal.τ).loc Cert.DwOOwnIdeal.main_arg2)
      ∧ r.2.mem ((c.tc : Thread Cert.DwOOwnIdeal.nD Cert.DwOOwnIdeal.τ).loc Cert.DwOOwnIdeal.main_arg3) = m ((c.tc : Thread Cert.DwOOwnIdeal.nD Cert.DwOOwnIdeal.τ).loc Cert.DwOOwnIdeal.main_arg3))
      ∧ r.2.sem = fun _ => 0)

def quiescent_DwOOwnRefIdeal [hDwOOwnRefIdeal : Cert.DwOOwnRefIdeal.Facts] [hPre_core_dw_o_own : Cert.Pre_core_dw_o_own.Facts] : Prop :=
  ∀ (m : (ℓ : Loc Cert.DwOOwnRefIdeal.nD Cert.DwOOwnRefIdeal.τ Cert.DwOOwnRefIdeal.sig) → Buf (Elt Ideal) ℓ) (g : Dev Cert.DwOOwnRefIdeal.nD → PrngReg), Pre_DwOOwnRefIdeal m →
    θ_run (Cert.DwOOwnRefIdeal.defs (F := Ideal)) (onTc (τ := Cert.DwOOwnRefIdeal.τ) (Cert.DwOOwnRefIdeal.main (F := Ideal))) ⟨m, fun _ => 0, g⟩ (fun r => (∀ c : Dev Cert.DwOOwnRefIdeal.nD,
      r.2.mem ((c.tc : Thread Cert.DwOOwnRefIdeal.nD Cert.DwOOwnRefIdeal.τ).loc Cert.DwOOwnRefIdeal.main_arg0) = m ((c.tc : Thread Cert.DwOOwnRefIdeal.nD Cert.DwOOwnRefIdeal.τ).loc Cert.DwOOwnRefIdeal.main_arg0)
      ∧ r.2.mem ((c.tc : Thread Cert.DwOOwnRefIdeal.nD Cert.DwOOwnRefIdeal.τ).loc Cert.DwOOwnRefIdeal.main_arg1) = m ((c.tc : Thread Cert.DwOOwnRefIdeal.nD Cert.DwOOwnRefIdeal.τ).loc Cert.DwOOwnRefIdeal.main_arg1)
      ∧ r.2.mem ((c.tc : Thread Cert.DwOOwnRefIdeal.nD Cert.DwOOwnRefIdeal.τ).loc Cert.DwOOwnRefIdeal.main_arg2) = m ((c.tc : Thread Cert.DwOOwnRefIdeal.nD Cert.DwOOwnRefIdeal.τ).loc Cert.DwOOwnRefIdeal.main_arg2)
      ∧ r.2.mem ((c.tc : Thread Cert.DwOOwnRefIdeal.nD Cert.DwOOwnRefIdeal.τ).loc Cert.DwOOwnRefIdeal.main_arg3) = m ((c.tc : Thread Cert.DwOOwnRefIdeal.nD Cert.DwOOwnRefIdeal.τ).loc Cert.DwOOwnRefIdeal.main_arg3))
      ∧ r.2.sem = fun _ => 0)

def quiescent_DwKSib [hDwKSib : Cert.DwKSib.Facts] [hPre_core_dw_k_sib : Cert.Pre_core_dw_k_sib.Facts] : Prop :=
  ∀ (m : (ℓ : Loc Cert.DwKSib.nD Cert.DwKSib.τ Cert.DwKSib.sig) → Buf (Elt Bits) ℓ) (g : Dev Cert.DwKSib.nD → PrngReg), Pre_DwKSib m →
    θ_run (Cert.DwKSib.defs (F := Bits)) (onTc (τ := Cert.DwKSib.τ) (Cert.DwKSib.main (F := Bits))) ⟨m, fun _ => 0, g⟩ (fun r => (∀ c : Dev Cert.DwKSib.nD,
      r.2.mem ((c.tc : Thread Cert.DwKSib.nD Cert.DwKSib.τ).loc Cert.DwKSib.main_arg0) = m ((c.tc : Thread Cert.DwKSib.nD Cert.DwKSib.τ).loc Cert.DwKSib.main_arg0)
      ∧ r.2.mem ((c.tc : Thread Cert.DwKSib.nD Cert.DwKSib.τ).loc Cert.DwKSib.main_arg1) = m ((c.tc : Thread Cert.DwKSib.nD Cert.DwKSib.τ).loc Cert.DwKSib.main_arg1)
      ∧ r.2.mem ((c.tc : Thread Cert.DwKSib.nD Cert.DwKSib.τ).loc Cert.DwKSib.main_arg2) = m ((c.tc : Thread Cert.DwKSib.nD Cert.DwKSib.τ).loc Cert.DwKSib.main_arg2)
      ∧ r.2.mem ((c.tc : Thread Cert.DwKSib.nD Cert.DwKSib.τ).loc Cert.DwKSib.main_arg3) = m ((c.tc : Thread Cert.DwKSib.nD Cert.DwKSib.τ).loc Cert.DwKSib.main_arg3))
      ∧ r.2.sem = fun _ => 0)

def quiescent_DwKSibIdeal [hDwKSibIdeal : Cert.DwKSibIdeal.Facts] [hPre_core_dw_k_sib : Cert.Pre_core_dw_k_sib.Facts] : Prop :=
  ∀ (m : (ℓ : Loc Cert.DwKSibIdeal.nD Cert.DwKSibIdeal.τ Cert.DwKSibIdeal.sig) → Buf (Elt Ideal) ℓ) (g : Dev Cert.DwKSibIdeal.nD → PrngReg), Pre_DwKSibIdeal m →
    θ_run (Cert.DwKSibIdeal.defs (F := Ideal)) (onTc (τ := Cert.DwKSibIdeal.τ) (Cert.DwKSibIdeal.main (F := Ideal))) ⟨m, fun _ => 0, g⟩ (fun r => (∀ c : Dev Cert.DwKSibIdeal.nD,
      r.2.mem ((c.tc : Thread Cert.DwKSibIdeal.nD Cert.DwKSibIdeal.τ).loc Cert.DwKSibIdeal.main_arg0) = m ((c.tc : Thread Cert.DwKSibIdeal.nD Cert.DwKSibIdeal.τ).loc Cert.DwKSibIdeal.main_arg0)
      ∧ r.2.mem ((c.tc : Thread Cert.DwKSibIdeal.nD Cert.DwKSibIdeal.τ).loc Cert.DwKSibIdeal.main_arg1) = m ((c.tc : Thread Cert.DwKSibIdeal.nD Cert.DwKSibIdeal.τ).loc Cert.DwKSibIdeal.main_arg1)
      ∧ r.2.mem ((c.tc : Thread Cert.DwKSibIdeal.nD Cert.DwKSibIdeal.τ).loc Cert.DwKSibIdeal.main_arg2) = m ((c.tc : Thread Cert.DwKSibIdeal.nD Cert.DwKSibIdeal.τ).loc Cert.DwKSibIdeal.main_arg2)
      ∧ r.2.mem ((c.tc : Thread Cert.DwKSibIdeal.nD Cert.DwKSibIdeal.τ).loc Cert.DwKSibIdeal.main_arg3) = m ((c.tc : Thread Cert.DwKSibIdeal.nD Cert.DwKSibIdeal.τ).loc Cert.DwKSibIdeal.main_arg3))
      ∧ r.2.sem = fun _ => 0)

def quiescent_DwKSibRefIdeal [hDwKSibRefIdeal : Cert.DwKSibRefIdeal.Facts] [hPre_core_dw_k_sib : Cert.Pre_core_dw_k_sib.Facts] : Prop :=
  ∀ (m : (ℓ : Loc Cert.DwKSibRefIdeal.nD Cert.DwKSibRefIdeal.τ Cert.DwKSibRefIdeal.sig) → Buf (Elt Ideal) ℓ) (g : Dev Cert.DwKSibRefIdeal.nD → PrngReg), Pre_DwKSibRefIdeal m →
    θ_run (Cert.DwKSibRefIdeal.defs (F := Ideal)) (onTc (τ := Cert.DwKSibRefIdeal.τ) (Cert.DwKSibRefIdeal.main (F := Ideal))) ⟨m, fun _ => 0, g⟩ (fun r => (∀ c : Dev Cert.DwKSibRefIdeal.nD,
      r.2.mem ((c.tc : Thread Cert.DwKSibRefIdeal.nD Cert.DwKSibRefIdeal.τ).loc Cert.DwKSibRefIdeal.main_arg0) = m ((c.tc : Thread Cert.DwKSibRefIdeal.nD Cert.DwKSibRefIdeal.τ).loc Cert.DwKSibRefIdeal.main_arg0)
      ∧ r.2.mem ((c.tc : Thread Cert.DwKSibRefIdeal.nD Cert.DwKSibRefIdeal.τ).loc Cert.DwKSibRefIdeal.main_arg1) = m ((c.tc : Thread Cert.DwKSibRefIdeal.nD Cert.DwKSibRefIdeal.τ).loc Cert.DwKSibRefIdeal.main_arg1)
      ∧ r.2.mem ((c.tc : Thread Cert.DwKSibRefIdeal.nD Cert.DwKSibRefIdeal.τ).loc Cert.DwKSibRefIdeal.main_arg2) = m ((c.tc : Thread Cert.DwKSibRefIdeal.nD Cert.DwKSibRefIdeal.τ).loc Cert.DwKSibRefIdeal.main_arg2)
      ∧ r.2.mem ((c.tc : Thread Cert.DwKSibRefIdeal.nD Cert.DwKSibRefIdeal.τ).loc Cert.DwKSibRefIdeal.main_arg3) = m ((c.tc : Thread Cert.DwKSibRefIdeal.nD Cert.DwKSibRefIdeal.τ).loc Cert.DwKSibRefIdeal.main_arg3))
      ∧ r.2.sem = fun _ => 0)

def quiescent_DwKOwn [hDwKOwn : Cert.DwKOwn.Facts] [hPre_core_dw_k_own : Cert.Pre_core_dw_k_own.Facts] : Prop :=
  ∀ (m : (ℓ : Loc Cert.DwKOwn.nD Cert.DwKOwn.τ Cert.DwKOwn.sig) → Buf (Elt Bits) ℓ) (g : Dev Cert.DwKOwn.nD → PrngReg), Pre_DwKOwn m →
    θ_run (Cert.DwKOwn.defs (F := Bits)) (onTc (τ := Cert.DwKOwn.τ) (Cert.DwKOwn.main (F := Bits))) ⟨m, fun _ => 0, g⟩ (fun r => (∀ c : Dev Cert.DwKOwn.nD,
      r.2.mem ((c.tc : Thread Cert.DwKOwn.nD Cert.DwKOwn.τ).loc Cert.DwKOwn.main_arg0) = m ((c.tc : Thread Cert.DwKOwn.nD Cert.DwKOwn.τ).loc Cert.DwKOwn.main_arg0)
      ∧ r.2.mem ((c.tc : Thread Cert.DwKOwn.nD Cert.DwKOwn.τ).loc Cert.DwKOwn.main_arg1) = m ((c.tc : Thread Cert.DwKOwn.nD Cert.DwKOwn.τ).loc Cert.DwKOwn.main_arg1)
      ∧ r.2.mem ((c.tc : Thread Cert.DwKOwn.nD Cert.DwKOwn.τ).loc Cert.DwKOwn.main_arg2) = m ((c.tc : Thread Cert.DwKOwn.nD Cert.DwKOwn.τ).loc Cert.DwKOwn.main_arg2)
      ∧ r.2.mem ((c.tc : Thread Cert.DwKOwn.nD Cert.DwKOwn.τ).loc Cert.DwKOwn.main_arg3) = m ((c.tc : Thread Cert.DwKOwn.nD Cert.DwKOwn.τ).loc Cert.DwKOwn.main_arg3))
      ∧ r.2.sem = fun _ => 0)

def quiescent_DwKOwnIdeal [hDwKOwnIdeal : Cert.DwKOwnIdeal.Facts] [hPre_core_dw_k_own : Cert.Pre_core_dw_k_own.Facts] : Prop :=
  ∀ (m : (ℓ : Loc Cert.DwKOwnIdeal.nD Cert.DwKOwnIdeal.τ Cert.DwKOwnIdeal.sig) → Buf (Elt Ideal) ℓ) (g : Dev Cert.DwKOwnIdeal.nD → PrngReg), Pre_DwKOwnIdeal m →
    θ_run (Cert.DwKOwnIdeal.defs (F := Ideal)) (onTc (τ := Cert.DwKOwnIdeal.τ) (Cert.DwKOwnIdeal.main (F := Ideal))) ⟨m, fun _ => 0, g⟩ (fun r => (∀ c : Dev Cert.DwKOwnIdeal.nD,
      r.2.mem ((c.tc : Thread Cert.DwKOwnIdeal.nD Cert.DwKOwnIdeal.τ).loc Cert.DwKOwnIdeal.main_arg0) = m ((c.tc : Thread Cert.DwKOwnIdeal.nD Cert.DwKOwnIdeal.τ).loc Cert.DwKOwnIdeal.main_arg0)
      ∧ r.2.mem ((c.tc : Thread Cert.DwKOwnIdeal.nD Cert.DwKOwnIdeal.τ).loc Cert.DwKOwnIdeal.main_arg1) = m ((c.tc : Thread Cert.DwKOwnIdeal.nD Cert.DwKOwnIdeal.τ).loc Cert.DwKOwnIdeal.main_arg1)
      ∧ r.2.mem ((c.tc : Thread Cert.DwKOwnIdeal.nD Cert.DwKOwnIdeal.τ).loc Cert.DwKOwnIdeal.main_arg2) = m ((c.tc : Thread Cert.DwKOwnIdeal.nD Cert.DwKOwnIdeal.τ).loc Cert.DwKOwnIdeal.main_arg2)
      ∧ r.2.mem ((c.tc : Thread Cert.DwKOwnIdeal.nD Cert.DwKOwnIdeal.τ).loc Cert.DwKOwnIdeal.main_arg3) = m ((c.tc : Thread Cert.DwKOwnIdeal.nD Cert.DwKOwnIdeal.τ).loc Cert.DwKOwnIdeal.main_arg3))
      ∧ r.2.sem = fun _ => 0)

def quiescent_DwKOwnRefIdeal [hDwKOwnRefIdeal : Cert.DwKOwnRefIdeal.Facts] [hPre_core_dw_k_own : Cert.Pre_core_dw_k_own.Facts] : Prop :=
  ∀ (m : (ℓ : Loc Cert.DwKOwnRefIdeal.nD Cert.DwKOwnRefIdeal.τ Cert.DwKOwnRefIdeal.sig) → Buf (Elt Ideal) ℓ) (g : Dev Cert.DwKOwnRefIdeal.nD → PrngReg), Pre_DwKOwnRefIdeal m →
    θ_run (Cert.DwKOwnRefIdeal.defs (F := Ideal)) (onTc (τ := Cert.DwKOwnRefIdeal.τ) (Cert.DwKOwnRefIdeal.main (F := Ideal))) ⟨m, fun _ => 0, g⟩ (fun r => (∀ c : Dev Cert.DwKOwnRefIdeal.nD,
      r.2.mem ((c.tc : Thread Cert.DwKOwnRefIdeal.nD Cert.DwKOwnRefIdeal.τ).loc Cert.DwKOwnRefIdeal.main_arg0) = m ((c.tc : Thread Cert.DwKOwnRefIdeal.nD Cert.DwKOwnRefIdeal.τ).loc Cert.DwKOwnRefIdeal.main_arg0)
      ∧ r.2.mem ((c.tc : Thread Cert.DwKOwnRefIdeal.nD Cert.DwKOwnRefIdeal.τ).loc Cert.DwKOwnRefIdeal.main_arg1) = m ((c.tc : Thread Cert.DwKOwnRefIdeal.nD Cert.DwKOwnRefIdeal.τ).loc Cert.DwKOwnRefIdeal.main_arg1)
      ∧ r.2.mem ((c.tc : Thread Cert.DwKOwnRefIdeal.nD Cert.DwKOwnRefIdeal.τ).loc Cert.DwKOwnRefIdeal.main_arg2) = m ((c.tc : Thread Cert.DwKOwnRefIdeal.nD Cert.DwKOwnRefIdeal.τ).loc Cert.DwKOwnRefIdeal.main_arg2)
      ∧ r.2.mem ((c.tc : Thread Cert.DwKOwnRefIdeal.nD Cert.DwKOwnRefIdeal.τ).loc Cert.DwKOwnRefIdeal.main_arg3) = m ((c.tc : Thread Cert.DwKOwnRefIdeal.nD Cert.DwKOwnRefIdeal.τ).loc Cert.DwKOwnRefIdeal.main_arg3))
      ∧ r.2.sem = fun _ => 0)

def quiescent_DwGateSib [hDwGateSib : Cert.DwGateSib.Facts] [hPre_core_dw_gate_sib : Cert.Pre_core_dw_gate_sib.Facts] : Prop :=
  ∀ (m : (ℓ : Loc Cert.DwGateSib.nD Cert.DwGateSib.τ Cert.DwGateSib.sig) → Buf (Elt Bits) ℓ) (g : Dev Cert.DwGateSib.nD → PrngReg), Pre_DwGateSib m →
    θ_run (Cert.DwGateSib.defs (F := Bits)) (onTc (τ := Cert.DwGateSib.τ) (Cert.DwGateSib.main (F := Bits))) ⟨m, fun _ => 0, g⟩ (fun r => (∀ c : Dev Cert.DwGateSib.nD,
      r.2.mem ((c.tc : Thread Cert.DwGateSib.nD Cert.DwGateSib.τ).loc Cert.DwGateSib.main_arg0) = m ((c.tc : Thread Cert.DwGateSib.nD Cert.DwGateSib.τ).loc Cert.DwGateSib.main_arg0)
      ∧ r.2.mem ((c.tc : Thread Cert.DwGateSib.nD Cert.DwGateSib.τ).loc Cert.DwGateSib.main_arg1) = m ((c.tc : Thread Cert.DwGateSib.nD Cert.DwGateSib.τ).loc Cert.DwGateSib.main_arg1)
      ∧ r.2.mem ((c.tc : Thread Cert.DwGateSib.nD Cert.DwGateSib.τ).loc Cert.DwGateSib.main_arg2) = m ((c.tc : Thread Cert.DwGateSib.nD Cert.DwGateSib.τ).loc Cert.DwGateSib.main_arg2)
      ∧ r.2.mem ((c.tc : Thread Cert.DwGateSib.nD Cert.DwGateSib.τ).loc Cert.DwGateSib.main_arg3) = m ((c.tc : Thread Cert.DwGateSib.nD Cert.DwGateSib.τ).loc Cert.DwGateSib.main_arg3))
      ∧ r.2.sem = fun _ => 0)

def quiescent_DwGateSibIdeal [hDwGateSibIdeal : Cert.DwGateSibIdeal.Facts] [hPre_core_dw_gate_sib : Cert.Pre_core_dw_gate_sib.Facts] : Prop :=
  ∀ (m : (ℓ : Loc Cert.DwGateSibIdeal.nD Cert.DwGateSibIdeal.τ Cert.DwGateSibIdeal.sig) → Buf (Elt Ideal) ℓ) (g : Dev Cert.DwGateSibIdeal.nD → PrngReg), Pre_DwGateSibIdeal m →
    θ_run (Cert.DwGateSibIdeal.defs (F := Ideal)) (onTc (τ := Cert.DwGateSibIdeal.τ) (Cert.DwGateSibIdeal.main (F := Ideal))) ⟨m, fun _ => 0, g⟩ (fun r => (∀ c : Dev Cert.DwGateSibIdeal.nD,
      r.2.mem ((c.tc : Thread Cert.DwGateSibIdeal.nD Cert.DwGateSibIdeal.τ).loc Cert.DwGateSibIdeal.main_arg0) = m ((c.tc : Thread Cert.DwGateSibIdeal.nD Cert.DwGateSibIdeal.τ).loc Cert.DwGateSibIdeal.main_arg0)
      ∧ r.2.mem ((c.tc : Thread Cert.DwGateSibIdeal.nD Cert.DwGateSibIdeal.τ).loc Cert.DwGateSibIdeal.main_arg1) = m ((c.tc : Thread Cert.DwGateSibIdeal.nD Cert.DwGateSibIdeal.τ).loc Cert.DwGateSibIdeal.main_arg1)
      ∧ r.2.mem ((c.tc : Thread Cert.DwGateSibIdeal.nD Cert.DwGateSibIdeal.τ).loc Cert.DwGateSibIdeal.main_arg2) = m ((c.tc : Thread Cert.DwGateSibIdeal.nD Cert.DwGateSibIdeal.τ).loc Cert.DwGateSibIdeal.main_arg2)
      ∧ r.2.mem ((c.tc : Thread Cert.DwGateSibIdeal.nD Cert.DwGateSibIdeal.τ).loc Cert.DwGateSibIdeal.main_arg3) = m ((c.tc : Thread Cert.DwGateSibIdeal.nD Cert.DwGateSibIdeal.τ).loc Cert.DwGateSibIdeal.main_arg3))
      ∧ r.2.sem = fun _ => 0)

def quiescent_DwGateSibRefIdeal [hDwGateSibRefIdeal : Cert.DwGateSibRefIdeal.Facts] [hPre_core_dw_gate_sib : Cert.Pre_core_dw_gate_sib.Facts] : Prop :=
  ∀ (m : (ℓ : Loc Cert.DwGateSibRefIdeal.nD Cert.DwGateSibRefIdeal.τ Cert.DwGateSibRefIdeal.sig) → Buf (Elt Ideal) ℓ) (g : Dev Cert.DwGateSibRefIdeal.nD → PrngReg), Pre_DwGateSibRefIdeal m →
    θ_run (Cert.DwGateSibRefIdeal.defs (F := Ideal)) (onTc (τ := Cert.DwGateSibRefIdeal.τ) (Cert.DwGateSibRefIdeal.main (F := Ideal))) ⟨m, fun _ => 0, g⟩ (fun r => (∀ c : Dev Cert.DwGateSibRefIdeal.nD,
      r.2.mem ((c.tc : Thread Cert.DwGateSibRefIdeal.nD Cert.DwGateSibRefIdeal.τ).loc Cert.DwGateSibRefIdeal.main_arg0) = m ((c.tc : Thread Cert.DwGateSibRefIdeal.nD Cert.DwGateSibRefIdeal.τ).loc Cert.DwGateSibRefIdeal.main_arg0)
      ∧ r.2.mem ((c.tc : Thread Cert.DwGateSibRefIdeal.nD Cert.DwGateSibRefIdeal.τ).loc Cert.DwGateSibRefIdeal.main_arg1) = m ((c.tc : Thread Cert.DwGateSibRefIdeal.nD Cert.DwGateSibRefIdeal.τ).loc Cert.DwGateSibRefIdeal.main_arg1)
      ∧ r.2.mem ((c.tc : Thread Cert.DwGateSibRefIdeal.nD Cert.DwGateSibRefIdeal.τ).loc Cert.DwGateSibRefIdeal.main_arg2) = m ((c.tc : Thread Cert.DwGateSibRefIdeal.nD Cert.DwGateSibRefIdeal.τ).loc Cert.DwGateSibRefIdeal.main_arg2)
      ∧ r.2.mem ((c.tc : Thread Cert.DwGateSibRefIdeal.nD Cert.DwGateSibRefIdeal.τ).loc Cert.DwGateSibRefIdeal.main_arg3) = m ((c.tc : Thread Cert.DwGateSibRefIdeal.nD Cert.DwGateSibRefIdeal.τ).loc Cert.DwGateSibRefIdeal.main_arg3))
      ∧ r.2.sem = fun _ => 0)

def quiescent_DwGateOwn [hDwGateOwn : Cert.DwGateOwn.Facts] [hPre_core_dw_gate_own : Cert.Pre_core_dw_gate_own.Facts] : Prop :=
  ∀ (m : (ℓ : Loc Cert.DwGateOwn.nD Cert.DwGateOwn.τ Cert.DwGateOwn.sig) → Buf (Elt Bits) ℓ) (g : Dev Cert.DwGateOwn.nD → PrngReg), Pre_DwGateOwn m →
    θ_run (Cert.DwGateOwn.defs (F := Bits)) (onTc (τ := Cert.DwGateOwn.τ) (Cert.DwGateOwn.main (F := Bits))) ⟨m, fun _ => 0, g⟩ (fun r => (∀ c : Dev Cert.DwGateOwn.nD,
      r.2.mem ((c.tc : Thread Cert.DwGateOwn.nD Cert.DwGateOwn.τ).loc Cert.DwGateOwn.main_arg0) = m ((c.tc : Thread Cert.DwGateOwn.nD Cert.DwGateOwn.τ).loc Cert.DwGateOwn.main_arg0)
      ∧ r.2.mem ((c.tc : Thread Cert.DwGateOwn.nD Cert.DwGateOwn.τ).loc Cert.DwGateOwn.main_arg1) = m ((c.tc : Thread Cert.DwGateOwn.nD Cert.DwGateOwn.τ).loc Cert.DwGateOwn.main_arg1)
      ∧ r.2.mem ((c.tc : Thread Cert.DwGateOwn.nD Cert.DwGateOwn.τ).loc Cert.DwGateOwn.main_arg2) = m ((c.tc : Thread Cert.DwGateOwn.nD Cert.DwGateOwn.τ).loc Cert.DwGateOwn.main_arg2)
      ∧ r.2.mem ((c.tc : Thread Cert.DwGateOwn.nD Cert.DwGateOwn.τ).loc Cert.DwGateOwn.main_arg3) = m ((c.tc : Thread Cert.DwGateOwn.nD Cert.DwGateOwn.τ).loc Cert.DwGateOwn.main_arg3))
      ∧ r.2.sem = fun _ => 0)

def quiescent_DwGateOwnIdeal [hDwGateOwnIdeal : Cert.DwGateOwnIdeal.Facts] [hPre_core_dw_gate_own : Cert.Pre_core_dw_gate_own.Facts] : Prop :=
  ∀ (m : (ℓ : Loc Cert.DwGateOwnIdeal.nD Cert.DwGateOwnIdeal.τ Cert.DwGateOwnIdeal.sig) → Buf (Elt Ideal) ℓ) (g : Dev Cert.DwGateOwnIdeal.nD → PrngReg), Pre_DwGateOwnIdeal m →
    θ_run (Cert.DwGateOwnIdeal.defs (F := Ideal)) (onTc (τ := Cert.DwGateOwnIdeal.τ) (Cert.DwGateOwnIdeal.main (F := Ideal))) ⟨m, fun _ => 0, g⟩ (fun r => (∀ c : Dev Cert.DwGateOwnIdeal.nD,
      r.2.mem ((c.tc : Thread Cert.DwGateOwnIdeal.nD Cert.DwGateOwnIdeal.τ).loc Cert.DwGateOwnIdeal.main_arg0) = m ((c.tc : Thread Cert.DwGateOwnIdeal.nD Cert.DwGateOwnIdeal.τ).loc Cert.DwGateOwnIdeal.main_arg0)
      ∧ r.2.mem ((c.tc : Thread Cert.DwGateOwnIdeal.nD Cert.DwGateOwnIdeal.τ).loc Cert.DwGateOwnIdeal.main_arg1) = m ((c.tc : Thread Cert.DwGateOwnIdeal.nD Cert.DwGateOwnIdeal.τ).loc Cert.DwGateOwnIdeal.main_arg1)
      ∧ r.2.mem ((c.tc : Thread Cert.DwGateOwnIdeal.nD Cert.DwGateOwnIdeal.τ).loc Cert.DwGateOwnIdeal.main_arg2) = m ((c.tc : Thread Cert.DwGateOwnIdeal.nD Cert.DwGateOwnIdeal.τ).loc Cert.DwGateOwnIdeal.main_arg2)
      ∧ r.2.mem ((c.tc : Thread Cert.DwGateOwnIdeal.nD Cert.DwGateOwnIdeal.τ).loc Cert.DwGateOwnIdeal.main_arg3) = m ((c.tc : Thread Cert.DwGateOwnIdeal.nD Cert.DwGateOwnIdeal.τ).loc Cert.DwGateOwnIdeal.main_arg3))
      ∧ r.2.sem = fun _ => 0)

def quiescent_DwGateOwnRefIdeal [hDwGateOwnRefIdeal : Cert.DwGateOwnRefIdeal.Facts] [hPre_core_dw_gate_own : Cert.Pre_core_dw_gate_own.Facts] : Prop :=
  ∀ (m : (ℓ : Loc Cert.DwGateOwnRefIdeal.nD Cert.DwGateOwnRefIdeal.τ Cert.DwGateOwnRefIdeal.sig) → Buf (Elt Ideal) ℓ) (g : Dev Cert.DwGateOwnRefIdeal.nD → PrngReg), Pre_DwGateOwnRefIdeal m →
    θ_run (Cert.DwGateOwnRefIdeal.defs (F := Ideal)) (onTc (τ := Cert.DwGateOwnRefIdeal.τ) (Cert.DwGateOwnRefIdeal.main (F := Ideal))) ⟨m, fun _ => 0, g⟩ (fun r => (∀ c : Dev Cert.DwGateOwnRefIdeal.nD,
      r.2.mem ((c.tc : Thread Cert.DwGateOwnRefIdeal.nD Cert.DwGateOwnRefIdeal.τ).loc Cert.DwGateOwnRefIdeal.main_arg0) = m ((c.tc : Thread Cert.DwGateOwnRefIdeal.nD Cert.DwGateOwnRefIdeal.τ).loc Cert.DwGateOwnRefIdeal.main_arg0)
      ∧ r.2.mem ((c.tc : Thread Cert.DwGateOwnRefIdeal.nD Cert.DwGateOwnRefIdeal.τ).loc Cert.DwGateOwnRefIdeal.main_arg1) = m ((c.tc : Thread Cert.DwGateOwnRefIdeal.nD Cert.DwGateOwnRefIdeal.τ).loc Cert.DwGateOwnRefIdeal.main_arg1)
      ∧ r.2.mem ((c.tc : Thread Cert.DwGateOwnRefIdeal.nD Cert.DwGateOwnRefIdeal.τ).loc Cert.DwGateOwnRefIdeal.main_arg2) = m ((c.tc : Thread Cert.DwGateOwnRefIdeal.nD Cert.DwGateOwnRefIdeal.τ).loc Cert.DwGateOwnRefIdeal.main_arg2)
      ∧ r.2.mem ((c.tc : Thread Cert.DwGateOwnRefIdeal.nD Cert.DwGateOwnRefIdeal.τ).loc Cert.DwGateOwnRefIdeal.main_arg3) = m ((c.tc : Thread Cert.DwGateOwnRefIdeal.nD Cert.DwGateOwnRefIdeal.τ).loc Cert.DwGateOwnRefIdeal.main_arg3))
      ∧ r.2.sem = fun _ => 0)

def quiescent_DwDownSib [hDwDownSib : Cert.DwDownSib.Facts] [hPre_core_dw_down_sib : Cert.Pre_core_dw_down_sib.Facts] : Prop :=
  ∀ (m : (ℓ : Loc Cert.DwDownSib.nD Cert.DwDownSib.τ Cert.DwDownSib.sig) → Buf (Elt Bits) ℓ) (g : Dev Cert.DwDownSib.nD → PrngReg), Pre_DwDownSib m →
    θ_run (Cert.DwDownSib.defs (F := Bits)) (onTc (τ := Cert.DwDownSib.τ) (Cert.DwDownSib.main (F := Bits))) ⟨m, fun _ => 0, g⟩ (fun r => (∀ c : Dev Cert.DwDownSib.nD,
      r.2.mem ((c.tc : Thread Cert.DwDownSib.nD Cert.DwDownSib.τ).loc Cert.DwDownSib.main_arg0) = m ((c.tc : Thread Cert.DwDownSib.nD Cert.DwDownSib.τ).loc Cert.DwDownSib.main_arg0)
      ∧ r.2.mem ((c.tc : Thread Cert.DwDownSib.nD Cert.DwDownSib.τ).loc Cert.DwDownSib.main_arg1) = m ((c.tc : Thread Cert.DwDownSib.nD Cert.DwDownSib.τ).loc Cert.DwDownSib.main_arg1)
      ∧ r.2.mem ((c.tc : Thread Cert.DwDownSib.nD Cert.DwDownSib.τ).loc Cert.DwDownSib.main_arg2) = m ((c.tc : Thread Cert.DwDownSib.nD Cert.DwDownSib.τ).loc Cert.DwDownSib.main_arg2)
      ∧ r.2.mem ((c.tc : Thread Cert.DwDownSib.nD Cert.DwDownSib.τ).loc Cert.DwDownSib.main_arg3) = m ((c.tc : Thread Cert.DwDownSib.nD Cert.DwDownSib.τ).loc Cert.DwDownSib.main_arg3))
      ∧ r.2.sem = fun _ => 0)

def quiescent_DwDownSibIdeal [hDwDownSibIdeal : Cert.DwDownSibIdeal.Facts] [hPre_core_dw_down_sib : Cert.Pre_core_dw_down_sib.Facts] : Prop :=
  ∀ (m : (ℓ : Loc Cert.DwDownSibIdeal.nD Cert.DwDownSibIdeal.τ Cert.DwDownSibIdeal.sig) → Buf (Elt Ideal) ℓ) (g : Dev Cert.DwDownSibIdeal.nD → PrngReg), Pre_DwDownSibIdeal m →
    θ_run (Cert.DwDownSibIdeal.defs (F := Ideal)) (onTc (τ := Cert.DwDownSibIdeal.τ) (Cert.DwDownSibIdeal.main (F := Ideal))) ⟨m, fun _ => 0, g⟩ (fun r => (∀ c : Dev Cert.DwDownSibIdeal.nD,
      r.2.mem ((c.tc : Thread Cert.DwDownSibIdeal.nD Cert.DwDownSibIdeal.τ).loc Cert.DwDownSibIdeal.main_arg0) = m ((c.tc : Thread Cert.DwDownSibIdeal.nD Cert.DwDownSibIdeal.τ).loc Cert.DwDownSibIdeal.main_arg0)
      ∧ r.2.mem ((c.tc : Thread Cert.DwDownSibIdeal.nD Cert.DwDownSibIdeal.τ).loc Cert.DwDownSibIdeal.main_arg1) = m ((c.tc : Thread Cert.DwDownSibIdeal.nD Cert.DwDownSibIdeal.τ).loc Cert.DwDownSibIdeal.main_arg1)
      ∧ r.2.mem ((c.tc : Thread Cert.DwDownSibIdeal.nD Cert.DwDownSibIdeal.τ).loc Cert.DwDownSibIdeal.main_arg2) = m ((c.tc : Thread Cert.DwDownSibIdeal.nD Cert.DwDownSibIdeal.τ).loc Cert.DwDownSibIdeal.main_arg2)
      ∧ r.2.mem ((c.tc : Thread Cert.DwDownSibIdeal.nD Cert.DwDownSibIdeal.τ).loc Cert.DwDownSibIdeal.main_arg3) = m ((c.tc : Thread Cert.DwDownSibIdeal.nD Cert.DwDownSibIdeal.τ).loc Cert.DwDownSibIdeal.main_arg3))
      ∧ r.2.sem = fun _ => 0)

def quiescent_DwDownSibRefIdeal [hDwDownSibRefIdeal : Cert.DwDownSibRefIdeal.Facts] [hPre_core_dw_down_sib : Cert.Pre_core_dw_down_sib.Facts] : Prop :=
  ∀ (m : (ℓ : Loc Cert.DwDownSibRefIdeal.nD Cert.DwDownSibRefIdeal.τ Cert.DwDownSibRefIdeal.sig) → Buf (Elt Ideal) ℓ) (g : Dev Cert.DwDownSibRefIdeal.nD → PrngReg), Pre_DwDownSibRefIdeal m →
    θ_run (Cert.DwDownSibRefIdeal.defs (F := Ideal)) (onTc (τ := Cert.DwDownSibRefIdeal.τ) (Cert.DwDownSibRefIdeal.main (F := Ideal))) ⟨m, fun _ => 0, g⟩ (fun r => (∀ c : Dev Cert.DwDownSibRefIdeal.nD,
      r.2.mem ((c.tc : Thread Cert.DwDownSibRefIdeal.nD Cert.DwDownSibRefIdeal.τ).loc Cert.DwDownSibRefIdeal.main_arg0) = m ((c.tc : Thread Cert.DwDownSibRefIdeal.nD Cert.DwDownSibRefIdeal.τ).loc Cert.DwDownSibRefIdeal.main_arg0)
      ∧ r.2.mem ((c.tc : Thread Cert.DwDownSibRefIdeal.nD Cert.DwDownSibRefIdeal.τ).loc Cert.DwDownSibRefIdeal.main_arg1) = m ((c.tc : Thread Cert.DwDownSibRefIdeal.nD Cert.DwDownSibRefIdeal.τ).loc Cert.DwDownSibRefIdeal.main_arg1)
      ∧ r.2.mem ((c.tc : Thread Cert.DwDownSibRefIdeal.nD Cert.DwDownSibRefIdeal.τ).loc Cert.DwDownSibRefIdeal.main_arg2) = m ((c.tc : Thread Cert.DwDownSibRefIdeal.nD Cert.DwDownSibRefIdeal.τ).loc Cert.DwDownSibRefIdeal.main_arg2)
      ∧ r.2.mem ((c.tc : Thread Cert.DwDownSibRefIdeal.nD Cert.DwDownSibRefIdeal.τ).loc Cert.DwDownSibRefIdeal.main_arg3) = m ((c.tc : Thread Cert.DwDownSibRefIdeal.nD Cert.DwDownSibRefIdeal.τ).loc Cert.DwDownSibRefIdeal.main_arg3))
      ∧ r.2.sem = fun _ => 0)

def quiescent_DwDownOwn [hDwDownOwn : Cert.DwDownOwn.Facts] [hPre_core_dw_down_own : Cert.Pre_core_dw_down_own.Facts] : Prop :=
  ∀ (m : (ℓ : Loc Cert.DwDownOwn.nD Cert.DwDownOwn.τ Cert.DwDownOwn.sig) → Buf (Elt Bits) ℓ) (g : Dev Cert.DwDownOwn.nD → PrngReg), Pre_DwDownOwn m →
    θ_run (Cert.DwDownOwn.defs (F := Bits)) (onTc (τ := Cert.DwDownOwn.τ) (Cert.DwDownOwn.main (F := Bits))) ⟨m, fun _ => 0, g⟩ (fun r => (∀ c : Dev Cert.DwDownOwn.nD,
      r.2.mem ((c.tc : Thread Cert.DwDownOwn.nD Cert.DwDownOwn.τ).loc Cert.DwDownOwn.main_arg0) = m ((c.tc : Thread Cert.DwDownOwn.nD Cert.DwDownOwn.τ).loc Cert.DwDownOwn.main_arg0)
      ∧ r.2.mem ((c.tc : Thread Cert.DwDownOwn.nD Cert.DwDownOwn.τ).loc Cert.DwDownOwn.main_arg1) = m ((c.tc : Thread Cert.DwDownOwn.nD Cert.DwDownOwn.τ).loc Cert.DwDownOwn.main_arg1)
      ∧ r.2.mem ((c.tc : Thread Cert.DwDownOwn.nD Cert.DwDownOwn.τ).loc Cert.DwDownOwn.main_arg2) = m ((c.tc : Thread Cert.DwDownOwn.nD Cert.DwDownOwn.τ).loc Cert.DwDownOwn.main_arg2)
      ∧ r.2.mem ((c.tc : Thread Cert.DwDownOwn.nD Cert.DwDownOwn.τ).loc Cert.DwDownOwn.main_arg3) = m ((c.tc : Thread Cert.DwDownOwn.nD Cert.DwDownOwn.τ).loc Cert.DwDownOwn.main_arg3))
      ∧ r.2.sem = fun _ => 0)

def quiescent_DwDownOwnIdeal [hDwDownOwnIdeal : Cert.DwDownOwnIdeal.Facts] [hPre_core_dw_down_own : Cert.Pre_core_dw_down_own.Facts] : Prop :=
  ∀ (m : (ℓ : Loc Cert.DwDownOwnIdeal.nD Cert.DwDownOwnIdeal.τ Cert.DwDownOwnIdeal.sig) → Buf (Elt Ideal) ℓ) (g : Dev Cert.DwDownOwnIdeal.nD → PrngReg), Pre_DwDownOwnIdeal m →
    θ_run (Cert.DwDownOwnIdeal.defs (F := Ideal)) (onTc (τ := Cert.DwDownOwnIdeal.τ) (Cert.DwDownOwnIdeal.main (F := Ideal))) ⟨m, fun _ => 0, g⟩ (fun r => (∀ c : Dev Cert.DwDownOwnIdeal.nD,
      r.2.mem ((c.tc : Thread Cert.DwDownOwnIdeal.nD Cert.DwDownOwnIdeal.τ).loc Cert.DwDownOwnIdeal.main_arg0) = m ((c.tc : Thread Cert.DwDownOwnIdeal.nD Cert.DwDownOwnIdeal.τ).loc Cert.DwDownOwnIdeal.main_arg0)
      ∧ r.2.mem ((c.tc : Thread Cert.DwDownOwnIdeal.nD Cert.DwDownOwnIdeal.τ).loc Cert.DwDownOwnIdeal.main_arg1) = m ((c.tc : Thread Cert.DwDownOwnIdeal.nD Cert.DwDownOwnIdeal.τ).loc Cert.DwDownOwnIdeal.main_arg1)
      ∧ r.2.mem ((c.tc : Thread Cert.DwDownOwnIdeal.nD Cert.DwDownOwnIdeal.τ).loc Cert.DwDownOwnIdeal.main_arg2) = m ((c.tc : Thread Cert.DwDownOwnIdeal.nD Cert.DwDownOwnIdeal.τ).loc Cert.DwDownOwnIdeal.main_arg2)
      ∧ r.2.mem ((c.tc : Thread Cert.DwDownOwnIdeal.nD Cert.DwDownOwnIdeal.τ).loc Cert.DwDownOwnIdeal.main_arg3) = m ((c.tc : Thread Cert.DwDownOwnIdeal.nD Cert.DwDownOwnIdeal.τ).loc Cert.DwDownOwnIdeal.main_arg3))
      ∧ r.2.sem = fun _ => 0)

def quiescent_DwDownOwnRefIdeal [hDwDownOwnRefIdeal : Cert.DwDownOwnRefIdeal.Facts] [hPre_core_dw_down_own : Cert.Pre_core_dw_down_own.Facts] : Prop :=
  ∀ (m : (ℓ : Loc Cert.DwDownOwnRefIdeal.nD Cert.DwDownOwnRefIdeal.τ Cert.DwDownOwnRefIdeal.sig) → Buf (Elt Ideal) ℓ) (g : Dev Cert.DwDownOwnRefIdeal.nD → PrngReg), Pre_DwDownOwnRefIdeal m →
    θ_run (Cert.DwDownOwnRefIdeal.defs (F := Ideal)) (onTc (τ := Cert.DwDownOwnRefIdeal.τ) (Cert.DwDownOwnRefIdeal.main (F := Ideal))) ⟨m, fun _ => 0, g⟩ (fun r => (∀ c : Dev Cert.DwDownOwnRefIdeal.nD,
      r.2.mem ((c.tc : Thread Cert.DwDownOwnRefIdeal.nD Cert.DwDownOwnRefIdeal.τ).loc Cert.DwDownOwnRefIdeal.main_arg0) = m ((c.tc : Thread Cert.DwDownOwnRefIdeal.nD Cert.DwDownOwnRefIdeal.τ).loc Cert.DwDownOwnRefIdeal.main_arg0)
      ∧ r.2.mem ((c.tc : Thread Cert.DwDownOwnRefIdeal.nD Cert.DwDownOwnRefIdeal.τ).loc Cert.DwDownOwnRefIdeal.main_arg1) = m ((c.tc : Thread Cert.DwDownOwnRefIdeal.nD Cert.DwDownOwnRefIdeal.τ).loc Cert.DwDownOwnRefIdeal.main_arg1)
      ∧ r.2.mem ((c.tc : Thread Cert.DwDownOwnRefIdeal.nD Cert.DwDownOwnRefIdeal.τ).loc Cert.DwDownOwnRefIdeal.main_arg2) = m ((c.tc : Thread Cert.DwDownOwnRefIdeal.nD Cert.DwDownOwnRefIdeal.τ).loc Cert.DwDownOwnRefIdeal.main_arg2)
      ∧ r.2.mem ((c.tc : Thread Cert.DwDownOwnRefIdeal.nD Cert.DwDownOwnRefIdeal.τ).loc Cert.DwDownOwnRefIdeal.main_arg3) = m ((c.tc : Thread Cert.DwDownOwnRefIdeal.nD Cert.DwDownOwnRefIdeal.τ).loc Cert.DwDownOwnRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1)
      ∧ r.2.mem ((c.tc : Thread Cert.MmIn.nD Cert.MmIn.τ).loc Cert.MmIn.main_arg2) = m ((c.tc : Thread Cert.MmIn.nD Cert.MmIn.τ).loc Cert.MmIn.main_arg2))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
      ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1)
      ∧ r.2.mem ((c.tc : Thread Cert.MmInRefIdeal.nD Cert.MmInRefIdeal.τ).loc Cert.MmInRefIdeal.main_arg2) = m ((c.tc : Thread Cert.MmInRefIdeal.nD Cert.MmInRefIdeal.τ).loc Cert.MmInRefIdeal.main_arg2))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3))
      ∧ r.2.sem = fun _ => 0)

def quiescent_MmQ [hMmQ : Cert.MmQ.Facts] : Prop :=
  ∀ (m : (ℓ : Loc Cert.MmQ.nD Cert.MmQ.τ Cert.MmQ.sig) → Buf (Elt Bits) ℓ) (g : Dev Cert.MmQ.nD → PrngReg), Pre_MmQ m →
    θ_run (Cert.MmQ.defs (F := Bits)) (onTc (τ := Cert.MmQ.τ) (Cert.MmQ.main (F := Bits))) ⟨m, fun _ => 0, g⟩ (fun r => (∀ c : Dev Cert.MmQ.nD,
      r.2.mem ((c.tc : Thread Cert.MmQ.nD Cert.MmQ.τ).loc Cert.MmQ.main_arg0) = m ((c.tc : Thread Cert.MmQ.nD Cert.MmQ.τ).loc Cert.MmQ.main_arg0)
      ∧ r.2.mem ((c.tc : Thread Cert.MmQ.nD Cert.MmQ.τ).loc Cert.MmQ.main_arg1) = m ((c.tc : Thread Cert.MmQ.nD Cert.MmQ.τ).loc Cert.MmQ.main_arg1)
      ∧ r.2.mem ((c.tc : Thread Cert.MmQ.nD Cert.MmQ.τ).loc Cert.MmQ.main_arg2) = m ((c.tc : Thread Cert.MmQ.nD Cert.MmQ.τ).loc Cert.MmQ.main_arg2))
      ∧ r.2.sem = fun _ => 0)

def quiescent_MmQIdeal [hMmQIdeal : Cert.MmQIdeal.Facts] : Prop :=
  ∀ (m : (ℓ : Loc Cert.MmQIdeal.nD Cert.MmQIdeal.τ Cert.MmQIdeal.sig) → Buf (Elt Ideal) ℓ) (g : Dev Cert.MmQIdeal.nD → PrngReg), Pre_MmQIdeal m →
    θ_run (Cert.MmQIdeal.defs (F := Ideal)) (onTc (τ := Cert.MmQIdeal.τ) (Cert.MmQIdeal.main (F := Ideal))) ⟨m, fun _ => 0, g⟩ (fun r => (∀ c : Dev Cert.MmQIdeal.nD,
      r.2.mem ((c.tc : Thread Cert.MmQIdeal.nD Cert.MmQIdeal.τ).loc Cert.MmQIdeal.main_arg0) = m ((c.tc : Thread Cert.MmQIdeal.nD Cert.MmQIdeal.τ).loc Cert.MmQIdeal.main_arg0)
      ∧ r.2.mem ((c.tc : Thread Cert.MmQIdeal.nD Cert.MmQIdeal.τ).loc Cert.MmQIdeal.main_arg1) = m ((c.tc : Thread Cert.MmQIdeal.nD Cert.MmQIdeal.τ).loc Cert.MmQIdeal.main_arg1)
      ∧ r.2.mem ((c.tc : Thread Cert.MmQIdeal.nD Cert.MmQIdeal.τ).loc Cert.MmQIdeal.main_arg2) = m ((c.tc : Thread Cert.MmQIdeal.nD Cert.MmQIdeal.τ).loc Cert.MmQIdeal.main_arg2))
      ∧ r.2.sem = fun _ => 0)

def quiescent_MmQRefIdeal [hMmQRefIdeal : Cert.MmQRefIdeal.Facts] : Prop :=
  ∀ (m : (ℓ : Loc Cert.MmQRefIdeal.nD Cert.MmQRefIdeal.τ Cert.MmQRefIdeal.sig) → Buf (Elt Ideal) ℓ) (g : Dev Cert.MmQRefIdeal.nD → PrngReg), Pre_MmQRefIdeal m →
    θ_run (Cert.MmQRefIdeal.defs (F := Ideal)) (onTc (τ := Cert.MmQRefIdeal.τ) (Cert.MmQRefIdeal.main (F := Ideal))) ⟨m, fun _ => 0, g⟩ (fun r => (∀ c : Dev Cert.MmQRefIdeal.nD,
      r.2.mem ((c.tc : Thread Cert.MmQRefIdeal.nD Cert.MmQRefIdeal.τ).loc Cert.MmQRefIdeal.main_arg0) = m ((c.tc : Thread Cert.MmQRefIdeal.nD Cert.MmQRefIdeal.τ).loc Cert.MmQRefIdeal.main_arg0)
      ∧ r.2.mem ((c.tc : Thread Cert.MmQRefIdeal.nD Cert.MmQRefIdeal.τ).loc Cert.MmQRefIdeal.main_arg1) = m ((c.tc : Thread Cert.MmQRefIdeal.nD Cert.MmQRefIdeal.τ).loc Cert.MmQRefIdeal.main_arg1)
      ∧ r.2.mem ((c.tc : Thread Cert.MmQRefIdeal.nD Cert.MmQRefIdeal.τ).loc Cert.MmQRefIdeal.main_arg2) = m ((c.tc : Thread Cert.MmQRefIdeal.nD Cert.MmQRefIdeal.τ).loc Cert.MmQRefIdeal.main_arg2))
      ∧ r.2.sem = fun _ => 0)

def quiescent_MmK [hMmK : Cert.MmK.Facts] : Prop :=
  ∀ (m : (ℓ : Loc Cert.MmK.nD Cert.MmK.τ Cert.MmK.sig) → Buf (Elt Bits) ℓ) (g : Dev Cert.MmK.nD → PrngReg), Pre_MmK m →
    θ_run (Cert.MmK.defs (F := Bits)) (onTc (τ := Cert.MmK.τ) (Cert.MmK.main (F := Bits))) ⟨m, fun _ => 0, g⟩ (fun r => (∀ c : Dev Cert.MmK.nD,
      r.2.mem ((c.tc : Thread Cert.MmK.nD Cert.MmK.τ).loc Cert.MmK.main_arg0) = m ((c.tc : Thread Cert.MmK.nD Cert.MmK.τ).loc Cert.MmK.main_arg0)
      ∧ r.2.mem ((c.tc : Thread Cert.MmK.nD Cert.MmK.τ).loc Cert.MmK.main_arg1) = m ((c.tc : Thread Cert.MmK.nD Cert.MmK.τ).loc Cert.MmK.main_arg1))
      ∧ r.2.sem = fun _ => 0)

def quiescent_MmKIdeal [hMmKIdeal : Cert.MmKIdeal.Facts] : Prop :=
  ∀ (m : (ℓ : Loc Cert.MmKIdeal.nD Cert.MmKIdeal.τ Cert.MmKIdeal.sig) → Buf (Elt Ideal) ℓ) (g : Dev Cert.MmKIdeal.nD → PrngReg), Pre_MmKIdeal m →
    θ_run (Cert.MmKIdeal.defs (F := Ideal)) (onTc (τ := Cert.MmKIdeal.τ) (Cert.MmKIdeal.main (F := Ideal))) ⟨m, fun _ => 0, g⟩ (fun r => (∀ c : Dev Cert.MmKIdeal.nD,
      r.2.mem ((c.tc : Thread Cert.MmKIdeal.nD Cert.MmKIdeal.τ).loc Cert.MmKIdeal.main_arg0) = m ((c.tc : Thread Cert.MmKIdeal.nD Cert.MmKIdeal.τ).loc Cert.MmKIdeal.main_arg0)
      ∧ r.2.mem ((c.tc : Thread Cert.MmKIdeal.nD Cert.MmKIdeal.τ).loc Cert.MmKIdeal.main_arg1) = m ((c.tc : Thread Cert.MmKIdeal.nD Cert.MmKIdeal.τ).loc Cert.MmKIdeal.main_arg1))
      ∧ r.2.sem = fun _ => 0)

def quiescent_MmKRefIdeal [hMmKRefIdeal : Cert.MmKRefIdeal.Facts] : Prop :=
  ∀ (m : (ℓ : Loc Cert.MmKRefIdeal.nD Cert.MmKRefIdeal.τ Cert.MmKRefIdeal.sig) → Buf (Elt Ideal) ℓ) (g : Dev Cert.MmKRefIdeal.nD → PrngReg), Pre_MmKRefIdeal m →
    θ_run (Cert.MmKRefIdeal.defs (F := Ideal)) (onTc (τ := Cert.MmKRefIdeal.τ) (Cert.MmKRefIdeal.main (F := Ideal))) ⟨m, fun _ => 0, g⟩ (fun r => (∀ c : Dev Cert.MmKRefIdeal.nD,
      r.2.mem ((c.tc : Thread Cert.MmKRefIdeal.nD Cert.MmKRefIdeal.τ).loc Cert.MmKRefIdeal.main_arg0) = m ((c.tc : Thread Cert.MmKRefIdeal.nD Cert.MmKRefIdeal.τ).loc Cert.MmKRefIdeal.main_arg0)
      ∧ r.2.mem ((c.tc : Thread Cert.MmKRefIdeal.nD Cert.MmKRefIdeal.τ).loc Cert.MmKRefIdeal.main_arg1) = m ((c.tc : Thread Cert.MmKRefIdeal.nD Cert.MmKRefIdeal.τ).loc Cert.MmKRefIdeal.main_arg1))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_MmDxn1Lo [hMmDxn1Lo : Cert.MmDxn1Lo.Facts] : Prop :=
  ∀ (m : (ℓ : Loc Cert.MmDxn1Lo.nD Cert.MmDxn1Lo.τ Cert.MmDxn1Lo.sig) → Buf (Elt Bits) ℓ) (g : Dev Cert.MmDxn1Lo.nD → PrngReg), Pre_MmDxn1Lo m →
    θ_run (Cert.MmDxn1Lo.defs (F := Bits)) (onTc (τ := Cert.MmDxn1Lo.τ) (Cert.MmDxn1Lo.main (F := Bits))) ⟨m, fun _ => 0, g⟩ (fun r => (∀ c : Dev Cert.MmDxn1Lo.nD,
      r.2.mem ((c.tc : Thread Cert.MmDxn1Lo.nD Cert.MmDxn1Lo.τ).loc Cert.MmDxn1Lo.main_arg0) = m ((c.tc : Thread Cert.MmDxn1Lo.nD Cert.MmDxn1Lo.τ).loc Cert.MmDxn1Lo.main_arg0)
      ∧ r.2.mem ((c.tc : Thread Cert.MmDxn1Lo.nD Cert.MmDxn1Lo.τ).loc Cert.MmDxn1Lo.main_arg1) = m ((c.tc : Thread Cert.MmDxn1Lo.nD Cert.MmDxn1Lo.τ).loc Cert.MmDxn1Lo.main_arg1)
      ∧ r.2.mem ((c.tc : Thread Cert.MmDxn1Lo.nD Cert.MmDxn1Lo.τ).loc Cert.MmDxn1Lo.main_arg2) = m ((c.tc : Thread Cert.MmDxn1Lo.nD Cert.MmDxn1Lo.τ).loc Cert.MmDxn1Lo.main_arg2))
      ∧ r.2.sem = fun _ => 0)

def quiescent_MmDxn1LoIdeal [hMmDxn1LoIdeal : Cert.MmDxn1LoIdeal.Facts] : Prop :=
  ∀ (m : (ℓ : Loc Cert.MmDxn1LoIdeal.nD Cert.MmDxn1LoIdeal.τ Cert.MmDxn1LoIdeal.sig) → Buf (Elt Ideal) ℓ) (g : Dev Cert.MmDxn1LoIdeal.nD → PrngReg), Pre_MmDxn1LoIdeal m →
    θ_run (Cert.MmDxn1LoIdeal.defs (F := Ideal)) (onTc (τ := Cert.MmDxn1LoIdeal.τ) (Cert.MmDxn1LoIdeal.main (F := Ideal))) ⟨m, fun _ => 0, g⟩ (fun r => (∀ c : Dev Cert.MmDxn1LoIdeal.nD,
      r.2.mem ((c.tc : Thread Cert.MmDxn1LoIdeal.nD Cert.MmDxn1LoIdeal.τ).loc Cert.MmDxn1LoIdeal.main_arg0) = m ((c.tc : Thread Cert.MmDxn1LoIdeal.nD Cert.MmDxn1LoIdeal.τ).loc Cert.MmDxn1LoIdeal.main_arg0)
      ∧ r.2.mem ((c.tc : Thread Cert.MmDxn1LoIdeal.nD Cert.MmDxn1LoIdeal.τ).loc Cert.MmDxn1LoIdeal.main_arg1) = m ((c.tc : Thread Cert.MmDxn1LoIdeal.nD Cert.MmDxn1LoIdeal.τ).loc Cert.MmDxn1LoIdeal.main_arg1)
      ∧ r.2.mem ((c.tc : Thread Cert.MmDxn1LoIdeal.nD Cert.MmDxn1LoIdeal.τ).loc Cert.MmDxn1LoIdeal.main_arg2) = m ((c.tc : Thread Cert.MmDxn1LoIdeal.nD Cert.MmDxn1LoIdeal.τ).loc Cert.MmDxn1LoIdeal.main_arg2))
      ∧ r.2.sem = fun _ => 0)

def quiescent_MmDxn1LoRefIdeal [hMmDxn1LoRefIdeal : Cert.MmDxn1LoRefIdeal.Facts] : Prop :=
  ∀ (m : (ℓ : Loc Cert.MmDxn1LoRefIdeal.nD Cert.MmDxn1LoRefIdeal.τ Cert.MmDxn1LoRefIdeal.sig) → Buf (Elt Ideal) ℓ) (g : Dev Cert.MmDxn1LoRefIdeal.nD → PrngReg), Pre_MmDxn1LoRefIdeal m →
    θ_run (Cert.MmDxn1LoRefIdeal.defs (F := Ideal)) (onTc (τ := Cert.MmDxn1LoRefIdeal.τ) (Cert.MmDxn1LoRefIdeal.main (F := Ideal))) ⟨m, fun _ => 0, g⟩ (fun r => (∀ c : Dev Cert.MmDxn1LoRefIdeal.nD,
      r.2.mem ((c.tc : Thread Cert.MmDxn1LoRefIdeal.nD Cert.MmDxn1LoRefIdeal.τ).loc Cert.MmDxn1LoRefIdeal.main_arg0) = m ((c.tc : Thread Cert.MmDxn1LoRefIdeal.nD Cert.MmDxn1LoRefIdeal.τ).loc Cert.MmDxn1LoRefIdeal.main_arg0)
      ∧ r.2.mem ((c.tc : Thread Cert.MmDxn1LoRefIdeal.nD Cert.MmDxn1LoRefIdeal.τ).loc Cert.MmDxn1LoRefIdeal.main_arg1) = m ((c.tc : Thread Cert.MmDxn1LoRefIdeal.nD Cert.MmDxn1LoRefIdeal.τ).loc Cert.MmDxn1LoRefIdeal.main_arg1)
      ∧ r.2.mem ((c.tc : Thread Cert.MmDxn1LoRefIdeal.nD Cert.MmDxn1LoRefIdeal.τ).loc Cert.MmDxn1LoRefIdeal.main_arg2) = m ((c.tc : Thread Cert.MmDxn1LoRefIdeal.nD Cert.MmDxn1LoRefIdeal.τ).loc Cert.MmDxn1LoRefIdeal.main_arg2))
      ∧ r.2.sem = fun _ => 0)

def quiescent_MmDxn1Hi [hMmDxn1Hi : Cert.MmDxn1Hi.Facts] : Prop :=
  ∀ (m : (ℓ : Loc Cert.MmDxn1Hi.nD Cert.MmDxn1Hi.τ Cert.MmDxn1Hi.sig) → Buf (Elt Bits) ℓ) (g : Dev Cert.MmDxn1Hi.nD → PrngReg), Pre_MmDxn1Hi m →
    θ_run (Cert.MmDxn1Hi.defs (F := Bits)) (onTc (τ := Cert.MmDxn1Hi.τ) (Cert.MmDxn1Hi.main (F := Bits))) ⟨m, fun _ => 0, g⟩ (fun r => (∀ c : Dev Cert.MmDxn1Hi.nD,
      r.2.mem ((c.tc : Thread Cert.MmDxn1Hi.nD Cert.MmDxn1Hi.τ).loc Cert.MmDxn1Hi.main_arg0) = m ((c.tc : Thread Cert.MmDxn1Hi.nD Cert.MmDxn1Hi.τ).loc Cert.MmDxn1Hi.main_arg0)
      ∧ r.2.mem ((c.tc : Thread Cert.MmDxn1Hi.nD Cert.MmDxn1Hi.τ).loc Cert.MmDxn1Hi.main_arg1) = m ((c.tc : Thread Cert.MmDxn1Hi.nD Cert.MmDxn1Hi.τ).loc Cert.MmDxn1Hi.main_arg1)
      ∧ r.2.mem ((c.tc : Thread Cert.MmDxn1Hi.nD Cert.MmDxn1Hi.τ).loc Cert.MmDxn1Hi.main_arg2) = m ((c.tc : Thread Cert.MmDxn1Hi.nD Cert.MmDxn1Hi.τ).loc Cert.MmDxn1Hi.main_arg2))
      ∧ r.2.sem = fun _ => 0)

def quiescent_MmDxn1HiIdeal [hMmDxn1HiIdeal : Cert.MmDxn1HiIdeal.Facts] : Prop :=
  ∀ (m : (ℓ : Loc Cert.MmDxn1HiIdeal.nD Cert.MmDxn1HiIdeal.τ Cert.MmDxn1HiIdeal.sig) → Buf (Elt Ideal) ℓ) (g : Dev Cert.MmDxn1HiIdeal.nD → PrngReg), Pre_MmDxn1HiIdeal m →
    θ_run (Cert.MmDxn1HiIdeal.defs (F := Ideal)) (onTc (τ := Cert.MmDxn1HiIdeal.τ) (Cert.MmDxn1HiIdeal.main (F := Ideal))) ⟨m, fun _ => 0, g⟩ (fun r => (∀ c : Dev Cert.MmDxn1HiIdeal.nD,
      r.2.mem ((c.tc : Thread Cert.MmDxn1HiIdeal.nD Cert.MmDxn1HiIdeal.τ).loc Cert.MmDxn1HiIdeal.main_arg0) = m ((c.tc : Thread Cert.MmDxn1HiIdeal.nD Cert.MmDxn1HiIdeal.τ).loc Cert.MmDxn1HiIdeal.main_arg0)
      ∧ r.2.mem ((c.tc : Thread Cert.MmDxn1HiIdeal.nD Cert.MmDxn1HiIdeal.τ).loc Cert.MmDxn1HiIdeal.main_arg1) = m ((c.tc : Thread Cert.MmDxn1HiIdeal.nD Cert.MmDxn1HiIdeal.τ).loc Cert.MmDxn1HiIdeal.main_arg1)
      ∧ r.2.mem ((c.tc : Thread Cert.MmDxn1HiIdeal.nD Cert.MmDxn1HiIdeal.τ).loc Cert.MmDxn1HiIdeal.main_arg2) = m ((c.tc : Thread Cert.MmDxn1HiIdeal.nD Cert.MmDxn1HiIdeal.τ).loc Cert.MmDxn1HiIdeal.main_arg2))
      ∧ r.2.sem = fun _ => 0)

def quiescent_MmDxn1HiRefIdeal [hMmDxn1HiRefIdeal : Cert.MmDxn1HiRefIdeal.Facts] : Prop :=
  ∀ (m : (ℓ : Loc Cert.MmDxn1HiRefIdeal.nD Cert.MmDxn1HiRefIdeal.τ Cert.MmDxn1HiRefIdeal.sig) → Buf (Elt Ideal) ℓ) (g : Dev Cert.MmDxn1HiRefIdeal.nD → PrngReg), Pre_MmDxn1HiRefIdeal m →
    θ_run (Cert.MmDxn1HiRefIdeal.defs (F := Ideal)) (onTc (τ := Cert.MmDxn1HiRefIdeal.τ) (Cert.MmDxn1HiRefIdeal.main (F := Ideal))) ⟨m, fun _ => 0, g⟩ (fun r => (∀ c : Dev Cert.MmDxn1HiRefIdeal.nD,
      r.2.mem ((c.tc : Thread Cert.MmDxn1HiRefIdeal.nD Cert.MmDxn1HiRefIdeal.τ).loc Cert.MmDxn1HiRefIdeal.main_arg0) = m ((c.tc : Thread Cert.MmDxn1HiRefIdeal.nD Cert.MmDxn1HiRefIdeal.τ).loc Cert.MmDxn1HiRefIdeal.main_arg0)
      ∧ r.2.mem ((c.tc : Thread Cert.MmDxn1HiRefIdeal.nD Cert.MmDxn1HiRefIdeal.τ).loc Cert.MmDxn1HiRefIdeal.main_arg1) = m ((c.tc : Thread Cert.MmDxn1HiRefIdeal.nD Cert.MmDxn1HiRefIdeal.τ).loc Cert.MmDxn1HiRefIdeal.main_arg1)
      ∧ r.2.mem ((c.tc : Thread Cert.MmDxn1HiRefIdeal.nD Cert.MmDxn1HiRefIdeal.τ).loc Cert.MmDxn1HiRefIdeal.main_arg2) = m ((c.tc : Thread Cert.MmDxn1HiRefIdeal.nD Cert.MmDxn1HiRefIdeal.τ).loc Cert.MmDxn1HiRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_MixBFwd [hMixBFwd : Cert.MixBFwd.Facts] : Prop :=
  ∀ (m : (ℓ : Loc Cert.MixBFwd.nD Cert.MixBFwd.τ Cert.MixBFwd.sig) → Buf (Elt Bits) ℓ) (g : Dev Cert.MixBFwd.nD → PrngReg), Pre_MixBFwd m →
    θ_run (Cert.MixBFwd.defs (F := Bits)) (onTc (τ := Cert.MixBFwd.τ) (Cert.MixBFwd.main (F := Bits))) ⟨m, fun _ => 0, g⟩ (fun r => (∀ c : Dev Cert.MixBFwd.nD,
      r.2.mem ((c.tc : Thread Cert.MixBFwd.nD Cert.MixBFwd.τ).loc Cert.MixBFwd.main_arg0) = m ((c.tc : Thread Cert.MixBFwd.nD Cert.MixBFwd.τ).loc Cert.MixBFwd.main_arg0)
      ∧ r.2.mem ((c.tc : Thread Cert.MixBFwd.nD Cert.MixBFwd.τ).loc Cert.MixBFwd.main_arg1) = m ((c.tc : Thread Cert.MixBFwd.nD Cert.MixBFwd.τ).loc Cert.MixBFwd.main_arg1))
      ∧ r.2.sem = fun _ => 0)

def quiescent_MixBFwdIdeal [hMixBFwdIdeal : Cert.MixBFwdIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg), Pre_MixBFwdIdeal m →
    θ_run (Cert.MixBFwdIdeal.defs (F := Ideal)) (onTc (τ := Cert.MixBFwdIdeal.τ) (Cert.MixBFwdIdeal.main (F := Ideal))) ⟨m, fun _ => 0, g⟩ (fun r => (∀ c : Dev Cert.MixBFwdIdeal.nD,
      r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
      ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1))
      ∧ r.2.sem = fun _ => 0)

def quiescent_MixBFwdRefIdeal [hMixBFwdRefIdeal : Cert.MixBFwdRefIdeal.Facts] : Prop :=
  ∀ (m : (ℓ : Loc Cert.MixBFwdRefIdeal.nD Cert.MixBFwdRefIdeal.τ Cert.MixBFwdRefIdeal.sig) → Buf (Elt Ideal) ℓ) (g : Dev Cert.MixBFwdRefIdeal.nD → PrngReg), Pre_MixBFwdRefIdeal m →
    θ_run (Cert.MixBFwdRefIdeal.defs (F := Ideal)) (onTc (τ := Cert.MixBFwdRefIdeal.τ) (Cert.MixBFwdRefIdeal.main (F := Ideal))) ⟨m, fun _ => 0, g⟩ (fun r => (∀ c : Dev Cert.MixBFwdRefIdeal.nD,
      r.2.mem ((c.tc : Thread Cert.MixBFwdRefIdeal.nD Cert.MixBFwdRefIdeal.τ).loc Cert.MixBFwdRefIdeal.main_arg0) = m ((c.tc : Thread Cert.MixBFwdRefIdeal.nD Cert.MixBFwdRefIdeal.τ).loc Cert.MixBFwdRefIdeal.main_arg0)
      ∧ r.2.mem ((c.tc : Thread Cert.MixBFwdRefIdeal.nD Cert.MixBFwdRefIdeal.τ).loc Cert.MixBFwdRefIdeal.main_arg1) = m ((c.tc : Thread Cert.MixBFwdRefIdeal.nD Cert.MixBFwdRefIdeal.τ).loc Cert.MixBFwdRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43))
      ∧ r.2.sem = fun _ => 0)

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MixB_MixBIdeal : Prop :=
  True

def algebraic_MixBIdeal_MixBRefIdeal [hMixBIdeal : Cert.MixBIdeal.Facts] [hMixBRefIdeal : Cert.MixBRefIdeal.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.MixBRefIdeal.nD Cert.MixBRefIdeal.τ Cert.MixBRefIdeal.sig) → Buf (Elt Ideal) ℓ) (g' : Dev Cert.MixBRefIdeal.nD → PrngReg), Pre_MixBIdeal m →
    (∀ c : Dev Cert.MixBIdeal.nD,
      m' ((c.tc : Thread Cert.MixBRefIdeal.nD Cert.MixBRefIdeal.τ).loc Cert.MixBRefIdeal.main_arg0) = m ((c.tc : Thread Cert.MixBIdeal.nD Cert.MixBIdeal.τ).loc Cert.MixBIdeal.main_arg0)
      ∧ m' ((c.tc : Thread Cert.MixBRefIdeal.nD Cert.MixBRefIdeal.τ).loc Cert.MixBRefIdeal.main_arg1) = m ((c.tc : Thread Cert.MixBIdeal.nD Cert.MixBIdeal.τ).loc Cert.MixBIdeal.main_arg1)
      ∧ m' ((c.tc : Thread Cert.MixBRefIdeal.nD Cert.MixBRefIdeal.τ).loc Cert.MixBRefIdeal.main_arg2) = m ((c.tc : Thread Cert.MixBIdeal.nD Cert.MixBIdeal.τ).loc Cert.MixBIdeal.main_arg2)) →
    ∃ (v0 : (c : Dev Cert.MixBIdeal.nD) → Buf (Elt Ideal) ((c.tc : Thread Cert.MixBIdeal.nD Cert.MixBIdeal.τ).loc Cert.MixBIdeal.main_v2_0)) (v1 : (c : Dev Cert.MixBIdeal.nD) → Buf (Elt Ideal) ((c.tc : Thread Cert.MixBIdeal.nD Cert.MixBIdeal.τ).loc Cert.MixBIdeal.main_v2_1)) (v2 : (c : Dev Cert.MixBIdeal.nD) → Buf (Elt Ideal) ((c.tc : Thread Cert.MixBIdeal.nD Cert.MixBIdeal.τ).loc Cert.MixBIdeal.main_v2_2)) (v3 : (c : Dev Cert.MixBIdeal.nD) → Buf (Elt Ideal) ((c.tc : Thread Cert.MixBIdeal.nD Cert.MixBIdeal.τ).loc Cert.MixBIdeal.main_v2_3)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v2_0) = v0 c
          ∧ r.2.mem ((c.tc : Thread Cert.MixBIdeal.nD Cert.MixBIdeal.τ).loc Cert.MixBIdeal.main_v2_1) = v1 c
          ∧ r.2.mem ((c.tc : Thread Cert.MixBIdeal.nD Cert.MixBIdeal.τ).loc Cert.MixBIdeal.main_v2_2) = v2 c
          ∧ r.2.mem ((c.tc : Thread Cert.MixBIdeal.nD Cert.MixBIdeal.τ).loc Cert.MixBIdeal.main_v2_3) = v3 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2))
      ∧ θ_run (Cert.MixBRefIdeal.defs (F := Ideal)) (onTc (τ := Cert.MixBRefIdeal.τ) (Cert.MixBRefIdeal.main (F := Ideal))) ⟨m', fun _ => 0, g'⟩ (fun r => ∀ c : Dev Cert.MixBRefIdeal.nD,
          r.2.mem ((c.tc : Thread Cert.MixBRefIdeal.nD Cert.MixBRefIdeal.τ).loc Cert.MixBRefIdeal.main_v70) = v0 c
          ∧ r.2.mem ((c.tc : Thread Cert.MixBRefIdeal.nD Cert.MixBRefIdeal.τ).loc Cert.MixBRefIdeal.main_v71) = v1 c
          ∧ r.2.mem ((c.tc : Thread Cert.MixBRefIdeal.nD Cert.MixBRefIdeal.τ).loc Cert.MixBRefIdeal.main_v72) = v2 c
          ∧ r.2.mem ((c.tc : Thread Cert.MixBRefIdeal.nD Cert.MixBRefIdeal.τ).loc Cert.MixBRefIdeal.main_v74) = v3 c
          ∧ r.2.mem ((c.tc : Thread Cert.MixBRefIdeal.nD Cert.MixBRefIdeal.τ).loc Cert.MixBRefIdeal.main_arg0) = m' ((c.tc : Thread Cert.MixBRefIdeal.nD Cert.MixBRefIdeal.τ).loc Cert.MixBRefIdeal.main_arg0)
          ∧ r.2.mem ((c.tc : Thread Cert.MixBRefIdeal.nD Cert.MixBRefIdeal.τ).loc Cert.MixBRefIdeal.main_arg1) = m' ((c.tc : Thread Cert.MixBRefIdeal.nD Cert.MixBRefIdeal.τ).loc Cert.MixBRefIdeal.main_arg1)
          ∧ r.2.mem ((c.tc : Thread Cert.MixBRefIdeal.nD Cert.MixBRefIdeal.τ).loc Cert.MixBRefIdeal.main_arg2) = m' ((c.tc : Thread Cert.MixBRefIdeal.nD Cert.MixBRefIdeal.τ).loc Cert.MixBRefIdeal.main_arg2))

def preserves_Ffn_FfnIdeal : Prop :=
  True

def preserves_MmDf_MmDfIdeal : Prop :=
  True

def algebraic_MmDfIdeal_MmDfRefIdeal [hMmDfIdeal : Cert.MmDfIdeal.Facts] [hMmDfRefIdeal : Cert.MmDfRefIdeal.Facts] : Prop :=
  ∀ (m : (ℓ : Loc Cert.MmDfIdeal.nD Cert.MmDfIdeal.τ Cert.MmDfIdeal.sig) → Buf (Elt Ideal) ℓ) (g : Dev Cert.MmDfIdeal.nD → PrngReg)
    (m' : (ℓ : Loc Cert.MmDfRefIdeal.nD Cert.MmDfRefIdeal.τ Cert.MmDfRefIdeal.sig) → Buf (Elt Ideal) ℓ) (g' : Dev Cert.MmDfRefIdeal.nD → PrngReg), Pre_MmDfIdeal m →
    (∀ c : Dev Cert.MmDfIdeal.nD,
      m' ((c.tc : Thread Cert.MmDfRefIdeal.nD Cert.MmDfRefIdeal.τ).loc Cert.MmDfRefIdeal.main_arg0) = m ((c.tc : Thread Cert.MmDfIdeal.nD Cert.MmDfIdeal.τ).loc Cert.MmDfIdeal.main_arg0)
      ∧ m' ((c.tc : Thread Cert.MmDfRefIdeal.nD Cert.MmDfRefIdeal.τ).loc Cert.MmDfRefIdeal.main_arg1) = m ((c.tc : Thread Cert.MmDfIdeal.nD Cert.MmDfIdeal.τ).loc Cert.MmDfIdeal.main_arg1)) →
    ∃ (v0 : (c : Dev Cert.MmDfIdeal.nD) → Buf (Elt Ideal) ((c.tc : Thread Cert.MmDfIdeal.nD Cert.MmDfIdeal.τ).loc Cert.MmDfIdeal.main_v0)),
      θ_run (Cert.MmDfIdeal.defs (F := Ideal)) (onTc (τ := Cert.MmDfIdeal.τ) (Cert.MmDfIdeal.main (F := Ideal))) ⟨m, fun _ => 0, g⟩ (fun r => ∀ c : Dev Cert.MmDfIdeal.nD,
          r.2.mem ((c.tc : Thread Cert.MmDfIdeal.nD Cert.MmDfIdeal.τ).loc Cert.MmDfIdeal.main_v0) = v0 c
          ∧ r.2.mem ((c.tc : Thread Cert.MmDfIdeal.nD Cert.MmDfIdeal.τ).loc Cert.MmDfIdeal.main_arg0) = m ((c.tc : Thread Cert.MmDfIdeal.nD Cert.MmDfIdeal.τ).loc Cert.MmDfIdeal.main_arg0)
          ∧ r.2.mem ((c.tc : Thread Cert.MmDfIdeal.nD Cert.MmDfIdeal.τ).loc Cert.MmDfIdeal.main_arg1) = m ((c.tc : Thread Cert.MmDfIdeal.nD Cert.MmDfIdeal.τ).loc Cert.MmDfIdeal.main_arg1))
      ∧ θ_run (Cert.MmDfRefIdeal.defs (F := Ideal)) (onTc (τ := Cert.MmDfRefIdeal.τ) (Cert.MmDfRefIdeal.main (F := Ideal))) ⟨m', fun _ => 0, g'⟩ (fun r => ∀ c : Dev Cert.MmDfRefIdeal.nD,
          r.2.mem ((c.tc : Thread Cert.MmDfRefIdeal.nD Cert.MmDfRefIdeal.τ).loc Cert.MmDfRefIdeal.main_v5) = v0 c
          ∧ r.2.mem ((c.tc : Thread Cert.MmDfRefIdeal.nD Cert.MmDfRefIdeal.τ).loc Cert.MmDfRefIdeal.main_arg0) = m' ((c.tc : Thread Cert.MmDfRefIdeal.nD Cert.MmDfRefIdeal.τ).loc Cert.MmDfRefIdeal.main_arg0)
          ∧ r.2.mem ((c.tc : Thread Cert.MmDfRefIdeal.nD Cert.MmDfRefIdeal.τ).loc Cert.MmDfRefIdeal.main_arg1) = m' ((c.tc : Thread Cert.MmDfRefIdeal.nD Cert.MmDfRefIdeal.τ).loc Cert.MmDfRefIdeal.main_arg1))

def preserves_MmDxn3_MmDxn3Ideal : Prop :=
  True

def algebraic_MmDxn3Ideal_MmDxn3RefIdeal [hMmDxn3Ideal : Cert.MmDxn3Ideal.Facts] [hMmDxn3RefIdeal : Cert.MmDxn3RefIdeal.Facts] : Prop :=
  ∀ (m : (ℓ : Loc Cert.MmDxn3Ideal.nD Cert.MmDxn3Ideal.τ Cert.MmDxn3Ideal.sig) → Buf (Elt Ideal) ℓ) (g : Dev Cert.MmDxn3Ideal.nD → PrngReg)
    (m' : (ℓ : Loc Cert.MmDxn3RefIdeal.nD Cert.MmDxn3RefIdeal.τ Cert.MmDxn3RefIdeal.sig) → Buf (Elt Ideal) ℓ) (g' : Dev Cert.MmDxn3RefIdeal.nD → PrngReg), Pre_MmDxn3Ideal m →
    (∀ c : Dev Cert.MmDxn3Ideal.nD,
      m' ((c.tc : Thread Cert.MmDxn3RefIdeal.nD Cert.MmDxn3RefIdeal.τ).loc Cert.MmDxn3RefIdeal.main_arg0) = m ((c.tc : Thread Cert.MmDxn3Ideal.nD Cert.MmDxn3Ideal.τ).loc Cert.MmDxn3Ideal.main_arg0)
      ∧ m' ((c.tc : Thread Cert.MmDxn3RefIdeal.nD Cert.MmDxn3RefIdeal.τ).loc Cert.MmDxn3RefIdeal.main_arg1) = m ((c.tc : Thread Cert.MmDxn3Ideal.nD Cert.MmDxn3Ideal.τ).loc Cert.MmDxn3Ideal.main_arg1)
      ∧ m' ((c.tc : Thread Cert.MmDxn3RefIdeal.nD Cert.MmDxn3RefIdeal.τ).loc Cert.MmDxn3RefIdeal.main_arg2) = m ((c.tc : Thread Cert.MmDxn3Ideal.nD Cert.MmDxn3Ideal.τ).loc Cert.MmDxn3Ideal.main_arg2)
      ∧ m' ((c.tc : Thread Cert.MmDxn3RefIdeal.nD Cert.MmDxn3RefIdeal.τ).loc Cert.MmDxn3RefIdeal.main_arg3) = m ((c.tc : Thread Cert.MmDxn3Ideal.nD Cert.MmDxn3Ideal.τ).loc Cert.MmDxn3Ideal.main_arg3)
      ∧ m' ((c.tc : Thread Cert.MmDxn3RefIdeal.nD Cert.MmDxn3RefIdeal.τ).loc Cert.MmDxn3RefIdeal.main_arg4) = m ((c.tc : Thread Cert.MmDxn3Ideal.nD Cert.MmDxn3Ideal.τ).loc Cert.MmDxn3Ideal.main_arg4)) →
    ∃ (v0 : (c : Dev Cert.MmDxn3Ideal.nD) → Buf (Elt Ideal) ((c.tc : Thread Cert.MmDxn3Ideal.nD Cert.MmDxn3Ideal.τ).loc Cert.MmDxn3Ideal.main_v3)),
      θ_run (Cert.MmDxn3Ideal.defs (F := Ideal)) (onTc (τ := Cert.MmDxn3Ideal.τ) (Cert.MmDxn3Ideal.main (F := Ideal))) ⟨m, fun _ => 0, g⟩ (fun r => ∀ c : Dev Cert.MmDxn3Ideal.nD,
          r.2.mem ((c.tc : Thread Cert.MmDxn3Ideal.nD Cert.MmDxn3Ideal.τ).loc Cert.MmDxn3Ideal.main_v3) = v0 c
          ∧ r.2.mem ((c.tc : Thread Cert.MmDxn3Ideal.nD Cert.MmDxn3Ideal.τ).loc Cert.MmDxn3Ideal.main_arg0) = m ((c.tc : Thread Cert.MmDxn3Ideal.nD Cert.MmDxn3Ideal.τ).loc Cert.MmDxn3Ideal.main_arg0)
          ∧ r.2.mem ((c.tc : Thread Cert.MmDxn3Ideal.nD Cert.MmDxn3Ideal.τ).loc Cert.MmDxn3Ideal.main_arg1) = m ((c.tc : Thread Cert.MmDxn3Ideal.nD Cert.MmDxn3Ideal.τ).loc Cert.MmDxn3Ideal.main_arg1)
          ∧ r.2.mem ((c.tc : Thread Cert.MmDxn3Ideal.nD Cert.MmDxn3Ideal.τ).loc Cert.MmDxn3Ideal.main_arg2) = m ((c.tc : Thread Cert.MmDxn3Ideal.nD Cert.MmDxn3Ideal.τ).loc Cert.MmDxn3Ideal.main_arg2)
          ∧ r.2.mem ((c.tc : Thread Cert.MmDxn3Ideal.nD Cert.MmDxn3Ideal.τ).loc Cert.MmDxn3Ideal.main_arg3) = m ((c.tc : Thread Cert.MmDxn3Ideal.nD Cert.MmDxn3Ideal.τ).loc Cert.MmDxn3Ideal.main_arg3)
          ∧ r.2.mem ((c.tc : Thread Cert.MmDxn3Ideal.nD Cert.MmDxn3Ideal.τ).loc Cert.MmDxn3Ideal.main_arg4) = m ((c.tc : Thread Cert.MmDxn3Ideal.nD Cert.MmDxn3Ideal.τ).loc Cert.MmDxn3Ideal.main_arg4))
      ∧ θ_run (Cert.MmDxn3RefIdeal.defs (F := Ideal)) (onTc (τ := Cert.MmDxn3RefIdeal.τ) (Cert.MmDxn3RefIdeal.main (F := Ideal))) ⟨m', fun _ => 0, g'⟩ (fun r => ∀ c : Dev Cert.MmDxn3RefIdeal.nD,
          r.2.mem ((c.tc : Thread Cert.MmDxn3RefIdeal.nD Cert.MmDxn3RefIdeal.τ).loc Cert.MmDxn3RefIdeal.main_v11) = v0 c
          ∧ r.2.mem ((c.tc : Thread Cert.MmDxn3RefIdeal.nD Cert.MmDxn3RefIdeal.τ).loc Cert.MmDxn3RefIdeal.main_arg0) = m' ((c.tc : Thread Cert.MmDxn3RefIdeal.nD Cert.MmDxn3RefIdeal.τ).loc Cert.MmDxn3RefIdeal.main_arg0)
          ∧ r.2.mem ((c.tc : Thread Cert.MmDxn3RefIdeal.nD Cert.MmDxn3RefIdeal.τ).loc Cert.MmDxn3RefIdeal.main_arg1) = m' ((c.tc : Thread Cert.MmDxn3RefIdeal.nD Cert.MmDxn3RefIdeal.τ).loc Cert.MmDxn3RefIdeal.main_arg1)
          ∧ r.2.mem ((c.tc : Thread Cert.MmDxn3RefIdeal.nD Cert.MmDxn3RefIdeal.τ).loc Cert.MmDxn3RefIdeal.main_arg2) = m' ((c.tc : Thread Cert.MmDxn3RefIdeal.nD Cert.MmDxn3RefIdeal.τ).loc Cert.MmDxn3RefIdeal.main_arg2)
          ∧ r.2.mem ((c.tc : Thread Cert.MmDxn3RefIdeal.nD Cert.MmDxn3RefIdeal.τ).loc Cert.MmDxn3RefIdeal.main_arg3) = m' ((c.tc : Thread Cert.MmDxn3RefIdeal.nD Cert.MmDxn3RefIdeal.τ).loc Cert.MmDxn3RefIdeal.main_arg3)
          ∧ r.2.mem ((c.tc : Thread Cert.MmDxn3RefIdeal.nD Cert.MmDxn3RefIdeal.τ).loc Cert.MmDxn3RefIdeal.main_arg4) = m' ((c.tc : Thread Cert.MmDxn3RefIdeal.nD Cert.MmDxn3RefIdeal.τ).loc Cert.MmDxn3RefIdeal.main_arg4))

def preserves_MmDo_MmDoIdeal : Prop :=
  True

def algebraic_MmDoIdeal_MmDoRefIdeal [hMmDoIdeal : Cert.MmDoIdeal.Facts] [hMmDoRefIdeal : Cert.MmDoRefIdeal.Facts] : Prop :=
  ∀ (m : (ℓ : Loc Cert.MmDoIdeal.nD Cert.MmDoIdeal.τ Cert.MmDoIdeal.sig) → Buf (Elt Ideal) ℓ) (g : Dev Cert.MmDoIdeal.nD → PrngReg)
    (m' : (ℓ : Loc Cert.MmDoRefIdeal.nD Cert.MmDoRefIdeal.τ Cert.MmDoRefIdeal.sig) → Buf (Elt Ideal) ℓ) (g' : Dev Cert.MmDoRefIdeal.nD → PrngReg), Pre_MmDoIdeal m →
    (∀ c : Dev Cert.MmDoIdeal.nD,
      m' ((c.tc : Thread Cert.MmDoRefIdeal.nD Cert.MmDoRefIdeal.τ).loc Cert.MmDoRefIdeal.main_arg0) = m ((c.tc : Thread Cert.MmDoIdeal.nD Cert.MmDoIdeal.τ).loc Cert.MmDoIdeal.main_arg0)
      ∧ m' ((c.tc : Thread Cert.MmDoRefIdeal.nD Cert.MmDoRefIdeal.τ).loc Cert.MmDoRefIdeal.main_arg1) = m ((c.tc : Thread Cert.MmDoIdeal.nD Cert.MmDoIdeal.τ).loc Cert.MmDoIdeal.main_arg1)
      ∧ m' ((c.tc : Thread Cert.MmDoRefIdeal.nD Cert.MmDoRefIdeal.τ).loc Cert.MmDoRefIdeal.main_arg2) = m ((c.tc : Thread Cert.MmDoIdeal.nD Cert.MmDoIdeal.τ).loc Cert.MmDoIdeal.main_arg2)) →
    ∃ (v0 : (c : Dev Cert.MmDoIdeal.nD) → Buf (Elt Ideal) ((c.tc : Thread Cert.MmDoIdeal.nD Cert.MmDoIdeal.τ).loc Cert.MmDoIdeal.main_v0)),
      θ_run (Cert.MmDoIdeal.defs (F := Ideal)) (onTc (τ := Cert.MmDoIdeal.τ) (Cert.MmDoIdeal.main (F := Ideal))) ⟨m, fun _ => 0, g⟩ (fun r => ∀ c : Dev Cert.MmDoIdeal.nD,
          r.2.mem ((c.tc : Thread Cert.MmDoIdeal.nD Cert.MmDoIdeal.τ).loc Cert.MmDoIdeal.main_v0) = v0 c
          ∧ r.2.mem ((c.tc : Thread Cert.MmDoIdeal.nD Cert.MmDoIdeal.τ).loc Cert.MmDoIdeal.main_arg0) = m ((c.tc : Thread Cert.MmDoIdeal.nD Cert.MmDoIdeal.τ).loc Cert.MmDoIdeal.main_arg0)
          ∧ r.2.mem ((c.tc : Thread Cert.MmDoIdeal.nD Cert.MmDoIdeal.τ).loc Cert.MmDoIdeal.main_arg1) = m ((c.tc : Thread Cert.MmDoIdeal.nD Cert.MmDoIdeal.τ).loc Cert.MmDoIdeal.main_arg1)
          ∧ r.2.mem ((c.tc : Thread Cert.MmDoIdeal.nD Cert.MmDoIdeal.τ).loc Cert.MmDoIdeal.main_arg2) = m ((c.tc : Thread Cert.MmDoIdeal.nD Cert.MmDoIdeal.τ).loc Cert.MmDoIdeal.main_arg2))
      ∧ θ_run (Cert.MmDoRefIdeal.defs (F := Ideal)) (onTc (τ := Cert.MmDoRefIdeal.τ) (Cert.MmDoRefIdeal.main (F := Ideal))) ⟨m', fun _ => 0, g'⟩ (fun r => ∀ c : Dev Cert.MmDoRefIdeal.nD,
          r.2.mem ((c.tc : Thread Cert.MmDoRefIdeal.nD Cert.MmDoRefIdeal.τ).loc Cert.MmDoRefIdeal.main_v5) = v0 c
          ∧ r.2.mem ((c.tc : Thread Cert.MmDoRefIdeal.nD Cert.MmDoRefIdeal.τ).loc Cert.MmDoRefIdeal.main_arg0) = m' ((c.tc : Thread Cert.MmDoRefIdeal.nD Cert.MmDoRefIdeal.τ).loc Cert.MmDoRefIdeal.main_arg0)
          ∧ r.2.mem ((c.tc : Thread Cert.MmDoRefIdeal.nD Cert.MmDoRefIdeal.τ).loc Cert.MmDoRefIdeal.main_arg1) = m' ((c.tc : Thread Cert.MmDoRefIdeal.nD Cert.MmDoRefIdeal.τ).loc Cert.MmDoRefIdeal.main_arg1)
          ∧ r.2.mem ((c.tc : Thread Cert.MmDoRefIdeal.nD Cert.MmDoRefIdeal.τ).loc Cert.MmDoRefIdeal.main_arg2) = m' ((c.tc : Thread Cert.MmDoRefIdeal.nD Cert.MmDoRefIdeal.τ).loc Cert.MmDoRefIdeal.main_arg2))

def preserves_MmDxn2_MmDxn2Ideal : Prop :=
  True

def algebraic_MmDxn2Ideal_MmDxn2RefIdeal [hMmDxn2Ideal : Cert.MmDxn2Ideal.Facts] [hMmDxn2RefIdeal : Cert.MmDxn2RefIdeal.Facts] : Prop :=
  ∀ (m : (ℓ : Loc Cert.MmDxn2Ideal.nD Cert.MmDxn2Ideal.τ Cert.MmDxn2Ideal.sig) → Buf (Elt Ideal) ℓ) (g : Dev Cert.MmDxn2Ideal.nD → PrngReg)
    (m' : (ℓ : Loc Cert.MmDxn2RefIdeal.nD Cert.MmDxn2RefIdeal.τ Cert.MmDxn2RefIdeal.sig) → Buf (Elt Ideal) ℓ) (g' : Dev Cert.MmDxn2RefIdeal.nD → PrngReg), Pre_MmDxn2Ideal m →
    (∀ c : Dev Cert.MmDxn2Ideal.nD,
      m' ((c.tc : Thread Cert.MmDxn2RefIdeal.nD Cert.MmDxn2RefIdeal.τ).loc Cert.MmDxn2RefIdeal.main_arg0) = m ((c.tc : Thread Cert.MmDxn2Ideal.nD Cert.MmDxn2Ideal.τ).loc Cert.MmDxn2Ideal.main_arg0)
      ∧ m' ((c.tc : Thread Cert.MmDxn2RefIdeal.nD Cert.MmDxn2RefIdeal.τ).loc Cert.MmDxn2RefIdeal.main_arg1) = m ((c.tc : Thread Cert.MmDxn2Ideal.nD Cert.MmDxn2Ideal.τ).loc Cert.MmDxn2Ideal.main_arg1)
      ∧ m' ((c.tc : Thread Cert.MmDxn2RefIdeal.nD Cert.MmDxn2RefIdeal.τ).loc Cert.MmDxn2RefIdeal.main_arg2) = m ((c.tc : Thread Cert.MmDxn2Ideal.nD Cert.MmDxn2Ideal.τ).loc Cert.MmDxn2Ideal.main_arg2)) →
    ∃ (v0 : (c : Dev Cert.MmDxn2Ideal.nD) → Buf (Elt Ideal) ((c.tc : Thread Cert.MmDxn2Ideal.nD Cert.MmDxn2Ideal.τ).loc Cert.MmDxn2Ideal.main_v0)),
      θ_run (Cert.MmDxn2Ideal.defs (F := Ideal)) (onTc (τ := Cert.MmDxn2Ideal.τ) (Cert.MmDxn2Ideal.main (F := Ideal))) ⟨m, fun _ => 0, g⟩ (fun r => ∀ c : Dev Cert.MmDxn2Ideal.nD,
          r.2.mem ((c.tc : Thread Cert.MmDxn2Ideal.nD Cert.MmDxn2Ideal.τ).loc Cert.MmDxn2Ideal.main_v0) = v0 c
          ∧ r.2.mem ((c.tc : Thread Cert.MmDxn2Ideal.nD Cert.MmDxn2Ideal.τ).loc Cert.MmDxn2Ideal.main_arg0) = m ((c.tc : Thread Cert.MmDxn2Ideal.nD Cert.MmDxn2Ideal.τ).loc Cert.MmDxn2Ideal.main_arg0)
          ∧ r.2.mem ((c.tc : Thread Cert.MmDxn2Ideal.nD Cert.MmDxn2Ideal.τ).loc Cert.MmDxn2Ideal.main_arg1) = m ((c.tc : Thread Cert.MmDxn2Ideal.nD Cert.MmDxn2Ideal.τ).loc Cert.MmDxn2Ideal.main_arg1)
          ∧ r.2.mem ((c.tc : Thread Cert.MmDxn2Ideal.nD Cert.MmDxn2Ideal.τ).loc Cert.MmDxn2Ideal.main_arg2) = m ((c.tc : Thread Cert.MmDxn2Ideal.nD Cert.MmDxn2Ideal.τ).loc Cert.MmDxn2Ideal.main_arg2))
      ∧ θ_run (Cert.MmDxn2RefIdeal.defs (F := Ideal)) (onTc (τ := Cert.MmDxn2RefIdeal.τ) (Cert.MmDxn2RefIdeal.main (F := Ideal))) ⟨m', fun _ => 0, g'⟩ (fun r => ∀ c : Dev Cert.MmDxn2RefIdeal.nD,
          r.2.mem ((c.tc : Thread Cert.MmDxn2RefIdeal.nD Cert.MmDxn2RefIdeal.τ).loc Cert.MmDxn2RefIdeal.main_v4) = v0 c
          ∧ r.2.mem ((c.tc : Thread Cert.MmDxn2RefIdeal.nD Cert.MmDxn2RefIdeal.τ).loc Cert.MmDxn2RefIdeal.main_arg0) = m' ((c.tc : Thread Cert.MmDxn2RefIdeal.nD Cert.MmDxn2RefIdeal.τ).loc Cert.MmDxn2RefIdeal.main_arg0)
          ∧ r.2.mem ((c.tc : Thread Cert.MmDxn2RefIdeal.nD Cert.MmDxn2RefIdeal.τ).loc Cert.MmDxn2RefIdeal.main_arg1) = m' ((c.tc : Thread Cert.MmDxn2RefIdeal.nD Cert.MmDxn2RefIdeal.τ).loc Cert.MmDxn2RefIdeal.main_arg1)
          ∧ r.2.mem ((c.tc : Thread Cert.MmDxn2RefIdeal.nD Cert.MmDxn2RefIdeal.τ).loc Cert.MmDxn2RefIdeal.main_arg2) = m' ((c.tc : Thread Cert.MmDxn2RefIdeal.nD Cert.MmDxn2RefIdeal.τ).loc Cert.MmDxn2RefIdeal.main_arg2))

def preserves_MmDmem_MmDmemIdeal : Prop :=
  True

def algebraic_MmDmemIdeal_MmDmemRefIdeal [hMmDmemIdeal : Cert.MmDmemIdeal.Facts] [hMmDmemRefIdeal : Cert.MmDmemRefIdeal.Facts] : Prop :=
  ∀ (m : (ℓ : Loc Cert.MmDmemIdeal.nD Cert.MmDmemIdeal.τ Cert.MmDmemIdeal.sig) → Buf (Elt Ideal) ℓ) (g : Dev Cert.MmDmemIdeal.nD → PrngReg)
    (m' : (ℓ : Loc Cert.MmDmemRefIdeal.nD Cert.MmDmemRefIdeal.τ Cert.MmDmemRefIdeal.sig) → Buf (Elt Ideal) ℓ) (g' : Dev Cert.MmDmemRefIdeal.nD → PrngReg), Pre_MmDmemIdeal m →
    (∀ c : Dev Cert.MmDmemIdeal.nD,
      m' ((c.tc : Thread Cert.MmDmemRefIdeal.nD Cert.MmDmemRefIdeal.τ).loc Cert.MmDmemRefIdeal.main_arg0) = m ((c.tc : Thread Cert.MmDmemIdeal.nD Cert.MmDmemIdeal.τ).loc Cert.MmDmemIdeal.main_arg0)
      ∧ m' ((c.tc : Thread Cert.MmDmemRefIdeal.nD Cert.MmDmemRefIdeal.τ).loc Cert.MmDmemRefIdeal.main_arg1) = m ((c.tc : Thread Cert.MmDmemIdeal.nD Cert.MmDmemIdeal.τ).loc Cert.MmDmemIdeal.main_arg1)
      ∧ m' ((c.tc : Thread Cert.MmDmemRefIdeal.nD Cert.MmDmemRefIdeal.τ).loc Cert.MmDmemRefIdeal.main_arg2) = m ((c.tc : Thread Cert.MmDmemIdeal.nD Cert.MmDmemIdeal.τ).loc Cert.MmDmemIdeal.main_arg2)
      ∧ m' ((c.tc : Thread Cert.MmDmemRefIdeal.nD Cert.MmDmemRefIdeal.τ).loc Cert.MmDmemRefIdeal.main_arg3) = m ((c.tc : Thread Cert.MmDmemIdeal.nD Cert.MmDmemIdeal.τ).loc Cert.MmDmemIdeal.main_arg3)) →
    ∃ (v0 : (c : Dev Cert.MmDmemIdeal.nD) → Buf (Elt Ideal) ((c.tc : Thread Cert.MmDmemIdeal.nD Cert.MmDmemIdeal.τ).loc Cert.MmDmemIdeal.main_v1)),
      θ_run (Cert.MmDmemIdeal.defs (F := Ideal)) (onTc (τ := Cert.MmDmemIdeal.τ) (Cert.MmDmemIdeal.main (F := Ideal))) ⟨m, fun _ => 0, g⟩ (fun r => ∀ c : Dev Cert.MmDmemIdeal.nD,
          r.2.mem ((c.tc : Thread Cert.MmDmemIdeal.nD Cert.MmDmemIdeal.τ).loc Cert.MmDmemIdeal.main_v1) = v0 c
          ∧ r.2.mem ((c.tc : Thread Cert.MmDmemIdeal.nD Cert.MmDmemIdeal.τ).loc Cert.MmDmemIdeal.main_arg0) = m ((c.tc : Thread Cert.MmDmemIdeal.nD Cert.MmDmemIdeal.τ).loc Cert.MmDmemIdeal.main_arg0)
          ∧ r.2.mem ((c.tc : Thread Cert.MmDmemIdeal.nD Cert.MmDmemIdeal.τ).loc Cert.MmDmemIdeal.main_arg1) = m ((c.tc : Thread Cert.MmDmemIdeal.nD Cert.MmDmemIdeal.τ).loc Cert.MmDmemIdeal.main_arg1)
          ∧ r.2.mem ((c.tc : Thread Cert.MmDmemIdeal.nD Cert.MmDmemIdeal.τ).loc Cert.MmDmemIdeal.main_arg2) = m ((c.tc : Thread Cert.MmDmemIdeal.nD Cert.MmDmemIdeal.τ).loc Cert.MmDmemIdeal.main_arg2)
          ∧ r.2.mem ((c.tc : Thread Cert.MmDmemIdeal.nD Cert.MmDmemIdeal.τ).loc Cert.MmDmemIdeal.main_arg3) = m ((c.tc : Thread Cert.MmDmemIdeal.nD Cert.MmDmemIdeal.τ).loc Cert.MmDmemIdeal.main_arg3))
      ∧ θ_run (Cert.MmDmemRefIdeal.defs (F := Ideal)) (onTc (τ := Cert.MmDmemRefIdeal.τ) (Cert.MmDmemRefIdeal.main (F := Ideal))) ⟨m', fun _ => 0, g'⟩ (fun r => ∀ c : Dev Cert.MmDmemRefIdeal.nD,
          r.2.mem ((c.tc : Thread Cert.MmDmemRefIdeal.nD Cert.MmDmemRefIdeal.τ).loc Cert.MmDmemRefIdeal.main_v9) = v0 c
          ∧ r.2.mem ((c.tc : Thread Cert.MmDmemRefIdeal.nD Cert.MmDmemRefIdeal.τ).loc Cert.MmDmemRefIdeal.main_arg0) = m' ((c.tc : Thread Cert.MmDmemRefIdeal.nD Cert.MmDmemRefIdeal.τ).loc Cert.MmDmemRefIdeal.main_arg0)
          ∧ r.2.mem ((c.tc : Thread Cert.MmDmemRefIdeal.nD Cert.MmDmemRefIdeal.τ).loc Cert.MmDmemRefIdeal.main_arg1) = m' ((c.tc : Thread Cert.MmDmemRefIdeal.nD Cert.MmDmemRefIdeal.τ).loc Cert.MmDmemRefIdeal.main_arg1)
          ∧ r.2.mem ((c.tc : Thread Cert.MmDmemRefIdeal.nD Cert.MmDmemRefIdeal.τ).loc Cert.MmDmemRefIdeal.main_arg2) = m' ((c.tc : Thread Cert.MmDmemRefIdeal.nD Cert.MmDmemRefIdeal.τ).loc Cert.MmDmemRefIdeal.main_arg2)
          ∧ r.2.mem ((c.tc : Thread Cert.MmDmemRefIdeal.nD Cert.MmDmemRefIdeal.τ).loc Cert.MmDmemRefIdeal.main_arg3) = m' ((c.tc : Thread Cert.MmDmemRefIdeal.nD Cert.MmDmemRefIdeal.τ).loc Cert.MmDmemRefIdeal.main_arg3))

def preserves_DwInSib_DwInSibIdeal : Prop :=
  True

def algebraic_DwInSibIdeal_DwInSibRefIdeal [hDwInSibIdeal : Cert.DwInSibIdeal.Facts] [hDwInSibRefIdeal : Cert.DwInSibRefIdeal.Facts] [hPre_core_dw_in_sib : Cert.Pre_core_dw_in_sib.Facts] : Prop :=
  ∀ (m : (ℓ : Loc Cert.DwInSibIdeal.nD Cert.DwInSibIdeal.τ Cert.DwInSibIdeal.sig) → Buf (Elt Ideal) ℓ) (g : Dev Cert.DwInSibIdeal.nD → PrngReg)
    (m' : (ℓ : Loc Cert.DwInSibRefIdeal.nD Cert.DwInSibRefIdeal.τ Cert.DwInSibRefIdeal.sig) → Buf (Elt Ideal) ℓ) (g' : Dev Cert.DwInSibRefIdeal.nD → PrngReg), Pre_DwInSibIdeal m →
    (∀ c : Dev Cert.DwInSibIdeal.nD,
      m' ((c.tc : Thread Cert.DwInSibRefIdeal.nD Cert.DwInSibRefIdeal.τ).loc Cert.DwInSibRefIdeal.main_arg0) = m ((c.tc : Thread Cert.DwInSibIdeal.nD Cert.DwInSibIdeal.τ).loc Cert.DwInSibIdeal.main_arg0)
      ∧ m' ((c.tc : Thread Cert.DwInSibRefIdeal.nD Cert.DwInSibRefIdeal.τ).loc Cert.DwInSibRefIdeal.main_arg1) = m ((c.tc : Thread Cert.DwInSibIdeal.nD Cert.DwInSibIdeal.τ).loc Cert.DwInSibIdeal.main_arg1)
      ∧ m' ((c.tc : Thread Cert.DwInSibRefIdeal.nD Cert.DwInSibRefIdeal.τ).loc Cert.DwInSibRefIdeal.main_arg2) = m ((c.tc : Thread Cert.DwInSibIdeal.nD Cert.DwInSibIdeal.τ).loc Cert.DwInSibIdeal.main_arg2)
      ∧ m' ((c.tc : Thread Cert.DwInSibRefIdeal.nD Cert.DwInSibRefIdeal.τ).loc Cert.DwInSibRefIdeal.main_arg3) = m ((c.tc : Thread Cert.DwInSibIdeal.nD Cert.DwInSibIdeal.τ).loc Cert.DwInSibIdeal.main_arg3)) →
    ∃ (v0 : (c : Dev Cert.DwInSibIdeal.nD) → Buf (Elt Ideal) ((c.tc : Thread Cert.DwInSibIdeal.nD Cert.DwInSibIdeal.τ).loc Cert.DwInSibIdeal.main_v0)),
      θ_run (Cert.DwInSibIdeal.defs (F := Ideal)) (onTc (τ := Cert.DwInSibIdeal.τ) (Cert.DwInSibIdeal.main (F := Ideal))) ⟨m, fun _ => 0, g⟩ (fun r => ∀ c : Dev Cert.DwInSibIdeal.nD,
          r.2.mem ((c.tc : Thread Cert.DwInSibIdeal.nD Cert.DwInSibIdeal.τ).loc Cert.DwInSibIdeal.main_v0) = v0 c
          ∧ r.2.mem ((c.tc : Thread Cert.DwInSibIdeal.nD Cert.DwInSibIdeal.τ).loc Cert.DwInSibIdeal.main_arg0) = m ((c.tc : Thread Cert.DwInSibIdeal.nD Cert.DwInSibIdeal.τ).loc Cert.DwInSibIdeal.main_arg0)
          ∧ r.2.mem ((c.tc : Thread Cert.DwInSibIdeal.nD Cert.DwInSibIdeal.τ).loc Cert.DwInSibIdeal.main_arg1) = m ((c.tc : Thread Cert.DwInSibIdeal.nD Cert.DwInSibIdeal.τ).loc Cert.DwInSibIdeal.main_arg1)
          ∧ r.2.mem ((c.tc : Thread Cert.DwInSibIdeal.nD Cert.DwInSibIdeal.τ).loc Cert.DwInSibIdeal.main_arg2) = m ((c.tc : Thread Cert.DwInSibIdeal.nD Cert.DwInSibIdeal.τ).loc Cert.DwInSibIdeal.main_arg2)
          ∧ r.2.mem ((c.tc : Thread Cert.DwInSibIdeal.nD Cert.DwInSibIdeal.τ).loc Cert.DwInSibIdeal.main_arg3) = m ((c.tc : Thread Cert.DwInSibIdeal.nD Cert.DwInSibIdeal.τ).loc Cert.DwInSibIdeal.main_arg3))
      ∧ θ_run (Cert.DwInSibRefIdeal.defs (F := Ideal)) (onTc (τ := Cert.DwInSibRefIdeal.τ) (Cert.DwInSibRefIdeal.main (F := Ideal))) ⟨m', fun _ => 0, g'⟩ (fun r => ∀ c : Dev Cert.DwInSibRefIdeal.nD,
          r.2.mem ((c.tc : Thread Cert.DwInSibRefIdeal.nD Cert.DwInSibRefIdeal.τ).loc Cert.DwInSibRefIdeal.main_v10) = v0 c
          ∧ r.2.mem ((c.tc : Thread Cert.DwInSibRefIdeal.nD Cert.DwInSibRefIdeal.τ).loc Cert.DwInSibRefIdeal.main_arg0) = m' ((c.tc : Thread Cert.DwInSibRefIdeal.nD Cert.DwInSibRefIdeal.τ).loc Cert.DwInSibRefIdeal.main_arg0)
          ∧ r.2.mem ((c.tc : Thread Cert.DwInSibRefIdeal.nD Cert.DwInSibRefIdeal.τ).loc Cert.DwInSibRefIdeal.main_arg1) = m' ((c.tc : Thread Cert.DwInSibRefIdeal.nD Cert.DwInSibRefIdeal.τ).loc Cert.DwInSibRefIdeal.main_arg1)
          ∧ r.2.mem ((c.tc : Thread Cert.DwInSibRefIdeal.nD Cert.DwInSibRefIdeal.τ).loc Cert.DwInSibRefIdeal.main_arg2) = m' ((c.tc : Thread Cert.DwInSibRefIdeal.nD Cert.DwInSibRefIdeal.τ).loc Cert.DwInSibRefIdeal.main_arg2)
          ∧ r.2.mem ((c.tc : Thread Cert.DwInSibRefIdeal.nD Cert.DwInSibRefIdeal.τ).loc Cert.DwInSibRefIdeal.main_arg3) = m' ((c.tc : Thread Cert.DwInSibRefIdeal.nD Cert.DwInSibRefIdeal.τ).loc Cert.DwInSibRefIdeal.main_arg3))

def preserves_DwInOwn_DwInOwnIdeal : Prop :=
  True

def algebraic_DwInOwnIdeal_DwInOwnRefIdeal [hDwInOwnIdeal : Cert.DwInOwnIdeal.Facts] [hDwInOwnRefIdeal : Cert.DwInOwnRefIdeal.Facts] [hPre_core_dw_in_own : Cert.Pre_core_dw_in_own.Facts] : Prop :=
  ∀ (m : (ℓ : Loc Cert.DwInOwnIdeal.nD Cert.DwInOwnIdeal.τ Cert.DwInOwnIdeal.sig) → Buf (Elt Ideal) ℓ) (g : Dev Cert.DwInOwnIdeal.nD → PrngReg)
    (m' : (ℓ : Loc Cert.DwInOwnRefIdeal.nD Cert.DwInOwnRefIdeal.τ Cert.DwInOwnRefIdeal.sig) → Buf (Elt Ideal) ℓ) (g' : Dev Cert.DwInOwnRefIdeal.nD → PrngReg), Pre_DwInOwnIdeal m →
    (∀ c : Dev Cert.DwInOwnIdeal.nD,
      m' ((c.tc : Thread Cert.DwInOwnRefIdeal.nD Cert.DwInOwnRefIdeal.τ).loc Cert.DwInOwnRefIdeal.main_arg0) = m ((c.tc : Thread Cert.DwInOwnIdeal.nD Cert.DwInOwnIdeal.τ).loc Cert.DwInOwnIdeal.main_arg0)
      ∧ m' ((c.tc : Thread Cert.DwInOwnRefIdeal.nD Cert.DwInOwnRefIdeal.τ).loc Cert.DwInOwnRefIdeal.main_arg1) = m ((c.tc : Thread Cert.DwInOwnIdeal.nD Cert.DwInOwnIdeal.τ).loc Cert.DwInOwnIdeal.main_arg1)
      ∧ m' ((c.tc : Thread Cert.DwInOwnRefIdeal.nD Cert.DwInOwnRefIdeal.τ).loc Cert.DwInOwnRefIdeal.main_arg2) = m ((c.tc : Thread Cert.DwInOwnIdeal.nD Cert.DwInOwnIdeal.τ).loc Cert.DwInOwnIdeal.main_arg2)
      ∧ m' ((c.tc : Thread Cert.DwInOwnRefIdeal.nD Cert.DwInOwnRefIdeal.τ).loc Cert.DwInOwnRefIdeal.main_arg3) = m ((c.tc : Thread Cert.DwInOwnIdeal.nD Cert.DwInOwnIdeal.τ).loc Cert.DwInOwnIdeal.main_arg3)) →
    ∃ (v0 : (c : Dev Cert.DwInOwnIdeal.nD) → Buf (Elt Ideal) ((c.tc : Thread Cert.DwInOwnIdeal.nD Cert.DwInOwnIdeal.τ).loc Cert.DwInOwnIdeal.main_v0)),
      θ_run (Cert.DwInOwnIdeal.defs (F := Ideal)) (onTc (τ := Cert.DwInOwnIdeal.τ) (Cert.DwInOwnIdeal.main (F := Ideal))) ⟨m, fun _ => 0, g⟩ (fun r => ∀ c : Dev Cert.DwInOwnIdeal.nD,
          r.2.mem ((c.tc : Thread Cert.DwInOwnIdeal.nD Cert.DwInOwnIdeal.τ).loc Cert.DwInOwnIdeal.main_v0) = v0 c
          ∧ r.2.mem ((c.tc : Thread Cert.DwInOwnIdeal.nD Cert.DwInOwnIdeal.τ).loc Cert.DwInOwnIdeal.main_arg0) = m ((c.tc : Thread Cert.DwInOwnIdeal.nD Cert.DwInOwnIdeal.τ).loc Cert.DwInOwnIdeal.main_arg0)
          ∧ r.2.mem ((c.tc : Thread Cert.DwInOwnIdeal.nD Cert.DwInOwnIdeal.τ).loc Cert.DwInOwnIdeal.main_arg1) = m ((c.tc : Thread Cert.DwInOwnIdeal.nD Cert.DwInOwnIdeal.τ).loc Cert.DwInOwnIdeal.main_arg1)
          ∧ r.2.mem ((c.tc : Thread Cert.DwInOwnIdeal.nD Cert.DwInOwnIdeal.τ).loc Cert.DwInOwnIdeal.main_arg2) = m ((c.tc : Thread Cert.DwInOwnIdeal.nD Cert.DwInOwnIdeal.τ).loc Cert.DwInOwnIdeal.main_arg2)
          ∧ r.2.mem ((c.tc : Thread Cert.DwInOwnIdeal.nD Cert.DwInOwnIdeal.τ).loc Cert.DwInOwnIdeal.main_arg3) = m ((c.tc : Thread Cert.DwInOwnIdeal.nD Cert.DwInOwnIdeal.τ).loc Cert.DwInOwnIdeal.main_arg3))
      ∧ θ_run (Cert.DwInOwnRefIdeal.defs (F := Ideal)) (onTc (τ := Cert.DwInOwnRefIdeal.τ) (Cert.DwInOwnRefIdeal.main (F := Ideal))) ⟨m', fun _ => 0, g'⟩ (fun r => ∀ c : Dev Cert.DwInOwnRefIdeal.nD,
          r.2.mem ((c.tc : Thread Cert.DwInOwnRefIdeal.nD Cert.DwInOwnRefIdeal.τ).loc Cert.DwInOwnRefIdeal.main_v12) = v0 c
          ∧ r.2.mem ((c.tc : Thread Cert.DwInOwnRefIdeal.nD Cert.DwInOwnRefIdeal.τ).loc Cert.DwInOwnRefIdeal.main_arg0) = m' ((c.tc : Thread Cert.DwInOwnRefIdeal.nD Cert.DwInOwnRefIdeal.τ).loc Cert.DwInOwnRefIdeal.main_arg0)
          ∧ r.2.mem ((c.tc : Thread Cert.DwInOwnRefIdeal.nD Cert.DwInOwnRefIdeal.τ).loc Cert.DwInOwnRefIdeal.main_arg1) = m' ((c.tc : Thread Cert.DwInOwnRefIdeal.nD Cert.DwInOwnRefIdeal.τ).loc Cert.DwInOwnRefIdeal.main_arg1)
          ∧ r.2.mem ((c.tc : Thread Cert.DwInOwnRefIdeal.nD Cert.DwInOwnRefIdeal.τ).loc Cert.DwInOwnRefIdeal.main_arg2) = m' ((c.tc : Thread Cert.DwInOwnRefIdeal.nD Cert.DwInOwnRefIdeal.τ).loc Cert.DwInOwnRefIdeal.main_arg2)
          ∧ r.2.mem ((c.tc : Thread Cert.DwInOwnRefIdeal.nD Cert.DwInOwnRefIdeal.τ).loc Cert.DwInOwnRefIdeal.main_arg3) = m' ((c.tc : Thread Cert.DwInOwnRefIdeal.nD Cert.DwInOwnRefIdeal.τ).loc Cert.DwInOwnRefIdeal.main_arg3))

def preserves_DwOSib_DwOSibIdeal : Prop :=
  True

def algebraic_DwOSibIdeal_DwOSibRefIdeal [hDwOSibIdeal : Cert.DwOSibIdeal.Facts] [hDwOSibRefIdeal : Cert.DwOSibRefIdeal.Facts] [hPre_core_dw_o_sib : Cert.Pre_core_dw_o_sib.Facts] : Prop :=
  ∀ (m : (ℓ : Loc Cert.DwOSibIdeal.nD Cert.DwOSibIdeal.τ Cert.DwOSibIdeal.sig) → Buf (Elt Ideal) ℓ) (g : Dev Cert.DwOSibIdeal.nD → PrngReg)
    (m' : (ℓ : Loc Cert.DwOSibRefIdeal.nD Cert.DwOSibRefIdeal.τ Cert.DwOSibRefIdeal.sig) → Buf (Elt Ideal) ℓ) (g' : Dev Cert.DwOSibRefIdeal.nD → PrngReg), Pre_DwOSibIdeal m →
    (∀ c : Dev Cert.DwOSibIdeal.nD,
      m' ((c.tc : Thread Cert.DwOSibRefIdeal.nD Cert.DwOSibRefIdeal.τ).loc Cert.DwOSibRefIdeal.main_arg0) = m ((c.tc : Thread Cert.DwOSibIdeal.nD Cert.DwOSibIdeal.τ).loc Cert.DwOSibIdeal.main_arg0)
      ∧ m' ((c.tc : Thread Cert.DwOSibRefIdeal.nD Cert.DwOSibRefIdeal.τ).loc Cert.DwOSibRefIdeal.main_arg1) = m ((c.tc : Thread Cert.DwOSibIdeal.nD Cert.DwOSibIdeal.τ).loc Cert.DwOSibIdeal.main_arg1)
      ∧ m' ((c.tc : Thread Cert.DwOSibRefIdeal.nD Cert.DwOSibRefIdeal.τ).loc Cert.DwOSibRefIdeal.main_arg2) = m ((c.tc : Thread Cert.DwOSibIdeal.nD Cert.DwOSibIdeal.τ).loc Cert.DwOSibIdeal.main_arg2)
      ∧ m' ((c.tc : Thread Cert.DwOSibRefIdeal.nD Cert.DwOSibRefIdeal.τ).loc Cert.DwOSibRefIdeal.main_arg3) = m ((c.tc : Thread Cert.DwOSibIdeal.nD Cert.DwOSibIdeal.τ).loc Cert.DwOSibIdeal.main_arg3)) →
    ∃ (v0 : (c : Dev Cert.DwOSibIdeal.nD) → Buf (Elt Ideal) ((c.tc : Thread Cert.DwOSibIdeal.nD Cert.DwOSibIdeal.τ).loc Cert.DwOSibIdeal.main_v0)),
      θ_run (Cert.DwOSibIdeal.defs (F := Ideal)) (onTc (τ := Cert.DwOSibIdeal.τ) (Cert.DwOSibIdeal.main (F := Ideal))) ⟨m, fun _ => 0, g⟩ (fun r => ∀ c : Dev Cert.DwOSibIdeal.nD,
          r.2.mem ((c.tc : Thread Cert.DwOSibIdeal.nD Cert.DwOSibIdeal.τ).loc Cert.DwOSibIdeal.main_v0) = v0 c
          ∧ r.2.mem ((c.tc : Thread Cert.DwOSibIdeal.nD Cert.DwOSibIdeal.τ).loc Cert.DwOSibIdeal.main_arg0) = m ((c.tc : Thread Cert.DwOSibIdeal.nD Cert.DwOSibIdeal.τ).loc Cert.DwOSibIdeal.main_arg0)
          ∧ r.2.mem ((c.tc : Thread Cert.DwOSibIdeal.nD Cert.DwOSibIdeal.τ).loc Cert.DwOSibIdeal.main_arg1) = m ((c.tc : Thread Cert.DwOSibIdeal.nD Cert.DwOSibIdeal.τ).loc Cert.DwOSibIdeal.main_arg1)
          ∧ r.2.mem ((c.tc : Thread Cert.DwOSibIdeal.nD Cert.DwOSibIdeal.τ).loc Cert.DwOSibIdeal.main_arg2) = m ((c.tc : Thread Cert.DwOSibIdeal.nD Cert.DwOSibIdeal.τ).loc Cert.DwOSibIdeal.main_arg2)
          ∧ r.2.mem ((c.tc : Thread Cert.DwOSibIdeal.nD Cert.DwOSibIdeal.τ).loc Cert.DwOSibIdeal.main_arg3) = m ((c.tc : Thread Cert.DwOSibIdeal.nD Cert.DwOSibIdeal.τ).loc Cert.DwOSibIdeal.main_arg3))
      ∧ θ_run (Cert.DwOSibRefIdeal.defs (F := Ideal)) (onTc (τ := Cert.DwOSibRefIdeal.τ) (Cert.DwOSibRefIdeal.main (F := Ideal))) ⟨m', fun _ => 0, g'⟩ (fun r => ∀ c : Dev Cert.DwOSibRefIdeal.nD,
          r.2.mem ((c.tc : Thread Cert.DwOSibRefIdeal.nD Cert.DwOSibRefIdeal.τ).loc Cert.DwOSibRefIdeal.main_v10) = v0 c
          ∧ r.2.mem ((c.tc : Thread Cert.DwOSibRefIdeal.nD Cert.DwOSibRefIdeal.τ).loc Cert.DwOSibRefIdeal.main_arg0) = m' ((c.tc : Thread Cert.DwOSibRefIdeal.nD Cert.DwOSibRefIdeal.τ).loc Cert.DwOSibRefIdeal.main_arg0)
          ∧ r.2.mem ((c.tc : Thread Cert.DwOSibRefIdeal.nD Cert.DwOSibRefIdeal.τ).loc Cert.DwOSibRefIdeal.main_arg1) = m' ((c.tc : Thread Cert.DwOSibRefIdeal.nD Cert.DwOSibRefIdeal.τ).loc Cert.DwOSibRefIdeal.main_arg1)
          ∧ r.2.mem ((c.tc : Thread Cert.DwOSibRefIdeal.nD Cert.DwOSibRefIdeal.τ).loc Cert.DwOSibRefIdeal.main_arg2) = m' ((c.tc : Thread Cert.DwOSibRefIdeal.nD Cert.DwOSibRefIdeal.τ).loc Cert.DwOSibRefIdeal.main_arg2)
          ∧ r.2.mem ((c.tc : Thread Cert.DwOSibRefIdeal.nD Cert.DwOSibRefIdeal.τ).loc Cert.DwOSibRefIdeal.main_arg3) = m' ((c.tc : Thread Cert.DwOSibRefIdeal.nD Cert.DwOSibRefIdeal.τ).loc Cert.DwOSibRefIdeal.main_arg3))

def preserves_DwOOwn_DwOOwnIdeal : Prop :=
  True

def algebraic_DwOOwnIdeal_DwOOwnRefIdeal [hDwOOwnIdeal : Cert.DwOOwnIdeal.Facts] [hDwOOwnRefIdeal : Cert.DwOOwnRefIdeal.Facts] [hPre_core_dw_o_own : Cert.Pre_core_dw_o_own.Facts] : Prop :=
  ∀ (m : (ℓ : Loc Cert.DwOOwnIdeal.nD Cert.DwOOwnIdeal.τ Cert.DwOOwnIdeal.sig) → Buf (Elt Ideal) ℓ) (g : Dev Cert.DwOOwnIdeal.nD → PrngReg)
    (m' : (ℓ : Loc Cert.DwOOwnRefIdeal.nD Cert.DwOOwnRefIdeal.τ Cert.DwOOwnRefIdeal.sig) → Buf (Elt Ideal) ℓ) (g' : Dev Cert.DwOOwnRefIdeal.nD → PrngReg), Pre_DwOOwnIdeal m →
    (∀ c : Dev Cert.DwOOwnIdeal.nD,
      m' ((c.tc : Thread Cert.DwOOwnRefIdeal.nD Cert.DwOOwnRefIdeal.τ).loc Cert.DwOOwnRefIdeal.main_arg0) = m ((c.tc : Thread Cert.DwOOwnIdeal.nD Cert.DwOOwnIdeal.τ).loc Cert.DwOOwnIdeal.main_arg0)
      ∧ m' ((c.tc : Thread Cert.DwOOwnRefIdeal.nD Cert.DwOOwnRefIdeal.τ).loc Cert.DwOOwnRefIdeal.main_arg1) = m ((c.tc : Thread Cert.DwOOwnIdeal.nD Cert.DwOOwnIdeal.τ).loc Cert.DwOOwnIdeal.main_arg1)
      ∧ m' ((c.tc : Thread Cert.DwOOwnRefIdeal.nD Cert.DwOOwnRefIdeal.τ).loc Cert.DwOOwnRefIdeal.main_arg2) = m ((c.tc : Thread Cert.DwOOwnIdeal.nD Cert.DwOOwnIdeal.τ).loc Cert.DwOOwnIdeal.main_arg2)
      ∧ m' ((c.tc : Thread Cert.DwOOwnRefIdeal.nD Cert.DwOOwnRefIdeal.τ).loc Cert.DwOOwnRefIdeal.main_arg3) = m ((c.tc : Thread Cert.DwOOwnIdeal.nD Cert.DwOOwnIdeal.τ).loc Cert.DwOOwnIdeal.main_arg3)) →
    ∃ (v0 : (c : Dev Cert.DwOOwnIdeal.nD) → Buf (Elt Ideal) ((c.tc : Thread Cert.DwOOwnIdeal.nD Cert.DwOOwnIdeal.τ).loc Cert.DwOOwnIdeal.main_v0)),
      θ_run (Cert.DwOOwnIdeal.defs (F := Ideal)) (onTc (τ := Cert.DwOOwnIdeal.τ) (Cert.DwOOwnIdeal.main (F := Ideal))) ⟨m, fun _ => 0, g⟩ (fun r => ∀ c : Dev Cert.DwOOwnIdeal.nD,
          r.2.mem ((c.tc : Thread Cert.DwOOwnIdeal.nD Cert.DwOOwnIdeal.τ).loc Cert.DwOOwnIdeal.main_v0) = v0 c
          ∧ r.2.mem ((c.tc : Thread Cert.DwOOwnIdeal.nD Cert.DwOOwnIdeal.τ).loc Cert.DwOOwnIdeal.main_arg0) = m ((c.tc : Thread Cert.DwOOwnIdeal.nD Cert.DwOOwnIdeal.τ).loc Cert.DwOOwnIdeal.main_arg0)
          ∧ r.2.mem ((c.tc : Thread Cert.DwOOwnIdeal.nD Cert.DwOOwnIdeal.τ).loc Cert.DwOOwnIdeal.main_arg1) = m ((c.tc : Thread Cert.DwOOwnIdeal.nD Cert.DwOOwnIdeal.τ).loc Cert.DwOOwnIdeal.main_arg1)
          ∧ r.2.mem ((c.tc : Thread Cert.DwOOwnIdeal.nD Cert.DwOOwnIdeal.τ).loc Cert.DwOOwnIdeal.main_arg2) = m ((c.tc : Thread Cert.DwOOwnIdeal.nD Cert.DwOOwnIdeal.τ).loc Cert.DwOOwnIdeal.main_arg2)
          ∧ r.2.mem ((c.tc : Thread Cert.DwOOwnIdeal.nD Cert.DwOOwnIdeal.τ).loc Cert.DwOOwnIdeal.main_arg3) = m ((c.tc : Thread Cert.DwOOwnIdeal.nD Cert.DwOOwnIdeal.τ).loc Cert.DwOOwnIdeal.main_arg3))
      ∧ θ_run (Cert.DwOOwnRefIdeal.defs (F := Ideal)) (onTc (τ := Cert.DwOOwnRefIdeal.τ) (Cert.DwOOwnRefIdeal.main (F := Ideal))) ⟨m', fun _ => 0, g'⟩ (fun r => ∀ c : Dev Cert.DwOOwnRefIdeal.nD,
          r.2.mem ((c.tc : Thread Cert.DwOOwnRefIdeal.nD Cert.DwOOwnRefIdeal.τ).loc Cert.DwOOwnRefIdeal.main_v12) = v0 c
          ∧ r.2.mem ((c.tc : Thread Cert.DwOOwnRefIdeal.nD Cert.DwOOwnRefIdeal.τ).loc Cert.DwOOwnRefIdeal.main_arg0) = m' ((c.tc : Thread Cert.DwOOwnRefIdeal.nD Cert.DwOOwnRefIdeal.τ).loc Cert.DwOOwnRefIdeal.main_arg0)
          ∧ r.2.mem ((c.tc : Thread Cert.DwOOwnRefIdeal.nD Cert.DwOOwnRefIdeal.τ).loc Cert.DwOOwnRefIdeal.main_arg1) = m' ((c.tc : Thread Cert.DwOOwnRefIdeal.nD Cert.DwOOwnRefIdeal.τ).loc Cert.DwOOwnRefIdeal.main_arg1)
          ∧ r.2.mem ((c.tc : Thread Cert.DwOOwnRefIdeal.nD Cert.DwOOwnRefIdeal.τ).loc Cert.DwOOwnRefIdeal.main_arg2) = m' ((c.tc : Thread Cert.DwOOwnRefIdeal.nD Cert.DwOOwnRefIdeal.τ).loc Cert.DwOOwnRefIdeal.main_arg2)
          ∧ r.2.mem ((c.tc : Thread Cert.DwOOwnRefIdeal.nD Cert.DwOOwnRefIdeal.τ).loc Cert.DwOOwnRefIdeal.main_arg3) = m' ((c.tc : Thread Cert.DwOOwnRefIdeal.nD Cert.DwOOwnRefIdeal.τ).loc Cert.DwOOwnRefIdeal.main_arg3))

def preserves_DwKSib_DwKSibIdeal : Prop :=
  True

def algebraic_DwKSibIdeal_DwKSibRefIdeal [hDwKSibIdeal : Cert.DwKSibIdeal.Facts] [hDwKSibRefIdeal : Cert.DwKSibRefIdeal.Facts] [hPre_core_dw_k_sib : Cert.Pre_core_dw_k_sib.Facts] : Prop :=
  ∀ (m : (ℓ : Loc Cert.DwKSibIdeal.nD Cert.DwKSibIdeal.τ Cert.DwKSibIdeal.sig) → Buf (Elt Ideal) ℓ) (g : Dev Cert.DwKSibIdeal.nD → PrngReg)
    (m' : (ℓ : Loc Cert.DwKSibRefIdeal.nD Cert.DwKSibRefIdeal.τ Cert.DwKSibRefIdeal.sig) → Buf (Elt Ideal) ℓ) (g' : Dev Cert.DwKSibRefIdeal.nD → PrngReg), Pre_DwKSibIdeal m →
    (∀ c : Dev Cert.DwKSibIdeal.nD,
      m' ((c.tc : Thread Cert.DwKSibRefIdeal.nD Cert.DwKSibRefIdeal.τ).loc Cert.DwKSibRefIdeal.main_arg0) = m ((c.tc : Thread Cert.DwKSibIdeal.nD Cert.DwKSibIdeal.τ).loc Cert.DwKSibIdeal.main_arg0)
      ∧ m' ((c.tc : Thread Cert.DwKSibRefIdeal.nD Cert.DwKSibRefIdeal.τ).loc Cert.DwKSibRefIdeal.main_arg1) = m ((c.tc : Thread Cert.DwKSibIdeal.nD Cert.DwKSibIdeal.τ).loc Cert.DwKSibIdeal.main_arg1)
      ∧ m' ((c.tc : Thread Cert.DwKSibRefIdeal.nD Cert.DwKSibRefIdeal.τ).loc Cert.DwKSibRefIdeal.main_arg2) = m ((c.tc : Thread Cert.DwKSibIdeal.nD Cert.DwKSibIdeal.τ).loc Cert.DwKSibIdeal.main_arg2)
      ∧ m' ((c.tc : Thread Cert.DwKSibRefIdeal.nD Cert.DwKSibRefIdeal.τ).loc Cert.DwKSibRefIdeal.main_arg3) = m ((c.tc : Thread Cert.DwKSibIdeal.nD Cert.DwKSibIdeal.τ).loc Cert.DwKSibIdeal.main_arg3)) →
    ∃ (v0 : (c : Dev Cert.DwKSibIdeal.nD) → Buf (Elt Ideal) ((c.tc : Thread Cert.DwKSibIdeal.nD Cert.DwKSibIdeal.τ).loc Cert.DwKSibIdeal.main_v0)),
      θ_run (Cert.DwKSibIdeal.defs (F := Ideal)) (onTc (τ := Cert.DwKSibIdeal.τ) (Cert.DwKSibIdeal.main (F := Ideal))) ⟨m, fun _ => 0, g⟩ (fun r => ∀ c : Dev Cert.DwKSibIdeal.nD,
          r.2.mem ((c.tc : Thread Cert.DwKSibIdeal.nD Cert.DwKSibIdeal.τ).loc Cert.DwKSibIdeal.main_v0) = v0 c
          ∧ r.2.mem ((c.tc : Thread Cert.DwKSibIdeal.nD Cert.DwKSibIdeal.τ).loc Cert.DwKSibIdeal.main_arg0) = m ((c.tc : Thread Cert.DwKSibIdeal.nD Cert.DwKSibIdeal.τ).loc Cert.DwKSibIdeal.main_arg0)
          ∧ r.2.mem ((c.tc : Thread Cert.DwKSibIdeal.nD Cert.DwKSibIdeal.τ).loc Cert.DwKSibIdeal.main_arg1) = m ((c.tc : Thread Cert.DwKSibIdeal.nD Cert.DwKSibIdeal.τ).loc Cert.DwKSibIdeal.main_arg1)
          ∧ r.2.mem ((c.tc : Thread Cert.DwKSibIdeal.nD Cert.DwKSibIdeal.τ).loc Cert.DwKSibIdeal.main_arg2) = m ((c.tc : Thread Cert.DwKSibIdeal.nD Cert.DwKSibIdeal.τ).loc Cert.DwKSibIdeal.main_arg2)
          ∧ r.2.mem ((c.tc : Thread Cert.DwKSibIdeal.nD Cert.DwKSibIdeal.τ).loc Cert.DwKSibIdeal.main_arg3) = m ((c.tc : Thread Cert.DwKSibIdeal.nD Cert.DwKSibIdeal.τ).loc Cert.DwKSibIdeal.main_arg3))
      ∧ θ_run (Cert.DwKSibRefIdeal.defs (F := Ideal)) (onTc (τ := Cert.DwKSibRefIdeal.τ) (Cert.DwKSibRefIdeal.main (F := Ideal))) ⟨m', fun _ => 0, g'⟩ (fun r => ∀ c : Dev Cert.DwKSibRefIdeal.nD,
          r.2.mem ((c.tc : Thread Cert.DwKSibRefIdeal.nD Cert.DwKSibRefIdeal.τ).loc Cert.DwKSibRefIdeal.main_v10) = v0 c
          ∧ r.2.mem ((c.tc : Thread Cert.DwKSibRefIdeal.nD Cert.DwKSibRefIdeal.τ).loc Cert.DwKSibRefIdeal.main_arg0) = m' ((c.tc : Thread Cert.DwKSibRefIdeal.nD Cert.DwKSibRefIdeal.τ).loc Cert.DwKSibRefIdeal.main_arg0)
          ∧ r.2.mem ((c.tc : Thread Cert.DwKSibRefIdeal.nD Cert.DwKSibRefIdeal.τ).loc Cert.DwKSibRefIdeal.main_arg1) = m' ((c.tc : Thread Cert.DwKSibRefIdeal.nD Cert.DwKSibRefIdeal.τ).loc Cert.DwKSibRefIdeal.main_arg1)
          ∧ r.2.mem ((c.tc : Thread Cert.DwKSibRefIdeal.nD Cert.DwKSibRefIdeal.τ).loc Cert.DwKSibRefIdeal.main_arg2) = m' ((c.tc : Thread Cert.DwKSibRefIdeal.nD Cert.DwKSibRefIdeal.τ).loc Cert.DwKSibRefIdeal.main_arg2)
          ∧ r.2.mem ((c.tc : Thread Cert.DwKSibRefIdeal.nD Cert.DwKSibRefIdeal.τ).loc Cert.DwKSibRefIdeal.main_arg3) = m' ((c.tc : Thread Cert.DwKSibRefIdeal.nD Cert.DwKSibRefIdeal.τ).loc Cert.DwKSibRefIdeal.main_arg3))

def preserves_DwKOwn_DwKOwnIdeal : Prop :=
  True

def algebraic_DwKOwnIdeal_DwKOwnRefIdeal [hDwKOwnIdeal : Cert.DwKOwnIdeal.Facts] [hDwKOwnRefIdeal : Cert.DwKOwnRefIdeal.Facts] [hPre_core_dw_k_own : Cert.Pre_core_dw_k_own.Facts] : Prop :=
  ∀ (m : (ℓ : Loc Cert.DwKOwnIdeal.nD Cert.DwKOwnIdeal.τ Cert.DwKOwnIdeal.sig) → Buf (Elt Ideal) ℓ) (g : Dev Cert.DwKOwnIdeal.nD → PrngReg)
    (m' : (ℓ : Loc Cert.DwKOwnRefIdeal.nD Cert.DwKOwnRefIdeal.τ Cert.DwKOwnRefIdeal.sig) → Buf (Elt Ideal) ℓ) (g' : Dev Cert.DwKOwnRefIdeal.nD → PrngReg), Pre_DwKOwnIdeal m →
    (∀ c : Dev Cert.DwKOwnIdeal.nD,
      m' ((c.tc : Thread Cert.DwKOwnRefIdeal.nD Cert.DwKOwnRefIdeal.τ).loc Cert.DwKOwnRefIdeal.main_arg0) = m ((c.tc : Thread Cert.DwKOwnIdeal.nD Cert.DwKOwnIdeal.τ).loc Cert.DwKOwnIdeal.main_arg0)
      ∧ m' ((c.tc : Thread Cert.DwKOwnRefIdeal.nD Cert.DwKOwnRefIdeal.τ).loc Cert.DwKOwnRefIdeal.main_arg1) = m ((c.tc : Thread Cert.DwKOwnIdeal.nD Cert.DwKOwnIdeal.τ).loc Cert.DwKOwnIdeal.main_arg1)
      ∧ m' ((c.tc : Thread Cert.DwKOwnRefIdeal.nD Cert.DwKOwnRefIdeal.τ).loc Cert.DwKOwnRefIdeal.main_arg2) = m ((c.tc : Thread Cert.DwKOwnIdeal.nD Cert.DwKOwnIdeal.τ).loc Cert.DwKOwnIdeal.main_arg2)
      ∧ m' ((c.tc : Thread Cert.DwKOwnRefIdeal.nD Cert.DwKOwnRefIdeal.τ).loc Cert.DwKOwnRefIdeal.main_arg3) = m ((c.tc : Thread Cert.DwKOwnIdeal.nD Cert.DwKOwnIdeal.τ).loc Cert.DwKOwnIdeal.main_arg3)) →
    ∃ (v0 : (c : Dev Cert.DwKOwnIdeal.nD) → Buf (Elt Ideal) ((c.tc : Thread Cert.DwKOwnIdeal.nD Cert.DwKOwnIdeal.τ).loc Cert.DwKOwnIdeal.main_v0)),
      θ_run (Cert.DwKOwnIdeal.defs (F := Ideal)) (onTc (τ := Cert.DwKOwnIdeal.τ) (Cert.DwKOwnIdeal.main (F := Ideal))) ⟨m, fun _ => 0, g⟩ (fun r => ∀ c : Dev Cert.DwKOwnIdeal.nD,
          r.2.mem ((c.tc : Thread Cert.DwKOwnIdeal.nD Cert.DwKOwnIdeal.τ).loc Cert.DwKOwnIdeal.main_v0) = v0 c
          ∧ r.2.mem ((c.tc : Thread Cert.DwKOwnIdeal.nD Cert.DwKOwnIdeal.τ).loc Cert.DwKOwnIdeal.main_arg0) = m ((c.tc : Thread Cert.DwKOwnIdeal.nD Cert.DwKOwnIdeal.τ).loc Cert.DwKOwnIdeal.main_arg0)
          ∧ r.2.mem ((c.tc : Thread Cert.DwKOwnIdeal.nD Cert.DwKOwnIdeal.τ).loc Cert.DwKOwnIdeal.main_arg1) = m ((c.tc : Thread Cert.DwKOwnIdeal.nD Cert.DwKOwnIdeal.τ).loc Cert.DwKOwnIdeal.main_arg1)
          ∧ r.2.mem ((c.tc : Thread Cert.DwKOwnIdeal.nD Cert.DwKOwnIdeal.τ).loc Cert.DwKOwnIdeal.main_arg2) = m ((c.tc : Thread Cert.DwKOwnIdeal.nD Cert.DwKOwnIdeal.τ).loc Cert.DwKOwnIdeal.main_arg2)
          ∧ r.2.mem ((c.tc : Thread Cert.DwKOwnIdeal.nD Cert.DwKOwnIdeal.τ).loc Cert.DwKOwnIdeal.main_arg3) = m ((c.tc : Thread Cert.DwKOwnIdeal.nD Cert.DwKOwnIdeal.τ).loc Cert.DwKOwnIdeal.main_arg3))
      ∧ θ_run (Cert.DwKOwnRefIdeal.defs (F := Ideal)) (onTc (τ := Cert.DwKOwnRefIdeal.τ) (Cert.DwKOwnRefIdeal.main (F := Ideal))) ⟨m', fun _ => 0, g'⟩ (fun r => ∀ c : Dev Cert.DwKOwnRefIdeal.nD,
          r.2.mem ((c.tc : Thread Cert.DwKOwnRefIdeal.nD Cert.DwKOwnRefIdeal.τ).loc Cert.DwKOwnRefIdeal.main_v12) = v0 c
          ∧ r.2.mem ((c.tc : Thread Cert.DwKOwnRefIdeal.nD Cert.DwKOwnRefIdeal.τ).loc Cert.DwKOwnRefIdeal.main_arg0) = m' ((c.tc : Thread Cert.DwKOwnRefIdeal.nD Cert.DwKOwnRefIdeal.τ).loc Cert.DwKOwnRefIdeal.main_arg0)
          ∧ r.2.mem ((c.tc : Thread Cert.DwKOwnRefIdeal.nD Cert.DwKOwnRefIdeal.τ).loc Cert.DwKOwnRefIdeal.main_arg1) = m' ((c.tc : Thread Cert.DwKOwnRefIdeal.nD Cert.DwKOwnRefIdeal.τ).loc Cert.DwKOwnRefIdeal.main_arg1)
          ∧ r.2.mem ((c.tc : Thread Cert.DwKOwnRefIdeal.nD Cert.DwKOwnRefIdeal.τ).loc Cert.DwKOwnRefIdeal.main_arg2) = m' ((c.tc : Thread Cert.DwKOwnRefIdeal.nD Cert.DwKOwnRefIdeal.τ).loc Cert.DwKOwnRefIdeal.main_arg2)
          ∧ r.2.mem ((c.tc : Thread Cert.DwKOwnRefIdeal.nD Cert.DwKOwnRefIdeal.τ).loc Cert.DwKOwnRefIdeal.main_arg3) = m' ((c.tc : Thread Cert.DwKOwnRefIdeal.nD Cert.DwKOwnRefIdeal.τ).loc Cert.DwKOwnRefIdeal.main_arg3))

def preserves_DwGateSib_DwGateSibIdeal : Prop :=
  True

def algebraic_DwGateSibIdeal_DwGateSibRefIdeal [hDwGateSibIdeal : Cert.DwGateSibIdeal.Facts] [hDwGateSibRefIdeal : Cert.DwGateSibRefIdeal.Facts] [hPre_core_dw_gate_sib : Cert.Pre_core_dw_gate_sib.Facts] : Prop :=
  ∀ (m : (ℓ : Loc Cert.DwGateSibIdeal.nD Cert.DwGateSibIdeal.τ Cert.DwGateSibIdeal.sig) → Buf (Elt Ideal) ℓ) (g : Dev Cert.DwGateSibIdeal.nD → PrngReg)
    (m' : (ℓ : Loc Cert.DwGateSibRefIdeal.nD Cert.DwGateSibRefIdeal.τ Cert.DwGateSibRefIdeal.sig) → Buf (Elt Ideal) ℓ) (g' : Dev Cert.DwGateSibRefIdeal.nD → PrngReg), Pre_DwGateSibIdeal m →
    (∀ c : Dev Cert.DwGateSibIdeal.nD,
      m' ((c.tc : Thread Cert.DwGateSibRefIdeal.nD Cert.DwGateSibRefIdeal.τ).loc Cert.DwGateSibRefIdeal.main_arg0) = m ((c.tc : Thread Cert.DwGateSibIdeal.nD Cert.DwGateSibIdeal.τ).loc Cert.DwGateSibIdeal.main_arg0)
      ∧ m' ((c.tc : Thread Cert.DwGateSibRefIdeal.nD Cert.DwGateSibRefIdeal.τ).loc Cert.DwGateSibRefIdeal.main_arg1) = m ((c.tc : Thread Cert.DwGateSibIdeal.nD Cert.DwGateSibIdeal.τ).loc Cert.DwGateSibIdeal.main_arg1)
      ∧ m' ((c.tc : Thread Cert.DwGateSibRefIdeal.nD Cert.DwGateSibRefIdeal.τ).loc Cert.DwGateSibRefIdeal.main_arg2) = m ((c.tc : Thread Cert.DwGateSibIdeal.nD Cert.DwGateSibIdeal.τ).loc Cert.DwGateSibIdeal.main_arg2)
      ∧ m' ((c.tc : Thread Cert.DwGateSibRefIdeal.nD Cert.DwGateSibRefIdeal.τ).loc Cert.DwGateSibRefIdeal.main_arg3) = m ((c.tc : Thread Cert.DwGateSibIdeal.nD Cert.DwGateSibIdeal.τ).loc Cert.DwGateSibIdeal.main_arg3)) →
    ∃ (v0 : (c : Dev Cert.DwGateSibIdeal.nD) → Buf (Elt Ideal) ((c.tc : Thread Cert.DwGateSibIdeal.nD Cert.DwGateSibIdeal.τ).loc Cert.DwGateSibIdeal.main_v0)),
      θ_run (Cert.DwGateSibIdeal.defs (F := Ideal)) (onTc (τ := Cert.DwGateSibIdeal.τ) (Cert.DwGateSibIdeal.main (F := Ideal))) ⟨m, fun _ => 0, g⟩ (fun r => ∀ c : Dev Cert.DwGateSibIdeal.nD,
          r.2.mem ((c.tc : Thread Cert.DwGateSibIdeal.nD Cert.DwGateSibIdeal.τ).loc Cert.DwGateSibIdeal.main_v0) = v0 c
          ∧ r.2.mem ((c.tc : Thread Cert.DwGateSibIdeal.nD Cert.DwGateSibIdeal.τ).loc Cert.DwGateSibIdeal.main_arg0) = m ((c.tc : Thread Cert.DwGateSibIdeal.nD Cert.DwGateSibIdeal.τ).loc Cert.DwGateSibIdeal.main_arg0)
          ∧ r.2.mem ((c.tc : Thread Cert.DwGateSibIdeal.nD Cert.DwGateSibIdeal.τ).loc Cert.DwGateSibIdeal.main_arg1) = m ((c.tc : Thread Cert.DwGateSibIdeal.nD Cert.DwGateSibIdeal.τ).loc Cert.DwGateSibIdeal.main_arg1)
          ∧ r.2.mem ((c.tc : Thread Cert.DwGateSibIdeal.nD Cert.DwGateSibIdeal.τ).loc Cert.DwGateSibIdeal.main_arg2) = m ((c.tc : Thread Cert.DwGateSibIdeal.nD Cert.DwGateSibIdeal.τ).loc Cert.DwGateSibIdeal.main_arg2)
          ∧ r.2.mem ((c.tc : Thread Cert.DwGateSibIdeal.nD Cert.DwGateSibIdeal.τ).loc Cert.DwGateSibIdeal.main_arg3) = m ((c.tc : Thread Cert.DwGateSibIdeal.nD Cert.DwGateSibIdeal.τ).loc Cert.DwGateSibIdeal.main_arg3))
      ∧ θ_run (Cert.DwGateSibRefIdeal.defs (F := Ideal)) (onTc (τ := Cert.DwGateSibRefIdeal.τ) (Cert.DwGateSibRefIdeal.main (F := Ideal))) ⟨m', fun _ => 0, g'⟩ (fun r => ∀ c : Dev Cert.DwGateSibRefIdeal.nD,
          r.2.mem ((c.tc : Thread Cert.DwGateSibRefIdeal.nD Cert.DwGateSibRefIdeal.τ).loc Cert.DwGateSibRefIdeal.main_v12) = v0 c
          ∧ r.2.mem ((c.tc : Thread Cert.DwGateSibRefIdeal.nD Cert.DwGateSibRefIdeal.τ).loc Cert.DwGateSibRefIdeal.main_arg0) = m' ((c.tc : Thread Cert.DwGateSibRefIdeal.nD Cert.DwGateSibRefIdeal.τ).loc Cert.DwGateSibRefIdeal.main_arg0)
          ∧ r.2.mem ((c.tc : Thread Cert.DwGateSibRefIdeal.nD Cert.DwGateSibRefIdeal.τ).loc Cert.DwGateSibRefIdeal.main_arg1) = m' ((c.tc : Thread Cert.DwGateSibRefIdeal.nD Cert.DwGateSibRefIdeal.τ).loc Cert.DwGateSibRefIdeal.main_arg1)
          ∧ r.2.mem ((c.tc : Thread Cert.DwGateSibRefIdeal.nD Cert.DwGateSibRefIdeal.τ).loc Cert.DwGateSibRefIdeal.main_arg2) = m' ((c.tc : Thread Cert.DwGateSibRefIdeal.nD Cert.DwGateSibRefIdeal.τ).loc Cert.DwGateSibRefIdeal.main_arg2)
          ∧ r.2.mem ((c.tc : Thread Cert.DwGateSibRefIdeal.nD Cert.DwGateSibRefIdeal.τ).loc Cert.DwGateSibRefIdeal.main_arg3) = m' ((c.tc : Thread Cert.DwGateSibRefIdeal.nD Cert.DwGateSibRefIdeal.τ).loc Cert.DwGateSibRefIdeal.main_arg3))

def preserves_DwGateOwn_DwGateOwnIdeal : Prop :=
  True

def algebraic_DwGateOwnIdeal_DwGateOwnRefIdeal [hDwGateOwnIdeal : Cert.DwGateOwnIdeal.Facts] [hDwGateOwnRefIdeal : Cert.DwGateOwnRefIdeal.Facts] [hPre_core_dw_gate_own : Cert.Pre_core_dw_gate_own.Facts] : Prop :=
  ∀ (m : (ℓ : Loc Cert.DwGateOwnIdeal.nD Cert.DwGateOwnIdeal.τ Cert.DwGateOwnIdeal.sig) → Buf (Elt Ideal) ℓ) (g : Dev Cert.DwGateOwnIdeal.nD → PrngReg)
    (m' : (ℓ : Loc Cert.DwGateOwnRefIdeal.nD Cert.DwGateOwnRefIdeal.τ Cert.DwGateOwnRefIdeal.sig) → Buf (Elt Ideal) ℓ) (g' : Dev Cert.DwGateOwnRefIdeal.nD → PrngReg), Pre_DwGateOwnIdeal m →
    (∀ c : Dev Cert.DwGateOwnIdeal.nD,
      m' ((c.tc : Thread Cert.DwGateOwnRefIdeal.nD Cert.DwGateOwnRefIdeal.τ).loc Cert.DwGateOwnRefIdeal.main_arg0) = m ((c.tc : Thread Cert.DwGateOwnIdeal.nD Cert.DwGateOwnIdeal.τ).loc Cert.DwGateOwnIdeal.main_arg0)
      ∧ m' ((c.tc : Thread Cert.DwGateOwnRefIdeal.nD Cert.DwGateOwnRefIdeal.τ).loc Cert.DwGateOwnRefIdeal.main_arg1) = m ((c.tc : Thread Cert.DwGateOwnIdeal.nD Cert.DwGateOwnIdeal.τ).loc Cert.DwGateOwnIdeal.main_arg1)
      ∧ m' ((c.tc : Thread Cert.DwGateOwnRefIdeal.nD Cert.DwGateOwnRefIdeal.τ).loc Cert.DwGateOwnRefIdeal.main_arg2) = m ((c.tc : Thread Cert.DwGateOwnIdeal.nD Cert.DwGateOwnIdeal.τ).loc Cert.DwGateOwnIdeal.main_arg2)
      ∧ m' ((c.tc : Thread Cert.DwGateOwnRefIdeal.nD Cert.DwGateOwnRefIdeal.τ).loc Cert.DwGateOwnRefIdeal.main_arg3) = m ((c.tc : Thread Cert.DwGateOwnIdeal.nD Cert.DwGateOwnIdeal.τ).loc Cert.DwGateOwnIdeal.main_arg3)) →
    ∃ (v0 : (c : Dev Cert.DwGateOwnIdeal.nD) → Buf (Elt Ideal) ((c.tc : Thread Cert.DwGateOwnIdeal.nD Cert.DwGateOwnIdeal.τ).loc Cert.DwGateOwnIdeal.main_v0)),
      θ_run (Cert.DwGateOwnIdeal.defs (F := Ideal)) (onTc (τ := Cert.DwGateOwnIdeal.τ) (Cert.DwGateOwnIdeal.main (F := Ideal))) ⟨m, fun _ => 0, g⟩ (fun r => ∀ c : Dev Cert.DwGateOwnIdeal.nD,
          r.2.mem ((c.tc : Thread Cert.DwGateOwnIdeal.nD Cert.DwGateOwnIdeal.τ).loc Cert.DwGateOwnIdeal.main_v0) = v0 c
          ∧ r.2.mem ((c.tc : Thread Cert.DwGateOwnIdeal.nD Cert.DwGateOwnIdeal.τ).loc Cert.DwGateOwnIdeal.main_arg0) = m ((c.tc : Thread Cert.DwGateOwnIdeal.nD Cert.DwGateOwnIdeal.τ).loc Cert.DwGateOwnIdeal.main_arg0)
          ∧ r.2.mem ((c.tc : Thread Cert.DwGateOwnIdeal.nD Cert.DwGateOwnIdeal.τ).loc Cert.DwGateOwnIdeal.main_arg1) = m ((c.tc : Thread Cert.DwGateOwnIdeal.nD Cert.DwGateOwnIdeal.τ).loc Cert.DwGateOwnIdeal.main_arg1)
          ∧ r.2.mem ((c.tc : Thread Cert.DwGateOwnIdeal.nD Cert.DwGateOwnIdeal.τ).loc Cert.DwGateOwnIdeal.main_arg2) = m ((c.tc : Thread Cert.DwGateOwnIdeal.nD Cert.DwGateOwnIdeal.τ).loc Cert.DwGateOwnIdeal.main_arg2)
          ∧ r.2.mem ((c.tc : Thread Cert.DwGateOwnIdeal.nD Cert.DwGateOwnIdeal.τ).loc Cert.DwGateOwnIdeal.main_arg3) = m ((c.tc : Thread Cert.DwGateOwnIdeal.nD Cert.DwGateOwnIdeal.τ).loc Cert.DwGateOwnIdeal.main_arg3))
      ∧ θ_run (Cert.DwGateOwnRefIdeal.defs (F := Ideal)) (onTc (τ := Cert.DwGateOwnRefIdeal.τ) (Cert.DwGateOwnRefIdeal.main (F := Ideal))) ⟨m', fun _ => 0, g'⟩ (fun r => ∀ c : Dev Cert.DwGateOwnRefIdeal.nD,
          r.2.mem ((c.tc : Thread Cert.DwGateOwnRefIdeal.nD Cert.DwGateOwnRefIdeal.τ).loc Cert.DwGateOwnRefIdeal.main_v14) = v0 c
          ∧ r.2.mem ((c.tc : Thread Cert.DwGateOwnRefIdeal.nD Cert.DwGateOwnRefIdeal.τ).loc Cert.DwGateOwnRefIdeal.main_arg0) = m' ((c.tc : Thread Cert.DwGateOwnRefIdeal.nD Cert.DwGateOwnRefIdeal.τ).loc Cert.DwGateOwnRefIdeal.main_arg0)
          ∧ r.2.mem ((c.tc : Thread Cert.DwGateOwnRefIdeal.nD Cert.DwGateOwnRefIdeal.τ).loc Cert.DwGateOwnRefIdeal.main_arg1) = m' ((c.tc : Thread Cert.DwGateOwnRefIdeal.nD Cert.DwGateOwnRefIdeal.τ).loc Cert.DwGateOwnRefIdeal.main_arg1)
          ∧ r.2.mem ((c.tc : Thread Cert.DwGateOwnRefIdeal.nD Cert.DwGateOwnRefIdeal.τ).loc Cert.DwGateOwnRefIdeal.main_arg2) = m' ((c.tc : Thread Cert.DwGateOwnRefIdeal.nD Cert.DwGateOwnRefIdeal.τ).loc Cert.DwGateOwnRefIdeal.main_arg2)
          ∧ r.2.mem ((c.tc : Thread Cert.DwGateOwnRefIdeal.nD Cert.DwGateOwnRefIdeal.τ).loc Cert.DwGateOwnRefIdeal.main_arg3) = m' ((c.tc : Thread Cert.DwGateOwnRefIdeal.nD Cert.DwGateOwnRefIdeal.τ).loc Cert.DwGateOwnRefIdeal.main_arg3))

def preserves_DwDownSib_DwDownSibIdeal : Prop :=
  True

def algebraic_DwDownSibIdeal_DwDownSibRefIdeal [hDwDownSibIdeal : Cert.DwDownSibIdeal.Facts] [hDwDownSibRefIdeal : Cert.DwDownSibRefIdeal.Facts] [hPre_core_dw_down_sib : Cert.Pre_core_dw_down_sib.Facts] : Prop :=
  ∀ (m : (ℓ : Loc Cert.DwDownSibIdeal.nD Cert.DwDownSibIdeal.τ Cert.DwDownSibIdeal.sig) → Buf (Elt Ideal) ℓ) (g : Dev Cert.DwDownSibIdeal.nD → PrngReg)
    (m' : (ℓ : Loc Cert.DwDownSibRefIdeal.nD Cert.DwDownSibRefIdeal.τ Cert.DwDownSibRefIdeal.sig) → Buf (Elt Ideal) ℓ) (g' : Dev Cert.DwDownSibRefIdeal.nD → PrngReg), Pre_DwDownSibIdeal m →
    (∀ c : Dev Cert.DwDownSibIdeal.nD,
      m' ((c.tc : Thread Cert.DwDownSibRefIdeal.nD Cert.DwDownSibRefIdeal.τ).loc Cert.DwDownSibRefIdeal.main_arg0) = m ((c.tc : Thread Cert.DwDownSibIdeal.nD Cert.DwDownSibIdeal.τ).loc Cert.DwDownSibIdeal.main_arg0)
      ∧ m' ((c.tc : Thread Cert.DwDownSibRefIdeal.nD Cert.DwDownSibRefIdeal.τ).loc Cert.DwDownSibRefIdeal.main_arg1) = m ((c.tc : Thread Cert.DwDownSibIdeal.nD Cert.DwDownSibIdeal.τ).loc Cert.DwDownSibIdeal.main_arg1)
      ∧ m' ((c.tc : Thread Cert.DwDownSibRefIdeal.nD Cert.DwDownSibRefIdeal.τ).loc Cert.DwDownSibRefIdeal.main_arg2) = m ((c.tc : Thread Cert.DwDownSibIdeal.nD Cert.DwDownSibIdeal.τ).loc Cert.DwDownSibIdeal.main_arg2)
      ∧ m' ((c.tc : Thread Cert.DwDownSibRefIdeal.nD Cert.DwDownSibRefIdeal.τ).loc Cert.DwDownSibRefIdeal.main_arg3) = m ((c.tc : Thread Cert.DwDownSibIdeal.nD Cert.DwDownSibIdeal.τ).loc Cert.DwDownSibIdeal.main_arg3)) →
    ∃ (v0 : (c : Dev Cert.DwDownSibIdeal.nD) → Buf (Elt Ideal) ((c.tc : Thread Cert.DwDownSibIdeal.nD Cert.DwDownSibIdeal.τ).loc Cert.DwDownSibIdeal.main_v0)),
      θ_run (Cert.DwDownSibIdeal.defs (F := Ideal)) (onTc (τ := Cert.DwDownSibIdeal.τ) (Cert.DwDownSibIdeal.main (F := Ideal))) ⟨m, fun _ => 0, g⟩ (fun r => ∀ c : Dev Cert.DwDownSibIdeal.nD,
          r.2.mem ((c.tc : Thread Cert.DwDownSibIdeal.nD Cert.DwDownSibIdeal.τ).loc Cert.DwDownSibIdeal.main_v0) = v0 c
          ∧ r.2.mem ((c.tc : Thread Cert.DwDownSibIdeal.nD Cert.DwDownSibIdeal.τ).loc Cert.DwDownSibIdeal.main_arg0) = m ((c.tc : Thread Cert.DwDownSibIdeal.nD Cert.DwDownSibIdeal.τ).loc Cert.DwDownSibIdeal.main_arg0)
          ∧ r.2.mem ((c.tc : Thread Cert.DwDownSibIdeal.nD Cert.DwDownSibIdeal.τ).loc Cert.DwDownSibIdeal.main_arg1) = m ((c.tc : Thread Cert.DwDownSibIdeal.nD Cert.DwDownSibIdeal.τ).loc Cert.DwDownSibIdeal.main_arg1)
          ∧ r.2.mem ((c.tc : Thread Cert.DwDownSibIdeal.nD Cert.DwDownSibIdeal.τ).loc Cert.DwDownSibIdeal.main_arg2) = m ((c.tc : Thread Cert.DwDownSibIdeal.nD Cert.DwDownSibIdeal.τ).loc Cert.DwDownSibIdeal.main_arg2)
          ∧ r.2.mem ((c.tc : Thread Cert.DwDownSibIdeal.nD Cert.DwDownSibIdeal.τ).loc Cert.DwDownSibIdeal.main_arg3) = m ((c.tc : Thread Cert.DwDownSibIdeal.nD Cert.DwDownSibIdeal.τ).loc Cert.DwDownSibIdeal.main_arg3))
      ∧ θ_run (Cert.DwDownSibRefIdeal.defs (F := Ideal)) (onTc (τ := Cert.DwDownSibRefIdeal.τ) (Cert.DwDownSibRefIdeal.main (F := Ideal))) ⟨m', fun _ => 0, g'⟩ (fun r => ∀ c : Dev Cert.DwDownSibRefIdeal.nD,
          r.2.mem ((c.tc : Thread Cert.DwDownSibRefIdeal.nD Cert.DwDownSibRefIdeal.τ).loc Cert.DwDownSibRefIdeal.main_v10) = v0 c
          ∧ r.2.mem ((c.tc : Thread Cert.DwDownSibRefIdeal.nD Cert.DwDownSibRefIdeal.τ).loc Cert.DwDownSibRefIdeal.main_arg0) = m' ((c.tc : Thread Cert.DwDownSibRefIdeal.nD Cert.DwDownSibRefIdeal.τ).loc Cert.DwDownSibRefIdeal.main_arg0)
          ∧ r.2.mem ((c.tc : Thread Cert.DwDownSibRefIdeal.nD Cert.DwDownSibRefIdeal.τ).loc Cert.DwDownSibRefIdeal.main_arg1) = m' ((c.tc : Thread Cert.DwDownSibRefIdeal.nD Cert.DwDownSibRefIdeal.τ).loc Cert.DwDownSibRefIdeal.main_arg1)
          ∧ r.2.mem ((c.tc : Thread Cert.DwDownSibRefIdeal.nD Cert.DwDownSibRefIdeal.τ).loc Cert.DwDownSibRefIdeal.main_arg2) = m' ((c.tc : Thread Cert.DwDownSibRefIdeal.nD Cert.DwDownSibRefIdeal.τ).loc Cert.DwDownSibRefIdeal.main_arg2)
          ∧ r.2.mem ((c.tc : Thread Cert.DwDownSibRefIdeal.nD Cert.DwDownSibRefIdeal.τ).loc Cert.DwDownSibRefIdeal.main_arg3) = m' ((c.tc : Thread Cert.DwDownSibRefIdeal.nD Cert.DwDownSibRefIdeal.τ).loc Cert.DwDownSibRefIdeal.main_arg3))

def preserves_DwDownOwn_DwDownOwnIdeal : Prop :=
  True

def algebraic_DwDownOwnIdeal_DwDownOwnRefIdeal [hDwDownOwnIdeal : Cert.DwDownOwnIdeal.Facts] [hDwDownOwnRefIdeal : Cert.DwDownOwnRefIdeal.Facts] [hPre_core_dw_down_own : Cert.Pre_core_dw_down_own.Facts] : Prop :=
  ∀ (m : (ℓ : Loc Cert.DwDownOwnIdeal.nD Cert.DwDownOwnIdeal.τ Cert.DwDownOwnIdeal.sig) → Buf (Elt Ideal) ℓ) (g : Dev Cert.DwDownOwnIdeal.nD → PrngReg)
    (m' : (ℓ : Loc Cert.DwDownOwnRefIdeal.nD Cert.DwDownOwnRefIdeal.τ Cert.DwDownOwnRefIdeal.sig) → Buf (Elt Ideal) ℓ) (g' : Dev Cert.DwDownOwnRefIdeal.nD → PrngReg), Pre_DwDownOwnIdeal m →
    (∀ c : Dev Cert.DwDownOwnIdeal.nD,
      m' ((c.tc : Thread Cert.DwDownOwnRefIdeal.nD Cert.DwDownOwnRefIdeal.τ).loc Cert.DwDownOwnRefIdeal.main_arg0) = m ((c.tc : Thread Cert.DwDownOwnIdeal.nD Cert.DwDownOwnIdeal.τ).loc Cert.DwDownOwnIdeal.main_arg0)
      ∧ m' ((c.tc : Thread Cert.DwDownOwnRefIdeal.nD Cert.DwDownOwnRefIdeal.τ).loc Cert.DwDownOwnRefIdeal.main_arg1) = m ((c.tc : Thread Cert.DwDownOwnIdeal.nD Cert.DwDownOwnIdeal.τ).loc Cert.DwDownOwnIdeal.main_arg1)
      ∧ m' ((c.tc : Thread Cert.DwDownOwnRefIdeal.nD Cert.DwDownOwnRefIdeal.τ).loc Cert.DwDownOwnRefIdeal.main_arg2) = m ((c.tc : Thread Cert.DwDownOwnIdeal.nD Cert.DwDownOwnIdeal.τ).loc Cert.DwDownOwnIdeal.main_arg2)
      ∧ m' ((c.tc : Thread Cert.DwDownOwnRefIdeal.nD Cert.DwDownOwnRefIdeal.τ).loc Cert.DwDownOwnRefIdeal.main_arg3) = m ((c.tc : Thread Cert.DwDownOwnIdeal.nD Cert.DwDownOwnIdeal.τ).loc Cert.DwDownOwnIdeal.main_arg3)) →
    ∃ (v0 : (c : Dev Cert.DwDownOwnIdeal.nD) → Buf (Elt Ideal) ((c.tc : Thread Cert.DwDownOwnIdeal.nD Cert.DwDownOwnIdeal.τ).loc Cert.DwDownOwnIdeal.main_v0)),
      θ_run (Cert.DwDownOwnIdeal.defs (F := Ideal)) (onTc (τ := Cert.DwDownOwnIdeal.τ) (Cert.DwDownOwnIdeal.main (F := Ideal))) ⟨m, fun _ => 0, g⟩ (fun r => ∀ c : Dev Cert.DwDownOwnIdeal.nD,
          r.2.mem ((c.tc : Thread Cert.DwDownOwnIdeal.nD Cert.DwDownOwnIdeal.τ).loc Cert.DwDownOwnIdeal.main_v0) = v0 c
          ∧ r.2.mem ((c.tc : Thread Cert.DwDownOwnIdeal.nD Cert.DwDownOwnIdeal.τ).loc Cert.DwDownOwnIdeal.main_arg0) = m ((c.tc : Thread Cert.DwDownOwnIdeal.nD Cert.DwDownOwnIdeal.τ).loc Cert.DwDownOwnIdeal.main_arg0)
          ∧ r.2.mem ((c.tc : Thread Cert.DwDownOwnIdeal.nD Cert.DwDownOwnIdeal.τ).loc Cert.DwDownOwnIdeal.main_arg1) = m ((c.tc : Thread Cert.DwDownOwnIdeal.nD Cert.DwDownOwnIdeal.τ).loc Cert.DwDownOwnIdeal.main_arg1)
          ∧ r.2.mem ((c.tc : Thread Cert.DwDownOwnIdeal.nD Cert.DwDownOwnIdeal.τ).loc Cert.DwDownOwnIdeal.main_arg2) = m ((c.tc : Thread Cert.DwDownOwnIdeal.nD Cert.DwDownOwnIdeal.τ).loc Cert.DwDownOwnIdeal.main_arg2)
          ∧ r.2.mem ((c.tc : Thread Cert.DwDownOwnIdeal.nD Cert.DwDownOwnIdeal.τ).loc Cert.DwDownOwnIdeal.main_arg3) = m ((c.tc : Thread Cert.DwDownOwnIdeal.nD Cert.DwDownOwnIdeal.τ).loc Cert.DwDownOwnIdeal.main_arg3))
      ∧ θ_run (Cert.DwDownOwnRefIdeal.defs (F := Ideal)) (onTc (τ := Cert.DwDownOwnRefIdeal.τ) (Cert.DwDownOwnRefIdeal.main (F := Ideal))) ⟨m', fun _ => 0, g'⟩ (fun r => ∀ c : Dev Cert.DwDownOwnRefIdeal.nD,
          r.2.mem ((c.tc : Thread Cert.DwDownOwnRefIdeal.nD Cert.DwDownOwnRefIdeal.τ).loc Cert.DwDownOwnRefIdeal.main_v12) = v0 c
          ∧ r.2.mem ((c.tc : Thread Cert.DwDownOwnRefIdeal.nD Cert.DwDownOwnRefIdeal.τ).loc Cert.DwDownOwnRefIdeal.main_arg0) = m' ((c.tc : Thread Cert.DwDownOwnRefIdeal.nD Cert.DwDownOwnRefIdeal.τ).loc Cert.DwDownOwnRefIdeal.main_arg0)
          ∧ r.2.mem ((c.tc : Thread Cert.DwDownOwnRefIdeal.nD Cert.DwDownOwnRefIdeal.τ).loc Cert.DwDownOwnRefIdeal.main_arg1) = m' ((c.tc : Thread Cert.DwDownOwnRefIdeal.nD Cert.DwDownOwnRefIdeal.τ).loc Cert.DwDownOwnRefIdeal.main_arg1)
          ∧ r.2.mem ((c.tc : Thread Cert.DwDownOwnRefIdeal.nD Cert.DwDownOwnRefIdeal.τ).loc Cert.DwDownOwnRefIdeal.main_arg2) = m' ((c.tc : Thread Cert.DwDownOwnRefIdeal.nD Cert.DwDownOwnRefIdeal.τ).loc Cert.DwDownOwnRefIdeal.main_arg2)
          ∧ r.2.mem ((c.tc : Thread Cert.DwDownOwnRefIdeal.nD Cert.DwDownOwnRefIdeal.τ).loc Cert.DwDownOwnRefIdeal.main_arg3) = m' ((c.tc : Thread Cert.DwDownOwnRefIdeal.nD Cert.DwDownOwnRefIdeal.τ).loc Cert.DwDownOwnRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)
      ∧ m' ((c.tc : Thread Cert.MmInRefIdeal.nD Cert.MmInRefIdeal.τ).loc Cert.MmInRefIdeal.main_arg2) = m ((c.tc : Thread Cert.MmInIdeal.nD Cert.MmInIdeal.τ).loc Cert.MmInIdeal.main_arg2)) →
    ∃ (v0 : (c : Dev Cert.MmInIdeal.nD) → Buf (Elt Ideal) ((c.tc : Thread Cert.MmInIdeal.nD Cert.MmInIdeal.τ).loc Cert.MmInIdeal.main_v1)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v1) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
          ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v3) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1)
          ∧ r.2.mem ((c.tc : Thread Cert.MmInRefIdeal.nD Cert.MmInRefIdeal.τ).loc Cert.MmInRefIdeal.main_arg2) = m' ((c.tc : Thread Cert.MmInRefIdeal.nD Cert.MmInRefIdeal.τ).loc Cert.MmInRefIdeal.main_arg2))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v0)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v3) = v0 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3))

def preserves_MmQ_MmQIdeal : Prop :=
  True

def algebraic_MmQIdeal_MmQRefIdeal [hMmQIdeal : Cert.MmQIdeal.Facts] [hMmQRefIdeal : Cert.MmQRefIdeal.Facts] : Prop :=
  ∀ (m : (ℓ : Loc Cert.MmQIdeal.nD Cert.MmQIdeal.τ Cert.MmQIdeal.sig) → Buf (Elt Ideal) ℓ) (g : Dev Cert.MmQIdeal.nD → PrngReg)
    (m' : (ℓ : Loc Cert.MmQRefIdeal.nD Cert.MmQRefIdeal.τ Cert.MmQRefIdeal.sig) → Buf (Elt Ideal) ℓ) (g' : Dev Cert.MmQRefIdeal.nD → PrngReg), Pre_MmQIdeal m →
    (∀ c : Dev Cert.MmQIdeal.nD,
      m' ((c.tc : Thread Cert.MmQRefIdeal.nD Cert.MmQRefIdeal.τ).loc Cert.MmQRefIdeal.main_arg0) = m ((c.tc : Thread Cert.MmQIdeal.nD Cert.MmQIdeal.τ).loc Cert.MmQIdeal.main_arg0)
      ∧ m' ((c.tc : Thread Cert.MmQRefIdeal.nD Cert.MmQRefIdeal.τ).loc Cert.MmQRefIdeal.main_arg1) = m ((c.tc : Thread Cert.MmQIdeal.nD Cert.MmQIdeal.τ).loc Cert.MmQIdeal.main_arg1)
      ∧ m' ((c.tc : Thread Cert.MmQRefIdeal.nD Cert.MmQRefIdeal.τ).loc Cert.MmQRefIdeal.main_arg2) = m ((c.tc : Thread Cert.MmQIdeal.nD Cert.MmQIdeal.τ).loc Cert.MmQIdeal.main_arg2)) →
    ∃ (v0 : (c : Dev Cert.MmQIdeal.nD) → Buf (Elt Ideal) ((c.tc : Thread Cert.MmQIdeal.nD Cert.MmQIdeal.τ).loc Cert.MmQIdeal.main_v0)),
      θ_run (Cert.MmQIdeal.defs (F := Ideal)) (onTc (τ := Cert.MmQIdeal.τ) (Cert.MmQIdeal.main (F := Ideal))) ⟨m, fun _ => 0, g⟩ (fun r => ∀ c : Dev Cert.MmQIdeal.nD,
          r.2.mem ((c.tc : Thread Cert.MmQIdeal.nD Cert.MmQIdeal.τ).loc Cert.MmQIdeal.main_v0) = v0 c
          ∧ r.2.mem ((c.tc : Thread Cert.MmQIdeal.nD Cert.MmQIdeal.τ).loc Cert.MmQIdeal.main_arg0) = m ((c.tc : Thread Cert.MmQIdeal.nD Cert.MmQIdeal.τ).loc Cert.MmQIdeal.main_arg0)
          ∧ r.2.mem ((c.tc : Thread Cert.MmQIdeal.nD Cert.MmQIdeal.τ).loc Cert.MmQIdeal.main_arg1) = m ((c.tc : Thread Cert.MmQIdeal.nD Cert.MmQIdeal.τ).loc Cert.MmQIdeal.main_arg1)
          ∧ r.2.mem ((c.tc : Thread Cert.MmQIdeal.nD Cert.MmQIdeal.τ).loc Cert.MmQIdeal.main_arg2) = m ((c.tc : Thread Cert.MmQIdeal.nD Cert.MmQIdeal.τ).loc Cert.MmQIdeal.main_arg2))
      ∧ θ_run (Cert.MmQRefIdeal.defs (F := Ideal)) (onTc (τ := Cert.MmQRefIdeal.τ) (Cert.MmQRefIdeal.main (F := Ideal))) ⟨m', fun _ => 0, g'⟩ (fun r => ∀ c : Dev Cert.MmQRefIdeal.nD,
          r.2.mem ((c.tc : Thread Cert.MmQRefIdeal.nD Cert.MmQRefIdeal.τ).loc Cert.MmQRefIdeal.main_v3) = v0 c
          ∧ r.2.mem ((c.tc : Thread Cert.MmQRefIdeal.nD Cert.MmQRefIdeal.τ).loc Cert.MmQRefIdeal.main_arg0) = m' ((c.tc : Thread Cert.MmQRefIdeal.nD Cert.MmQRefIdeal.τ).loc Cert.MmQRefIdeal.main_arg0)
          ∧ r.2.mem ((c.tc : Thread Cert.MmQRefIdeal.nD Cert.MmQRefIdeal.τ).loc Cert.MmQRefIdeal.main_arg1) = m' ((c.tc : Thread Cert.MmQRefIdeal.nD Cert.MmQRefIdeal.τ).loc Cert.MmQRefIdeal.main_arg1)
          ∧ r.2.mem ((c.tc : Thread Cert.MmQRefIdeal.nD Cert.MmQRefIdeal.τ).loc Cert.MmQRefIdeal.main_arg2) = m' ((c.tc : Thread Cert.MmQRefIdeal.nD Cert.MmQRefIdeal.τ).loc Cert.MmQRefIdeal.main_arg2))

def preserves_MmK_MmKIdeal : Prop :=
  True

def algebraic_MmKIdeal_MmKRefIdeal [hMmKIdeal : Cert.MmKIdeal.Facts] [hMmKRefIdeal : Cert.MmKRefIdeal.Facts] : Prop :=
  ∀ (m : (ℓ : Loc Cert.MmKIdeal.nD Cert.MmKIdeal.τ Cert.MmKIdeal.sig) → Buf (Elt Ideal) ℓ) (g : Dev Cert.MmKIdeal.nD → PrngReg)
    (m' : (ℓ : Loc Cert.MmKRefIdeal.nD Cert.MmKRefIdeal.τ Cert.MmKRefIdeal.sig) → Buf (Elt Ideal) ℓ) (g' : Dev Cert.MmKRefIdeal.nD → PrngReg), Pre_MmKIdeal m →
    (∀ c : Dev Cert.MmKIdeal.nD,
      m' ((c.tc : Thread Cert.MmKRefIdeal.nD Cert.MmKRefIdeal.τ).loc Cert.MmKRefIdeal.main_arg0) = m ((c.tc : Thread Cert.MmKIdeal.nD Cert.MmKIdeal.τ).loc Cert.MmKIdeal.main_arg0)
      ∧ m' ((c.tc : Thread Cert.MmKRefIdeal.nD Cert.MmKRefIdeal.τ).loc Cert.MmKRefIdeal.main_arg1) = m ((c.tc : Thread Cert.MmKIdeal.nD Cert.MmKIdeal.τ).loc Cert.MmKIdeal.main_arg1)) →
    ∃ (v0 : (c : Dev Cert.MmKIdeal.nD) → Buf (Elt Ideal) ((c.tc : Thread Cert.MmKIdeal.nD Cert.MmKIdeal.τ).loc Cert.MmKIdeal.main_v0)),
      θ_run (Cert.MmKIdeal.defs (F := Ideal)) (onTc (τ := Cert.MmKIdeal.τ) (Cert.MmKIdeal.main (F := Ideal))) ⟨m, fun _ => 0, g⟩ (fun r => ∀ c : Dev Cert.MmKIdeal.nD,
          r.2.mem ((c.tc : Thread Cert.MmKIdeal.nD Cert.MmKIdeal.τ).loc Cert.MmKIdeal.main_v0) = v0 c
          ∧ r.2.mem ((c.tc : Thread Cert.MmKIdeal.nD Cert.MmKIdeal.τ).loc Cert.MmKIdeal.main_arg0) = m ((c.tc : Thread Cert.MmKIdeal.nD Cert.MmKIdeal.τ).loc Cert.MmKIdeal.main_arg0)
          ∧ r.2.mem ((c.tc : Thread Cert.MmKIdeal.nD Cert.MmKIdeal.τ).loc Cert.MmKIdeal.main_arg1) = m ((c.tc : Thread Cert.MmKIdeal.nD Cert.MmKIdeal.τ).loc Cert.MmKIdeal.main_arg1))
      ∧ θ_run (Cert.MmKRefIdeal.defs (F := Ideal)) (onTc (τ := Cert.MmKRefIdeal.τ) (Cert.MmKRefIdeal.main (F := Ideal))) ⟨m', fun _ => 0, g'⟩ (fun r => ∀ c : Dev Cert.MmKRefIdeal.nD,
          r.2.mem ((c.tc : Thread Cert.MmKRefIdeal.nD Cert.MmKRefIdeal.τ).loc Cert.MmKRefIdeal.main_v3) = v0 c
          ∧ r.2.mem ((c.tc : Thread Cert.MmKRefIdeal.nD Cert.MmKRefIdeal.τ).loc Cert.MmKRefIdeal.main_arg0) = m' ((c.tc : Thread Cert.MmKRefIdeal.nD Cert.MmKRefIdeal.τ).loc Cert.MmKRefIdeal.main_arg0)
          ∧ r.2.mem ((c.tc : Thread Cert.MmKRefIdeal.nD Cert.MmKRefIdeal.τ).loc Cert.MmKRefIdeal.main_arg1) = m' ((c.tc : Thread Cert.MmKRefIdeal.nD Cert.MmKRefIdeal.τ).loc Cert.MmKRefIdeal.main_arg1))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v3) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v1)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v1) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v3) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_MmDxn1Lo_MmDxn1LoIdeal : Prop :=
  True

def algebraic_MmDxn1LoIdeal_MmDxn1LoRefIdeal_on_first_columns [hMmDxn1LoIdeal : Cert.MmDxn1LoIdeal.Facts] [hMmDxn1LoRefIdeal : Cert.MmDxn1LoRefIdeal.Facts] [hOn_first_columns : Cert.On_first_columns.Facts] : Prop :=
  ∀ (m : (ℓ : Loc Cert.MmDxn1LoIdeal.nD Cert.MmDxn1LoIdeal.τ Cert.MmDxn1LoIdeal.sig) → Buf (Elt Ideal) ℓ) (g : Dev Cert.MmDxn1LoIdeal.nD → PrngReg)
    (m' : (ℓ : Loc Cert.MmDxn1LoRefIdeal.nD Cert.MmDxn1LoRefIdeal.τ Cert.MmDxn1LoRefIdeal.sig) → Buf (Elt Ideal) ℓ) (g' : Dev Cert.MmDxn1LoRefIdeal.nD → PrngReg), Pre_MmDxn1LoIdeal m →
    (∀ c : Dev Cert.MmDxn1LoIdeal.nD,
      m' ((c.tc : Thread Cert.MmDxn1LoRefIdeal.nD Cert.MmDxn1LoRefIdeal.τ).loc Cert.MmDxn1LoRefIdeal.main_arg0) = m ((c.tc : Thread Cert.MmDxn1LoIdeal.nD Cert.MmDxn1LoIdeal.τ).loc Cert.MmDxn1LoIdeal.main_arg0)
      ∧ m' ((c.tc : Thread Cert.MmDxn1LoRefIdeal.nD Cert.MmDxn1LoRefIdeal.τ).loc Cert.MmDxn1LoRefIdeal.main_arg1) = m ((c.tc : Thread Cert.MmDxn1LoIdeal.nD Cert.MmDxn1LoIdeal.τ).loc Cert.MmDxn1LoIdeal.main_arg1)
      ∧ m' ((c.tc : Thread Cert.MmDxn1LoRefIdeal.nD Cert.MmDxn1LoRefIdeal.τ).loc Cert.MmDxn1LoRefIdeal.main_arg2) = m ((c.tc : Thread Cert.MmDxn1LoIdeal.nD Cert.MmDxn1LoIdeal.τ).loc Cert.MmDxn1LoIdeal.main_arg2)) →
    ∃ (v0 : (c : Dev Cert.MmDxn1LoIdeal.nD) → Buf (Elt Ideal) ((c.tc : Thread Cert.MmDxn1LoIdeal.nD Cert.MmDxn1LoIdeal.τ).loc Cert.MmDxn1LoIdeal.main_v0)),
      θ_run (Cert.MmDxn1LoIdeal.defs (F := Ideal)) (onTc (τ := Cert.MmDxn1LoIdeal.τ) (Cert.MmDxn1LoIdeal.main (F := Ideal))) ⟨m, fun _ => 0, g⟩ (fun r => ∀ c : Dev Cert.MmDxn1LoIdeal.nD,
          (∀ i : (⟨2, ![4096, 4096]⟩ : Shape).Idx, (Cert.On_first_columns.fn (F := Ideal) (m ((c.tc : Thread Cert.MmDxn1LoIdeal.nD Cert.MmDxn1LoIdeal.τ).loc Cert.MmDxn1LoIdeal.main_arg0)) (m ((c.tc : Thread Cert.MmDxn1LoIdeal.nD Cert.MmDxn1LoIdeal.τ).loc Cert.MmDxn1LoIdeal.main_arg1)) (m ((c.tc : Thread Cert.MmDxn1LoIdeal.nD Cert.MmDxn1LoIdeal.τ).loc Cert.MmDxn1LoIdeal.main_arg2))) i = 1#1 → r.2.mem ((c.tc : Thread Cert.MmDxn1LoIdeal.nD Cert.MmDxn1LoIdeal.τ).loc Cert.MmDxn1LoIdeal.main_v0) i = v0 c i)
          ∧ r.2.mem ((c.tc : Thread Cert.MmDxn1LoIdeal.nD Cert.MmDxn1LoIdeal.τ).loc Cert.MmDxn1LoIdeal.main_arg0) = m ((c.tc : Thread Cert.MmDxn1LoIdeal.nD Cert.MmDxn1LoIdeal.τ).loc Cert.MmDxn1LoIdeal.main_arg0)
          ∧ r.2.mem ((c.tc : Thread Cert.MmDxn1LoIdeal.nD Cert.MmDxn1LoIdeal.τ).loc Cert.MmDxn1LoIdeal.main_arg1) = m ((c.tc : Thread Cert.MmDxn1LoIdeal.nD Cert.MmDxn1LoIdeal.τ).loc Cert.MmDxn1LoIdeal.main_arg1)
          ∧ r.2.mem ((c.tc : Thread Cert.MmDxn1LoIdeal.nD Cert.MmDxn1LoIdeal.τ).loc Cert.MmDxn1LoIdeal.main_arg2) = m ((c.tc : Thread Cert.MmDxn1LoIdeal.nD Cert.MmDxn1LoIdeal.τ).loc Cert.MmDxn1LoIdeal.main_arg2))
      ∧ θ_run (Cert.MmDxn1LoRefIdeal.defs (F := Ideal)) (onTc (τ := Cert.MmDxn1LoRefIdeal.τ) (Cert.MmDxn1LoRefIdeal.main (F := Ideal))) ⟨m', fun _ => 0, g'⟩ (fun r => ∀ c : Dev Cert.MmDxn1LoRefIdeal.nD,
          (∀ i : (⟨2, ![4096, 4096]⟩ : Shape).Idx, (Cert.On_first_columns.fn (F := Ideal) (m ((c.tc : Thread Cert.MmDxn1LoIdeal.nD Cert.MmDxn1LoIdeal.τ).loc Cert.MmDxn1LoIdeal.main_arg0)) (m ((c.tc : Thread Cert.MmDxn1LoIdeal.nD Cert.MmDxn1LoIdeal.τ).loc Cert.MmDxn1LoIdeal.main_arg1)) (m ((c.tc : Thread Cert.MmDxn1LoIdeal.nD Cert.MmDxn1LoIdeal.τ).loc Cert.MmDxn1LoIdeal.main_arg2))) i = 1#1 → r.2.mem ((c.tc : Thread Cert.MmDxn1LoRefIdeal.nD Cert.MmDxn1LoRefIdeal.τ).loc Cert.MmDxn1LoRefIdeal.main_v6) i = v0 c i)
          ∧ r.2.mem ((c.tc : Thread Cert.MmDxn1LoRefIdeal.nD Cert.MmDxn1LoRefIdeal.τ).loc Cert.MmDxn1LoRefIdeal.main_arg0) = m' ((c.tc : Thread Cert.MmDxn1LoRefIdeal.nD Cert.MmDxn1LoRefIdeal.τ).loc Cert.MmDxn1LoRefIdeal.main_arg0)
          ∧ r.2.mem ((c.tc : Thread Cert.MmDxn1LoRefIdeal.nD Cert.MmDxn1LoRefIdeal.τ).loc Cert.MmDxn1LoRefIdeal.main_arg1) = m' ((c.tc : Thread Cert.MmDxn1LoRefIdeal.nD Cert.MmDxn1LoRefIdeal.τ).loc Cert.MmDxn1LoRefIdeal.main_arg1)
          ∧ r.2.mem ((c.tc : Thread Cert.MmDxn1LoRefIdeal.nD Cert.MmDxn1LoRefIdeal.τ).loc Cert.MmDxn1LoRefIdeal.main_arg2) = m' ((c.tc : Thread Cert.MmDxn1LoRefIdeal.nD Cert.MmDxn1LoRefIdeal.τ).loc Cert.MmDxn1LoRefIdeal.main_arg2))

def preserves_MmDxn1Hi_MmDxn1HiIdeal : Prop :=
  True

def algebraic_MmDxn1HiIdeal_MmDxn1HiRefIdeal [hMmDxn1HiIdeal : Cert.MmDxn1HiIdeal.Facts] [hMmDxn1HiRefIdeal : Cert.MmDxn1HiRefIdeal.Facts] : Prop :=
  ∀ (m : (ℓ : Loc Cert.MmDxn1HiIdeal.nD Cert.MmDxn1HiIdeal.τ Cert.MmDxn1HiIdeal.sig) → Buf (Elt Ideal) ℓ) (g : Dev Cert.MmDxn1HiIdeal.nD → PrngReg)
    (m' : (ℓ : Loc Cert.MmDxn1HiRefIdeal.nD Cert.MmDxn1HiRefIdeal.τ Cert.MmDxn1HiRefIdeal.sig) → Buf (Elt Ideal) ℓ) (g' : Dev Cert.MmDxn1HiRefIdeal.nD → PrngReg), Pre_MmDxn1HiIdeal m →
    (∀ c : Dev Cert.MmDxn1HiIdeal.nD,
      m' ((c.tc : Thread Cert.MmDxn1HiRefIdeal.nD Cert.MmDxn1HiRefIdeal.τ).loc Cert.MmDxn1HiRefIdeal.main_arg0) = m ((c.tc : Thread Cert.MmDxn1HiIdeal.nD Cert.MmDxn1HiIdeal.τ).loc Cert.MmDxn1HiIdeal.main_arg0)
      ∧ m' ((c.tc : Thread Cert.MmDxn1HiRefIdeal.nD Cert.MmDxn1HiRefIdeal.τ).loc Cert.MmDxn1HiRefIdeal.main_arg1) = m ((c.tc : Thread Cert.MmDxn1HiIdeal.nD Cert.MmDxn1HiIdeal.τ).loc Cert.MmDxn1HiIdeal.main_arg1)
      ∧ m' ((c.tc : Thread Cert.MmDxn1HiRefIdeal.nD Cert.MmDxn1HiRefIdeal.τ).loc Cert.MmDxn1HiRefIdeal.main_arg2) = m ((c.tc : Thread Cert.MmDxn1HiIdeal.nD Cert.MmDxn1HiIdeal.τ).loc Cert.MmDxn1HiIdeal.main_arg2)) →
    ∃ (v0 : (c : Dev Cert.MmDxn1HiIdeal.nD) → Buf (Elt Ideal) ((c.tc : Thread Cert.MmDxn1HiIdeal.nD Cert.MmDxn1HiIdeal.τ).loc Cert.MmDxn1HiIdeal.main_v0)),
      θ_run (Cert.MmDxn1HiIdeal.defs (F := Ideal)) (onTc (τ := Cert.MmDxn1HiIdeal.τ) (Cert.MmDxn1HiIdeal.main (F := Ideal))) ⟨m, fun _ => 0, g⟩ (fun r => ∀ c : Dev Cert.MmDxn1HiIdeal.nD,
          r.2.mem ((c.tc : Thread Cert.MmDxn1HiIdeal.nD Cert.MmDxn1HiIdeal.τ).loc Cert.MmDxn1HiIdeal.main_v0) = v0 c
          ∧ r.2.mem ((c.tc : Thread Cert.MmDxn1HiIdeal.nD Cert.MmDxn1HiIdeal.τ).loc Cert.MmDxn1HiIdeal.main_arg0) = m ((c.tc : Thread Cert.MmDxn1HiIdeal.nD Cert.MmDxn1HiIdeal.τ).loc Cert.MmDxn1HiIdeal.main_arg0)
          ∧ r.2.mem ((c.tc : Thread Cert.MmDxn1HiIdeal.nD Cert.MmDxn1HiIdeal.τ).loc Cert.MmDxn1HiIdeal.main_arg1) = m ((c.tc : Thread Cert.MmDxn1HiIdeal.nD Cert.MmDxn1HiIdeal.τ).loc Cert.MmDxn1HiIdeal.main_arg1)
          ∧ r.2.mem ((c.tc : Thread Cert.MmDxn1HiIdeal.nD Cert.MmDxn1HiIdeal.τ).loc Cert.MmDxn1HiIdeal.main_arg2) = m ((c.tc : Thread Cert.MmDxn1HiIdeal.nD Cert.MmDxn1HiIdeal.τ).loc Cert.MmDxn1HiIdeal.main_arg2))
      ∧ θ_run (Cert.MmDxn1HiRefIdeal.defs (F := Ideal)) (onTc (τ := Cert.MmDxn1HiRefIdeal.τ) (Cert.MmDxn1HiRefIdeal.main (F := Ideal))) ⟨m', fun _ => 0, g'⟩ (fun r => ∀ c : Dev Cert.MmDxn1HiRefIdeal.nD,
          r.2.mem ((c.tc : Thread Cert.MmDxn1HiRefIdeal.nD Cert.MmDxn1HiRefIdeal.τ).loc Cert.MmDxn1HiRefIdeal.main_v6) = v0 c
          ∧ r.2.mem ((c.tc : Thread Cert.MmDxn1HiRefIdeal.nD Cert.MmDxn1HiRefIdeal.τ).loc Cert.MmDxn1HiRefIdeal.main_arg0) = m' ((c.tc : Thread Cert.MmDxn1HiRefIdeal.nD Cert.MmDxn1HiRefIdeal.τ).loc Cert.MmDxn1HiRefIdeal.main_arg0)
          ∧ r.2.mem ((c.tc : Thread Cert.MmDxn1HiRefIdeal.nD Cert.MmDxn1HiRefIdeal.τ).loc Cert.MmDxn1HiRefIdeal.main_arg1) = m' ((c.tc : Thread Cert.MmDxn1HiRefIdeal.nD Cert.MmDxn1HiRefIdeal.τ).loc Cert.MmDxn1HiRefIdeal.main_arg1)
          ∧ r.2.mem ((c.tc : Thread Cert.MmDxn1HiRefIdeal.nD Cert.MmDxn1HiRefIdeal.τ).loc Cert.MmDxn1HiRefIdeal.main_arg2) = m' ((c.tc : Thread Cert.MmDxn1HiRefIdeal.nD Cert.MmDxn1HiRefIdeal.τ).loc Cert.MmDxn1HiRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_v8) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v26) = v0 c
          ∧ r.2.mem ((c.tc : Thread Cert.AdamInRefIdeal.nD Cert.AdamInRefIdeal.τ).loc Cert.AdamInRefIdeal.main_v7) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v3_0)) (v1 : (c : Dev Cert.AdamOIdeal.nD) → Buf (Elt Ideal) ((c.tc : Thread Cert.AdamOIdeal.nD Cert.AdamOIdeal.τ).loc Cert.AdamOIdeal.main_v3_1)) (v2 : (c : Dev Cert.AdamOIdeal.nD) → Buf (Elt Ideal) ((c.tc : Thread Cert.AdamOIdeal.nD Cert.AdamOIdeal.τ).loc Cert.AdamOIdeal.main_v3_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v3_0) = v0 c
          ∧ r.2.mem ((c.tc : Thread Cert.AdamOIdeal.nD Cert.AdamOIdeal.τ).loc Cert.AdamOIdeal.main_v3_1) = v1 c
          ∧ r.2.mem ((c.tc : Thread Cert.AdamOIdeal.nD Cert.AdamOIdeal.τ).loc Cert.AdamOIdeal.main_v3_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v26) = v0 c
          ∧ r.2.mem ((c.tc : Thread Cert.AdamORefIdeal.nD Cert.AdamORefIdeal.τ).loc Cert.AdamORefIdeal.main_v7) = v1 c
          ∧ r.2.mem ((c.tc : Thread Cert.AdamORefIdeal.nD Cert.AdamORefIdeal.τ).loc Cert.AdamORefIdeal.main_v13) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v27) = v0 c
          ∧ r.2.mem ((c.tc : Thread Cert.AdamDownRefIdeal.nD Cert.AdamDownRefIdeal.τ).loc Cert.AdamDownRefIdeal.main_v8) = v1 c
          ∧ r.2.mem ((c.tc : Thread Cert.AdamDownRefIdeal.nD Cert.AdamDownRefIdeal.τ).loc Cert.AdamDownRefIdeal.main_v14) = v2 c
          ∧ r.2.mem ((c.tc : Thread Cert.AdamDownRefIdeal.nD Cert.AdamDownRefIdeal.τ).loc Cert.AdamDownRefIdeal.main_v0) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v6_0)) (v1 : (c : Dev Cert.AdamGateIdeal.nD) → Buf (Elt Ideal) ((c.tc : Thread Cert.AdamGateIdeal.nD Cert.AdamGateIdeal.τ).loc Cert.AdamGateIdeal.main_v6_1)) (v2 : (c : Dev Cert.AdamGateIdeal.nD) → Buf (Elt Ideal) ((c.tc : Thread Cert.AdamGateIdeal.nD Cert.AdamGateIdeal.τ).loc Cert.AdamGateIdeal.main_v6_2)) (v3 : (c : Dev Cert.AdamGateIdeal.nD) → Buf (Elt Ideal) ((c.tc : Thread Cert.AdamGateIdeal.nD Cert.AdamGateIdeal.τ).loc Cert.AdamGateIdeal.main_v6_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v6_0) = v0 c
          ∧ r.2.mem ((c.tc : Thread Cert.AdamGateIdeal.nD Cert.AdamGateIdeal.τ).loc Cert.AdamGateIdeal.main_v6_1) = v1 c
          ∧ r.2.mem ((c.tc : Thread Cert.AdamGateIdeal.nD Cert.AdamGateIdeal.τ).loc Cert.AdamGateIdeal.main_v6_2) = v2 c
          ∧ r.2.mem ((c.tc : Thread Cert.AdamGateIdeal.nD Cert.AdamGateIdeal.τ).loc Cert.AdamGateIdeal.main_v6_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v30) = v0 c
          ∧ r.2.mem ((c.tc : Thread Cert.AdamGateRefIdeal.nD Cert.AdamGateRefIdeal.τ).loc Cert.AdamGateRefIdeal.main_v11) = v1 c
          ∧ r.2.mem ((c.tc : Thread Cert.AdamGateRefIdeal.nD Cert.AdamGateRefIdeal.τ).loc Cert.AdamGateRefIdeal.main_v17) = v2 c
          ∧ r.2.mem ((c.tc : Thread Cert.AdamGateRefIdeal.nD Cert.AdamGateRefIdeal.τ).loc Cert.AdamGateRefIdeal.main_v0) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_MixBFwd_MixBFwdIdeal : Prop :=
  True

def algebraic_MixBFwdIdeal_MixBFwdRefIdeal [hMixBFwdIdeal : Cert.MixBFwdIdeal.Facts] [hMixBFwdRefIdeal : Cert.MixBFwdRefIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg)
    (m' : (ℓ : Loc Cert.MixBFwdRefIdeal.nD Cert.MixBFwdRefIdeal.τ Cert.MixBFwdRefIdeal.sig) → Buf (Elt Ideal) ℓ) (g' : Dev Cert.MixBFwdRefIdeal.nD → PrngReg), Pre_MixBFwdIdeal m →
    (∀ c : Dev Cert.MixBFwdIdeal.nD,
      m' ((c.tc : Thread Cert.MixBFwdRefIdeal.nD Cert.MixBFwdRefIdeal.τ).loc Cert.MixBFwdRefIdeal.main_arg0) = m ((c.tc : Thread Cert.MixBFwdIdeal.nD Cert.MixBFwdIdeal.τ).loc Cert.MixBFwdIdeal.main_arg0)
      ∧ m' ((c.tc : Thread Cert.MixBFwdRefIdeal.nD Cert.MixBFwdRefIdeal.τ).loc Cert.MixBFwdRefIdeal.main_arg1) = m ((c.tc : Thread Cert.MixBFwdIdeal.nD Cert.MixBFwdIdeal.τ).loc Cert.MixBFwdIdeal.main_arg1)) →
    ∃ (v0 : (c : Dev Cert.MixBFwdIdeal.nD) → Buf (Elt Ideal) ((c.tc : Thread Cert.MixBFwdIdeal.nD Cert.MixBFwdIdeal.τ).loc Cert.MixBFwdIdeal.main_v2)),
      θ_run (Cert.MixBFwdIdeal.defs (F := Ideal)) (onTc (τ := Cert.MixBFwdIdeal.τ) (Cert.MixBFwdIdeal.main (F := Ideal))) ⟨m, fun _ => 0, g⟩ (fun r => ∀ c : Dev Cert.MixBFwdIdeal.nD,
          r.2.mem ((c.tc : Thread Cert.MixBFwdIdeal.nD Cert.MixBFwdIdeal.τ).loc Cert.MixBFwdIdeal.main_v2) = v0 c
          ∧ r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
          ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1))
      ∧ θ_run (Cert.MixBFwdRefIdeal.defs (F := Ideal)) (onTc (τ := Cert.MixBFwdRefIdeal.τ) (Cert.MixBFwdRefIdeal.main (F := Ideal))) ⟨m', fun _ => 0, g'⟩ (fun r => ∀ c : Dev Cert.MixBFwdRefIdeal.nD,
          r.2.mem ((c.tc : Thread Cert.MixBFwdRefIdeal.nD Cert.MixBFwdRefIdeal.τ).loc Cert.MixBFwdRefIdeal.main_v30) = v0 c
          ∧ r.2.mem ((c.tc : Thread Cert.MixBFwdRefIdeal.nD Cert.MixBFwdRefIdeal.τ).loc Cert.MixBFwdRefIdeal.main_arg0) = m' ((c.tc : Thread Cert.MixBFwdRefIdeal.nD Cert.MixBFwdRefIdeal.τ).loc Cert.MixBFwdRefIdeal.main_arg0)
          ∧ r.2.mem ((c.tc : Thread Cert.MixBFwdRefIdeal.nD Cert.MixBFwdRefIdeal.τ).loc Cert.MixBFwdRefIdeal.main_arg1) = m' ((c.tc : Thread Cert.MixBFwdRefIdeal.nD Cert.MixBFwdRefIdeal.τ).loc Cert.MixBFwdRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)) →
    ∃ (v0 : (c : Dev Cert.AdamSmallIdeal.nD) → Buf (Elt Ideal) ((c.tc : Thread Cert.AdamSmallIdeal.nD Cert.AdamSmallIdeal.τ).loc Cert.AdamSmallIdeal.main_v48_0)) (v1 : (c : Dev Cert.AdamSmallIdeal.nD) → Buf (Elt Ideal) ((c.tc : Thread Cert.AdamSmallIdeal.nD Cert.AdamSmallIdeal.τ).loc Cert.AdamSmallIdeal.main_v48_1)) (v2 : (c : Dev Cert.AdamSmallIdeal.nD) → Buf (Elt Ideal) ((c.tc : Thread Cert.AdamSmallIdeal.nD Cert.AdamSmallIdeal.τ).loc Cert.AdamSmallIdeal.main_v48_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v48_0) = v0 c
          ∧ r.2.mem ((c.tc : Thread Cert.AdamSmallIdeal.nD Cert.AdamSmallIdeal.τ).loc Cert.AdamSmallIdeal.main_v48_1) = v1 c
          ∧ r.2.mem ((c.tc : Thread Cert.AdamSmallIdeal.nD Cert.AdamSmallIdeal.τ).loc Cert.AdamSmallIdeal.main_v48_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v275) = v0 c
          ∧ r.2.mem ((c.tc : Thread Cert.AdamSmallRefIdeal.nD Cert.AdamSmallRefIdeal.τ).loc Cert.AdamSmallRefIdeal.main_v286) = v1 c
          ∧ r.2.mem ((c.tc : Thread Cert.AdamSmallRefIdeal.nD Cert.AdamSmallRefIdeal.τ).loc Cert.AdamSmallRefIdeal.main_v297) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43))

def Claim : Prop :=
  ∃ (hAttn : Cert.Attn.Facts) (hAttnIdeal : Cert.AttnIdeal.Facts) (hAttnRefIdeal : Cert.AttnRefIdeal.Facts) (hMixB : Cert.MixB.Facts) (hMixBIdeal : Cert.MixBIdeal.Facts) (hMixBRefIdeal : Cert.MixBRefIdeal.Facts) (hFfn : Cert.Ffn.Facts) (hFfnIdeal : Cert.FfnIdeal.Facts) (hFfnRefIdeal : Cert.FfnRefIdeal.Facts) (hMmDf : Cert.MmDf.Facts) (hMmDfIdeal : Cert.MmDfIdeal.Facts) (hMmDfRefIdeal : Cert.MmDfRefIdeal.Facts) (hMmDxn3 : Cert.MmDxn3.Facts) (hMmDxn3Ideal : Cert.MmDxn3Ideal.Facts) (hMmDxn3RefIdeal : Cert.MmDxn3RefIdeal.Facts) (hMmDo : Cert.MmDo.Facts) (hMmDoIdeal : Cert.MmDoIdeal.Facts) (hMmDoRefIdeal : Cert.MmDoRefIdeal.Facts) (hMmDxn2 : Cert.MmDxn2.Facts) (hMmDxn2Ideal : Cert.MmDxn2Ideal.Facts) (hMmDxn2RefIdeal : Cert.MmDxn2RefIdeal.Facts) (hMmDmem : Cert.MmDmem.Facts) (hMmDmemIdeal : Cert.MmDmemIdeal.Facts) (hMmDmemRefIdeal : Cert.MmDmemRefIdeal.Facts) (hDwInSib : Cert.DwInSib.Facts) (hDwInSibIdeal : Cert.DwInSibIdeal.Facts) (hDwInSibRefIdeal : Cert.DwInSibRefIdeal.Facts) (hDwInOwn : Cert.DwInOwn.Facts) (hDwInOwnIdeal : Cert.DwInOwnIdeal.Facts) (hDwInOwnRefIdeal : Cert.DwInOwnRefIdeal.Facts) (hDwOSib : Cert.DwOSib.Facts) (hDwOSibIdeal : Cert.DwOSibIdeal.Facts) (hDwOSibRefIdeal : Cert.DwOSibRefIdeal.Facts) (hDwOOwn : Cert.DwOOwn.Facts) (hDwOOwnIdeal : Cert.DwOOwnIdeal.Facts) (hDwOOwnRefIdeal : Cert.DwOOwnRefIdeal.Facts) (hDwKSib : Cert.DwKSib.Facts) (hDwKSibIdeal : Cert.DwKSibIdeal.Facts) (hDwKSibRefIdeal : Cert.DwKSibRefIdeal.Facts) (hDwKOwn : Cert.DwKOwn.Facts) (hDwKOwnIdeal : Cert.DwKOwnIdeal.Facts) (hDwKOwnRefIdeal : Cert.DwKOwnRefIdeal.Facts) (hDwGateSib : Cert.DwGateSib.Facts) (hDwGateSibIdeal : Cert.DwGateSibIdeal.Facts) (hDwGateSibRefIdeal : Cert.DwGateSibRefIdeal.Facts) (hDwGateOwn : Cert.DwGateOwn.Facts) (hDwGateOwnIdeal : Cert.DwGateOwnIdeal.Facts) (hDwGateOwnRefIdeal : Cert.DwGateOwnRefIdeal.Facts) (hDwDownSib : Cert.DwDownSib.Facts) (hDwDownSibIdeal : Cert.DwDownSibIdeal.Facts) (hDwDownSibRefIdeal : Cert.DwDownSibRefIdeal.Facts) (hDwDownOwn : Cert.DwDownOwn.Facts) (hDwDownOwnIdeal : Cert.DwDownOwnIdeal.Facts) (hDwDownOwnRefIdeal : Cert.DwDownOwnRefIdeal.Facts) (hMmIn : Cert.MmIn.Facts) (hMmInIdeal : Cert.MmInIdeal.Facts) (hMmInRefIdeal : Cert.MmInRefIdeal.Facts) (hMmOut : Cert.MmOut.Facts) (hMmOutIdeal : Cert.MmOutIdeal.Facts) (hMmOutRefIdeal : Cert.MmOutRefIdeal.Facts) (hMmQ : Cert.MmQ.Facts) (hMmQIdeal : Cert.MmQIdeal.Facts) (hMmQRefIdeal : Cert.MmQRefIdeal.Facts) (hMmK : Cert.MmK.Facts) (hMmKIdeal : Cert.MmKIdeal.Facts) (hMmKRefIdeal : Cert.MmKRefIdeal.Facts) (hMmGate : Cert.MmGate.Facts) (hMmGateIdeal : Cert.MmGateIdeal.Facts) (hMmGateRefIdeal : Cert.MmGateRefIdeal.Facts) (hMmDown : Cert.MmDown.Facts) (hMmDownIdeal : Cert.MmDownIdeal.Facts) (hMmDownRefIdeal : Cert.MmDownRefIdeal.Facts) (hMmDxn1Lo : Cert.MmDxn1Lo.Facts) (hMmDxn1LoIdeal : Cert.MmDxn1LoIdeal.Facts) (hMmDxn1LoRefIdeal : Cert.MmDxn1LoRefIdeal.Facts) (hMmDxn1Hi : Cert.MmDxn1Hi.Facts) (hMmDxn1HiIdeal : Cert.MmDxn1HiIdeal.Facts) (hMmDxn1HiRefIdeal : Cert.MmDxn1HiRefIdeal.Facts) (hAttnFwd : Cert.AttnFwd.Facts) (hAttnFwdIdeal : Cert.AttnFwdIdeal.Facts) (hAttnFwdRefIdeal : Cert.AttnFwdRefIdeal.Facts) (hNormFwd : Cert.NormFwd.Facts) (hNormFwdIdeal : Cert.NormFwdIdeal.Facts) (hNormFwdRefIdeal : Cert.NormFwdRefIdeal.Facts) (hAdamIn : Cert.AdamIn.Facts) (hAdamInIdeal : Cert.AdamInIdeal.Facts) (hAdamInRefIdeal : Cert.AdamInRefIdeal.Facts) (hAdamO : Cert.AdamO.Facts) (hAdamOIdeal : Cert.AdamOIdeal.Facts) (hAdamORefIdeal : Cert.AdamORefIdeal.Facts) (hAdamDown : Cert.AdamDown.Facts) (hAdamDownIdeal : Cert.AdamDownIdeal.Facts) (hAdamDownRefIdeal : Cert.AdamDownRefIdeal.Facts) (hAdamGate : Cert.AdamGate.Facts) (hAdamGateIdeal : Cert.AdamGateIdeal.Facts) (hAdamGateRefIdeal : Cert.AdamGateRefIdeal.Facts) (hMixBFwd : Cert.MixBFwd.Facts) (hMixBFwdIdeal : Cert.MixBFwdIdeal.Facts) (hMixBFwdRefIdeal : Cert.MixBFwdRefIdeal.Facts) (hAdamSmall : Cert.AdamSmall.Facts) (hAdamSmallIdeal : Cert.AdamSmallIdeal.Facts) (hAdamSmallRefIdeal : Cert.AdamSmallRefIdeal.Facts) (hPre_finite_attention : Cert.Pre_finite_attention.Facts) (hPre_core_dw_in_sib : Cert.Pre_core_dw_in_sib.Facts) (hPre_core_dw_in_own : Cert.Pre_core_dw_in_own.Facts) (hPre_core_dw_o_sib : Cert.Pre_core_dw_o_sib.Facts) (hPre_core_dw_o_own : Cert.Pre_core_dw_o_own.Facts) (hPre_core_dw_k_sib : Cert.Pre_core_dw_k_sib.Facts) (hPre_core_dw_k_own : Cert.Pre_core_dw_k_own.Facts) (hPre_core_dw_gate_sib : Cert.Pre_core_dw_gate_sib.Facts) (hPre_core_dw_gate_own : Cert.Pre_core_dw_gate_own.Facts) (hPre_core_dw_down_sib : Cert.Pre_core_dw_down_sib.Facts) (hPre_core_dw_down_own : Cert.Pre_core_dw_down_own.Facts) (hOn_first_columns : Cert.On_first_columns.Facts),
    quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_MixB (hMixB := hMixB)
    ∧ quiescent_MixBIdeal (hMixBIdeal := hMixBIdeal)
    ∧ quiescent_MixBRefIdeal (hMixBRefIdeal := hMixBRefIdeal)
    ∧ quiescent_Ffn (hFfn := hFfn)
    ∧ quiescent_FfnIdeal (hFfnIdeal := hFfnIdeal)
    ∧ quiescent_FfnRefIdeal (hFfnRefIdeal := hFfnRefIdeal)
    ∧ quiescent_MmDf (hMmDf := hMmDf)
    ∧ quiescent_MmDfIdeal (hMmDfIdeal := hMmDfIdeal)
    ∧ quiescent_MmDfRefIdeal (hMmDfRefIdeal := hMmDfRefIdeal)
    ∧ quiescent_MmDxn3 (hMmDxn3 := hMmDxn3)
    ∧ quiescent_MmDxn3Ideal (hMmDxn3Ideal := hMmDxn3Ideal)
    ∧ quiescent_MmDxn3RefIdeal (hMmDxn3RefIdeal := hMmDxn3RefIdeal)
    ∧ quiescent_MmDo (hMmDo := hMmDo)
    ∧ quiescent_MmDoIdeal (hMmDoIdeal := hMmDoIdeal)
    ∧ quiescent_MmDoRefIdeal (hMmDoRefIdeal := hMmDoRefIdeal)
    ∧ quiescent_MmDxn2 (hMmDxn2 := hMmDxn2)
    ∧ quiescent_MmDxn2Ideal (hMmDxn2Ideal := hMmDxn2Ideal)
    ∧ quiescent_MmDxn2RefIdeal (hMmDxn2RefIdeal := hMmDxn2RefIdeal)
    ∧ quiescent_MmDmem (hMmDmem := hMmDmem)
    ∧ quiescent_MmDmemIdeal (hMmDmemIdeal := hMmDmemIdeal)
    ∧ quiescent_MmDmemRefIdeal (hMmDmemRefIdeal := hMmDmemRefIdeal)
    ∧ quiescent_DwInSib (hDwInSib := hDwInSib) (hPre_core_dw_in_sib := hPre_core_dw_in_sib)
    ∧ quiescent_DwInSibIdeal (hDwInSibIdeal := hDwInSibIdeal) (hPre_core_dw_in_sib := hPre_core_dw_in_sib)
    ∧ quiescent_DwInSibRefIdeal (hDwInSibRefIdeal := hDwInSibRefIdeal) (hPre_core_dw_in_sib := hPre_core_dw_in_sib)
    ∧ quiescent_DwInOwn (hDwInOwn := hDwInOwn) (hPre_core_dw_in_own := hPre_core_dw_in_own)
    ∧ quiescent_DwInOwnIdeal (hDwInOwnIdeal := hDwInOwnIdeal) (hPre_core_dw_in_own := hPre_core_dw_in_own)
    ∧ quiescent_DwInOwnRefIdeal (hDwInOwnRefIdeal := hDwInOwnRefIdeal) (hPre_core_dw_in_own := hPre_core_dw_in_own)
    ∧ quiescent_DwOSib (hDwOSib := hDwOSib) (hPre_core_dw_o_sib := hPre_core_dw_o_sib)
    ∧ quiescent_DwOSibIdeal (hDwOSibIdeal := hDwOSibIdeal) (hPre_core_dw_o_sib := hPre_core_dw_o_sib)
    ∧ quiescent_DwOSibRefIdeal (hDwOSibRefIdeal := hDwOSibRefIdeal) (hPre_core_dw_o_sib := hPre_core_dw_o_sib)
    ∧ quiescent_DwOOwn (hDwOOwn := hDwOOwn) (hPre_core_dw_o_own := hPre_core_dw_o_own)
    ∧ quiescent_DwOOwnIdeal (hDwOOwnIdeal := hDwOOwnIdeal) (hPre_core_dw_o_own := hPre_core_dw_o_own)
    ∧ quiescent_DwOOwnRefIdeal (hDwOOwnRefIdeal := hDwOOwnRefIdeal) (hPre_core_dw_o_own := hPre_core_dw_o_own)
    ∧ quiescent_DwKSib (hDwKSib := hDwKSib) (hPre_core_dw_k_sib := hPre_core_dw_k_sib)
    ∧ quiescent_DwKSibIdeal (hDwKSibIdeal := hDwKSibIdeal) (hPre_core_dw_k_sib := hPre_core_dw_k_sib)
    ∧ quiescent_DwKSibRefIdeal (hDwKSibRefIdeal := hDwKSibRefIdeal) (hPre_core_dw_k_sib := hPre_core_dw_k_sib)
    ∧ quiescent_DwKOwn (hDwKOwn := hDwKOwn) (hPre_core_dw_k_own := hPre_core_dw_k_own)
    ∧ quiescent_DwKOwnIdeal (hDwKOwnIdeal := hDwKOwnIdeal) (hPre_core_dw_k_own := hPre_core_dw_k_own)
    ∧ quiescent_DwKOwnRefIdeal (hDwKOwnRefIdeal := hDwKOwnRefIdeal) (hPre_core_dw_k_own := hPre_core_dw_k_own)
    ∧ quiescent_DwGateSib (hDwGateSib := hDwGateSib) (hPre_core_dw_gate_sib := hPre_core_dw_gate_sib)
    ∧ quiescent_DwGateSibIdeal (hDwGateSibIdeal := hDwGateSibIdeal) (hPre_core_dw_gate_sib := hPre_core_dw_gate_sib)
    ∧ quiescent_DwGateSibRefIdeal (hDwGateSibRefIdeal := hDwGateSibRefIdeal) (hPre_core_dw_gate_sib := hPre_core_dw_gate_sib)
    ∧ quiescent_DwGateOwn (hDwGateOwn := hDwGateOwn) (hPre_core_dw_gate_own := hPre_core_dw_gate_own)
    ∧ quiescent_DwGateOwnIdeal (hDwGateOwnIdeal := hDwGateOwnIdeal) (hPre_core_dw_gate_own := hPre_core_dw_gate_own)
    ∧ quiescent_DwGateOwnRefIdeal (hDwGateOwnRefIdeal := hDwGateOwnRefIdeal) (hPre_core_dw_gate_own := hPre_core_dw_gate_own)
    ∧ quiescent_DwDownSib (hDwDownSib := hDwDownSib) (hPre_core_dw_down_sib := hPre_core_dw_down_sib)
    ∧ quiescent_DwDownSibIdeal (hDwDownSibIdeal := hDwDownSibIdeal) (hPre_core_dw_down_sib := hPre_core_dw_down_sib)
    ∧ quiescent_DwDownSibRefIdeal (hDwDownSibRefIdeal := hDwDownSibRefIdeal) (hPre_core_dw_down_sib := hPre_core_dw_down_sib)
    ∧ quiescent_DwDownOwn (hDwDownOwn := hDwDownOwn) (hPre_core_dw_down_own := hPre_core_dw_down_own)
    ∧ quiescent_DwDownOwnIdeal (hDwDownOwnIdeal := hDwDownOwnIdeal) (hPre_core_dw_down_own := hPre_core_dw_down_own)
    ∧ quiescent_DwDownOwnRefIdeal (hDwDownOwnRefIdeal := hDwDownOwnRefIdeal) (hPre_core_dw_down_own := hPre_core_dw_down_own)
    ∧ quiescent_MmIn (hMmIn := hMmIn)
    ∧ quiescent_MmInIdeal (hMmInIdeal := hMmInIdeal)
    ∧ quiescent_MmInRefIdeal (hMmInRefIdeal := hMmInRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmQ (hMmQ := hMmQ)
    ∧ quiescent_MmQIdeal (hMmQIdeal := hMmQIdeal)
    ∧ quiescent_MmQRefIdeal (hMmQRefIdeal := hMmQRefIdeal)
    ∧ quiescent_MmK (hMmK := hMmK)
    ∧ quiescent_MmKIdeal (hMmKIdeal := hMmKIdeal)
    ∧ quiescent_MmKRefIdeal (hMmKRefIdeal := hMmKRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmDxn1Lo (hMmDxn1Lo := hMmDxn1Lo)
    ∧ quiescent_MmDxn1LoIdeal (hMmDxn1LoIdeal := hMmDxn1LoIdeal)
    ∧ quiescent_MmDxn1LoRefIdeal (hMmDxn1LoRefIdeal := hMmDxn1LoRefIdeal)
    ∧ quiescent_MmDxn1Hi (hMmDxn1Hi := hMmDxn1Hi)
    ∧ quiescent_MmDxn1HiIdeal (hMmDxn1HiIdeal := hMmDxn1HiIdeal)
    ∧ quiescent_MmDxn1HiRefIdeal (hMmDxn1HiRefIdeal := hMmDxn1HiRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_MixBFwd (hMixBFwd := hMixBFwd)
    ∧ quiescent_MixBFwdIdeal (hMixBFwdIdeal := hMixBFwdIdeal)
    ∧ quiescent_MixBFwdRefIdeal (hMixBFwdRefIdeal := hMixBFwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_MixB_MixBIdeal
    ∧ algebraic_MixBIdeal_MixBRefIdeal (hMixBIdeal := hMixBIdeal) (hMixBRefIdeal := hMixBRefIdeal)
    ∧ preserves_Ffn_FfnIdeal
    ∧ preserves_MmDf_MmDfIdeal
    ∧ algebraic_MmDfIdeal_MmDfRefIdeal (hMmDfIdeal := hMmDfIdeal) (hMmDfRefIdeal := hMmDfRefIdeal)
    ∧ preserves_MmDxn3_MmDxn3Ideal
    ∧ algebraic_MmDxn3Ideal_MmDxn3RefIdeal (hMmDxn3Ideal := hMmDxn3Ideal) (hMmDxn3RefIdeal := hMmDxn3RefIdeal)
    ∧ preserves_MmDo_MmDoIdeal
    ∧ algebraic_MmDoIdeal_MmDoRefIdeal (hMmDoIdeal := hMmDoIdeal) (hMmDoRefIdeal := hMmDoRefIdeal)
    ∧ preserves_MmDxn2_MmDxn2Ideal
    ∧ algebraic_MmDxn2Ideal_MmDxn2RefIdeal (hMmDxn2Ideal := hMmDxn2Ideal) (hMmDxn2RefIdeal := hMmDxn2RefIdeal)
    ∧ preserves_MmDmem_MmDmemIdeal
    ∧ algebraic_MmDmemIdeal_MmDmemRefIdeal (hMmDmemIdeal := hMmDmemIdeal) (hMmDmemRefIdeal := hMmDmemRefIdeal)
    ∧ preserves_DwInSib_DwInSibIdeal
    ∧ algebraic_DwInSibIdeal_DwInSibRefIdeal (hDwInSibIdeal := hDwInSibIdeal) (hDwInSibRefIdeal := hDwInSibRefIdeal) (hPre_core_dw_in_sib := hPre_core_dw_in_sib)
    ∧ preserves_DwInOwn_DwInOwnIdeal
    ∧ algebraic_DwInOwnIdeal_DwInOwnRefIdeal (hDwInOwnIdeal := hDwInOwnIdeal) (hDwInOwnRefIdeal := hDwInOwnRefIdeal) (hPre_core_dw_in_own := hPre_core_dw_in_own)
    ∧ preserves_DwOSib_DwOSibIdeal
    ∧ algebraic_DwOSibIdeal_DwOSibRefIdeal (hDwOSibIdeal := hDwOSibIdeal) (hDwOSibRefIdeal := hDwOSibRefIdeal) (hPre_core_dw_o_sib := hPre_core_dw_o_sib)
    ∧ preserves_DwOOwn_DwOOwnIdeal
    ∧ algebraic_DwOOwnIdeal_DwOOwnRefIdeal (hDwOOwnIdeal := hDwOOwnIdeal) (hDwOOwnRefIdeal := hDwOOwnRefIdeal) (hPre_core_dw_o_own := hPre_core_dw_o_own)
    ∧ preserves_DwKSib_DwKSibIdeal
    ∧ algebraic_DwKSibIdeal_DwKSibRefIdeal (hDwKSibIdeal := hDwKSibIdeal) (hDwKSibRefIdeal := hDwKSibRefIdeal) (hPre_core_dw_k_sib := hPre_core_dw_k_sib)
    ∧ preserves_DwKOwn_DwKOwnIdeal
    ∧ algebraic_DwKOwnIdeal_DwKOwnRefIdeal (hDwKOwnIdeal := hDwKOwnIdeal) (hDwKOwnRefIdeal := hDwKOwnRefIdeal) (hPre_core_dw_k_own := hPre_core_dw_k_own)
    ∧ preserves_DwGateSib_DwGateSibIdeal
    ∧ algebraic_DwGateSibIdeal_DwGateSibRefIdeal (hDwGateSibIdeal := hDwGateSibIdeal) (hDwGateSibRefIdeal := hDwGateSibRefIdeal) (hPre_core_dw_gate_sib := hPre_core_dw_gate_sib)
    ∧ preserves_DwGateOwn_DwGateOwnIdeal
    ∧ algebraic_DwGateOwnIdeal_DwGateOwnRefIdeal (hDwGateOwnIdeal := hDwGateOwnIdeal) (hDwGateOwnRefIdeal := hDwGateOwnRefIdeal) (hPre_core_dw_gate_own := hPre_core_dw_gate_own)
    ∧ preserves_DwDownSib_DwDownSibIdeal
    ∧ algebraic_DwDownSibIdeal_DwDownSibRefIdeal (hDwDownSibIdeal := hDwDownSibIdeal) (hDwDownSibRefIdeal := hDwDownSibRefIdeal) (hPre_core_dw_down_sib := hPre_core_dw_down_sib)
    ∧ preserves_DwDownOwn_DwDownOwnIdeal
    ∧ algebraic_DwDownOwnIdeal_DwDownOwnRefIdeal (hDwDownOwnIdeal := hDwDownOwnIdeal) (hDwDownOwnRefIdeal := hDwDownOwnRefIdeal) (hPre_core_dw_down_own := hPre_core_dw_down_own)
    ∧ preserves_MmIn_MmInIdeal
    ∧ algebraic_MmInIdeal_MmInRefIdeal (hMmInIdeal := hMmInIdeal) (hMmInRefIdeal := hMmInRefIdeal)
    ∧ preserves_MmOut_MmOutIdeal
    ∧ algebraic_MmOutIdeal_MmOutRefIdeal (hMmOutIdeal := hMmOutIdeal) (hMmOutRefIdeal := hMmOutRefIdeal)
    ∧ preserves_MmQ_MmQIdeal
    ∧ algebraic_MmQIdeal_MmQRefIdeal (hMmQIdeal := hMmQIdeal) (hMmQRefIdeal := hMmQRefIdeal)
    ∧ preserves_MmK_MmKIdeal
    ∧ algebraic_MmKIdeal_MmKRefIdeal (hMmKIdeal := hMmKIdeal) (hMmKRefIdeal := hMmKRefIdeal)
    ∧ preserves_MmGate_MmGateIdeal
    ∧ algebraic_MmGateIdeal_MmGateRefIdeal (hMmGateIdeal := hMmGateIdeal) (hMmGateRefIdeal := hMmGateRefIdeal)
    ∧ preserves_MmDown_MmDownIdeal
    ∧ algebraic_MmDownIdeal_MmDownRefIdeal (hMmDownIdeal := hMmDownIdeal) (hMmDownRefIdeal := hMmDownRefIdeal)
    ∧ preserves_MmDxn1Lo_MmDxn1LoIdeal
    ∧ algebraic_MmDxn1LoIdeal_MmDxn1LoRefIdeal_on_first_columns (hMmDxn1LoIdeal := hMmDxn1LoIdeal) (hMmDxn1LoRefIdeal := hMmDxn1LoRefIdeal) (hOn_first_columns := hOn_first_columns)
    ∧ preserves_MmDxn1Hi_MmDxn1HiIdeal
    ∧ algebraic_MmDxn1HiIdeal_MmDxn1HiRefIdeal (hMmDxn1HiIdeal := hMmDxn1HiIdeal) (hMmDxn1HiRefIdeal := hMmDxn1HiRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_AdamIn_AdamInIdeal
    ∧ algebraic_AdamInIdeal_AdamInRefIdeal (hAdamInIdeal := hAdamInIdeal) (hAdamInRefIdeal := hAdamInRefIdeal)
    ∧ preserves_AdamO_AdamOIdeal
    ∧ algebraic_AdamOIdeal_AdamORefIdeal (hAdamOIdeal := hAdamOIdeal) (hAdamORefIdeal := hAdamORefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGate_AdamGateIdeal
    ∧ algebraic_AdamGateIdeal_AdamGateRefIdeal (hAdamGateIdeal := hAdamGateIdeal) (hAdamGateRefIdeal := hAdamGateRefIdeal)
    ∧ preserves_MixBFwd_MixBFwdIdeal
    ∧ algebraic_MixBFwdIdeal_MixBFwdRefIdeal (hMixBFwdIdeal := hMixBFwdIdeal) (hMixBFwdRefIdeal := hMixBFwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== On_first_columns.lean ====
abbrev S4096x10240 : Shape := ⟨2, ![4096, 10240]⟩
abbrev S2048x10240 : Shape := ⟨2, ![2048, 10240]⟩
abbrev S8x128 : Shape := ⟨2, ![8, 128]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x10240 .bf16) (main_arg1 : FVec F S2048x10240 .bf16) (main_arg2 : FVec F S8x128 .f32) : IVec S4096x4096 1 :=
  let main_v0 : IVec S4096x4096 32 := iotaInDim S4096x4096 32 1
  let main_c : IVec S_ 32 := constantI S_ 32 2048#32
  let main_v1 : IVec S4096x4096 32 := broadcastInDim S4096x4096 ![] bcast_S_S4096x4096 main_c
  let main_v2 : IVec S4096x4096 1 := cmpi .slt main_v0 main_v1
  main_v2
-- ==== Pre_core_dw_down_own.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x11264 .bf16) (main_arg1 : FVec F S4096x4096 .bf16) (main_arg2 : IVec S1 32) (main_arg3 : FVec F S11264x2048 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_down_sib.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x11264 .bf16) (main_arg1 : FVec F S4096x4096 .bf16) (main_arg2 : IVec S1 32) (main_arg3 : FVec F S8x128 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_gate_own.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x11264 .bf16) (main_arg1 : FVec F S4096x4096 .bf16) (main_arg2 : IVec S1 32) (main_arg3 : FVec F S11264x2048 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_gate_sib.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x11264 .bf16) (main_arg1 : FVec F S4096x4096 .bf16) (main_arg2 : IVec S1 32) (main_arg3 : FVec F S8x128 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_in_own.lean ====
abbrev S4096x4096 : Shape := ⟨2, ![4096, 4096]⟩
abbrev S4096x10240 : Shape := ⟨2, ![4096, 10240]⟩
abbrev S1 : Shape := ⟨1, ![1]⟩
abbrev S2048x10240 : Shape := ⟨2, ![2048, 10240]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .bf16) (main_arg1 : FVec F S4096x10240 .bf16) (main_arg2 : IVec S1 32) (main_arg3 : FVec F S2048x10240 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_in_sib.lean ====
abbrev S4096x4096 : Shape := ⟨2, ![4096, 4096]⟩
abbrev S4096x10240 : Shape := ⟨2, ![4096, 10240]⟩
abbrev S1 : Shape := ⟨1, ![1]⟩
abbrev S8x128 : Shape := ⟨2, ![8, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .bf16) (main_arg1 : FVec F S4096x10240 .bf16) (main_arg2 : IVec S1 32) (main_arg3 : FVec F S8x128 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_k_own.lean ====
abbrev S256x4096 : Shape := ⟨2, ![256, 4096]⟩
abbrev S1 : Shape := ⟨1, ![1]⟩
abbrev S4096x2048 : Shape := ⟨2, ![4096, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x4096 .bf16) (main_arg1 : FVec F S256x4096 .bf16) (main_arg2 : IVec S1 32) (main_arg3 : FVec F S4096x2048 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_k_sib.lean ====
abbrev S256x4096 : Shape := ⟨2, ![256, 4096]⟩
abbrev S1 : Shape := ⟨1, ![1]⟩
abbrev S8x128 : Shape := ⟨2, ![8, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x4096 .bf16) (main_arg1 : FVec F S256x4096 .bf16) (main_arg2 : IVec S1 32) (main_arg3 : FVec F S8x128 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_o_own.lean ====
abbrev S4096x4096 : Shape := ⟨2, ![4096, 4096]⟩
abbrev S1 : Shape := ⟨1, ![1]⟩
abbrev S4096x2048 : Shape := ⟨2, ![4096, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .bf16) (main_arg1 : FVec F S4096x4096 .bf16) (main_arg2 : IVec S1 32) (main_arg3 : FVec F S4096x2048 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_core_dw_o_sib.lean ====
abbrev S4096x4096 : Shape := ⟨2, ![4096, 4096]⟩
abbrev S1 : Shape := ⟨1, ![1]⟩
abbrev S8x128 : Shape := ⟨2, ![8, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .bf16) (main_arg1 : FVec F S4096x4096 .bf16) (main_arg2 : IVec S1 32) (main_arg3 : FVec F S8x128 .f32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_finite_attention.lean ====
abbrev S4096x4096 : Shape := ⟨2, ![4096, 4096]⟩
abbrev S256x4096 : Shape := ⟨2, ![256, 4096]⟩
abbrev S4352x4096 : Shape := ⟨2, ![4352, 4096]⟩
abbrev S_ : Shape := ⟨0, ![]⟩

class Facts : Prop where
  concatenates_S4096x4096_S256x4096_S4352x4096_d0 : Shape.Concatenates [S4096x4096, S256x4096] S4352x4096 0
  bcast_S_S4352x4096 : S_.BroadcastsInDim S4352x4096 (![] : Fin 0 → Fin S4352x4096.rank)

variable [Facts]

def fn {F : FTy → Type} [FloatOps F] (main_arg0 : FVec F S4096x4096 .bf16) (main_arg1 : FVec F S256x4096 .bf16) (main_arg2 : FVec F S256x4096 .bf16) (main_arg3 : FVec F S4096x4096 .bf16) : IVec S4352x4096 1 :=
  let main_v0 : FVec F S4352x4096 .bf16 := (fun a b => concatenate S4352x4096 0 [⟨S4096x4096, a⟩, ⟨S256x4096, b⟩] concatenates_S4096x4096_S256x4096_S4352x4096_d0) main_arg0 main_arg1
  let main_v1 : FVec F S4352x4096 .bf16 := Host.absf main_v0
  let main_cst : FVec F S_ .bf16 := constant S_ .bf16 0x7F80#16
  let main_v2 : FVec F S4352x4096 .bf16 := broadcastInDim S4352x4096 ![] bcast_S_S4352x4096 main_cst
  let main_v3 : IVec S4352x4096 1 := cmpf .olt main_v1 main_v2
  main_v3
-- ==== Attn.lean ====
abbrev S4096x4096 : Shape := ⟨2, ![4096, 4096]⟩
abbrev S256x4096 : Shape := ⟨2, ![256, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .hbm, ⟨4, _⟩ => ⟨S4096x4096, .bf16⟩
  | .hbm, ⟨5, _⟩ => ⟨S256x4096, .f32⟩
  | .hbm, ⟨6, _⟩ => ⟨S256x4096, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg1 : BitVec 32 := BitVec.ofNat 32 (i 1).val
  let c0_i32_19 : BitVec 32 := 0#32
  let v35 : BitVec 1 := Scalar.cmpi .sgt arg1 c0_i32_19
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnRefIdeal.lean ====
abbrev S4096x4096 : Shape := ⟨2, ![4096, 4096]⟩
abbrev S256x4096 : Shape := ⟨2, ![256, 4096]⟩
abbrev S4096x4x1024 : Shape := ⟨3, ![4096, 4, 1024]⟩
abbrev S256x4x1024 : Shape := ⟨3, ![256, 4, 1024]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1024x4096 : Shape := ⟨3, ![4, 1024, 4096]⟩
abbrev S4x1024x256 : Shape := ⟨3, ![4, 1024, 256]⟩
abbrev S4x256x1024 : Shape := ⟨3, ![4, 256, 1024]⟩
abbrev S4x4096x1024 : Shape := ⟨3, ![4, 4096, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .hbm, ⟨4, _⟩ => ⟨S4096x4096, .f32⟩
  | .hbm, ⟨5, _⟩ => ⟨S256x4096, .f32⟩
  | .hbm, ⟨6, _⟩ => ⟨S256x4096, .f32⟩
  | .hbm, ⟨7, _⟩ => ⟨S4096x4096, .f32⟩
  | .hbm, ⟨8, _⟩ => ⟨S4096x4x1024, .f32⟩
  | .hbm, ⟨9, _⟩ => ⟨S256x4x1024, .f32⟩
  | .hbm, ⟨10, _⟩ => ⟨S256x4x1024, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x1024x4096, .f32⟩
  | .hbm, ⟨54, _⟩ => ⟨S4096x4x1024, .f32⟩
  | .hbm, ⟨55, _⟩ => ⟨S4096x4096, .f32⟩
  | .hbm, ⟨56, _⟩ => ⟨S4096x4x1024, .f32⟩
  | .hbm, ⟨57, _⟩ => ⟨S4x1024x4096, .f32⟩
  | .hbm, ⟨58, _⟩ => ⟨S4x4096x256, .f32⟩
  | .hbm, ⟨59, _⟩ => ⟨S4x1024x256, .f32⟩
  | .hbm, ⟨60, _⟩ => ⟨S256x4x1024, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x1024, .f32⟩
  | .hbm, ⟨79, _⟩ => ⟨S256x4x1024, .f32⟩
  | .hbm, ⟨80, _⟩ => ⟨S4x4096x1024, .f32⟩
  | .hbm, ⟨81, _⟩ => ⟨S4096x4x1024, .f32⟩
  | .hbm, ⟨82, _⟩ => ⟨S256x4096, .f32⟩
  | .hbm, ⟨83, _⟩ => ⟨S256x4096, .f32⟩
  | .hbm, ⟨84, _⟩ => ⟨S4096x4096, .f32⟩
  | .hbm, ⟨85, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== MixB.lean ====
abbrev S4096x10240 : Shape := ⟨2, ![4096, 10240]⟩
abbrev S4096x4096 : Shape := ⟨2, ![4096, 4096]⟩
abbrev S1x3x2048 : Shape := ⟨3, ![1, 3, 2048]⟩
abbrev S3x2048 : Shape := ⟨2, ![3, 2048]⟩
abbrev S_ : Shape := ⟨0, ![]⟩
abbrev S8x2048 : Shape := ⟨2, ![8, 2048]⟩
abbrev S4096x2048 : Shape := ⟨2, ![4096, 2048]⟩
abbrev S256x512 : Shape := ⟨2, ![256, 512]⟩
abbrev S8x512 : Shape := ⟨2, ![8, 512]⟩
abbrev S272x512 : Shape := ⟨2, ![272, 512]⟩
abbrev S264x512 : Shape := ⟨2, ![264, 512]⟩
abbrev S1x512 : Shape := ⟨2, ![1, 512]⟩
abbrev S512 : Shape := ⟨1, ![512]⟩
abbrev S5x512 : Shape := ⟨2, ![5, 512]⟩

abbrev nBuf : Space → Nat
  | .hbm => 11
  | .vmem => 32
  | .smem => 0
  | _ => 0

abbrev bufTy : (tb : Table) → Fin (tcTables nBuf tb) → BufTy
  | .hbm, ⟨0, _⟩ => ⟨S4096x10240, .f32⟩
  | .hbm, ⟨1, _⟩ => ⟨S4096x4096, .f32⟩
  | .hbm, ⟨2, _⟩ => ⟨S1x3x2048, .f32⟩
  | .hbm, ⟨3, _⟩ => ⟨S3x2048, .f32⟩
  | .hbm, ⟨4, _⟩ => ⟨S_, .i32⟩
  | .hbm, ⟨5, _⟩ => ⟨S_, .f32⟩
  | .hbm, ⟨6, _⟩ => ⟨S8x2048, .f32⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S8x2048, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S256x512, .f32⟩
  | .local _ .vmem, ⟨11, _⟩ => ⟨S256x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S8x512, .f32⟩
  | .local _ .vmem, ⟨29, _⟩ => ⟨S8x512, .f32⟩
  | .local _ .vmem, ⟨30, _⟩ => ⟨S272x512, .f32⟩
  | .local _ .vmem, ⟨31, _⟩ => ⟨S264x512, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_53 : BitVec 32 := 0#32
  let v85 : BitVec 1 := Scalar.cmpi .eq arg1 c0_i32_53
  let v86 : BitVec 32 := Scalar.extui v85
  let c0_i32_54 : BitVec 32 := 0#32
  let v87 : BitVec 1 := Scalar.cmpi .ne v86 c0_i32_54
  v87

def k0_cond2 (i : grid0.Coords) : BitVec 1 :=
  let arg1 : BitVec 32 := BitVec.ofNat 32 (i 1).val
  let c0_i32_55 : BitVec 32 := 0#32
  let v88 : BitVec 1 := Scalar.cmpi .sgt arg1 c0_i32_55
  let v89 : BitVec 32 := Scalar.extui v88
  let c0_i32_56 : BitVec 32 := 0#32
  let v90 : BitVec 1 := Scalar.cmpi .ne v89 c0_i32_56
  v90

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c8_i32 : BitVec 32 := 8#32
  let v3 : BitVec 32 := Scalar.addi arg0 c8_i32
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi arg0 c12_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c12_i32 : BitVec 32 := 12#32
  let v3 : BitVec 32 := Scalar.addi arg0 c12_i32
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi arg0 c16_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c16_i32 : BitVec 32 := 16#32
  let v3 : BitVec 32 := Scalar.addi arg0 c16_i32
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let v3 : BitVec 32 := Scalar.addi arg0 c4_i32
  let c0_i32 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MixBRefIdeal.lean ====
abbrev S4096x10240 : Shape := ⟨2, ![4096, 10240]⟩
abbrev S4096x4096 : Shape := ⟨2, ![4096, 4096]⟩
abbrev S1x3x2048 : Shape := ⟨3, ![1, 3, 2048]⟩
abbrev S4096x2048 : Shape := ⟨2, ![4096, 2048]⟩
abbrev S3x2048 : Shape := ⟨2, ![3, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S8x2048 : Shape := ⟨2, ![8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S4096x4096, .f32⟩
  | .hbm, ⟨2, _⟩ => ⟨S1x3x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S3x2048, .f32⟩
  | .hbm, ⟨10, _⟩ => ⟨S_, .f32⟩
  | .hbm, ⟨11, _⟩ => ⟨S2x2048, .f32⟩
  | .hbm, ⟨12, _⟩ => ⟨S4098x2048, .f32⟩
  | .hbm, ⟨13, _⟩ => ⟨S_, .f32⟩
  | .hbm, ⟨14, _⟩ => ⟨S2x2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S3x2048, .f32⟩
  | .hbm, ⟨50, _⟩ => ⟨S_, .f32⟩
  | .hbm, ⟨51, _⟩ => ⟨S4098x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S3x2048, .f32⟩
  | .hbm, ⟨63, _⟩ => ⟨S3x2048, .f32⟩
  | .hbm, ⟨64, _⟩ => ⟨S_, .f32⟩
  | .hbm, ⟨65, _⟩ => ⟨S4098x2048, .f32⟩
  | .hbm, ⟨66, _⟩ => ⟨S4098x2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S_, .f32⟩
  | .hbm, ⟨77, _⟩ => ⟨S3x2048, .f32⟩
  | .hbm, ⟨78, _⟩ => ⟨S3x2048, .f32⟩
  | .hbm, ⟨79, _⟩ => ⟨S_, .f32⟩
  | .hbm, ⟨80, _⟩ => ⟨S4098x2048, .f32⟩
  | .hbm, ⟨81, _⟩ => ⟨S4098x2048, .f32⟩
  | .hbm, ⟨82, _⟩ => ⟨S2x2048, .f32⟩
  | .hbm, ⟨83, _⟩ => ⟨S4096x2048, .f32⟩
  | .hbm, ⟨84, _⟩ => ⟨S1x3x2048, .f32⟩
  | .hbm, ⟨85, _⟩ => ⟨S4096x2048, .f32⟩
  | .hbm, ⟨86, _⟩ => ⟨S4096x2048, .f32⟩
  | .hbm, ⟨87, _⟩ => ⟨S4096x2048, .bf16⟩
  | .hbm, ⟨88, _⟩ => ⟨S4096x2048, .bf16⟩
  | .hbm, ⟨89, _⟩ => ⟨S4096x2048, .bf16⟩
  | .hbm, ⟨90, _⟩ => ⟨S3x2048, .f32⟩
  | .hbm, ⟨91, _⟩ => ⟨S_, .i32⟩
  | .hbm, ⟨92, _⟩ => ⟨S_, .f32⟩
  | .hbm, ⟨93, _⟩ => ⟨S8x2048, .f32⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c : Ref sig .tc := ⟨.hbm, 91, rfl⟩
abbrev main_call0_v0 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Ffn.lean ====
abbrev S4096x11264 : Shape := ⟨2, ![4096, 11264]⟩
abbrev S8x11264 : Shape := ⟨2, ![8, 11264]⟩
abbrev S256x512 : Shape := ⟨2, ![256, 512]⟩
abbrev S8x512 : Shape := ⟨2, ![8, 512]⟩
abbrev S16x512 : Shape := ⟨2, ![16, 512]⟩
abbrev S272x512 : Shape := ⟨2, ![272, 512]⟩
abbrev S264x512 : Shape := ⟨2, ![264, 512]⟩
abbrev S1x256 : Shape := ⟨2, ![1, 256]⟩
abbrev S16x256 : Shape := ⟨2, ![16, 256]⟩
abbrev S8x256 : Shape := ⟨2, ![8, 256]⟩
abbrev S256 : Shape := ⟨1, ![256]⟩
abbrev S1x512 : Shape := ⟨2, ![1, 512]⟩
abbrev S5x512 : Shape := ⟨2, ![5, 512]⟩

abbrev nBuf : Space → Nat
  | .hbm => 7
  | .vmem => 24
  | .smem => 0
  | _ => 0

abbrev bufTy : (tb : Table) → Fin (tcTables nBuf tb) → BufTy
  | .hbm, ⟨0, _⟩ => ⟨S4096x11264, .f32⟩
  | .hbm, ⟨1, _⟩ => ⟨S4096x11264, .f32⟩
  | .hbm, ⟨2, _⟩ => ⟨S4096x11264, .bf16⟩
  | .hbm, ⟨3, _⟩ => ⟨S8x11264, .f32⟩
  | .hbm, ⟨4, _⟩ => ⟨S4096x11264, .bf16⟩
  | .hbm, ⟨5, _⟩ => ⟨S4096x11264, .bf16⟩
  | .hbm, ⟨6, _⟩ => ⟨S8x11264, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S256x512, .bf16⟩
  | .local _ .vmem, ⟨11, _⟩ => ⟨S256x512, .bf16⟩
  | .local _ .vmem, ⟨12, _⟩ => ⟨S16x512, .bf16⟩
  | .local _ .vmem, ⟨13, _⟩ => ⟨S16x512, .bf16⟩
  | .local _ .vmem, ⟨14, _⟩ => ⟨S8x512, .f32⟩
  | .local _ .vmem, ⟨15, _⟩ => ⟨S8x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S8x512, .f32⟩
  | .local _ .vmem, ⟨21, _⟩ => ⟨S8x512, .f32⟩
  | .local _ .vmem, ⟨22, _⟩ => ⟨S272x512, .f32⟩
  | .local _ .vmem, ⟨23, _⟩ => ⟨S264x512, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 16], ![false, false]⟩

def k0_cond1 (i : grid0.Coords) : BitVec 1 :=
  let arg1 : BitVec 32 := BitVec.ofNat 32 (i 1).val
  let c0_i32_737 : BitVec 32 := 0#32
  let v1492 : BitVec 1 := Scalar.cmpi .eq arg1 c0_i32_737
  let v1493 : BitVec 32 := Scalar.extui v1492
  let c0_i32_738 : BitVec 32 := 0#32
  let v1494 : BitVec 1 := Scalar.cmpi .ne v1493 c0_i32_738
  v1494

def k0_cond2 (i : grid0.Coords) : BitVec 1 :=
  let arg1 : BitVec 32 := BitVec.ofNat 32 (i 1).val
  let c0_i32_739 : BitVec 32 := 0#32
  let v1495 : BitVec 1 := Scalar.cmpi .sgt arg1 c0_i32_739
  let v1496 : BitVec 32 := Scalar.extui v1495
  let c0_i32_740 : BitVec 32 := 0#32
  let v1497 : BitVec 1 := Scalar.cmpi .ne v1496 c0_i32_740
  v1497

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S4096x11264 : Shape := ⟨2, ![4096, 11264]⟩
abbrev S8x11264 : Shape := ⟨2, ![8, 11264]⟩
abbrev S3x11264 : Shape := ⟨2, ![3, 11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S11264 : Shape := ⟨1, ![11264]⟩

abbrev nBuf : Space → Nat
  | .hbm => 101
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x11264, .f32⟩
  | .hbm, ⟨2, _⟩ => ⟨S4096x11264, .bf16⟩
  | .hbm, ⟨3, _⟩ => ⟨S8x11264, .f32⟩
  | .hbm, ⟨4, _⟩ => ⟨S3x11264, .f32⟩
  | .hbm, ⟨5, _⟩ => ⟨S_, .f32⟩
  | .hbm, ⟨6, _⟩ => ⟨S2x11264, .f32⟩
  | .hbm, ⟨7, _⟩ => ⟨S4098x11264, .f32⟩
  | .hbm, ⟨8, _⟩ => ⟨S_, .f32⟩
  | .hbm, ⟨9, _⟩ => ⟨S2x11264, .f32⟩
  | .hbm, ⟨10, _⟩ => ⟨S4096x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S1x11264, .f32⟩
  | .hbm, ⟨18, _⟩ => ⟨S11264, .f32⟩
  | .hbm, ⟨19, _⟩ => ⟨S1x11264, .f32⟩
  | .hbm, ⟨20, _⟩ => ⟨S4096x11264, .f32⟩
  | .hbm, ⟨21, _⟩ => ⟨S4096x11264, .f32⟩
  | .hbm, ⟨22, _⟩ => ⟨S4096x11264, .f32⟩
  | .hbm, ⟨23, _⟩ => ⟨S4096x11264, .f32⟩
  | .hbm, ⟨24, _⟩ => ⟨S1x11264, .f32⟩
  | .hbm, ⟨25, _⟩ => ⟨S11264, .f32⟩
  | .hbm, ⟨26, _⟩ => ⟨S1x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S_, .f32⟩
  | .hbm, ⟨33, _⟩ => ⟨S4096x11264, .f32⟩
  | .hbm, ⟨34, _⟩ => ⟨S4096x11264, .f32⟩
  | .hbm, ⟨35, _⟩ => ⟨S_, .f32⟩
  | .hbm, ⟨36, _⟩ => ⟨S4096x11264, .f32⟩
  | .hbm, ⟨37, _⟩ => ⟨S4096x11264, .f32⟩
  | .hbm, ⟨38, _⟩ => ⟨S_, .f32⟩
  | .hbm, ⟨39, _⟩ => ⟨S4096x11264, .f32⟩
  | .hbm, ⟨40, _⟩ => ⟨S4096x11264, .f32⟩
  | .hbm, ⟨41, _⟩ => ⟨S4096x11264, .f32⟩
  | .hbm, ⟨42, _⟩ => ⟨S4096x11264, .f32⟩
  | .hbm, ⟨43, _⟩ => ⟨S4096x11264, .f32⟩
  | .hbm, ⟨44, _⟩ => ⟨S4096x11264, .f32⟩
  | .hbm, ⟨45, _⟩ => ⟨S4096x11264, .f32⟩
  | .hbm, ⟨46, _⟩ => ⟨S4096x11264, .f32⟩
  | .hbm, ⟨47, _⟩ => ⟨S4096x11264, .f32⟩
  | .hbm, ⟨48, _⟩ => ⟨S4096x11264, .f32⟩
  | .hbm, ⟨49, _⟩ => ⟨S4096x11264, .f32⟩
  | .hbm, ⟨50, _⟩ => ⟨S4096x11264, .f32⟩
  | .hbm, ⟨51, _⟩ => ⟨S4096x11264, .f32⟩
  | .hbm, ⟨52, _⟩ => ⟨S_, .f32⟩
  | .hbm, ⟨53, _⟩ => ⟨S11264, .f32⟩
  | .hbm, ⟨54, _⟩ => ⟨S1x11264, .f32⟩
  | .hbm, ⟨55, _⟩ => ⟨S4096x11264, .f32⟩
  | .hbm, ⟨56, _⟩ => ⟨S4096x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S_, .f32⟩
  | .hbm, ⟨61, _⟩ => ⟨S3x11264, .f32⟩
  | .hbm, ⟨62, _⟩ => ⟨S_, .f32⟩
  | .hbm, ⟨63, _⟩ => ⟨S4098x11264, .f32⟩
  | .hbm, ⟨64, _⟩ => ⟨S4096x11264, .f32⟩
  | .hbm, ⟨65, _⟩ => ⟨S_, .f32⟩
  | .hbm, ⟨66, _⟩ => ⟨S11264, .f32⟩
  | .hbm, ⟨67, _⟩ => ⟨S1x11264, .f32⟩
  | .hbm, ⟨68, _⟩ => ⟨S4096x11264, .f32⟩
  | .hbm, ⟨69, _⟩ => ⟨S4096x11264, .f32⟩
  | .hbm, ⟨70, _⟩ => ⟨S_, .f32⟩
  | .hbm, ⟨71, _⟩ => ⟨S11264, .f32⟩
  | .hbm, ⟨72, _⟩ => ⟨S1x11264, .f32⟩
  | .hbm, ⟨73, _⟩ => ⟨S_, .f32⟩
  | .hbm, ⟨74, _⟩ => ⟨S3x11264, .f32⟩
  | .hbm, ⟨75, _⟩ => ⟨S3x11264, .f32⟩
  | .hbm, ⟨76, _⟩ => ⟨S_, .f32⟩
  | .hbm, ⟨77, _⟩ => ⟨S4098x11264, .f32⟩
  | .hbm, ⟨78, _⟩ => ⟨S4098x11264, .f32⟩
  | .hbm, ⟨79, _⟩ => ⟨S4096x11264, .f32⟩
  | .hbm, ⟨80, _⟩ => ⟨S_, .f32⟩
  | .hbm, ⟨81, _⟩ => ⟨S11264, .f32⟩
  | .hbm, ⟨82, _⟩ => ⟨S1x11264, .f32⟩
  | .hbm, ⟨83, _⟩ => ⟨S4096x11264, .f32⟩
  | .hbm, ⟨84, _⟩ => ⟨S4096x11264, .f32⟩
  | .hbm, ⟨85, _⟩ => ⟨S_, .f32⟩
  | .hbm, ⟨86, _⟩ => ⟨S11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S3x11264, .f32⟩
  | .hbm, ⟨91, _⟩ => ⟨S_, .f32⟩
  | .hbm, ⟨92, _⟩ => ⟨S4098x11264, .f32⟩
  | .hbm, ⟨93, _⟩ => ⟨S4098x11264, .f32⟩
  | .hbm, ⟨94, _⟩ => ⟨S2x11264, .f32⟩
  | .hbm, ⟨95, _⟩ => ⟨S4096x11264, .f32⟩
  | .hbm, ⟨96, _⟩ => ⟨S4096x11264, .bf16⟩
  | .hbm, ⟨97, _⟩ => ⟨S4096x11264, .bf16⟩
  | .hbm, ⟨98, _⟩ => ⟨S_, .i32⟩
  | .hbm, ⟨99, _⟩ => ⟨S_, .f32⟩
  | .hbm, ⟨100, _⟩ => ⟨S8x11264, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v24_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v24_1 : Ref sig .tc := ⟨.hbm, 41, rfl⟩
abbrev main_v24_0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c : Ref sig .tc := ⟨.hbm, 98, rfl⟩
abbrev main_call2_v0 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== MmDf.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDfRefIdeal.lean ====
abbrev S4096x4096 : Shape := ⟨2, ![4096, 4096]⟩
abbrev S11264x4096 : Shape := ⟨2, ![11264, 4096]⟩
abbrev S_ : Shape := ⟨0, ![]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x4096, .f32⟩
  | .hbm, ⟨3, _⟩ => ⟨S11264x4096, .f32⟩
  | .hbm, ⟨4, _⟩ => ⟨S_, .f32⟩
  | .hbm, ⟨5, _⟩ => ⟨S4096x11264, .f32⟩
  | .hbm, ⟨6, _⟩ => ⟨S4096x4096, .f32⟩
  | .hbm, ⟨7, _⟩ => ⟨S4096x11264, .f32⟩
  | .hbm, ⟨8, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmDxn3.lean ====
abbrev S4096x11264 : Shape := ⟨2, ![4096, 11264]⟩
abbrev S11264x4096 : Shape := ⟨2, ![11264, 4096]⟩
abbrev S8x128 : Shape := ⟨2, ![8, 128]⟩
abbrev S4096x4096 : Shape := ⟨2, ![4096, 4096]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 9
  | .vmem => 30
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S11264x4096, .bf16⟩
  | .hbm, ⟨4, _⟩ => ⟨S8x128, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x5632, .bf16⟩
  | .local _ .vmem, ⟨7, _⟩ => ⟨S1024x5632, .bf16⟩
  | .local _ .vmem, ⟨8, _⟩ => ⟨S5632x512, .bf16⟩
  | .local _ .vmem, ⟨9, _⟩ => ⟨S5632x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x5632, .bf16⟩
  | .local _ .vmem, ⟨15, _⟩ => ⟨S1024x5632, .bf16⟩
  | .local _ .vmem, ⟨16, _⟩ => ⟨S5632x512, .bf16⟩
  | .local _ .vmem, ⟨17, _⟩ => ⟨S5632x512, .bf16⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x5632, .bf16⟩
  | .local _ .vmem, ⟨23, _⟩ => ⟨S1024x5632, .bf16⟩
  | .local _ .vmem, ⟨24, _⟩ => ⟨S5632x512, .bf16⟩
  | .local _ .vmem, ⟨25, _⟩ => ⟨S5632x512, .bf16⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S5632x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== MmDxn3RefIdeal.lean ====
abbrev S4096x11264 : Shape := ⟨2, ![4096, 11264]⟩
abbrev S11264x4096 : Shape := ⟨2, ![11264, 4096]⟩
abbrev S8x128 : Shape := ⟨2, ![8, 128]⟩
abbrev S_ : Shape := ⟨0, ![]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S11264x4096, .bf16⟩
  | .hbm, ⟨4, _⟩ => ⟨S8x128, .f32⟩
  | .hbm, ⟨5, _⟩ => ⟨S4096x11264, .f32⟩
  | .hbm, ⟨6, _⟩ => ⟨S4096x11264, .f32⟩
  | .hbm, ⟨7, _⟩ => ⟨S11264x4096, .f32⟩
  | .hbm, ⟨8, _⟩ => ⟨S11264x4096, .f32⟩
  | .hbm, ⟨9, _⟩ => ⟨S_, .f32⟩
  | .hbm, ⟨10, _⟩ => ⟨S4096x4096, .f32⟩
  | .hbm, ⟨11, _⟩ => ⟨S4096x11264, .f32⟩
  | .hbm, ⟨12, _⟩ => ⟨S4096x11264, .f32⟩
  | .hbm, ⟨13, _⟩ => ⟨S4096x11264, .f32⟩
  | .hbm, ⟨14, _⟩ => ⟨S4096x11264, .f32⟩
  | .hbm, ⟨15, _⟩ => ⟨S4096x4096, .f32⟩
  | .hbm, ⟨16, _⟩ => ⟨S4096x4096, .f32⟩
  | .hbm, ⟨17, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MmDo.lean ====
abbrev S4096x4096 : Shape := ⟨2, ![4096, 4096]⟩
abbrev S8x128 : Shape := ⟨2, ![8, 128]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDoRefIdeal.lean ====
abbrev S4096x4096 : Shape := ⟨2, ![4096, 4096]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MmDxn2.lean ====
abbrev S4096x4096 : Shape := ⟨2, ![4096, 4096]⟩
abbrev S8x128 : Shape := ⟨2, ![8, 128]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDxn2RefIdeal.lean ====
abbrev S4096x4096 : Shape := ⟨2, ![4096, 4096]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MmDmem.lean ====
abbrev S256x4096 : Shape := ⟨2, ![256, 4096]⟩
abbrev S4096x4096 : Shape := ⟨2, ![4096, 4096]⟩
abbrev S1024x4096 : Shape := ⟨2, ![1024, 4096]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S4096x4096, .bf16⟩
  | .hbm, ⟨3, _⟩ => ⟨S4096x4096, .bf16⟩
  | .hbm, ⟨4, _⟩ => ⟨S256x4096, .f32⟩
  | .hbm, ⟨5, _⟩ => ⟨S256x4096, .f32⟩
  | .local _ .vmem, ⟨0, _⟩ => ⟨S256x4096, .bf16⟩
  | .local _ .vmem, ⟨1, _⟩ => ⟨S1024x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x4096, .bf16⟩
  | .local _ .vmem, ⟨6, _⟩ => ⟨S1024x4096, .bf16⟩
  | .local _ .vmem, ⟨7, _⟩ => ⟨S1024x4096, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MmDmemRefIdeal.lean ====
abbrev S256x4096 : Shape := ⟨2, ![256, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S4096x4096, .bf16⟩
  | .hbm, ⟨3, _⟩ => ⟨S4096x4096, .bf16⟩
  | .hbm, ⟨4, _⟩ => ⟨S256x4096, .f32⟩
  | .hbm, ⟨5, _⟩ => ⟨S256x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S256x4096, .f32⟩
  | .hbm, ⟨14, _⟩ => ⟨S256x4096, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DwInSib.lean ====
abbrev S4096x4096 : Shape := ⟨2, ![4096, 4096]⟩
abbrev S4096x10240 : Shape := ⟨2, ![4096, 10240]⟩
abbrev S1 : Shape := ⟨1, ![1]⟩
abbrev S8x128 : Shape := ⟨2, ![8, 128]⟩
abbrev S2048x10240 : Shape := ⟨2, ![2048, 10240]⟩
abbrev S4096x1024 : Shape := ⟨2, ![4096, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S8x128, .f32⟩
  | .hbm, ⟨3, _⟩ => ⟨S2048x10240, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg0 v1
  let c0_i32 : BitVec 32 := 0#32
  let v3 : BitVec 32 := Scalar.addi arg2 c0_i32
  let c0_i32_0 : BitVec 32 := 0#32
  ![v3.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInSibRefIdeal.lean ====
abbrev S4096x4096 : Shape := ⟨2, ![4096, 4096]⟩
abbrev S4096x10240 : Shape := ⟨2, ![4096, 10240]⟩
abbrev S1 : Shape := ⟨1, ![1]⟩
abbrev S8x128 : Shape := ⟨2, ![8, 128]⟩
abbrev S_ : Shape := ⟨0, ![]⟩
abbrev S10240x4096 : Shape := ⟨2, ![10240, 4096]⟩
abbrev S2048x10240 : Shape := ⟨2, ![2048, 10240]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S1, .i32⟩
  | .hbm, ⟨3, _⟩ => ⟨S8x128, .f32⟩
  | .hbm, ⟨4, _⟩ => ⟨S4096x4096, .f32⟩
  | .hbm, ⟨5, _⟩ => ⟨S4096x10240, .f32⟩
  | .hbm, ⟨6, _⟩ => ⟨S_, .f32⟩
  | .hbm, ⟨7, _⟩ => ⟨S4096x10240, .f32⟩
  | .hbm, ⟨8, _⟩ => ⟨S4096x10240, .f32⟩
  | .hbm, ⟨9, _⟩ => ⟨S10240x4096, .f32⟩
  | .hbm, ⟨10, _⟩ => ⟨S4096x10240, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S2048x10240, .f32⟩
  | .hbm, ⟨15, _⟩ => ⟨S2048x10240, .f32⟩
  | .hbm, ⟨16, _⟩ => ⟨S2048x10240, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DwInOwn.lean ====
abbrev S4096x4096 : Shape := ⟨2, ![4096, 4096]⟩
abbrev S4096x10240 : Shape := ⟨2, ![4096, 10240]⟩
abbrev S1 : Shape := ⟨1, ![1]⟩
abbrev S2048x10240 : Shape := ⟨2, ![2048, 10240]⟩
abbrev S4096x1024 : Shape := ⟨2, ![4096, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S2048x10240, .f32⟩
  | .hbm, ⟨3, _⟩ => ⟨S2048x10240, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 10, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg0 v1
  let c0_i32 : BitVec 32 := 0#32
  let v3 : BitVec 32 := Scalar.addi arg2 c0_i32
  let c0_i32_0 : BitVec 32 := 0#32
  ![v3.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwInOwnRefIdeal.lean ====
abbrev S4096x4096 : Shape := ⟨2, ![4096, 4096]⟩
abbrev S4096x10240 : Shape := ⟨2, ![4096, 10240]⟩
abbrev S1 : Shape := ⟨1, ![1]⟩
abbrev S2048x10240 : Shape := ⟨2, ![2048, 10240]⟩
abbrev S_ : Shape := ⟨0, ![]⟩
abbrev S10240x4096 : Shape := ⟨2, ![10240, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S1, .i32⟩
  | .hbm, ⟨3, _⟩ => ⟨S2048x10240, .f32⟩
  | .hbm, ⟨4, _⟩ => ⟨S4096x4096, .f32⟩
  | .hbm, ⟨5, _⟩ => ⟨S4096x10240, .f32⟩
  | .hbm, ⟨6, _⟩ => ⟨S_, .f32⟩
  | .hbm, ⟨7, _⟩ => ⟨S4096x10240, .f32⟩
  | .hbm, ⟨8, _⟩ => ⟨S4096x10240, .f32⟩
  | .hbm, ⟨9, _⟩ => ⟨S10240x4096, .f32⟩
  | .hbm, ⟨10, _⟩ => ⟨S4096x10240, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S2048x10240, .f32⟩
  | .hbm, ⟨15, _⟩ => ⟨S2048x10240, .f32⟩
  | .hbm, ⟨16, _⟩ => ⟨S2048x10240, .f32⟩
  | .hbm, ⟨17, _⟩ => ⟨S2048x10240, .f32⟩
  | .hbm, ⟨18, _⟩ => ⟨S2048x10240, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== DwOSib.lean ====
abbrev S4096x4096 : Shape := ⟨2, ![4096, 4096]⟩
abbrev S1 : Shape := ⟨1, ![1]⟩
abbrev S8x128 : Shape := ⟨2, ![8, 128]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOSibRefIdeal.lean ====
abbrev S4096x4096 : Shape := ⟨2, ![4096, 4096]⟩
abbrev S1 : Shape := ⟨1, ![1]⟩
abbrev S8x128 : Shape := ⟨2, ![8, 128]⟩
abbrev S_ : Shape := ⟨0, ![]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1, .i32⟩
  | .hbm, ⟨3, _⟩ => ⟨S8x128, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DwOOwn.lean ====
abbrev S4096x4096 : Shape := ⟨2, ![4096, 4096]⟩
abbrev S1 : Shape := ⟨1, ![1]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2048, .f32⟩
  | .hbm, ⟨3, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwOOwnRefIdeal.lean ====
abbrev S4096x4096 : Shape := ⟨2, ![4096, 4096]⟩
abbrev S1 : Shape := ⟨1, ![1]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S1, .i32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== DwKSib.lean ====
abbrev S256x4096 : Shape := ⟨2, ![256, 4096]⟩
abbrev S1 : Shape := ⟨1, ![1]⟩
abbrev S8x128 : Shape := ⟨2, ![8, 128]⟩
abbrev S4096x2048 : Shape := ⟨2, ![4096, 2048]⟩
abbrev S256x1024 : Shape := ⟨2, ![256, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S8x128, .f32⟩
  | .hbm, ⟨3, _⟩ => ⟨S4096x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .smem, ⟨0, _⟩ => ⟨S1, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKSibRefIdeal.lean ====
abbrev S256x4096 : Shape := ⟨2, ![256, 4096]⟩
abbrev S1 : Shape := ⟨1, ![1]⟩
abbrev S8x128 : Shape := ⟨2, ![8, 128]⟩
abbrev S_ : Shape := ⟨0, ![]⟩
abbrev S4096x4096 : Shape := ⟨2, ![4096, 4096]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S1, .i32⟩
  | .hbm, ⟨3, _⟩ => ⟨S8x128, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S4096x4096, .f32⟩
  | .hbm, ⟨8, _⟩ => ⟨S256x4096, .f32⟩
  | .hbm, ⟨9, _⟩ => ⟨S4096x4096, .f32⟩
  | .hbm, ⟨10, _⟩ => ⟨S4096x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DwKOwn.lean ====
abbrev S256x4096 : Shape := ⟨2, ![256, 4096]⟩
abbrev S1 : Shape := ⟨1, ![1]⟩
abbrev S4096x2048 : Shape := ⟨2, ![4096, 2048]⟩
abbrev S256x1024 : Shape := ⟨2, ![256, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S4096x2048, .f32⟩
  | .hbm, ⟨3, _⟩ => ⟨S4096x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S1, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwKOwnRefIdeal.lean ====
abbrev S256x4096 : Shape := ⟨2, ![256, 4096]⟩
abbrev S1 : Shape := ⟨1, ![1]⟩
abbrev S4096x2048 : Shape := ⟨2, ![4096, 2048]⟩
abbrev S_ : Shape := ⟨0, ![]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .bf16⟩
  | .hbm, ⟨2, _⟩ => ⟨S1, .i32⟩
  | .hbm, ⟨3, _⟩ => ⟨S4096x2048, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S4096x4096, .f32⟩
  | .hbm, ⟨8, _⟩ => ⟨S256x4096, .f32⟩
  | .hbm, ⟨9, _⟩ => ⟨S4096x4096, .f32⟩
  | .hbm, ⟨10, _⟩ => ⟨S4096x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== DwGateSib.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S11264x2048 : Shape := ⟨2, ![11264, 2048]⟩
abbrev S4096x1024 : Shape := ⟨2, ![4096, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S8x128, .f32⟩
  | .hbm, ⟨3, _⟩ => ⟨S11264x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateSibRefIdeal.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S_ : Shape := ⟨0, ![]⟩
abbrev S11264x4096 : Shape := ⟨2, ![11264, 4096]⟩
abbrev S11264x2048 : Shape := ⟨2, ![11264, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S1, .i32⟩
  | .hbm, ⟨3, _⟩ => ⟨S8x128, .f32⟩
  | .hbm, ⟨4, _⟩ => ⟨S4096x4096, .f32⟩
  | .hbm, ⟨5, _⟩ => ⟨S4096x11264, .f32⟩
  | .hbm, ⟨6, _⟩ => ⟨S_, .f32⟩
  | .hbm, ⟨7, _⟩ => ⟨S11264x4096, .f32⟩
  | .hbm, ⟨8, _⟩ => ⟨S4096x11264, .f32⟩
  | .hbm, ⟨9, _⟩ => ⟨S4096x11264, .f32⟩
  | .hbm, ⟨10, _⟩ => ⟨S11264x4096, .f32⟩
  | .hbm, ⟨11, _⟩ => ⟨S4096x11264, .f32⟩
  | .hbm, ⟨12, _⟩ => ⟨S11264x4096, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S11264x2048, .f32⟩
  | .hbm, ⟨17, _⟩ => ⟨S11264x2048, .f32⟩
  | .hbm, ⟨18, _⟩ => ⟨S11264x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== DwGateOwn.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S4096x1024 : Shape := ⟨2, ![4096, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x2048, .f32⟩
  | .hbm, ⟨3, _⟩ => ⟨S11264x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwGateOwnRefIdeal.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S_ : Shape := ⟨0, ![]⟩
abbrev S11264x4096 : Shape := ⟨2, ![11264, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S1, .i32⟩
  | .hbm, ⟨3, _⟩ => ⟨S11264x2048, .f32⟩
  | .hbm, ⟨4, _⟩ => ⟨S4096x4096, .f32⟩
  | .hbm, ⟨5, _⟩ => ⟨S4096x11264, .f32⟩
  | .hbm, ⟨6, _⟩ => ⟨S_, .f32⟩
  | .hbm, ⟨7, _⟩ => ⟨S11264x4096, .f32⟩
  | .hbm, ⟨8, _⟩ => ⟨S4096x11264, .f32⟩
  | .hbm, ⟨9, _⟩ => ⟨S4096x11264, .f32⟩
  | .hbm, ⟨10, _⟩ => ⟨S11264x4096, .f32⟩
  | .hbm, ⟨11, _⟩ => ⟨S4096x11264, .f32⟩
  | .hbm, ⟨12, _⟩ => ⟨S11264x4096, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S11264x2048, .f32⟩
  | .hbm, ⟨17, _⟩ => ⟨S11264x2048, .f32⟩
  | .hbm, ⟨18, _⟩ => ⟨S11264x2048, .f32⟩
  | .hbm, ⟨19, _⟩ => ⟨S11264x2048, .f32⟩
  | .hbm, ⟨20, _⟩ => ⟨S11264x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwDownSib.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S11264x2048 : Shape := ⟨2, ![11264, 2048]⟩
abbrev S4096x1024 : Shape := ⟨2, ![4096, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S8x128, .f32⟩
  | .hbm, ⟨3, _⟩ => ⟨S11264x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownSibRefIdeal.lean ====
abbrev S4096x11264 : Shape := ⟨2, ![4096, 11264]⟩
abbrev S4096x4096 : Shape := ⟨2, ![4096, 4096]⟩
abbrev S1 : Shape := ⟨1, ![1]⟩
abbrev S8x128 : Shape := ⟨2, ![8, 128]⟩
abbrev S_ : Shape := ⟨0, ![]⟩
abbrev S11264x4096 : Shape := ⟨2, ![11264, 4096]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S1, .i32⟩
  | .hbm, ⟨3, _⟩ => ⟨S8x128, .f32⟩
  | .hbm, ⟨4, _⟩ => ⟨S4096x11264, .f32⟩
  | .hbm, ⟨5, _⟩ => ⟨S4096x4096, .f32⟩
  | .hbm, ⟨6, _⟩ => ⟨S_, .f32⟩
  | .hbm, ⟨7, _⟩ => ⟨S11264x4096, .f32⟩
  | .hbm, ⟨8, _⟩ => ⟨S4096x4096, .f32⟩
  | .hbm, ⟨9, _⟩ => ⟨S4096x11264, .f32⟩
  | .hbm, ⟨10, _⟩ => ⟨S11264x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S11264x2048, .f32⟩
  | .hbm, ⟨15, _⟩ => ⟨S11264x2048, .f32⟩
  | .hbm, ⟨16, _⟩ => ⟨S11264x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DwDownOwn.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S4096x1024 : Shape := ⟨2, ![4096, 1024]⟩
abbrev S1024x1024 : Shape := ⟨2, ![1024, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x2048, .f32⟩
  | .hbm, ⟨3, _⟩ => ⟨S11264x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let v3 : BitVec 32 := Scalar.addi arg2 c0_i32
  let c0_i32_0 : BitVec 32 := 0#32
  ![v3.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwDownOwnRefIdeal.lean ====
abbrev S4096x11264 : Shape := ⟨2, ![4096, 11264]⟩
abbrev S4096x4096 : Shape := ⟨2, ![4096, 4096]⟩
abbrev S1 : Shape := ⟨1, ![1]⟩
abbrev S11264x2048 : Shape := ⟨2, ![11264, 2048]⟩
abbrev S_ : Shape := ⟨0, ![]⟩
abbrev S11264x4096 : Shape := ⟨2, ![11264, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S1, .i32⟩
  | .hbm, ⟨3, _⟩ => ⟨S11264x2048, .f32⟩
  | .hbm, ⟨4, _⟩ => ⟨S4096x11264, .f32⟩
  | .hbm, ⟨5, _⟩ => ⟨S4096x4096, .f32⟩
  | .hbm, ⟨6, _⟩ => ⟨S_, .f32⟩
  | .hbm, ⟨7, _⟩ => ⟨S11264x4096, .f32⟩
  | .hbm, ⟨8, _⟩ => ⟨S4096x4096, .f32⟩
  | .hbm, ⟨9, _⟩ => ⟨S4096x11264, .f32⟩
  | .hbm, ⟨10, _⟩ => ⟨S11264x4096, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S11264x2048, .f32⟩
  | .hbm, ⟨15, _⟩ => ⟨S11264x2048, .f32⟩
  | .hbm, ⟨16, _⟩ => ⟨S11264x2048, .f32⟩
  | .hbm, ⟨17, _⟩ => ⟨S11264x2048, .f32⟩
  | .hbm, ⟨18, _⟩ => ⟨S11264x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== MmIn.lean ====
abbrev S4096x4096 : Shape := ⟨2, ![4096, 4096]⟩
abbrev S2048x10240 : Shape := ⟨2, ![2048, 10240]⟩
abbrev S4096x10240 : Shape := ⟨2, ![4096, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S2048x10240, .bf16⟩
  | .hbm, ⟨2, _⟩ => ⟨S2048x10240, .bf16⟩
  | .hbm, ⟨3, _⟩ => ⟨S4096x10240, .f32⟩
  | .hbm, ⟨4, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 10, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MmInRefIdeal.lean ====
abbrev S4096x4096 : Shape := ⟨2, ![4096, 4096]⟩
abbrev S2048x10240 : Shape := ⟨2, ![2048, 10240]⟩
abbrev S4096x10240 : Shape := ⟨2, ![4096, 10240]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x10240, .bf16⟩
  | .hbm, ⟨2, _⟩ => ⟨S2048x10240, .bf16⟩
  | .hbm, ⟨3, _⟩ => ⟨S4096x4096, .f32⟩
  | .hbm, ⟨4, _⟩ => ⟨S4096x10240, .bf16⟩
  | .hbm, ⟨5, _⟩ => ⟨S4096x10240, .f32⟩
  | .hbm, ⟨6, _⟩ => ⟨S4096x10240, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmOut.lean ====
abbrev S4096x4096 : Shape := ⟨2, ![4096, 4096]⟩
abbrev S8x128 : Shape := ⟨2, ![8, 128]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S8x128, .f32⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmOutRefIdeal.lean ====
abbrev S4096x4096 : Shape := ⟨2, ![4096, 4096]⟩
abbrev S8x128 : Shape := ⟨2, ![8, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S8x128, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MmQ.lean ====
abbrev S4096x4096 : Shape := ⟨2, ![4096, 4096]⟩
abbrev S8x128 : Shape := ⟨2, ![8, 128]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmQRefIdeal.lean ====
abbrev S4096x4096 : Shape := ⟨2, ![4096, 4096]⟩
abbrev S8x128 : Shape := ⟨2, ![8, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmK.lean ====
abbrev S256x4096 : Shape := ⟨2, ![256, 4096]⟩
abbrev S4096x4096 : Shape := ⟨2, ![4096, 4096]⟩
abbrev S4096x1024 : Shape := ⟨2, ![4096, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x4096, .bf16⟩
  | .hbm, ⟨2, _⟩ => ⟨S256x4096, .bf16⟩
  | .local _ .vmem, ⟨0, _⟩ => ⟨S256x4096, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmKRefIdeal.lean ====
abbrev S256x4096 : Shape := ⟨2, ![256, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x4096, .bf16⟩
  | .hbm, ⟨2, _⟩ => ⟨S256x4096, .f32⟩
  | .hbm, ⟨3, _⟩ => ⟨S4096x4096, .f32⟩
  | .hbm, ⟨4, _⟩ => ⟨S256x4096, .f32⟩
  | .hbm, ⟨5, _⟩ => ⟨S256x4096, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmGate.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateRefIdeal.lean ====
abbrev S4096x4096 : Shape := ⟨2, ![4096, 4096]⟩
abbrev S11264x4096 : Shape := ⟨2, ![11264, 4096]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x4096, .f32⟩
  | .hbm, ⟨3, _⟩ => ⟨S11264x4096, .f32⟩
  | .hbm, ⟨4, _⟩ => ⟨S4096x11264, .f32⟩
  | .hbm, ⟨5, _⟩ => ⟨S4096x11264, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDown.lean ====
abbrev S4096x11264 : Shape := ⟨2, ![4096, 11264]⟩
abbrev S11264x4096 : Shape := ⟨2, ![11264, 4096]⟩
abbrev S4096x4096 : Shape := ⟨2, ![4096, 4096]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 16
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x5632, .bf16⟩
  | .local _ .vmem, ⟨9, _⟩ => ⟨S1024x5632, .bf16⟩
  | .local _ .vmem, ⟨10, _⟩ => ⟨S5632x512, .bf16⟩
  | .local _ .vmem, ⟨11, _⟩ => ⟨S5632x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MmDownRefIdeal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmDxn1Lo.lean ====
abbrev S4096x10240 : Shape := ⟨2, ![4096, 10240]⟩
abbrev S2048x10240 : Shape := ⟨2, ![2048, 10240]⟩
abbrev S8x128 : Shape := ⟨2, ![8, 128]⟩
abbrev S4096x4096 : Shape := ⟨2, ![4096, 4096]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S2048x10240, .bf16⟩
  | .hbm, ⟨2, _⟩ => ⟨S8x128, .f32⟩
  | .hbm, ⟨3, _⟩ => ⟨S4096x4096, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDxn1LoRefIdeal.lean ====
abbrev S4096x10240 : Shape := ⟨2, ![4096, 10240]⟩
abbrev S2048x10240 : Shape := ⟨2, ![2048, 10240]⟩
abbrev S8x128 : Shape := ⟨2, ![8, 128]⟩
abbrev S_ : Shape := ⟨0, ![]⟩
abbrev S4096x2048 : Shape := ⟨2, ![4096, 2048]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S2048x10240, .bf16⟩
  | .hbm, ⟨2, _⟩ => ⟨S8x128, .f32⟩
  | .hbm, ⟨3, _⟩ => ⟨S4096x10240, .f32⟩
  | .hbm, ⟨4, _⟩ => ⟨S2048x10240, .f32⟩
  | .hbm, ⟨5, _⟩ => ⟨S_, .f32⟩
  | .hbm, ⟨6, _⟩ => ⟨S4096x2048, .f32⟩
  | .hbm, ⟨7, _⟩ => ⟨S4096x10240, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x4096, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MmDxn1Hi.lean ====
abbrev S4096x10240 : Shape := ⟨2, ![4096, 10240]⟩
abbrev S2048x10240 : Shape := ⟨2, ![2048, 10240]⟩
abbrev S4096x4096 : Shape := ⟨2, ![4096, 4096]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S2048x10240, .bf16⟩
  | .hbm, ⟨2, _⟩ => ⟨S4096x4096, .f32⟩
  | .hbm, ⟨3, _⟩ => ⟨S4096x4096, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDxn1HiRefIdeal.lean ====
abbrev S4096x10240 : Shape := ⟨2, ![4096, 10240]⟩
abbrev S2048x10240 : Shape := ⟨2, ![2048, 10240]⟩
abbrev S4096x4096 : Shape := ⟨2, ![4096, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S2048x10240, .bf16⟩
  | .hbm, ⟨2, _⟩ => ⟨S4096x4096, .f32⟩
  | .hbm, ⟨3, _⟩ => ⟨S4096x10240, .f32⟩
  | .hbm, ⟨4, _⟩ => ⟨S2048x10240, .f32⟩
  | .hbm, ⟨5, _⟩ => ⟨S_, .f32⟩
  | .hbm, ⟨6, _⟩ => ⟨S4096x2048, .f32⟩
  | .hbm, ⟨7, _⟩ => ⟨S4096x10240, .f32⟩
  | .hbm, ⟨8, _⟩ => ⟨S4096x2048, .f32⟩
  | .hbm, ⟨9, _⟩ => ⟨S4096x2048, .f32⟩
  | .hbm, ⟨10, _⟩ => ⟨S4096x4096, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AttnFwd.lean ====
abbrev S4096x4096 : Shape := ⟨2, ![4096, 4096]⟩
abbrev S256x4096 : Shape := ⟨2, ![256, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S4096x4096 : Shape := ⟨2, ![4096, 4096]⟩
abbrev S256x4096 : Shape := ⟨2, ![256, 4096]⟩
abbrev S4096x4x1024 : Shape := ⟨3, ![4096, 4, 1024]⟩
abbrev S256x4x1024 : Shape := ⟨3, ![256, 4, 1024]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x1024x4096 : Shape := ⟨3, ![4, 1024, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .f32⟩
  | .hbm, ⟨4, _⟩ => ⟨S256x4096, .f32⟩
  | .hbm, ⟨5, _⟩ => ⟨S256x4096, .f32⟩
  | .hbm, ⟨6, _⟩ => ⟨S4096x4x1024, .f32⟩
  | .hbm, ⟨7, _⟩ => ⟨S256x4x1024, .f32⟩
  | .hbm, ⟨8, _⟩ => ⟨S256x4x1024, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x1024x4096, .f32⟩
  | .hbm, ⟨28, _⟩ => ⟨S4096x4x1024, .f32⟩
  | .hbm, ⟨29, _⟩ => ⟨S4096x4096, .f32⟩
  | .hbm, ⟨30, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== NormFwd.lean ====
abbrev S4096x4096 : Shape := ⟨2, ![4096, 4096]⟩
abbrev S1x4096 : Shape := ⟨2, ![1, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .hbm, ⟨3, _⟩ => ⟨S4096x1, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamIn.lean ====
abbrev S1x4096x2560 : Shape := ⟨3, ![1, 4096, 2560]⟩
abbrev S4096x2560 : Shape := ⟨2, ![4096, 2560]⟩
abbrev S128x2560 : Shape := ⟨2, ![128, 2560]⟩

abbrev nBuf : Space → Nat
  | .hbm => 10
  | .vmem => 14
  | .smem => 0
  | _ => 0

abbrev bufTy : (tb : Table) → Fin (tcTables nBuf tb) → BufTy
  | .hbm, ⟨0, _⟩ => ⟨S1x4096x2560, .f32⟩
  | .hbm, ⟨1, _⟩ => ⟨S4096x2560, .f32⟩
  | .hbm, ⟨2, _⟩ => ⟨S1x4096x2560, .f32⟩
  | .hbm, ⟨3, _⟩ => ⟨S1x4096x2560, .f32⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S4096x2560, .f32⟩
  | .hbm, ⟨8, _⟩ => ⟨S4096x2560, .f32⟩
  | .hbm, ⟨9, _⟩ => ⟨S4096x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x4096x2560 : Shape := ⟨3, ![1, 4096, 2560]⟩
abbrev S4096x2560 : Shape := ⟨2, ![4096, 2560]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S4096x2560, .f32⟩
  | .hbm, ⟨2, _⟩ => ⟨S1x4096x2560, .f32⟩
  | .hbm, ⟨3, _⟩ => ⟨S1x4096x2560, .f32⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S_, .f32⟩
  | .hbm, ⟨8, _⟩ => ⟨S4096x2560, .f32⟩
  | .hbm, ⟨9, _⟩ => ⟨S4096x2560, .f32⟩
  | .hbm, ⟨10, _⟩ => ⟨S_, .f32⟩
  | .hbm, ⟨11, _⟩ => ⟨S4096x2560, .f32⟩
  | .hbm, ⟨12, _⟩ => ⟨S4096x2560, .f32⟩
  | .hbm, ⟨13, _⟩ => ⟨S4096x2560, .f32⟩
  | .hbm, ⟨14, _⟩ => ⟨S_, .f32⟩
  | .hbm, ⟨15, _⟩ => ⟨S4096x2560, .f32⟩
  | .hbm, ⟨16, _⟩ => ⟨S4096x2560, .f32⟩
  | .hbm, ⟨17, _⟩ => ⟨S4096x2560, .f32⟩
  | .hbm, ⟨18, _⟩ => ⟨S_, .f32⟩
  | .hbm, ⟨19, _⟩ => ⟨S4096x2560, .f32⟩
  | .hbm, ⟨20, _⟩ => ⟨S4096x2560, .f32⟩
  | .hbm, ⟨21, _⟩ => ⟨S4096x2560, .f32⟩
  | .hbm, ⟨22, _⟩ => ⟨S_, .f32⟩
  | .hbm, ⟨23, _⟩ => ⟨S4096x2560, .f32⟩
  | .hbm, ⟨24, _⟩ => ⟨S4096x2560, .f32⟩
  | .hbm, ⟨25, _⟩ => ⟨S_, .f32⟩
  | .hbm, ⟨26, _⟩ => ⟨S4096x2560, .f32⟩
  | .hbm, ⟨27, _⟩ => ⟨S4096x2560, .f32⟩
  | .hbm, ⟨28, _⟩ => ⟨S4096x2560, .f32⟩
  | .hbm, ⟨29, _⟩ => ⟨S_, .f32⟩
  | .hbm, ⟨30, _⟩ => ⟨S4096x2560, .f32⟩
  | .hbm, ⟨31, _⟩ => ⟨S4096x2560, .f32⟩
  | .hbm, ⟨32, _⟩ => ⟨S4096x2560, .f32⟩
  | .hbm, ⟨33, _⟩ => ⟨S_, .f32⟩
  | .hbm, ⟨34, _⟩ => ⟨S4096x2560, .f32⟩
  | .hbm, ⟨35, _⟩ => ⟨S4096x2560, .f32⟩
  | .hbm, ⟨36, _⟩ => ⟨S4096x2560, .f32⟩
  | .hbm, ⟨37, _⟩ => ⟨S_, .f32⟩
  | .hbm, ⟨38, _⟩ => ⟨S4096x2560, .f32⟩
  | .hbm, ⟨39, _⟩ => ⟨S4096x2560, .f32⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamO.lean ====
abbrev S1x1024x4096 : Shape := ⟨3, ![1, 1024, 4096]⟩
abbrev S1024x4096 : Shape := ⟨2, ![1024, 4096]⟩
abbrev S128x4096 : Shape := ⟨2, ![128, 4096]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamORefIdeal.lean ====
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S1x2752x4096 : Shape := ⟨3, ![1, 2752, 4096]⟩
abbrev S2816x4096 : Shape := ⟨2, ![2816, 4096]⟩
abbrev S2752x4096 : Shape := ⟨2, ![2752, 4096]⟩
abbrev S64x4096 : Shape := ⟨2, ![64, 4096]⟩

abbrev nBuf : Space → Nat
  | .hbm => 11
  | .vmem => 16
  | .smem => 0
  | _ => 0

abbrev bufTy : (tb : Table) → Fin (tcTables nBuf tb) → BufTy
  | .hbm, ⟨0, _⟩ => ⟨S1x2752x4096, .f32⟩
  | .hbm, ⟨1, _⟩ => ⟨S2816x4096, .f32⟩
  | .hbm, ⟨2, _⟩ => ⟨S1x2752x4096, .f32⟩
  | .hbm, ⟨3, _⟩ => ⟨S1x2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S2752x4096, .f32⟩
  | .hbm, ⟨9, _⟩ => ⟨S2752x4096, .f32⟩
  | .hbm, ⟨10, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1x2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1x2752x4096 : Shape := ⟨3, ![1, 2752, 4096]⟩
abbrev S2816x4096 : Shape := ⟨2, ![2816, 4096]⟩
abbrev S2752x4096 : Shape := ⟨2, ![2752, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x2752x4096, .f32⟩
  | .hbm, ⟨1, _⟩ => ⟨S2816x4096, .f32⟩
  | .hbm, ⟨2, _⟩ => ⟨S1x2752x4096, .f32⟩
  | .hbm, ⟨3, _⟩ => ⟨S1x2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S_, .f32⟩
  | .hbm, ⟨9, _⟩ => ⟨S2752x4096, .f32⟩
  | .hbm, ⟨10, _⟩ => ⟨S2752x4096, .f32⟩
  | .hbm, ⟨11, _⟩ => ⟨S_, .f32⟩
  | .hbm, ⟨12, _⟩ => ⟨S2752x4096, .f32⟩
  | .hbm, ⟨13, _⟩ => ⟨S2752x4096, .f32⟩
  | .hbm, ⟨14, _⟩ => ⟨S2752x4096, .f32⟩
  | .hbm, ⟨15, _⟩ => ⟨S_, .f32⟩
  | .hbm, ⟨16, _⟩ => ⟨S2752x4096, .f32⟩
  | .hbm, ⟨17, _⟩ => ⟨S2752x4096, .f32⟩
  | .hbm, ⟨18, _⟩ => ⟨S2752x4096, .f32⟩
  | .hbm, ⟨19, _⟩ => ⟨S_, .f32⟩
  | .hbm, ⟨20, _⟩ => ⟨S2752x4096, .f32⟩
  | .hbm, ⟨21, _⟩ => ⟨S2752x4096, .f32⟩
  | .hbm, ⟨22, _⟩ => ⟨S2752x4096, .f32⟩
  | .hbm, ⟨23, _⟩ => ⟨S_, .f32⟩
  | .hbm, ⟨24, _⟩ => ⟨S2752x4096, .f32⟩
  | .hbm, ⟨25, _⟩ => ⟨S2752x4096, .f32⟩
  | .hbm, ⟨26, _⟩ => ⟨S_, .f32⟩
  | .hbm, ⟨27, _⟩ => ⟨S2752x4096, .f32⟩
  | .hbm, ⟨28, _⟩ => ⟨S2752x4096, .f32⟩
  | .hbm, ⟨29, _⟩ => ⟨S2752x4096, .f32⟩
  | .hbm, ⟨30, _⟩ => ⟨S_, .f32⟩
  | .hbm, ⟨31, _⟩ => ⟨S2752x4096, .f32⟩
  | .hbm, ⟨32, _⟩ => ⟨S2752x4096, .f32⟩
  | .hbm, ⟨33, _⟩ => ⟨S2752x4096, .f32⟩
  | .hbm, ⟨34, _⟩ => ⟨S_, .f32⟩
  | .hbm, ⟨35, _⟩ => ⟨S2752x4096, .f32⟩
  | .hbm, ⟨36, _⟩ => ⟨S2752x4096, .f32⟩
  | .hbm, ⟨37, _⟩ => ⟨S2752x4096, .f32⟩
  | .hbm, ⟨38, _⟩ => ⟨S_, .f32⟩
  | .hbm, ⟨39, _⟩ => ⟨S2752x4096, .f32⟩
  | .hbm, ⟨40, _⟩ => ⟨S2752x4096, .f32⟩
  | _, _ => ⟨S1x2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamGate.lean ====
abbrev S1x4096x2752 : Shape := ⟨3, ![1, 4096, 2752]⟩
abbrev S2816x4096 : Shape := ⟨2, ![2816, 4096]⟩
abbrev S4096x2752 : Shape := ⟨2, ![4096, 2752]⟩
abbrev S2752x4096 : Shape := ⟨2, ![2752, 4096]⟩
abbrev S64x4096 : Shape := ⟨2, ![64, 4096]⟩

abbrev nBuf : Space → Nat
  | .hbm => 14
  | .vmem => 16
  | .smem => 0
  | _ => 0

abbrev bufTy : (tb : Table) → Fin (tcTables nBuf tb) → BufTy
  | .hbm, ⟨0, _⟩ => ⟨S1x4096x2752, .f32⟩
  | .hbm, ⟨1, _⟩ => ⟨S2816x4096, .f32⟩
  | .hbm, ⟨2, _⟩ => ⟨S1x4096x2752, .f32⟩
  | .hbm, ⟨3, _⟩ => ⟨S1x4096x2752, .f32⟩
  | .hbm, ⟨4, _⟩ => ⟨S4096x2752, .f32⟩
  | .hbm, ⟨5, _⟩ => ⟨S2752x4096, .f32⟩
  | .hbm, ⟨6, _⟩ => ⟨S4096x2752, .f32⟩
  | .hbm, ⟨7, _⟩ => ⟨S2752x4096, .f32⟩
  | .hbm, ⟨8, _⟩ => ⟨S4096x2752, .f32⟩
  | .hbm, ⟨9, _⟩ => ⟨S2752x4096, .f32⟩
  | .hbm, ⟨10, _⟩ => ⟨S2752x4096, .f32⟩
  | .hbm, ⟨11, _⟩ => ⟨S2752x4096, .f32⟩
  | .hbm, ⟨12, _⟩ => ⟨S2752x4096, .f32⟩
  | .hbm, ⟨13, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1x4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S1x4096x2752 : Shape := ⟨3, ![1, 4096, 2752]⟩
abbrev S2816x4096 : Shape := ⟨2, ![2816, 4096]⟩
abbrev S2752x4096 : Shape := ⟨2, ![2752, 4096]⟩
abbrev S4096x2752 : Shape := ⟨2, ![4096, 2752]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x4096x2752, .f32⟩
  | .hbm, ⟨1, _⟩ => ⟨S2816x4096, .f32⟩
  | .hbm, ⟨2, _⟩ => ⟨S1x4096x2752, .f32⟩
  | .hbm, ⟨3, _⟩ => ⟨S1x4096x2752, .f32⟩
  | .hbm, ⟨4, _⟩ => ⟨S2752x4096, .f32⟩
  | .hbm, ⟨5, _⟩ => ⟨S4096x2752, .f32⟩
  | .hbm, ⟨6, _⟩ => ⟨S2752x4096, .f32⟩
  | .hbm, ⟨7, _⟩ => ⟨S4096x2752, .f32⟩
  | .hbm, ⟨8, _⟩ => ⟨S2752x4096, .f32⟩
  | .hbm, ⟨9, _⟩ => ⟨S4096x2752, .f32⟩
  | .hbm, ⟨10, _⟩ => ⟨S2752x4096, .f32⟩
  | .hbm, ⟨11, _⟩ => ⟨S_, .f32⟩
  | .hbm, ⟨12, _⟩ => ⟨S2752x4096, .f32⟩
  | .hbm, ⟨13, _⟩ => ⟨S2752x4096, .f32⟩
  | .hbm, ⟨14, _⟩ => ⟨S_, .f32⟩
  | .hbm, ⟨15, _⟩ => ⟨S2752x4096, .f32⟩
  | .hbm, ⟨16, _⟩ => ⟨S2752x4096, .f32⟩
  | .hbm, ⟨17, _⟩ => ⟨S2752x4096, .f32⟩
  | .hbm, ⟨18, _⟩ => ⟨S_, .f32⟩
  | .hbm, ⟨19, _⟩ => ⟨S2752x4096, .f32⟩
  | .hbm, ⟨20, _⟩ => ⟨S2752x4096, .f32⟩
  | .hbm, ⟨21, _⟩ => ⟨S2752x4096, .f32⟩
  | .hbm, ⟨22, _⟩ => ⟨S_, .f32⟩
  | .hbm, ⟨23, _⟩ => ⟨S2752x4096, .f32⟩
  | .hbm, ⟨24, _⟩ => ⟨S2752x4096, .f32⟩
  | .hbm, ⟨25, _⟩ => ⟨S2752x4096, .f32⟩
  | .hbm, ⟨26, _⟩ => ⟨S_, .f32⟩
  | .hbm, ⟨27, _⟩ => ⟨S2752x4096, .f32⟩
  | .hbm, ⟨28, _⟩ => ⟨S2752x4096, .f32⟩
  | .hbm, ⟨29, _⟩ => ⟨S_, .f32⟩
  | .hbm, ⟨30, _⟩ => ⟨S2752x4096, .f32⟩
  | .hbm, ⟨31, _⟩ => ⟨S2752x4096, .f32⟩
  | .hbm, ⟨32, _⟩ => ⟨S2752x4096, .f32⟩
  | .hbm, ⟨33, _⟩ => ⟨S_, .f32⟩
  | .hbm, ⟨34, _⟩ => ⟨S2752x4096, .f32⟩
  | .hbm, ⟨35, _⟩ => ⟨S2752x4096, .f32⟩
  | .hbm, ⟨36, _⟩ => ⟨S2752x4096, .f32⟩
  | .hbm, ⟨37, _⟩ => ⟨S_, .f32⟩
  | .hbm, ⟨38, _⟩ => ⟨S2752x4096, .f32⟩
  | .hbm, ⟨39, _⟩ => ⟨S2752x4096, .f32⟩
  | .hbm, ⟨40, _⟩ => ⟨S2752x4096, .f32⟩
  | .hbm, ⟨41, _⟩ => ⟨S_, .f32⟩
  | .hbm, ⟨42, _⟩ => ⟨S2752x4096, .f32⟩
  | .hbm, ⟨43, _⟩ => ⟨S2752x4096, .f32⟩
  | _, _ => ⟨S1x4096x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MixBFwd.lean ====
abbrev S4096x10240 : Shape := ⟨2, ![4096, 10240]⟩
abbrev S1x3x2048 : Shape := ⟨3, ![1, 3, 2048]⟩
abbrev S3x2048 : Shape := ⟨2, ![3, 2048]⟩
abbrev S_ : Shape := ⟨0, ![]⟩
abbrev S8x2048 : Shape := ⟨2, ![8, 2048]⟩
abbrev S4096x2048 : Shape := ⟨2, ![4096, 2048]⟩
abbrev S256x512 : Shape := ⟨2, ![256, 512]⟩
abbrev S8x512 : Shape := ⟨2, ![8, 512]⟩
abbrev S264x512 : Shape := ⟨2, ![264, 512]⟩
abbrev S1x512 : Shape := ⟨2, ![1, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x10240, .f32⟩
  | .hbm, ⟨1, _⟩ => ⟨S1x3x2048, .f32⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4096x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S256x512, .bf16⟩
  | .local _ .vmem, ⟨13, _⟩ => ⟨S256x512, .bf16⟩
  | .local _ .vmem, ⟨14, _⟩ => ⟨S264x512, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi arg1 c12_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi arg1 c16_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixBFwdRefIdeal.lean ====
abbrev S4096x10240 : Shape := ⟨2, ![4096, 10240]⟩
abbrev S1x3x2048 : Shape := ⟨3, ![1, 3, 2048]⟩
abbrev S4096x2048 : Shape := ⟨2, ![4096, 2048]⟩
abbrev S3x2048 : Shape := ⟨2, ![3, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S1x3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S3x2048, .f32⟩
  | .hbm, ⟨9, _⟩ => ⟨S_, .f32⟩
  | .hbm, ⟨10, _⟩ => ⟨S2x2048, .f32⟩
  | .hbm, ⟨11, _⟩ => ⟨S4098x2048, .f32⟩
  | .hbm, ⟨12, _⟩ => ⟨S4096x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== AdamSmall.lean ====
abbrev S1x4096 : Shape := ⟨2, ![1, 4096]⟩
abbrev S1x31x512 : Shape := ⟨3, ![1, 31, 512]⟩
abbrev S1x2048 : Shape := ⟨2, ![1, 2048]⟩
abbrev S1x3x512 : Shape := ⟨3, ![1, 3, 512]⟩
abbrev S4096 : Shape := ⟨1, ![4096]⟩
abbrev S1x3x2752 : Shape := ⟨3, ![1, 3, 2752]⟩
abbrev S15872 : Shape := ⟨1, ![15872]⟩
abbrev S2048 : Shape := ⟨1, ![2048]⟩
abbrev S1536 : Shape := ⟨1, ![1536]⟩
abbrev S8256 : Shape := ⟨1, ![8256]⟩
abbrev S_ : Shape := ⟨0, ![]⟩
abbrev S960 : Shape := ⟨1, ![960]⟩
abbrev S53248 : Shape := ⟨1, ![53248]⟩
abbrev S416x128 : Shape := ⟨2, ![416, 128]⟩

abbrev nBuf : Space → Nat
  | .hbm => 99
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x31x512, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x3x512, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x3x2752, .f32⟩
  | .hbm, ⟨10, _⟩ => ⟨S4096, .f32⟩
  | .hbm, ⟨11, _⟩ => ⟨S1x4096, .f32⟩
  | .hbm, ⟨12, _⟩ => ⟨S1x31x512, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x3x512, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S1x3x2752, .f32⟩
  | .hbm, ⟨21, _⟩ => ⟨S4096, .f32⟩
  | .hbm, ⟨22, _⟩ => ⟨S1x4096, .f32⟩
  | .hbm, ⟨23, _⟩ => ⟨S1x31x512, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x3x512, .f32⟩
  | .hbm, ⟨28, _⟩ => ⟨S1x4096, .f32⟩
  | .hbm, ⟨29, _⟩ => ⟨S4096, .f32⟩
  | .hbm, ⟨30, _⟩ => ⟨S1x4096, .f32⟩
  | .hbm, ⟨31, _⟩ => ⟨S1x3x2752, .f32⟩
  | .hbm, ⟨32, _⟩ => ⟨S4096, .f32⟩
  | .hbm, ⟨33, _⟩ => ⟨S1x4096, .f32⟩
  | .hbm, ⟨34, _⟩ => ⟨S1x31x512, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x3x512, .f32⟩
  | .hbm, ⟨39, _⟩ => ⟨S1x4096, .f32⟩
  | .hbm, ⟨40, _⟩ => ⟨S4096, .f32⟩
  | .hbm, ⟨41, _⟩ => ⟨S1x4096, .f32⟩
  | .hbm, ⟨42, _⟩ => ⟨S1x3x2752, .f32⟩
  | .hbm, ⟨43, _⟩ => ⟨S4096, .f32⟩
  | .hbm, ⟨44, _⟩ => ⟨S4096, .f32⟩
  | .hbm, ⟨45, _⟩ => ⟨S15872, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S1536, .f32⟩
  | .hbm, ⟨50, _⟩ => ⟨S4096, .f32⟩
  | .hbm, ⟨51, _⟩ => ⟨S4096, .f32⟩
  | .hbm, ⟨52, _⟩ => ⟨S8256, .f32⟩
  | .hbm, ⟨53, _⟩ => ⟨S_, .f32⟩
  | .hbm, ⟨54, _⟩ => ⟨S960, .f32⟩
  | .hbm, ⟨55, _⟩ => ⟨S53248, .f32⟩
  | .hbm, ⟨56, _⟩ => ⟨S416x128, .f32⟩
  | .hbm, ⟨57, _⟩ => ⟨S4096, .f32⟩
  | .hbm, ⟨58, _⟩ => ⟨S15872, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S1536, .f32⟩
  | .hbm, ⟨63, _⟩ => ⟨S4096, .f32⟩
  | .hbm, ⟨64, _⟩ => ⟨S4096, .f32⟩
  | .hbm, ⟨65, _⟩ => ⟨S8256, .f32⟩
  | .hbm, ⟨66, _⟩ => ⟨S_, .f32⟩
  | .hbm, ⟨67, _⟩ => ⟨S960, .f32⟩
  | .hbm, ⟨68, _⟩ => ⟨S53248, .f32⟩
  | .hbm, ⟨69, _⟩ => ⟨S416x128, .f32⟩
  | .hbm, ⟨70, _⟩ => ⟨S4096, .f32⟩
  | .hbm, ⟨71, _⟩ => ⟨S15872, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S1536, .f32⟩
  | .hbm, ⟨76, _⟩ => ⟨S4096, .f32⟩
  | .hbm, ⟨77, _⟩ => ⟨S4096, .f32⟩
  | .hbm, ⟨78, _⟩ => ⟨S8256, .f32⟩
  | .hbm, ⟨79, _⟩ => ⟨S_, .f32⟩
  | .hbm, ⟨80, _⟩ => ⟨S960, .f32⟩
  | .hbm, ⟨81, _⟩ => ⟨S53248, .f32⟩
  | .hbm, ⟨82, _⟩ => ⟨S416x128, .f32⟩
  | .hbm, ⟨83, _⟩ => ⟨S4096, .f32⟩
  | .hbm, ⟨84, _⟩ => ⟨S15872, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S1536, .f32⟩
  | .hbm, ⟨89, _⟩ => ⟨S4096, .f32⟩
  | .hbm, ⟨90, _⟩ => ⟨S4096, .f32⟩
  | .hbm, ⟨91, _⟩ => ⟨S8256, .f32⟩
  | .hbm, ⟨92, _⟩ => ⟨S_, .f32⟩
  | .hbm, ⟨93, _⟩ => ⟨S960, .f32⟩
  | .hbm, ⟨94, _⟩ => ⟨S53248, .f32⟩
  | .hbm, ⟨95, _⟩ => ⟨S416x128, .f32⟩
  | .hbm, ⟨96, _⟩ => ⟨S416x128, .f32⟩
  | .hbm, ⟨97, _⟩ => ⟨S416x128, .f32⟩
  | .hbm, ⟨98, _⟩ => ⟨S416x128, .f32⟩
  | .local _ .vmem, ⟨0, _⟩ => ⟨S416x128, .f32⟩
  | .local _ .vmem, ⟨1, _⟩ => ⟨S416x128, .f32⟩
  | .local _ .vmem, ⟨2, _⟩ => ⟨S416x128, .f32⟩
  | .local _ .vmem, ⟨3, _⟩ => ⟨S416x128, .f32⟩
  | .local _ .vmem, ⟨4, _⟩ => ⟨S416x128, .f32⟩
  | .local _ .vmem, ⟨5, _⟩ => ⟨S416x128, .f32⟩
  | .local _ .vmem, ⟨6, _⟩ => ⟨S416x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_1 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_2 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48_0 : Ref sig .tc := ⟨.hbm, 96, rfl⟩
abbrev main_v48_1 : Ref sig .tc := ⟨.hbm, 97, rfl⟩
abbrev main_v48_2 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S416x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S416x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1x4096 : Shape := ⟨2, ![1, 4096]⟩
abbrev S1x31x512 : Shape := ⟨3, ![1, 31, 512]⟩
abbrev S1x2048 : Shape := ⟨2, ![1, 2048]⟩
abbrev S1x3x512 : Shape := ⟨3, ![1, 3, 512]⟩
abbrev S4096 : Shape := ⟨1, ![4096]⟩
abbrev S1x3x2752 : Shape := ⟨3, ![1, 3, 2752]⟩
abbrev S_ : Shape := ⟨0, ![]⟩
abbrev S960 : Shape := ⟨1, ![960]⟩
abbrev S15872 : Shape := ⟨1, ![15872]⟩
abbrev S2048 : Shape := ⟨1, ![2048]⟩
abbrev S1536 : Shape := ⟨1, ![1536]⟩
abbrev S8256 : Shape := ⟨1, ![8256]⟩
abbrev S53248 : Shape := ⟨1, ![53248]⟩
abbrev S416x128 : Shape := ⟨2, ![416, 128]⟩

abbrev nBuf : Space → Nat
  | .hbm => 442
  | .vmem => 0
  | .smem => 0
  | _ => 0

abbrev hbmTy0_0 (i : Nat) : BufTy := match i % 128 with
  | 0 => ⟨S1x4096, .f32⟩
  | 1 => ⟨S1x31x512, .f32⟩
  | 2 => ⟨S1x2048, .f32⟩
  | 3 => ⟨S1x2048, .f32⟩
  | 4 => ⟨S1x2048, .f32⟩
  | 5 => ⟨S1x3x512, .f32⟩
  | 6 => ⟨S1x4096, .f32⟩
  | 7 => ⟨S4096, .f32⟩
  | 8 => ⟨S1x4096, .f32⟩
  | 9 => ⟨S1x3x2752, .f32⟩
  | 10 => ⟨S4096, .f32⟩
  | 11 => ⟨S1x4096, .f32⟩
  | 12 => ⟨S1x31x512, .f32⟩
  | 13 => ⟨S1x2048, .f32⟩
  | 14 => ⟨S1x2048, .f32⟩
  | 15 => ⟨S1x2048, .f32⟩
  | 16 => ⟨S1x3x512, .f32⟩
  | 17 => ⟨S1x4096, .f32⟩
  | 18 => ⟨S4096, .f32⟩
  | 19 => ⟨S1x4096, .f32⟩
  | 20 => ⟨S1x3x2752, .f32⟩
  | 21 => ⟨S4096, .f32⟩
  | 22 => ⟨S1x4096, .f32⟩
  | 23 => ⟨S1x31x512, .f32⟩
  | 24 => ⟨S1x2048, .f32⟩
  | 25 => ⟨S1x2048, .f32⟩
  | 26 => ⟨S1x2048, .f32⟩
  | 27 => ⟨S1x3x512, .f32⟩
  | 28 => ⟨S1x4096, .f32⟩
  | 29 => ⟨S4096, .f32⟩
  | 30 => ⟨S1x4096, .f32⟩
  | 31 => ⟨S1x3x2752, .f32⟩
  | 32 => ⟨S4096, .f32⟩
  | 33 => ⟨S1x4096, .f32⟩
  | 34 => ⟨S1x31x512, .f32⟩
  | 35 => ⟨S1x2048, .f32⟩
  | 36 => ⟨S1x2048, .f32⟩
  | 37 => ⟨S1x2048, .f32⟩
  | 38 => ⟨S1x3x512, .f32⟩
  | 39 => ⟨S1x4096, .f32⟩
  | 40 => ⟨S4096, .f32⟩
  | 41 => ⟨S1x4096, .f32⟩
  | 42 => ⟨S1x3x2752, .f32⟩
  | 43 => ⟨S4096, .f32⟩
  | 44 => ⟨S_, .f32⟩
  | 45 => ⟨S1x4096, .f32⟩
  | 46 => ⟨S1x4096, .f32⟩
  | 47 => ⟨S_, .f32⟩
  | 48 => ⟨S1x4096, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S1x4096, .f32⟩
  | 55 => ⟨S_, .f32⟩
  | 56 => ⟨S1x4096, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S_, .f32⟩
  | 63 => ⟨S1x4096, .f32⟩
  | 64 => ⟨S1x4096, .f32⟩
  | 65 => ⟨S1x4096, .f32⟩
  | 66 => ⟨S_, .f32⟩
  | 67 => ⟨S1x4096, .f32⟩
  | 68 => ⟨S1x4096, .f32⟩
  | 69 => ⟨S1x4096, .f32⟩
  | 70 => ⟨S_, .f32⟩
  | 71 => ⟨S1x4096, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S_, .f32⟩
  | 78 => ⟨S1x31x512, .f32⟩
  | 79 => ⟨S1x31x512, .f32⟩
  | 80 => ⟨S_, .f32⟩
  | 81 => ⟨S1x31x512, .f32⟩
  | 82 => ⟨S1x31x512, .f32⟩
  | 83 => ⟨S1x31x512, .f32⟩
  | 84 => ⟨S_, .f32⟩
  | 85 => ⟨S1x31x512, .f32⟩
  | 86 => ⟨S1x31x512, .f32⟩
  | 87 => ⟨S1x31x512, .f32⟩
  | 88 => ⟨S_, .f32⟩
  | 89 => ⟨S1x31x512, .f32⟩
  | 90 => ⟨S1x31x512, .f32⟩
  | 91 => ⟨S1x31x512, .f32⟩
  | 92 => ⟨S_, .f32⟩
  | 93 => ⟨S1x31x512, .f32⟩
  | 94 => ⟨S1x31x512, .f32⟩
  | 95 => ⟨S_, .f32⟩
  | 96 => ⟨S1x31x512, .f32⟩
  | 97 => ⟨S1x31x512, .f32⟩
  | 98 => ⟨S1x31x512, .f32⟩
  | 99 => ⟨S_, .f32⟩
  | 100 => ⟨S1x31x512, .f32⟩
  | 101 => ⟨S1x31x512, .f32⟩
  | 102 => ⟨S1x31x512, .f32⟩
  | 103 => ⟨S_, .f32⟩
  | 104 => ⟨S1x31x512, .f32⟩
  | 105 => ⟨S1x31x512, .f32⟩
  | 106 => ⟨S1x31x512, .f32⟩
  | 107 => ⟨S_, .f32⟩
  | 108 => ⟨S1x31x512, .f32⟩
  | 109 => ⟨S1x31x512, .f32⟩
  | 110 => ⟨S_, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x4096, .f32⟩

abbrev hbmTy0_1 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S1x2048, .f32⟩
  | 78 => ⟨S_, .f32⟩
  | 79 => ⟨S1x2048, .f32⟩
  | 80 => ⟨S1x2048, .f32⟩
  | 81 => ⟨S_, .f32⟩
  | 82 => ⟨S1x3x512, .f32⟩
  | 83 => ⟨S1x3x512, .f32⟩
  | 84 => ⟨S_, .f32⟩
  | 85 => ⟨S1x3x512, .f32⟩
  | 86 => ⟨S1x3x512, .f32⟩
  | 87 => ⟨S1x3x512, .f32⟩
  | 88 => ⟨S_, .f32⟩
  | 89 => ⟨S1x3x512, .f32⟩
  | 90 => ⟨S1x3x512, .f32⟩
  | 91 => ⟨S1x3x512, .f32⟩
  | 92 => ⟨S_, .f32⟩
  | 93 => ⟨S1x3x512, .f32⟩
  | 94 => ⟨S1x3x512, .f32⟩
  | 95 => ⟨S1x3x512, .f32⟩
  | 96 => ⟨S_, .f32⟩
  | 97 => ⟨S1x3x512, .f32⟩
  | 98 => ⟨S1x3x512, .f32⟩
  | 99 => ⟨S_, .f32⟩
  | 100 => ⟨S1x3x512, .f32⟩
  | 101 => ⟨S1x3x512, .f32⟩
  | 102 => ⟨S1x3x512, .f32⟩
  | 103 => ⟨S_, .f32⟩
  | 104 => ⟨S1x3x512, .f32⟩
  | 105 => ⟨S1x3x512, .f32⟩
  | 106 => ⟨S1x3x512, .f32⟩
  | 107 => ⟨S_, .f32⟩
  | 108 => ⟨S1x3x512, .f32⟩
  | 109 => ⟨S1x3x512, .f32⟩
  | 110 => ⟨S1x3x512, .f32⟩
  | 111 => ⟨S_, .f32⟩
  | 112 => ⟨S1x3x512, .f32⟩
  | 113 => ⟨S1x3x512, .f32⟩
  | 114 => ⟨S_, .f32⟩
  | 115 => ⟨S1x4096, .f32⟩
  | 116 => ⟨S1x4096, .f32⟩
  | 117 => ⟨S_, .f32⟩
  | 118 => ⟨S1x4096, .f32⟩
  | 119 => ⟨S1x4096, .f32⟩
  | 120 => ⟨S1x4096, .f32⟩
  | 121 => ⟨S_, .f32⟩
  | 122 => ⟨S1x4096, .f32⟩
  | 123 => ⟨S1x4096, .f32⟩
  | 124 => ⟨S1x4096, .f32⟩
  | 125 => ⟨S_, .f32⟩
  | 126 => ⟨S1x4096, .f32⟩
  | 127 => ⟨S1x4096, .f32⟩
  | _ => ⟨S1x4096, .f32⟩

abbrev hbmTy0_2 (i : Nat) : BufTy := match i % 128 with
  | 0 => ⟨S1x4096, .f32⟩
  | 1 => ⟨S_, .f32⟩
  | 2 => ⟨S1x4096, .f32⟩
  | 3 => ⟨S1x4096, .f32⟩
  | 4 => ⟨S_, .f32⟩
  | 5 => ⟨S1x4096, .f32⟩
  | 6 => ⟨S1x4096, .f32⟩
  | 7 => ⟨S1x4096, .f32⟩
  | 8 => ⟨S_, .f32⟩
  | 9 => ⟨S1x4096, .f32⟩
  | 10 => ⟨S1x4096, .f32⟩
  | 11 => ⟨S1x4096, .f32⟩
  | 12 => ⟨S_, .f32⟩
  | 13 => ⟨S1x4096, .f32⟩
  | 14 => ⟨S1x4096, .f32⟩
  | 15 => ⟨S1x4096, .f32⟩
  | 16 => ⟨S_, .f32⟩
  | 17 => ⟨S1x4096, .f32⟩
  | 18 => ⟨S1x4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096, .f32⟩
  | 34 => ⟨S_, .f32⟩
  | 35 => ⟨S4096, .f32⟩
  | 36 => ⟨S4096, .f32⟩
  | 37 => ⟨S_, .f32⟩
  | 38 => ⟨S4096, .f32⟩
  | 39 => ⟨S4096, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S_, .f32⟩
  | 50 => ⟨S4096, .f32⟩
  | 51 => ⟨S4096, .f32⟩
  | 52 => ⟨S_, .f32⟩
  | 53 => ⟨S1x4096, .f32⟩
  | 54 => ⟨S1x4096, .f32⟩
  | 55 => ⟨S_, .f32⟩
  | 56 => ⟨S1x4096, .f32⟩
  | 57 => ⟨S1x4096, .f32⟩
  | 58 => ⟨S1x4096, .f32⟩
  | 59 => ⟨S_, .f32⟩
  | 60 => ⟨S1x4096, .f32⟩
  | 61 => ⟨S1x4096, .f32⟩
  | 62 => ⟨S1x4096, .f32⟩
  | 63 => ⟨S_, .f32⟩
  | 64 => ⟨S1x4096, .f32⟩
  | 65 => ⟨S1x4096, .f32⟩
  | 66 => ⟨S1x4096, .f32⟩
  | 67 => ⟨S_, .f32⟩
  | 68 => ⟨S1x4096, .f32⟩
  | 69 => ⟨S1x4096, .f32⟩
  | 70 => ⟨S_, .f32⟩
  | 71 => ⟨S1x4096, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S1x4096, .f32⟩
  | 82 => ⟨S_, .f32⟩
  | 83 => ⟨S1x4096, .f32⟩
  | 84 => ⟨S1x4096, .f32⟩
  | 85 => ⟨S_, .f32⟩
  | 86 => ⟨S1x3x2752, .f32⟩
  | 87 => ⟨S1x3x2752, .f32⟩
  | 88 => ⟨S_, .f32⟩
  | 89 => ⟨S1x3x2752, .f32⟩
  | 90 => ⟨S1x3x2752, .f32⟩
  | 91 => ⟨S1x3x2752, .f32⟩
  | 92 => ⟨S_, .f32⟩
  | 93 => ⟨S1x3x2752, .f32⟩
  | 94 => ⟨S1x3x2752, .f32⟩
  | 95 => ⟨S1x3x2752, .f32⟩
  | 96 => ⟨S_, .f32⟩
  | 97 => ⟨S1x3x2752, .f32⟩
  | 98 => ⟨S1x3x2752, .f32⟩
  | 99 => ⟨S1x3x2752, .f32⟩
  | 100 => ⟨S_, .f32⟩
  | 101 => ⟨S1x3x2752, .f32⟩
  | 102 => ⟨S1x3x2752, .f32⟩
  | 103 => ⟨S_, .f32⟩
  | 104 => ⟨S1x3x2752, .f32⟩
  | 105 => ⟨S1x3x2752, .f32⟩
  | 106 => ⟨S1x3x2752, .f32⟩
  | 107 => ⟨S_, .f32⟩
  | 108 => ⟨S1x3x2752, .f32⟩
  | 109 => ⟨S1x3x2752, .f32⟩
  | 110 => ⟨S1x3x2752, .f32⟩
  | 111 => ⟨S_, .f32⟩
  | 112 => ⟨S1x3x2752, .f32⟩
  | 113 => ⟨S1x3x2752, .f32⟩
  | 114 => ⟨S1x3x2752, .f32⟩
  | 115 => ⟨S_, .f32⟩
  | 116 => ⟨S1x3x2752, .f32⟩
  | 117 => ⟨S1x3x2752, .f32⟩
  | 118 => ⟨S_, .f32⟩
  | 119 => ⟨S4096, .f32⟩
  | 120 => ⟨S4096, .f32⟩
  | 121 => ⟨S_, .f32⟩
  | 122 => ⟨S4096, .f32⟩
  | 123 => ⟨S4096, .f32⟩
  | 124 => ⟨S4096, .f32⟩
  | 125 => ⟨S_, .f32⟩
  | 126 => ⟨S4096, .f32⟩
  | 127 => ⟨S4096, .f32⟩
  | _ => ⟨S1x4096, .f32⟩

abbrev hbmTy0_3 (i : Nat) : BufTy := match i % 128 with
  | 0 => ⟨S4096, .f32⟩
  | 1 => ⟨S_, .f32⟩
  | 2 => ⟨S4096, .f32⟩
  | 3 => ⟨S4096, .f32⟩
  | 4 => ⟨S4096, .f32⟩
  | 5 => ⟨S_, .f32⟩
  | 6 => ⟨S4096, .f32⟩
  | 7 => ⟨S4096, .f32⟩
  | 8 => ⟨S_, .f32⟩
  | 9 => ⟨S4096, .f32⟩
  | 10 => ⟨S4096, .f32⟩
  | 11 => ⟨S4096, .f32⟩
  | 12 => ⟨S_, .f32⟩
  | 13 => ⟨S4096, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S_, .f32⟩
  | 21 => ⟨S4096, .f32⟩
  | 22 => ⟨S4096, .f32⟩
  | 23 => ⟨S_, .f32⟩
  | 24 => ⟨S960, .f32⟩
  | 25 => ⟨S4096, .f32⟩
  | 26 => ⟨S15872, .f32⟩
  | 27 => ⟨S2048, .f32⟩
  | 28 => ⟨S2048, .f32⟩
  | 29 => ⟨S2048, .f32⟩
  | 30 => ⟨S1536, .f32⟩
  | 31 => ⟨S4096, .f32⟩
  | 32 => ⟨S4096, .f32⟩
  | 33 => ⟨S8256, .f32⟩
  | 34 => ⟨S53248, .f32⟩
  | 35 => ⟨S416x128, .f32⟩
  | 36 => ⟨S4096, .f32⟩
  | 37 => ⟨S15872, .f32⟩
  | 38 => ⟨S2048, .f32⟩
  | 39 => ⟨S2048, .f32⟩
  | 40 => ⟨S2048, .f32⟩
  | 41 => ⟨S1536, .f32⟩
  | 42 => ⟨S4096, .f32⟩
  | 43 => ⟨S4096, .f32⟩
  | 44 => ⟨S8256, .f32⟩
  | 45 => ⟨S53248, .f32⟩
  | 46 => ⟨S416x128, .f32⟩
  | 47 => ⟨S4096, .f32⟩
  | 48 => ⟨S15872, .f32⟩
  | 49 => ⟨S2048, .f32⟩
  | 50 => ⟨S2048, .f32⟩
  | 51 => ⟨S2048, .f32⟩
  | 52 => ⟨S1536, .f32⟩
  | 53 => ⟨S4096, .f32⟩
  | 54 => ⟨S4096, .f32⟩
  | 55 => ⟨S8256, .f32⟩
  | 56 => ⟨S53248, .f32⟩
  | 57 => ⟨S416x128, .f32⟩
  | _ => ⟨S1x4096, .f32⟩

abbrev hbmTy (i : Nat) : BufTy := match i / 128 with
  | 0 => hbmTy0_0 i
  | 1 => hbmTy0_1 i
  | 2 => hbmTy0_2 i
  | 3 => hbmTy0_3 i
  | _ => ⟨S1x4096, .f32⟩

abbrev bufTy : (tb : Table) → Fin (tcTables nBuf tb) → BufTy
  | .hbm, ⟨i, _⟩ => hbmTy i
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_cst_98 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_v289 : Ref sig .tc := ⟨.hbm, 433, rfl⟩
abbrev main_v290 : Ref sig .tc := ⟨.hbm, 434, rfl⟩
abbrev main_v291 : Ref sig .tc := ⟨.hbm, 435, rfl⟩
abbrev main_v292 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_v297 : Ref sig .tc := ⟨.hbm, 441, rfl⟩

abbrev nD : Nat := 1
abbrev τ : Topo := Topo.v7x

variable {F : FTy → Type} [FloatOps F]
-- ==== Proof.AdamDownAlg.lean ====
module

public import proofs.«01_k».proof.Proof.Gen.AdamDownIdeal.Value
public import proofs.«01_k».proof.Proof.Gen.AdamDownRefIdeal.Read
public import proofs.«01_k».proof.Proof.Gen.AdamDownRefIdeal.Run
public import proofs.«01_k».proof.Defs
public import Idealize.ShloMosaic.Lib.Pipeline.ValueKit
public import Idealize.ShloMosaic.Lib.Claim

/-!
  The optimiser's step for a weight of the feed-forward layer, with its gradient
  handed on, row block by row block: the same formula at each element.
-/

@[expose] public section

set_option maxRecDepth 16384

noncomputable section

namespace Cert.AdamDownAlg

open Cert.AdamDownIdeal Cert.AdamDownIdeal.Gen Cert.AdamDownIdeal.Value Idealize.ShloMosaic Idealize.ShloMosaic.TcCoe Idealize.SL.Sem
open Idealize.ShloMosaic.Pipeline (Dat)

/-- A single-precision constant of the step. -/
abbrev num (b : BitVec 32) : EReal := FloatOps.ofBits (F := Ideal) .f32 b

/-- The new first moment of one element. -/
def mom (g m : EReal) : EReal := num 0x3F666666#32 * m + num 0x3DCCCCCD#32 * g

/-- The new second moment of one element. -/
def sec (g v : EReal) : EReal := num 0x3F7FBE77#32 * v + num 0x3A83126F#32 * (g * g)

/-- The step of one element. -/
def delta (w g m v : EReal) : EReal :=
  num 0xBA83126F#32 * (Ideal.div (Ideal.div (mom g m) (num 0x3F26BD02#32)) (Ideal.sqrt (Ideal.div (sec g v) (num 0x3C231ACC#32)) + num 0x322BCC77#32)
    + num 0x3C23D70A#32 * w)

/-- The block of new first moments, at an index. -/
theorem mom_at (g mm : Vec Ideal S64x4096 .f32) (j : S64x4096.Idx) : k0_pay1 g mm j = mom (g j) (mm j) := by
  unfold k0_pay1
  simp only [shapeCast_self]
  rfl

/-- The block of new second moments, at an index. -/
theorem sec_at (g v : Vec Ideal S64x4096 .f32) (j : S64x4096.Idx) : k0_pay2 g v j = sec (g j) (v j) := by
  unfold k0_pay2
  simp only [shapeCast_self]
  rfl

/-- The block of steps, at an index. -/
theorem delta_at (g mm v w : Vec Ideal S64x4096 .f32) (j : S64x4096.Idx) : k0_pay3 g mm v w j = delta (w j) (g j) (mm j) (v j) := by
  unfold k0_pay3 k0_pay1 k0_pay2
  simp only [shapeCast_self]
  rfl

/-- The reference's new first moment, at an index. -/
theorem ref_mom (x1 : FVec Ideal S2816x4096 .f32) (x2 : FVec Ideal S1x2752x4096 .f32) (i : S2752x4096.Idx) :
    Cert.AdamDownRefIdeal.Read.val_main_v8 (F := Ideal) x1 x2 i = mom (Cert.AdamDownRefIdeal.Read.val_main_v0 (F := Ideal) x1 i) (Cert.AdamDownRefIdeal.Read.val_main_v2 (F := Ideal) x2 i) := rfl

/-- The reference's new second moment, at an index. -/
theorem ref_sec (x1 : FVec Ideal S2816x4096 .f32) (x3 : FVec Ideal S1x2752x4096 .f32) (i : S2752x4096.Idx) :
    Cert.AdamDownRefIdeal.Read.val_main_v14 (F := Ideal) x1 x3 i = sec (Cert.AdamDownRefIdeal.Read.val_main_v0 (F := Ideal) x1 i) (Cert.AdamDownRefIdeal.Read.val_main_v3 (F := Ideal) x3 i) := rfl

/-- The reference's step, at an index. -/
theorem ref_delta (x0 : FVec Ideal S1x2752x4096 .f32) (x1 : FVec Ideal S2816x4096 .f32) (x2 : FVec Ideal S1x2752x4096 .f32) (x3 : FVec Ideal S1x2752x4096 .f32) (i : S2752x4096.Idx) :
    Cert.AdamDownRefIdeal.Read.val_main_v27 (F := Ideal) x0 x1 x2 x3 i = delta (Cert.AdamDownRefIdeal.Read.val_main_v1 (F := Ideal) x0 i) (Cert.AdamDownRefIdeal.Read.val_main_v0 (F := Ideal) x1 i) (Cert.AdamDownRefIdeal.Read.val_main_v2 (F := Ideal) x2 i) (Cert.AdamDownRefIdeal.Read.val_main_v3 (F := Ideal) x3 i) := rfl

/-- Where the blocks of a grid point lie. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Where an index of a grid point's block lies in the arrays. -/
def emb (t : Fin cfg0.N) (y : S64x4096.Idx) : S2752x4096.Idx :=
  ix2 ⟨t.val * 64 + (y 0).val, by have ht : t.val < 43 := t.isLt; have hy : (y 0).val < 64 := (y 0).isLt; omega⟩ ⟨(y 1).val, (y 1).isLt⟩

/-- The weights' block at a grid point, at an index. -/
theorem blk0_at (t : Fin cfg0.N) (y : S64x4096.Idx) :
    (iblk m c 0 t : FVec Ideal S64x4096 .f32) y = Cert.AdamDownRefIdeal.Read.val_main_v1 (F := Ideal) (m ((c : Thread nD τ).loc main_arg0)) (emb t y) := by
  refine Eq.trans ?_ (congrFun (show (V m c main_v0 : FVec Ideal S2752x4096 .f32) = Cert.AdamDownRefIdeal.Read.val_main_v1 (F := Ideal) (m ((c : Thread nD τ).loc main_arg0)) from rfl) (emb t y))
  blk_point [iblk, emb, idx_val t] <;> rfl

/-- The first moments' block at a grid point, at an index. -/
theorem blk2_at (t : Fin cfg0.N) (y : S64x4096.Idx) :
    (iblk m c 2 t : FVec Ideal S64x4096 .f32) y = Cert.AdamDownRefIdeal.Read.val_main_v2 (F := Ideal) (m ((c : Thread nD τ).loc main_arg2)) (emb t y) := by
  refine Eq.trans ?_ (congrFun (show (V m c main_v1 : FVec Ideal S2752x4096 .f32) = Cert.AdamDownRefIdeal.Read.val_main_v2 (F := Ideal) (m ((c : Thread nD τ).loc main_arg2)) from rfl) (emb t y))
  blk_point [iblk, emb, idx_val t] <;> rfl

/-- The second moments' block at a grid point, at an index. -/
theorem blk3_at (t : Fin cfg0.N) (y : S64x4096.Idx) :
    (iblk m c 3 t : FVec Ideal S64x4096 .f32) y = Cert.AdamDownRefIdeal.Read.val_main_v3 (F := Ideal) (m ((c : Thread nD τ).loc main_arg3)) (emb t y) := by
  refine Eq.trans ?_ (congrFun (show (V m c main_v2 : FVec Ideal S2752x4096 .f32) = Cert.AdamDownRefIdeal.Read.val_main_v3 (F := Ideal) (m ((c : Thread nD τ).loc main_arg3)) from rfl) (emb t y))
  blk_point [iblk, emb, idx_val t] <;> rfl

/-- The gradient's block at a grid point, at an index. -/
theorem blk1_at (t : Fin cfg0.N) (y : S64x4096.Idx) :
    (iblk m c 1 t : FVec Ideal S64x4096 .f32) y = Cert.AdamDownRefIdeal.Read.val_main_v0 (F := Ideal) (m ((c : Thread nD τ).loc main_arg1)) (emb t y) := by
  refine Eq.trans ?_ (Cert.AdamDownRefIdeal.Read.val_main_v0_apply (F := Ideal) (m ((c : Thread nD τ).loc main_arg1)) (emb t y)).symm
  blk_point [iblk, V, emb, idx_val t] <;> rfl

/-- The array of steps is the reference's. -/
theorem final_delta : (dats m 0 c).arrAt 4 cfg0.N = Cert.AdamDownRefIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have he : (((cfg0.win 4).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamDownRefIdeal.Read.val_main_v27 (F := Ideal) (m ((c : Thread nD τ).loc main_arg0)) (m ((c : Thread nD τ).loc main_arg1)) (m ((c : Thread nD τ).loc main_arg2)) (m ((c : Thread nD τ).loc main_arg3))) he).symm
  blk_simp
  rw [after0_4]
  unfold out0_4
  frame_out
  refine (delta_at ..).trans ?_
  rw [blk0_at m c t y, blk1_at m c t y, blk2_at m c t y, blk3_at m c t y]
  rfl

/-- The array of new first moments is the reference's. -/
theorem final_mom : (dats m 0 c).arrAt 5 cfg0.N = Cert.AdamDownRefIdeal.Read.val_main_v8 (F := Ideal) (m ((c : Thread nD τ).loc main_arg1)) (m ((c : Thread nD τ).loc main_arg2)) := by
  refine (dats m 0 c).arrAt_eq_of_covers 5 _ (by decide +kernel) fun t hf y => ?_
  have he : (((cfg0.win 5).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamDownRefIdeal.Read.val_main_v8 (F := Ideal) (m ((c : Thread nD τ).loc main_arg1)) (m ((c : Thread nD τ).loc main_arg2))) he).symm
  blk_simp
  rw [after0_5]
  unfold out0_5
  frame_out
  refine (mom_at ..).trans ?_
  rw [blk1_at m c t y, blk2_at m c t y]
  rfl

/-- The array of new second moments is the reference's. -/
theorem final_sec : (dats m 0 c).arrAt 6 cfg0.N = Cert.AdamDownRefIdeal.Read.val_main_v14 (F := Ideal) (m ((c : Thread nD τ).loc main_arg1)) (m ((c : Thread nD τ).loc main_arg3)) := by
  refine (dats m 0 c).arrAt_eq_of_covers 6 _ (by decide +kernel) fun t hf y => ?_
  have he : (((cfg0.win 6).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamDownRefIdeal.Read.val_main_v14 (F := Ideal) (m ((c : Thread nD τ).loc main_arg1)) (m ((c : Thread nD τ).loc main_arg3))) he).symm
  blk_simp
  rw [after0_6]
  unfold out0_6
  frame_out
  refine (sec_at ..).trans ?_
  rw [blk1_at m c t y, blk3_at m c t y]
  rfl

/-- The array of gradients is the reference's. -/
theorem final_grad : (dats m 0 c).arrAt 7 cfg0.N = Cert.AdamDownRefIdeal.Read.val_main_v0 (F := Ideal) (m ((c : Thread nD τ).loc main_arg1)) := by
  refine (dats m 0 c).arrAt_eq_of_covers 7 _ (by decide +kernel) fun t hf y => ?_
  have he : (((cfg0.win 7).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamDownRefIdeal.Read.val_main_v0 (F := Ideal) (m ((c : Thread nD τ).loc main_arg1))) he).symm
  blk_simp
  rw [after0_7]
  unfold out0_7
  frame_out
  rw [blk1_at m c t y]

/-- The call's results are the reference's. -/
theorem claim : Cert.algebraic_AdamDownIdeal_AdamDownRefIdeal (hAdamDownIdeal := Cert.AdamDownIdeal.Gen.facts)
    (hAdamDownRefIdeal := Cert.AdamDownRefIdeal.Gen.facts) := by
  intro m g m' g' hpre hargs
  refine ⟨fun c => (dats m 0 c).arrAt 4 cfg0.N, fun c => (dats m 0 c).arrAt 5 cfg0.N, fun c => (dats m 0 c).arrAt 6 cfg0.N, fun c => (dats m 0 c).arrAt 7 cfg0.N, run_blocks m g,
    (θ_run Cert.AdamDownRefIdeal.defs _ _).mono (fun r h c => ?_) (Cert.AdamDownRefIdeal.Value.run m' g')⟩
  obtain ⟨h1, h2, h3, h4, hr⟩ := h c
  obtain ⟨a0, a1, a2, a3⟩ := hargs c
  refine ⟨h1.trans ((Cert.AdamDownRefIdeal.Read.val_main_v27_eq _ _ _ _).trans ?_), h2.trans ((Cert.AdamDownRefIdeal.Read.val_main_v8_eq _ _).trans ?_), h3.trans ((Cert.AdamDownRefIdeal.Read.val_main_v14_eq _ _).trans ?_), h4.trans ((Cert.AdamDownRefIdeal.Read.val_main_v0_eq _).trans ?_), hr⟩
  · rw [a0, a1, a2, a3]
    exact (final_delta m c).symm
  · rw [a1, a2]
    exact (final_mom m c).symm
  · rw [a1, a3]
    exact (final_sec m c).symm
  · rw [a1]
    exact (final_grad m c).symm

end Cert.AdamDownAlg
-- ==== Proof.AdamGateAlg.lean ====
module

public import proofs.«01_k».proof.Proof.Gen.AdamGateIdeal.Value
public import proofs.«01_k».proof.Proof.Gen.AdamGateRefIdeal.Read
public import proofs.«01_k».proof.Proof.Gen.AdamGateRefIdeal.Run
public import proofs.«01_k».proof.Defs
public import Idealize.ShloMosaic.Lib.Pipeline.ValueKit
public import Idealize.ShloMosaic.Lib.Claim

/-!
  The optimiser's step for a weight that the feed-forward layer's first products read, in the layout of its transpose and with
  its gradient handed on, row block by row block: the same formula at each element.
-/

@[expose] public section

set_option maxRecDepth 16384

noncomputable section

namespace Cert.AdamGateAlg

open Cert.AdamGateIdeal Cert.AdamGateIdeal.Gen Cert.AdamGateIdeal.Value Idealize.ShloMosaic Idealize.ShloMosaic.TcCoe Idealize.SL.Sem
open Idealize.ShloMosaic.Pipeline (Dat)

/-- A single-precision constant of the step. -/
abbrev num (b : BitVec 32) : EReal := FloatOps.ofBits (F := Ideal) .f32 b

/-- The new first moment of one element. -/
def mom (g m : EReal) : EReal := num 0x3F666666#32 * m + num 0x3DCCCCCD#32 * g

/-- The new second moment of one element. -/
def sec (g v : EReal) : EReal := num 0x3F7FBE77#32 * v + num 0x3A83126F#32 * (g * g)

/-- The step of one element. -/
def delta (w g m v : EReal) : EReal :=
  num 0xBA83126F#32 * (Ideal.div (Ideal.div (mom g m) (num 0x3F26BD02#32)) (Ideal.sqrt (Ideal.div (sec g v) (num 0x3C231ACC#32)) + num 0x322BCC77#32)
    + num 0x3C23D70A#32 * w)

/-- The block of new first moments, at an index. -/
theorem mom_at (g mm : Vec Ideal S64x4096 .f32) (j : S64x4096.Idx) : k0_pay1 g mm j = mom (g j) (mm j) := by
  unfold k0_pay1
  simp only [shapeCast_self]
  rfl

/-- The block of new second moments, at an index. -/
theorem sec_at (g v : Vec Ideal S64x4096 .f32) (j : S64x4096.Idx) : k0_pay2 g v j = sec (g j) (v j) := by
  unfold k0_pay2
  simp only [shapeCast_self]
  rfl

/-- The block of steps, at an index. -/
theorem delta_at (g mm v w : Vec Ideal S64x4096 .f32) (j : S64x4096.Idx) : k0_pay3 g mm v w j = delta (w j) (g j) (mm j) (v j) := by
  unfold k0_pay3 k0_pay1 k0_pay2
  simp only [shapeCast_self]
  rfl

/-- The reference's new first moment, at an index. -/
theorem ref_mom (x1 : FVec Ideal S2816x4096 .f32) (x2 : FVec Ideal S1x4096x2752 .f32) (i : S2752x4096.Idx) :
    Cert.AdamGateRefIdeal.Read.val_main_v11 (F := Ideal) x1 x2 i = mom (Cert.AdamGateRefIdeal.Read.val_main_v0 (F := Ideal) x1 i) (Cert.AdamGateRefIdeal.Read.val_main_v4 (F := Ideal) x2 i) := rfl

/-- The reference's new second moment, at an index. -/
theorem ref_sec (x1 : FVec Ideal S2816x4096 .f32) (x3 : FVec Ideal S1x4096x2752 .f32) (i : S2752x4096.Idx) :
    Cert.AdamGateRefIdeal.Read.val_main_v17 (F := Ideal) x1 x3 i = sec (Cert.AdamGateRefIdeal.Read.val_main_v0 (F := Ideal) x1 i) (Cert.AdamGateRefIdeal.Read.val_main_v6 (F := Ideal) x3 i) := rfl

/-- The reference's step, at an index. -/
theorem ref_delta (x0 : FVec Ideal S1x4096x2752 .f32) (x1 : FVec Ideal S2816x4096 .f32) (x2 : FVec Ideal S1x4096x2752 .f32) (x3 : FVec Ideal S1x4096x2752 .f32) (i : S2752x4096.Idx) :
    Cert.AdamGateRefIdeal.Read.val_main_v30 (F := Ideal) x0 x1 x2 x3 i = delta (Cert.AdamGateRefIdeal.Read.val_main_v2 (F := Ideal) x0 i) (Cert.AdamGateRefIdeal.Read.val_main_v0 (F := Ideal) x1 i) (Cert.AdamGateRefIdeal.Read.val_main_v4 (F := Ideal) x2 i) (Cert.AdamGateRefIdeal.Read.val_main_v6 (F := Ideal) x3 i) := rfl

/-- Where the blocks of a grid point lie. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Where an index of a grid point's block lies in the arrays. -/
def emb (t : Fin cfg0.N) (y : S64x4096.Idx) : S2752x4096.Idx :=
  ix2 ⟨t.val * 64 + (y 0).val, by have ht : t.val < 43 := t.isLt; have hy : (y 0).val < 64 := (y 0).isLt; omega⟩ ⟨(y 1).val, (y 1).isLt⟩

/-- The weights' block at a grid point, at an index. -/
theorem blk0_at (t : Fin cfg0.N) (y : S64x4096.Idx) :
    (iblk m c 0 t : FVec Ideal S64x4096 .f32) y = Cert.AdamGateRefIdeal.Read.val_main_v2 (F := Ideal) (m ((c : Thread nD τ).loc main_arg0)) (emb t y) := by
  refine Eq.trans ?_ (congrFun (show (V m c main_v1 : FVec Ideal S2752x4096 .f32) = Cert.AdamGateRefIdeal.Read.val_main_v2 (F := Ideal) (m ((c : Thread nD τ).loc main_arg0)) from rfl) (emb t y))
  blk_point [iblk, emb, idx_val t] <;> rfl

/-- The first moments' block at a grid point, at an index. -/
theorem blk2_at (t : Fin cfg0.N) (y : S64x4096.Idx) :
    (iblk m c 2 t : FVec Ideal S64x4096 .f32) y = Cert.AdamGateRefIdeal.Read.val_main_v4 (F := Ideal) (m ((c : Thread nD τ).loc main_arg2)) (emb t y) := by
  refine Eq.trans ?_ (congrFun (show (V m c main_v3 : FVec Ideal S2752x4096 .f32) = Cert.AdamGateRefIdeal.Read.val_main_v4 (F := Ideal) (m ((c : Thread nD τ).loc main_arg2)) from rfl) (emb t y))
  blk_point [iblk, emb, idx_val t] <;> rfl

/-- The second moments' block at a grid point, at an index. -/
theorem blk3_at (t : Fin cfg0.N) (y : S64x4096.Idx) :
    (iblk m c 3 t : FVec Ideal S64x4096 .f32) y = Cert.AdamGateRefIdeal.Read.val_main_v6 (F := Ideal) (m ((c : Thread nD τ).loc main_arg3)) (emb t y) := by
  refine Eq.trans ?_ (congrFun (show (V m c main_v5 : FVec Ideal S2752x4096 .f32) = Cert.AdamGateRefIdeal.Read.val_main_v6 (F := Ideal) (m ((c : Thread nD τ).loc main_arg3)) from rfl) (emb t y))
  blk_point [iblk, emb, idx_val t] <;> rfl

/-- The gradient's block at a grid point, at an index. -/
theorem blk1_at (t : Fin cfg0.N) (y : S64x4096.Idx) :
    (iblk m c 1 t : FVec Ideal S64x4096 .f32) y = Cert.AdamGateRefIdeal.Read.val_main_v0 (F := Ideal) (m ((c : Thread nD τ).loc main_arg1)) (emb t y) := by
  refine Eq.trans ?_ (Cert.AdamGateRefIdeal.Read.val_main_v0_apply (F := Ideal) (m ((c : Thread nD τ).loc main_arg1)) (emb t y)).symm
  blk_point [iblk, V, emb, idx_val t] <;> rfl

/-- The array of steps is the reference's. -/
theorem final_delta : (dats m 0 c).arrAt 4 cfg0.N = Cert.AdamGateRefIdeal.Read.val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have he : (((cfg0.win 4).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamGateRefIdeal.Read.val_main_v30 (F := Ideal) (m ((c : Thread nD τ).loc main_arg0)) (m ((c : Thread nD τ).loc main_arg1)) (m ((c : Thread nD τ).loc main_arg2)) (m ((c : Thread nD τ).loc main_arg3))) he).symm
  blk_simp
  rw [after0_4]
  unfold out0_4
  frame_out
  refine (delta_at ..).trans ?_
  rw [blk0_at m c t y, blk1_at m c t y, blk2_at m c t y, blk3_at m c t y]
  rfl

/-- The array of new first moments is the reference's. -/
theorem final_mom : (dats m 0 c).arrAt 5 cfg0.N = Cert.AdamGateRefIdeal.Read.val_main_v11 (F := Ideal) (m ((c : Thread nD τ).loc main_arg1)) (m ((c : Thread nD τ).loc main_arg2)) := by
  refine (dats m 0 c).arrAt_eq_of_covers 5 _ (by decide +kernel) fun t hf y => ?_
  have he : (((cfg0.win 5).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamGateRefIdeal.Read.val_main_v11 (F := Ideal) (m ((c : Thread nD τ).loc main_arg1)) (m ((c : Thread nD τ).loc main_arg2))) he).symm
  blk_simp
  rw [after0_5]
  unfold out0_5
  frame_out
  refine (mom_at ..).trans ?_
  rw [blk1_at m c t y, blk2_at m c t y]
  rfl

/-- The array of new second moments is the reference's. -/
theorem final_sec : (dats m 0 c).arrAt 6 cfg0.N = Cert.AdamGateRefIdeal.Read.val_main_v17 (F := Ideal) (m ((c : Thread nD τ).loc main_arg1)) (m ((c : Thread nD τ).loc main_arg3)) := by
  refine (dats m 0 c).arrAt_eq_of_covers 6 _ (by decide +kernel) fun t hf y => ?_
  have he : (((cfg0.win 6).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamGateRefIdeal.Read.val_main_v17 (F := Ideal) (m ((c : Thread nD τ).loc main_arg1)) (m ((c : Thread nD τ).loc main_arg3))) he).symm
  blk_simp
  rw [after0_6]
  unfold out0_6
  frame_out
  refine (sec_at ..).trans ?_
  rw [blk1_at m c t y, blk3_at m c t y]
  rfl

/-- The array of gradients is the reference's. -/
theorem final_grad : (dats m 0 c).arrAt 7 cfg0.N = Cert.AdamGateRefIdeal.Read.val_main_v0 (F := Ideal) (m ((c : Thread nD τ).loc main_arg1)) := by
  refine (dats m 0 c).arrAt_eq_of_covers 7 _ (by decide +kernel) fun t hf y => ?_
  have he : (((cfg0.win 7).blk t).view.emb y : S2752x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamGateRefIdeal.Read.val_main_v0 (F := Ideal) (m ((c : Thread nD τ).loc main_arg1))) he).symm
  blk_simp
  rw [after0_7]
  unfold out0_7
  frame_out
  rw [blk1_at m c t y]

/-- The call's results are the reference's. -/
theorem claim : Cert.algebraic_AdamGateIdeal_AdamGateRefIdeal (hAdamGateIdeal := Cert.AdamGateIdeal.Gen.facts)
    (hAdamGateRefIdeal := Cert.AdamGateRefIdeal.Gen.facts) := by
  intro m g m' g' hpre hargs
  refine ⟨fun c => (dats m 0 c).arrAt 4 cfg0.N, fun c => (dats m 0 c).arrAt 5 cfg0.N, fun c => (dats m 0 c).arrAt 6 cfg0.N, fun c => (dats m 0 c).arrAt 7 cfg0.N, run_blocks m g,
    (θ_run Cert.AdamGateRefIdeal.defs _ _).mono (fun r h c => ?_) (Cert.AdamGateRefIdeal.Value.run m' g')⟩
  obtain ⟨h1, h2, h3, h4, hr⟩ := h c
  obtain ⟨a0, a1, a2, a3⟩ := hargs c
  refine ⟨h1.trans ((Cert.AdamGateRefIdeal.Read.val_main_v30_eq _ _ _ _).trans ?_), h2.trans ((Cert.AdamGateRefIdeal.Read.val_main_v11_eq _ _).trans ?_), h3.trans ((Cert.AdamGateRefIdeal.Read.val_main_v17_eq _ _).trans ?_), h4.trans ((Cert.AdamGateRefIdeal.Read.val_main_v0_eq _).trans ?_), hr⟩
  · rw [a0, a1, a2, a3]
    exact (final_delta m c).symm
  · rw [a1, a2]
    exact (final_mom m c).symm
  · rw [a1, a3]
    exact (final_sec m c).symm
  · rw [a1]
    exact (final_grad m c).symm

end Cert.AdamGateAlg
-- ==== Proof.AdamInAlg.lean ====
module

public import proofs.«01_k».proof.Proof.Gen.AdamInIdeal.Value
public import proofs.«01_k».proof.Proof.Gen.AdamInRefIdeal.Read
public import proofs.«01_k».proof.Proof.Gen.AdamInRefIdeal.Run
public import proofs.«01_k».proof.Defs
public import Idealize.ShloMosaic.Lib.Pipeline.ValueKit
public import Idealize.ShloMosaic.Lib.Claim

/-!
  The optimiser's step for the weights of the input product, row block by row block: the same formula at each element.
-/

@[expose] public section

set_option maxRecDepth 16384

noncomputable section

namespace Cert.AdamInAlg

open Cert.AdamInIdeal Cert.AdamInIdeal.Gen Cert.AdamInIdeal.Value Idealize.ShloMosaic Idealize.ShloMosaic.TcCoe Idealize.SL.Sem
open Idealize.ShloMosaic.Pipeline (Dat)

/-- A single-precision constant of the step. -/
abbrev num (b : BitVec 32) : EReal := FloatOps.ofBits (F := Ideal) .f32 b

/-- The new first moment of one element. -/
def mom (g m : EReal) : EReal := num 0x3F666666#32 * m + num 0x3DCCCCCD#32 * g

/-- The new second moment of one element. -/
def sec (g v : EReal) : EReal := num 0x3F7FBE77#32 * v + num 0x3A83126F#32 * (g * g)

/-- The step of one element. -/
def delta (w g m v : EReal) : EReal :=
  num 0xBA83126F#32 * (Ideal.div (Ideal.div (mom g m) (num 0x3F26BD02#32)) (Ideal.sqrt (Ideal.div (sec g v) (num 0x3C231ACC#32)) + num 0x322BCC77#32)
    + num 0x3C23D70A#32 * w)

/-- The block of new first moments, at an index. -/
theorem mom_at (g mm : Vec Ideal S128x2560 .f32) (j : S128x2560.Idx) : k0_pay1 g mm j = mom (g j) (mm j) := by
  unfold k0_pay1
  simp only [shapeCast_self]
  rfl

/-- The block of new second moments, at an index. -/
theorem sec_at (g v : Vec Ideal S128x2560 .f32) (j : S128x2560.Idx) : k0_pay2 g v j = sec (g j) (v j) := by
  unfold k0_pay2
  simp only [shapeCast_self]
  rfl

/-- The block of steps, at an index. -/
theorem delta_at (g mm v w : Vec Ideal S128x2560 .f32) (j : S128x2560.Idx) : k0_pay3 g mm v w j = delta (w j) (g j) (mm j) (v j) := by
  unfold k0_pay3 k0_pay1 k0_pay2
  simp only [shapeCast_self]
  rfl

/-- The reference's new first moment, at an index. -/
theorem ref_mom (x1 : FVec Ideal S4096x2560 .f32) (x2 : FVec Ideal S1x4096x2560 .f32) (i : S4096x2560.Idx) :
    Cert.AdamInRefIdeal.Read.val_main_v7 (F := Ideal) x1 x2 i = mom (x1 i) (Cert.AdamInRefIdeal.Read.val_main_v1 (F := Ideal) x2 i) := rfl

/-- The reference's new second moment, at an index. -/
theorem ref_sec (x1 : FVec Ideal S4096x2560 .f32) (x3 : FVec Ideal S1x4096x2560 .f32) (i : S4096x2560.Idx) :
    Cert.AdamInRefIdeal.Read.val_main_v13 (F := Ideal) x1 x3 i = sec (x1 i) (Cert.AdamInRefIdeal.Read.val_main_v2 (F := Ideal) x3 i) := rfl

/-- The reference's step, at an index. -/
theorem ref_delta (x0 : FVec Ideal S1x4096x2560 .f32) (x1 : FVec Ideal S4096x2560 .f32) (x2 : FVec Ideal S1x4096x2560 .f32) (x3 : FVec Ideal S1x4096x2560 .f32) (i : S4096x2560.Idx) :
    Cert.AdamInRefIdeal.Read.val_main_v26 (F := Ideal) x0 x1 x2 x3 i = delta (Cert.AdamInRefIdeal.Read.val_main_v0 (F := Ideal) x0 i) (x1 i) (Cert.AdamInRefIdeal.Read.val_main_v1 (F := Ideal) x2 i) (Cert.AdamInRefIdeal.Read.val_main_v2 (F := Ideal) x3 i) := rfl

/-- Where the blocks of a grid point lie. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (m : (ℓ : Loc nD τ sig) → Buf (Elt Ideal) ℓ) (c : Dev nD)

/-- Where an index of a grid point's block lies in the arrays. -/
def emb (t : Fin cfg0.N) (y : S128x2560.Idx) : S4096x2560.Idx :=
  ix2 ⟨t.val * 128 + (y 0).val, by have ht : t.val < 32 := t.isLt; have hy : (y 0).val < 128 := (y 0).isLt; omega⟩ ⟨(y 1).val, (y 1).isLt⟩

/-- The weights' block at a grid point, at an index. -/
theorem blk0_at (t : Fin cfg0.N) (y : S128x2560.Idx) :
    (iblk m c 0 t : FVec Ideal S128x2560 .f32) y = Cert.AdamInRefIdeal.Read.val_main_v0 (F := Ideal) (m ((c : Thread nD τ).loc main_arg0)) (emb t y) := by
  refine Eq.trans ?_ (congrFun (show (V m c main_v0 : FVec Ideal S4096x2560 .f32) = Cert.AdamInRefIdeal.Read.val_main_v0 (F := Ideal) (m ((c : Thread nD τ).loc main_arg0)) from rfl) (emb t y))
  blk_point [iblk, emb, idx_val t] <;> rfl

/-- The first moments' block at a grid point, at an index. -/
theorem blk2_at (t : Fin cfg0.N) (y : S128x2560.Idx) :
    (iblk m c 2 t : FVec Ideal S128x2560 .f32) y = Cert.AdamInRefIdeal.Read.val_main_v1 (F := Ideal) (m ((c : Thread nD τ).loc main_arg2)) (emb t y) := by
  refine Eq.trans ?_ (congrFun (show (V m c main_v1 : FVec Ideal S4096x2560 .f32) = Cert.AdamInRefIdeal.Read.val_main_v1 (F := Ideal) (m ((c : Thread nD τ).loc main_arg2)) from rfl) (emb t y))
  blk_point [iblk, emb, idx_val t] <;> rfl

/-- The second moments' block at a grid point, at an index. -/
theorem blk3_at (t : Fin cfg0.N) (y : S128x2560.Idx) :
    (iblk m c 3 t : FVec Ideal S128x2560 .f32) y = Cert.AdamInRefIdeal.Read.val_main_v2 (F := Ideal) (m ((c : Thread nD τ).loc main_arg3)) (emb t y) := by
  refine Eq.trans ?_ (congrFun (show (V m c main_v2 : FVec Ideal S4096x2560 .f32) = Cert.AdamInRefIdeal.Read.val_main_v2 (F := Ideal) (m ((c : Thread nD τ).loc main_arg3)) from rfl) (emb t y))
  blk_point [iblk, emb, idx_val t] <;> rfl

/-- The gradient's block at a grid point, at an index. -/
theorem blk1_at (t : Fin cfg0.N) (y : S128x2560.Idx) :
    (iblk m c 1 t : FVec Ideal S128x2560 .f32) y = (m ((c : Thread nD τ).loc main_arg1)) (emb t y) := by
  blk_point [iblk, V, emb, idx_val t] <;> rfl

/-- The array of steps is the reference's. -/
theorem final_delta : (dats m 0 c).arrAt 4 cfg0.N = Cert.AdamInRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have he : (((cfg0.win 4).blk t).view.emb y : S4096x2560.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamInRefIdeal.Read.val_main_v26 (F := Ideal) (m ((c : Thread nD τ).loc main_arg0)) (m ((c : Thread nD τ).loc main_arg1)) (m ((c : Thread nD τ).loc main_arg2)) (m ((c : Thread nD τ).loc main_arg3))) he).symm
  blk_simp
  rw [after0_4]
  unfold out0_4
  frame_out
  refine (delta_at ..).trans ?_
  rw [blk0_at m c t y, blk1_at m c t y, blk2_at m c t y, blk3_at m c t y]
  rfl

/-- The array of new first moments is the reference's. -/
theorem final_mom : (dats m 0 c).arrAt 5 cfg0.N = Cert.AdamInRefIdeal.Read.val_main_v7 (F := Ideal) (m ((c : Thread nD τ).loc main_arg1)) (m ((c : Thread nD τ).loc main_arg2)) := by
  refine (dats m 0 c).arrAt_eq_of_covers 5 _ (by decide +kernel) fun t hf y => ?_
  have he : (((cfg0.win 5).blk t).view.emb y : S4096x2560.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamInRefIdeal.Read.val_main_v7 (F := Ideal) (m ((c : Thread nD τ).loc main_arg1)) (m ((c : Thread nD τ).loc main_arg2))) he).symm
  blk_simp
  rw [after0_5]
  unfold out0_5
  frame_out
  refine (mom_at ..).trans ?_
  rw [blk1_at m c t y, blk2_at m c t y]
  rfl

/-- The array of new second moments is the reference's. -/
theorem final_sec : (dats m 0 c).arrAt 6 cfg0.N = Cert.AdamInRefIdeal.Read.val_main_v13 (F := Ideal) (m ((c : Thread nD τ).loc main_arg1)) (m ((c : Thread nD τ).loc main_arg3)) := by
  refine (dats m 0 c).arrAt_eq_of_covers 6 _ (by decide +kernel) fun t hf y => ?_
  have he : (((cfg0.win 6).blk t).view.emb y : S4096x2560.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamInRefIdeal.Read.val_main_v13 (F := Ideal) (m ((c : Thread nD τ).loc main_arg1)) (m ((c : Thread nD τ).loc main_arg3))) he).symm
  blk_simp
  rw [after0_6]
  unfold out0_6
  frame_out
  refine (sec_at ..).trans ?_
  rw [blk1_at m c t y, blk3_at m c t y]
  rfl

/-- The call's results are the reference's. -/
theorem claim : Cert.algebraic_AdamInIdeal_AdamInRefIdeal (hAdamInIdeal := Cert.AdamInIdeal.Gen.facts)
    (hAdamInRefIdeal := Cert.AdamInRefIdeal.Gen.facts) := by
  intro m g m' g' hpre hargs
  refine ⟨fun c => (dats m 0 c).arrAt 4 cfg0.N, fun c => (dats m 0 c).arrAt 5 cfg0.N, fun c => (dats m 0 c).arrAt 6 cfg0.N, run_blocks m g,
    (θ_run Cert.AdamInRefIdeal.defs _ _).mono (fun r h c => ?_) (Cert.AdamInRefIdeal.Value.run m' g')⟩
  obtain ⟨h1, h2, h3, hr⟩ := h c
  obtain ⟨a0, a1, a2, a3⟩ := hargs c
  refine ⟨h1.trans ((Cert.AdamInRefIdeal.Read.val_main_v26_eq _ _ _ _).trans ?_), h2.trans ((Cert.AdamInRefIdeal.Read.val_main_v7_eq _ _).trans ?_), h3.trans ((Cert.AdamInRefIdeal.Read.val_main_v13_eq _ _).trans ?_), hr⟩
  · rw [a0, a1, a2, a3]
    exact (final_delta m c).symm
  · rw [a1, a2]
    exact (final_mom m c).symm
  · rw [a1, a3]
    exact (final_sec m c).symm

end Cert.AdamInAlg
-- ==== Proof.AdamOAlg.lean ====
module

public import proofs.«01_k».proof.Proof.Gen.AdamOIdeal.Value
public import proofs.«01_k».proof.Proof.Gen.AdamORefIdeal.Read
public import proofs.«01_k».proof.Proof.Gen.AdamORefIdeal.Run
public import proofs.«01_k».proof.Defs
public import Idealize.ShloMosaic.Lib.Pipeline.ValueKit
public import Idealize.ShloMosaic.Lib.Claim

/-!
  The optimiser's step for a square weight, row block by row block: the same formula at each element.
-/

@[expose] public section

set_option maxRecDepth 16384

noncomputable section

namespace Cert.AdamOAlg

open Cert.AdamOIdeal Cert.AdamOIdeal.Gen Cert.AdamOIdeal.Value Idealize.ShloMosaic Idealize.ShloMosaic.TcCoe Idealize.SL.Sem
open Idealize.ShloMosaic.Pipeline (Dat)

/-- A single-precision constant of the step. -/
abbrev num (b : BitVec 32) : EReal := FloatOps.ofBits (F := Ideal) .f32 b

/-- The new first moment of one element. -/
def mom (g m : EReal) : EReal := num 0x3F666666#32 * m + num 0x3DCCCCCD#32 * g

/-- The new second moment of one element. -/
def sec (g v : EReal) : EReal := num 0x3F7FBE77#32 * v + num 0x3A83126F#32 * (g * g)

/-- The step of one element. -/
def delta (w g m v : EReal) : EReal :=
  num 0xBA83126F#32 * (Ideal.div (Ideal.div (mom g m) (num 0x3F26BD02#32)) (Ideal.sqrt (Ideal.div (sec g v) (num 0x3C231ACC#32)) + num 0x322BCC77#32)
    + num 0x3C23D70A#32 * w)

/-- The block of new first moments, at an index. -/
theorem mom_at (g mm : Vec Ideal S128x4096 .f32) (j : S128x4096.Idx) : k0_pay1 g mm j = mom (g j) (mm j) := by
  unfold k0_pay1
  simp only [shapeCast_self]
  rfl

/-- The block of new second moments, at an index. -/
theorem sec_at (g v : Vec Ideal S128x4096 .f32) (j : S128x4096.Idx) : k0_pay2 g v j = sec (g j) (v j) := by
  unfold k0_pay2
  simp only [shapeCast_self]
  rfl

/-- The block of steps, at an index. -/
theorem delta_at (g mm v w : Vec Ideal S128x4096 .f32) (j : S128x4096.Idx) : k0_pay3 g mm v w j = delta (w j) (g j) (mm j) (v j) := by
  unfold k0_pay3 k0_pay1 k0_pay2
  simp only [shapeCast_self]
  rfl

/-- The reference's new first moment, at an index. -/
theorem ref_mom (x1 : FVec Ideal S1024x4096 .f32) (x2 : FVec Ideal S1x1024x4096 .f32) (i : S1024x4096.Idx) :
    Cert.AdamORefIdeal.Read.val_main_v7 (F := Ideal) x1 x2 i = mom (x1 i) (Cert.AdamORefIdeal.Read.val_main_v1 (F := Ideal) x2 i) := rfl

/-- The reference's new second moment, at an index. -/
theorem ref_sec (x1 : FVec Ideal S1024x4096 .f32) (x3 : FVec Ideal S1x1024x4096 .f32) (i : S1024x4096.Idx) :
    Cert.AdamORefIdeal.Read.val_main_v13 (F := Ideal) x1 x3 i = sec (x1 i) (Cert.AdamORefIdeal.Read.val_main_v2 (F := Ideal) x3 i) := rfl

/-- The reference's step, at an index. -/
theorem ref_delta (x0 : FVec Ideal S1x1024x4096 .f32) (x1 : FVec Ideal S1024x4096 .f32) (x2 : FVec Ideal S1x1024x4096 .f32) (x3 : FVec Ideal S1x1024x4096 .f32) (i : S1024x4096.Idx) :
    Cert.AdamORefIdeal.Read.val_main_v26 (F := Ideal) x0 x1 x2 x3 i = delta (Cert.AdamORefIdeal.Read.val_main_v0 (F := Ideal) x0 i) (x1 i) (Cert.AdamORefIdeal.Read.val_main_v1 (F := Ideal) x2 i) (Cert.AdamORefIdeal.Read.val_main_v2 (F := Ideal) x3 i) := rfl

/-- Where the blocks of a grid point lie. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (m : (ℓ : Loc nD τ sig) → Buf (Elt Ideal) ℓ) (c : Dev nD)

/-- Where an index of a grid point's block lies in the arrays. -/
def emb (t : Fin cfg0.N) (y : S128x4096.Idx) : S1024x4096.Idx :=
  ix2 ⟨t.val * 128 + (y 0).val, by have ht : t.val < 8 := t.isLt; have hy : (y 0).val < 128 := (y 0).isLt; omega⟩ ⟨(y 1).val, (y 1).isLt⟩

/-- The weights' block at a grid point, at an index. -/
theorem blk0_at (t : Fin cfg0.N) (y : S128x4096.Idx) :
    (iblk m c 0 t : FVec Ideal S128x4096 .f32) y = Cert.AdamORefIdeal.Read.val_main_v0 (F := Ideal) (m ((c : Thread nD τ).loc main_arg0)) (emb t y) := by
  refine Eq.trans ?_ (congrFun (show (V m c main_v0 : FVec Ideal S1024x4096 .f32) = Cert.AdamORefIdeal.Read.val_main_v0 (F := Ideal) (m ((c : Thread nD τ).loc main_arg0)) from rfl) (emb t y))
  blk_point [iblk, emb, idx_val t] <;> rfl

/-- The first moments' block at a grid point, at an index. -/
theorem blk2_at (t : Fin cfg0.N) (y : S128x4096.Idx) :
    (iblk m c 2 t : FVec Ideal S128x4096 .f32) y = Cert.AdamORefIdeal.Read.val_main_v1 (F := Ideal) (m ((c : Thread nD τ).loc main_arg2)) (emb t y) := by
  refine Eq.trans ?_ (congrFun (show (V m c main_v1 : FVec Ideal S1024x4096 .f32) = Cert.AdamORefIdeal.Read.val_main_v1 (F := Ideal) (m ((c : Thread nD τ).loc main_arg2)) from rfl) (emb t y))
  blk_point [iblk, emb, idx_val t] <;> rfl

/-- The second moments' block at a grid point, at an index. -/
theorem blk3_at (t : Fin cfg0.N) (y : S128x4096.Idx) :
    (iblk m c 3 t : FVec Ideal S128x4096 .f32) y = Cert.AdamORefIdeal.Read.val_main_v2 (F := Ideal) (m ((c : Thread nD τ).loc main_arg3)) (emb t y) := by
  refine Eq.trans ?_ (congrFun (show (V m c main_v2 : FVec Ideal S1024x4096 .f32) = Cert.AdamORefIdeal.Read.val_main_v2 (F := Ideal) (m ((c : Thread nD τ).loc main_arg3)) from rfl) (emb t y))
  blk_point [iblk, emb, idx_val t] <;> rfl

/-- The gradient's block at a grid point, at an index. -/
theorem blk1_at (t : Fin cfg0.N) (y : S128x4096.Idx) :
    (iblk m c 1 t : FVec Ideal S128x4096 .f32) y = (m ((c : Thread nD τ).loc main_arg1)) (emb t y) := by
  blk_point [iblk, V, emb, idx_val t] <;> rfl

/-- The array of steps is the reference's. -/
theorem final_delta : (dats m 0 c).arrAt 4 cfg0.N = Cert.AdamORefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have he : (((cfg0.win 4).blk t).view.emb y : S1024x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamORefIdeal.Read.val_main_v26 (F := Ideal) (m ((c : Thread nD τ).loc main_arg0)) (m ((c : Thread nD τ).loc main_arg1)) (m ((c : Thread nD τ).loc main_arg2)) (m ((c : Thread nD τ).loc main_arg3))) he).symm
  blk_simp
  rw [after0_4]
  unfold out0_4
  frame_out
  refine (delta_at ..).trans ?_
  rw [blk0_at m c t y, blk1_at m c t y, blk2_at m c t y, blk3_at m c t y]
  rfl

/-- The array of new first moments is the reference's. -/
theorem final_mom : (dats m 0 c).arrAt 5 cfg0.N = Cert.AdamORefIdeal.Read.val_main_v7 (F := Ideal) (m ((c : Thread nD τ).loc main_arg1)) (m ((c : Thread nD τ).loc main_arg2)) := by
  refine (dats m 0 c).arrAt_eq_of_covers 5 _ (by decide +kernel) fun t hf y => ?_
  have he : (((cfg0.win 5).blk t).view.emb y : S1024x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamORefIdeal.Read.val_main_v7 (F := Ideal) (m ((c : Thread nD τ).loc main_arg1)) (m ((c : Thread nD τ).loc main_arg2))) he).symm
  blk_simp
  rw [after0_5]
  unfold out0_5
  frame_out
  refine (mom_at ..).trans ?_
  rw [blk1_at m c t y, blk2_at m c t y]
  rfl

/-- The array of new second moments is the reference's. -/
theorem final_sec : (dats m 0 c).arrAt 6 cfg0.N = Cert.AdamORefIdeal.Read.val_main_v13 (F := Ideal) (m ((c : Thread nD τ).loc main_arg1)) (m ((c : Thread nD τ).loc main_arg3)) := by
  refine (dats m 0 c).arrAt_eq_of_covers 6 _ (by decide +kernel) fun t hf y => ?_
  have he : (((cfg0.win 6).blk t).view.emb y : S1024x4096.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (Cert.AdamORefIdeal.Read.val_main_v13 (F := Ideal) (m ((c : Thread nD τ).loc main_arg1)) (m ((c : Thread nD τ).loc main_arg3))) he).symm
  blk_simp
  rw [after0_6]
  unfold out0_6
  frame_out
  refine (sec_at ..).trans ?_
  rw [blk1_at m c t y, blk3_at m c t y]
  rfl

/-- The call's results are the reference's. -/
theorem claim : Cert.algebraic_AdamOIdeal_AdamORefIdeal (hAdamOIdeal := Cert.AdamOIdeal.Gen.facts)
    (hAdamORefIdeal := Cert.AdamORefIdeal.Gen.facts) := by
  intro m g m' g' hpre hargs
  refine ⟨fun c => (dats m 0 c).arrAt 4 cfg0.N, fun c => (dats m 0 c).arrAt 5 cfg0.N, fun c => (dats m 0 c).arrAt 6 cfg0.N, run_blocks m g,
    (θ_run Cert.AdamORefIdeal.defs _ _).mono (fun r h c => ?_) (Cert.AdamORefIdeal.Value.run m' g')⟩
  obtain ⟨h1, h2, h3, hr⟩ := h c
  obtain ⟨a0, a1, a2, a3⟩ := hargs c
  refine ⟨h1.trans ((Cert.AdamORefIdeal.Read.val_main_v26_eq _ _ _ _).trans ?_), h2.trans ((Cert.AdamORefIdeal.Read.val_main_v7_eq _ _).trans ?_), h3.trans ((Cert.AdamORefIdeal.Read.val_main_v13_eq _ _).trans ?_), hr⟩
  · rw [a0, a1, a2, a3]
    exact (final_delta m c).symm
  · rw [a1, a2]
    exact (final_mom m c).symm
  · rw [a1, a3]
    exact (final_sec m c).symm

end Cert.AdamOAlg
-- ==== Proof.AdamSmallAlg.lean ====
module

public import proofs.«01_k».proof.Proof.Gen.AdamSmallIdeal.Value
public import proofs.«01_k».proof.Proof.Gen.AdamSmallRefIdeal.Read
public import proofs.«01_k».proof.Proof.Gen.AdamSmallRefIdeal.Run
public import proofs.«01_k».proof.Defs
public import Idealize.ShloMosaic.Lib.Pipeline.ValueKit
public import Idealize.ShloMosaic.Lib.Claim

/-!
  The optimiser's step for the small weights, packed into one array: the same formula at each element, and a packed array
  of results is the results of the packed arrays.
-/

@[expose] public section

set_option maxRecDepth 16384

noncomputable section

namespace Cert.AdamSmallAlg

open Cert.AdamSmallIdeal Cert.AdamSmallIdeal.Gen Cert.AdamSmallIdeal.Value Idealize.ShloMosaic Idealize.ShloMosaic.TcCoe Idealize.SL.Sem
open Idealize.ShloMosaic.Pipeline (Dat)

/-- A single-precision constant of the step. -/
abbrev num (b : BitVec 32) : EReal := FloatOps.ofBits (F := Ideal) .f32 b

/-- The new first moment of one element. -/
def mom (g m : EReal) : EReal := num 0x3F666666#32 * m + num 0x3DCCCCCD#32 * g

/-- The new second moment of one element. -/
def sec (g v : EReal) : EReal := num 0x3F7FBE77#32 * v + num 0x3A83126F#32 * (g * g)

/-- The step of one element. -/
def delta (w g m v : EReal) : EReal :=
  num 0xBA83126F#32 * (Ideal.div (Ideal.div (mom g m) (num 0x3F26BD02#32)) (Ideal.sqrt (Ideal.div (sec g v) (num 0x3C231ACC#32)) + num 0x322BCC77#32)
    + num 0x3C23D70A#32 * w)

/-- A weight, its gradient and its two moments at one element. -/
abbrev Four : Type := EReal × EReal × EReal × EReal

/-- A function applied to every element of the pieces of a list. -/
def each {β γ : Type} (g : β → γ) (L : List ((s : Shape) × (s.Idx → β))) : List ((s : Shape) × (s.Idx → γ)) :=
  L.map fun p => ⟨p.1, fun i => g (p.2 i)⟩

/-- Reading the pieces of a list at a position commutes with a function of the elements. -/
theorem at_each {β γ : Type} (g : β → γ) (t : Shape) (a : Fin t.rank) (j : t.Idx) :
    (L : List ((s : Shape) × (s.Idx → β))) → (hs : ∀ s ∈ L.map (·.1), s.FitsOff t a) → (hs' : ∀ s ∈ (each g L).map (·.1), s.FitsOff t a) →
      (c : ℕ) → (hc : c < (axisSizes t a L).sum) → (hc' : c < (axisSizes t a (each g L)).sum) →
      concatenateAt t a j (each g L) hs' c hc' = g (concatenateAt t a j L hs c hc)
  | [], _, _, _, hc, _ => absurd hc (Nat.not_lt_zero _)
  | [p], hs, hs', c, hc, hc' => rfl
  | p :: q :: L, hs, hs', c, hc, hc' => by
    have hp : p.1.FitsOff t a := hs p.1 List.mem_cons_self
    by_cases h : c < p.1.size (a.cast hp.rank_eq.symm)
    · refine (dif_pos h).trans (congrArg g ?_)
      symm
      exact dif_pos h
    · have hc2 : c - p.1.size (a.cast hp.rank_eq.symm) < (axisSizes t a (q :: L)).sum := by
        have h2 := hc
        rw [axisSizes_cons t a p (q :: L) hp, List.sum_cons] at h2
        omega
      refine (dif_neg h).trans ?_
      refine (at_each g t a j (q :: L) (fun s hm => hs s (List.mem_cons_of_mem _ hm)) _ _ hc2 _).trans (congrArg g ?_)
      symm
      exact dif_neg h

/-- A packed array of results is the results of the packed array. -/
theorem pack_each {β γ : Type} (g : β → γ) (t : Shape) (a : Fin t.rank) (L : List ((s : Shape) × (s.Idx → β)))
    (h : Shape.Concatenates (L.map (·.1)) t a) (h' : Shape.Concatenates ((each g L).map (·.1)) t a) :
    concatenate t a (each g L) h' = fun j => g (concatenate t a L h j) := by
  funext j
  rw [concatenate_apply, concatenate_apply]
  exact at_each g t a j L _ _ _ _ _

/-- A constant that is not zero. -/
theorem num_pos1 : ∃ r : ℝ, 0 < r ∧ num 0x3F26BD02#32 = (r : EReal) := by
  refine ⟨_, ?_, by simp [num, Ideal.ofBits, Ideal.ieee, -EReal.coe_mul]; rfl⟩
  norm_num

/-- A constant that is not zero. -/
theorem num_pos2 : ∃ r : ℝ, 0 < r ∧ num 0x3C231ACC#32 = (r : EReal) := by
  refine ⟨_, ?_, by simp [num, Ideal.ofBits, Ideal.ieee, -EReal.coe_mul]; rfl⟩
  norm_num

/-- A constant that is not zero. -/
theorem num_pos3 : ∃ r : ℝ, 0 < r ∧ num 0x322BCC77#32 = (r : EReal) := by
  refine ⟨_, ?_, by simp [num, Ideal.ofBits, Ideal.ieee, -EReal.coe_mul]; rfl⟩
  norm_num

/-- Zero over a constant that is not zero. -/
theorem zero_div {y : EReal} (h : ∃ r : ℝ, 0 < r ∧ y = (r : EReal)) : Ideal.div 0 y = 0 := by
  obtain ⟨r, hr, rfl⟩ := h
  have hne : (r : EReal) ≠ 0 := by exact_mod_cast hr.ne'
  unfold Ideal.div
  rw [if_neg hne, zero_mul]

/-- The square root of zero. -/
theorem sqrt_zero : Ideal.sqrt 0 = 0 := by
  show (if (0 : ℝ) < 0 then (⊥ : EReal) else (Real.sqrt 0 : EReal)) = 0
  rw [if_neg (lt_irrefl _), Real.sqrt_zero]
  rfl

/-- Zeros stay zeros in the first moment. -/
theorem mom_zero : mom 0 0 = 0 := by
  unfold mom
  rw [mul_zero, mul_zero, add_zero]

/-- Zeros stay zeros in the second moment. -/
theorem sec_zero : sec 0 0 = 0 := by
  unfold sec
  rw [mul_zero, mul_zero, mul_zero, add_zero]

/-- Zeros stay zeros in the step. -/
theorem delta_zero : delta 0 0 0 0 = 0 := by
  unfold delta
  rw [mom_zero, sec_zero, zero_div num_pos1, zero_div num_pos2, sqrt_zero, zero_add, zero_div num_pos3, mul_zero, add_zero, mul_zero]

/-- Equal lists of pieces make equal arrays. -/
theorem lists_eq {t : Shape} {a : Fin t.rank} {L L' : List ((s : Shape) × (s.Idx → EReal))} (e : L = L')
    (h : Shape.Concatenates (L.map (·.1)) t a) (h' : Shape.Concatenates (L'.map (·.1)) t a) : concatenate t a L h = concatenate t a L' h' := by
  subst e
  rfl

/-- The eleven small weights with their gradients and moments, flattened. -/
def pieces (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) : List ((s : Shape) × (s.Idx → Four)) :=
  [⟨S4096, fun i => (shapeCast S4096 x0 shapeCasts_S1x4096_S4096 i, shapeCast S4096 x11 shapeCasts_S1x4096_S4096 i, shapeCast S4096 x22 shapeCasts_S1x4096_S4096 i, shapeCast S4096 x33 shapeCasts_S1x4096_S4096 i)⟩,
    ⟨S15872, fun i => (shapeCast S15872 x1 shapeCasts_S1x31x512_S15872 i, shapeCast S15872 x12 shapeCasts_S1x31x512_S15872 i, shapeCast S15872 x23 shapeCasts_S1x31x512_S15872 i, shapeCast S15872 x34 shapeCasts_S1x31x512_S15872 i)⟩,
    ⟨S2048, fun i => (shapeCast S2048 x2 shapeCasts_S1x2048_S2048 i, shapeCast S2048 x13 shapeCasts_S1x2048_S2048 i, shapeCast S2048 x24 shapeCasts_S1x2048_S2048 i, shapeCast S2048 x35 shapeCasts_S1x2048_S2048 i)⟩,
    ⟨S2048, fun i => (shapeCast S2048 x3 shapeCasts_S1x2048_S2048 i, shapeCast S2048 x14 shapeCasts_S1x2048_S2048 i, shapeCast S2048 x25 shapeCasts_S1x2048_S2048 i, shapeCast S2048 x36 shapeCasts_S1x2048_S2048 i)⟩,
    ⟨S2048, fun i => (shapeCast S2048 x4 shapeCasts_S1x2048_S2048 i, shapeCast S2048 x15 shapeCasts_S1x2048_S2048 i, shapeCast S2048 x26 shapeCasts_S1x2048_S2048 i, shapeCast S2048 x37 shapeCasts_S1x2048_S2048 i)⟩,
    ⟨S1536, fun i => (shapeCast S1536 x5 shapeCasts_S1x3x512_S1536 i, shapeCast S1536 x16 shapeCasts_S1x3x512_S1536 i, shapeCast S1536 x27 shapeCasts_S1x3x512_S1536 i, shapeCast S1536 x38 shapeCasts_S1x3x512_S1536 i)⟩,
    ⟨S4096, fun i => (shapeCast S4096 x6 shapeCasts_S1x4096_S4096 i, shapeCast S4096 x17 shapeCasts_S1x4096_S4096 i, shapeCast S4096 x28 shapeCasts_S1x4096_S4096 i, shapeCast S4096 x39 shapeCasts_S1x4096_S4096 i)⟩,
    ⟨S4096, fun i => (x7 i, x18 i, x29 i, x40 i)⟩,
    ⟨S4096, fun i => (shapeCast S4096 x8 shapeCasts_S1x4096_S4096 i, shapeCast S4096 x19 shapeCasts_S1x4096_S4096 i, shapeCast S4096 x30 shapeCasts_S1x4096_S4096 i, shapeCast S4096 x41 shapeCasts_S1x4096_S4096 i)⟩,
    ⟨S8256, fun i => (shapeCast S8256 x9 shapeCasts_S1x3x2752_S8256 i, shapeCast S8256 x20 shapeCasts_S1x3x2752_S8256 i, shapeCast S8256 x31 shapeCasts_S1x3x2752_S8256 i, shapeCast S8256 x42 shapeCasts_S1x3x2752_S8256 i)⟩,
    ⟨S4096, fun i => (x10 i, x21 i, x32 i, x43 i)⟩]

/-- Every element of the padding. -/
abbrev nil : Four := (num 0x00000000#32, num 0x00000000#32, num 0x00000000#32, num 0x00000000#32)

/-- The eleven, flattened, and the padding. -/
def whole (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) : List ((s : Shape) × (s.Idx → Four)) :=
  pieces x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 ++ [⟨S960, fun _ => nil⟩]

/-- The packed array of the eleven weights with their gradients and moments, and the padding. -/
def packed (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) : S53248.Idx → Four :=
  have h : Shape.Concatenates ((whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map (·.1)) S53248 0 := concatenates_S4096_S15872_S2048_S2048_S2048_S1536_S4096_S4096_S4096_S8256_S4096_S960_S53248_d0
  concatenate S53248 0 (whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) h

/-- The pieces of a function of the four, whose last piece is zeros where the function of the padding is zero. -/
def parts (g : Four → EReal) (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) : List ((s : Shape) × (s.Idx → EReal)) :=
  each g (pieces x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) ++ [⟨S960, fun _ => num 0x00000000#32⟩]

/-- A packed array of a function of the four. -/
theorem packed_each (g : Four → EReal) (hg : g nil = num 0x00000000#32) (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32)
    (h : Shape.Concatenates ((parts g x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map (·.1)) S53248 0) :
    concatenate S53248 0 (parts g x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) h = fun j => g (packed x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 j) := by
  have h0 : Shape.Concatenates ((whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map (·.1)) S53248 0 := concatenates_S4096_S15872_S2048_S2048_S2048_S1536_S4096_S4096_S4096_S8256_S4096_S960_S53248_d0
  have h' : Shape.Concatenates ((each g (whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43)).map (·.1)) S53248 0 := concatenates_S4096_S15872_S2048_S2048_S2048_S1536_S4096_S4096_S4096_S8256_S4096_S960_S53248_d0
  refine Eq.trans ?_ (pack_each g S53248 0 (whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) h0 h')
  have e : parts g x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 = each g (whole x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) := by
    unfold parts whole each
    rw [List.map_append, ← hg]
    rfl
  exact lists_eq e h h'

/-- The new steps of the padding are zeros. -/
theorem delta_nil : (fun q => delta q.1 q.2.1 q.2.2.1 q.2.2.2 : Four → EReal) nil = num 0x00000000#32 := by
  have z : num 0x00000000#32 = 0 := Ideal.ofBits_zero_f32
  simp only [nil, z]
  exact delta_zero

/-- The reference's new steps, packed. -/
theorem ref_delta (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) :
    Cert.AdamSmallRefIdeal.Read.val_main_v275 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 = shapeCast S416x128 (fun j => (fun q => delta q.1 q.2.1 q.2.2.1 q.2.2.2 : Four → EReal) (packed x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 j)) shapeCasts_S53248_S416x128 := by
  rw [← packed_each (fun q => delta q.1 q.2.1 q.2.2.1 q.2.2.2) delta_nil x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 concatenates_S4096_S15872_S2048_S2048_S2048_S1536_S4096_S4096_S4096_S8256_S4096_S960_S53248_d0]
  rfl

/-- The new first moments of the padding are zeros. -/
theorem mom_nil : (fun q => mom q.2.1 q.2.2.1 : Four → EReal) nil = num 0x00000000#32 := by
  have z : num 0x00000000#32 = 0 := Ideal.ofBits_zero_f32
  simp only [nil, z]
  exact mom_zero

/-- The reference's new first moments, packed. -/
theorem ref_mom (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) :
    Cert.AdamSmallRefIdeal.Read.val_main_v286 (F := Ideal) x11 x12 x13 x14 x15 x16 x17 x18 x19 x20 x21 x22 x23 x24 x25 x26 x27 x28 x29 x30 x31 x32 = shapeCast S416x128 (fun j => (fun q => mom q.2.1 q.2.2.1 : Four → EReal) (packed x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 j)) shapeCasts_S53248_S416x128 := by
  rw [← packed_each (fun q => mom q.2.1 q.2.2.1) mom_nil x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 concatenates_S4096_S15872_S2048_S2048_S2048_S1536_S4096_S4096_S4096_S8256_S4096_S960_S53248_d0]
  rfl

/-- The new second moments of the padding are zeros. -/
theorem sec_nil : (fun q => sec q.2.1 q.2.2.2 : Four → EReal) nil = num 0x00000000#32 := by
  have z : num 0x00000000#32 = 0 := Ideal.ofBits_zero_f32
  simp only [nil, z]
  exact sec_zero

/-- The reference's new second moments, packed. -/
theorem ref_sec (x0 : FVec Ideal S1x4096 .f32) (x1 : FVec Ideal S1x31x512 .f32) (x2 : FVec Ideal S1x2048 .f32) (x3 : FVec Ideal S1x2048 .f32) (x4 : FVec Ideal S1x2048 .f32) (x5 : FVec Ideal S1x3x512 .f32) (x6 : FVec Ideal S1x4096 .f32) (x7 : FVec Ideal S4096 .f32) (x8 : FVec Ideal S1x4096 .f32) (x9 : FVec Ideal S1x3x2752 .f32) (x10 : FVec Ideal S4096 .f32)
    (x11 : FVec Ideal S1x4096 .f32) (x12 : FVec Ideal S1x31x512 .f32) (x13 : FVec Ideal S1x2048 .f32) (x14 : FVec Ideal S1x2048 .f32) (x15 : FVec Ideal S1x2048 .f32) (x16 : FVec Ideal S1x3x512 .f32) (x17 : FVec Ideal S1x4096 .f32) (x18 : FVec Ideal S4096 .f32) (x19 : FVec Ideal S1x4096 .f32) (x20 : FVec Ideal S1x3x2752 .f32) (x21 : FVec Ideal S4096 .f32)
    (x22 : FVec Ideal S1x4096 .f32) (x23 : FVec Ideal S1x31x512 .f32) (x24 : FVec Ideal S1x2048 .f32) (x25 : FVec Ideal S1x2048 .f32) (x26 : FVec Ideal S1x2048 .f32) (x27 : FVec Ideal S1x3x512 .f32) (x28 : FVec Ideal S1x4096 .f32) (x29 : FVec Ideal S4096 .f32) (x30 : FVec Ideal S1x4096 .f32) (x31 : FVec Ideal S1x3x2752 .f32) (x32 : FVec Ideal S4096 .f32)
    (x33 : FVec Ideal S1x4096 .f32) (x34 : FVec Ideal S1x31x512 .f32) (x35 : FVec Ideal S1x2048 .f32) (x36 : FVec Ideal S1x2048 .f32) (x37 : FVec Ideal S1x2048 .f32) (x38 : FVec Ideal S1x3x512 .f32) (x39 : FVec Ideal S1x4096 .f32) (x40 : FVec Ideal S4096 .f32) (x41 : FVec Ideal S1x4096 .f32) (x42 : FVec Ideal S1x3x2752 .f32) (x43 : FVec Ideal S4096 .f32) :
    Cert.AdamSmallRefIdeal.Read.val_main_v297 (F := Ideal) x11 x12 x13 x14 x15 x16 x17 x18 x19 x20 x21 x33 x34 x35 x36 x37 x38 x39 x40 x41 x42 x43 = shapeCast S416x128 (fun j => (fun q => sec q.2.1 q.2.2.2 : Four → EReal) (packed x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 j)) shapeCasts_S53248_S416x128 := by
  rw [← packed_each (fun q => sec q.2.1 q.2.2.2) sec_nil x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 concatenates_S4096_S15872_S2048_S2048_S2048_S1536_S4096_S4096_S4096_S8256_S4096_S960_S53248_d0]
  rfl

variable (m : (ℓ : Loc nD τ sig) → Buf (Elt Ideal) ℓ) (c : Dev nD)

/-- The packed array of the call. -/
abbrev Pk : S53248.Idx → Four := packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43))

/-- The call's packed weights. -/
theorem host0 : (V m c main_v11 : FVec Ideal S416x128 .f32) = shapeCast S416x128 (fun j => (fun q => q.1 : Four → EReal) (Pk m c j)) shapeCasts_S53248_S416x128 := by
  rw [← packed_each (fun q => q.1) rfl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) concatenates_S4096_S15872_S2048_S2048_S2048_S1536_S4096_S4096_S4096_S8256_S4096_S960_S53248_d0]
  rfl

/-- The call's packed gradients. -/
theorem host1 : (V m c main_v23 : FVec Ideal S416x128 .f32) = shapeCast S416x128 (fun j => (fun q => q.2.1 : Four → EReal) (Pk m c j)) shapeCasts_S53248_S416x128 := by
  rw [← packed_each (fun q => q.2.1) rfl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) concatenates_S4096_S15872_S2048_S2048_S2048_S1536_S4096_S4096_S4096_S8256_S4096_S960_S53248_d0]
  rfl

/-- The call's packed first moments. -/
theorem host2 : (V m c main_v35 : FVec Ideal S416x128 .f32) = shapeCast S416x128 (fun j => (fun q => q.2.2.1 : Four → EReal) (Pk m c j)) shapeCasts_S53248_S416x128 := by
  rw [← packed_each (fun q => q.2.2.1) rfl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) concatenates_S4096_S15872_S2048_S2048_S2048_S1536_S4096_S4096_S4096_S8256_S4096_S960_S53248_d0]
  rfl

/-- The call's packed second moments. -/
theorem host3 : (V m c main_v47 : FVec Ideal S416x128 .f32) = shapeCast S416x128 (fun j => (fun q => q.2.2.2 : Four → EReal) (Pk m c j)) shapeCasts_S53248_S416x128 := by
  rw [← packed_each (fun q => q.2.2.2) rfl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) concatenates_S4096_S15872_S2048_S2048_S2048_S1536_S4096_S4096_S4096_S8256_S4096_S960_S53248_d0]
  rfl

/-- The block of new first moments, at an index. -/
theorem mom_at (g mm : Vec Ideal S416x128 .f32) (j : S416x128.Idx) : k0_pay2 g mm j = mom (g j) (mm j) := by
  unfold k0_pay2 k0_pay1
  simp only [shapeCast_self]
  rfl

/-- The block of new second moments, at an index. -/
theorem sec_at (g v : Vec Ideal S416x128 .f32) (j : S416x128.Idx) : k0_pay3 g v j = sec (g j) (v j) := by
  unfold k0_pay3 k0_pay1
  simp only [shapeCast_self]
  rfl

/-- The block of steps, at an index. -/
theorem delta_at (g mm v w : Vec Ideal S416x128 .f32) (j : S416x128.Idx) : k0_pay4 g mm v w j = delta (w j) (g j) (mm j) (v j) := by
  unfold k0_pay4 k0_pay2 k0_pay3 k0_pay1
  simp only [shapeCast_self]
  rfl

/-- Where the blocks of a grid point lie. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- Where an index of a grid point's block lies in the arrays. -/
def emb (t : Fin cfg0.N) (y : S416x128.Idx) : S416x128.Idx :=
  ix2 ⟨t.val * 416 + (y 0).val, by have ht : t.val < 1 := t.isLt; have hy : (y 0).val < 416 := (y 0).isLt; omega⟩ ⟨(y 1).val, (y 1).isLt⟩

/-- The array of a function of the packed elements. -/
def tile (f : Four → EReal) : S416x128.Idx → EReal := shapeCast S416x128 (fun j => f (Pk m c j)) shapeCasts_S53248_S416x128

/-- The packed elements, in rows. -/
def row : S416x128.Idx → Four := shapeCast S416x128 (Pk m c) shapeCasts_S53248_S416x128

/-- A function of the packed elements, at an index. -/
theorem tile_at (f : Four → EReal) (i : S416x128.Idx) : tile m c f i = f (row m c i) := rfl

/-- The block of the packed weights at a grid point, at an index. -/
theorem blk0_at (t : Fin cfg0.N) (y : S416x128.Idx) :
    (iblk m c 0 t : FVec Ideal S416x128 .f32) y = (fun q => q.1 : Four → EReal) (row m c (emb t y)) := by
  refine Eq.trans ?_ (congrFun (host0 m c) (emb t y))
  blk_point [iblk, emb, idx_val t] <;> rfl

/-- The block of the packed gradients at a grid point, at an index. -/
theorem blk1_at (t : Fin cfg0.N) (y : S416x128.Idx) :
    (iblk m c 1 t : FVec Ideal S416x128 .f32) y = (fun q => q.2.1 : Four → EReal) (row m c (emb t y)) := by
  refine Eq.trans ?_ (congrFun (host1 m c) (emb t y))
  blk_point [iblk, emb, idx_val t] <;> rfl

/-- The block of the packed first moments at a grid point, at an index. -/
theorem blk2_at (t : Fin cfg0.N) (y : S416x128.Idx) :
    (iblk m c 2 t : FVec Ideal S416x128 .f32) y = (fun q => q.2.2.1 : Four → EReal) (row m c (emb t y)) := by
  refine Eq.trans ?_ (congrFun (host2 m c) (emb t y))
  blk_point [iblk, emb, idx_val t] <;> rfl

/-- The block of the packed second moments at a grid point, at an index. -/
theorem blk3_at (t : Fin cfg0.N) (y : S416x128.Idx) :
    (iblk m c 3 t : FVec Ideal S416x128 .f32) y = (fun q => q.2.2.2 : Four → EReal) (row m c (emb t y)) := by
  refine Eq.trans ?_ (congrFun (host3 m c) (emb t y))
  blk_point [iblk, emb, idx_val t] <;> rfl

/-- The array of steps. -/
theorem final_delta : (dats m 0 c).arrAt 4 cfg0.N = tile m c (fun q => delta q.1 q.2.1 q.2.2.1 q.2.2.2) := by
  refine (dats m 0 c).arrAt_eq_of_covers 4 _ (by decide +kernel) fun t hf y => ?_
  have he : (((cfg0.win 4).blk t).view.emb y : S416x128.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (tile m c (fun q => delta q.1 q.2.1 q.2.2.1 q.2.2.2)) he).symm
  rw [tile_at]
  blk_simp
  rw [after0_4]
  unfold out0_4
  frame_out
  refine (delta_at ..).trans ?_
  rw [blk0_at m c t y, blk1_at m c t y, blk2_at m c t y, blk3_at m c t y]

/-- The array of new first moments. -/
theorem final_mom : (dats m 0 c).arrAt 5 cfg0.N = tile m c (fun q => mom q.2.1 q.2.2.1) := by
  refine (dats m 0 c).arrAt_eq_of_covers 5 _ (by decide +kernel) fun t hf y => ?_
  have he : (((cfg0.win 5).blk t).view.emb y : S416x128.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (tile m c (fun q => mom q.2.1 q.2.2.1)) he).symm
  rw [tile_at]
  blk_simp
  rw [after0_5]
  unfold out0_5
  frame_out
  refine (mom_at ..).trans ?_
  rw [blk1_at m c t y, blk2_at m c t y]

/-- The array of new second moments. -/
theorem final_sec : (dats m 0 c).arrAt 6 cfg0.N = tile m c (fun q => sec q.2.1 q.2.2.2) := by
  refine (dats m 0 c).arrAt_eq_of_covers 6 _ (by decide +kernel) fun t hf y => ?_
  have he : (((cfg0.win 6).blk t).view.emb y : S416x128.Idx) = emb t y := by
    funext a
    match a with
    | ⟨0, _⟩ => exact Fin.ext (by blk_simp [idx_val t, emb]; rfl)
    | ⟨1, _⟩ => exact Fin.ext (by blk_simp [idx_val t, emb]; rfl)
  refine Eq.trans ?_ (congrArg (tile m c (fun q => sec q.2.1 q.2.2.2)) he).symm
  rw [tile_at]
  blk_simp
  rw [after0_6]
  unfold out0_6
  frame_out
  refine (sec_at ..).trans ?_
  rw [blk1_at m c t y, blk3_at m c t y]

set_option maxHeartbeats 4000000 in
/-- The call's results are the reference's. -/
theorem claim : Cert.algebraic_AdamSmallIdeal_AdamSmallRefIdeal (hAdamSmallIdeal := Cert.AdamSmallIdeal.Gen.facts)
    (hAdamSmallRefIdeal := Cert.AdamSmallRefIdeal.Gen.facts) := by
  intro m g m' g' hpre hargs
  refine ⟨fun c => (dats m 0 c).arrAt 4 cfg0.N, fun c => (dats m 0 c).arrAt 5 cfg0.N, fun c => (dats m 0 c).arrAt 6 cfg0.N, run_blocks m g,
    (θ_run Cert.AdamSmallRefIdeal.defs _ _).mono (fun r h c => ?_) (Cert.AdamSmallRefIdeal.Value.run m' g')⟩
  obtain ⟨h1, h2, h3, hr⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hargs c
  have e0 : StableHlo.launchContents m' c (Proc.devRef .tc Cert.AdamSmallRefIdeal.main_arg0) = m ((c : Thread nD τ).loc main_arg0) := a0
  have e1 : StableHlo.launchContents m' c (Proc.devRef .tc Cert.AdamSmallRefIdeal.main_arg1) = m ((c : Thread nD τ).loc main_arg1) := a1
  have e2 : StableHlo.launchContents m' c (Proc.devRef .tc Cert.AdamSmallRefIdeal.main_arg2) = m ((c : Thread nD τ).loc main_arg2) := a2
  have e3 : StableHlo.launchContents m' c (Proc.devRef .tc Cert.AdamSmallRefIdeal.main_arg3) = m ((c : Thread nD τ).loc main_arg3) := a3
  have e4 : StableHlo.launchContents m' c (Proc.devRef .tc Cert.AdamSmallRefIdeal.main_arg4) = m ((c : Thread nD τ).loc main_arg4) := a4
  have e5 : StableHlo.launchContents m' c (Proc.devRef .tc Cert.AdamSmallRefIdeal.main_arg5) = m ((c : Thread nD τ).loc main_arg5) := a5
  have e6 : StableHlo.launchContents m' c (Proc.devRef .tc Cert.AdamSmallRefIdeal.main_arg6) = m ((c : Thread nD τ).loc main_arg6) := a6
  have e7 : StableHlo.launchContents m' c (Proc.devRef .tc Cert.AdamSmallRefIdeal.main_arg7) = m ((c : Thread nD τ).loc main_arg7) := a7
  have e8 : StableHlo.launchContents m' c (Proc.devRef .tc Cert.AdamSmallRefIdeal.main_arg8) = m ((c : Thread nD τ).loc main_arg8) := a8
  have e9 : StableHlo.launchContents m' c (Proc.devRef .tc Cert.AdamSmallRefIdeal.main_arg9) = m ((c : Thread nD τ).loc main_arg9) := a9
  have e10 : StableHlo.launchContents m' c (Proc.devRef .tc Cert.AdamSmallRefIdeal.main_arg10) = m ((c : Thread nD τ).loc main_arg10) := a10
  have e11 : StableHlo.launchContents m' c (Proc.devRef .tc Cert.AdamSmallRefIdeal.main_arg11) = m ((c : Thread nD τ).loc main_arg11) := a11
  have e12 : StableHlo.launchContents m' c (Proc.devRef .tc Cert.AdamSmallRefIdeal.main_arg12) = m ((c : Thread nD τ).loc main_arg12) := a12
  have e13 : StableHlo.launchContents m' c (Proc.devRef .tc Cert.AdamSmallRefIdeal.main_arg13) = m ((c : Thread nD τ).loc main_arg13) := a13
  have e14 : StableHlo.launchContents m' c (Proc.devRef .tc Cert.AdamSmallRefIdeal.main_arg14) = m ((c : Thread nD τ).loc main_arg14) := a14
  have e15 : StableHlo.launchContents m' c (Proc.devRef .tc Cert.AdamSmallRefIdeal.main_arg15) = m ((c : Thread nD τ).loc main_arg15) := a15
  have e16 : StableHlo.launchContents m' c (Proc.devRef .tc Cert.AdamSmallRefIdeal.main_arg16) = m ((c : Thread nD τ).loc main_arg16) := a16
  have e17 : StableHlo.launchContents m' c (Proc.devRef .tc Cert.AdamSmallRefIdeal.main_arg17) = m ((c : Thread nD τ).loc main_arg17) := a17
  have e18 : StableHlo.launchContents m' c (Proc.devRef .tc Cert.AdamSmallRefIdeal.main_arg18) = m ((c : Thread nD τ).loc main_arg18) := a18
  have e19 : StableHlo.launchContents m' c (Proc.devRef .tc Cert.AdamSmallRefIdeal.main_arg19) = m ((c : Thread nD τ).loc main_arg19) := a19
  have e20 : StableHlo.launchContents m' c (Proc.devRef .tc Cert.AdamSmallRefIdeal.main_arg20) = m ((c : Thread nD τ).loc main_arg20) := a20
  have e21 : StableHlo.launchContents m' c (Proc.devRef .tc Cert.AdamSmallRefIdeal.main_arg21) = m ((c : Thread nD τ).loc main_arg21) := a21
  have e22 : StableHlo.launchContents m' c (Proc.devRef .tc Cert.AdamSmallRefIdeal.main_arg22) = m ((c : Thread nD τ).loc main_arg22) := a22
  have e23 : StableHlo.launchContents m' c (Proc.devRef .tc Cert.AdamSmallRefIdeal.main_arg23) = m ((c : Thread nD τ).loc main_arg23) := a23
  have e24 : StableHlo.launchContents m' c (Proc.devRef .tc Cert.AdamSmallRefIdeal.main_arg24) = m ((c : Thread nD τ).loc main_arg24) := a24
  have e25 : StableHlo.launchContents m' c (Proc.devRef .tc Cert.AdamSmallRefIdeal.main_arg25) = m ((c : Thread nD τ).loc main_arg25) := a25
  have e26 : StableHlo.launchContents m' c (Proc.devRef .tc Cert.AdamSmallRefIdeal.main_arg26) = m ((c : Thread nD τ).loc main_arg26) := a26
  have e27 : StableHlo.launchContents m' c (Proc.devRef .tc Cert.AdamSmallRefIdeal.main_arg27) = m ((c : Thread nD τ).loc main_arg27) := a27
  have e28 : StableHlo.launchContents m' c (Proc.devRef .tc Cert.AdamSmallRefIdeal.main_arg28) = m ((c : Thread nD τ).loc main_arg28) := a28
  have e29 : StableHlo.launchContents m' c (Proc.devRef .tc Cert.AdamSmallRefIdeal.main_arg29) = m ((c : Thread nD τ).loc main_arg29) := a29
  have e30 : StableHlo.launchContents m' c (Proc.devRef .tc Cert.AdamSmallRefIdeal.main_arg30) = m ((c : Thread nD τ).loc main_arg30) := a30
  have e31 : StableHlo.launchContents m' c (Proc.devRef .tc Cert.AdamSmallRefIdeal.main_arg31) = m ((c : Thread nD τ).loc main_arg31) := a31
  have e32 : StableHlo.launchContents m' c (Proc.devRef .tc Cert.AdamSmallRefIdeal.main_arg32) = m ((c : Thread nD τ).loc main_arg32) := a32
  have e33 : StableHlo.launchContents m' c (Proc.devRef .tc Cert.AdamSmallRefIdeal.main_arg33) = m ((c : Thread nD τ).loc main_arg33) := a33
  have e34 : StableHlo.launchContents m' c (Proc.devRef .tc Cert.AdamSmallRefIdeal.main_arg34) = m ((c : Thread nD τ).loc main_arg34) := a34
  have e35 : StableHlo.launchContents m' c (Proc.devRef .tc Cert.AdamSmallRefIdeal.main_arg35) = m ((c : Thread nD τ).loc main_arg35) := a35
  have e36 : StableHlo.launchContents m' c (Proc.devRef .tc Cert.AdamSmallRefIdeal.main_arg36) = m ((c : Thread nD τ).loc main_arg36) := a36
  have e37 : StableHlo.launchContents m' c (Proc.devRef .tc Cert.AdamSmallRefIdeal.main_arg37) = m ((c : Thread nD τ).loc main_arg37) := a37
  have e38 : StableHlo.launchContents m' c (Proc.devRef .tc Cert.AdamSmallRefIdeal.main_arg38) = m ((c : Thread nD τ).loc main_arg38) := a38
  have e39 : StableHlo.launchContents m' c (Proc.devRef .tc Cert.AdamSmallRefIdeal.main_arg39) = m ((c : Thread nD τ).loc main_arg39) := a39
  have e40 : StableHlo.launchContents m' c (Proc.devRef .tc Cert.AdamSmallRefIdeal.main_arg40) = m ((c : Thread nD τ).loc main_arg40) := a40
  have e41 : StableHlo.launchContents m' c (Proc.devRef .tc Cert.AdamSmallRefIdeal.main_arg41) = m ((c : Thread nD τ).loc main_arg41) := a41
  have e42 : StableHlo.launchContents m' c (Proc.devRef .tc Cert.AdamSmallRefIdeal.main_arg42) = m ((c : Thread nD τ).loc main_arg42) := a42
  have e43 : StableHlo.launchContents m' c (Proc.devRef .tc Cert.AdamSmallRefIdeal.main_arg43) = m ((c : Thread nD τ).loc main_arg43) := a43
  refine ⟨h1.trans ((Cert.AdamSmallRefIdeal.Read.val_main_v275_eq (StableHlo.launchContents m' c)).trans ?_), h2.trans ((Cert.AdamSmallRefIdeal.Read.val_main_v286_eq (StableHlo.launchContents m' c)).trans ?_), h3.trans ((Cert.AdamSmallRefIdeal.Read.val_main_v297_eq (StableHlo.launchContents m' c)).trans ?_), hr⟩
  · rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43]
    exact (ref_delta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43))).trans (final_delta m c).symm
  · rw [e11, e12, e13, e14, e15, e16, e17, e18, e19, e20, e21, e22, e23, e24, e25, e26, e27, e28, e29, e30, e31, e32]
    exact (ref_mom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43))).trans (final_mom m c).symm
  · rw [e11, e12, e13, e14, e15, e16, e17, e18, e19, e20, e21, e33, e34, e35, e36, e37, e38, e39, e40, e41, e42, e43]
    exact (ref_sec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43))).trans (final_sec m c).symm

end Cert.AdamSmallAlg
-- ==== Proof.SoftmaxMath.lean ====
module

public import Idealize.ShloMosaic.Lib.Pipeline.ValueKit
public import Idealize.ShloMosaic.PureOps.Ideal.Laws

/-!
  The mathematics of one attention row over the extended reals: a row of logits `s`, its maximum, the exponentials of
  the shifted logits, their quotients by their sum, and the row's gradient in the two forms that are compared
  (`gradClosed`, the closed form `p * (dp - ∑ p dp)`; `gradChain`, the chain rule applied to the quotient).
-/

@[expose] public section

noncomputable section

namespace Cert.SoftmaxRow

open Idealize.ShloMosaic

variable {n : ℕ}

/-- The row maximum: the fold of `max` from minus infinity. -/
def top (s : Fin n → EReal) : EReal := Finset.univ.fold max (Ideal.ofBits .f32 0xFF800000#32) s

/-- The exponential of a logit less the row maximum. -/
def ex (s : Fin n → EReal) (m : Fin n) : EReal := Ideal.exp (s m - top s)

/-- The sum of the row's exponentials. -/
def tot (s : Fin n → EReal) : EReal := ∑ m, ex s m

/-- The row's probabilities. -/
def prob (s : Fin n → EReal) (m : Fin n) : EReal := Ideal.div (ex s m) (tot s)

/-- The gradient with respect to the scaled logits in closed form. -/
def gradClosed (s dp : Fin n → EReal) (m : Fin n) : EReal := prob s m * (dp m - ∑ l, prob s l * dp l)

/-- The same gradient as the chain rule for a quotient writes it. -/
def gradChain (s dp : Fin n → EReal) (m : Fin n) : EReal :=
  (Ideal.div (dp m) (tot s) + -∑ l, dp l * Ideal.div 1 (tot s * tot s) * ex s l) * ex s m

/-- The pattern of minus infinity is the bottom of the extended reals. -/
theorem ofBits_bot : Ideal.ofBits .f32 0xFF800000#32 = ⊥ := by simp [Ideal.ofBits, Ideal.ieee]

/-- The pattern of one is one. -/
theorem ofBits_one : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

/-- The logits' scale, one over thirty-two, is a real number. -/
theorem ofBits_scale : ∃ c : ℝ, Ideal.ofBits .f32 0x3D000000#32 = (c : EReal) := by
  refine ⟨1 / 32, ?_⟩
  simp [Ideal.ofBits, Ideal.ieee, -EReal.coe_mul]
  norm_num

/-- A finite sum of real numbers is a real number. -/
theorem sum_real (s : Fin n → EReal) (h : ∀ m, ∃ r : ℝ, s m = (r : EReal)) : ∃ r : ℝ, ∑ m, s m = (r : EReal) := by
  choose a ha using h
  refine ⟨∑ m, a m, ?_⟩
  simp only [ha]
  exact (map_sum (⟨⟨Real.toEReal, EReal.coe_zero⟩, EReal.coe_add⟩ : ℝ →+ EReal) a Finset.univ).symm

/-- The maximum of a nonempty row of real numbers is a real number. -/
theorem top_real (s : Fin (n + 1) → EReal) (h : ∀ m, ∃ r : ℝ, s m = (r : EReal)) : ∃ r : ℝ, top s = (r : EReal) := by
  unfold top
  rw [ofBits_bot]
  have key : ∀ S : Finset (Fin (n + 1)), S = ∅ ∨ ∃ r : ℝ, S.fold max ⊥ s = (r : EReal) := by
    intro S
    induction S using Finset.induction_on with
    | empty => exact Or.inl rfl
    | insert a S ha ih =>
      right
      rw [Finset.fold_insert ha]
      obtain ⟨x, hx⟩ := h a
      rcases ih with rfl | ⟨y, hy⟩
      · exact ⟨x, by rw [hx, Finset.fold_empty]; exact max_eq_left bot_le⟩
      · exact ⟨max x y, by rw [hx, hy]; exact (EReal.coe_strictMono.monotone.map_max (a := x) (b := y)).symm⟩
  rcases key Finset.univ with h0 | h1
  · exact absurd h0 (Finset.univ_nonempty.ne_empty)
  · exact h1

/-- On a row of real logits every exponential is a positive real number. -/
theorem ex_real (s : Fin (n + 1) → EReal) (h : ∀ m, ∃ r : ℝ, s m = (r : EReal)) (m : Fin (n + 1)) :
    ∃ r : ℝ, 0 < r ∧ ex s m = (r : EReal) := by
  obtain ⟨t, ht⟩ := top_real s h
  obtain ⟨x, hx⟩ := h m
  refine ⟨Real.exp (x - t), Real.exp_pos _, ?_⟩
  unfold ex
  rw [hx, ht, ← EReal.coe_sub, Ideal.exp_coe]

/-- A nonnegative real factor distributes over a sum of extended reals. -/
theorem coe_mul_sum (r : ℝ) (hr : 0 ≤ r) (f : Fin n → EReal) (S : Finset (Fin n)) :
    (r : EReal) * ∑ l ∈ S, f l = ∑ l ∈ S, (r : EReal) * f l := by
  induction S using Finset.induction_on with
  | empty => simp
  | insert a S ha ih =>
    rw [Finset.sum_insert ha, Finset.sum_insert ha, ← ih]
    exact EReal.left_distrib_of_nonneg_of_ne_top (EReal.coe_nonneg.mpr hr) (EReal.coe_ne_top r) _ _

/-- The two gradients of a row of real logits agree, whatever the incoming gradient is. -/
theorem gradClosed_eq_gradChain (s dp : Fin (n + 1) → EReal) (h : ∀ m, ∃ r : ℝ, s m = (r : EReal))
    (m : Fin (n + 1)) : gradClosed s dp m = gradChain s dp m := by
  choose a ha hea using ex_real s h
  have htot : ∃ z : ℝ, 0 < z ∧ tot s = (z : EReal) := by
    refine ⟨∑ l, a l, Finset.sum_pos (fun l _ => ha l) Finset.univ_nonempty, ?_⟩
    unfold tot
    simp only [hea]
    exact (map_sum (⟨⟨Real.toEReal, EReal.coe_zero⟩, EReal.coe_add⟩ : ℝ →+ EReal) a Finset.univ).symm
  obtain ⟨z, hz, htz⟩ := htot
  have hr : 0 ≤ 1 / z := by positivity
  have hp : ∀ l, prob s l = ((1 / z : ℝ) : EReal) * (a l : EReal) := fun l => by
    unfold prob
    rw [htz, Ideal.div_coe hz.ne', hea, mul_comm]
  unfold gradClosed gradChain
  rw [htz, ← EReal.coe_mul, Ideal.div_coe hz.ne', Ideal.div_coe (mul_pos hz hz).ne', hp]
  simp only [hp, hea, one_mul]
  have e1 : ∑ l, dp l * ((1 / (z * z) : ℝ) : EReal) * (a l : EReal)
      = ((1 / z : ℝ) : EReal) * ∑ l, ((1 / z : ℝ) : EReal) * (a l : EReal) * dp l := by
    rw [coe_mul_sum _ hr]
    refine Finset.sum_congr rfl fun l _ => ?_
    rw [show (1 / (z * z) : ℝ) = 1 / z * (1 / z) by field_simp, EReal.coe_mul]
    ac_rfl
  rw [e1]
  generalize ∑ l, ((1 / z : ℝ) : EReal) * (a l : EReal) * dp l = T
  rw [mul_comm (dp m), ← mul_neg, ← EReal.left_distrib_of_nonneg_of_ne_top (EReal.coe_nonneg.mpr hr) (EReal.coe_ne_top _), ← sub_eq_add_neg]
  ac_rfl

end Cert.SoftmaxRow
-- ==== Proof.AttnPay.lean ====
module

public import proofs.«01_k».proof.Proof.SoftmaxMath
public import proofs.«01_k».proof.Proof.Gen.AttnIdeal.Value
public import Idealize.ShloMosaic.Lib.Pipeline.ValueKit

/-!
  What the attention gradient's body computes at an index, as functions of the four input blocks of a grid point.
-/

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.SoftmaxRow (prob gradClosed)

/-- The scaled logits of row `r` of a block of queries against the head's keys. -/
def lg (x0 : Vec Ideal S512x1024 .bf16) (x1 : Vec Ideal S256x1024 .bf16) (r : Fin 512) (m : Fin 256) : EReal :=
  (∑ d : Fin 1024, x0 (ix2 r d) * x1 (ix2 m d)) * Ideal.ofBits .f32 0x3D000000#32

/-- The gradient with respect to the probabilities of row `r`: the incoming gradient's row against the values. -/
def gp (x2 : Vec Ideal S256x1024 .bf16) (x3 : Vec Ideal S512x1024 .bf16) (r : Fin 512) (m : Fin 256) : EReal :=
  ∑ d : Fin 1024, x3 (ix2 r d) * x2 (ix2 m d)

/-- The body's probabilities are the row's softmax. -/
theorem pay3_at (x0 : Vec Ideal S512x1024 .bf16) (x1 : Vec Ideal S256x1024 .bf16) (j : S512x256.Idx) :
    k0_pay3 x0 x1 j = prob (lg x0 x1 (j 0)) (j 1) := by
  pointwise [k0_pay3]
  rfl

/-- The body's gradient with respect to the unscaled logits is the closed form, scaled. -/
theorem pay5_at (x0 : Vec Ideal S512x1024 .bf16) (x1 x2 : Vec Ideal S256x1024 .bf16) (x3 : Vec Ideal S512x1024 .bf16)
    (j : S512x256.Idx) :
    k0_pay5 x0 x1 x2 x3 j = gradClosed (lg x0 x1 (j 0)) (gp x2 x3 (j 0)) (j 1) * Ideal.ofBits .f32 0x3D000000#32 := by
  pointwise [k0_pay5]
  simp only [pay3_at]
  rfl

/-- The block of the queries' gradient: the logits' gradient against the keys. -/
theorem pay6_at (x0 : Vec Ideal S512x1024 .bf16) (x1 x2 : Vec Ideal S256x1024 .bf16) (x3 : Vec Ideal S512x1024 .bf16)
    (j : S512x1024.Idx) :
    k0_pay6 x0 x1 x2 x3 j = ∑ m : Fin 256, gradClosed (lg x0 x1 (j 0)) (gp x2 x3 (j 0)) m * Ideal.ofBits .f32 0x3D000000#32
      * x1 (ix2 m (j 1)) := by
  pointwise [k0_pay6]
  simp only [pay5_at]
  rfl

/-- What a point adds to the keys' gradient, onto what was there. -/
theorem pay1_at (x0 : Vec Ideal S512x1024 .bf16) (x1 x2 : Vec Ideal S256x1024 .bf16) (x3 : Vec Ideal S512x1024 .bf16)
    (acc : Vec Ideal S256x1024 .f32) (j : S256x1024.Idx) :
    k0_pay1 (k0_pay7 x0 x1 x2 x3) acc j = acc j + ∑ r : Fin 512,
      gradClosed (lg x0 x1 r) (gp x2 x3 r) (j 0) * Ideal.ofBits .f32 0x3D000000#32 * x0 (ix2 r (j 1)) := by
  pointwise [k0_pay1, k0_pay7]
  simp only [pay5_at]
  rfl

/-- What a point adds to the values' gradient, onto what was there. -/
theorem pay2_at (x0 : Vec Ideal S512x1024 .bf16) (x1 : Vec Ideal S256x1024 .bf16) (x3 : Vec Ideal S512x1024 .bf16)
    (acc : Vec Ideal S256x1024 .f32) (j : S256x1024.Idx) :
    k0_pay2 (k0_pay4 x0 x1 x3) acc j = acc j + ∑ r : Fin 512, prob (lg x0 x1 r) (j 0) * x3 (ix2 r (j 1)) := by
  pointwise [k0_pay2, k0_pay4]
  simp only [pay3_at]
  rfl

/-- What a head's first point writes as the keys' gradient. -/
theorem pay7_at (x0 : Vec Ideal S512x1024 .bf16) (x1 x2 : Vec Ideal S256x1024 .bf16) (x3 : Vec Ideal S512x1024 .bf16)
    (j : S256x1024.Idx) : k0_pay7 x0 x1 x2 x3 j = ∑ r : Fin 512,
      gradClosed (lg x0 x1 r) (gp x2 x3 r) (j 0) * Ideal.ofBits .f32 0x3D000000#32 * x0 (ix2 r (j 1)) := by
  pointwise [k0_pay7]
  simp only [pay5_at]
  rfl

/-- What a head's first point writes as the values' gradient. -/
theorem pay4_at (x0 : Vec Ideal S512x1024 .bf16) (x1 : Vec Ideal S256x1024 .bf16) (x3 : Vec Ideal S512x1024 .bf16)
    (j : S256x1024.Idx) : k0_pay4 x0 x1 x3 j = ∑ r : Fin 512, prob (lg x0 x1 r) (j 0) * x3 (ix2 r (j 1)) := by
  pointwise [k0_pay4]
  simp only [pay3_at]
  rfl

end Cert.AttnIdeal.Value
-- ==== Proof.AttnValue.lean ====
module

public import proofs.«01_k».proof.Proof.AttnPay

/-!
  The three result arrays of the attention gradient after the run, as functions of the four argument arrays: the
  queries' gradient block by block, the keys' and the values' gradients as sums over the eight row blocks of a head.
-/

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.SoftmaxRow (prob gradClosed)

variable (m : (ℓ : Loc nD τ sig) → Buf (Elt Ideal) ℓ)

/-- Every window's block index at a grid point: the head is `t / 8`, the row block `t % 8`. -/
theorem idx_val : ∀ t : Fin cfg0.N, win0_0.index t = ![t.val % 8, t.val / 8] ∧ win0_1.index t = ![0, t.val / 8]
    ∧ win0_2.index t = ![0, t.val / 8] ∧ win0_3.index t = ![t.val % 8, t.val / 8]
    ∧ win0_4.index t = ![t.val % 8, t.val / 8] ∧ win0_5.index t = ![0, t.val / 8] ∧ win0_6.index t = ![0, t.val / 8] :=
  (by decide +kernel : ∀ t : Fin grid0.N, _)

/-- The result array of the queries' gradient. -/
theorem final4 (c : Dev nD) (G : FVec Ideal S4096x4096 .bf16)
    (hG : ∀ (t : Fin cfg0.N) (y : S512x1024.Idx), (∑ l : Fin 256,
      gradClosed (lg (iblk m c 0 t) (iblk m c 1 t) (y 0)) (gp (iblk m c 2 t) (iblk m c 3 t) (y 0)) l
        * Ideal.ofBits .f32 0x3D000000#32 * (show FVec Ideal S256x1024 .bf16 from iblk m c 1 t) (ix2 l (y 1)))
      = G (((cfg0.win 4).blk t).view.emb y)) : (dats m 0 c).arrAt 4 cfg0.N = G := by
  refine (dats m 0 c).arrAt_eq_of_covers 4 _ (by decide +kernel) fun t hf y => ?_
  blk_simp
  rw [after0_4]
  refine Eq.trans ?_ (hG t y)
  rcases Nat.eq_zero_or_pos (t.val % 8) with h | h
  · rw [outsAt0_A m c t h (by omega)]
    frame_out
    exact pay6_at ..
  · rw [outsAt0_B m c t (by omega) h]
    frame_out
    exact pay6_at ..

/-- One row block's part of the keys' gradient. -/
def dkPart (x0 : FVec Ideal S512x1024 .bf16) (x1 x2 : FVec Ideal S256x1024 .bf16) (x3 : FVec Ideal S512x1024 .bf16)
    (y : S256x1024.Idx) : EReal :=
  ∑ r : Fin 512, gradClosed (lg x0 x1 r) (gp x2 x3 r) (y 0) * Ideal.ofBits .f32 0x3D000000#32 * x0 (ix2 r (y 1))

/-- One row block's part of the values' gradient. -/
def dvPart (x0 : FVec Ideal S512x1024 .bf16) (x1 : FVec Ideal S256x1024 .bf16) (x3 : FVec Ideal S512x1024 .bf16)
    (y : S256x1024.Idx) : EReal :=
  ∑ r : Fin 512, prob (lg x0 x1 r) (y 0) * x3 (ix2 r (y 1))

/-- The result array of the keys' gradient. -/
theorem final5 (c : Dev nD) (G : FVec Ideal S256x4096 .f32)
    (hG : ∀ (t : Fin cfg0.N) (y : S256x1024.Idx) (hf : (cfg0.win 5).flush t = true), (∑ s : Fin 8,
      dkPart (iblk m c 0 ⟨_, Pipeline.run_point_lt_of_flush t ((flush0_5 t).mp hf) s⟩)
          (iblk m c 1 ⟨_, Pipeline.run_point_lt_of_flush t ((flush0_5 t).mp hf) s⟩)
          (iblk m c 2 ⟨_, Pipeline.run_point_lt_of_flush t ((flush0_5 t).mp hf) s⟩)
          (iblk m c 3 ⟨_, Pipeline.run_point_lt_of_flush t ((flush0_5 t).mp hf) s⟩) y)
      = G (((cfg0.win 5).blk t).view.emb y)) : (dats m 0 c).arrAt 5 cfg0.N = G := by
  refine (dats m 0 c).arrAt_eq_of_covers 5 _ (by decide +kernel) fun t hf y => ?_
  blk_simp
  rw [after0_5]
  refine Eq.trans ?_ (hG t y hf)
  rw [Pipeline.eq_sum_fin_of_reset_step_apply_of_flush (fun n h => (outsAt0 m c n h).2.1) 8 (fun _ => 0)
    (fun t y => dkPart (iblk m c 0 t) (iblk m c 1 t) (iblk m c 2 t) (iblk m c 3 t) y)
    (fun t h j => by
      rw [outsAt0_A m c t h (by omega)]
      frame_out
      exact (pay7_at ..).trans (zero_add _).symm)
    (fun t h j => by
      rw [outsAt0_B m c t h (by omega)]
      frame_out
      exact pay1_at ..) t ((flush0_5 t).mp hf) _, zero_add]

/-- The result array of the values' gradient. -/
theorem final6 (c : Dev nD) (G : FVec Ideal S256x4096 .f32)
    (hG : ∀ (t : Fin cfg0.N) (y : S256x1024.Idx) (hf : (cfg0.win 6).flush t = true), (∑ s : Fin 8,
      dvPart (iblk m c 0 ⟨_, Pipeline.run_point_lt_of_flush t ((flush0_6 t).mp hf) s⟩)
          (iblk m c 1 ⟨_, Pipeline.run_point_lt_of_flush t ((flush0_6 t).mp hf) s⟩)
          (iblk m c 3 ⟨_, Pipeline.run_point_lt_of_flush t ((flush0_6 t).mp hf) s⟩) y)
      = G (((cfg0.win 6).blk t).view.emb y)) : (dats m 0 c).arrAt 6 cfg0.N = G := by
  refine (dats m 0 c).arrAt_eq_of_covers 6 _ (by decide +kernel) fun t hf y => ?_
  blk_simp
  rw [after0_6]
  refine Eq.trans ?_ (hG t y hf)
  rw [Pipeline.eq_sum_fin_of_reset_step_apply_of_flush (fun n h => (outsAt0 m c n h).2.2) 8 (fun _ => 0)
    (fun t y => dvPart (iblk m c 0 t) (iblk m c 1 t) (iblk m c 3 t) y)
    (fun t h j => by
      rw [outsAt0_A m c t h (by omega)]
      frame_out
      exact (pay4_at ..).trans (zero_add _).symm)
    (fun t h j => by
      rw [outsAt0_B m c t h (by omega)]
      frame_out
      exact pay2_at ..) t ((flush0_6 t).mp hf) _, zero_add]

end Cert.AttnIdeal.Value
-- ==== Proof.AttnRead.lean ====
module

public import proofs.«01_k».proof.Proof.SoftmaxMath
public import proofs.«01_k».proof.Proof.Gen.AttnRefIdeal.Read
public import Idealize.ShloMosaic.Lib.Pipeline.ValueKit

@[expose] public section

set_option maxRecDepth 16384

noncomputable section

namespace Cert.AttnRefIdeal.Value

open Cert.AttnRefIdeal Cert.AttnRefIdeal.Read Cert.AttnRefIdeal.Gen Idealize.ShloMosaic Idealize.ShloMosaic.TcCoe Idealize.SL.Sem
open Cert.SoftmaxRow (prob gradChain ex tot)

/-- Column `d` of head `h` in a row of all the heads. -/
def col (h : Fin 4) (d : Fin 1024) : Fin 4096 := ⟨h.val * 1024 + d.val, by have := h.isLt; have := d.isLt; omega⟩

/-- The scaled logits of query row `t` in head `h`. -/
def lg (x0 : FVec Ideal S4096x4096 .bf16) (x1 : FVec Ideal S256x4096 .bf16) (h : Fin 4) (t : Fin 4096) (m : Fin 256) : EReal :=
  (∑ d : Fin 1024, x0 (ix2 t (col h d)) * x1 (ix2 m (col h d))) * Ideal.ofBits .f32 0x3D000000#32

/-- The queries split by head: an entry of head `h` is the entry of the wide array at column `h * 1024 + d`. -/
theorem v4_at (x0 : FVec Ideal S4096x4096 .bf16) (i : S4096x4x1024.Idx) :
    val_main_v4 (F := Ideal) x0 i = x0 (ix2 (i 0) (col (i 1) (i 2))) := by
  rw [val_main_v4_apply]
  show x0 _ = _
  congr 1
  have h0 : (i 0).val < 4096 := (i 0).isLt
  have h1 : (i 1).val < 4 := (i 1).isLt
  have h2 : (i 2).val < 1024 := (i 2).isLt
  funext a
  match a with
  | ⟨0, _⟩ => exact Fin.ext (show (((i 0).val * 4 + (i 1).val) * 1024 + (i 2).val) / 4096 = (i 0).val by omega)
  | ⟨1, _⟩ => exact Fin.ext (show (((i 0).val * 4 + (i 1).val) * 1024 + (i 2).val) % 4096 = (i 1).val * 1024 + (i 2).val by omega)

/-- The keys split by head. -/
theorem v5_at (x0 : FVec Ideal S256x4096 .bf16) (i : S256x4x1024.Idx) :
    val_main_v5 (F := Ideal) x0 i = x0 (ix2 (i 0) (col (i 1) (i 2))) := by
  rw [val_main_v5_apply]
  show x0 _ = _
  congr 1
  have h0 : (i 0).val < 256 := (i 0).isLt
  have h1 : (i 1).val < 4 := (i 1).isLt
  have h2 : (i 2).val < 1024 := (i 2).isLt
  funext a
  match a with
  | ⟨0, _⟩ => exact Fin.ext (show (((i 0).val * 4 + (i 1).val) * 1024 + (i 2).val) / 4096 = (i 0).val by omega)
  | ⟨1, _⟩ => exact Fin.ext (show (((i 0).val * 4 + (i 1).val) * 1024 + (i 2).val) % 4096 = (i 1).val * 1024 + (i 2).val by omega)

/-- The values split by head. -/
theorem v6_at (x0 : FVec Ideal S256x4096 .bf16) (i : S256x4x1024.Idx) :
    val_main_v6 (F := Ideal) x0 i = x0 (ix2 (i 0) (col (i 1) (i 2))) := v5_at x0 i

/-- The gradient with respect to the probabilities of query row `t` in head `h`. -/
def gp (x2 : FVec Ideal S256x4096 .bf16) (x3 : FVec Ideal S4096x4096 .bf16) (h : Fin 4) (t : Fin 4096) (m : Fin 256) : EReal :=
  ∑ d : Fin 1024, x3 (ix2 t (col h d)) * x2 (ix2 m (col h d))

/-- The reference's scores. -/
theorem v9_at (x0 : FVec Ideal S4096x4096 .bf16) (x1 : FVec Ideal S256x4096 .bf16) (i : S4x4096x256.Idx) :
    val_main_v9 (F := Ideal) x0 x1 i = lg x0 x1 (i 0) (i 1) (i 2) := by
  rw [val_main_v9_apply, val_main_v7_apply]
  simp only [v4_at, v5_at]
  rfl

/-- The reference's row maxima. -/
theorem v10_at (x0 : FVec Ideal S4096x4096 .bf16) (x1 : FVec Ideal S256x4096 .bf16) (i : S4x4096.Idx) :
    val_main_v10 (F := Ideal) x0 x1 i = Cert.SoftmaxRow.top (lg x0 x1 (i 0) (i 1)) := by
  unfold val_main_v10
  have e : val_main_v9 (F := Ideal) x0 x1 = fun i => lg x0 x1 (i 0) (i 1) (i 2) := funext fun i => v9_at x0 x1 i
  rw [e]
  generalize lg x0 x1 = f
  pointwise [val_main_cst_0]
  rfl

/-- The exponentials of the shifted logits. -/
theorem v30_at (x0 : FVec Ideal S4096x4096 .bf16) (x1 : FVec Ideal S256x4096 .bf16) (i : S4x4096x256.Idx) :
    val_main_v30 (F := Ideal) x0 x1 i = ex (lg x0 x1 (i 0) (i 1)) (i 2) := by
  rw [val_main_v30_apply, val_main_v29_apply, val_main_v28_apply, val_main_v27_apply, val_main_v17_apply,
    val_main_v16_apply, val_main_cst_2_apply, v9_at, v10_at]
  show Ideal.exp (_ - max (Ideal.ofBits .f32 0xFF800000#32) _) = _
  rw [SoftmaxRow.ofBits_bot, max_eq_right bot_le]
  rfl

/-- The sum of a row's exponentials. -/
theorem v32_at (x0 : FVec Ideal S4096x4096 .bf16) (x1 : FVec Ideal S256x4096 .bf16) (i : S4x4096x1.Idx) :
    val_main_v32 (F := Ideal) x0 x1 i = tot (lg x0 x1 (i 0) (i 1)) := by
  rw [val_main_v32_apply, val_main_v31_apply, val_main_cst_8_apply]
  simp only [v30_at]
  show Ideal.ofBits .f32 0x00000000#32 + _ = _
  rw [Ideal.ofBits_zero_f32, zero_add]
  rfl

/-- The probabilities. -/
theorem v34_at (x0 : FVec Ideal S4096x4096 .bf16) (x1 : FVec Ideal S256x4096 .bf16) (i : S4x4096x256.Idx) :
    val_main_v34 (F := Ideal) x0 x1 i = prob (lg x0 x1 (i 0) (i 1)) (i 2) := by
  rw [val_main_v34_apply, val_main_v33_apply, v30_at, v32_at]
  rfl

/-- One over the square of the row's sum. -/
theorem v37_at (x0 : FVec Ideal S4096x4096 .bf16) (x1 : FVec Ideal S256x4096 .bf16) (i : S4x4096x1.Idx) :
    val_main_v37 (F := Ideal) x0 x1 i = Ideal.div 1 (tot (lg x0 x1 (i 0) (i 1)) * tot (lg x0 x1 (i 0) (i 1))) := by
  rw [val_main_v37_apply, val_main_v36_apply, val_main_v35_apply, v32_at, val_main_cst_9_apply]
  show Ideal.div (Ideal.ofBits .f32 0x3F800000#32) (_ * _) = _
  rw [SoftmaxRow.ofBits_one]

/-- The incoming gradient with the heads split and put first. -/
theorem v42_at (x3 : FVec Ideal S4096x4096 .bf16) (i : S4x1024x4096.Idx) :
    val_main_v42 (F := Ideal) x3 i = x3 (ix2 (i 2) (col (i 0) (i 1))) := by
  rw [val_main_v42_apply, val_main_v41_apply]
  show x3 _ = _
  congr 1
  have h0 : (i 0).val < 4 := (i 0).isLt
  have h1 : (i 1).val < 1024 := (i 1).isLt
  have h2 : (i 2).val < 4096 := (i 2).isLt
  funext a
  match a with
  | ⟨0, _⟩ => exact Fin.ext (show (((i 2).val * 4 + (i 0).val) * 1024 + (i 1).val) / 4096 = (i 2).val by omega)
  | ⟨1, _⟩ => exact Fin.ext (show (((i 2).val * 4 + (i 0).val) * 1024 + (i 1).val) % 4096 = (i 0).val * 1024 + (i 1).val by omega)

/-- The gradient with respect to the probabilities. -/
theorem v43_at (x2 : FVec Ideal S256x4096 .bf16) (x3 : FVec Ideal S4096x4096 .bf16) (i : S4x4096x256.Idx) :
    val_main_v43 (F := Ideal) x2 x3 i = gp x2 x3 (i 0) (i 1) (i 2) := by
  rw [val_main_v43_apply]
  simp only [v42_at, v6_at]
  rfl

/-- The sum that the quotient's chain rule subtracts. -/
theorem v54_at (x0 : FVec Ideal S4096x4096 .bf16) (x1 x2 : FVec Ideal S256x4096 .bf16) (x3 : FVec Ideal S4096x4096 .bf16)
    (i : S4x4096.Idx) : val_main_v54 (F := Ideal) x0 x1 x2 x3 i
      = -∑ l : Fin 256, gp x2 x3 (i 0) (i 1) l * Ideal.div 1 (tot (lg x0 x1 (i 0) (i 1)) * tot (lg x0 x1 (i 0) (i 1)))
          * ex (lg x0 x1 (i 0) (i 1)) l := by
  rw [val_main_v54_apply, Fin.sum_univ_one, val_main_v51_apply, val_main_v50_apply, val_main_v49_apply,
    val_main_cst_10_apply, val_main_cst_11_apply]
  simp only [val_main_v48_apply, val_main_v47_apply, val_main_v46_apply, v43_at, v37_at, v30_at]
  show Ideal.ofBits .f32 0x00000000#32 + -(Ideal.ofBits .f32 0x00000000#32 + _) = _
  rw [Ideal.ofBits_zero_f32, zero_add, zero_add]
  have h1 : (i 1).val < 4096 := (i 1).isLt
  have e : idx_main_v50 (idx_main_v54 i 0) = (ix2 (i 0) (i 1) : S4x4096.Idx) := by
    funext a
    match a with
    | ⟨0, _⟩ => exact Fin.ext (show (((i 0).val * 4096 + (i 1).val) * 1 + 0) / 4096 = (i 0).val by omega)
    | ⟨1, _⟩ => exact Fin.ext (show (((i 0).val * 4096 + (i 1).val) * 1 + 0) % 4096 = (i 1).val by omega)
  rw [e]
  rfl

/-- The gradient with respect to the unscaled logits: the quotient's chain rule, scaled. -/
theorem v59_at (x0 : FVec Ideal S4096x4096 .bf16) (x1 x2 : FVec Ideal S256x4096 .bf16) (x3 : FVec Ideal S4096x4096 .bf16)
    (i : S4x4096x256.Idx) : val_main_v59 (F := Ideal) x0 x1 x2 x3 i
      = gradChain (lg x0 x1 (i 0) (i 1)) (gp x2 x3 (i 0) (i 1)) (i 2) * Ideal.ofBits .f32 0x3D000000#32 := by
  rw [val_main_v59_apply, val_main_v57_apply, val_main_v56_apply, val_main_v55_apply, val_main_v53_apply,
    val_main_v52_apply, val_main_v58_apply, val_main_cst_12_apply, v54_at, v43_at, v32_at, v30_at]
  rfl

/-- The head of a column. -/
def hd (j : Fin 4096) : Fin 4 := ⟨j.val / 1024, by have := j.isLt; omega⟩

/-- The column of a column's head at lane `d` is the head's first column plus `d`. -/
theorem col_hd (j : Fin 4096) : col (hd j) ⟨j.val % 1024, Nat.mod_lt _ (by decide)⟩ = j :=
  Fin.ext (show j.val / 1024 * 1024 + j.val % 1024 = j.val by omega)

/-- The queries' gradient. -/
theorem v67_at (x0 : FVec Ideal S4096x4096 .bf16) (x1 x2 : FVec Ideal S256x4096 .bf16) (x3 : FVec Ideal S4096x4096 .bf16)
    (i : S4096x4096.Idx) : val_main_v67 (F := Ideal) x0 x1 x2 x3 i
      = ∑ m : Fin 256, gradChain (lg x0 x1 (hd (i 1)) (i 0)) (gp x2 x3 (hd (i 1)) (i 0)) m * Ideal.ofBits .f32 0x3D000000#32
          * x1 (ix2 m (i 1)) := by
  rw [val_main_v67_apply, val_main_v66_apply, val_main_v63_apply]
  show val_main_v62 (F := Ideal) x0 x1 x2 x3 _ = _
  rw [val_main_v62_apply]
  simp only [v59_at, v5_at]
  have h0 : (i 0).val < 4096 := (i 0).isLt
  have h1 : (i 1).val < 4096 := (i 1).isLt
  have e : idx_main_v63 (idx_main_v66 i) = (ix3 (hd (i 1)) (i 0) ⟨(i 1).val % 1024, Nat.mod_lt _ (by decide)⟩ : S4x4096x1024.Idx) := by
    funext a
    match a with
    | ⟨0, _⟩ => exact Fin.ext (show ((i 0).val * 4096 + (i 1).val) / 1024 % 4 = (i 1).val / 1024 by omega)
    | ⟨1, _⟩ => exact Fin.ext (show ((i 0).val * 4096 + (i 1).val) / 4096 = (i 0).val by omega)
    | ⟨2, _⟩ => exact Fin.ext (show ((i 0).val * 4096 + (i 1).val) % 1024 = (i 1).val % 1024 by omega)
  rw [e]
  refine Finset.sum_congr rfl fun m _ => ?_
  exact congrArg (fun z => gradChain (lg x0 x1 (hd (i 1)) (i 0)) (gp x2 x3 (hd (i 1)) (i 0)) m
    * Ideal.ofBits .f32 0x3D000000#32 * x1 (ix2 m z)) (col_hd (i 1))

/-- The keys' gradient. -/
theorem v65_at (x0 : FVec Ideal S4096x4096 .bf16) (x1 x2 : FVec Ideal S256x4096 .bf16) (x3 : FVec Ideal S4096x4096 .bf16)
    (i : S256x4096.Idx) : val_main_v65 (F := Ideal) x0 x1 x2 x3 i
      = ∑ t : Fin 4096, gradChain (lg x0 x1 (hd (i 1)) t) (gp x2 x3 (hd (i 1)) t) (i 0) * Ideal.ofBits .f32 0x3D000000#32
          * x0 (ix2 t (i 1)) := by
  rw [val_main_v65_apply, val_main_v61_apply, val_main_v60_apply]
  simp only [v59_at, v4_at]
  have h0 : (i 0).val < 256 := (i 0).isLt
  have h1 : (i 1).val < 4096 := (i 1).isLt
  have e : idx_main_v61 (idx_main_v65 i) = (ix3 (hd (i 1)) (i 0) ⟨(i 1).val % 1024, Nat.mod_lt _ (by decide)⟩ : S4x256x1024.Idx) := by
    funext a
    match a with
    | ⟨0, _⟩ => exact Fin.ext (show ((i 0).val * 4096 + (i 1).val) / 1024 % 4 = (i 1).val / 1024 by omega)
    | ⟨1, _⟩ => exact Fin.ext (show ((i 0).val * 4096 + (i 1).val) / 4096 = (i 0).val by omega)
    | ⟨2, _⟩ => exact Fin.ext (show ((i 0).val * 4096 + (i 1).val) % 1024 = (i 1).val % 1024 by omega)
  rw [e]
  refine Finset.sum_congr rfl fun t _ => ?_
  exact congrArg (fun z => gradChain (lg x0 x1 (hd (i 1)) t) (gp x2 x3 (hd (i 1)) t) (i 0)
    * Ideal.ofBits .f32 0x3D000000#32 * x0 (ix2 t z)) (col_hd (i 1))

/-- The values' gradient. -/
theorem v64_at (x0 : FVec Ideal S4096x4096 .bf16) (x1 : FVec Ideal S256x4096 .bf16) (x3 : FVec Ideal S4096x4096 .bf16)
    (i : S256x4096.Idx) : val_main_v64 (F := Ideal) x0 x1 x3 i
      = ∑ t : Fin 4096, prob (lg x0 x1 (hd (i 1)) t) (i 0) * x3 (ix2 t (i 1)) := by
  rw [val_main_v64_apply, val_main_v45_apply, val_main_v44_apply]
  simp only [v42_at, v34_at]
  have h0 : (i 0).val < 256 := (i 0).isLt
  have h1 : (i 1).val < 4096 := (i 1).isLt
  have e : idx_main_v45 (idx_main_v64 i) = (ix3 (hd (i 1)) ⟨(i 1).val % 1024, Nat.mod_lt _ (by decide)⟩ (i 0) : S4x1024x256.Idx) := by
    funext a
    match a with
    | ⟨0, _⟩ => exact Fin.ext (show ((i 0).val * 4096 + (i 1).val) / 1024 % 4 = (i 1).val / 1024 by omega)
    | ⟨1, _⟩ => exact Fin.ext (show ((i 0).val * 4096 + (i 1).val) % 1024 = (i 1).val % 1024 by omega)
    | ⟨2, _⟩ => exact Fin.ext (show ((i 0).val * 4096 + (i 1).val) / 4096 = (i 0).val by omega)
  rw [e]
  refine Finset.sum_congr rfl fun t _ => ?_
  exact (congrArg (fun z => x3 (ix2 t z) * prob (lg x0 x1 (hd (i 1)) t) (i 0)) (col_hd (i 1))).trans (mul_comm _ _)

end Cert.AttnRefIdeal.Value
-- ==== Proof.AttnAlg.lean ====
module

public import proofs.«01_k».proof.Proof.AttnValue
public import proofs.«01_k».proof.Proof.AttnRead
public import proofs.«01_k».proof.Proof.Gen.AttnRefIdeal.Run
public import proofs.«01_k».proof.Defs

/-!
  The kernel's three gradients of attention are the reference's: the blocks of the arguments are read at their places in
  the arrays, the rows of a head are summed in eight runs of 512, and the two closed forms of the softmax's gradient
  agree where the logits are real numbers.
-/

@[expose] public section

set_option maxRecDepth 16384

noncomputable section

namespace Cert.AttnAlg

open Cert.AttnIdeal Cert.AttnIdeal.Gen Cert.AttnIdeal.Value Idealize.ShloMosaic Idealize.ShloMosaic.TcCoe Idealize.SL.Sem
open Idealize.ShloMosaic.Pipeline (Dat)
open Cert.SoftmaxRow (prob gradClosed gradChain gradClosed_eq_gradChain)
open Cert.AttnRefIdeal.Value (col hd)

variable (m : (ℓ : Loc nD τ sig) → Buf (Elt Ideal) ℓ) (c : Dev nD)

/-- The queries. -/
def Q : FVec Ideal S4096x4096 .bf16 := m ((c : Thread nD τ).loc main_arg0)
/-- The keys. -/
def K : FVec Ideal S256x4096 .bf16 := m ((c : Thread nD τ).loc main_arg1)
/-- The values. -/
def W : FVec Ideal S256x4096 .bf16 := m ((c : Thread nD τ).loc main_arg2)
/-- The cotangent. -/
def D : FVec Ideal S4096x4096 .bf16 := m ((c : Thread nD τ).loc main_arg3)

/-- A grid point's head. -/
def head (t : Fin cfg0.N) : Fin 4 := ⟨t.val / 8, by have := t.isLt; have : cfg0.N = 32 := rfl; omega⟩

/-- A grid point's row block. -/
def rblk (t : Fin cfg0.N) : Fin 8 := ⟨t.val % 8, Nat.mod_lt _ (by decide)⟩

/-- Row `r` of row block `s`. -/
def row (s : Fin 8) (r : Fin 512) : Fin 4096 := ⟨s.val * 512 + r.val, by have := s.isLt; have := r.isLt; omega⟩

/-- The queries' block at a point. -/
theorem blk0_at (t : Fin cfg0.N) (r : Fin 512) (d : Fin 1024) :
    (iblk m c 0 t : FVec Ideal S512x1024 .bf16) (ix2 r d) = Q m c (ix2 (row (rblk t) r) (col (head t) d)) := by
  blk_point [iblk, V, idx_val t] <;> rfl

/-- The keys' block at a point. -/
theorem blk1_at (t : Fin cfg0.N) (l : Fin 256) (d : Fin 1024) :
    (iblk m c 1 t : FVec Ideal S256x1024 .bf16) (ix2 l d) = K m c (ix2 l (col (head t) d)) := by
  blk_point [iblk, V, idx_val t] <;> rfl

/-- The values' block at a point. -/
theorem blk2_at (t : Fin cfg0.N) (l : Fin 256) (d : Fin 1024) :
    (iblk m c 2 t : FVec Ideal S256x1024 .bf16) (ix2 l d) = W m c (ix2 l (col (head t) d)) := by
  blk_point [iblk, V, idx_val t] <;> rfl

/-- The cotangent's block at a point. -/
theorem blk3_at (t : Fin cfg0.N) (r : Fin 512) (d : Fin 1024) :
    (iblk m c 3 t : FVec Ideal S512x1024 .bf16) (ix2 r d) = D m c (ix2 (row (rblk t) r) (col (head t) d)) := by
  blk_point [iblk, V, idx_val t] <;> rfl

/-- The logits of a block's row are the array's. -/
theorem lg_at (t : Fin cfg0.N) (r : Fin 512) :
    lg (iblk m c 0 t) (iblk m c 1 t) r = Cert.AttnRefIdeal.Value.lg (Q m c) (K m c) (head t) (row (rblk t) r) := by
  funext l
  unfold lg Cert.AttnRefIdeal.Value.lg
  refine congrArg (· * _) (Finset.sum_congr rfl fun d _ => ?_)
  exact congrArg₂ (fun a b : EReal => a * b) (blk0_at m c t r d) (blk1_at m c t l d)

/-- The gradients of a block's row with respect to the probabilities are the array's. -/
theorem gp_at (t : Fin cfg0.N) (r : Fin 512) :
    gp (iblk m c 2 t) (iblk m c 3 t) r = Cert.AttnRefIdeal.Value.gp (W m c) (D m c) (head t) (row (rblk t) r) := by
  funext l
  unfold gp Cert.AttnRefIdeal.Value.gp
  refine Finset.sum_congr rfl fun d _ => ?_
  exact congrArg₂ (fun a b : EReal => a * b) (blk3_at m c t r d) (blk2_at m c t l d)

/-- The logits are real numbers where the queries and the keys are. -/
theorem lg_real (hq : ∀ i, ∃ r : ℝ, Q m c i = (r : EReal)) (hk : ∀ i, ∃ r : ℝ, K m c i = (r : EReal)) (h : Fin 4) (t : Fin 4096)
    (l : Fin 256) : ∃ r : ℝ, Cert.AttnRefIdeal.Value.lg (Q m c) (K m c) h t l = (r : EReal) := by
  unfold Cert.AttnRefIdeal.Value.lg
  obtain ⟨z, hz⟩ := Cert.SoftmaxRow.sum_real (fun d : Fin 1024 => Q m c (ix2 t (col h d)) * K m c (ix2 l (col h d)))
    fun d => by
      obtain ⟨a, ha⟩ := hq (ix2 t (col h d))
      obtain ⟨b, hb⟩ := hk (ix2 l (col h d))
      exact ⟨a * b, by rw [ha, hb, EReal.coe_mul]⟩
  obtain ⟨w, hw⟩ := Cert.SoftmaxRow.ofBits_scale
  exact ⟨z * w, by rw [hz, hw, EReal.coe_mul]⟩

/-- The queries' gradient after the run is the reference's. -/
theorem dq_eq (hq : ∀ i, ∃ r : ℝ, Q m c i = (r : EReal)) (hk : ∀ i, ∃ r : ℝ, K m c i = (r : EReal)) :
    (dats m 0 c).arrAt 4 cfg0.N = Cert.AttnRefIdeal.Read.val_main_v67 (F := Ideal) (Q m c) (K m c) (W m c) (D m c) := by
  refine final4 m c _ fun t y => ?_
  have e : ((cfg0.win 4).blk t).view.emb y = (ix2 (row (rblk t) (y 0)) (col (head t) (y 1)) : S4096x4096.Idx) := by
    blk_ext [idx_val t] <;> rfl
  rw [e]
  refine Eq.trans ?_ (Cert.AttnRefIdeal.Value.v67_at ..).symm
  have eh : hd (col (head t) (y 1)) = head t := Fin.ext (show ((t.val / 8) * 1024 + (y 1).val) / 1024 = t.val / 8 by
    have h1 : (y 1).val < 1024 := (y 1).isLt
    omega)
  show _ = ∑ l : Fin 256, gradChain (Cert.AttnRefIdeal.Value.lg (Q m c) (K m c) (hd (col (head t) (y 1))) (row (rblk t) (y 0)))
    (Cert.AttnRefIdeal.Value.gp (W m c) (D m c) (hd (col (head t) (y 1))) (row (rblk t) (y 0))) l * _
      * K m c (ix2 l (col (head t) (y 1)))
  refine Finset.sum_congr rfl fun l _ => ?_
  rw [eh, ← gradClosed_eq_gradChain _ _ (lg_real m c hq hk _ _)]
  rw [lg_at m c t (y 0), gp_at m c t (y 0)]
  exact congrArg (fun z : EReal => _ * z) (blk1_at m c t l (y 1))

/-- The grid point of step `s` in a flushing point's run has the run's head and row block `s`. -/
theorem run_at (t : Fin cfg0.N) (s : Fin 8) (h : 8 * (t.val / 8) + s.val < cfg0.N) :
    head ⟨8 * (t.val / 8) + s.val, h⟩ = head t ∧ rblk ⟨8 * (t.val / 8) + s.val, h⟩ = s :=
  ⟨Fin.ext (show (8 * (t.val / 8) + s.val) / 8 = t.val / 8 by have := s.isLt; omega),
    Fin.ext (show (8 * (t.val / 8) + s.val) % 8 = s.val by have := s.isLt; omega)⟩

/-- The keys' gradient after the run is the reference's. -/
theorem dk_eq (hq : ∀ i, ∃ r : ℝ, Q m c i = (r : EReal)) (hk : ∀ i, ∃ r : ℝ, K m c i = (r : EReal)) :
    (dats m 0 c).arrAt 5 cfg0.N = Cert.AttnRefIdeal.Read.val_main_v65 (F := Ideal) (Q m c) (K m c) (W m c) (D m c) := by
  refine final5 m c _ fun t y hf => ?_
  have e : ((cfg0.win 5).blk t).view.emb y = (ix2 (y 0) (col (head t) (y 1)) : S256x4096.Idx) := by
    blk_ext [idx_val t] <;> rfl
  rw [e]
  refine Eq.trans ?_ (Cert.AttnRefIdeal.Value.v65_at ..).symm
  have eh : hd (col (head t) (y 1)) = head t := Fin.ext (show ((t.val / 8) * 1024 + (y 1).val) / 1024 = t.val / 8 by
    have h1 : (y 1).val < 1024 := (y 1).isLt
    omega)
  show _ = ∑ l : Fin 4096, gradChain (Cert.AttnRefIdeal.Value.lg (Q m c) (K m c) (hd (col (head t) (y 1))) l)
    (Cert.AttnRefIdeal.Value.gp (W m c) (D m c) (hd (col (head t) (y 1))) l) (y 0) * Ideal.ofBits .f32 0x3D000000#32
      * Q m c (ix2 l (col (head t) (y 1)))
  rw [eh]
  unfold dkPart
  refine Fin.sum_mul_add_congr fun s r hl => ?_
  obtain ⟨r1, r2⟩ := run_at t s (Pipeline.run_point_lt_of_flush t ((flush0_5 t).mp hf) s)
  refine Eq.trans ?_ (congrArg (fun z : EReal => z * Ideal.ofBits .f32 0x3D000000#32 * Q m c (ix2 ⟨s.val * 512 + r.val, hl⟩ (col (head t) (y 1))))
    (gradClosed_eq_gradChain _ (Cert.AttnRefIdeal.Value.gp (W m c) (D m c) (head t) ⟨s.val * 512 + r.val, hl⟩)
      (lg_real m c hq hk (head t) ⟨s.val * 512 + r.val, hl⟩) (y 0)))
  rw [lg_at m c _ r, gp_at m c _ r, r1, r2]
  refine congrArg (fun z : EReal => _ * z) ((blk0_at m c _ r (y 1)).trans ?_)
  rw [r1, r2]
  rfl

/-- The values' gradient after the run is the reference's. -/
theorem dv_eq : (dats m 0 c).arrAt 6 cfg0.N = Cert.AttnRefIdeal.Read.val_main_v64 (F := Ideal) (Q m c) (K m c) (D m c) := by
  refine final6 m c _ fun t y hf => ?_
  have e : ((cfg0.win 6).blk t).view.emb y = (ix2 (y 0) (col (head t) (y 1)) : S256x4096.Idx) := by
    blk_ext [idx_val t] <;> rfl
  rw [e]
  refine Eq.trans ?_ (Cert.AttnRefIdeal.Value.v64_at ..).symm
  have eh : hd (col (head t) (y 1)) = head t := Fin.ext (show ((t.val / 8) * 1024 + (y 1).val) / 1024 = t.val / 8 by
    have h1 : (y 1).val < 1024 := (y 1).isLt
    omega)
  show _ = ∑ l : Fin 4096, prob (Cert.AttnRefIdeal.Value.lg (Q m c) (K m c) (hd (col (head t) (y 1))) l) (y 0)
      * D m c (ix2 l (col (head t) (y 1)))
  rw [eh]
  unfold dvPart
  refine Fin.sum_mul_add_congr fun s r hl => ?_
  obtain ⟨r1, r2⟩ := run_at t s (Pipeline.run_point_lt_of_flush t ((flush0_6 t).mp hf) s)
  rw [lg_at m c _ r, r1, r2]
  refine congrArg (fun z : EReal => _ * z) ((blk3_at m c _ r (y 1)).trans ?_)
  rw [r1, r2]
  rfl

/-- The pattern of plus infinity is the top of the extended reals. -/
theorem ofBits_top : Ideal.ofBits .bf16 0x7F80#16 = ⊤ := by simp [Ideal.ofBits, Ideal.ieee]

/-- A value whose magnitude compares below plus infinity is a real number. -/
theorem real_of_abs_lt (x : EReal) (h : BitVec.ofBool (decide (max x (-x) < Ideal.ofBits .bf16 0x7F80#16)) = 1#1) :
    ∃ r : ℝ, x = (r : EReal) := by
  rw [ofBits_top] at h
  induction x using EReal.rec with
  | bot => simp at h
  | top => simp at h
  | coe r => exact ⟨r, rfl⟩

/-- The precondition makes the queries real. -/
theorem pre_q [Cert.Pre_finite_attention.Facts] (x0 x3 : FVec Ideal S4096x4096 .bf16) (x1 x2 : FVec Ideal S256x4096 .bf16)
    (h : Cert.Pre_finite_attention.fn (F := Ideal) x0 x1 x2 x3 = fun _ => 1#1) (i : Fin 4096) (j : Fin 4096) :
    ∃ r : ℝ, x0 (ix2 i j) = (r : EReal) := by
  have hi := congrFun h (ix2 ⟨i.val, by have := i.isLt; omega⟩ j)
  revert hi
  pointwise [Cert.Pre_finite_attention.fn]
  exact real_of_abs_lt _

/-- The precondition makes the keys real. -/
theorem pre_k [Cert.Pre_finite_attention.Facts] (x0 x3 : FVec Ideal S4096x4096 .bf16) (x1 x2 : FVec Ideal S256x4096 .bf16)
    (h : Cert.Pre_finite_attention.fn (F := Ideal) x0 x1 x2 x3 = fun _ => 1#1) (i : Fin 256) (j : Fin 4096) :
    ∃ r : ℝ, x1 (ix2 i j) = (r : EReal) := by
  have hi := congrFun h (ix2 ⟨4096 + i.val, by have := i.isLt; omega⟩ j)
  revert hi
  pointwise [Cert.Pre_finite_attention.fn]
  exact real_of_abs_lt _

/-- An index of a matrix is the pair of its coordinates. -/
theorem ix2_eta {n k : ℕ} (i : (⟨2, ![n, k]⟩ : Shape).Idx) : i = ix2 (i 0) (i 1) := by
  funext a
  match a with
  | ⟨0, _⟩ => rfl
  | ⟨1, _⟩ => rfl

/-- Where queries and keys are finite, the kernel's gradients of attention are the reference's. -/
theorem claim [Cert.Pre_finite_attention.Facts] :
    Cert.algebraic_AttnIdeal_AttnRefIdeal_pre_finite_attention (hAttnIdeal := Cert.AttnIdeal.Gen.facts)
      (hAttnRefIdeal := Cert.AttnRefIdeal.Gen.facts) := by
  intro m g m' g' hpre hargs
  have hq : ∀ (c : Dev nD) i, ∃ r : ℝ, Q m c i = (r : EReal) := fun c i => by
    rw [ix2_eta i]; exact pre_q _ _ _ _ (hpre c) _ _
  have hk : ∀ (c : Dev nD) i, ∃ r : ℝ, K m c i = (r : EReal) := fun c i => by
    rw [ix2_eta i]; exact pre_k _ _ _ _ (hpre c) _ _
  refine ⟨fun c => (dats m 0 c).arrAt 4 cfg0.N, fun c => (dats m 0 c).arrAt 5 cfg0.N, fun c => (dats m 0 c).arrAt 6 cfg0.N,
    run_blocks m g, (θ_run Cert.AttnRefIdeal.defs _ _).mono (fun r h c => ?_) (Cert.AttnRefIdeal.Value.run m' g')⟩
  obtain ⟨h1, h2, h3, h4⟩ := h c
  obtain ⟨a0, a1, a2, a3⟩ := hargs c
  refine ⟨h1.trans ((Cert.AttnRefIdeal.Read.val_main_v67_eq m' c).trans ?_),
    h2.trans ((Cert.AttnRefIdeal.Read.val_main_v65_eq m' c).trans ?_),
    h3.trans ((Cert.AttnRefIdeal.Read.val_main_v64_eq _ _ _).trans ?_), h4⟩
  · rw [a0, a1, a2, a3]
    exact (dq_eq m c (hq c) (hk c)).symm
  · rw [a0, a1, a2, a3]
    exact (dk_eq m c (hq c) (hk c)).symm
  · rw [a0, a1, a3]
    exact (dv_eq m c).symm

end Cert.AttnAlg
-- ==== Proof.AttnFwdAlg.lean ====
module

public import proofs.«01_k».proof.Proof.SoftmaxMath
public import proofs.«01_k».proof.Proof.Gen.AttnFwdIdeal.Value
public import proofs.«01_k».proof.Proof.Gen.AttnFwdRefIdeal.Read
public import proofs.«01_k».proof.Proof.Gen.AttnFwdRefIdeal.Run
public import proofs.«01_k».proof.Defs
public import Idealize.ShloMosaic.Lib.Pipeline.ValueKit
public import Idealize.ShloMosaic.Lib.Claim

/-!
  The forward attention, head by head and row block by row block: a row's softmax against the values.
-/

@[expose] public section

set_option maxRecDepth 16384

noncomputable section

namespace Cert.AttnFwdRef

open Cert.AttnFwdRefIdeal Idealize.ShloMosaic Idealize.ShloMosaic.TcCoe Idealize.SL.Sem
open Cert.SoftmaxRow (prob ex tot)

/-- Column `d` of head `h` in a row of all the heads. -/
def col (h : Fin 4) (d : Fin 1024) : Fin 4096 := ⟨h.val * 1024 + d.val, by have := h.isLt; have := d.isLt; omega⟩

/-- The head of a column. -/
def hd (j : Fin 4096) : Fin 4 := ⟨j.val / 1024, by have := j.isLt; omega⟩

/-- The scaled logits of query row `t` in head `h`. -/
def lg (x0 : FVec Ideal S4096x4096 .bf16) (x1 : FVec Ideal S256x4096 .bf16) (h : Fin 4) (t : Fin 4096) (l : Fin 256) : EReal :=
  (∑ d : Fin 1024, x0 (ix2 t (col h d)) * x1 (ix2 l (col h d))) * Ideal.ofBits .f32 0x3D000000#32

/-- Argument 0 split by head: an entry of head `h` is the entry of the wide array at column `h * 1024 + d`. -/
theorem v3_at (x : FVec Ideal S4096x4096 .bf16) (i : S4096x4x1024.Idx) :
    Read.val_main_v3 (F := Ideal) x i = x (ix2 (i 0) (col (i 1) (i 2))) := by
  rw [Read.val_main_v3_apply]
  show x _ = _
  congr 1
  have h0 : (i 0).val < 4096 := (i 0).isLt
  have h1 : (i 1).val < 4 := (i 1).isLt
  have h2 : (i 2).val < 1024 := (i 2).isLt
  funext a
  match a with
  | ⟨0, _⟩ => exact Fin.ext (show (((i 0).val * 4 + (i 1).val) * 1024 + (i 2).val) / 4096 = (i 0).val by omega)
  | ⟨1, _⟩ => exact Fin.ext (show (((i 0).val * 4 + (i 1).val) * 1024 + (i 2).val) % 4096 = (i 1).val * 1024 + (i 2).val by omega)

/-- Argument 1 split by head: an entry of head `h` is the entry of the wide array at column `h * 1024 + d`. -/
theorem v4_at (x : FVec Ideal S256x4096 .bf16) (i : S256x4x1024.Idx) :
    Read.val_main_v4 (F := Ideal) x i = x (ix2 (i 0) (col (i 1) (i 2))) := by
  rw [Read.val_main_v4_apply]
  show x _ = _
  congr 1
  have h0 : (i 0).val < 256 := (i 0).isLt
  have h1 : (i 1).val < 4 := (i 1).isLt
  have h2 : (i 2).val < 1024 := (i 2).isLt
  funext a
  match a with
  | ⟨0, _⟩ => exact Fin.ext (show (((i 0).val * 4 + (i 1).val) * 1024 + (i 2).val) / 4096 = (i 0).val by omega)
  | ⟨1, _⟩ => exact Fin.ext (show (((i 0).val * 4 + (i 1).val) * 1024 + (i 2).val) % 4096 = (i 1).val * 1024 + (i 2).val by omega)

/-- Argument 2 split by head: an entry of head `h` is the entry of the wide array at column `h * 1024 + d`. -/
theorem v5_at (x : FVec Ideal S256x4096 .bf16) (i : S256x4x1024.Idx) :
    Read.val_main_v5 (F := Ideal) x i = x (ix2 (i 0) (col (i 1) (i 2))) := by
  rw [Read.val_main_v5_apply]
  show x _ = _
  congr 1
  have h0 : (i 0).val < 256 := (i 0).isLt
  have h1 : (i 1).val < 4 := (i 1).isLt
  have h2 : (i 2).val < 1024 := (i 2).isLt
  funext a
  match a with
  | ⟨0, _⟩ => exact Fin.ext (show (((i 0).val * 4 + (i 1).val) * 1024 + (i 2).val) / 4096 = (i 0).val by omega)
  | ⟨1, _⟩ => exact Fin.ext (show (((i 0).val * 4 + (i 1).val) * 1024 + (i 2).val) % 4096 = (i 1).val * 1024 + (i 2).val by omega)

/-- The reference's scores. -/
theorem v8_at (x0 : FVec Ideal S4096x4096 .bf16) (x1 : FVec Ideal S256x4096 .bf16) (i : S4x4096x256.Idx) :
    Read.val_main_v8 (F := Ideal) x0 x1 i = lg x0 x1 (i 0) (i 1) (i 2) := by
  rw [Read.val_main_v8_apply, Read.val_main_v6_apply]
  simp only [v3_at, v4_at]
  rfl

/-- The reference's row maxima. -/
theorem v9_at (x0 : FVec Ideal S4096x4096 .bf16) (x1 : FVec Ideal S256x4096 .bf16) (i : S4x4096.Idx) :
    Read.val_main_v9 (F := Ideal) x0 x1 i = Cert.SoftmaxRow.top (lg x0 x1 (i 0) (i 1)) := by
  unfold Read.val_main_v9
  have e : Read.val_main_v8 (F := Ideal) x0 x1 = fun i => lg x0 x1 (i 0) (i 1) (i 2) := funext fun i => v8_at x0 x1 i
  rw [e]
  generalize lg x0 x1 = f
  pointwise [Read.val_main_cst_0]
  rfl

/-- The exponentials of the shifted logits. -/
theorem v15_at (x0 : FVec Ideal S4096x4096 .bf16) (x1 : FVec Ideal S256x4096 .bf16) (i : S4x4096x256.Idx) :
    Read.val_main_v15 (F := Ideal) x0 x1 i = ex (lg x0 x1 (i 0) (i 1)) (i 2) := by
  rw [Read.val_main_v15_apply, Read.val_main_v14_apply, Read.val_main_v13_apply, Read.val_main_v12_apply, Read.val_main_v11_apply,
    Read.val_main_v10_apply, Read.val_main_cst_1_apply, v8_at, v9_at]
  show Ideal.exp (_ - max (Ideal.ofBits .f32 0xFF800000#32) _) = _
  rw [SoftmaxRow.ofBits_bot, max_eq_right bot_le]
  rfl

/-- The probabilities. -/
theorem v19_at (x0 : FVec Ideal S4096x4096 .bf16) (x1 : FVec Ideal S256x4096 .bf16) (i : S4x4096x256.Idx) :
    Read.val_main_v19 (F := Ideal) x0 x1 i = prob (lg x0 x1 (i 0) (i 1)) (i 2) := by
  rw [Read.val_main_v19_apply, Read.val_main_v18_apply, Read.val_main_v17_apply, Read.val_main_v16_apply, Read.val_main_cst_2_apply]
  simp only [v15_at]
  show Ideal.div _ (Ideal.ofBits .f32 0x00000000#32 + _) = _
  rw [Ideal.ofBits_zero_f32, zero_add]
  rfl

/-- The reference's result, at an index. -/
theorem v23_at (x0 : FVec Ideal S4096x4096 .bf16) (x1 x2 : FVec Ideal S256x4096 .bf16) (i : S4096x4096.Idx) :
    Read.val_main_v23 (F := Ideal) x0 x1 x2 i = ∑ l : Fin 256, prob (lg x0 x1 (hd (i 1)) (i 0)) l * x2 (ix2 l (i 1)) := by
  rw [Read.val_main_v23_apply, Read.val_main_v22_apply, Read.val_main_v21_apply, Read.val_main_v20_apply]
  simp only [v19_at, v5_at]
  have h0 : (i 0).val < 4096 := (i 0).isLt
  have h1 : (i 1).val < 4096 := (i 1).isLt
  refine Finset.sum_congr rfl fun l _ => ?_
  rw [mul_comm]
  refine congrArg₂ (fun a b : EReal => a * b) ?_ (congrArg x2 ?_)
  · refine congrArg₂ (fun (h : Fin 4) (t : Fin 4096) => prob (lg x0 x1 h t) l) (Fin.ext ?_) (Fin.ext ?_)
    · show ((i 0).val * 4096 + (i 1).val) / 1024 % 4 = (i 1).val / 1024
      omega
    · show ((i 0).val * 4096 + (i 1).val) / 4096 = (i 0).val
      omega
  · funext a
    match a with
    | ⟨0, _⟩ => rfl
    | ⟨1, _⟩ => exact Fin.ext (show ((i 0).val * 4096 + (i 1).val) / 1024 % 4 * 1024 + ((i 0).val * 4096 + (i 1).val) % 1024 = (i 1).val by omega)

end Cert.AttnFwdRef

namespace Cert.AttnFwdAlg

open Cert.AttnFwdIdeal Cert.AttnFwdIdeal.Gen Cert.AttnFwdIdeal.Value Idealize.ShloMosaic Idealize.ShloMosaic.TcCoe Idealize.SL.Sem
open Idealize.ShloMosaic.Pipeline (Dat)
open Cert.SoftmaxRow (prob)
open Cert.AttnFwdRef (col hd lg v23_at)

/-- The scaled logits of row `r` of a block of queries against the head's keys. -/
def lgb (x0 : Vec Ideal S512x1024 .bf16) (x1 : Vec Ideal S256x1024 .bf16) (r : Fin 512) (l : Fin 256) : EReal :=
  (∑ d : Fin 1024, x0 (ix2 r d) * x1 (ix2 l d)) * Ideal.ofBits .f32 0x3D000000#32

/-- The body's block of results, at an index: the row's softmax against a column of the values. -/
theorem pay_at (x0 : Vec Ideal S512x1024 .bf16) (x1 x2 : Vec Ideal S256x1024 .bf16) (j : S512x1024.Idx) :
    k0_pay1 x0 x1 x2 j = ∑ l : Fin 256, prob (lgb x0 x1 (j 0)) l * x2 (ix2 l (j 1)) := by
  pointwise [k0_pay1]
  rfl

/-- Where the blocks of a grid point lie. -/
theorem idx_val : ∀ t : Fin cfg0.N, win0_0.index t = ![t.val / 4, t.val % 4]
    ∧ win0_1.index t = ![0, t.val % 4]
    ∧ win0_2.index t = ![0, t.val % 4]
    ∧ win0_3.index t = ![t.val / 4, t.val % 4] :=
  (by decide +kernel : ∀ t : Fin grid0.N, _)

variable (m : (ℓ : Loc nD τ sig) → Buf (Elt Ideal) ℓ) (c : Dev nD)

/-- The queries. -/
def Q : FVec Ideal S4096x4096 .bf16 := m ((c : Thread nD τ).loc main_arg0)
/-- The keys. -/
def K : FVec Ideal S256x4096 .bf16 := m ((c : Thread nD τ).loc main_arg1)
/-- The values. -/
def W : FVec Ideal S256x4096 .bf16 := m ((c : Thread nD τ).loc main_arg2)

/-- A grid point's head. -/
def head (t : Fin cfg0.N) : Fin 4 := ⟨t.val % 4, Nat.mod_lt _ (by decide)⟩

/-- Row `r` of a grid point's row block. -/
def row (t : Fin cfg0.N) (r : Fin 512) : Fin 4096 :=
  ⟨t.val / 4 * 512 + r.val, by have ht : t.val < 32 := t.isLt; have := r.isLt; omega⟩

/-- The queries' block at a point. -/
theorem blk0_at (t : Fin cfg0.N) (r : Fin 512) (d : Fin 1024) :
    (iblk m c 0 t : FVec Ideal S512x1024 .bf16) (ix2 r d) = Q m c (ix2 (row t r) (col (head t) d)) := by
  blk_point [iblk, V, idx_val t] <;> rfl

/-- The keys' block at a point. -/
theorem blk1_at (t : Fin cfg0.N) (l : Fin 256) (d : Fin 1024) :
    (iblk m c 1 t : FVec Ideal S256x1024 .bf16) (ix2 l d) = K m c (ix2 l (col (head t) d)) := by
  blk_point [iblk, V, idx_val t] <;> rfl

/-- The values' block at a point. -/
theorem blk2_at (t : Fin cfg0.N) (l : Fin 256) (d : Fin 1024) :
    (iblk m c 2 t : FVec Ideal S256x1024 .bf16) (ix2 l d) = W m c (ix2 l (col (head t) d)) := by
  blk_point [iblk, V, idx_val t] <;> rfl

/-- The logits of a block's row are the array's. -/
theorem lg_at (t : Fin cfg0.N) (r : Fin 512) :
    lgb (iblk m c 0 t) (iblk m c 1 t) r = lg (Q m c) (K m c) (head t) (row t r) := by
  funext l
  unfold lgb lg
  refine congrArg (· * _) (Finset.sum_congr rfl fun d _ => ?_)
  exact congrArg₂ (fun a b : EReal => a * b) (blk0_at m c t r d) (blk1_at m c t l d)

/-- The array of results is the reference's. -/
theorem final_out : (dats m 0 c).arrAt 3 cfg0.N = Cert.AttnFwdRefIdeal.Read.val_main_v23 (F := Ideal) (Q m c) (K m c) (W m c) := by
  refine (dats m 0 c).arrAt_eq_of_covers 3 _ (by decide +kernel) fun t hf y => ?_
  have he : (((cfg0.win 3).blk t).view.emb y : S4096x4096.Idx) = ix2 (row t (y 0)) (col (head t) (y 1)) := by
    blk_ext [idx_val t] <;> rfl
  refine Eq.trans ?_ (congrArg (Cert.AttnFwdRefIdeal.Read.val_main_v23 (F := Ideal) (Q m c) (K m c) (W m c)) he).symm
  refine Eq.trans ?_ (v23_at ..).symm
  blk_simp
  rw [after0_3]
  unfold out0_3
  frame_out
  refine (pay_at ..).trans ?_
  have eh : hd (col (head t) (y 1)) = head t := Fin.ext (show ((t.val % 4) * 1024 + (y 1).val) / 1024 = t.val % 4 by
    have h1 : (y 1).val < 1024 := (y 1).isLt
    omega)
  show _ = ∑ l : Fin 256, prob (lg (Q m c) (K m c) (hd (col (head t) (y 1))) (row t (y 0))) l * W m c (ix2 l (col (head t) (y 1)))
  rw [eh]
  refine Finset.sum_congr rfl fun l _ => ?_
  rw [lg_at m c t (y 0)]
  exact congrArg (fun z : EReal => _ * z) (blk2_at m c t l (y 1))

/-- The call's result is the reference's. -/
theorem claim : Cert.algebraic_AttnFwdIdeal_AttnFwdRefIdeal (hAttnFwdIdeal := Cert.AttnFwdIdeal.Gen.facts)
    (hAttnFwdRefIdeal := Cert.AttnFwdRefIdeal.Gen.facts) := by
  intro m g m' g' hpre hargs
  refine ⟨fun c => (dats m 0 c).arrAt 3 cfg0.N, run_blocks m g,
    (θ_run Cert.AttnFwdRefIdeal.defs _ _).mono (fun r h c => ?_) (Cert.AttnFwdRefIdeal.Value.run m' g')⟩
  obtain ⟨h1, hr⟩ := h c
  obtain ⟨a0, a1, a2⟩ := hargs c
  refine ⟨h1.trans ((Cert.AttnFwdRefIdeal.Read.val_main_v23_eq _ _ _).trans ?_), hr⟩
  rw [a0, a1, a2]
  exact (final_out m c).symm

end Cert.AttnFwdAlg
-- ==== Proof.DwInSibOk.lean ====
module

public import proofs.«01_k».proof.Proof.Gen.DwInSib.Frame
public import proofs.«01_k».proof.Proof.Gen.DwInSibIdeal.Frame
public import proofs.«01_k».proof.Proof.Gen.Pre_core_dw_in_sib
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwInSibOk

open Idealize.ShloMosaic Idealize.ShloMosaic.TcCoe Idealize.SL.Sem

/-- A word for which one of the two comparisons holds is 0 or 1. -/
theorem word_cases (w : BitVec 32) (h : IntOp.ori (IntOp.cmpi .eq w 0#32) (IntOp.cmpi .eq w 1#32) = 1#1) :
    w = 0#32 ∨ w = 1#32 := by
  by_cases h0 : w = 0#32
  · exact .inl h0
  · by_cases h1 : w = 1#32
    · exact .inr h1
    · rw [IntOp.cmpi, IntOp.cmpi, show (w == 0#32) = false from beq_false_of_ne h0,
        show (w == 1#32) = false from beq_false_of_ne h1] at h
      exact absurd h (by decide)

end Cert.DwInSibOk

namespace Cert.DwInSib.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_in_sib.Facts] (m : (ℓ : Loc nD τ sig) → Buf (Elt Bits) ℓ) (h : Cert.Pre_DwInSib m) :
    tbl m = tblOf 0#32 ∨ tbl m = tblOf 1#32 := by
  have hw := congrFun (h 0) (ix1 (0 : Fin 1))
  revert hw
  pointwise [Cert.Pre_core_dw_in_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_in_sib.Facts] (m : (ℓ : Loc nD τ sig) → Buf (Elt Bits) ℓ) (h : Cert.Pre_DwInSib m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwInSib.Gen

namespace Cert.DwInSibIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_in_sib.Facts] (m : (ℓ : Loc nD τ sig) → Buf (Elt Ideal) ℓ) (h : Cert.Pre_DwInSibIdeal m) :
    tbl m = tblOf 0#32 ∨ tbl m = tblOf 1#32 := by
  have hw := congrFun (h 0) (ix1 (0 : Fin 1))
  revert hw
  pointwise [Cert.Pre_core_dw_in_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_in_sib.Facts] (m : (ℓ : Loc nD τ sig) → Buf (Elt Ideal) ℓ) (h : Cert.Pre_DwInSibIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwInSibIdeal.Gen
-- ==== Proof.DwDownOwnOk.lean ====
module

public import proofs.«01_k».proof.Proof.Gen.DwDownOwn.Frame
public import proofs.«01_k».proof.Proof.Gen.DwDownOwnIdeal.Frame
public import proofs.«01_k».proof.Proof.Gen.Pre_core_dw_down_own
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwDownOwn.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_down_own.Facts] (m : (ℓ : Loc nD τ sig) → Buf (Elt Bits) ℓ) (h : Cert.Pre_DwDownOwn m) :
    tbl m = tblOf 0#32 ∨ tbl m = tblOf 1#32 := by
  have hw := congrFun (h 0) (ix1 (0 : Fin 1))
  revert hw
  pointwise [Cert.Pre_core_dw_down_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_down_own.Facts] (m : (ℓ : Loc nD τ sig) → Buf (Elt Bits) ℓ) (h : Cert.Pre_DwDownOwn m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwDownOwn.Gen

namespace Cert.DwDownOwnIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_down_own.Facts] (m : (ℓ : Loc nD τ sig) → Buf (Elt Ideal) ℓ) (h : Cert.Pre_DwDownOwnIdeal m) :
    tbl m = tblOf 0#32 ∨ tbl m = tblOf 1#32 := by
  have hw := congrFun (h 0) (ix1 (0 : Fin 1))
  revert hw
  pointwise [Cert.Pre_core_dw_down_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_down_own.Facts] (m : (ℓ : Loc nD τ sig) → Buf (Elt Ideal) ℓ) (h : Cert.Pre_DwDownOwnIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwDownOwnIdeal.Gen
-- ==== Proof.DwDownOwnAlg.lean ====
module

public import proofs.«01_k».proof.Proof.DwDownOwnOk
public import proofs.«01_k».proof.Proof.Gen.DwDownOwnRefIdeal.Read
public import proofs.«01_k».proof.Proof.Gen.DwDownOwnRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwDownOwnAlg

open Cert.DwDownOwnIdeal Cert.DwDownOwnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows, added to what was there. -/
theorem pay_at (x0 : Vec Ideal S4096x1024 .bf16) (x1 : Vec Ideal S4096x1024 .bf16) (x3 : Vec Ideal S1024x1024 .f32) (j : S1024x1024.Idx) :
    k0_pay1 x0 x1 x3 j = x3 j + ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2]
    ∧ cc0_transform_2 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 3).Covers := by
  rcases e with rfl | rfl
  · exact (by decide +kernel : ((cfg0 (F := Ideal) ⟨tblOf 0#32, by decide +kernel⟩).win 3).Covers)
  · exact (by decide +kernel : ((cfg0 (F := Ideal) ⟨tblOf 1#32, by decide +kernel⟩).win 3).Covers)

/-- The first operand. -/
def A : FVec Ideal S4096x11264 .bf16 := m ((c : Thread nD τ).loc main_arg0)
/-- The second operand. -/
def B : FVec Ideal S4096x4096 .bf16 := m ((c : Thread nD τ).loc main_arg1)
/-- The array the product is added to. -/
def Add : FVec Ideal S11264x2048 .f32 := m ((c : Thread nD τ).loc main_arg3)

/-- Where an index of the result's block lies in the result. -/
theorem emb_out (hO : Ok m) (t : Fin grid0.N) (y : S1024x1024.Idx) (a : Fin 2) :
    (((((cfgM m hO).win 3).blk t).view.emb y : S11264x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x11264.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- A block of the array the product is added to. -/
theorem blk2_at (hO : Ok m) (t : Fin grid0.N) (i : S1024x1024.Idx) (j : S11264x2048.Idx)
    (h : ∀ a, (j a).val = cc0_transform_2 (grid0.coords t) a * S1024x1024.size a + (i a).val) :
    (iblk m hO c 2 t : FVec Ideal S1024x1024 .f32) i = Add m c j :=
  congrArg (Add m c) (funext fun a => Fin.ext ((ValueKit.view_emb_slice_whole_unit_val main_arg3 _ _ _ i a).trans (h a).symm))

/-- A function of three values, at equal ones. -/
theorem congr_three {α β γ δ : Sort _} (f : α → β → γ → δ) {a a' : α} {b b' : β} {d d' : γ} (h : a = a') (h' : b = b') (h'' : d = d') :
    f a b d = f a' b' d' := h ▸ h' ▸ h'' ▸ rfl

/-- What a grid point leaves in the result's block. -/
theorem out_at (hO : Ok m) (t : Fin (cfgM m hO).N) (y : S1024x1024.Idx) :
    outsAt0 m hO c t y = k0_pay1 (iblk m hO c 0 t) (iblk m hO c 1 t) (iblk m hO c 2 t) y := by
  unfold outsAt0
  frame_out
  exact congr_three (fun a b d => k0_pay1 a b d y) ((hs0_0 m hO t).read_unread (iblk m hO c 0 t))
    ((hs0_1 m hO t).read_unread (iblk m hO c 1 t)) ((hs0_2 m hO t).read_unread (iblk m hO c 2 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S11264x2048 .bf16)
    (hG : ∀ (i : S11264x2048.Idx) (h : o * 1024 + (i 1).val < 4096),
      G i = Add m c i + ∑ k : Fin 4096, A m c (ix2 k (i 0)) * B m c (ix2 k ⟨o * 1024 + (i 1).val, h⟩)) :
    (dats m hO 0 c).arrAt 3 (cfgM m hO).N = G := by
  refine (dats m hO 0 c).arrAt_eq_of_covers 3 _ (covers_of _ hO e) fun t hf y => ?_
  let y' : S1024x1024.Idx := y
  obtain ⟨i1, i2, i3⟩ := idx_val t
  have e0 := emb_out m hO t y 0
  have e1 := emb_out m hO t y 1
  let z : S11264x2048.Idx := (((cfgM m hO).win 3).blk t).view.emb y
  rw [i2] at e0 e1
  have hb : o * 1024 + (z 1).val < 4096 := by
    have h2 : (z 1).val < 2048 := (z 1).isLt
    omega
  refine Eq.trans ?_ (hG z hb).symm
  show (dats m hO 0 c).after 3 t y = _
  rw [after0_3]
  refine (out_at m c hO t y).trans ((pay_at ..).trans (congrArg₂ (fun a b : EReal => a + b) ?_ (Finset.sum_congr rfl fun k _ => congrArg₂ (fun a b : EReal => a * b) ?_ ?_)))
  · refine blk2_at m c hO t _ _ fun a => ?_
    rw [i3]
    match a with
    | ⟨0, _⟩ => exact e0
    | ⟨1, _⟩ => exact e1
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x11264 .bf16) (x1 : FVec Ideal S4096x4096 .bf16) (i : Cert.DwDownOwnRefIdeal.S11264x4096.Idx) :
    Cert.DwDownOwnRefIdeal.Read.val_main_v5 (F := Ideal) x0 x1 i = ∑ k : Fin 4096, x0 (ix2 k (i 0)) * x1 (ix2 k (i 1)) := by
  rw [Cert.DwDownOwnRefIdeal.Read.val_main_v5_apply, Cert.DwDownOwnRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x11264 .bf16) (x1 : FVec Ideal S4096x4096 .bf16) (x2 : IVec S1 32) (x3 : FVec Ideal S11264x2048 .f32)
    (h : x2 = fun _ => 0#32) (i : S11264x2048.Idx) (h : 0 * 1024 + (i 1).val < 4096) :
    Cert.DwDownOwnRefIdeal.Read.val_main_v12 (F := Ideal) x0 x1 x2 x3 i
      = x3 i + ∑ k : Fin 4096, x0 (ix2 k (i 0)) * x1 (ix2 k ⟨0 * 1024 + (i 1).val, h⟩) := by
  subst x2
  refine (show _ = x3 i + Cert.DwDownOwnRefIdeal.Read.val_main_v8 (F := Ideal) x0 x1 i from rfl).trans ?_
  rw [Cert.DwDownOwnRefIdeal.Read.val_main_v8_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega))))

/-- The reference's half, for the second half. -/
theorem half_one (x0 : FVec Ideal S4096x11264 .bf16) (x1 : FVec Ideal S4096x4096 .bf16) (x2 : IVec S1 32) (x3 : FVec Ideal S11264x2048 .f32)
    (h : x2 = fun _ => 1#32) (i : S11264x2048.Idx) (h : 2 * 1024 + (i 1).val < 4096) :
    Cert.DwDownOwnRefIdeal.Read.val_main_v12 (F := Ideal) x0 x1 x2 x3 i
      = x3 i + ∑ k : Fin 4096, x0 (ix2 k (i 0)) * x1 (ix2 k ⟨2 * 1024 + (i 1).val, h⟩) := by
  subst x2
  refine (show _ = x3 i + Cert.DwDownOwnRefIdeal.Read.val_main_v9 (F := Ideal) x0 x1 i from rfl).trans ?_
  rw [Cert.DwDownOwnRefIdeal.Read.val_main_v9_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega))))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 3 (cfgM m hO).N = Cert.DwDownOwnRefIdeal.Read.val_main_v12 (F := Ideal)
      (m ((c : Thread nD τ).loc main_arg0)) (m ((c : Thread nD τ).loc main_arg1)) (m ((c : Thread nD τ).loc main_arg2)) (m ((c : Thread nD τ).loc main_arg3)) := by
  rcases e with e | e
  · exact final_of m c hO (.inl e) 0 (by omega) (fun t => by rw [e]; exact idx_zero t) _ fun i h =>
      half_zero _ _ _ _ (arg2_of m _ e c) i h
  · exact final_of m c hO (.inr e) 2 (by omega) (fun t => by rw [e]; exact idx_one t) _ fun i h =>
      half_one _ _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's half is the reference's. -/
theorem claim [Cert.Pre_core_dw_down_own.Facts] : Cert.algebraic_DwDownOwnIdeal_DwDownOwnRefIdeal (hDwDownOwnIdeal := Cert.DwDownOwnIdeal.Gen.facts)
    (hDwDownOwnRefIdeal := Cert.DwDownOwnRefIdeal.Gen.facts) := by
  intro m g m' g' hpre hargs
  have hO := ok_of_pre m hpre
  refine ⟨fun c => (dats m hO 0 c).arrAt 3 (cfgM m hO).N, run_named m g hO,
    (θ_run Cert.DwDownOwnRefIdeal.defs _ _).mono (fun r h c => ?_) (Cert.DwDownOwnRefIdeal.Value.run m' g')⟩
  obtain ⟨h1, h2⟩ := h c
  obtain ⟨a0, a1, a2, a3⟩ := hargs c
  refine ⟨h1.trans ((Cert.DwDownOwnRefIdeal.Read.val_main_v12_eq _ _ _ _).trans ?_), h2⟩
  rw [a0, a1, a2, a3]
  exact (final m c hO (tbl_cases m hpre)).symm

end Cert.DwDownOwnAlg
-- ==== Proof.DwDownSibOk.lean ====
module

public import proofs.«01_k».proof.Proof.Gen.DwDownSib.Frame
public import proofs.«01_k».proof.Proof.Gen.DwDownSibIdeal.Frame
public import proofs.«01_k».proof.Proof.Gen.Pre_core_dw_down_sib
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwDownSib.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_down_sib.Facts] (m : (ℓ : Loc nD τ sig) → Buf (Elt Bits) ℓ) (h : Cert.Pre_DwDownSib m) :
    tbl m = tblOf 0#32 ∨ tbl m = tblOf 1#32 := by
  have hw := congrFun (h 0) (ix1 (0 : Fin 1))
  revert hw
  pointwise [Cert.Pre_core_dw_down_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_down_sib.Facts] (m : (ℓ : Loc nD τ sig) → Buf (Elt Bits) ℓ) (h : Cert.Pre_DwDownSib m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwDownSib.Gen

namespace Cert.DwDownSibIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_down_sib.Facts] (m : (ℓ : Loc nD τ sig) → Buf (Elt Ideal) ℓ) (h : Cert.Pre_DwDownSibIdeal m) :
    tbl m = tblOf 0#32 ∨ tbl m = tblOf 1#32 := by
  have hw := congrFun (h 0) (ix1 (0 : Fin 1))
  revert hw
  pointwise [Cert.Pre_core_dw_down_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_down_sib.Facts] (m : (ℓ : Loc nD τ sig) → Buf (Elt Ideal) ℓ) (h : Cert.Pre_DwDownSibIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwDownSibIdeal.Gen
-- ==== Proof.DwDownSibAlg.lean ====
module

public import proofs.«01_k».proof.Proof.DwDownSibOk
public import proofs.«01_k».proof.Proof.Gen.DwDownSibRefIdeal.Read
public import proofs.«01_k».proof.Proof.Gen.DwDownSibRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwDownSibAlg

open Cert.DwDownSibIdeal Cert.DwDownSibIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows. -/
theorem pay_at (x0 : Vec Ideal S4096x1024 .bf16) (x1 : Vec Ideal S4096x1024 .bf16) (j : S1024x1024.Idx) :
    k0_pay1 x0 x1 j = ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 2).Covers := by
  rcases e with rfl | rfl
  · exact (by decide +kernel : ((cfg0 (F := Ideal) ⟨tblOf 0#32, by decide +kernel⟩).win 2).Covers)
  · exact (by decide +kernel : ((cfg0 (F := Ideal) ⟨tblOf 1#32, by decide +kernel⟩).win 2).Covers)

/-- The first operand. -/
def A : FVec Ideal S4096x11264 .bf16 := m ((c : Thread nD τ).loc main_arg0)
/-- The second operand. -/
def B : FVec Ideal S4096x4096 .bf16 := m ((c : Thread nD τ).loc main_arg1)

/-- Where an index of the result's block lies in the result. -/
theorem emb_out (hO : Ok m) (t : Fin grid0.N) (y : S1024x1024.Idx) (a : Fin 2) :
    (((((cfgM m hO).win 2).blk t).view.emb y : S11264x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x11264.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- What a grid point leaves in the result's block. -/
theorem out_at (hO : Ok m) (t : Fin (cfgM m hO).N) (y : S1024x1024.Idx) :
    outsAt0 m hO c t y = k0_pay1 (iblk m hO c 0 t) (iblk m hO c 1 t) y := by
  unfold outsAt0
  frame_out
  exact congrArg₂ (fun a b => k0_pay1 a b y) ((hs0_0 m hO t).read_unread (iblk m hO c 0 t)) ((hs0_1 m hO t).read_unread (iblk m hO c 1 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S11264x2048 .f32)
    (hG : ∀ (i : S11264x2048.Idx) (h : o * 1024 + (i 1).val < 4096),
      G i = ∑ k : Fin 4096, A m c (ix2 k (i 0)) * B m c (ix2 k ⟨o * 1024 + (i 1).val, h⟩)) :
    (dats m hO 0 c).arrAt 2 (cfgM m hO).N = G := by
  refine (dats m hO 0 c).arrAt_eq_of_covers 2 _ (covers_of _ hO e) fun t hf y => ?_
  let y' : S1024x1024.Idx := y
  obtain ⟨i1, i2⟩ := idx_val t
  have e0 := emb_out m hO t y 0
  have e1 := emb_out m hO t y 1
  let z : S11264x2048.Idx := (((cfgM m hO).win 2).blk t).view.emb y
  rw [i2] at e0 e1
  have hb : o * 1024 + (z 1).val < 4096 := by
    have h2 : (z 1).val < 2048 := (z 1).isLt
    omega
  refine Eq.trans ?_ (hG z hb).symm
  show (dats m hO 0 c).after 2 t y = _
  rw [after0_2]
  refine (out_at m c hO t y).trans ((pay_at ..).trans (Finset.sum_congr rfl fun k _ => congrArg₂ (fun a b : EReal => a * b) ?_ ?_))
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x11264 .bf16) (x1 : FVec Ideal S4096x4096 .bf16) (i : Cert.DwDownSibRefIdeal.S11264x4096.Idx) :
    Cert.DwDownSibRefIdeal.Read.val_main_v5 (F := Ideal) x0 x1 i = ∑ k : Fin 4096, x0 (ix2 k (i 0)) * x1 (ix2 k (i 1)) := by
  rw [Cert.DwDownSibRefIdeal.Read.val_main_v5_apply, Cert.DwDownSibRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x11264 .bf16) (x1 : FVec Ideal S4096x4096 .bf16) (x2 : IVec S1 32)
    (h : x2 = fun _ => 0#32) (i : S11264x2048.Idx) (h : 0 * 1024 + (i 1).val < 4096) :
    Cert.DwDownSibRefIdeal.Read.val_main_v10 (F := Ideal) x0 x1 x2 i
      = ∑ k : Fin 4096, x0 (ix2 k (i 0)) * x1 (ix2 k ⟨0 * 1024 + (i 1).val, h⟩) := by
  subst x2
  refine (show _ = Cert.DwDownSibRefIdeal.Read.val_main_v8 (F := Ideal) x0 x1 i from rfl).trans ?_
  rw [Cert.DwDownSibRefIdeal.Read.val_main_v8_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega)))

/-- The reference's half, for the second half. -/
theorem half_one (x0 : FVec Ideal S4096x11264 .bf16) (x1 : FVec Ideal S4096x4096 .bf16) (x2 : IVec S1 32)
    (h : x2 = fun _ => 1#32) (i : S11264x2048.Idx) (h : 2 * 1024 + (i 1).val < 4096) :
    Cert.DwDownSibRefIdeal.Read.val_main_v10 (F := Ideal) x0 x1 x2 i
      = ∑ k : Fin 4096, x0 (ix2 k (i 0)) * x1 (ix2 k ⟨2 * 1024 + (i 1).val, h⟩) := by
  subst x2
  refine (show _ = Cert.DwDownSibRefIdeal.Read.val_main_v9 (F := Ideal) x0 x1 i from rfl).trans ?_
  rw [Cert.DwDownSibRefIdeal.Read.val_main_v9_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega)))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 2 (cfgM m hO).N = Cert.DwDownSibRefIdeal.Read.val_main_v10 (F := Ideal)
      (m ((c : Thread nD τ).loc main_arg0)) (m ((c : Thread nD τ).loc main_arg1)) (m ((c : Thread nD τ).loc main_arg2)) := by
  rcases e with e | e
  · exact final_of m c hO (.inl e) 0 (by omega) (fun t => by rw [e]; exact idx_zero t) _ fun i h =>
      half_zero _ _ _ (arg2_of m _ e c) i h
  · exact final_of m c hO (.inr e) 2 (by omega) (fun t => by rw [e]; exact idx_one t) _ fun i h =>
      half_one _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

/-- The kernel's half is the reference's. -/
theorem claim [Cert.Pre_core_dw_down_sib.Facts] : Cert.algebraic_DwDownSibIdeal_DwDownSibRefIdeal (hDwDownSibIdeal := Cert.DwDownSibIdeal.Gen.facts)
    (hDwDownSibRefIdeal := Cert.DwDownSibRefIdeal.Gen.facts) := by
  intro m g m' g' hpre hargs
  have hO := ok_of_pre m hpre
  refine ⟨fun c => (dats m hO 0 c).arrAt 2 (cfgM m hO).N, run_named m g hO,
    (θ_run Cert.DwDownSibRefIdeal.defs _ _).mono (fun r h c => ?_) (Cert.DwDownSibRefIdeal.Value.run m' g')⟩
  obtain ⟨h1, h2⟩ := h c
  obtain ⟨a0, a1, a2, a3⟩ := hargs c
  refine ⟨h1.trans ((Cert.DwDownSibRefIdeal.Read.val_main_v10_eq _ _ _).trans ?_), h2⟩
  rw [a0, a1, a2]
  exact (final m c hO (tbl_cases m hpre)).symm

end Cert.DwDownSibAlg
-- ==== Proof.DwGateOwnOk.lean ====
module

public import proofs.«01_k».proof.Proof.Gen.DwGateOwn.Frame
public import proofs.«01_k».proof.Proof.Gen.DwGateOwnIdeal.Frame
public import proofs.«01_k».proof.Proof.Gen.Pre_core_dw_gate_own
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwGateOwn.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_gate_own.Facts] (m : (ℓ : Loc nD τ sig) → Buf (Elt Bits) ℓ) (h : Cert.Pre_DwGateOwn m) :
    tbl m = tblOf 0#32 ∨ tbl m = tblOf 1#32 := by
  have hw := congrFun (h 0) (ix1 (0 : Fin 1))
  revert hw
  pointwise [Cert.Pre_core_dw_gate_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_gate_own.Facts] (m : (ℓ : Loc nD τ sig) → Buf (Elt Bits) ℓ) (h : Cert.Pre_DwGateOwn m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwGateOwn.Gen

namespace Cert.DwGateOwnIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_gate_own.Facts] (m : (ℓ : Loc nD τ sig) → Buf (Elt Ideal) ℓ) (h : Cert.Pre_DwGateOwnIdeal m) :
    tbl m = tblOf 0#32 ∨ tbl m = tblOf 1#32 := by
  have hw := congrFun (h 0) (ix1 (0 : Fin 1))
  revert hw
  pointwise [Cert.Pre_core_dw_gate_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_gate_own.Facts] (m : (ℓ : Loc nD τ sig) → Buf (Elt Ideal) ℓ) (h : Cert.Pre_DwGateOwnIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwGateOwnIdeal.Gen
-- ==== Proof.DwGateOwnAlg.lean ====
module

public import proofs.«01_k».proof.Proof.DwGateOwnOk
public import proofs.«01_k».proof.Proof.Gen.DwGateOwnRefIdeal.Read
public import proofs.«01_k».proof.Proof.Gen.DwGateOwnRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwGateOwnAlg

open Cert.DwGateOwnIdeal Cert.DwGateOwnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows, added to what was there. -/
theorem pay_at (x0 : Vec Ideal S4096x1024 .bf16) (x1 : Vec Ideal S4096x1024 .bf16) (x3 : Vec Ideal S1024x1024 .f32) (j : S1024x1024.Idx) :
    k0_pay1 x0 x1 x3 j = x3 j + ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2]
    ∧ cc0_transform_2 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 3).Covers := by
  rcases e with rfl | rfl
  · exact (by decide +kernel : ((cfg0 (F := Ideal) ⟨tblOf 0#32, by decide +kernel⟩).win 3).Covers)
  · exact (by decide +kernel : ((cfg0 (F := Ideal) ⟨tblOf 1#32, by decide +kernel⟩).win 3).Covers)

/-- The first operand. -/
def A : FVec Ideal S4096x11264 .bf16 := m ((c : Thread nD τ).loc main_arg0)
/-- The second operand. -/
def B : FVec Ideal S4096x4096 .bf16 := m ((c : Thread nD τ).loc main_arg1)
/-- The array the product is added to. -/
def Add : FVec Ideal S11264x2048 .f32 := m ((c : Thread nD τ).loc main_arg3)

/-- Where an index of the result's block lies in the result. -/
theorem emb_out (hO : Ok m) (t : Fin grid0.N) (y : S1024x1024.Idx) (a : Fin 2) :
    (((((cfgM m hO).win 3).blk t).view.emb y : S11264x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x11264.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- A block of the array the product is added to. -/
theorem blk2_at (hO : Ok m) (t : Fin grid0.N) (i : S1024x1024.Idx) (j : S11264x2048.Idx)
    (h : ∀ a, (j a).val = cc0_transform_2 (grid0.coords t) a * S1024x1024.size a + (i a).val) :
    (iblk m hO c 2 t : FVec Ideal S1024x1024 .f32) i = Add m c j :=
  congrArg (Add m c) (funext fun a => Fin.ext ((ValueKit.view_emb_slice_whole_unit_val main_arg3 _ _ _ i a).trans (h a).symm))

/-- A function of three values, at equal ones. -/
theorem congr_three {α β γ δ : Sort _} (f : α → β → γ → δ) {a a' : α} {b b' : β} {d d' : γ} (h : a = a') (h' : b = b') (h'' : d = d') :
    f a b d = f a' b' d' := h ▸ h' ▸ h'' ▸ rfl

/-- What a grid point leaves in the result's block. -/
theorem out_at (hO : Ok m) (t : Fin (cfgM m hO).N) (y : S1024x1024.Idx) :
    outsAt0 m hO c t y = k0_pay1 (iblk m hO c 0 t) (iblk m hO c 1 t) (iblk m hO c 2 t) y := by
  unfold outsAt0
  frame_out
  exact congr_three (fun a b d => k0_pay1 a b d y) ((hs0_0 m hO t).read_unread (iblk m hO c 0 t))
    ((hs0_1 m hO t).read_unread (iblk m hO c 1 t)) ((hs0_2 m hO t).read_unread (iblk m hO c 2 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S11264x2048 .bf16)
    (hG : ∀ (i : S11264x2048.Idx) (h : o * 1024 + (i 1).val < 4096),
      G i = Add m c i + ∑ k : Fin 4096, A m c (ix2 k (i 0)) * B m c (ix2 k ⟨o * 1024 + (i 1).val, h⟩)) :
    (dats m hO 0 c).arrAt 3 (cfgM m hO).N = G := by
  refine (dats m hO 0 c).arrAt_eq_of_covers 3 _ (covers_of _ hO e) fun t hf y => ?_
  let y' : S1024x1024.Idx := y
  obtain ⟨i1, i2, i3⟩ := idx_val t
  have e0 := emb_out m hO t y 0
  have e1 := emb_out m hO t y 1
  let z : S11264x2048.Idx := (((cfgM m hO).win 3).blk t).view.emb y
  rw [i2] at e0 e1
  have hb : o * 1024 + (z 1).val < 4096 := by
    have h2 : (z 1).val < 2048 := (z 1).isLt
    omega
  refine Eq.trans ?_ (hG z hb).symm
  show (dats m hO 0 c).after 3 t y = _
  rw [after0_3]
  refine (out_at m c hO t y).trans ((pay_at ..).trans (congrArg₂ (fun a b : EReal => a + b) ?_ (Finset.sum_congr rfl fun k _ => congrArg₂ (fun a b : EReal => a * b) ?_ ?_)))
  · refine blk2_at m c hO t _ _ fun a => ?_
    rw [i3]
    match a with
    | ⟨0, _⟩ => exact e0
    | ⟨1, _⟩ => exact e1
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x11264 .bf16) (x1 : FVec Ideal S4096x4096 .bf16) (i : Cert.DwGateOwnRefIdeal.S11264x4096.Idx) :
    Cert.DwGateOwnRefIdeal.Read.val_main_v7 (F := Ideal) x0 x1 i = ∑ k : Fin 4096, x0 (ix2 k (i 0)) * x1 (ix2 k (i 1)) := by
  rw [Cert.DwGateOwnRefIdeal.Read.val_main_v7_apply, Cert.DwGateOwnRefIdeal.Read.val_main_v6_apply, Cert.DwGateOwnRefIdeal.Read.val_main_v5_apply]
  exact Finset.sum_congr rfl fun k _ => (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x11264 .bf16) (x1 : FVec Ideal S4096x4096 .bf16) (x2 : IVec S1 32) (x3 : FVec Ideal S11264x2048 .f32)
    (h : x2 = fun _ => 0#32) (i : S11264x2048.Idx) (h : 0 * 1024 + (i 1).val < 4096) :
    Cert.DwGateOwnRefIdeal.Read.val_main_v14 (F := Ideal) x0 x1 x2 x3 i
      = x3 i + ∑ k : Fin 4096, x0 (ix2 k (i 0)) * x1 (ix2 k ⟨0 * 1024 + (i 1).val, h⟩) := by
  subst x2
  refine (show _ = x3 i + Cert.DwGateOwnRefIdeal.Read.val_main_v10 (F := Ideal) x0 x1 i from rfl).trans ?_
  rw [Cert.DwGateOwnRefIdeal.Read.val_main_v10_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega))))

/-- The reference's half, for the second half. -/
theorem half_one (x0 : FVec Ideal S4096x11264 .bf16) (x1 : FVec Ideal S4096x4096 .bf16) (x2 : IVec S1 32) (x3 : FVec Ideal S11264x2048 .f32)
    (h : x2 = fun _ => 1#32) (i : S11264x2048.Idx) (h : 2 * 1024 + (i 1).val < 4096) :
    Cert.DwGateOwnRefIdeal.Read.val_main_v14 (F := Ideal) x0 x1 x2 x3 i
      = x3 i + ∑ k : Fin 4096, x0 (ix2 k (i 0)) * x1 (ix2 k ⟨2 * 1024 + (i 1).val, h⟩) := by
  subst x2
  refine (show _ = x3 i + Cert.DwGateOwnRefIdeal.Read.val_main_v11 (F := Ideal) x0 x1 i from rfl).trans ?_
  rw [Cert.DwGateOwnRefIdeal.Read.val_main_v11_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega))))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 3 (cfgM m hO).N = Cert.DwGateOwnRefIdeal.Read.val_main_v14 (F := Ideal)
      (m ((c : Thread nD τ).loc main_arg0)) (m ((c : Thread nD τ).loc main_arg1)) (m ((c : Thread nD τ).loc main_arg2)) (m ((c : Thread nD τ).loc main_arg3)) := by
  rcases e with e | e
  · exact final_of m c hO (.inl e) 0 (by omega) (fun t => by rw [e]; exact idx_zero t) _ fun i h =>
      half_zero _ _ _ _ (arg2_of m _ e c) i h
  · exact final_of m c hO (.inr e) 2 (by omega) (fun t => by rw [e]; exact idx_one t) _ fun i h =>
      half_one _ _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's half is the reference's. -/
theorem claim [Cert.Pre_core_dw_gate_own.Facts] : Cert.algebraic_DwGateOwnIdeal_DwGateOwnRefIdeal (hDwGateOwnIdeal := Cert.DwGateOwnIdeal.Gen.facts)
    (hDwGateOwnRefIdeal := Cert.DwGateOwnRefIdeal.Gen.facts) := by
  intro m g m' g' hpre hargs
  have hO := ok_of_pre m hpre
  refine ⟨fun c => (dats m hO 0 c).arrAt 3 (cfgM m hO).N, run_named m g hO,
    (θ_run Cert.DwGateOwnRefIdeal.defs _ _).mono (fun r h c => ?_) (Cert.DwGateOwnRefIdeal.Value.run m' g')⟩
  obtain ⟨h1, h2⟩ := h c
  obtain ⟨a0, a1, a2, a3⟩ := hargs c
  refine ⟨h1.trans ((Cert.DwGateOwnRefIdeal.Read.val_main_v14_eq _ _ _ _).trans ?_), h2⟩
  rw [a0, a1, a2, a3]
  exact (final m c hO (tbl_cases m hpre)).symm

end Cert.DwGateOwnAlg
-- ==== Proof.DwGateSibOk.lean ====
module

public import proofs.«01_k».proof.Proof.Gen.DwGateSib.Frame
public import proofs.«01_k».proof.Proof.Gen.DwGateSibIdeal.Frame
public import proofs.«01_k».proof.Proof.Gen.Pre_core_dw_gate_sib
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwGateSib.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_gate_sib.Facts] (m : (ℓ : Loc nD τ sig) → Buf (Elt Bits) ℓ) (h : Cert.Pre_DwGateSib m) :
    tbl m = tblOf 0#32 ∨ tbl m = tblOf 1#32 := by
  have hw := congrFun (h 0) (ix1 (0 : Fin 1))
  revert hw
  pointwise [Cert.Pre_core_dw_gate_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_gate_sib.Facts] (m : (ℓ : Loc nD τ sig) → Buf (Elt Bits) ℓ) (h : Cert.Pre_DwGateSib m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwGateSib.Gen

namespace Cert.DwGateSibIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_gate_sib.Facts] (m : (ℓ : Loc nD τ sig) → Buf (Elt Ideal) ℓ) (h : Cert.Pre_DwGateSibIdeal m) :
    tbl m = tblOf 0#32 ∨ tbl m = tblOf 1#32 := by
  have hw := congrFun (h 0) (ix1 (0 : Fin 1))
  revert hw
  pointwise [Cert.Pre_core_dw_gate_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_gate_sib.Facts] (m : (ℓ : Loc nD τ sig) → Buf (Elt Ideal) ℓ) (h : Cert.Pre_DwGateSibIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwGateSibIdeal.Gen
-- ==== Proof.DwGateSibAlg.lean ====
module

public import proofs.«01_k».proof.Proof.DwGateSibOk
public import proofs.«01_k».proof.Proof.Gen.DwGateSibRefIdeal.Read
public import proofs.«01_k».proof.Proof.Gen.DwGateSibRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwGateSibAlg

open Cert.DwGateSibIdeal Cert.DwGateSibIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows. -/
theorem pay_at (x0 : Vec Ideal S4096x1024 .bf16) (x1 : Vec Ideal S4096x1024 .bf16) (j : S1024x1024.Idx) :
    k0_pay1 x0 x1 j = ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 2).Covers := by
  rcases e with rfl | rfl
  · exact (by decide +kernel : ((cfg0 (F := Ideal) ⟨tblOf 0#32, by decide +kernel⟩).win 2).Covers)
  · exact (by decide +kernel : ((cfg0 (F := Ideal) ⟨tblOf 1#32, by decide +kernel⟩).win 2).Covers)

/-- The first operand. -/
def A : FVec Ideal S4096x11264 .bf16 := m ((c : Thread nD τ).loc main_arg0)
/-- The second operand. -/
def B : FVec Ideal S4096x4096 .bf16 := m ((c : Thread nD τ).loc main_arg1)

/-- Where an index of the result's block lies in the result. -/
theorem emb_out (hO : Ok m) (t : Fin grid0.N) (y : S1024x1024.Idx) (a : Fin 2) :
    (((((cfgM m hO).win 2).blk t).view.emb y : S11264x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x11264.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- What a grid point leaves in the result's block. -/
theorem out_at (hO : Ok m) (t : Fin (cfgM m hO).N) (y : S1024x1024.Idx) :
    outsAt0 m hO c t y = k0_pay1 (iblk m hO c 0 t) (iblk m hO c 1 t) y := by
  unfold outsAt0
  frame_out
  exact congrArg₂ (fun a b => k0_pay1 a b y) ((hs0_0 m hO t).read_unread (iblk m hO c 0 t)) ((hs0_1 m hO t).read_unread (iblk m hO c 1 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S11264x2048 .f32)
    (hG : ∀ (i : S11264x2048.Idx) (h : o * 1024 + (i 1).val < 4096),
      G i = ∑ k : Fin 4096, A m c (ix2 k (i 0)) * B m c (ix2 k ⟨o * 1024 + (i 1).val, h⟩)) :
    (dats m hO 0 c).arrAt 2 (cfgM m hO).N = G := by
  refine (dats m hO 0 c).arrAt_eq_of_covers 2 _ (covers_of _ hO e) fun t hf y => ?_
  let y' : S1024x1024.Idx := y
  obtain ⟨i1, i2⟩ := idx_val t
  have e0 := emb_out m hO t y 0
  have e1 := emb_out m hO t y 1
  let z : S11264x2048.Idx := (((cfgM m hO).win 2).blk t).view.emb y
  rw [i2] at e0 e1
  have hb : o * 1024 + (z 1).val < 4096 := by
    have h2 : (z 1).val < 2048 := (z 1).isLt
    omega
  refine Eq.trans ?_ (hG z hb).symm
  show (dats m hO 0 c).after 2 t y = _
  rw [after0_2]
  refine (out_at m c hO t y).trans ((pay_at ..).trans (Finset.sum_congr rfl fun k _ => congrArg₂ (fun a b : EReal => a * b) ?_ ?_))
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x11264 .bf16) (x1 : FVec Ideal S4096x4096 .bf16) (i : Cert.DwGateSibRefIdeal.S11264x4096.Idx) :
    Cert.DwGateSibRefIdeal.Read.val_main_v7 (F := Ideal) x0 x1 i = ∑ k : Fin 4096, x0 (ix2 k (i 0)) * x1 (ix2 k (i 1)) := by
  rw [Cert.DwGateSibRefIdeal.Read.val_main_v7_apply, Cert.DwGateSibRefIdeal.Read.val_main_v6_apply, Cert.DwGateSibRefIdeal.Read.val_main_v5_apply]
  exact Finset.sum_congr rfl fun k _ => (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x11264 .bf16) (x1 : FVec Ideal S4096x4096 .bf16) (x2 : IVec S1 32)
    (h : x2 = fun _ => 0#32) (i : S11264x2048.Idx) (h : 0 * 1024 + (i 1).val < 4096) :
    Cert.DwGateSibRefIdeal.Read.val_main_v12 (F := Ideal) x0 x1 x2 i
      = ∑ k : Fin 4096, x0 (ix2 k (i 0)) * x1 (ix2 k ⟨0 * 1024 + (i 1).val, h⟩) := by
  subst x2
  refine (show _ = Cert.DwGateSibRefIdeal.Read.val_main_v10 (F := Ideal) x0 x1 i from rfl).trans ?_
  rw [Cert.DwGateSibRefIdeal.Read.val_main_v10_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega)))

/-- The reference's half, for the second half. -/
theorem half_one (x0 : FVec Ideal S4096x11264 .bf16) (x1 : FVec Ideal S4096x4096 .bf16) (x2 : IVec S1 32)
    (h : x2 = fun _ => 1#32) (i : S11264x2048.Idx) (h : 2 * 1024 + (i 1).val < 4096) :
    Cert.DwGateSibRefIdeal.Read.val_main_v12 (F := Ideal) x0 x1 x2 i
      = ∑ k : Fin 4096, x0 (ix2 k (i 0)) * x1 (ix2 k ⟨2 * 1024 + (i 1).val, h⟩) := by
  subst x2
  refine (show _ = Cert.DwGateSibRefIdeal.Read.val_main_v11 (F := Ideal) x0 x1 i from rfl).trans ?_
  rw [Cert.DwGateSibRefIdeal.Read.val_main_v11_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega)))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 2 (cfgM m hO).N = Cert.DwGateSibRefIdeal.Read.val_main_v12 (F := Ideal)
      (m ((c : Thread nD τ).loc main_arg0)) (m ((c : Thread nD τ).loc main_arg1)) (m ((c : Thread nD τ).loc main_arg2)) := by
  rcases e with e | e
  · exact final_of m c hO (.inl e) 0 (by omega) (fun t => by rw [e]; exact idx_zero t) _ fun i h =>
      half_zero _ _ _ (arg2_of m _ e c) i h
  · exact final_of m c hO (.inr e) 2 (by omega) (fun t => by rw [e]; exact idx_one t) _ fun i h =>
      half_one _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

/-- The kernel's half is the reference's. -/
theorem claim [Cert.Pre_core_dw_gate_sib.Facts] : Cert.algebraic_DwGateSibIdeal_DwGateSibRefIdeal (hDwGateSibIdeal := Cert.DwGateSibIdeal.Gen.facts)
    (hDwGateSibRefIdeal := Cert.DwGateSibRefIdeal.Gen.facts) := by
  intro m g m' g' hpre hargs
  have hO := ok_of_pre m hpre
  refine ⟨fun c => (dats m hO 0 c).arrAt 2 (cfgM m hO).N, run_named m g hO,
    (θ_run Cert.DwGateSibRefIdeal.defs _ _).mono (fun r h c => ?_) (Cert.DwGateSibRefIdeal.Value.run m' g')⟩
  obtain ⟨h1, h2⟩ := h c
  obtain ⟨a0, a1, a2, a3⟩ := hargs c
  refine ⟨h1.trans ((Cert.DwGateSibRefIdeal.Read.val_main_v12_eq _ _ _).trans ?_), h2⟩
  rw [a0, a1, a2]
  exact (final m c hO (tbl_cases m hpre)).symm

end Cert.DwGateSibAlg
-- ==== Proof.DwInOwnOk.lean ====
module

public import proofs.«01_k».proof.Proof.Gen.DwInOwn.Frame
public import proofs.«01_k».proof.Proof.Gen.DwInOwnIdeal.Frame
public import proofs.«01_k».proof.Proof.Gen.Pre_core_dw_in_own
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwInOwn.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_in_own.Facts] (m : (ℓ : Loc nD τ sig) → Buf (Elt Bits) ℓ) (h : Cert.Pre_DwInOwn m) :
    tbl m = tblOf 0#32 ∨ tbl m = tblOf 1#32 := by
  have hw := congrFun (h 0) (ix1 (0 : Fin 1))
  revert hw
  pointwise [Cert.Pre_core_dw_in_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_in_own.Facts] (m : (ℓ : Loc nD τ sig) → Buf (Elt Bits) ℓ) (h : Cert.Pre_DwInOwn m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwInOwn.Gen

namespace Cert.DwInOwnIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_in_own.Facts] (m : (ℓ : Loc nD τ sig) → Buf (Elt Ideal) ℓ) (h : Cert.Pre_DwInOwnIdeal m) :
    tbl m = tblOf 0#32 ∨ tbl m = tblOf 1#32 := by
  have hw := congrFun (h 0) (ix1 (0 : Fin 1))
  revert hw
  pointwise [Cert.Pre_core_dw_in_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_in_own.Facts] (m : (ℓ : Loc nD τ sig) → Buf (Elt Ideal) ℓ) (h : Cert.Pre_DwInOwnIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwInOwnIdeal.Gen
-- ==== Proof.DwInOwnAlg.lean ====
module

public import proofs.«01_k».proof.Proof.DwInOwnOk
public import proofs.«01_k».proof.Proof.Gen.DwInOwnRefIdeal.Read
public import proofs.«01_k».proof.Proof.Gen.DwInOwnRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwInOwnAlg

open Cert.DwInOwnIdeal Cert.DwInOwnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows, added to what was there. -/
theorem pay_at (x0 : Vec Ideal S4096x1024 .bf16) (x1 : Vec Ideal S4096x1024 .bf16) (x3 : Vec Ideal S1024x1024 .f32) (j : S1024x1024.Idx) :
    k0_pay1 x0 x1 x3 j = x3 j + ∑ k : Fin 4096, x0 (ix2 k (j 0)) * x1 (ix2 k (j 1)) := by
  pointwise [k0_pay1]

/-- Where the blocks of a grid point lie that do not depend on the table. -/
theorem idx_val : ∀ t : Fin grid0.N, cc0_transform_1 (grid0.coords t) = ![0, t.val % 10]
    ∧ cc0_transform_3 (grid0.coords t) = ![t.val / 10, t.val % 10]
    ∧ cc0_transform_2 (grid0.coords t) = ![t.val / 10, t.val % 10] :=
  (by decide +kernel : ∀ t : Fin grid0.N, _)

/-- Where the blocks of the halved operand lie, for the first half. -/
theorem idx_zero : ∀ t : Fin grid0.N, cc0_transform_0 inb_S1_S1_0 numel1_S1 (tblOf 0#32) (grid0.coords t) = ![0, t.val / 10 + 0] :=
  (by decide +kernel : ∀ t : Fin grid0.N, _)

/-- Where the blocks of the halved operand lie, for the second half. -/
theorem idx_one : ∀ t : Fin grid0.N, cc0_transform_0 inb_S1_S1_0 numel1_S1 (tblOf 1#32) (grid0.coords t) = ![0, t.val / 10 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 3).Covers := by
  rcases e with rfl | rfl
  · exact (by decide +kernel : ((cfg0 (F := Ideal) ⟨tblOf 0#32, by decide +kernel⟩).win 3).Covers)
  · exact (by decide +kernel : ((cfg0 (F := Ideal) ⟨tblOf 1#32, by decide +kernel⟩).win 3).Covers)

/-- The first operand. -/
def A : FVec Ideal S4096x4096 .bf16 := m ((c : Thread nD τ).loc main_arg0)
/-- The second operand. -/
def B : FVec Ideal S4096x10240 .bf16 := m ((c : Thread nD τ).loc main_arg1)
/-- The array the product is added to. -/
def Add : FVec Ideal S2048x10240 .f32 := m ((c : Thread nD τ).loc main_arg3)

/-- Where an index of the result's block lies in the result. -/
theorem emb_out (hO : Ok m) (t : Fin grid0.N) (y : S1024x1024.Idx) (a : Fin 2) :
    (((((cfgM m hO).win 3).blk t).view.emb y : S2048x10240.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x4096.Idx)
    (h : ∀ a, (j a).val = cc0_transform_0 inb_S1_S1_0 numel1_S1 (tbl m) (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x10240.Idx)
    (h : ∀ a, (j a).val = cc0_transform_1 (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- A block of the array the product is added to. -/
theorem blk2_at (hO : Ok m) (t : Fin grid0.N) (i : S1024x1024.Idx) (j : S2048x10240.Idx)
    (h : ∀ a, (j a).val = cc0_transform_2 (grid0.coords t) a * S1024x1024.size a + (i a).val) :
    (iblk m hO c 2 t : FVec Ideal S1024x1024 .f32) i = Add m c j :=
  congrArg (Add m c) (funext fun a => Fin.ext ((ValueKit.view_emb_slice_whole_unit_val main_arg3 _ _ _ i a).trans (h a).symm))

/-- A function of three values, at equal ones. -/
theorem congr_three {α β γ δ : Sort _} (f : α → β → γ → δ) {a a' : α} {b b' : β} {d d' : γ} (h : a = a') (h' : b = b') (h'' : d = d') :
    f a b d = f a' b' d' := h ▸ h' ▸ h'' ▸ rfl

/-- What a grid point leaves in the result's block. -/
theorem out_at (hO : Ok m) (t : Fin (cfgM m hO).N) (y : S1024x1024.Idx) :
    outsAt0 m hO c t y = k0_pay1 (iblk m hO c 0 t) (iblk m hO c 1 t) (iblk m hO c 2 t) y := by
  unfold outsAt0
  frame_out
  exact congr_three (fun a b d => k0_pay1 a b d y) ((hs0_0 m hO t).read_unread (iblk m hO c 0 t))
    ((hs0_1 m hO t).read_unread (iblk m hO c 1 t)) ((hs0_2 m hO t).read_unread (iblk m hO c 2 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_0 inb_S1_S1_0 numel1_S1 (tbl m) (grid0.coords t) = ![0, t.val / 10 + o])
    (G : FVec Ideal S2048x10240 .bf16)
    (hG : ∀ (i : S2048x10240.Idx) (h : o * 1024 + (i 0).val < 4096),
      G i = Add m c i + ∑ k : Fin 4096, A m c (ix2 k ⟨o * 1024 + (i 0).val, h⟩) * B m c (ix2 k (i 1))) :
    (dats m hO 0 c).arrAt 3 (cfgM m hO).N = G := by
  refine (dats m hO 0 c).arrAt_eq_of_covers 3 _ (covers_of _ hO e) fun t hf y => ?_
  let y' : S1024x1024.Idx := y
  obtain ⟨i1, i2, i3⟩ := idx_val t
  have e0 := emb_out m hO t y 0
  have e1 := emb_out m hO t y 1
  let z : S2048x10240.Idx := (((cfgM m hO).win 3).blk t).view.emb y
  rw [i2] at e0 e1
  have hb : o * 1024 + (z 0).val < 4096 := by
    have h2 : (z 0).val < 2048 := (z 0).isLt
    omega
  refine Eq.trans ?_ (hG z hb).symm
  show (dats m hO 0 c).after 3 t y = _
  rw [after0_3]
  refine (out_at m c hO t y).trans ((pay_at ..).trans (congrArg₂ (fun a b : EReal => a + b) ?_ (Finset.sum_congr rfl fun k _ => congrArg₂ (fun a b : EReal => a * b) ?_ ?_)))
  · refine blk2_at m c hO t _ _ fun a => ?_
    rw [i3]
    match a with
    | ⟨0, _⟩ => exact e0
    | ⟨1, _⟩ => exact e1
  · refine blk0_at m c hO t _ _ fun a => ?_
    rw [hi t]
    match a with
    | ⟨0, _⟩ =>
      show k.val = 0 * 4096 + k.val
      omega
    | ⟨1, _⟩ =>
      have e' : (z 0).val = t.val / 10 * 1024 + (y' 0).val := e0
      show o * 1024 + (z 0).val = (t.val / 10 + o) * 1024 + (y' 0).val
      omega
  · refine blk1_at m c hO t _ _ fun a => ?_
    rw [i1]
    match a with
    | ⟨0, _⟩ =>
      show k.val = 0 * 4096 + k.val
      omega
    | ⟨1, _⟩ => exact e1

/-- The reference's product, at an index. -/
theorem prod_at (x0 : FVec Ideal S4096x4096 .bf16) (x1 : FVec Ideal S4096x10240 .bf16) (i : Cert.DwInOwnRefIdeal.S4096x10240.Idx) :
    Cert.DwInOwnRefIdeal.Read.val_main_v5 (F := Ideal) x0 x1 i = ∑ k : Fin 4096, x0 (ix2 k (i 0)) * x1 (ix2 k (i 1)) := by
  rw [Cert.DwInOwnRefIdeal.Read.val_main_v5_apply, Cert.DwInOwnRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x4096 .bf16) (x1 : FVec Ideal S4096x10240 .bf16) (x2 : IVec S1 32) (x3 : FVec Ideal S2048x10240 .f32)
    (h : x2 = fun _ => 0#32) (i : S2048x10240.Idx) (h : 0 * 1024 + (i 0).val < 4096) :
    Cert.DwInOwnRefIdeal.Read.val_main_v12 (F := Ideal) x0 x1 x2 x3 i
      = x3 i + ∑ k : Fin 4096, x0 (ix2 k ⟨0 * 1024 + (i 0).val, h⟩) * x1 (ix2 k (i 1)) := by
  subst x2
  refine (show _ = x3 i + Cert.DwInOwnRefIdeal.Read.val_main_v8 (F := Ideal) x0 x1 i from rfl).trans ?_
  rw [Cert.DwInOwnRefIdeal.Read.val_main_v8_apply, prod_at]
  exact congrArg (fun b : EReal => x3 i + b) (Finset.sum_congr rfl fun k _ => congrArg₂ (fun a b : EReal => a * b)
    (congrArg x0 (funext fun a => match a with | ⟨0, _⟩ => rfl | ⟨1, _⟩ => Fin.ext (by show (i 0).val = 0 * 1024 + (i 0).val; omega)))
    (congrArg x1 (funext fun a => match a with | ⟨0, _⟩ => rfl | ⟨1, _⟩ => rfl)))

/-- The reference's half, for the second half. -/
theorem half_one (x0 : FVec Ideal S4096x4096 .bf16) (x1 : FVec Ideal S4096x10240 .bf16) (x2 : IVec S1 32) (x3 : FVec Ideal S2048x10240 .f32)
    (h : x2 = fun _ => 1#32) (i : S2048x10240.Idx) (h : 2 * 1024 + (i 0).val < 4096) :
    Cert.DwInOwnRefIdeal.Read.val_main_v12 (F := Ideal) x0 x1 x2 x3 i
      = x3 i + ∑ k : Fin 4096, x0 (ix2 k ⟨2 * 1024 + (i 0).val, h⟩) * x1 (ix2 k (i 1)) := by
  subst x2
  refine (show _ = x3 i + Cert.DwInOwnRefIdeal.Read.val_main_v9 (F := Ideal) x0 x1 i from rfl).trans ?_
  rw [Cert.DwInOwnRefIdeal.Read.val_main_v9_apply, prod_at]
  exact congrArg (fun b : EReal => x3 i + b) (Finset.sum_congr rfl fun k _ => congrArg₂ (fun a b : EReal => a * b)
    (congrArg x0 (funext fun a => match a with | ⟨0, _⟩ => rfl | ⟨1, _⟩ => Fin.ext (by show 2048 + (i 0).val = 2 * 1024 + (i 0).val; omega)))
    (congrArg x1 (funext fun a => match a with | ⟨0, _⟩ => rfl | ⟨1, _⟩ => rfl)))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 3 (cfgM m hO).N = Cert.DwInOwnRefIdeal.Read.val_main_v12 (F := Ideal)
      (m ((c : Thread nD τ).loc main_arg0)) (m ((c : Thread nD τ).loc main_arg1)) (m ((c : Thread nD τ).loc main_arg2)) (m ((c : Thread nD τ).loc main_arg3)) := by
  rcases e with e | e
  · exact final_of m c hO (.inl e) 0 (by omega) (fun t => by rw [e]; exact idx_zero t) _ fun i h =>
      half_zero _ _ _ _ (arg2_of m _ e c) i h
  · exact final_of m c hO (.inr e) 2 (by omega) (fun t => by rw [e]; exact idx_one t) _ fun i h =>
      half_one _ _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's half is the reference's. -/
theorem claim [Cert.Pre_core_dw_in_own.Facts] : Cert.algebraic_DwInOwnIdeal_DwInOwnRefIdeal (hDwInOwnIdeal := Cert.DwInOwnIdeal.Gen.facts)
    (hDwInOwnRefIdeal := Cert.DwInOwnRefIdeal.Gen.facts) := by
  intro m g m' g' hpre hargs
  have hO := ok_of_pre m hpre
  refine ⟨fun c => (dats m hO 0 c).arrAt 3 (cfgM m hO).N, run_named m g hO,
    (θ_run Cert.DwInOwnRefIdeal.defs _ _).mono (fun r h c => ?_) (Cert.DwInOwnRefIdeal.Value.run m' g')⟩
  obtain ⟨h1, h2⟩ := h c
  obtain ⟨a0, a1, a2, a3⟩ := hargs c
  refine ⟨h1.trans ((Cert.DwInOwnRefIdeal.Read.val_main_v12_eq _ _ _ _).trans ?_), h2⟩
  rw [a0, a1, a2, a3]
  exact (final m c hO (tbl_cases m hpre)).symm

end Cert.DwInOwnAlg
-- ==== Proof.DwInSibAlg.lean ====
module

public import proofs.«01_k».proof.Proof.DwInSibOk
public import proofs.«01_k».proof.Proof.Gen.DwInSibRefIdeal.Read
public import proofs.«01_k».proof.Proof.Gen.DwInSibRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwInSibAlg

open Cert.DwInSibIdeal Cert.DwInSibIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows. -/
theorem pay_at (x0 : Vec Ideal S4096x1024 .bf16) (x1 : Vec Ideal S4096x1024 .bf16) (j : S1024x1024.Idx) :
    k0_pay1 x0 x1 j = ∑ k : Fin 4096, x0 (ix2 k (j 0)) * x1 (ix2 k (j 1)) := by
  pointwise [k0_pay1]

/-- Where the blocks of a grid point lie that do not depend on the table. -/
theorem idx_val : ∀ t : Fin grid0.N, cc0_transform_1 (grid0.coords t) = ![0, t.val % 10]
    ∧ cc0_transform_3 (grid0.coords t) = ![t.val / 10, t.val % 10] :=
  (by decide +kernel : ∀ t : Fin grid0.N, _)

/-- Where the blocks of the halved operand lie, for the first half. -/
theorem idx_zero : ∀ t : Fin grid0.N, cc0_transform_0 inb_S1_S1_0 numel1_S1 (tblOf 0#32) (grid0.coords t) = ![0, t.val / 10 + 0] :=
  (by decide +kernel : ∀ t : Fin grid0.N, _)

/-- Where the blocks of the halved operand lie, for the second half. -/
theorem idx_one : ∀ t : Fin grid0.N, cc0_transform_0 inb_S1_S1_0 numel1_S1 (tblOf 1#32) (grid0.coords t) = ![0, t.val / 10 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 2).Covers := by
  rcases e with rfl | rfl
  · exact (by decide +kernel : ((cfg0 (F := Ideal) ⟨tblOf 0#32, by decide +kernel⟩).win 2).Covers)
  · exact (by decide +kernel : ((cfg0 (F := Ideal) ⟨tblOf 1#32, by decide +kernel⟩).win 2).Covers)

/-- The first operand. -/
def A : FVec Ideal S4096x4096 .bf16 := m ((c : Thread nD τ).loc main_arg0)
/-- The second operand. -/
def B : FVec Ideal S4096x10240 .bf16 := m ((c : Thread nD τ).loc main_arg1)

/-- Where an index of the result's block lies in the result. -/
theorem emb_out (hO : Ok m) (t : Fin grid0.N) (y : S1024x1024.Idx) (a : Fin 2) :
    (((((cfgM m hO).win 2).blk t).view.emb y : S2048x10240.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x4096.Idx)
    (h : ∀ a, (j a).val = cc0_transform_0 inb_S1_S1_0 numel1_S1 (tbl m) (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x10240.Idx)
    (h : ∀ a, (j a).val = cc0_transform_1 (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- What a grid point leaves in the result's block. -/
theorem out_at (hO : Ok m) (t : Fin (cfgM m hO).N) (y : S1024x1024.Idx) :
    outsAt0 m hO c t y = k0_pay1 (iblk m hO c 0 t) (iblk m hO c 1 t) y := by
  unfold outsAt0
  frame_out
  exact congrArg₂ (fun a b => k0_pay1 a b y) ((hs0_0 m hO t).read_unread (iblk m hO c 0 t)) ((hs0_1 m hO t).read_unread (iblk m hO c 1 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_0 inb_S1_S1_0 numel1_S1 (tbl m) (grid0.coords t) = ![0, t.val / 10 + o])
    (G : FVec Ideal S2048x10240 .f32)
    (hG : ∀ (i : S2048x10240.Idx) (h : o * 1024 + (i 0).val < 4096),
      G i = ∑ k : Fin 4096, A m c (ix2 k ⟨o * 1024 + (i 0).val, h⟩) * B m c (ix2 k (i 1))) :
    (dats m hO 0 c).arrAt 2 (cfgM m hO).N = G := by
  refine (dats m hO 0 c).arrAt_eq_of_covers 2 _ (covers_of _ hO e) fun t hf y => ?_
  let y' : S1024x1024.Idx := y
  obtain ⟨i1, i2⟩ := idx_val t
  have e0 := emb_out m hO t y 0
  have e1 := emb_out m hO t y 1
  let z : S2048x10240.Idx := (((cfgM m hO).win 2).blk t).view.emb y
  rw [i2] at e0 e1
  have hb : o * 1024 + (z 0).val < 4096 := by
    have h2 : (z 0).val < 2048 := (z 0).isLt
    omega
  refine Eq.trans ?_ (hG z hb).symm
  show (dats m hO 0 c).after 2 t y = _
  rw [after0_2]
  refine (out_at m c hO t y).trans ((pay_at ..).trans (Finset.sum_congr rfl fun k _ => congrArg₂ (fun a b : EReal => a * b) ?_ ?_))
  · refine blk0_at m c hO t _ _ fun a => ?_
    rw [hi t]
    match a with
    | ⟨0, _⟩ =>
      show k.val = 0 * 4096 + k.val
      omega
    | ⟨1, _⟩ =>
      have e' : (z 0).val = t.val / 10 * 1024 + (y' 0).val := e0
      show o * 1024 + (z 0).val = (t.val / 10 + o) * 1024 + (y' 0).val
      omega
  · refine blk1_at m c hO t _ _ fun a => ?_
    rw [i1]
    match a with
    | ⟨0, _⟩ =>
      show k.val = 0 * 4096 + k.val
      omega
    | ⟨1, _⟩ => exact e1

/-- The reference's product, at an index. -/
theorem prod_at (x0 : FVec Ideal S4096x4096 .bf16) (x1 : FVec Ideal S4096x10240 .bf16) (i : Cert.DwInSibRefIdeal.S4096x10240.Idx) :
    Cert.DwInSibRefIdeal.Read.val_main_v5 (F := Ideal) x0 x1 i = ∑ k : Fin 4096, x0 (ix2 k (i 0)) * x1 (ix2 k (i 1)) := by
  rw [Cert.DwInSibRefIdeal.Read.val_main_v5_apply, Cert.DwInSibRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x4096 .bf16) (x1 : FVec Ideal S4096x10240 .bf16) (x2 : IVec S1 32)
    (h : x2 = fun _ => 0#32) (i : S2048x10240.Idx) (h : 0 * 1024 + (i 0).val < 4096) :
    Cert.DwInSibRefIdeal.Read.val_main_v10 (F := Ideal) x0 x1 x2 i
      = ∑ k : Fin 4096, x0 (ix2 k ⟨0 * 1024 + (i 0).val, h⟩) * x1 (ix2 k (i 1)) := by
  subst x2
  refine (show _ = Cert.DwInSibRefIdeal.Read.val_main_v8 (F := Ideal) x0 x1 i from rfl).trans ?_
  rw [Cert.DwInSibRefIdeal.Read.val_main_v8_apply, prod_at]
  exact Finset.sum_congr rfl fun k _ => congrArg₂ (fun a b : EReal => a * b)
    (congrArg x0 (funext fun a => match a with | ⟨0, _⟩ => rfl | ⟨1, _⟩ => Fin.ext (by show (i 0).val = 0 * 1024 + (i 0).val; omega)))
    (congrArg x1 (funext fun a => match a with | ⟨0, _⟩ => rfl | ⟨1, _⟩ => rfl))

/-- The reference's half, for the second half. -/
theorem half_one (x0 : FVec Ideal S4096x4096 .bf16) (x1 : FVec Ideal S4096x10240 .bf16) (x2 : IVec S1 32)
    (h : x2 = fun _ => 1#32) (i : S2048x10240.Idx) (h : 2 * 1024 + (i 0).val < 4096) :
    Cert.DwInSibRefIdeal.Read.val_main_v10 (F := Ideal) x0 x1 x2 i
      = ∑ k : Fin 4096, x0 (ix2 k ⟨2 * 1024 + (i 0).val, h⟩) * x1 (ix2 k (i 1)) := by
  subst x2
  refine (show _ = Cert.DwInSibRefIdeal.Read.val_main_v9 (F := Ideal) x0 x1 i from rfl).trans ?_
  rw [Cert.DwInSibRefIdeal.Read.val_main_v9_apply, prod_at]
  exact Finset.sum_congr rfl fun k _ => congrArg₂ (fun a b : EReal => a * b)
    (congrArg x0 (funext fun a => match a with | ⟨0, _⟩ => rfl | ⟨1, _⟩ => Fin.ext (by show 2048 + (i 0).val = 2 * 1024 + (i 0).val; omega)))
    (congrArg x1 (funext fun a => match a with | ⟨0, _⟩ => rfl | ⟨1, _⟩ => rfl))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 2 (cfgM m hO).N = Cert.DwInSibRefIdeal.Read.val_main_v10 (F := Ideal)
      (m ((c : Thread nD τ).loc main_arg0)) (m ((c : Thread nD τ).loc main_arg1)) (m ((c : Thread nD τ).loc main_arg2)) := by
  rcases e with e | e
  · exact final_of m c hO (.inl e) 0 (by omega) (fun t => by rw [e]; exact idx_zero t) _ fun i h =>
      half_zero _ _ _ (arg2_of m _ e c) i h
  · exact final_of m c hO (.inr e) 2 (by omega) (fun t => by rw [e]; exact idx_one t) _ fun i h =>
      half_one _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

/-- The kernel's half is the reference's. -/
theorem claim [Cert.Pre_core_dw_in_sib.Facts] : Cert.algebraic_DwInSibIdeal_DwInSibRefIdeal (hDwInSibIdeal := Cert.DwInSibIdeal.Gen.facts)
    (hDwInSibRefIdeal := Cert.DwInSibRefIdeal.Gen.facts) := by
  intro m g m' g' hpre hargs
  have hO := ok_of_pre m hpre
  refine ⟨fun c => (dats m hO 0 c).arrAt 2 (cfgM m hO).N, run_named m g hO,
    (θ_run Cert.DwInSibRefIdeal.defs _ _).mono (fun r h c => ?_) (Cert.DwInSibRefIdeal.Value.run m' g')⟩
  obtain ⟨h1, h2⟩ := h c
  obtain ⟨a0, a1, a2, a3⟩ := hargs c
  refine ⟨h1.trans ((Cert.DwInSibRefIdeal.Read.val_main_v10_eq _ _ _).trans ?_), h2⟩
  rw [a0, a1, a2]
  exact (final m c hO (tbl_cases m hpre)).symm

end Cert.DwInSibAlg
-- ==== Proof.DwKOwnOk.lean ====
module

public import proofs.«01_k».proof.Proof.Gen.DwKOwn.Frame
public import proofs.«01_k».proof.Proof.Gen.DwKOwnIdeal.Frame
public import proofs.«01_k».proof.Proof.Gen.Pre_core_dw_k_own
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwKOwn.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_k_own.Facts] (m : (ℓ : Loc nD τ sig) → Buf (Elt Bits) ℓ) (h : Cert.Pre_DwKOwn m) :
    tbl m = tblOf 0#32 ∨ tbl m = tblOf 1#32 := by
  have hw := congrFun (h 0) (ix1 (0 : Fin 1))
  revert hw
  pointwise [Cert.Pre_core_dw_k_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_k_own.Facts] (m : (ℓ : Loc nD τ sig) → Buf (Elt Bits) ℓ) (h : Cert.Pre_DwKOwn m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwKOwn.Gen

namespace Cert.DwKOwnIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_k_own.Facts] (m : (ℓ : Loc nD τ sig) → Buf (Elt Ideal) ℓ) (h : Cert.Pre_DwKOwnIdeal m) :
    tbl m = tblOf 0#32 ∨ tbl m = tblOf 1#32 := by
  have hw := congrFun (h 0) (ix1 (0 : Fin 1))
  revert hw
  pointwise [Cert.Pre_core_dw_k_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_k_own.Facts] (m : (ℓ : Loc nD τ sig) → Buf (Elt Ideal) ℓ) (h : Cert.Pre_DwKOwnIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwKOwnIdeal.Gen
-- ==== Proof.DwKOwnAlg.lean ====
module

public import proofs.«01_k».proof.Proof.DwKOwnOk
public import proofs.«01_k».proof.Proof.Gen.DwKOwnRefIdeal.Read
public import proofs.«01_k».proof.Proof.Gen.DwKOwnRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwKOwnAlg

open Cert.DwKOwnIdeal Cert.DwKOwnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows, added to what was there. -/
theorem pay_at (x0 : Vec Ideal S256x1024 .bf16) (x1 : Vec Ideal S256x1024 .bf16) (x3 : Vec Ideal S1024x1024 .f32) (j : S1024x1024.Idx) :
    k0_pay1 x0 x1 x3 j = x3 j + ∑ k : Fin 256, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2]
    ∧ cc0_transform_2 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 3).Covers := by
  rcases e with rfl | rfl
  · exact (by decide +kernel : ((cfg0 (F := Ideal) ⟨tblOf 0#32, by decide +kernel⟩).win 3).Covers)
  · exact (by decide +kernel : ((cfg0 (F := Ideal) ⟨tblOf 1#32, by decide +kernel⟩).win 3).Covers)

/-- The first operand. -/
def A : FVec Ideal S256x4096 .bf16 := m ((c : Thread nD τ).loc main_arg0)
/-- The second operand. -/
def B : FVec Ideal S256x4096 .bf16 := m ((c : Thread nD τ).loc main_arg1)
/-- The array the product is added to. -/
def Add : FVec Ideal S4096x2048 .f32 := m ((c : Thread nD τ).loc main_arg3)

/-- Where an index of the result's block lies in the result. -/
theorem emb_out (hO : Ok m) (t : Fin grid0.N) (y : S1024x1024.Idx) (a : Fin 2) :
    (((((cfgM m hO).win 3).blk t).view.emb y : S4096x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S256x1024.Idx) (j : S256x4096.Idx)
    (h : ∀ a, (j a).val = cc0_transform_0 (grid0.coords t) a * S256x1024.size a + (i a).val) :
    (iblk m hO c 0 t : FVec Ideal S256x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S256x1024.Idx) (j : S256x4096.Idx)
    (h : ∀ a, (j a).val = cc0_transform_1 inb_S1_S1_0 numel1_S1 (tbl m) (grid0.coords t) a * S256x1024.size a + (i a).val) :
    (iblk m hO c 1 t : FVec Ideal S256x1024 .bf16) i = B m c j :=
  congrArg (B m c) (funext fun a => Fin.ext ((ValueKit.view_emb_slice_whole_unit_val main_arg1 _ _ _ i a).trans (h a).symm))

/-- A block of the array the product is added to. -/
theorem blk2_at (hO : Ok m) (t : Fin grid0.N) (i : S1024x1024.Idx) (j : S4096x2048.Idx)
    (h : ∀ a, (j a).val = cc0_transform_2 (grid0.coords t) a * S1024x1024.size a + (i a).val) :
    (iblk m hO c 2 t : FVec Ideal S1024x1024 .f32) i = Add m c j :=
  congrArg (Add m c) (funext fun a => Fin.ext ((ValueKit.view_emb_slice_whole_unit_val main_arg3 _ _ _ i a).trans (h a).symm))

/-- A function of three values, at equal ones. -/
theorem congr_three {α β γ δ : Sort _} (f : α → β → γ → δ) {a a' : α} {b b' : β} {d d' : γ} (h : a = a') (h' : b = b') (h'' : d = d') :
    f a b d = f a' b' d' := h ▸ h' ▸ h'' ▸ rfl

/-- What a grid point leaves in the result's block. -/
theorem out_at (hO : Ok m) (t : Fin (cfgM m hO).N) (y : S1024x1024.Idx) :
    outsAt0 m hO c t y = k0_pay1 (iblk m hO c 0 t) (iblk m hO c 1 t) (iblk m hO c 2 t) y := by
  unfold outsAt0
  frame_out
  exact congr_three (fun a b d => k0_pay1 a b d y) ((hs0_0 m hO t).read_unread (iblk m hO c 0 t))
    ((hs0_1 m hO t).read_unread (iblk m hO c 1 t)) ((hs0_2 m hO t).read_unread (iblk m hO c 2 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S4096x2048 .bf16)
    (hG : ∀ (i : S4096x2048.Idx) (h : o * 1024 + (i 1).val < 4096),
      G i = Add m c i + ∑ k : Fin 256, A m c (ix2 k (i 0)) * B m c (ix2 k ⟨o * 1024 + (i 1).val, h⟩)) :
    (dats m hO 0 c).arrAt 3 (cfgM m hO).N = G := by
  refine (dats m hO 0 c).arrAt_eq_of_covers 3 _ (covers_of _ hO e) fun t hf y => ?_
  let y' : S1024x1024.Idx := y
  obtain ⟨i1, i2, i3⟩ := idx_val t
  have e0 := emb_out m hO t y 0
  have e1 := emb_out m hO t y 1
  let z : S4096x2048.Idx := (((cfgM m hO).win 3).blk t).view.emb y
  rw [i2] at e0 e1
  have hb : o * 1024 + (z 1).val < 4096 := by
    have h2 : (z 1).val < 2048 := (z 1).isLt
    omega
  refine Eq.trans ?_ (hG z hb).symm
  show (dats m hO 0 c).after 3 t y = _
  rw [after0_3]
  refine (out_at m c hO t y).trans ((pay_at ..).trans (congrArg₂ (fun a b : EReal => a + b) ?_ (Finset.sum_congr rfl fun k _ => congrArg₂ (fun a b : EReal => a * b) ?_ ?_)))
  · refine blk2_at m c hO t _ _ fun a => ?_
    rw [i3]
    match a with
    | ⟨0, _⟩ => exact e0
    | ⟨1, _⟩ => exact e1
  · refine blk0_at m c hO t _ _ fun a => ?_
    rw [i1]
    match a with
    | ⟨0, _⟩ =>
      show k.val = 0 * 256 + k.val
      omega
    | ⟨1, _⟩ => exact e0
  · refine blk1_at m c hO t _ _ fun a => ?_
    rw [hi t]
    match a with
    | ⟨0, _⟩ =>
      show k.val = 0 * 256 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S256x4096 .bf16) (x1 : FVec Ideal S256x4096 .bf16) (i : Cert.DwKOwnRefIdeal.S4096x4096.Idx) :
    Cert.DwKOwnRefIdeal.Read.val_main_v5 (F := Ideal) x0 x1 i = ∑ k : Fin 256, x0 (ix2 k (i 0)) * x1 (ix2 k (i 1)) := by
  rw [Cert.DwKOwnRefIdeal.Read.val_main_v5_apply, Cert.DwKOwnRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S256x4096 .bf16) (x1 : FVec Ideal S256x4096 .bf16) (x2 : IVec S1 32) (x3 : FVec Ideal S4096x2048 .f32)
    (h : x2 = fun _ => 0#32) (i : S4096x2048.Idx) (h : 0 * 1024 + (i 1).val < 4096) :
    Cert.DwKOwnRefIdeal.Read.val_main_v12 (F := Ideal) x0 x1 x2 x3 i
      = x3 i + ∑ k : Fin 256, x0 (ix2 k (i 0)) * x1 (ix2 k ⟨0 * 1024 + (i 1).val, h⟩) := by
  subst x2
  refine (show _ = x3 i + Cert.DwKOwnRefIdeal.Read.val_main_v8 (F := Ideal) x0 x1 i from rfl).trans ?_
  rw [Cert.DwKOwnRefIdeal.Read.val_main_v8_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega))))

/-- The reference's half, for the second half. -/
theorem half_one (x0 : FVec Ideal S256x4096 .bf16) (x1 : FVec Ideal S256x4096 .bf16) (x2 : IVec S1 32) (x3 : FVec Ideal S4096x2048 .f32)
    (h : x2 = fun _ => 1#32) (i : S4096x2048.Idx) (h : 2 * 1024 + (i 1).val < 4096) :
    Cert.DwKOwnRefIdeal.Read.val_main_v12 (F := Ideal) x0 x1 x2 x3 i
      = x3 i + ∑ k : Fin 256, x0 (ix2 k (i 0)) * x1 (ix2 k ⟨2 * 1024 + (i 1).val, h⟩) := by
  subst x2
  refine (show _ = x3 i + Cert.DwKOwnRefIdeal.Read.val_main_v9 (F := Ideal) x0 x1 i from rfl).trans ?_
  rw [Cert.DwKOwnRefIdeal.Read.val_main_v9_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega))))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 3 (cfgM m hO).N = Cert.DwKOwnRefIdeal.Read.val_main_v12 (F := Ideal)
      (m ((c : Thread nD τ).loc main_arg0)) (m ((c : Thread nD τ).loc main_arg1)) (m ((c : Thread nD τ).loc main_arg2)) (m ((c : Thread nD τ).loc main_arg3)) := by
  rcases e with e | e
  · exact final_of m c hO (.inl e) 0 (by omega) (fun t => by rw [e]; exact idx_zero t) _ fun i h =>
      half_zero _ _ _ _ (arg2_of m _ e c) i h
  · exact final_of m c hO (.inr e) 2 (by omega) (fun t => by rw [e]; exact idx_one t) _ fun i h =>
      half_one _ _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's half is the reference's. -/
theorem claim [Cert.Pre_core_dw_k_own.Facts] : Cert.algebraic_DwKOwnIdeal_DwKOwnRefIdeal (hDwKOwnIdeal := Cert.DwKOwnIdeal.Gen.facts)
    (hDwKOwnRefIdeal := Cert.DwKOwnRefIdeal.Gen.facts) := by
  intro m g m' g' hpre hargs
  have hO := ok_of_pre m hpre
  refine ⟨fun c => (dats m hO 0 c).arrAt 3 (cfgM m hO).N, run_named m g hO,
    (θ_run Cert.DwKOwnRefIdeal.defs _ _).mono (fun r h c => ?_) (Cert.DwKOwnRefIdeal.Value.run m' g')⟩
  obtain ⟨h1, h2⟩ := h c
  obtain ⟨a0, a1, a2, a3⟩ := hargs c
  refine ⟨h1.trans ((Cert.DwKOwnRefIdeal.Read.val_main_v12_eq _ _ _ _).trans ?_), h2⟩
  rw [a0, a1, a2, a3]
  exact (final m c hO (tbl_cases m hpre)).symm

end Cert.DwKOwnAlg
-- ==== Proof.DwKSibOk.lean ====
module

public import proofs.«01_k».proof.Proof.Gen.DwKSib.Frame
public import proofs.«01_k».proof.Proof.Gen.DwKSibIdeal.Frame
public import proofs.«01_k».proof.Proof.Gen.Pre_core_dw_k_sib
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwKSib.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_k_sib.Facts] (m : (ℓ : Loc nD τ sig) → Buf (Elt Bits) ℓ) (h : Cert.Pre_DwKSib m) :
    tbl m = tblOf 0#32 ∨ tbl m = tblOf 1#32 := by
  have hw := congrFun (h 0) (ix1 (0 : Fin 1))
  revert hw
  pointwise [Cert.Pre_core_dw_k_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_k_sib.Facts] (m : (ℓ : Loc nD τ sig) → Buf (Elt Bits) ℓ) (h : Cert.Pre_DwKSib m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwKSib.Gen

namespace Cert.DwKSibIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_k_sib.Facts] (m : (ℓ : Loc nD τ sig) → Buf (Elt Ideal) ℓ) (h : Cert.Pre_DwKSibIdeal m) :
    tbl m = tblOf 0#32 ∨ tbl m = tblOf 1#32 := by
  have hw := congrFun (h 0) (ix1 (0 : Fin 1))
  revert hw
  pointwise [Cert.Pre_core_dw_k_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_k_sib.Facts] (m : (ℓ : Loc nD τ sig) → Buf (Elt Ideal) ℓ) (h : Cert.Pre_DwKSibIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwKSibIdeal.Gen
-- ==== Proof.DwKSibAlg.lean ====
module

public import proofs.«01_k».proof.Proof.DwKSibOk
public import proofs.«01_k».proof.Proof.Gen.DwKSibRefIdeal.Read
public import proofs.«01_k».proof.Proof.Gen.DwKSibRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwKSibAlg

open Cert.DwKSibIdeal Cert.DwKSibIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows. -/
theorem pay_at (x0 : Vec Ideal S256x1024 .bf16) (x1 : Vec Ideal S256x1024 .bf16) (j : S1024x1024.Idx) :
    k0_pay1 x0 x1 j = ∑ k : Fin 256, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 2).Covers := by
  rcases e with rfl | rfl
  · exact (by decide +kernel : ((cfg0 (F := Ideal) ⟨tblOf 0#32, by decide +kernel⟩).win 2).Covers)
  · exact (by decide +kernel : ((cfg0 (F := Ideal) ⟨tblOf 1#32, by decide +kernel⟩).win 2).Covers)

/-- The first operand. -/
def A : FVec Ideal S256x4096 .bf16 := m ((c : Thread nD τ).loc main_arg0)
/-- The second operand. -/
def B : FVec Ideal S256x4096 .bf16 := m ((c : Thread nD τ).loc main_arg1)

/-- Where an index of the result's block lies in the result. -/
theorem emb_out (hO : Ok m) (t : Fin grid0.N) (y : S1024x1024.Idx) (a : Fin 2) :
    (((((cfgM m hO).win 2).blk t).view.emb y : S4096x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S256x1024.Idx) (j : S256x4096.Idx)
    (h : ∀ a, (j a).val = cc0_transform_0 (grid0.coords t) a * S256x1024.size a + (i a).val) :
    (iblk m hO c 0 t : FVec Ideal S256x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S256x1024.Idx) (j : S256x4096.Idx)
    (h : ∀ a, (j a).val = cc0_transform_1 inb_S1_S1_0 numel1_S1 (tbl m) (grid0.coords t) a * S256x1024.size a + (i a).val) :
    (iblk m hO c 1 t : FVec Ideal S256x1024 .bf16) i = B m c j :=
  congrArg (B m c) (funext fun a => Fin.ext ((ValueKit.view_emb_slice_whole_unit_val main_arg1 _ _ _ i a).trans (h a).symm))

/-- What a grid point leaves in the result's block. -/
theorem out_at (hO : Ok m) (t : Fin (cfgM m hO).N) (y : S1024x1024.Idx) :
    outsAt0 m hO c t y = k0_pay1 (iblk m hO c 0 t) (iblk m hO c 1 t) y := by
  unfold outsAt0
  frame_out
  exact congrArg₂ (fun a b => k0_pay1 a b y) ((hs0_0 m hO t).read_unread (iblk m hO c 0 t)) ((hs0_1 m hO t).read_unread (iblk m hO c 1 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S4096x2048 .f32)
    (hG : ∀ (i : S4096x2048.Idx) (h : o * 1024 + (i 1).val < 4096),
      G i = ∑ k : Fin 256, A m c (ix2 k (i 0)) * B m c (ix2 k ⟨o * 1024 + (i 1).val, h⟩)) :
    (dats m hO 0 c).arrAt 2 (cfgM m hO).N = G := by
  refine (dats m hO 0 c).arrAt_eq_of_covers 2 _ (covers_of _ hO e) fun t hf y => ?_
  let y' : S1024x1024.Idx := y
  obtain ⟨i1, i2⟩ := idx_val t
  have e0 := emb_out m hO t y 0
  have e1 := emb_out m hO t y 1
  let z : S4096x2048.Idx := (((cfgM m hO).win 2).blk t).view.emb y
  rw [i2] at e0 e1
  have hb : o * 1024 + (z 1).val < 4096 := by
    have h2 : (z 1).val < 2048 := (z 1).isLt
    omega
  refine Eq.trans ?_ (hG z hb).symm
  show (dats m hO 0 c).after 2 t y = _
  rw [after0_2]
  refine (out_at m c hO t y).trans ((pay_at ..).trans (Finset.sum_congr rfl fun k _ => congrArg₂ (fun a b : EReal => a * b) ?_ ?_))
  · refine blk0_at m c hO t _ _ fun a => ?_
    rw [i1]
    match a with
    | ⟨0, _⟩ =>
      show k.val = 0 * 256 + k.val
      omega
    | ⟨1, _⟩ => exact e0
  · refine blk1_at m c hO t _ _ fun a => ?_
    rw [hi t]
    match a with
    | ⟨0, _⟩ =>
      show k.val = 0 * 256 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S256x4096 .bf16) (x1 : FVec Ideal S256x4096 .bf16) (i : Cert.DwKSibRefIdeal.S4096x4096.Idx) :
    Cert.DwKSibRefIdeal.Read.val_main_v5 (F := Ideal) x0 x1 i = ∑ k : Fin 256, x0 (ix2 k (i 0)) * x1 (ix2 k (i 1)) := by
  rw [Cert.DwKSibRefIdeal.Read.val_main_v5_apply, Cert.DwKSibRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S256x4096 .bf16) (x1 : FVec Ideal S256x4096 .bf16) (x2 : IVec S1 32)
    (h : x2 = fun _ => 0#32) (i : S4096x2048.Idx) (h : 0 * 1024 + (i 1).val < 4096) :
    Cert.DwKSibRefIdeal.Read.val_main_v10 (F := Ideal) x0 x1 x2 i
      = ∑ k : Fin 256, x0 (ix2 k (i 0)) * x1 (ix2 k ⟨0 * 1024 + (i 1).val, h⟩) := by
  subst x2
  refine (show _ = Cert.DwKSibRefIdeal.Read.val_main_v8 (F := Ideal) x0 x1 i from rfl).trans ?_
  rw [Cert.DwKSibRefIdeal.Read.val_main_v8_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega)))

/-- The reference's half, for the second half. -/
theorem half_one (x0 : FVec Ideal S256x4096 .bf16) (x1 : FVec Ideal S256x4096 .bf16) (x2 : IVec S1 32)
    (h : x2 = fun _ => 1#32) (i : S4096x2048.Idx) (h : 2 * 1024 + (i 1).val < 4096) :
    Cert.DwKSibRefIdeal.Read.val_main_v10 (F := Ideal) x0 x1 x2 i
      = ∑ k : Fin 256, x0 (ix2 k (i 0)) * x1 (ix2 k ⟨2 * 1024 + (i 1).val, h⟩) := by
  subst x2
  refine (show _ = Cert.DwKSibRefIdeal.Read.val_main_v9 (F := Ideal) x0 x1 i from rfl).trans ?_
  rw [Cert.DwKSibRefIdeal.Read.val_main_v9_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega)))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 2 (cfgM m hO).N = Cert.DwKSibRefIdeal.Read.val_main_v10 (F := Ideal)
      (m ((c : Thread nD τ).loc main_arg0)) (m ((c : Thread nD τ).loc main_arg1)) (m ((c : Thread nD τ).loc main_arg2)) := by
  rcases e with e | e
  · exact final_of m c hO (.inl e) 0 (by omega) (fun t => by rw [e]; exact idx_zero t) _ fun i h =>
      half_zero _ _ _ (arg2_of m _ e c) i h
  · exact final_of m c hO (.inr e) 2 (by omega) (fun t => by rw [e]; exact idx_one t) _ fun i h =>
      half_one _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

/-- The kernel's half is the reference's. -/
theorem claim [Cert.Pre_core_dw_k_sib.Facts] : Cert.algebraic_DwKSibIdeal_DwKSibRefIdeal (hDwKSibIdeal := Cert.DwKSibIdeal.Gen.facts)
    (hDwKSibRefIdeal := Cert.DwKSibRefIdeal.Gen.facts) := by
  intro m g m' g' hpre hargs
  have hO := ok_of_pre m hpre
  refine ⟨fun c => (dats m hO 0 c).arrAt 2 (cfgM m hO).N, run_named m g hO,
    (θ_run Cert.DwKSibRefIdeal.defs _ _).mono (fun r h c => ?_) (Cert.DwKSibRefIdeal.Value.run m' g')⟩
  obtain ⟨h1, h2⟩ := h c
  obtain ⟨a0, a1, a2, a3⟩ := hargs c
  refine ⟨h1.trans ((Cert.DwKSibRefIdeal.Read.val_main_v10_eq _ _ _).trans ?_), h2⟩
  rw [a0, a1, a2]
  exact (final m c hO (tbl_cases m hpre)).symm

end Cert.DwKSibAlg
-- ==== Proof.DwOOwnOk.lean ====
module

public import proofs.«01_k».proof.Proof.Gen.DwOOwn.Frame
public import proofs.«01_k».proof.Proof.Gen.DwOOwnIdeal.Frame
public import proofs.«01_k».proof.Proof.Gen.Pre_core_dw_o_own
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwOOwn.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_o_own.Facts] (m : (ℓ : Loc nD τ sig) → Buf (Elt Bits) ℓ) (h : Cert.Pre_DwOOwn m) :
    tbl m = tblOf 0#32 ∨ tbl m = tblOf 1#32 := by
  have hw := congrFun (h 0) (ix1 (0 : Fin 1))
  revert hw
  pointwise [Cert.Pre_core_dw_o_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_o_own.Facts] (m : (ℓ : Loc nD τ sig) → Buf (Elt Bits) ℓ) (h : Cert.Pre_DwOOwn m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwOOwn.Gen

namespace Cert.DwOOwnIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_o_own.Facts] (m : (ℓ : Loc nD τ sig) → Buf (Elt Ideal) ℓ) (h : Cert.Pre_DwOOwnIdeal m) :
    tbl m = tblOf 0#32 ∨ tbl m = tblOf 1#32 := by
  have hw := congrFun (h 0) (ix1 (0 : Fin 1))
  revert hw
  pointwise [Cert.Pre_core_dw_o_own.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_o_own.Facts] (m : (ℓ : Loc nD τ sig) → Buf (Elt Ideal) ℓ) (h : Cert.Pre_DwOOwnIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwOOwnIdeal.Gen
-- ==== Proof.DwOOwnAlg.lean ====
module

public import proofs.«01_k».proof.Proof.DwOOwnOk
public import proofs.«01_k».proof.Proof.Gen.DwOOwnRefIdeal.Read
public import proofs.«01_k».proof.Proof.Gen.DwOOwnRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwOOwnAlg

open Cert.DwOOwnIdeal Cert.DwOOwnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows, added to what was there. -/
theorem pay_at (x0 : Vec Ideal S4096x1024 .bf16) (x1 : Vec Ideal S4096x1024 .bf16) (x3 : Vec Ideal S1024x1024 .f32) (j : S1024x1024.Idx) :
    k0_pay1 x0 x1 x3 j = x3 j + ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2]
    ∧ cc0_transform_2 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 3).Covers := by
  rcases e with rfl | rfl
  · exact (by decide +kernel : ((cfg0 (F := Ideal) ⟨tblOf 0#32, by decide +kernel⟩).win 3).Covers)
  · exact (by decide +kernel : ((cfg0 (F := Ideal) ⟨tblOf 1#32, by decide +kernel⟩).win 3).Covers)

/-- The first operand. -/
def A : FVec Ideal S4096x4096 .bf16 := m ((c : Thread nD τ).loc main_arg0)
/-- The second operand. -/
def B : FVec Ideal S4096x4096 .bf16 := m ((c : Thread nD τ).loc main_arg1)
/-- The array the product is added to. -/
def Add : FVec Ideal S4096x2048 .f32 := m ((c : Thread nD τ).loc main_arg3)

/-- Where an index of the result's block lies in the result. -/
theorem emb_out (hO : Ok m) (t : Fin grid0.N) (y : S1024x1024.Idx) (a : Fin 2) :
    (((((cfgM m hO).win 3).blk t).view.emb y : S4096x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x4096.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- A block of the array the product is added to. -/
theorem blk2_at (hO : Ok m) (t : Fin grid0.N) (i : S1024x1024.Idx) (j : S4096x2048.Idx)
    (h : ∀ a, (j a).val = cc0_transform_2 (grid0.coords t) a * S1024x1024.size a + (i a).val) :
    (iblk m hO c 2 t : FVec Ideal S1024x1024 .f32) i = Add m c j :=
  congrArg (Add m c) (funext fun a => Fin.ext ((ValueKit.view_emb_slice_whole_unit_val main_arg3 _ _ _ i a).trans (h a).symm))

/-- A function of three values, at equal ones. -/
theorem congr_three {α β γ δ : Sort _} (f : α → β → γ → δ) {a a' : α} {b b' : β} {d d' : γ} (h : a = a') (h' : b = b') (h'' : d = d') :
    f a b d = f a' b' d' := h ▸ h' ▸ h'' ▸ rfl

/-- What a grid point leaves in the result's block. -/
theorem out_at (hO : Ok m) (t : Fin (cfgM m hO).N) (y : S1024x1024.Idx) :
    outsAt0 m hO c t y = k0_pay1 (iblk m hO c 0 t) (iblk m hO c 1 t) (iblk m hO c 2 t) y := by
  unfold outsAt0
  frame_out
  exact congr_three (fun a b d => k0_pay1 a b d y) ((hs0_0 m hO t).read_unread (iblk m hO c 0 t))
    ((hs0_1 m hO t).read_unread (iblk m hO c 1 t)) ((hs0_2 m hO t).read_unread (iblk m hO c 2 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S4096x2048 .bf16)
    (hG : ∀ (i : S4096x2048.Idx) (h : o * 1024 + (i 1).val < 4096),
      G i = Add m c i + ∑ k : Fin 4096, A m c (ix2 k (i 0)) * B m c (ix2 k ⟨o * 1024 + (i 1).val, h⟩)) :
    (dats m hO 0 c).arrAt 3 (cfgM m hO).N = G := by
  refine (dats m hO 0 c).arrAt_eq_of_covers 3 _ (covers_of _ hO e) fun t hf y => ?_
  let y' : S1024x1024.Idx := y
  obtain ⟨i1, i2, i3⟩ := idx_val t
  have e0 := emb_out m hO t y 0
  have e1 := emb_out m hO t y 1
  let z : S4096x2048.Idx := (((cfgM m hO).win 3).blk t).view.emb y
  rw [i2] at e0 e1
  have hb : o * 1024 + (z 1).val < 4096 := by
    have h2 : (z 1).val < 2048 := (z 1).isLt
    omega
  refine Eq.trans ?_ (hG z hb).symm
  show (dats m hO 0 c).after 3 t y = _
  rw [after0_3]
  refine (out_at m c hO t y).trans ((pay_at ..).trans (congrArg₂ (fun a b : EReal => a + b) ?_ (Finset.sum_congr rfl fun k _ => congrArg₂ (fun a b : EReal => a * b) ?_ ?_)))
  · refine blk2_at m c hO t _ _ fun a => ?_
    rw [i3]
    match a with
    | ⟨0, _⟩ => exact e0
    | ⟨1, _⟩ => exact e1
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x4096 .bf16) (x1 : FVec Ideal S4096x4096 .bf16) (i : Cert.DwOOwnRefIdeal.S4096x4096.Idx) :
    Cert.DwOOwnRefIdeal.Read.val_main_v5 (F := Ideal) x0 x1 i = ∑ k : Fin 4096, x0 (ix2 k (i 0)) * x1 (ix2 k (i 1)) := by
  rw [Cert.DwOOwnRefIdeal.Read.val_main_v5_apply, Cert.DwOOwnRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x4096 .bf16) (x1 : FVec Ideal S4096x4096 .bf16) (x2 : IVec S1 32) (x3 : FVec Ideal S4096x2048 .f32)
    (h : x2 = fun _ => 0#32) (i : S4096x2048.Idx) (h : 0 * 1024 + (i 1).val < 4096) :
    Cert.DwOOwnRefIdeal.Read.val_main_v12 (F := Ideal) x0 x1 x2 x3 i
      = x3 i + ∑ k : Fin 4096, x0 (ix2 k (i 0)) * x1 (ix2 k ⟨0 * 1024 + (i 1).val, h⟩) := by
  subst x2
  refine (show _ = x3 i + Cert.DwOOwnRefIdeal.Read.val_main_v8 (F := Ideal) x0 x1 i from rfl).trans ?_
  rw [Cert.DwOOwnRefIdeal.Read.val_main_v8_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega))))

/-- The reference's half, for the second half. -/
theorem half_one (x0 : FVec Ideal S4096x4096 .bf16) (x1 : FVec Ideal S4096x4096 .bf16) (x2 : IVec S1 32) (x3 : FVec Ideal S4096x2048 .f32)
    (h : x2 = fun _ => 1#32) (i : S4096x2048.Idx) (h : 2 * 1024 + (i 1).val < 4096) :
    Cert.DwOOwnRefIdeal.Read.val_main_v12 (F := Ideal) x0 x1 x2 x3 i
      = x3 i + ∑ k : Fin 4096, x0 (ix2 k (i 0)) * x1 (ix2 k ⟨2 * 1024 + (i 1).val, h⟩) := by
  subst x2
  refine (show _ = x3 i + Cert.DwOOwnRefIdeal.Read.val_main_v9 (F := Ideal) x0 x1 i from rfl).trans ?_
  rw [Cert.DwOOwnRefIdeal.Read.val_main_v9_apply, prod_at]
  exact congrArg (fun b : EReal => x3 i + b) (Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega))))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 3 (cfgM m hO).N = Cert.DwOOwnRefIdeal.Read.val_main_v12 (F := Ideal)
      (m ((c : Thread nD τ).loc main_arg0)) (m ((c : Thread nD τ).loc main_arg1)) (m ((c : Thread nD τ).loc main_arg2)) (m ((c : Thread nD τ).loc main_arg3)) := by
  rcases e with e | e
  · exact final_of m c hO (.inl e) 0 (by omega) (fun t => by rw [e]; exact idx_zero t) _ fun i h =>
      half_zero _ _ _ _ (arg2_of m _ e c) i h
  · exact final_of m c hO (.inr e) 2 (by omega) (fun t => by rw [e]; exact idx_one t) _ fun i h =>
      half_one _ _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 2).trans (((dats m hO 0 c).arrAt_in 2 rfl _).trans ((A_eq m hO c 2).trans (V_main_arg3 m c)))⟩)
    (run_main m ρ hO)

/-- The kernel's half is the reference's. -/
theorem claim [Cert.Pre_core_dw_o_own.Facts] : Cert.algebraic_DwOOwnIdeal_DwOOwnRefIdeal (hDwOOwnIdeal := Cert.DwOOwnIdeal.Gen.facts)
    (hDwOOwnRefIdeal := Cert.DwOOwnRefIdeal.Gen.facts) := by
  intro m g m' g' hpre hargs
  have hO := ok_of_pre m hpre
  refine ⟨fun c => (dats m hO 0 c).arrAt 3 (cfgM m hO).N, run_named m g hO,
    (θ_run Cert.DwOOwnRefIdeal.defs _ _).mono (fun r h c => ?_) (Cert.DwOOwnRefIdeal.Value.run m' g')⟩
  obtain ⟨h1, h2⟩ := h c
  obtain ⟨a0, a1, a2, a3⟩ := hargs c
  refine ⟨h1.trans ((Cert.DwOOwnRefIdeal.Read.val_main_v12_eq _ _ _ _).trans ?_), h2⟩
  rw [a0, a1, a2, a3]
  exact (final m c hO (tbl_cases m hpre)).symm

end Cert.DwOOwnAlg
-- ==== Proof.DwOSibOk.lean ====
module

public import proofs.«01_k».proof.Proof.Gen.DwOSib.Frame
public import proofs.«01_k».proof.Proof.Gen.DwOSibIdeal.Frame
public import proofs.«01_k».proof.Proof.Gen.Pre_core_dw_o_sib
public import proofs.«01_k».proof.Proof.DwInSibOk
public import proofs.«01_k».proof.Defs
public import Idealize.ShloMosaic.Lib.Pipeline.ValueKit

/-!
  The core's place in its pair, which the call's block indices read, is 0 or 1 under the precondition, and at both every block
  lies inside its array.
-/

@[expose] public section

set_option maxRecDepth 16384

noncomputable section

namespace Cert.DwOSib.Gen

open Idealize.ShloMosaic Idealize.ShloMosaic.TcCoe Idealize.SL.Sem

/-- The table holding the word `b`. -/
def tblOf (b : BitVec 32) : pre0.Contents (Elt Bits) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_o_sib.Facts] (m : (ℓ : Loc nD τ sig) → Buf (Elt Bits) ℓ) (h : Cert.Pre_DwOSib m) :
    tbl m = tblOf 0#32 ∨ tbl m = tblOf 1#32 := by
  have hw := congrFun (h 0) (ix1 (0 : Fin 1))
  revert hw
  pointwise [Cert.Pre_core_dw_o_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_o_sib.Facts] (m : (ℓ : Loc nD τ sig) → Buf (Elt Bits) ℓ) (h : Cert.Pre_DwOSib m) : Ok m := by
  rcases tbl_cases m h with e | e
  · unfold Ok; rw [e]; exact (by decide +kernel : ok0 (F := Bits) (tblOf 0#32))
  · unfold Ok; rw [e]; exact (by decide +kernel : ok0 (F := Bits) (tblOf 1#32))

end Cert.DwOSib.Gen

namespace Cert.DwOSibIdeal.Gen

open Idealize.ShloMosaic Idealize.ShloMosaic.TcCoe Idealize.SL.Sem

/-- The table holding the word `b`. -/
def tblOf (b : BitVec 32) : pre0.Contents (Elt Ideal) := fun
  | 0 => fun _ => b
  | ⟨_ + 1, h⟩ => absurd h (Nat.not_lt.2 (Nat.le_add_left _ _))

/-- A table of one word has one index. -/
theorem s1_eq (i : S1.Idx) : i = ix1 (0 : Fin 1) := funext fun a => by
  obtain rfl : a = 0 := Subsingleton.elim _ _
  exact Subsingleton.elim (α := Fin 1) _ _

/-- The precondition makes the table hold 0 or 1. -/
theorem tbl_cases [Cert.Pre_core_dw_o_sib.Facts] (m : (ℓ : Loc nD τ sig) → Buf (Elt Ideal) ℓ) (h : Cert.Pre_DwOSibIdeal m) :
    tbl m = tblOf 0#32 ∨ tbl m = tblOf 1#32 := by
  have hw := congrFun (h 0) (ix1 (0 : Fin 1))
  revert hw
  pointwise [Cert.Pre_core_dw_o_sib.fn]
  intro hw
  have e (b : BitVec 32) (hb : (m (((0 : Dev nD) : Thread nD τ).loc main_arg2) : IVec S1 32) (ix1 (0 : Fin 1)) = b) : tbl m = tblOf b := by
    funext j
    obtain rfl : j = 0 := Subsingleton.elim _ _
    funext i
    obtain rfl : i = (ix1 (0 : Fin 1) : S1.Idx) := s1_eq i
    exact hb
  exact (Cert.DwInSibOk.word_cases _ hw).imp (e _) (e _)

/-- Both tables are admissible. -/
theorem ok_of_pre [Cert.Pre_core_dw_o_sib.Facts] (m : (ℓ : Loc nD τ sig) → Buf (Elt Ideal) ℓ) (h : Cert.Pre_DwOSibIdeal m) : Ok m := by
  rcases tbl_cases m h with e | e
  · unfold Ok; rw [e]; exact (by decide +kernel : ok0 (F := Ideal) (tblOf 0#32))
  · unfold Ok; rw [e]; exact (by decide +kernel : ok0 (F := Ideal) (tblOf 1#32))

end Cert.DwOSibIdeal.Gen
-- ==== Proof.DwOSibAlg.lean ====
module

public import proofs.«01_k».proof.Proof.DwOSibOk
public import proofs.«01_k».proof.Proof.Gen.DwOSibRefIdeal.Read
public import proofs.«01_k».proof.Proof.Gen.DwOSibRefIdeal.Run
public import Idealize.ShloMosaic.Lib.Claim

/-!
  One half of a weight's gradient: every tile the call leaves is the sum over the rows that the reference's half has there, whichever
  of the two halves the table names.
-/

@[expose] public section

set_option maxRecDepth 16384

noncomputable section

namespace Cert.DwOSibAlg

open Cert.DwOSibIdeal Cert.DwOSibIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the rows. -/
theorem pay_at (x0 : Vec Ideal S4096x1024 .bf16) (x1 : Vec Ideal S4096x1024 .bf16) (j : S1024x1024.Idx) :
    k0_pay1 x0 x1 j = ∑ k : Fin 4096, x0 (ix2 k (j 0)) * x1 (ix2 k (j 1)) := by
  pointwise [k0_pay1]

/-- Where the blocks of a grid point lie that do not depend on the table. -/
theorem idx_val : ∀ t : Fin grid0.N, cc0_transform_0 (grid0.coords t) = ![0, t.val / 2]
    ∧ cc0_transform_3 (grid0.coords t) = ![t.val / 2, t.val % 2] :=
  (by decide +kernel : ∀ t : Fin grid0.N, _)

/-- Where the blocks of the halved operand lie, for the first half. -/
theorem idx_zero : ∀ t : Fin grid0.N, cc0_transform_1 inb_S1_S1_0 numel1_S1 (tblOf 0#32) (grid0.coords t) = ![0, t.val % 2 + 0] :=
  (by decide +kernel : ∀ t : Fin grid0.N, _)

/-- Where the blocks of the halved operand lie, for the second half. -/
theorem idx_one : ∀ t : Fin grid0.N, cc0_transform_1 inb_S1_S1_0 numel1_S1 (tblOf 1#32) (grid0.coords t) = ![0, t.val % 2 + 2] :=
  (by decide +kernel : ∀ t : Fin grid0.N, _)

/-- The result's blocks cover it. -/
theorem covers_of (T : pre0.Contents (Elt Ideal)) (h : ok0 (F := Ideal) T) (e : T = tblOf 0#32 ∨ T = tblOf 1#32) :
    ((cfg0 (F := Ideal) ⟨T, h⟩).win 2).Covers := by
  rcases e with rfl | rfl
  · exact (by decide +kernel : ((cfg0 (F := Ideal) ⟨tblOf 0#32, by decide +kernel⟩).win 2).Covers)
  · exact (by decide +kernel : ((cfg0 (F := Ideal) ⟨tblOf 1#32, by decide +kernel⟩).win 2).Covers)

/-- The first operand. -/
def A : FVec Ideal S4096x4096 .bf16 := m ((c : Thread nD τ).loc main_arg0)
/-- The second operand. -/
def B : FVec Ideal S4096x4096 .bf16 := m ((c : Thread nD τ).loc main_arg1)

/-- Where an index of the result's block lies in the result. -/
theorem emb_out (hO : Ok m) (t : Fin grid0.N) (y : S1024x1024.Idx) (a : Fin 2) :
    (((((cfgM m hO).win 2).blk t).view.emb y : S4096x2048.Idx) a).val = cc0_transform_3 (grid0.coords t) a * S1024x1024.size a + (y a).val :=
  ValueKit.view_emb_slice_whole_unit_val main_v0 _ _ _ y a

/-- A block of the first operand. -/
theorem blk0_at (hO : Ok m) (t : Fin grid0.N) (i : S4096x1024.Idx) (j : S4096x4096.Idx)
    (h : ∀ a, (j a).val = cc0_transform_0 (grid0.coords t) a * S4096x1024.size a + (i a).val) :
    (iblk m hO c 0 t : FVec Ideal S4096x1024 .bf16) i = A m c j :=
  congrArg (A m c) (funext fun a => Fin.ext ((ValueKit.view_emb_slice_whole_unit_val main_arg0 _ _ _ i a).trans (h a).symm))

/-- A block of the second operand. -/
theorem blk1_at (hO : Ok m) (t : Fin grid0.N) (i : S4096x1024.Idx) (j : S4096x4096.Idx)
    (h : ∀ a, (j a).val = cc0_transform_1 inb_S1_S1_0 numel1_S1 (tbl m) (grid0.coords t) a * S4096x1024.size a + (i a).val) :
    (iblk m hO c 1 t : FVec Ideal S4096x1024 .bf16) i = B m c j :=
  congrArg (B m c) (funext fun a => Fin.ext ((ValueKit.view_emb_slice_whole_unit_val main_arg1 _ _ _ i a).trans (h a).symm))

/-- What a grid point leaves in the result's block. -/
theorem out_at (hO : Ok m) (t : Fin (cfgM m hO).N) (y : S1024x1024.Idx) :
    outsAt0 m hO c t y = k0_pay1 (iblk m hO c 0 t) (iblk m hO c 1 t) y := by
  unfold outsAt0
  frame_out
  exact congrArg₂ (fun a b => k0_pay1 a b y) ((hs0_0 m hO t).read_unread (iblk m hO c 0 t)) ((hs0_1 m hO t).read_unread (iblk m hO c 1 t))

/-- The result array, for a half that starts at column `o * 1024` of the halved operand. -/
theorem final_of (hO : Ok m) (e : tbl m = tblOf 0#32 ∨ tbl m = tblOf 1#32) (o : ℕ) (ho : o ≤ 2)
    (hi : ∀ t : Fin grid0.N, cc0_transform_1 inb_S1_S1_0 numel1_S1 (tbl m) (grid0.coords t) = ![0, t.val % 2 + o])
    (G : FVec Ideal S4096x2048 .f32)
    (hG : ∀ (i : S4096x2048.Idx) (h : o * 1024 + (i 1).val < 4096),
      G i = ∑ k : Fin 4096, A m c (ix2 k (i 0)) * B m c (ix2 k ⟨o * 1024 + (i 1).val, h⟩)) :
    (dats m hO 0 c).arrAt 2 (cfgM m hO).N = G := by
  refine (dats m hO 0 c).arrAt_eq_of_covers 2 _ (covers_of _ hO e) fun t hf y => ?_
  let y' : S1024x1024.Idx := y
  obtain ⟨i1, i2⟩ := idx_val t
  have e0 := emb_out m hO t y 0
  have e1 := emb_out m hO t y 1
  let z : S4096x2048.Idx := (((cfgM m hO).win 2).blk t).view.emb y
  rw [i2] at e0 e1
  have hb : o * 1024 + (z 1).val < 4096 := by
    have h2 : (z 1).val < 2048 := (z 1).isLt
    omega
  refine Eq.trans ?_ (hG z hb).symm
  show (dats m hO 0 c).after 2 t y = _
  rw [after0_2]
  refine (out_at m c hO t y).trans ((pay_at ..).trans (Finset.sum_congr rfl fun k _ => congrArg₂ (fun a b : EReal => a * b) ?_ ?_))
  · refine blk0_at m c hO t _ _ fun a => ?_
    rw [i1]
    match a with
    | ⟨0, _⟩ =>
      show k.val = 0 * 4096 + k.val
      omega
    | ⟨1, _⟩ => exact e0
  · refine blk1_at m c hO t _ _ fun a => ?_
    rw [hi t]
    match a with
    | ⟨0, _⟩ =>
      show k.val = 0 * 4096 + k.val
      omega
    | ⟨1, _⟩ =>
      have e' : (z 1).val = t.val % 2 * 1024 + (y' 1).val := e1
      show o * 1024 + (z 1).val = (t.val % 2 + o) * 1024 + (y' 1).val
      omega

/-- The reference's product, at an index. -/
theorem prod_at (x0 : FVec Ideal S4096x4096 .bf16) (x1 : FVec Ideal S4096x4096 .bf16) (i : Cert.DwOSibRefIdeal.S4096x4096.Idx) :
    Cert.DwOSibRefIdeal.Read.val_main_v5 (F := Ideal) x0 x1 i = ∑ k : Fin 4096, x0 (ix2 k (i 0)) * x1 (ix2 k (i 1)) := by
  rw [Cert.DwOSibRefIdeal.Read.val_main_v5_apply, Cert.DwOSibRefIdeal.Read.val_main_v4_apply]
  exact Finset.sum_congr rfl fun k _ => (mul_comm _ _).trans (congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl)))

/-- The reference's half, for the first half. -/
theorem half_zero (x0 : FVec Ideal S4096x4096 .bf16) (x1 : FVec Ideal S4096x4096 .bf16) (x2 : IVec S1 32)
    (h : x2 = fun _ => 0#32) (i : S4096x2048.Idx) (h : 0 * 1024 + (i 1).val < 4096) :
    Cert.DwOSibRefIdeal.Read.val_main_v10 (F := Ideal) x0 x1 x2 i
      = ∑ k : Fin 4096, x0 (ix2 k (i 0)) * x1 (ix2 k ⟨0 * 1024 + (i 1).val, h⟩) := by
  subst x2
  refine (show _ = Cert.DwOSibRefIdeal.Read.val_main_v8 (F := Ideal) x0 x1 i from rfl).trans ?_
  rw [Cert.DwOSibRefIdeal.Read.val_main_v8_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show (i 1).val = 0 * 1024 + (i 1).val; omega)))

/-- The reference's half, for the second half. -/
theorem half_one (x0 : FVec Ideal S4096x4096 .bf16) (x1 : FVec Ideal S4096x4096 .bf16) (x2 : IVec S1 32)
    (h : x2 = fun _ => 1#32) (i : S4096x2048.Idx) (h : 2 * 1024 + (i 1).val < 4096) :
    Cert.DwOSibRefIdeal.Read.val_main_v10 (F := Ideal) x0 x1 x2 i
      = ∑ k : Fin 4096, x0 (ix2 k (i 0)) * x1 (ix2 k ⟨2 * 1024 + (i 1).val, h⟩) := by
  subst x2
  refine (show _ = Cert.DwOSibRefIdeal.Read.val_main_v9 (F := Ideal) x0 x1 i from rfl).trans ?_
  rw [Cert.DwOSibRefIdeal.Read.val_main_v9_apply, prod_at]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => Fin.ext (by show 2048 + (i 1).val = 2 * 1024 + (i 1).val; omega)))

/-- The table is the third argument. -/
theorem arg2_of (b : BitVec 32) (e : tbl m = tblOf b) (c : Dev nD) : (m ((c : Thread nD τ).loc main_arg2) : IVec S1 32) = fun _ => b := by
  obtain rfl : c = 0 := Subsingleton.elim _ _
  exact congrFun e 0

/-- The result array is the reference's. -/
theorem final (hO : Ok m) (e : tbl m = tblOf 0#32 ∨ tbl m = tblOf 1#32) :
    (dats m hO 0 c).arrAt 2 (cfgM m hO).N = Cert.DwOSibRefIdeal.Read.val_main_v10 (F := Ideal)
      (m ((c : Thread nD τ).loc main_arg0)) (m ((c : Thread nD τ).loc main_arg1)) (m ((c : Thread nD τ).loc main_arg2)) := by
  rcases e with e | e
  · exact final_of m c hO (.inl e) 0 (by omega) (fun t => by rw [e]; exact idx_zero t) _ fun i h =>
      half_zero _ _ _ (arg2_of m _ e c) i h
  · exact final_of m c hO (.inr e) 2 (by omega) (fun t => by rw [e]; exact idx_one t) _ fun i h =>
      half_one _ _ _ (arg2_of m _ e c) i h

/-- The run, with the result array named and the arguments kept. -/
theorem run_named (ρ : Dev nD → PrngReg) (hO : Ok m) :
    θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

/-- The kernel's half is the reference's. -/
theorem claim [Cert.Pre_core_dw_o_sib.Facts] : Cert.algebraic_DwOSibIdeal_DwOSibRefIdeal (hDwOSibIdeal := Cert.DwOSibIdeal.Gen.facts)
    (hDwOSibRefIdeal := Cert.DwOSibRefIdeal.Gen.facts) := by
  intro m g m' g' hpre hargs
  have hO := ok_of_pre m hpre
  refine ⟨fun c => (dats m hO 0 c).arrAt 2 (cfgM m hO).N, run_named m g hO,
    (θ_run Cert.DwOSibRefIdeal.defs _ _).mono (fun r h c => ?_) (Cert.DwOSibRefIdeal.Value.run m' g')⟩
  obtain ⟨h1, h2⟩ := h c
  obtain ⟨a0, a1, a2, a3⟩ := hargs c
  refine ⟨h1.trans ((Cert.DwOSibRefIdeal.Read.val_main_v10_eq _ _ _).trans ?_), h2⟩
  rw [a0, a1, a2]
  exact (final m c hO (tbl_cases m hpre)).symm

end Cert.DwOSibAlg
-- ==== Proof.MixBRead.lean ====
module

public import proofs.«01_k».proof.Proof.Gen.MixBRefIdeal.Read
public import Idealize.ShloMosaic.Lib.Pipeline.ValueKit
public import Idealize.ShloMosaic.Lib.KernelVsHost

/-!
  The reference of the gated convolution's backward, element by element: each result as a formula over the three
  arguments, with the rows before the first and after the last read as zeros.
-/

@[expose] public section

set_option maxRecDepth 16384

noncomputable section

namespace Cert.MixBRead

open Cert.MixBRefIdeal Cert.MixBRefIdeal.Read Idealize.ShloMosaic Idealize.ShloMosaic.TcCoe Idealize.SL.Sem

/-- Two indices of a matrix with the same coordinates read the same entry. -/
theorem at2 {n k : ℕ} (x : (⟨2, ![n, k]⟩ : Shape).Idx → EReal) (i j : (⟨2, ![n, k]⟩ : Shape).Idx)
    (h0 : (i 0).val = (j 0).val) (h1 : (i 1).val = (j 1).val) : x i = x j := by
  refine congrArg x (funext fun a => ?_)
  match a with
  | ⟨0, _⟩ => exact Fin.ext h0
  | ⟨1, _⟩ => exact Fin.ext h1

/-- A matrix padded with rows of zeros, at an index. -/
theorem pad_rows {n N K p q : ℕ} (x : (⟨2, ![n, K]⟩ : Shape).Idx → EReal) (v : S_.Idx → EReal)
    (h : (⟨2, ![n, K]⟩ : Shape).Pads ![p, 0] ![q, 0] ![0, 0] ⟨2, ![N, K]⟩) (hu : 0 < S_.numel) (hv : ∀ i, v i = 0)
    (s : Fin N) (j : Fin K) :
    pad ⟨2, ![N, K]⟩ ![p, 0] ![q, 0] ![0, 0] x v h hu (ix2 s j) = if hs : p ≤ s.val ∧ s.val - p < n then x (ix2 ⟨s.val - p, hs.2⟩ j) else 0 := by
  by_cases hs : p ≤ s.val ∧ s.val - p < n
  · rw [dif_pos hs]
    refine pad_apply_of_inside _ _ _ x v h hu _ _ fun a => ?_
    match a with
    | ⟨0, _⟩ => show s.val = p + (s.val - p) * (0 + 1); omega
    | ⟨1, _⟩ => show j.val = 0 + j.val * (0 + 1); omega
  · rw [dif_neg hs]
    refine (pad_apply_of_not_inside _ _ _ x v h hu _ 0 fun ha => hs ?_).trans (hv _)
    have e1 : p ≤ s.val := ha.1
    have e2 : (s.val - p) / (0 + 1) < n := ha.2.2
    exact ⟨e1, by omega⟩

variable (x0 : FVec Ideal S4096x10240 .f32) (x1 : FVec Ideal S4096x4096 .f32) (x2 : FVec Ideal S1x3x2048 .f32)

/-- The entry at row `s`, column `j` of the projection's part that begins at column `o`. -/
def P (o : ℕ) (ho : o ≤ 8192) (s : Fin 4096) (j : Fin 2048) : EReal := x0 (ix2 s ⟨o + j.val, by have := j.isLt; omega⟩)
/-- The cotangent of the branch. -/
def C (s : Fin 4096) (j : Fin 2048) : EReal := x1 (ix2 s ⟨2048 + j.val, by have := j.isLt; omega⟩)
/-- The convolution's weights. -/
def W (k : Fin 3) (j : Fin 2048) : EReal := x2 (ix3 0 k j)

/-- The convolution's input with two rows of zeros before it. -/
def Z (n : ℕ) (j : Fin 2048) : EReal :=
  if h : 2 ≤ n ∧ n - 2 < 4096 then P x0 6144 (by omega) ⟨n - 2, h.2⟩ j * P x0 8192 (by omega) ⟨n - 2, h.2⟩ j else 0

/-- The cotangent of the convolution with zeros after its last row. -/
def E (n : ℕ) (j : Fin 2048) : EReal := if h : n < 4096 then C x1 ⟨n, h⟩ j * P x0 4096 (by omega) ⟨n, h⟩ j else 0

/-- The convolution. -/
def conv (s : ℕ) (j : Fin 2048) : EReal := Z x0 s j * W x2 0 j + Z x0 (s + 1) j * W x2 1 j + Z x0 (s + 2) j * W x2 2 j

/-- The convolution's transpose. -/
def back (s : ℕ) (j : Fin 2048) : EReal := E x0 x1 s j * W x2 2 j + E x0 x1 (s + 1) j * W x2 1 j + E x0 x1 (s + 2) j * W x2 0 j

/-- The gate's columns of the projection. -/
theorem v2_at (s : Fin 4096) (j : Fin 2048) : val_main_v2 (F := Ideal) x0 (ix2 s j) = P x0 4096 (by omega) s j := by
  rw [val_main_v2_apply]; exact at2 _ _ _ rfl rfl
/-- The first factor's columns of the projection. -/
theorem v3_at (s : Fin 4096) (j : Fin 2048) : val_main_v3 (F := Ideal) x0 (ix2 s j) = P x0 6144 (by omega) s j := by
  rw [val_main_v3_apply]; exact at2 _ _ _ rfl rfl
/-- The second factor's columns of the projection. -/
theorem v4_at (s : Fin 4096) (j : Fin 2048) : val_main_v4 (F := Ideal) x0 (ix2 s j) = P x0 8192 (by omega) s j := by
  rw [val_main_v4_apply]; exact at2 _ _ _ rfl rfl
/-- The convolution's columns of the cotangent. -/
theorem v31_at (s : Fin 4096) (j : Fin 2048) : val_main_v31 (F := Ideal) x1 (ix2 s j) = C x1 s j := by
  rw [val_main_v31_apply]; exact at2 _ _ _ rfl rfl

/-- The weights as the reference's matrix. -/
theorem v6_at (k : Fin 3) (j : Fin 2048) : val_main_v6 (F := Ideal) x2 (ix2 k j) = W x2 k j := by
  rw [val_main_v6_apply]
  have hk := k.isLt
  have hj := j.isLt
  refine congrArg x2 (funext fun a => ?_)
  match a with
  | ⟨0, _⟩ => rfl
  | ⟨1, _⟩ => exact Fin.ext (show (k.val * 2048 + j.val) / 2048 % 3 = k.val by omega)
  | ⟨2, _⟩ => exact Fin.ext (show (k.val * 2048 + j.val) % 2048 = j.val by omega)

/-- A row of weights broadcast over the positions. -/
theorem v13_at (i : S1x2048.Idx) : val_main_v13 (F := Ideal) x2 i = W x2 0 (i 1) := by
  rw [val_main_v13_apply, val_main_v12_apply, val_main_v11_apply]
  refine Eq.trans (at2 _ _ (ix2 0 (i 1)) ?_ ?_) (v6_at x2 0 (i 1))
  · rfl
  · have h1 : (i 1).val < 2048 := (i 1).isLt
    show (i 1).val % 2048 = (i 1).val
    omega
/-- The second row of the weights, as one row. -/
theorem v19_at (i : S1x2048.Idx) : val_main_v19 (F := Ideal) x2 i = W x2 1 (i 1) := by
  rw [val_main_v19_apply, val_main_v18_apply, val_main_v17_apply]
  refine Eq.trans (at2 _ _ (ix2 1 (i 1)) ?_ ?_) (v6_at x2 1 (i 1))
  · rfl
  · have h1 : (i 1).val < 2048 := (i 1).isLt
    show (i 1).val % 2048 = (i 1).val
    omega
/-- The third row of the weights, as one row. -/
theorem v26_at (i : S1x2048.Idx) : val_main_v26 (F := Ideal) x2 i = W x2 2 (i 1) := by
  rw [val_main_v26_apply, val_main_v25_apply, val_main_v24_apply]
  refine Eq.trans (at2 _ _ (ix2 2 (i 1)) ?_ ?_) (v6_at x2 2 (i 1))
  · rfl
  · have h1 : (i 1).val < 2048 := (i 1).isLt
    show (i 1).val % 2048 = (i 1).val
    omega

/-- The padded input of the convolution. -/
theorem v8_at (n : Fin 4098) (j : Fin 2048) : val_main_v8 (F := Ideal) x0 (ix2 n j) = Z x0 n.val j := by
  unfold val_main_v8 Z
  by_cases h : 2 ≤ n.val ∧ n.val - 2 < 4096
  · rw [dif_pos h]
    refine (concatenate_pair_apply_right (t := S4098x2048) (s₁ := S2x2048) (s₂ := S4096x2048) (0 : Fin 2) _ _ _ (ix2 n j) rfl rfl (ix2 (⟨n.val - 2, h.2⟩ : Fin 4096) j) (fun b hb => ?_) ?_).trans ?_
    · match b with
      | ⟨0, _⟩ => exact absurd rfl hb
      | ⟨1, _⟩ => rfl
    · show n.val - 2 + 2 = n.val
      omega
    · rw [val_main_v5_apply, v3_at, v4_at]
      rfl
  · rw [dif_neg h]
    have hn := n.isLt
    refine (concatenate_pair_apply_left (t := S4098x2048) (s₁ := S2x2048) (s₂ := S4096x2048) (0 : Fin 2) _ _ _ (ix2 n j) rfl (ix2 (⟨n.val, by omega⟩ : Fin 2) j) (fun b => ?_)).trans ?_
    · match b with
      | ⟨0, _⟩ => rfl
      | ⟨1, _⟩ => rfl
    · rw [val_main_v7_apply, val_main_cst_apply]
      exact Ideal.ofBits_zero_f32

/-- The padded input from its first row on. -/
theorem v10_at (s : Fin 4096) (j : Fin 2048) : val_main_v10 (F := Ideal) x0 (ix2 s j) = Z x0 s.val j := by
  rw [val_main_v10_apply]
  exact Eq.trans (at2 _ _ (ix2 (⟨s.val, by omega⟩ : Fin 4098) j) rfl rfl) (v8_at x0 _ j)
/-- The padded input from its second row on. -/
theorem v16_at (s : Fin 4096) (j : Fin 2048) : val_main_v16 (F := Ideal) x0 (ix2 s j) = Z x0 (s.val + 1) j := by
  rw [val_main_v16_apply]
  exact Eq.trans (at2 _ _ (ix2 (⟨s.val + 1, by omega⟩ : Fin 4098) j) (show 1 + s.val = s.val + 1 by omega) rfl) (v8_at x0 _ j)
/-- The padded input from its third row on. -/
theorem v23_at (s : Fin 4096) (j : Fin 2048) : val_main_v23 (F := Ideal) x0 (ix2 s j) = Z x0 (s.val + 2) j := by
  rw [val_main_v23_apply]
  exact Eq.trans (at2 _ _ (ix2 (⟨s.val + 2, by omega⟩ : Fin 4098) j) (show 2 + s.val = s.val + 2 by omega) rfl) (v8_at x0 _ j)

/-- The convolution, at an index. -/
theorem v29_at (s : Fin 4096) (j : Fin 2048) : val_main_v29 (F := Ideal) x0 x2 (ix2 s j) = conv x0 x2 s.val j := by
  rw [val_main_v29_apply, val_main_v22_apply, val_main_v15_apply, val_main_v21_apply, val_main_v28_apply, v10_at, v16_at, v23_at,
    val_main_v14_apply, val_main_v20_apply, val_main_v27_apply, v13_at, v19_at, v26_at]
  rfl

/-- The cotangent of the convolution, at an index. -/
theorem v32_at (s : Fin 4096) (j : Fin 2048) : val_main_v32 (F := Ideal) x0 x1 (ix2 s j) = E x0 x1 s.val j := by
  rw [val_main_v32_apply, v2_at, v31_at]
  unfold E
  rw [dif_pos s.isLt]
  exact mul_comm _ _

/-- A padded product of the cotangent with a row of weights. -/
theorem pad_E (p q : ℕ) (hpq : p + q = 2) (x : FVec Ideal S4096x2048 .f32) (w : Fin 2048 → EReal) (v : S_.Idx → EReal)
    (h : S4096x2048.Pads ![p, 0] ![q, 0] ![0, 0] S4098x2048) (hu : 0 < S_.numel) (hv : ∀ i, v i = 0)
    (hx : ∀ s j, x (ix2 s j) = E x0 x1 s.val j * w j) (s : Fin 4096) (j : Fin 2048) :
    pad S4098x2048 ![p, 0] ![q, 0] ![0, 0] x v h hu (ix2 (⟨s.val + 2, by omega⟩ : Fin 4098) j) = E x0 x1 (s.val + q) j * w j := by
  refine (pad_rows x v h hu hv _ j).trans ?_
  have hs := s.isLt
  by_cases hn : s.val + q < 4096
  · rw [dif_pos (show p ≤ s.val + 2 ∧ s.val + 2 - p < 4096 by omega), hx]
    have e : s.val + 2 - p = s.val + q := by omega
    exact congrArg (fun n => E x0 x1 n j * w j) e
  · rw [dif_neg (show ¬(p ≤ s.val + 2 ∧ s.val + 2 - p < 4096) by omega)]
    unfold E
    rw [dif_neg hn, zero_mul]

/-- The convolution's transpose, at an index. -/
theorem v66_at (s : Fin 4096) (j : Fin 2048) : val_main_v66 (F := Ideal) x0 x1 x2 (ix2 s j) = back x0 x1 x2 s.val j := by
  rw [val_main_v66_apply]
  refine Eq.trans (at2 _ _ (ix2 (⟨s.val + 2, by omega⟩ : Fin 4098) j) (show 2 + s.val = s.val + 2 by omega) rfl) ?_
  rw [val_main_v64_apply, val_main_v53_apply]
  unfold back
  refine congrArg₂ (fun a b : EReal => a + b) (congrArg₂ (fun a b : EReal => a + b) ?_ ?_) ?_
  · refine pad_E x0 x1 2 0 rfl _ (W x2 2) _ _ _ (fun i => Ideal.ofBits_zero_f32) (fun s j => ?_) s j
    rw [val_main_v38_apply, v32_at, val_main_v37_apply, v26_at]
    rfl
  · refine pad_E x0 x1 1 1 rfl _ (W x2 1) _ _ _ (fun i => Ideal.ofBits_zero_f32) (fun s j => ?_) s j
    rw [val_main_v47_apply, v32_at, val_main_v46_apply, v19_at]
    rfl
  · refine pad_E x0 x1 0 2 rfl _ (W x2 0) _ _ _ (fun i => Ideal.ofBits_zero_f32) (fun s j => ?_) s j
    rw [val_main_v58_apply, v32_at, val_main_v57_apply, v13_at]
    rfl

/-- The gradient of the gate. -/
theorem db_at (s : Fin 4096) (j : Fin 2048) : val_main_v70 (F := Ideal) x0 x1 x2 (ix2 s j) = C x1 s j * conv x0 x2 s.val j := by
  rw [val_main_v70_apply, val_main_v33_apply, v31_at, v29_at]
  rfl
/-- The gradient of the convolution's first factor. -/
theorem dc_at (s : Fin 4096) (j : Fin 2048) : val_main_v71 (F := Ideal) x0 x1 x2 (ix2 s j) = back x0 x1 x2 s.val j * P x0 8192 (by omega) s j := by
  rw [val_main_v71_apply, val_main_v69_apply, v66_at, v4_at]
  rfl
/-- The gradient of its second factor. -/
theorem dh_at (s : Fin 4096) (j : Fin 2048) : val_main_v72 (F := Ideal) x0 x1 x2 (ix2 s j) = back x0 x1 x2 s.val j * P x0 6144 (by omega) s j := by
  rw [val_main_v72_apply, val_main_v68_apply, v66_at, v3_at]
  exact mul_comm _ _

/-- The gradient of a row of weights: the sum over the positions. -/
def dw (k : ℕ) (j : Fin 2048) : EReal := ∑ s : Fin 4096, E x0 x1 s.val j * Z x0 (s.val + k) j

/-- The gradient of the third weight. -/
theorem v40_at (i : S1x2048.Idx) : val_main_v40 (F := Ideal) x0 x1 i = dw x0 x1 2 (i 1) := by
  rw [val_main_v40_apply, val_main_v39_apply, Fin.sum_univ_one, val_main_v36_apply, val_main_v35_apply]
  refine (congrArg₂ (fun a b : EReal => a + b) Ideal.ofBits_zero_f32 (congrArg₂ (fun a b : EReal => a + b) Ideal.ofBits_zero_f32 ?_)).trans ((zero_add _).trans (zero_add _))
  refine Finset.sum_congr rfl fun s _ => ?_
  have e : idx_main_v35 (idx_main_v36 (idx_main_v39 (idx_main_v40 i) 0)) s = ix2 s (i 1) := by
    funext a
    match a with
    | ⟨0, _⟩ => rfl
    | ⟨1, _⟩ => exact Fin.ext (show 0 * 2048 + (i 1).val = (i 1).val by omega)
  rw [val_main_v34_apply, e]
  exact (congrArg₂ (fun a b : EReal => a * b) (v23_at x0 s (i 1)) (v32_at x0 x1 s (i 1))).trans (mul_comm _ _)
/-- The gradient of the second weight. -/
theorem v49_at (i : S1x2048.Idx) : val_main_v49 (F := Ideal) x0 x1 i = dw x0 x1 1 (i 1) := by
  rw [val_main_v49_apply, val_main_v48_apply, Fin.sum_univ_one, val_main_v45_apply, val_main_v44_apply]
  refine (congrArg₂ (fun a b : EReal => a + b) Ideal.ofBits_zero_f32 (congrArg₂ (fun a b : EReal => a + b) Ideal.ofBits_zero_f32 ?_)).trans ((zero_add _).trans (zero_add _))
  refine Finset.sum_congr rfl fun s _ => ?_
  have e : idx_main_v44 (idx_main_v45 (idx_main_v48 (idx_main_v49 i) 0)) s = ix2 s (i 1) := by
    funext a
    match a with
    | ⟨0, _⟩ => rfl
    | ⟨1, _⟩ => exact Fin.ext (show 0 * 2048 + (i 1).val = (i 1).val by omega)
  rw [val_main_v43_apply, e]
  exact (congrArg₂ (fun a b : EReal => a * b) (v16_at x0 s (i 1)) (v32_at x0 x1 s (i 1))).trans (mul_comm _ _)
/-- The gradient of the first weight. -/
theorem v60_at (i : S1x2048.Idx) : val_main_v60 (F := Ideal) x0 x1 i = dw x0 x1 0 (i 1) := by
  rw [val_main_v60_apply, val_main_v59_apply, Fin.sum_univ_one, val_main_v56_apply, val_main_v55_apply]
  refine (congrArg₂ (fun a b : EReal => a + b) Ideal.ofBits_zero_f32 (congrArg₂ (fun a b : EReal => a + b) Ideal.ofBits_zero_f32 ?_)).trans ((zero_add _).trans (zero_add _))
  refine Finset.sum_congr rfl fun s _ => ?_
  have e : idx_main_v55 (idx_main_v56 (idx_main_v59 (idx_main_v60 i) 0)) s = ix2 s (i 1) := by
    funext a
    match a with
    | ⟨0, _⟩ => rfl
    | ⟨1, _⟩ => exact Fin.ext (show 0 * 2048 + (i 1).val = (i 1).val by omega)
  rw [val_main_v54_apply, e]
  exact (congrArg₂ (fun a b : EReal => a * b) (v10_at x0 s (i 1)) (v32_at x0 x1 s (i 1))).trans (mul_comm _ _)

/-- The three rows of weight gradients, one under the other. -/
theorem v62_at (k : Fin 3) (j : Fin 2048) : val_main_v62 (F := Ideal) x0 x1 (ix2 k j) = dw x0 x1 k.val j := by
  rw [val_main_v62_apply, val_main_v51_apply]
  have h2 : val_main_v41 (F := Ideal) x0 x1 (ix2 k j) = if k.val = 2 then dw x0 x1 2 j else 0 := by
    refine (pad_rows _ _ _ _ (fun i => Ideal.ofBits_zero_f32) k j).trans ?_
    by_cases h : k.val = 2
    · rw [dif_pos (by omega), if_pos h, v40_at]; rfl
    · rw [dif_neg (by omega), if_neg h]
  have h1 : val_main_v50 (F := Ideal) x0 x1 (ix2 k j) = if k.val = 1 then dw x0 x1 1 j else 0 := by
    refine (pad_rows _ _ _ _ (fun i => Ideal.ofBits_zero_f32) k j).trans ?_
    by_cases h : k.val = 1
    · rw [dif_pos (by omega), if_pos h, v49_at]; rfl
    · rw [dif_neg (by omega), if_neg h]
  have h0 : val_main_v61 (F := Ideal) x0 x1 (ix2 k j) = if k.val = 0 then dw x0 x1 0 j else 0 := by
    refine (pad_rows _ _ _ _ (fun i => Ideal.ofBits_zero_f32) k j).trans ?_
    by_cases h : k.val = 0
    · rw [dif_pos (by omega), if_pos h, v60_at]; rfl
    · rw [dif_neg (by omega), if_neg h]
  rw [h0, h1, h2]
  match k with
  | ⟨0, _⟩ => exact (congrArg (fun z : EReal => z + dw x0 x1 0 j) (add_zero (0 : EReal))).trans (zero_add _)
  | ⟨1, _⟩ => exact (add_zero _).trans (zero_add _)
  | ⟨2, _⟩ => exact (add_zero _).trans (add_zero _)

/-- The weight gradients with five rows of zeros under them. -/
theorem dw_at (k : Fin 8) (j : Fin 2048) : val_main_v74 (F := Ideal) x0 x1 (ix2 k j) = if k.val < 3 then dw x0 x1 k.val j else 0 := by
  refine (pad_rows _ _ _ _ (fun i => ?_) k j).trans ?_
  · exact sitofp_zero (φ := .f32)
  by_cases h : k.val < 3
  · rw [dif_pos (by omega), if_pos h, val_main_v73_apply, val_main_v67_apply]
    have hj := j.isLt
    refine Eq.trans (at2 _ _ (ix2 (⟨k.val, h⟩ : Fin 3) j) ?_ ?_) (v62_at x0 x1 ⟨k.val, h⟩ j)
    · show ((k.val - 0) * 2048 + j.val) / 2048 % 3 = k.val
      omega
    · show ((k.val - 0) * 2048 + j.val) % 2048 = j.val
      omega
  · rw [dif_neg (by omega), if_neg h]

end Cert.MixBRead
-- ==== Proof.MixBPay.lean ====
module

public import proofs.«01_k».proof.Proof.Gen.MixBIdeal.Value
public import proofs.«01_k».proof.Proof.MixBRead
public import Idealize.ShloMosaic.Lib.Pipeline.ValueKit
public import Idealize.ShloMosaic.Lib.KernelVsHost
public import Idealize.ShloMosaic.Lib.WritesUnit

/-!
  The blocks of the gated convolution's backward at a grid point, and its two scratch buffers, element by element.
-/

@[expose] public section

set_option maxRecDepth 16384

noncomputable section

namespace Cert.MixBPay

open Cert.MixBIdeal Cert.MixBIdeal.Gen Cert.MixBIdeal.Value Idealize.ShloMosaic Idealize.ShloMosaic.TcCoe Idealize.SL.Sem
open Idealize.ShloMosaic.Pipeline (Dat)
open Cert.MixBRead (P C W Z E conv back dw at2 pad_rows)

/-- In a buffer filled by stores of whole rows, a row of the last store. -/
theorem canon_hit {n N K o : ℕ} (inb : ∀ a, (![o, 0] : Fin 2 → ℕ) a + (![n, K] : Fin 2 → ℕ) a ≤ (⟨2, ![N, K]⟩ : Shape).size a)
    (w : (⟨2, ![n, K]⟩ : Shape).Idx → EReal) (L : List (View.Piece (Elt Ideal) ⟨2, ![N, K]⟩ .f32)) (s : Fin N) (r : Fin n) (k : Fin K) (h : s.val = o + r.val) :
    View.canon (Val := Elt Ideal) (s := ⟨2, ![N, K]⟩) (e := .f32) (⟨Rect.unit ![o, 0] ![n, K] inb, w⟩ :: L) (ix2 s k) = w (ix2 r k) := by
  have e : (ix2 s k : (⟨2, ![N, K]⟩ : Shape).Idx) = (Rect.unit (s := ⟨2, ![N, K]⟩) ![o, 0] ![n, K] inb).emb (ix2 r k) := by
    funext a
    match a with
    | ⟨0, _⟩ => exact Fin.ext (show s.val = o + 1 * r.val by omega)
    | ⟨1, _⟩ => exact Fin.ext (show k.val = 0 + 1 * k.val by omega)
  rw [e]
  exact View.canon_cons_emb (Val := Elt Ideal) (s := ⟨2, ![N, K]⟩) (e := .f32) (Rect.unit ![o, 0] ![n, K] inb) w L (ix2 r k)

/-- A row the last store does not hold. -/
theorem canon_miss {n N K o : ℕ} (inb : ∀ a, (![o, 0] : Fin 2 → ℕ) a + (![n, K] : Fin 2 → ℕ) a ≤ (⟨2, ![N, K]⟩ : Shape).size a)
    (w : (⟨2, ![n, K]⟩ : Shape).Idx → EReal) (L : List (View.Piece (Elt Ideal) ⟨2, ![N, K]⟩ .f32)) (s : Fin N) (k : Fin K) (h : s.val < o ∨ o + n ≤ s.val) :
    View.canon (Val := Elt Ideal) (s := ⟨2, ![N, K]⟩) (e := .f32) (⟨Rect.unit ![o, 0] ![n, K] inb, w⟩ :: L) (ix2 s k) = View.canon L (ix2 s k) := by
  refine View.canon_cons_of_not_mem _ L fun hm => ?_
  have hm' : (ix2 s k : (⟨2, ![N, K]⟩ : Shape).Idx) ∈ (Rect.unit (s := ⟨2, ![N, K]⟩) ![o, 0] ![n, K] inb).set := hm
  rw [Rect.mem_set_unit] at hm'
  have hh := hm' (0 : Fin 2)
  have h1 : o ≤ s.val := hh.1
  have h2 : s.val < o + n := hh.2
  omega

/-- A product of two blocks with a row of weights each and their sum, at an index: one row of the sum over the positions. -/
theorem pay4_at (a b : FVec Ideal S256x512 .f32) (k : Fin 512) : k0_pay4 a b (ix2 0 k) = ∑ r : Fin 256, a (ix2 r k) * b (ix2 r k) := by
  pointwise [k0_pay4]
/-- The same for the second row. -/
theorem pay5_at (a b : FVec Ideal S256x512 .f32) (k : Fin 512) : k0_pay5 a b (ix2 0 k) = ∑ r : Fin 256, a (ix2 r k) * b (ix2 r k) :=
  pay4_at a b k
/-- The same for the third row. -/
theorem pay6_at (a b : FVec Ideal S256x512 .f32) (k : Fin 512) : k0_pay6 a b (ix2 0 k) = ∑ r : Fin 256, a (ix2 r k) * b (ix2 r k) :=
  pay4_at a b k
/-- The rows of zeros. -/
theorem pay7_at (j : S5x512.Idx) : k0_pay7 (F := Ideal) j = 0 := Ideal.ofBits_zero_f32
/-- A row added to what the row held. -/
theorem pay8_at (a b : FVec Ideal S256x512 .f32) (p : FVec Ideal S1x512 .f32) (k : Fin 512) :
    k0_pay8 a b p (ix2 0 k) = p (ix2 0 k) + ∑ r : Fin 256, a (ix2 r k) * b (ix2 r k) := by
  pointwise [k0_pay8, pay4_at]
/-- The same for the second row. -/
theorem pay9_at (a b : FVec Ideal S256x512 .f32) (p : FVec Ideal S1x512 .f32) (k : Fin 512) :
    k0_pay9 a b p (ix2 0 k) = p (ix2 0 k) + ∑ r : Fin 256, a (ix2 r k) * b (ix2 r k) := pay8_at a b p k
/-- The same for the third row. -/
theorem pay10_at (a b : FVec Ideal S256x512 .f32) (p : FVec Ideal S1x512 .f32) (k : Fin 512) :
    k0_pay10 a b p (ix2 0 k) = p (ix2 0 k) + ∑ r : Fin 256, a (ix2 r k) * b (ix2 r k) := pay8_at a b p k

/-- The rows before a block, where the block is the first: zeros. -/
theorem pay11_first (i : grid0.Coords) (a b : FVec Ideal S8x512 .f32) (j : S8x512.Idx)
    (h : Scalar.cmpi .sgt (BitVec.ofNat 32 (i 1).val) 0#32 = 0#1) : k0_pay11 (F := Ideal) i a b j = 0 := by
  unfold k0_pay11
  simp only [h]
  pointwise
/-- The rows before a block that is not the first. -/
theorem pay11_other (i : grid0.Coords) (a b : FVec Ideal S8x512 .f32) (j : S8x512.Idx)
    (h : Scalar.cmpi .sgt (BitVec.ofNat 32 (i 1).val) 0#32 = 1#1) : k0_pay11 (F := Ideal) i a b j = a j * b j := by
  unfold k0_pay11
  simp only [h]
  pointwise
/-- A block of the convolution's input. -/
theorem pay12_at (a b : FVec Ideal S256x512 .f32) (j : S256x512.Idx) : k0_pay12 a b j = a j * b j := by
  pointwise [k0_pay12]
/-- A row of weights. -/
theorem pay15_at (w : FVec Ideal S8x512 .f32) (k : Fin 512) : k0_pay15 w (ix2 0 k) = w (ix2 0 k) := by
  pointwise [k0_pay15, k0_pay14]
/-- A row of weights. -/
theorem pay16_at (w : FVec Ideal S8x512 .f32) (k : Fin 512) : k0_pay16 w (ix2 0 k) = w (ix2 1 k) := by
  pointwise [k0_pay16, k0_pay14]
/-- A row of weights. -/
theorem pay17_at (w : FVec Ideal S8x512 .f32) (k : Fin 512) : k0_pay17 w (ix2 0 k) = w (ix2 2 k) := by
  pointwise [k0_pay17, k0_pay14]
/-- The gradient of the gate. -/
theorem pay18_at (w0 w1 w2 : FVec Ideal S1x512 .f32) (d z0 z1 z2 : FVec Ideal S256x512 .f32) (r : Fin 256) (k : Fin 512) :
    k0_pay18 w0 w1 w2 d z0 z1 z2 (ix2 r k) = d (ix2 r k) * (z0 (ix2 r k) * w0 (ix2 0 k) + z1 (ix2 r k) * w1 (ix2 0 k) + z2 (ix2 r k) * w2 (ix2 0 k)) := by
  pointwise [k0_pay18]
/-- The cotangent of the convolution. -/
theorem pay19_at (a b : FVec Ideal S256x512 .f32) (j : S256x512.Idx) : k0_pay19 a b j = a j * b j := by
  pointwise [k0_pay19]
/-- The cotangent of the convolution, as it is stored. -/
theorem pay20_at (a b : FVec Ideal S256x512 .f32) (j : S256x512.Idx) : k0_pay20 a b j = a j * b j := by
  pointwise [k0_pay20, pay19_at]
/-- The rows after the last block: zeros. -/
theorem pay21_last (x : BitVec 1) (a b : FVec Ideal S8x512 .f32) (j : S8x512.Idx) (h : x = 1#1) : k0_pay21 (F := Ideal) x a b j = 0 := by
  subst h
  pointwise [k0_pay21]
/-- The rows after a block that is not the last. -/
theorem pay21_other (x : BitVec 1) (a b : FVec Ideal S8x512 .f32) (j : S8x512.Idx) (h : x = 0#1) : k0_pay21 (F := Ideal) x a b j = a j * b j := by
  subst h
  pointwise [k0_pay21]
/-- The gradient of the first factor. -/
theorem pay2_at (h : FVec Ideal S256x512 .f32) (w0 w1 w2 : FVec Ideal S1x512 .f32) (z0 z1 z2 : FVec Ideal S256x512 .f32) (r : Fin 256) (k : Fin 512) :
    k0_pay2 h w0 (k0_pay22 w1 w2 z0 z1) z2 (ix2 r k)
      = (z0 (ix2 r k) * w2 (ix2 0 k) + z1 (ix2 r k) * w1 (ix2 0 k) + z2 (ix2 r k) * w0 (ix2 0 k)) * h (ix2 r k) := by
  pointwise [k0_pay2, k0_pay1, k0_pay22]
/-- The gradient of the second factor. -/
theorem pay3_at (h : FVec Ideal S256x512 .f32) (w0 w1 w2 : FVec Ideal S1x512 .f32) (z0 z1 z2 : FVec Ideal S256x512 .f32) (r : Fin 256) (k : Fin 512) :
    k0_pay3 h w0 (k0_pay22 w1 w2 z0 z1) z2 (ix2 r k)
      = (z0 (ix2 r k) * w2 (ix2 0 k) + z1 (ix2 r k) * w1 (ix2 0 k) + z2 (ix2 r k) * w0 (ix2 0 k)) * h (ix2 r k) := by
  pointwise [k0_pay3, k0_pay1, k0_pay22]

/-- Where the blocks of a grid point lie. -/
theorem idx_val : ∀ t : Fin cfg0.N, win0_0.index t = ![t.val % 16, t.val / 16 + 8]
    ∧ win0_1.index t = ![min (t.val % 16 * 32 + 32) 511, t.val / 16 + 8]
    ∧ win0_2.index t = ![t.val % 16, t.val / 16 + 12]
    ∧ win0_3.index t = ![t.val % 16 * 32 - 1, t.val / 16 + 12]
    ∧ win0_5.index t = ![t.val % 16, t.val / 16 + 16]
    ∧ win0_6.index t = ![t.val % 16 * 32 - 1, t.val / 16 + 16]
    ∧ win0_8.index t = ![t.val % 16, t.val / 16 + 4]
    ∧ win0_9.index t = ![min (t.val % 16 * 32 + 32) 511, t.val / 16 + 4]
    ∧ win0_10.index t = ![0, t.val / 16]
    ∧ win0_11.index t = ![t.val % 16, t.val / 16]
    ∧ win0_12.index t = ![t.val % 16, t.val / 16]
    ∧ win0_13.index t = ![t.val % 16, t.val / 16]
    ∧ win0_14.index t = ![0, t.val / 16] :=
  (by decide +kernel : ∀ t : Fin grid0.N, _)

/-- Whether a grid point's block of rows is the first or the last. -/
theorem ends : ∀ t : Fin cfg0.N,
    (t.val % 16 = 0 → Scalar.cmpi .sgt (BitVec.ofNat 32 (grid0.coords t 1).val) 0#32 = 0#1)
    ∧ (1 ≤ t.val % 16 → Scalar.cmpi .sgt (BitVec.ofNat 32 (grid0.coords t 1).val) 0#32 = 1#1)
    ∧ (t.val % 16 = 15 → Scalar.cmpi .eq (BitVec.ofNat 32 (grid0.coords t 1).val) 15#32 = 1#1)
    ∧ (t.val % 16 < 15 → Scalar.cmpi .eq (BitVec.ofNat 32 (grid0.coords t 1).val) 15#32 = 0#1) :=
  (by decide +kernel : ∀ t : Fin grid0.N, _)

variable (m : (ℓ : Loc nD τ sig) → Buf (Elt Ideal) ℓ) (c : Dev nD)

/-- The projection. -/
abbrev X0 : FVec Ideal S4096x10240 .f32 := m ((c : Thread nD τ).loc main_arg0)
/-- The cotangent of the mixer's output. -/
abbrev X1 : FVec Ideal S4096x4096 .f32 := m ((c : Thread nD τ).loc main_arg1)
/-- The convolution's weights. -/
abbrev X2 : FVec Ideal S1x3x2048 .f32 := m ((c : Thread nD τ).loc main_arg2)

/-- Row `r` of a grid point's block. -/
def row (t : Fin cfg0.N) (r : Fin 256) : Fin 4096 := ⟨t.val % 16 * 256 + r.val, by have := r.isLt; omega⟩
/-- Column `k` of a grid point's block. -/
def col (t : Fin cfg0.N) (k : Fin 512) : Fin 2048 := ⟨t.val / 16 * 512 + k.val, by have ht : t.val < 64 := t.isLt; have := k.isLt; omega⟩
/-- Row `r` of the eight rows before a grid point's block. -/
def rowB (t : Fin cfg0.N) (r : Fin 8) : Fin 4096 := ⟨(t.val % 16 * 32 - 1) * 8 + r.val, by have := r.isLt; omega⟩
/-- Row `r` of the eight rows after a grid point's block. -/
def rowA (t : Fin cfg0.N) (r : Fin 8) : Fin 4096 := ⟨min (t.val % 16 * 32 + 32) 511 * 8 + r.val, by have := r.isLt; omega⟩

/-- The gate's block. -/
theorem blk0_at (t : Fin cfg0.N) (r : Fin 256) (k : Fin 512) :
    (iblk m c 0 t : FVec Ideal S256x512 .f32) (ix2 r k) = P (X0 m c) 4096 (by omega) (row t r) (col t k) := by
  blk_point [iblk, V, idx_val t] <;> first | rfl | (unfold col; simp only []; omega)
/-- The gate's rows after the block. -/
theorem blk1_at (t : Fin cfg0.N) (r : Fin 8) (k : Fin 512) :
    (iblk m c 1 t : FVec Ideal S8x512 .f32) (ix2 r k) = P (X0 m c) 4096 (by omega) (rowA t r) (col t k) := by
  blk_point [iblk, V, idx_val t] <;> first | rfl | (unfold col; simp only []; omega)
/-- The first factor's block. -/
theorem blk2_at (t : Fin cfg0.N) (r : Fin 256) (k : Fin 512) :
    (iblk m c 2 t : FVec Ideal S256x512 .f32) (ix2 r k) = P (X0 m c) 6144 (by omega) (row t r) (col t k) := by
  blk_point [iblk, V, idx_val t] <;> first | rfl | (unfold col; simp only []; omega)
/-- The first factor's rows before the block. -/
theorem blk3_at (t : Fin cfg0.N) (r : Fin 8) (k : Fin 512) :
    (iblk m c 3 t : FVec Ideal S8x512 .f32) (ix2 r k) = P (X0 m c) 6144 (by omega) (rowB t r) (col t k) := by
  blk_point [iblk, V, idx_val t] <;> first | rfl | (unfold col; simp only []; omega)
/-- The second factor's block. -/
theorem blk5_at (t : Fin cfg0.N) (r : Fin 256) (k : Fin 512) :
    (iblk m c 5 t : FVec Ideal S256x512 .f32) (ix2 r k) = P (X0 m c) 8192 (by omega) (row t r) (col t k) := by
  blk_point [iblk, V, idx_val t] <;> first | rfl | (unfold col; simp only []; omega)
/-- The second factor's rows before the block. -/
theorem blk6_at (t : Fin cfg0.N) (r : Fin 8) (k : Fin 512) :
    (iblk m c 6 t : FVec Ideal S8x512 .f32) (ix2 r k) = P (X0 m c) 8192 (by omega) (rowB t r) (col t k) := by
  blk_point [iblk, V, idx_val t] <;> first | rfl | (unfold col; simp only []; omega)
/-- The cotangent's block. -/
theorem blk8_at (t : Fin cfg0.N) (r : Fin 256) (k : Fin 512) :
    (iblk m c 8 t : FVec Ideal S256x512 .f32) (ix2 r k) = C (X1 m c) (row t r) (col t k) := by
  blk_point [iblk, V, idx_val t] <;> first | rfl | (unfold col; simp only []; omega)
/-- The cotangent's rows after the block. -/
theorem blk9_at (t : Fin cfg0.N) (r : Fin 8) (k : Fin 512) :
    (iblk m c 9 t : FVec Ideal S8x512 .f32) (ix2 r k) = C (X1 m c) (rowA t r) (col t k) := by
  blk_point [iblk, V, idx_val t] <;> first | rfl | (unfold col; simp only []; omega)

/-- The weights as the call gets them: five rows of zeros under the three. -/
theorem weights (i : S8x2048.Idx) : (V m c main_v1 : FVec Ideal S8x2048 .f32) i
    = pad S8x2048 ![0, 0] ![5, 0] ![0, 0] (shapeCast S3x2048 (X2 m c) shapeCasts_S1x3x2048_S3x2048) (sitofp (F := Ideal) .f32 (constantI S_ 32 0#32)) pads_S3x2048_S8x2048_050_000 h_S_ i := by
  rfl

/-- A row of weights in the call's block. -/
theorem blk10_at (t : Fin cfg0.N) (a : Fin 3) (k : Fin 512) :
    (iblk m c 10 t : FVec Ideal S8x512 .f32) (ix2 (⟨a.val, by omega⟩ : Fin 8) k) = W (X2 m c) a (col t k) := by
  have e : (iblk m c 10 t : FVec Ideal S8x512 .f32) (ix2 (⟨a.val, by omega⟩ : Fin 8) k) = (V m c main_v1 : FVec Ideal S8x2048 .f32) (ix2 (⟨a.val, by omega⟩ : Fin 8) (col t k)) := by
    blk_point [iblk, idx_val t] <;> rfl
  rw [e, weights]
  refine (pad_rows _ _ _ _ (fun i => sitofp_zero (φ := .f32)) _ _).trans ?_
  have ha := a.isLt
  have hk := (col t k).isLt
  rw [dif_pos (show 0 ≤ a.val ∧ a.val - 0 < 3 by omega)]
  exact shapeCast_apply (X2 m c) shapeCasts_S1x3x2048_S3x2048 _ (ix3 0 a (col t k))
    (by rewrite [Shape.rowMajor_val_three, Shape.rowMajor_val_two]; show (0 * 3 + a.val) * 2048 + (col t k).val = (a.val - 0) * 2048 + (col t k).val; omega)

/-- The cotangent of the convolution at a row of a grid point's block. -/
theorem E_row (t : Fin cfg0.N) (r : Fin 256) (k : Fin 512) :
    (fun a b : EReal => a * b) ((iblk m c 8 t : FVec Ideal S256x512 .f32) (ix2 r k)) ((iblk m c 0 t : FVec Ideal S256x512 .f32) (ix2 r k))
      = E (X0 m c) (X1 m c) (t.val % 16 * 256 + r.val) (col t k) := by
  refine (congrArg₂ (fun a b : EReal => a * b) (blk8_at m c t r k) (blk0_at m c t r k)).trans ?_
  unfold E
  split
  · rfl
  · rename_i h
    exact absurd (row t r).isLt h

/-- The first scratch buffer holds the rows of the convolution's input that a block reads. -/
theorem ext_at (t : Fin cfg0.N) {κ : Kind} {sp : Space} (v : View sig κ sp S272x512 .f32) (d : ℕ) (hd : d ≤ 2)
    (inb : ∀ a, (![6 + d, 0] : Fin 2 → ℕ) a + (![256, 512] : Fin 2 → ℕ) a ≤ S272x512.size a) (r : Fin 256) (k : Fin 512) :
    v.readCov (Val := Elt Ideal)
        [⟨Rect.unit ![264, 0] ![8, 512] inb_S272x512_S8x512_264_0, k0_pay13 (iblk m c 4 t) (iblk m c 7 t)⟩,
          ⟨Rect.unit ![8, 0] ![256, 512] inb_S272x512_S256x512_8_0, k0_pay12 (iblk m c 2 t) (iblk m c 5 t)⟩,
          ⟨Rect.unit ![0, 0] ![8, 512] inb_S272x512_S8x512_0_0, k0_pay11 (grid0.coords t) (iblk m c 3 t) (iblk m c 6 t)⟩]
        (Rect.unit (s := S272x512) ![6 + d, 0] ![256, 512] inb).toLoadRect (ix2 r k)
      = Z (X0 m c) (t.val % 16 * 256 + r.val + d) (col t k) := by
  have hr := r.isLt
  have hk := k.isLt
  rw [View.readCov_eq_canon']
  have e : (Rect.unit (s := S272x512) ![6 + d, 0] ![256, 512] inb).toLoadRect.idx (ix2 r k) = (ix2 (⟨6 + d + r.val, by omega⟩ : Fin 272) k : S272x512.Idx) := by
    funext a
    match a with
    | ⟨0, _⟩ => exact Fin.ext (show 6 + d + 1 * r.val = 6 + d + r.val by omega)
    | ⟨1, _⟩ => exact Fin.ext (show 0 + 1 * k.val = k.val by omega)
  refine (congrArg (View.canon _) e).trans ?_
  refine (canon_miss _ _ _ _ _ (Or.inl (show 6 + d + r.val < 264 by omega))).trans ?_
  by_cases h8 : 8 ≤ 6 + d + r.val
  · refine (canon_hit _ _ _ _ (⟨6 + d + r.val - 8, by omega⟩ : Fin 256) k (show 6 + d + r.val = 8 + (6 + d + r.val - 8) by omega)).trans ?_
    refine (pay12_at ..).trans ?_
    rw [blk2_at, blk5_at]
    unfold Z
    rw [dif_pos (show 2 ≤ t.val % 16 * 256 + r.val + d ∧ t.val % 16 * 256 + r.val + d - 2 < 4096 by omega)]
    have er : row t ⟨6 + d + r.val - 8, by omega⟩ = (⟨t.val % 16 * 256 + r.val + d - 2, by omega⟩ : Fin 4096) :=
      Fin.ext (show t.val % 16 * 256 + (6 + d + r.val - 8) = t.val % 16 * 256 + r.val + d - 2 by omega)
    rw [er]
  · refine (canon_miss _ _ _ _ _ (Or.inl (show 6 + d + r.val < 8 by omega))).trans ?_
    refine (canon_hit _ _ _ _ (⟨6 + d + r.val, by omega⟩ : Fin 8) k (show 6 + d + r.val = 0 + (6 + d + r.val) by omega)).trans ?_
    unfold Z
    rcases Nat.eq_zero_or_pos (t.val % 16) with h | h
    · refine (pay11_first _ _ _ _ ((ends t).1 h)).trans ?_
      rw [dif_neg (by omega)]
    · refine (pay11_other _ _ _ _ ((ends t).2.1 h)).trans ?_
      rw [blk3_at, blk6_at]
      rw [dif_pos (show 2 ≤ t.val % 16 * 256 + r.val + d ∧ t.val % 16 * 256 + r.val + d - 2 < 4096 by omega)]
      have er : rowB t ⟨6 + d + r.val, by omega⟩ = (⟨t.val % 16 * 256 + r.val + d - 2, by omega⟩ : Fin 4096) :=
        Fin.ext (show (t.val % 16 * 32 - 1) * 8 + (6 + d + r.val) = t.val % 16 * 256 + r.val + d - 2 by omega)
      rw [er]

/-- The second scratch buffer holds the rows of the convolution's cotangent that a block reads. -/
theorem dze_at (t : Fin cfg0.N) {κ : Kind} {sp : Space} (v : View sig κ sp S264x512 .f32) (d : ℕ) (hd : d ≤ 2)
    (inb : ∀ a, (![d, 0] : Fin 2 → ℕ) a + (![256, 512] : Fin 2 → ℕ) a ≤ S264x512.size a) (r : Fin 256) (k : Fin 512) :
    v.readCov (Val := Elt Ideal)
        [⟨Rect.unit ![256, 0] ![8, 512] inb_S264x512_S8x512_256_0,
            k0_pay21 (Scalar.cmpi CmpIPredicate.eq (BitVec.ofNat 32 (grid0.coords t 1).val) 15#32) (iblk m c 9 t) (iblk m c 1 t)⟩,
          ⟨Rect.unit ![0, 0] ![256, 512] inb_S264x512_S256x512_0_0, k0_pay20 (iblk m c 8 t) (iblk m c 0 t)⟩]
        (Rect.unit (s := S264x512) ![d, 0] ![256, 512] inb).toLoadRect (ix2 r k)
      = E (X0 m c) (X1 m c) (t.val % 16 * 256 + r.val + d) (col t k) := by
  have hr := r.isLt
  have hk := k.isLt
  rw [View.readCov_eq_canon']
  have e : (Rect.unit (s := S264x512) ![d, 0] ![256, 512] inb).toLoadRect.idx (ix2 r k) = (ix2 (⟨d + r.val, by omega⟩ : Fin 264) k : S264x512.Idx) := by
    funext a
    match a with
    | ⟨0, _⟩ => exact Fin.ext (show d + 1 * r.val = d + r.val by omega)
    | ⟨1, _⟩ => exact Fin.ext (show 0 + 1 * k.val = k.val by omega)
  refine (congrArg (View.canon _) e).trans ?_
  by_cases h8 : 256 ≤ d + r.val
  · refine (canon_hit _ _ _ _ (⟨d + r.val - 256, by omega⟩ : Fin 8) k (show d + r.val = 256 + (d + r.val - 256) by omega)).trans ?_
    unfold E
    by_cases h : t.val % 16 = 15
    · refine (pay21_last _ _ _ _ ((ends t).2.2.1 h)).trans ?_
      rw [dif_neg (by omega)]
    · refine (pay21_other _ _ _ _ ((ends t).2.2.2 (by omega))).trans ?_
      rw [blk9_at, blk1_at]
      rw [dif_pos (show t.val % 16 * 256 + r.val + d < 4096 by omega)]
      have er : rowA t ⟨d + r.val - 256, by omega⟩ = (⟨t.val % 16 * 256 + r.val + d, by omega⟩ : Fin 4096) :=
        Fin.ext (show min (t.val % 16 * 32 + 32) 511 * 8 + (d + r.val - 256) = t.val % 16 * 256 + r.val + d by omega)
      rw [er]
  · refine (canon_miss _ _ _ _ _ (Or.inl (show d + r.val < 256 by omega))).trans ?_
    refine (canon_hit _ _ _ _ (⟨d + r.val, by omega⟩ : Fin 256) k (show d + r.val = 0 + (d + r.val) by omega)).trans ?_
    refine (pay20_at ..).trans ?_
    refine (E_row ..).trans ?_
    exact congrArg (fun n => E (X0 m c) (X1 m c) n (col t k)) (show t.val % 16 * 256 + (d + r.val) = t.val % 16 * 256 + r.val + d by omega)

end Cert.MixBPay
-- ==== Proof.MixBAlg.lean ====
module

public import proofs.«01_k».proof.Proof.MixBPay
public import proofs.«01_k».proof.Proof.MixBRead
public import proofs.«01_k».proof.Proof.Gen.MixBRefIdeal.Run
public import proofs.«01_k».proof.Defs
public import Idealize.ShloMosaic.Lib.Pipeline.ValueKit
public import Idealize.ShloMosaic.Lib.Claim

/-!
  The gated convolution's backward: each result array of the call is the reference's.
-/

@[expose] public section

set_option maxRecDepth 16384

noncomputable section

namespace Cert.MixBAlg

open Cert.MixBIdeal Cert.MixBIdeal.Gen Cert.MixBIdeal.Value Idealize.ShloMosaic Idealize.ShloMosaic.TcCoe Idealize.SL.Sem
open Idealize.ShloMosaic.Pipeline (Dat)
open Cert.MixBRead (P C W Z E conv back dw)
open Cert.MixBPay

/-- An index of a matrix is the pair of its two coordinates. -/
theorem pair_eq {n k : ℕ} (i : (⟨2, ![n, k]⟩ : Shape).Idx) : ix2 (i 0) (i 1) = i := by
  funext a
  match a with
  | ⟨0, _⟩ => rfl
  | ⟨1, _⟩ => rfl

/-- A combination of three terms, rewritten in its six parts. -/
theorem three {z0 z1 z2 w0 w1 w2 z0' z1' z2' w0' w1' w2' : EReal} (h0 : z0 = z0') (g0 : w0 = w0') (h1 : z1 = z1') (g1 : w1 = w1')
    (h2 : z2 = z2') (g2 : w2 = w2') : z0 * w0 + z1 * w1 + z2 * w2 = z0' * w0' + z1' * w1' + z2' * w2' := by
  rw [h0, g0, h1, g1, h2, g2]

variable (m : (ℓ : Loc nD τ sig) → Buf (Elt Ideal) ℓ) (c : Dev nD)

/-- The weights' rows in the block. -/
theorem w0_at (t : Fin cfg0.N) (k : Fin 512) : k0_pay15 (iblk m c 10 t) (ix2 0 k) = W (X2 m c) 0 (col t k) :=
  (pay15_at _ k).trans (blk10_at m c t 0 k)
/-- The second row. -/
theorem w1_at (t : Fin cfg0.N) (k : Fin 512) : k0_pay16 (iblk m c 10 t) (ix2 0 k) = W (X2 m c) 1 (col t k) :=
  (pay16_at _ k).trans (blk10_at m c t 1 k)
/-- The third row. -/
theorem w2_at (t : Fin cfg0.N) (k : Fin 512) : k0_pay17 (iblk m c 10 t) (ix2 0 k) = W (X2 m c) 2 (col t k) :=
  (pay17_at _ k).trans (blk10_at m c t 2 k)

/-- What a grid point leaves in the gate's gradient. -/
theorem out11 (t : Fin cfg0.N) (r : Fin 256) (k : Fin 512) : (outsAt0 m c t.val t.isLt).1 (ix2 r k)
    = C (X1 m c) (row t r) (col t k) * conv (X0 m c) (X2 m c) (row t r).val (col t k) := by
  rcases Nat.eq_zero_or_pos (t.val % 16) with h | h
  · rw [outsAt0_A m c t h (by omega)]
    frame_out
    refine (pay18_at ..).trans (congrArg₂ (fun a b : EReal => a * b) (blk8_at ..) ?_)
    exact three (ext_at m c t _ 0 (by omega) _ r k) (w0_at ..) (ext_at m c t _ 1 (by omega) _ r k) (w1_at ..) (ext_at m c t _ 2 (by omega) _ r k) (w2_at ..)
  · rw [outsAt0_B m c t (by omega) h]
    frame_out
    refine (pay18_at ..).trans (congrArg₂ (fun a b : EReal => a * b) (blk8_at ..) ?_)
    exact three (ext_at m c t _ 0 (by omega) _ r k) (w0_at ..) (ext_at m c t _ 1 (by omega) _ r k) (w1_at ..) (ext_at m c t _ 2 (by omega) _ r k) (w2_at ..)

/-- What a grid point leaves in the first factor's gradient. -/
theorem out12 (t : Fin cfg0.N) (r : Fin 256) (k : Fin 512) : (outsAt0 m c t.val t.isLt).2.1 (ix2 r k)
    = back (X0 m c) (X1 m c) (X2 m c) (row t r).val (col t k) * P (X0 m c) 8192 (by omega) (row t r) (col t k) := by
  rcases Nat.eq_zero_or_pos (t.val % 16) with h | h
  · rw [outsAt0_A m c t h (by omega)]
    frame_out
    refine (pay2_at ..).trans (congrArg₂ (fun a b : EReal => a * b) ?_ (blk5_at ..))
    exact three (dze_at m c t _ 0 (by omega) _ r k) (w2_at ..) (dze_at m c t _ 1 (by omega) _ r k) (w1_at ..) (dze_at m c t _ 2 (by omega) _ r k) (w0_at ..)
  · rw [outsAt0_B m c t (by omega) h]
    frame_out
    refine (pay2_at ..).trans (congrArg₂ (fun a b : EReal => a * b) ?_ (blk5_at ..))
    exact three (dze_at m c t _ 0 (by omega) _ r k) (w2_at ..) (dze_at m c t _ 1 (by omega) _ r k) (w1_at ..) (dze_at m c t _ 2 (by omega) _ r k) (w0_at ..)

/-- What a grid point leaves in the second factor's gradient. -/
theorem out13 (t : Fin cfg0.N) (r : Fin 256) (k : Fin 512) : (outsAt0 m c t.val t.isLt).2.2.1 (ix2 r k)
    = back (X0 m c) (X1 m c) (X2 m c) (row t r).val (col t k) * P (X0 m c) 6144 (by omega) (row t r) (col t k) := by
  rcases Nat.eq_zero_or_pos (t.val % 16) with h | h
  · rw [outsAt0_A m c t h (by omega)]
    frame_out
    refine (pay3_at ..).trans (congrArg₂ (fun a b : EReal => a * b) ?_ (blk2_at ..))
    exact three (dze_at m c t _ 0 (by omega) _ r k) (w2_at ..) (dze_at m c t _ 1 (by omega) _ r k) (w1_at ..) (dze_at m c t _ 2 (by omega) _ r k) (w0_at ..)
  · rw [outsAt0_B m c t (by omega) h]
    frame_out
    refine (pay3_at ..).trans (congrArg₂ (fun a b : EReal => a * b) ?_ (blk2_at ..))
    exact three (dze_at m c t _ 0 (by omega) _ r k) (w2_at ..) (dze_at m c t _ 1 (by omega) _ r k) (w1_at ..) (dze_at m c t _ 2 (by omega) _ r k) (w0_at ..)

/-- A grid point's part of the weights' gradient. -/
def part (t : Fin cfg0.N) (d : ℕ) (k : Fin 512) : EReal :=
  ∑ r : Fin 256, E (X0 m c) (X1 m c) (t.val % 16 * 256 + r.val) (col t k) * Z (X0 m c) (t.val % 16 * 256 + r.val + d) (col t k)

/-- The same in the block of eight rows: zeros under the three. -/
def term (t : Fin cfg0.N) (y : S8x512.Idx) : EReal := if (y 0).val < 3 then part m c t (y 0).val (y 1) else 0

/-- The block's part at a pair of coordinates. -/
theorem term_at (t : Fin cfg0.N) (a : Fin 8) (k : Fin 512) : term m c t (ix2 a k) = if a.val < 3 then part m c t a.val k else 0 := rfl

/-- A grid point's part, from its blocks and the first scratch buffer. -/
theorem part_eq (t : Fin cfg0.N) {κ : Kind} {sp : Space} (v : View sig κ sp S272x512 .f32) (d : ℕ) (hd : d ≤ 2)
    (inb : ∀ a, (![6 + d, 0] : Fin 2 → ℕ) a + (![256, 512] : Fin 2 → ℕ) a ≤ S272x512.size a) (k : Fin 512) :
    (∑ r : Fin 256, (fun a b : EReal => a * b) (k0_pay19 (iblk m c 8 t) (iblk m c 0 t) (ix2 r k))
      (v.readCov (Val := Elt Ideal)
        [⟨Rect.unit ![264, 0] ![8, 512] inb_S272x512_S8x512_264_0, k0_pay13 (iblk m c 4 t) (iblk m c 7 t)⟩,
          ⟨Rect.unit ![8, 0] ![256, 512] inb_S272x512_S256x512_8_0, k0_pay12 (iblk m c 2 t) (iblk m c 5 t)⟩,
          ⟨Rect.unit ![0, 0] ![8, 512] inb_S272x512_S8x512_0_0, k0_pay11 (grid0.coords t) (iblk m c 3 t) (iblk m c 6 t)⟩]
        (Rect.unit (s := S272x512) ![6 + d, 0] ![256, 512] inb).toLoadRect (ix2 r k))) = part m c t d k :=
  Finset.sum_congr rfl fun r _ => congrArg₂ (fun a b : EReal => a * b) ((pay19_at ..).trans (E_row m c t r k)) (ext_at m c t v d hd inb r k)

/-- The first grid point of a column of blocks leaves its own part. -/
theorem out14_first (t : Fin cfg0.N) (h : t.val % 16 = 0) (a : Fin 8) (k : Fin 512) :
    (outsAt0 m c t.val t.isLt).2.2.2 (ix2 a k) = term m c t (ix2 a k) := by
  rw [outsAt0_A m c t h (by omega)]
  frame_out
  rw [term_at]
  have ha := a.isLt
  by_cases h3 : 3 ≤ a.val
  · refine (canon_hit _ _ _ a (⟨a.val - 3, by omega⟩ : Fin 5) k (show a.val = 3 + (a.val - 3) by omega)).trans ?_
    rw [if_neg (show ¬a.val < 3 by omega)]
    exact pay7_at _
  refine (canon_miss _ _ _ _ _ (Or.inl (show a.val < 3 by omega))).trans ?_
  rw [if_pos (show a.val < 3 by omega)]
  by_cases h2 : a.val = 2
  · refine (canon_hit _ _ _ a (0 : Fin 1) k (show a.val = 2 + 0 by omega)).trans ?_
    rw [h2]
    exact (pay6_at ..).trans (part_eq m c t _ 2 (by omega) _ k)
  refine (canon_miss _ _ _ _ _ (Or.inl (show a.val < 2 by omega))).trans ?_
  by_cases h1 : a.val = 1
  · refine (canon_hit _ _ _ a (0 : Fin 1) k (show a.val = 1 + 0 by omega)).trans ?_
    rw [h1]
    exact (pay5_at ..).trans (part_eq m c t _ 1 (by omega) _ k)
  refine (canon_miss _ _ _ _ _ (Or.inl (show a.val < 1 by omega))).trans ?_
  have h0 : a.val = 0 := by omega
  refine (canon_hit _ _ _ a (0 : Fin 1) k (show a.val = 0 + 0 by omega)).trans ?_
  rw [h0]
  exact (pay4_at ..).trans (part_eq m c t _ 0 (by omega) _ k)

/-- A store of one row is what a read of that row finds. -/
theorem row_hit {κ : Kind} {sp : Space} (v : View sig κ sp S8x512 .f32) (f : v.ty.Contents (Elt Ideal)) (o : ℕ)
    (inb : ∀ a, (![o, 0] : Fin 2 → ℕ) a + (![1, 512] : Fin 2 → ℕ) a ≤ S8x512.size a) (w : S1x512.Idx → EReal)
    (L : List (View.Piece (Elt Ideal) S8x512 .f32)) (a : Fin 8) (k : Fin 512) (h : a.val = o) :
    v.read (Elt Ideal) (v.writes (Elt Ideal) f (⟨Rect.unit (s := S8x512) ![o, 0] ![1, 512] inb, w⟩ :: L)) (ix2 a k) = w (ix2 0 k) :=
  View.read_writes_cons_rows_of_mem (o := o) v f inb w L (ix2 a k) (ix2 (0 : Fin 1) k) rfl (show a.val = o + 0 by omega) rfl

/-- A store of one row leaves the other rows. -/
theorem row_miss {κ : Kind} {sp : Space} (v : View sig κ sp S8x512 .f32) (f : v.ty.Contents (Elt Ideal)) (o : ℕ)
    (inb : ∀ a, (![o, 0] : Fin 2 → ℕ) a + (![1, 512] : Fin 2 → ℕ) a ≤ S8x512.size a) (w : S1x512.Idx → EReal)
    (L : List (View.Piece (Elt Ideal) S8x512 .f32)) (a : Fin 8) (k : Fin 512) (h : a.val ≠ o) :
    v.read (Elt Ideal) (v.writes (Elt Ideal) f (⟨Rect.unit (s := S8x512) ![o, 0] ![1, 512] inb, w⟩ :: L)) (ix2 a k)
      = v.read (Elt Ideal) (v.writes (Elt Ideal) f L) (ix2 a k) :=
  View.read_writes_cons_rows_of_not_mem (o := o) (W := 1) v f inb w L (ix2 a k) rfl rfl (show a.val < o ∨ o + 1 ≤ a.val by omega)

/-- A later grid point adds its part to what the point before left. -/
theorem out14_next (t : Fin cfg0.N) (h : 1 ≤ t.val % 16) (a : Fin 8) (k : Fin 512) :
    (outsAt0 m c t.val t.isLt).2.2.2 (ix2 a k)
      = (outsAt0 m c (t.val - 1) (Nat.lt_of_le_of_lt (Nat.sub_le _ _) t.isLt)).2.2.2 (ix2 a k) + term m c t (ix2 a k) := by
  rw [outsAt0_B m c t (by omega) h]
  frame_out
  rw [term_at]
  have ha := a.isLt
  by_cases h3 : 3 ≤ a.val
  · rw [if_neg (show ¬a.val < 3 by omega), add_zero]
    refine (row_miss _ _ 2 _ _ _ a k (by omega)).trans ?_
    refine (row_miss _ _ 1 _ _ _ a k (by omega)).trans ?_
    refine (row_miss _ _ 0 _ _ _ a k (by omega)).trans ?_
    exact congrFun (Memref.IsWhole.read_unread _ _) _
  rw [if_pos (show a.val < 3 by omega)]
  have ld : ∀ (x : FVec Ideal S8x512 .f32) (o : ℕ) (inb : ∀ a, (![o, 0] : Fin 2 → ℕ) a + (![1, 512] : Fin 2 → ℕ) a ≤ S8x512.size a) (ho : a.val = o),
      View.ld (Val := Elt Ideal) (S := S8x512) (e' := .f32) x (Rect.unit (s := S8x512) ![o, 0] ![1, 512] inb) (ix2 (0 : Fin 1) k) = x (ix2 a k) := fun x o inb ho =>
    View.ld_unit_apply_of (Val := Elt Ideal) (e := .f32) (S := S8x512) x _ _ inb (ix2 (0 : Fin 1) k) (ix2 a k) fun b => by
      match b with
      | ⟨0, _⟩ => exact (show a.val = o + 0 by omega)
      | ⟨1, _⟩ => exact (show k.val = 0 + k.val by omega)
  by_cases h2 : a.val = 2
  · refine (row_hit _ _ 2 _ _ _ a k h2).trans ?_
    refine (pay10_at ..).trans (congrArg₂ (fun a b : EReal => a + b) (ld _ 2 _ h2) ?_)
    rw [h2]
    exact part_eq m c t _ 2 (by omega) _ k
  refine (row_miss _ _ 2 _ _ _ a k (by omega)).trans ?_
  by_cases h1 : a.val = 1
  · refine (row_hit _ _ 1 _ _ _ a k h1).trans ?_
    refine (pay9_at ..).trans (congrArg₂ (fun a b : EReal => a + b) (ld _ 1 _ h1) ?_)
    rw [h1]
    exact part_eq m c t _ 1 (by omega) _ k
  refine (row_miss _ _ 1 _ _ _ a k (by omega)).trans ?_
  have h0 : a.val = 0 := by omega
  refine (row_hit _ _ 0 _ _ _ a k h0).trans ?_
  refine (pay8_at ..).trans (congrArg₂ (fun a b : EReal => a + b) (ld _ 0 _ h0) ?_)
  rw [h0]
  exact part_eq m c t _ 0 (by omega) _ k

/-- The array of the gate's gradients is the reference's. -/
theorem final11 : (dats m 0 c).arrAt 11 cfg0.N = Cert.MixBRefIdeal.Read.val_main_v70 (F := Ideal) (X0 m c) (X1 m c) (X2 m c) := by
  refine (dats m 0 c).arrAt_eq_of_covers 11 _ (by decide +kernel) fun t hf y => ?_
  have he : (((cfg0.win 11).blk t).view.emb y : S4096x2048.Idx) = ix2 (row t (y 0)) (col t (y 1)) := by
    blk_ext [idx_val t] <;> rfl
  refine Eq.trans ?_ (congrArg (Cert.MixBRefIdeal.Read.val_main_v70 (F := Ideal) (X0 m c) (X1 m c) (X2 m c)) he).symm
  refine Eq.trans ?_ (Cert.MixBRead.db_at ..).symm
  blk_simp
  rw [after0_11]
  exact (congrArg (outsAt0 m c t.val t.isLt).1 (pair_eq y).symm).trans (out11 m c t (y 0) (y 1))

/-- The array of the first factor's gradients is the reference's. -/
theorem final12 : (dats m 0 c).arrAt 12 cfg0.N = Cert.MixBRefIdeal.Read.val_main_v71 (F := Ideal) (X0 m c) (X1 m c) (X2 m c) := by
  refine (dats m 0 c).arrAt_eq_of_covers 12 _ (by decide +kernel) fun t hf y => ?_
  have he : (((cfg0.win 12).blk t).view.emb y : S4096x2048.Idx) = ix2 (row t (y 0)) (col t (y 1)) := by
    blk_ext [idx_val t] <;> rfl
  refine Eq.trans ?_ (congrArg (Cert.MixBRefIdeal.Read.val_main_v71 (F := Ideal) (X0 m c) (X1 m c) (X2 m c)) he).symm
  refine Eq.trans ?_ (Cert.MixBRead.dc_at ..).symm
  blk_simp
  rw [after0_12]
  exact (congrArg (outsAt0 m c t.val t.isLt).2.1 (pair_eq y).symm).trans (out12 m c t (y 0) (y 1))

/-- The array of the second factor's gradients is the reference's. -/
theorem final13 : (dats m 0 c).arrAt 13 cfg0.N = Cert.MixBRefIdeal.Read.val_main_v72 (F := Ideal) (X0 m c) (X1 m c) (X2 m c) := by
  refine (dats m 0 c).arrAt_eq_of_covers 13 _ (by decide +kernel) fun t hf y => ?_
  have he : (((cfg0.win 13).blk t).view.emb y : S4096x2048.Idx) = ix2 (row t (y 0)) (col t (y 1)) := by
    blk_ext [idx_val t] <;> rfl
  refine Eq.trans ?_ (congrArg (Cert.MixBRefIdeal.Read.val_main_v72 (F := Ideal) (X0 m c) (X1 m c) (X2 m c)) he).symm
  refine Eq.trans ?_ (Cert.MixBRead.dh_at ..).symm
  blk_simp
  rw [after0_13]
  exact (congrArg (outsAt0 m c t.val t.isLt).2.2.1 (pair_eq y).symm).trans (out13 m c t (y 0) (y 1))

/-- The parts of a column of blocks add up to the sum over all positions. -/
theorem parts (t : Fin cfg0.N) (hr : t.val % 16 = 16 - 1) (a : Fin 8) (k : Fin 512) :
    (∑ s : Fin 16, term m c ⟨16 * (t.val / 16) + s.val, Pipeline.run_point_lt_of_flush t hr s⟩ (ix2 a k))
      = if a.val < 3 then dw (X0 m c) (X1 m c) a.val (col t k) else 0 := by
  simp only [term_at]
  by_cases h : a.val < 3
  · rw [if_pos h]
    refine (Finset.sum_congr rfl fun s _ => if_pos h).trans ?_
    unfold part dw
    refine Fin.sum_mul_add_congr fun s r hl => ?_
    have hs := s.isLt
    have e1 : (16 * (t.val / 16) + s.val) % 16 = s.val := by omega
    have e2 : col ⟨16 * (t.val / 16) + s.val, Pipeline.run_point_lt_of_flush t hr s⟩ k = col t k :=
      Fin.ext (show (16 * (t.val / 16) + s.val) / 16 * 512 + k.val = t.val / 16 * 512 + k.val by omega)
    show E _ _ ((16 * (t.val / 16) + s.val) % 16 * 256 + r.val) _ * Z _ ((16 * (t.val / 16) + s.val) % 16 * 256 + r.val + a.val) _ = _
    rw [e1]
    exact congrArg (fun j => E (X0 m c) (X1 m c) (s.val * 256 + r.val) j * Z (X0 m c) (s.val * 256 + r.val + a.val) j) e2
  · rw [if_neg h]
    exact (Finset.sum_congr rfl fun s _ => if_neg h).trans Finset.sum_const_zero

/-- The array of the weights' gradients is the reference's. -/
theorem final14 : (dats m 0 c).arrAt 14 cfg0.N = Cert.MixBRefIdeal.Read.val_main_v74 (F := Ideal) (X0 m c) (X1 m c) := by
  refine (dats m 0 c).arrAt_eq_of_covers 14 _ (by decide +kernel) fun t hf y => ?_
  have he : (((cfg0.win 14).blk t).view.emb y : S8x2048.Idx) = ix2 (y 0) (col t (y 1)) := by
    blk_ext [idx_val t] <;> rfl
  refine Eq.trans ?_ (congrArg (Cert.MixBRefIdeal.Read.val_main_v74 (F := Ideal) (X0 m c) (X1 m c)) he).symm
  refine Eq.trans ?_ (Cert.MixBRead.dw_at ..).symm
  blk_simp
  rw [after0_14]
  refine Eq.trans ?_ (parts m c t ((flush0_14 t).mp hf) (y 0) (y 1))
  refine Eq.trans (congrArg (outsAt0 m c t.val t.isLt).2.2.2 (pair_eq y).symm) ?_
  refine (Pipeline.eq_sum_fin_of_reset_step_apply_of_flush (fun n h => (outsAt0 m c n h).2.2.2) 16 (fun _ => (0 : EReal))
    (fun t y => term m c t y)
    (fun t h j => ?_) (fun t h j => ?_) t ((flush0_14 t).mp hf) _).trans (zero_add _)
  · exact (congrArg (outsAt0 m c t.val t.isLt).2.2.2 (pair_eq j).symm).trans
      ((out14_first m c t h (j 0) (j 1)).trans ((congrArg (term m c t) (pair_eq j)).trans (zero_add _).symm))
  · exact (congrArg (outsAt0 m c t.val t.isLt).2.2.2 (pair_eq j).symm).trans
      ((out14_next m c t (by omega) (j 0) (j 1)).trans (congrArg₂ (fun a b : EReal => a + b) (congrArg _ (pair_eq j)) (congrArg (term m c t) (pair_eq j))))

/-- The gated convolution's backward: where both programs run from the same arguments, they end with the same four arrays of
    gradients. -/
theorem claim : Cert.algebraic_MixBIdeal_MixBRefIdeal (hMixBIdeal := Cert.MixBIdeal.Gen.facts)
    (hMixBRefIdeal := Cert.MixBRefIdeal.Gen.facts) := by
  intro m g m' g' hpre hargs
  refine ⟨fun c => (dats m 0 c).arrAt 11 cfg0.N, fun c => (dats m 0 c).arrAt 12 cfg0.N, fun c => (dats m 0 c).arrAt 13 cfg0.N,
    fun c => (dats m 0 c).arrAt 14 cfg0.N, run_blocks m g,
    (θ_run Cert.MixBRefIdeal.defs _ _).mono (fun r h c => ?_) (Cert.MixBRefIdeal.Value.run m' g')⟩
  obtain ⟨h1, h2, h3, h4, hr⟩ := h c
  obtain ⟨a0, a1, a2⟩ := hargs c
  refine ⟨h1.trans ((Cert.MixBRefIdeal.Read.val_main_v70_eq _ _ _).trans ?_), h2.trans ((Cert.MixBRefIdeal.Read.val_main_v71_eq _ _ _).trans ?_),
    h3.trans ((Cert.MixBRefIdeal.Read.val_main_v72_eq _ _ _).trans ?_), h4.trans ((Cert.MixBRefIdeal.Read.val_main_v74_eq _ _).trans ?_), hr⟩
  · rw [a0, a1, a2]
    exact (final11 m c).symm
  · rw [a0, a1, a2]
    exact (final12 m c).symm
  · rw [a0, a1, a2]
    exact (final13 m c).symm
  · rw [a0, a1]
    exact (final14 m c).symm

end Cert.MixBAlg
-- ==== Proof.MixBFwdAlg.lean ====
module

public import proofs.«01_k».proof.Proof.Gen.MixBFwdIdeal.Value
public import proofs.«01_k».proof.Proof.Gen.MixBFwdRefIdeal.Read
public import proofs.«01_k».proof.Proof.Gen.MixBFwdRefIdeal.Run
public import proofs.«01_k».proof.Defs
public import Idealize.ShloMosaic.Lib.Pipeline.ValueKit
public import Idealize.ShloMosaic.Lib.KernelVsHost
public import Idealize.ShloMosaic.Lib.WritesUnit
public import Idealize.ShloMosaic.Lib.Claim

/-!
  The gated convolution forward: the reference at an index, the call's blocks and its scratch buffer at an index, and the
  call's result array, which is the reference's.
-/

@[expose] public section

set_option maxRecDepth 16384

noncomputable section

namespace Cert.MixBFwdRead

open Cert.MixBFwdRefIdeal Cert.MixBFwdRefIdeal.Read Idealize.ShloMosaic Idealize.ShloMosaic.TcCoe Idealize.SL.Sem

/-- Two indices of a matrix with the same coordinates read the same entry. -/
theorem at2 {n k : ℕ} (x : (⟨2, ![n, k]⟩ : Shape).Idx → EReal) (i j : (⟨2, ![n, k]⟩ : Shape).Idx)
    (h0 : (i 0).val = (j 0).val) (h1 : (i 1).val = (j 1).val) : x i = x j := by
  refine congrArg x (funext fun a => ?_)
  match a with
  | ⟨0, _⟩ => exact Fin.ext h0
  | ⟨1, _⟩ => exact Fin.ext h1

/-- A matrix padded with rows of zeros, at an index. -/
theorem pad_rows {n N K p q : ℕ} (x : (⟨2, ![n, K]⟩ : Shape).Idx → EReal) (v : S_.Idx → EReal)
    (h : (⟨2, ![n, K]⟩ : Shape).Pads ![p, 0] ![q, 0] ![0, 0] ⟨2, ![N, K]⟩) (hu : 0 < S_.numel) (hv : ∀ i, v i = 0)
    (s : Fin N) (j : Fin K) :
    pad ⟨2, ![N, K]⟩ ![p, 0] ![q, 0] ![0, 0] x v h hu (ix2 s j) = if hs : p ≤ s.val ∧ s.val - p < n then x (ix2 ⟨s.val - p, hs.2⟩ j) else 0 := by
  by_cases hs : p ≤ s.val ∧ s.val - p < n
  · rw [dif_pos hs]
    refine pad_apply_of_inside _ _ _ x v h hu _ _ fun a => ?_
    match a with
    | ⟨0, _⟩ => show s.val = p + (s.val - p) * (0 + 1); omega
    | ⟨1, _⟩ => show j.val = 0 + j.val * (0 + 1); omega
  · rw [dif_neg hs]
    refine (pad_apply_of_not_inside _ _ _ x v h hu _ 0 fun ha => hs ?_).trans (hv _)
    have e1 : p ≤ s.val := ha.1
    have e2 : (s.val - p) / (0 + 1) < n := ha.2.2
    exact ⟨e1, by omega⟩

variable (x0 : FVec Ideal S4096x10240 .f32) (x2 : FVec Ideal S1x3x2048 .f32)

/-- The entry at row `s`, column `j` of the projection's part that begins at column `o`. -/
def P (o : ℕ) (ho : o ≤ 8192) (s : Fin 4096) (j : Fin 2048) : EReal := x0 (ix2 s ⟨o + j.val, by have := j.isLt; omega⟩)

/-- The convolution's weights. -/
def W (k : Fin 3) (j : Fin 2048) : EReal := x2 (ix3 0 k j)

/-- The convolution's input with two rows of zeros before it. -/
def Z (n : ℕ) (j : Fin 2048) : EReal :=
  if h : 2 ≤ n ∧ n - 2 < 4096 then P x0 6144 (by omega) ⟨n - 2, h.2⟩ j * P x0 8192 (by omega) ⟨n - 2, h.2⟩ j else 0

/-- The convolution. -/
def conv (s : ℕ) (j : Fin 2048) : EReal := Z x0 s j * W x2 0 j + Z x0 (s + 1) j * W x2 1 j + Z x0 (s + 2) j * W x2 2 j

/-- The gate's columns of the projection. -/
theorem v2_at (s : Fin 4096) (j : Fin 2048) : val_main_v2 (F := Ideal) x0 (ix2 s j) = P x0 4096 (by omega) s j := by
  rw [val_main_v2_apply]; exact at2 _ _ _ rfl rfl

/-- The first factor's columns of the projection. -/
theorem v3_at (s : Fin 4096) (j : Fin 2048) : val_main_v3 (F := Ideal) x0 (ix2 s j) = P x0 6144 (by omega) s j := by
  rw [val_main_v3_apply]; exact at2 _ _ _ rfl rfl

/-- The second factor's columns of the projection. -/
theorem v4_at (s : Fin 4096) (j : Fin 2048) : val_main_v4 (F := Ideal) x0 (ix2 s j) = P x0 8192 (by omega) s j := by
  rw [val_main_v4_apply]; exact at2 _ _ _ rfl rfl

/-- The weights as the reference's matrix. -/
theorem v6_at (k : Fin 3) (j : Fin 2048) : val_main_v6 (F := Ideal) x2 (ix2 k j) = W x2 k j := by
  rw [val_main_v6_apply]
  have hk := k.isLt
  have hj := j.isLt
  refine congrArg x2 (funext fun a => ?_)
  match a with
  | ⟨0, _⟩ => rfl
  | ⟨1, _⟩ => exact Fin.ext (show (k.val * 2048 + j.val) / 2048 % 3 = k.val by omega)
  | ⟨2, _⟩ => exact Fin.ext (show (k.val * 2048 + j.val) % 2048 = j.val by omega)

/-- A row of weights broadcast over the positions. -/
theorem v12_at (i : S1x2048.Idx) : val_main_v12 (F := Ideal) x2 i = W x2 0 (i 1) := by
  rw [val_main_v12_apply, val_main_v11_apply, val_main_v10_apply]
  refine Eq.trans (at2 _ _ (ix2 0 (i 1)) ?_ ?_) (v6_at x2 0 (i 1))
  · rfl
  · have h1 : (i 1).val < 2048 := (i 1).isLt
    show (i 1).val % 2048 = (i 1).val
    omega

/-- The second row of the weights, as one row. -/
theorem v18_at (i : S1x2048.Idx) : val_main_v18 (F := Ideal) x2 i = W x2 1 (i 1) := by
  rw [val_main_v18_apply, val_main_v17_apply, val_main_v16_apply]
  refine Eq.trans (at2 _ _ (ix2 1 (i 1)) ?_ ?_) (v6_at x2 1 (i 1))
  · rfl
  · have h1 : (i 1).val < 2048 := (i 1).isLt
    show (i 1).val % 2048 = (i 1).val
    omega

/-- The third row of the weights, as one row. -/
theorem v25_at (i : S1x2048.Idx) : val_main_v25 (F := Ideal) x2 i = W x2 2 (i 1) := by
  rw [val_main_v25_apply, val_main_v24_apply, val_main_v23_apply]
  refine Eq.trans (at2 _ _ (ix2 2 (i 1)) ?_ ?_) (v6_at x2 2 (i 1))
  · rfl
  · have h1 : (i 1).val < 2048 := (i 1).isLt
    show (i 1).val % 2048 = (i 1).val
    omega

/-- The padded input of the convolution. -/
theorem v8_at (n : Fin 4098) (j : Fin 2048) : val_main_v8 (F := Ideal) x0 (ix2 n j) = Z x0 n.val j := by
  unfold val_main_v8 Z
  by_cases h : 2 ≤ n.val ∧ n.val - 2 < 4096
  · rw [dif_pos h]
    refine (concatenate_pair_apply_right (t := S4098x2048) (s₁ := S2x2048) (s₂ := S4096x2048) (0 : Fin 2) _ _ _ (ix2 n j) rfl rfl (ix2 (⟨n.val - 2, h.2⟩ : Fin 4096) j) (fun b hb => ?_) ?_).trans ?_
    · match b with
      | ⟨0, _⟩ => exact absurd rfl hb
      | ⟨1, _⟩ => rfl
    · show n.val - 2 + 2 = n.val
      omega
    · rw [val_main_v5_apply, v3_at, v4_at]
      rfl
  · rw [dif_neg h]
    have hn := n.isLt
    refine (concatenate_pair_apply_left (t := S4098x2048) (s₁ := S2x2048) (s₂ := S4096x2048) (0 : Fin 2) _ _ _ (ix2 n j) rfl (ix2 (⟨n.val, by omega⟩ : Fin 2) j) (fun b => ?_)).trans ?_
    · match b with
      | ⟨0, _⟩ => rfl
      | ⟨1, _⟩ => rfl
    · rw [val_main_v7_apply, val_main_cst_apply]
      exact Ideal.ofBits_zero_f32

/-- The padded input from its first row on. -/
theorem v9_at (s : Fin 4096) (j : Fin 2048) : val_main_v9 (F := Ideal) x0 (ix2 s j) = Z x0 s.val j := by
  rw [val_main_v9_apply]
  exact Eq.trans (at2 _ _ (ix2 (⟨s.val, by omega⟩ : Fin 4098) j) rfl rfl) (v8_at x0 _ j)

/-- The padded input from its second row on. -/
theorem v15_at (s : Fin 4096) (j : Fin 2048) : val_main_v15 (F := Ideal) x0 (ix2 s j) = Z x0 (s.val + 1) j := by
  rw [val_main_v15_apply]
  exact Eq.trans (at2 _ _ (ix2 (⟨s.val + 1, by omega⟩ : Fin 4098) j) (show 1 + s.val = s.val + 1 by omega) rfl) (v8_at x0 _ j)

/-- The padded input from its third row on. -/
theorem v22_at (s : Fin 4096) (j : Fin 2048) : val_main_v22 (F := Ideal) x0 (ix2 s j) = Z x0 (s.val + 2) j := by
  rw [val_main_v22_apply]
  exact Eq.trans (at2 _ _ (ix2 (⟨s.val + 2, by omega⟩ : Fin 4098) j) (show 2 + s.val = s.val + 2 by omega) rfl) (v8_at x0 _ j)

/-- The convolution, at an index. -/
theorem v28_at (s : Fin 4096) (j : Fin 2048) : val_main_v28 (F := Ideal) x0 x2 (ix2 s j) = conv x0 x2 s.val j := by
  rw [val_main_v28_apply, val_main_v21_apply, val_main_v14_apply, val_main_v20_apply, val_main_v27_apply, v9_at, v15_at, v22_at,
    val_main_v13_apply, val_main_v19_apply, val_main_v26_apply, v12_at, v18_at, v25_at]
  rfl

/-- The reference's result, at an index. -/
theorem b_at (s : Fin 4096) (j : Fin 2048) : val_main_v30 (F := Ideal) x0 x2 (ix2 s j) = P x0 4096 (by omega) s j * conv x0 x2 s.val j := by
  rw [val_main_v30_apply, val_main_v29_apply, v2_at, v28_at]
  rfl

end Cert.MixBFwdRead

namespace Cert.MixBFwdAlg

open Cert.MixBFwdIdeal Cert.MixBFwdIdeal.Gen Cert.MixBFwdIdeal.Value Idealize.ShloMosaic Idealize.ShloMosaic.TcCoe Idealize.SL.Sem
open Idealize.ShloMosaic.Pipeline (Dat)
open Cert.MixBFwdRead (P W Z conv at2 pad_rows)

/-- In a buffer filled by stores of whole rows, a row of the last store. -/
theorem canon_hit {n N K o : ℕ} (inb : ∀ a, (![o, 0] : Fin 2 → ℕ) a + (![n, K] : Fin 2 → ℕ) a ≤ (⟨2, ![N, K]⟩ : Shape).size a)
    (w : (⟨2, ![n, K]⟩ : Shape).Idx → EReal) (L : List (View.Piece (Elt Ideal) ⟨2, ![N, K]⟩ .f32)) (s : Fin N) (r : Fin n) (k : Fin K) (h : s.val = o + r.val) :
    View.canon (Val := Elt Ideal) (s := ⟨2, ![N, K]⟩) (e := .f32) (⟨Rect.unit ![o, 0] ![n, K] inb, w⟩ :: L) (ix2 s k) = w (ix2 r k) := by
  have e : (ix2 s k : (⟨2, ![N, K]⟩ : Shape).Idx) = (Rect.unit (s := ⟨2, ![N, K]⟩) ![o, 0] ![n, K] inb).emb (ix2 r k) := by
    funext a
    match a with
    | ⟨0, _⟩ => exact Fin.ext (show s.val = o + 1 * r.val by omega)
    | ⟨1, _⟩ => exact Fin.ext (show k.val = 0 + 1 * k.val by omega)
  rw [e]
  exact View.canon_cons_emb (Val := Elt Ideal) (s := ⟨2, ![N, K]⟩) (e := .f32) (Rect.unit ![o, 0] ![n, K] inb) w L (ix2 r k)

/-- A row the last store does not hold. -/
theorem canon_miss {n N K o : ℕ} (inb : ∀ a, (![o, 0] : Fin 2 → ℕ) a + (![n, K] : Fin 2 → ℕ) a ≤ (⟨2, ![N, K]⟩ : Shape).size a)
    (w : (⟨2, ![n, K]⟩ : Shape).Idx → EReal) (L : List (View.Piece (Elt Ideal) ⟨2, ![N, K]⟩ .f32)) (s : Fin N) (k : Fin K) (h : s.val < o ∨ o + n ≤ s.val) :
    View.canon (Val := Elt Ideal) (s := ⟨2, ![N, K]⟩) (e := .f32) (⟨Rect.unit ![o, 0] ![n, K] inb, w⟩ :: L) (ix2 s k) = View.canon L (ix2 s k) := by
  refine View.canon_cons_of_not_mem _ L fun hm => ?_
  have hm' : (ix2 s k : (⟨2, ![N, K]⟩ : Shape).Idx) ∈ (Rect.unit (s := ⟨2, ![N, K]⟩) ![o, 0] ![n, K] inb).set := hm
  rw [Rect.mem_set_unit] at hm'
  have hh := hm' (0 : Fin 2)
  have h1 : o ≤ s.val := hh.1
  have h2 : s.val < o + n := hh.2
  omega

/-- The rows before a block, where the block is the first: zeros. -/
theorem pay2_first (i : grid0.Coords) (a b : FVec Ideal S8x512 .f32) (j : S8x512.Idx)
    (h : Scalar.cmpi .sgt (BitVec.ofNat 32 (i 0).val) 0#32 = 0#1) : k0_pay2 (F := Ideal) i a b j = 0 := by
  unfold k0_pay2
  simp only [h]
  pointwise

/-- The rows before a block that is not the first. -/
theorem pay2_other (i : grid0.Coords) (a b : FVec Ideal S8x512 .f32) (j : S8x512.Idx)
    (h : Scalar.cmpi .sgt (BitVec.ofNat 32 (i 0).val) 0#32 = 1#1) : k0_pay2 (F := Ideal) i a b j = a j * b j := by
  unfold k0_pay2
  simp only [h]
  pointwise

/-- A block of the convolution's input. -/
theorem pay3_at (a b : FVec Ideal S256x512 .f32) (j : S256x512.Idx) : k0_pay3 a b j = a j * b j := by
  pointwise [k0_pay3]

/-- The convolution of a block. -/
theorem pay4_at (w : FVec Ideal S8x512 .f32) (z0 z1 z2 : FVec Ideal S256x512 .f32) (r : Fin 256) (k : Fin 512) :
    k0_pay4 w z0 z1 z2 (ix2 r k) = z0 (ix2 r k) * w (ix2 0 k) + z1 (ix2 r k) * w (ix2 1 k) + z2 (ix2 r k) * w (ix2 2 k) := by
  pointwise [k0_pay4]

/-- The gated block. -/
theorem pay1_at (y b : FVec Ideal S256x512 .f32) (j : S256x512.Idx) : k0_pay1 y b j = b j * y j := by
  pointwise [k0_pay1]

/-- Where the blocks of a grid point lie. -/
theorem idx_val : ∀ t : Fin cfg0.N, win0_0.index t = ![t.val / 4, t.val % 4 + 8]
    ∧ win0_1.index t = ![t.val / 4, t.val % 4 + 12]
    ∧ win0_2.index t = ![t.val / 4, t.val % 4 + 16]
    ∧ win0_3.index t = ![t.val / 4 * 32 - 1, t.val % 4 + 12]
    ∧ win0_4.index t = ![t.val / 4 * 32 - 1, t.val % 4 + 16]
    ∧ win0_5.index t = ![0, t.val % 4]
    ∧ win0_6.index t = ![t.val / 4, t.val % 4] :=
  (by decide +kernel : ∀ t : Fin grid0.N, _)

/-- Whether a grid point's block of rows is the first. -/
theorem ends : ∀ t : Fin cfg0.N,
    (t.val / 4 = 0 → Scalar.cmpi .sgt (BitVec.ofNat 32 (grid0.coords t 0).val) 0#32 = 0#1)
    ∧ (1 ≤ t.val / 4 → Scalar.cmpi .sgt (BitVec.ofNat 32 (grid0.coords t 0).val) 0#32 = 1#1) :=
  (by decide +kernel : ∀ t : Fin grid0.N, _)

variable (m : (ℓ : Loc nD τ sig) → Buf (Elt Ideal) ℓ) (c : Dev nD)

/-- The projection. -/
abbrev X0 : FVec Ideal S4096x10240 .f32 := m ((c : Thread nD τ).loc main_arg0)
/-- The convolution's weights. -/
abbrev X1 : FVec Ideal S1x3x2048 .f32 := m ((c : Thread nD τ).loc main_arg1)

/-- Row `r` of a grid point's block. -/
def row (t : Fin cfg0.N) (r : Fin 256) : Fin 4096 := ⟨t.val / 4 * 256 + r.val, by have ht : t.val < 64 := t.isLt; have := r.isLt; omega⟩
/-- Column `k` of a grid point's block. -/
def col (t : Fin cfg0.N) (k : Fin 512) : Fin 2048 := ⟨t.val % 4 * 512 + k.val, by have := k.isLt; omega⟩
/-- Row `r` of the eight rows before a grid point's block. -/
def rowB (t : Fin cfg0.N) (r : Fin 8) : Fin 4096 := ⟨(t.val / 4 * 32 - 1) * 8 + r.val, by have ht : t.val < 64 := t.isLt; have := r.isLt; omega⟩

/-- The gate's block. -/
theorem blk0_at (t : Fin cfg0.N) (r : Fin 256) (k : Fin 512) :
    (iblk m c 0 t : FVec Ideal S256x512 .f32) (ix2 r k) = P (X0 m c) 4096 (by omega) (row t r) (col t k) := by
  blk_point [iblk, V, idx_val t] <;> first | rfl | (unfold col; simp only []; omega)

/-- The first factor's block. -/
theorem blk1_at (t : Fin cfg0.N) (r : Fin 256) (k : Fin 512) :
    (iblk m c 1 t : FVec Ideal S256x512 .f32) (ix2 r k) = P (X0 m c) 6144 (by omega) (row t r) (col t k) := by
  blk_point [iblk, V, idx_val t] <;> first | rfl | (unfold col; simp only []; omega)

/-- The second factor's block. -/
theorem blk2_at (t : Fin cfg0.N) (r : Fin 256) (k : Fin 512) :
    (iblk m c 2 t : FVec Ideal S256x512 .f32) (ix2 r k) = P (X0 m c) 8192 (by omega) (row t r) (col t k) := by
  blk_point [iblk, V, idx_val t] <;> first | rfl | (unfold col; simp only []; omega)

/-- The first factor's rows before the block. -/
theorem blk3_at (t : Fin cfg0.N) (r : Fin 8) (k : Fin 512) :
    (iblk m c 3 t : FVec Ideal S8x512 .f32) (ix2 r k) = P (X0 m c) 6144 (by omega) (rowB t r) (col t k) := by
  blk_point [iblk, V, idx_val t] <;> first | rfl | (unfold col; simp only []; omega)

/-- The second factor's rows before the block. -/
theorem blk4_at (t : Fin cfg0.N) (r : Fin 8) (k : Fin 512) :
    (iblk m c 4 t : FVec Ideal S8x512 .f32) (ix2 r k) = P (X0 m c) 8192 (by omega) (rowB t r) (col t k) := by
  blk_point [iblk, V, idx_val t] <;> first | rfl | (unfold col; simp only []; omega)

/-- The weights as the call gets them: five rows of zeros under the three. -/
theorem weights (i : S8x2048.Idx) : (V m c main_v1 : FVec Ideal S8x2048 .f32) i
    = pad S8x2048 ![0, 0] ![5, 0] ![0, 0] (shapeCast S3x2048 (X1 m c) shapeCasts_S1x3x2048_S3x2048) (sitofp (F := Ideal) .f32 (constantI S_ 32 0#32)) pads_S3x2048_S8x2048_050_000 h_S_ i := by
  rfl

/-- A row of weights in the call's block. -/
theorem blk5_at (t : Fin cfg0.N) (a : Fin 3) (k : Fin 512) :
    (iblk m c 5 t : FVec Ideal S8x512 .f32) (ix2 (⟨a.val, by omega⟩ : Fin 8) k) = W (X1 m c) a (col t k) := by
  have e : (iblk m c 5 t : FVec Ideal S8x512 .f32) (ix2 (⟨a.val, by omega⟩ : Fin 8) k) = (V m c main_v1 : FVec Ideal S8x2048 .f32) (ix2 (⟨a.val, by omega⟩ : Fin 8) (col t k)) := by
    blk_point [iblk, idx_val t] <;> rfl
  rw [e, weights]
  refine (pad_rows _ _ _ _ (fun i => sitofp_zero (φ := .f32)) _ _).trans ?_
  have ha := a.isLt
  have hk := (col t k).isLt
  rw [dif_pos (show 0 ≤ a.val ∧ a.val - 0 < 3 by omega)]
  exact shapeCast_apply (X1 m c) shapeCasts_S1x3x2048_S3x2048 _ (ix3 0 a (col t k))
    (by rewrite [Shape.rowMajor_val_three, Shape.rowMajor_val_two]; show (0 * 3 + a.val) * 2048 + (col t k).val = (a.val - 0) * 2048 + (col t k).val; omega)

/-- The scratch buffer holds the rows of the convolution's input that a block reads. -/
theorem ext_at (t : Fin cfg0.N) {κ : Kind} {sp : Space} (v : View sig κ sp S264x512 .f32) (d : ℕ) (hd : d ≤ 2)
    (inb : ∀ a, (![6 + d, 0] : Fin 2 → ℕ) a + (![256, 512] : Fin 2 → ℕ) a ≤ S264x512.size a) (r : Fin 256) (k : Fin 512) :
    v.readCov (Val := Elt Ideal)
        [⟨Rect.unit ![8, 0] ![256, 512] inb_S264x512_S256x512_8_0, k0_pay3 (iblk m c 1 t) (iblk m c 2 t)⟩,
          ⟨Rect.unit ![0, 0] ![8, 512] inb_S264x512_S8x512_0_0, k0_pay2 (grid0.coords t) (iblk m c 3 t) (iblk m c 4 t)⟩]
        (Rect.unit (s := S264x512) ![6 + d, 0] ![256, 512] inb).toLoadRect (ix2 r k)
      = Z (X0 m c) (t.val / 4 * 256 + r.val + d) (col t k) := by
  have ht : t.val < 64 := t.isLt
  have hr := r.isLt
  have hk := k.isLt
  rw [View.readCov_eq_canon']
  have e : (Rect.unit (s := S264x512) ![6 + d, 0] ![256, 512] inb).toLoadRect.idx (ix2 r k) = (ix2 (⟨6 + d + r.val, by omega⟩ : Fin 264) k : S264x512.Idx) := by
    funext a
    match a with
    | ⟨0, _⟩ => exact Fin.ext (show 6 + d + 1 * r.val = 6 + d + r.val by omega)
    | ⟨1, _⟩ => exact Fin.ext (show 0 + 1 * k.val = k.val by omega)
  refine (congrArg (View.canon _) e).trans ?_
  by_cases h8 : 8 ≤ 6 + d + r.val
  · refine (canon_hit _ _ _ _ (⟨6 + d + r.val - 8, by omega⟩ : Fin 256) k (show 6 + d + r.val = 8 + (6 + d + r.val - 8) by omega)).trans ?_
    refine (pay3_at ..).trans ?_
    rw [blk1_at, blk2_at]
    unfold Z
    rw [dif_pos (show 2 ≤ t.val / 4 * 256 + r.val + d ∧ t.val / 4 * 256 + r.val + d - 2 < 4096 by omega)]
    have er : row t ⟨6 + d + r.val - 8, by omega⟩ = (⟨t.val / 4 * 256 + r.val + d - 2, by omega⟩ : Fin 4096) :=
      Fin.ext (show t.val / 4 * 256 + (6 + d + r.val - 8) = t.val / 4 * 256 + r.val + d - 2 by omega)
    rw [er]
  · refine (canon_miss _ _ _ _ _ (Or.inl (show 6 + d + r.val < 8 by omega))).trans ?_
    refine (canon_hit _ _ _ _ (⟨6 + d + r.val, by omega⟩ : Fin 8) k (show 6 + d + r.val = 0 + (6 + d + r.val) by omega)).trans ?_
    unfold Z
    rcases Nat.eq_zero_or_pos (t.val / 4) with h | h
    · refine (pay2_first _ _ _ _ ((ends t).1 h)).trans ?_
      rw [dif_neg (by omega)]
    · refine (pay2_other _ _ _ _ ((ends t).2 h)).trans ?_
      rw [blk3_at, blk4_at]
      rw [dif_pos (show 2 ≤ t.val / 4 * 256 + r.val + d ∧ t.val / 4 * 256 + r.val + d - 2 < 4096 by omega)]
      have er : rowB t ⟨6 + d + r.val, by omega⟩ = (⟨t.val / 4 * 256 + r.val + d - 2, by omega⟩ : Fin 4096) :=
        Fin.ext (show (t.val / 4 * 32 - 1) * 8 + (6 + d + r.val) = t.val / 4 * 256 + r.val + d - 2 by omega)
      rw [er]

/-- An index of a matrix is the pair of its two coordinates. -/
theorem pair_eq {n k : ℕ} (i : (⟨2, ![n, k]⟩ : Shape).Idx) : ix2 (i 0) (i 1) = i := by
  funext a
  match a with
  | ⟨0, _⟩ => rfl
  | ⟨1, _⟩ => rfl

/-- A combination of three terms, rewritten in its six parts. -/
theorem three {z0 z1 z2 w0 w1 w2 z0' z1' z2' w0' w1' w2' : EReal} (h0 : z0 = z0') (g0 : w0 = w0') (h1 : z1 = z1') (g1 : w1 = w1')
    (h2 : z2 = z2') (g2 : w2 = w2') : z0 * w0 + z1 * w1 + z2 * w2 = z0' * w0' + z1' * w1' + z2' * w2' := by
  rw [h0, g0, h1, g1, h2, g2]

/-- What a grid point leaves in its block of the result. -/
theorem out6 (t : Fin cfg0.N) (r : Fin 256) (k : Fin 512) : outsAt0 m c t (ix2 r k)
    = P (X0 m c) 4096 (by omega) (row t r) (col t k) * conv (X0 m c) (X1 m c) (row t r).val (col t k) := by
  unfold outsAt0 out0_A_6
  frame_out
  refine (pay1_at ..).trans (congrArg₂ (fun a b : EReal => a * b) (blk0_at ..) ?_)
  refine (pay4_at ..).trans ?_
  exact three (ext_at m c t _ 0 (by omega) _ r k) (blk5_at m c t 0 k) (ext_at m c t _ 1 (by omega) _ r k) (blk5_at m c t 1 k)
    (ext_at m c t _ 2 (by omega) _ r k) (blk5_at m c t 2 k)

/-- The call's result array is the reference's. -/
theorem final6 : (dats m 0 c).arrAt 6 cfg0.N = Cert.MixBFwdRefIdeal.Read.val_main_v30 (F := Ideal) (X0 m c) (X1 m c) := by
  refine (dats m 0 c).arrAt_eq_of_covers 6 _ (by decide +kernel) fun t hf y => ?_
  have he : (((cfg0.win 6).blk t).view.emb y : S4096x2048.Idx) = ix2 (row t (y 0)) (col t (y 1)) := by
    blk_ext [idx_val t] <;> rfl
  refine Eq.trans ?_ (congrArg (Cert.MixBFwdRefIdeal.Read.val_main_v30 (F := Ideal) (X0 m c) (X1 m c)) he).symm
  refine Eq.trans ?_ (Cert.MixBFwdRead.b_at ..).symm
  blk_simp
  rw [after0_6]
  exact (congrArg (outsAt0 m c t) (pair_eq y).symm).trans (out6 m c t (y 0) (y 1))

/-- The call's result is the reference's. -/
theorem claim : Cert.algebraic_MixBFwdIdeal_MixBFwdRefIdeal (hMixBFwdIdeal := Cert.MixBFwdIdeal.Gen.facts)
    (hMixBFwdRefIdeal := Cert.MixBFwdRefIdeal.Gen.facts) := by
  intro m g m' g' hpre hargs
  refine ⟨fun c => (dats m 0 c).arrAt 6 cfg0.N, run_blocks m g,
    (θ_run Cert.MixBFwdRefIdeal.defs _ _).mono (fun r h c => ?_) (Cert.MixBFwdRefIdeal.Value.run m' g')⟩
  obtain ⟨h1, hr⟩ := h c
  obtain ⟨a0, a1⟩ := hargs c
  refine ⟨h1.trans ((Cert.MixBFwdRefIdeal.Read.val_main_v30_eq _ _).trans ?_), hr⟩
  rw [a0, a1]
  exact (final6 m c).symm

end Cert.MixBFwdAlg
-- ==== Proof.MmDfAlg.lean ====
module

public import proofs.«01_k».proof.Proof.Gen.MmDfIdeal.Value
public import proofs.«01_k».proof.Proof.Gen.MmDfRefIdeal.Read
public import proofs.«01_k».proof.Proof.Gen.MmDfRefIdeal.Run
public import proofs.«01_k».proof.Defs
public import Idealize.ShloMosaic.Lib.Pipeline.ValueKit
public import Idealize.ShloMosaic.Lib.Claim

/-!
  The product `mm_d_f`: the gradient of the feed-forward hidden rows, tile by tile.
-/

@[expose] public section

set_option maxRecDepth 16384

noncomputable section

namespace Cert.MmDfAlg

open Cert.MmDfIdeal Cert.MmDfIdeal.Gen Cert.MmDfIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S1024x4096 .bf16) (x1 : Vec Ideal S1024x4096 .bf16) (j : S1024x1024.Idx) :
    k0_pay1 x0 x1 j = ∑ k : Fin 4096, x0 (ix2 (j 0) k) * x1 (ix2 (j 1) k) := by
  pointwise [k0_pay1]

/-- Where the blocks of a grid point lie. -/
theorem idx_val : ∀ t : Fin cfg0.N, win0_0.index t = ![t.val / 11, 0]
    ∧ win0_1.index t = ![t.val % 11, 0]
    ∧ win0_2.index t = ![t.val / 11, t.val % 11] :=
  (by decide +kernel : ∀ t : Fin grid0.N, _)

/-- The result array is the reference's. -/
theorem final : (dats m 0 c).arrAt 2 cfg0.N = Cert.MmDfRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_at ..).trans (Eq.trans ?_ (Cert.MmDfRefIdeal.Read.val_main_v4_apply ..).symm)
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmDfIdeal_MmDfRefIdeal (hMmDfIdeal := Cert.MmDfIdeal.Gen.facts)
    (hMmDfRefIdeal := Cert.MmDfRefIdeal.Gen.facts) := by
  intro m g m' g' hpre hargs
  refine ⟨fun c => (dats m 0 c).arrAt 2 cfg0.N, run_blocks m g,
    (θ_run Cert.MmDfRefIdeal.defs _ _).mono (fun r h c => ?_) (Cert.MmDfRefIdeal.Value.run m' g')⟩
  obtain ⟨h1, h2⟩ := h c
  obtain ⟨a0, a1⟩ := hargs c
  refine ⟨h1.trans ((Cert.MmDfRefIdeal.Read.val_main_v5_eq _ _).trans ?_), h2⟩
  rw [a0, a1]
  exact (final m c).symm

end Cert.MmDfAlg
-- ==== Proof.MmDmemAlg.lean ====
module

public import proofs.«01_k».proof.Proof.Gen.MmDmemIdeal
public import proofs.«01_k».proof.Proof.Gen.MmDmemIdeal.Frame
public import proofs.«01_k».proof.Proof.Gen.MmDmemRefIdeal
public import proofs.«01_k».proof.Proof.Gen.MmDmemRefIdeal.Read
public import proofs.«01_k».proof.Proof.Gen.MmDmemRefIdeal.Run
public import proofs.«01_k».proof.Defs
public import Idealize.ShloMosaic.Lib.Claim
public import Idealize.ShloMosaic.Lib.Pipeline.ValueKit

/-!
  A product in two calls, each adding its part to what the one before left: each call's result array as a function of the arrays it
  reads, the run through all of them, and the sum of the parts.
-/

@[expose] public section

set_option maxRecDepth 16384

noncomputable section

namespace Cert.MmDmemAlg

open Cert.MmDmemIdeal Cert.MmDmemIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

/-- What call 0 leaves: the sum over its part of the contracted axis. -/
def part0 (x : FVec Ideal S256x4096 .bf16) (y : FVec Ideal S4096x4096 .bf16) : FVec Ideal S256x4096 .f32 :=
  fun i => ∑ k : Fin 4096, x (ix2 (i 0) ⟨0 * 4096 + k.val, by omega⟩) * y (ix2 (i 1) ⟨0 * 4096 + k.val, by omega⟩)

/-- A tile of call 0's product, at an index. -/
theorem pay0_at (x0 : Vec Ideal S256x4096 .bf16) (x1 : Vec Ideal S1024x4096 .bf16) (j : S256x1024.Idx) :
    k0_pay1 x0 x1 j = ∑ k : Fin 4096, x0 (ix2 (j 0) k) * x1 (ix2 (j 1) k) := by
  pointwise [k0_pay1]

/-- Where call 0's blocks lie. -/
theorem idx0 : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- Call 0's result array, as a function of the arrays the call finds. -/
theorem final0 (V : (c : Dev nD) → (b : Ref sig .tc) → Buf (Elt Ideal) ((c : Thread nD τ).loc b)) (c : Dev nD) :
    (dat0 V c).arrAt 2 cfg0.N = part0 (V c main_arg0) (V c main_arg2) := by
  refine (dat0 V c).arrAt_eq_of_covers 2 _ (by decide +kernel) fun t hf y => ?_
  blk_simp
  rw [after0_2]
  unfold out0_2
  frame_out
  refine (pay0_at ..).trans ?_
  unfold part0
  refine Finset.sum_congr rfl fun k _ => congrArg₂ (fun a b : EReal => a * b) ?_ ?_
  · blk_point [iblk0, idx0 t] <;> rfl
  · blk_point [iblk0, idx0 t] <;> rfl

/-- What call 1 leaves: the array it adds to, and the sum over its part of the contracted axis. -/
def part1 (x : FVec Ideal S256x4096 .bf16) (y : FVec Ideal S4096x4096 .bf16) (a : FVec Ideal S256x4096 .f32) : FVec Ideal S256x4096 .f32 :=
  fun i => a i + ∑ k : Fin 4096, x (ix2 (i 0) ⟨0 * 4096 + k.val, by omega⟩) * y (ix2 (i 1) ⟨0 * 4096 + k.val, by omega⟩)

/-- A tile of call 1's product, at an index. -/
theorem pay1_at (x0 : Vec Ideal S256x4096 .bf16) (x1 : Vec Ideal S1024x4096 .bf16) (x3 : Vec Ideal S256x1024 .f32) (j : S256x1024.Idx) :
    k1_pay1 x0 x1 x3 j = x3 j + ∑ k : Fin 4096, x0 (ix2 (j 0) k) * x1 (ix2 (j 1) k) := by
  pointwise [k1_pay1]

/-- Where call 1's blocks lie. -/
theorem idx1 : ∀ t : Fin cfg1.N, win1_0.index t = ![t.val / 4, 0]
    ∧ win1_1.index t = ![t.val % 4, 0]
    ∧ win1_2.index t = ![t.val / 4, t.val % 4]
    ∧ win1_3.index t = ![t.val / 4, t.val % 4] :=
  (by decide +kernel : ∀ t : Fin grid1.N, _)

/-- Call 1's result array, as a function of the arrays the call finds. -/
theorem final1 (V : (c : Dev nD) → (b : Ref sig .tc) → Buf (Elt Ideal) ((c : Thread nD τ).loc b)) (c : Dev nD) :
    (dat1 V c).arrAt 3 cfg1.N = part1 (V c main_arg1) (V c main_arg3) (V c main_v0) := by
  refine (dat1 V c).arrAt_eq_of_covers 3 _ (by decide +kernel) fun t hf y => ?_
  blk_simp
  rw [after1_3]
  unfold out1_3
  frame_out
  refine (pay1_at ..).trans ?_
  unfold part1
  refine congrArg₂ (fun a b : EReal => a + b) ?_ (Finset.sum_congr rfl fun k _ => congrArg₂ (fun a b : EReal => a * b) ?_ ?_)
  · blk_point [iblk1, idx1 t] <;> rfl
  · blk_point [iblk1, idx1 t] <;> rfl
  · blk_point [iblk1, idx1 t] <;> rfl

/-- The two products, one added to the other, are the reference's sum of the two. -/
theorem ref_at (x0 x1 : FVec Ideal S256x4096 .bf16) (x2 x3 : FVec Ideal S4096x4096 .bf16) :
    part1 x1 x3 (part0 x0 x2) = Cert.MmDmemRefIdeal.Read.val_main_v9 (F := Ideal) x0 x1 x2 x3 := by
  funext i
  refine Eq.trans ?_ (congrArg₂ (fun a b : EReal => a + b) (Cert.MmDmemRefIdeal.Read.val_main_v7_apply x1 x3 i)
    (Cert.MmDmemRefIdeal.Read.val_main_v8_apply x0 x2 i)).symm
  refine Eq.trans (add_comm _ _) (congrArg₂ (fun a b : EReal => a + b) (Finset.sum_congr rfl fun k _ => congrArg₂ (fun a b : EReal => a * b) ?_ ?_)
    (Finset.sum_congr rfl fun k _ => congrArg₂ (fun a b : EReal => a * b) ?_ ?_))
  · exact congrArg x1 (funext fun a => match a with | ⟨0, _⟩ => rfl | ⟨1, _⟩ => Fin.ext (by show 0 * 4096 + k.val = k.val; omega))
  · exact congrArg x3 (funext fun a => match a with | ⟨0, _⟩ => rfl | ⟨1, _⟩ => Fin.ext (by show 0 * 4096 + k.val = k.val; omega))
  · exact congrArg x0 (funext fun a => match a with | ⟨0, _⟩ => rfl | ⟨1, _⟩ => Fin.ext (by show 0 * 4096 + k.val = k.val; omega))
  · exact congrArg x2 (funext fun a => match a with | ⟨0, _⟩ => rfl | ⟨1, _⟩ => Fin.ext (by show 0 * 4096 + k.val = k.val; omega))

variable (m : (ℓ : Loc nD τ sig) → Buf (Elt Ideal) ℓ) (ρ : Dev nD → PrngReg)

set_option backward.isDefEq.respectTransparency.types false in
/-- The run through all the calls, with the last one's result array named and the arguments kept. -/
theorem run_named : θ_run defs (onTc (τ := τ) (main (F := Ideal))) ⟨m, fun _ => 0, ρ⟩ fun r => ∀ c : Dev nD,
      r.2.mem ((c : Thread nD τ).loc main_v1) = (dat1 (V1 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- Call 0 finds `main_arg2` as launched. -/
theorem V0_main_arg2 (c : Dev nD) : V0 m ρ c main_arg2 = m ((c : Thread nD τ).loc main_arg2) := W0_args m ρ c main_arg2 (by decide)

/-- Call 0 finds `main_arg0` as launched. -/
theorem V0_main_arg0 (c : Dev nD) : V0 m ρ c main_arg0 = m ((c : Thread nD τ).loc main_arg0) := W0_args m ρ c main_arg0 (by decide)

/-- Call 1 finds `main_arg1` as launched. -/
theorem V1_main_arg1 (c : Dev nD) : V1 m ρ c main_arg1 = m ((c : Thread nD τ).loc main_arg1) := W1_args m ρ c main_arg1 (by decide)

/-- Call 1 finds `main_arg3` as launched. -/
theorem V1_main_arg3 (c : Dev nD) : V1 m ρ c main_arg3 = m ((c : Thread nD τ).loc main_arg3) := W1_args m ρ c main_arg3 (by decide)

/-- Call 1 finds in `main_v0` what call 0 left. -/
theorem V1_main_v0 (c : Dev nD) : V1 m ρ c main_v0 = (dat0 (V0 m ρ) c).arrAt 2 cfg0.N := W1_arr m ρ c 2

/-- The last call's result array is the reference's. -/
theorem final (c : Dev nD) : (dat1 (V1 m ρ) c).arrAt 3 cfg1.N = Cert.MmDmemRefIdeal.Read.val_main_v9 (F := Ideal)
    (m ((c : Thread nD τ).loc main_arg0)) (m ((c : Thread nD τ).loc main_arg1)) (m ((c : Thread nD τ).loc main_arg2)) (m ((c : Thread nD τ).loc main_arg3)) := by
  rw [final1, V1_main_arg1, V1_main_arg3, V1_main_v0]
  rw [final0, V0_main_arg0, V0_main_arg2]
  exact ref_at _ _ _ _

/-- The calls' result is the reference's. -/
theorem claim : Cert.algebraic_MmDmemIdeal_MmDmemRefIdeal (hMmDmemIdeal := Cert.MmDmemIdeal.Gen.facts)
    (hMmDmemRefIdeal := Cert.MmDmemRefIdeal.Gen.facts) := by
  intro m g m' g' hpre hargs
  refine ⟨fun c => (dat1 (V1 m g) c).arrAt 3 cfg1.N, run_named m g,
    (θ_run Cert.MmDmemRefIdeal.defs _ _).mono (fun r h c => ?_) (Cert.MmDmemRefIdeal.Value.run m' g')⟩
  obtain ⟨h1, h2⟩ := h c
  obtain ⟨a0, a1, a2, a3⟩ := hargs c
  refine ⟨h1.trans ((Cert.MmDmemRefIdeal.Read.val_main_v9_eq _ _ _ _).trans ?_), h2⟩
  rw [a0, a1, a2, a3]
  exact (final m g c).symm

end Cert.MmDmemAlg
-- ==== Proof.MmDoAlg.lean ====
module

public import proofs.«01_k».proof.Proof.Gen.MmDoIdeal.Value
public import proofs.«01_k».proof.Proof.Gen.MmDoRefIdeal.Read
public import proofs.«01_k».proof.Proof.Gen.MmDoRefIdeal.Run
public import proofs.«01_k».proof.Defs
public import Idealize.ShloMosaic.Lib.Pipeline.ValueKit
public import Idealize.ShloMosaic.Lib.Claim

/-!
  The product `mm_d_o`: the gradient of the attention output, tile by tile.
-/

@[expose] public section

set_option maxRecDepth 16384

noncomputable section

namespace Cert.MmDoAlg

open Cert.MmDoIdeal Cert.MmDoIdeal.Gen Cert.MmDoIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S1024x4096 .bf16) (x1 : Vec Ideal S1024x4096 .bf16) (j : S1024x1024.Idx) :
    k0_pay1 x0 x1 j = ∑ k : Fin 4096, x0 (ix2 (j 0) k) * x1 (ix2 (j 1) k) := by
  pointwise [k0_pay1]

/-- Where the blocks of a grid point lie. -/
theorem idx_val : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- The result array is the reference's. -/
theorem final : (dats m 0 c).arrAt 2 cfg0.N = Cert.MmDoRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay_at ..).trans (Eq.trans ?_ (Cert.MmDoRefIdeal.Read.val_main_v4_apply ..).symm)
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmDoIdeal_MmDoRefIdeal (hMmDoIdeal := Cert.MmDoIdeal.Gen.facts)
    (hMmDoRefIdeal := Cert.MmDoRefIdeal.Gen.facts) := by
  intro m g m' g' hpre hargs
  refine ⟨fun c => (dats m 0 c).arrAt 2 cfg0.N, run_blocks m g,
    (θ_run Cert.MmDoRefIdeal.defs _ _).mono (fun r h c => ?_) (Cert.MmDoRefIdeal.Value.run m' g')⟩
  obtain ⟨h1, h2⟩ := h c
  obtain ⟨a0, a1, _⟩ := hargs c
  refine ⟨h1.trans ((Cert.MmDoRefIdeal.Read.val_main_v5_eq _ _).trans ?_), h2⟩
  rw [a0, a1]
  exact (final m c).symm

end Cert.MmDoAlg
-- ==== Proof.MmDownAlg.lean ====
module

public import proofs.«01_k».proof.Proof.Gen.MmDownIdeal
public import proofs.«01_k».proof.Proof.Gen.MmDownIdeal.Frame
public import proofs.«01_k».proof.Proof.Gen.MmDownRefIdeal
public import proofs.«01_k».proof.Proof.Gen.MmDownRefIdeal.Read
public import proofs.«01_k».proof.Proof.Gen.MmDownRefIdeal.Run
public import proofs.«01_k».proof.Defs
public import Idealize.ShloMosaic.Lib.Claim
public import Idealize.ShloMosaic.Lib.Pipeline.ValueKit

/-!
  A product in two calls, each adding its part to what the one before left: each call's result array as a function of the arrays it
  reads, the run through all of them, and the sum of the parts.
-/

@[expose] public section

set_option maxRecDepth 16384

noncomputable section

namespace Cert.MmDownAlg

open Cert.MmDownIdeal Cert.MmDownIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

/-- What call 0 leaves: the array it adds to, and the sum over its part of the contracted axis. -/
def part0 (x : FVec Ideal S4096x11264 .bf16) (y : FVec Ideal S11264x4096 .bf16) (a : FVec Ideal S4096x4096 .f32) : FVec Ideal S4096x4096 .f32 :=
  fun i => a i + ∑ k : Fin 5632, x (ix2 (i 0) ⟨0 * 5632 + k.val, by omega⟩) * y (ix2 ⟨0 * 5632 + k.val, by omega⟩ (i 1))

/-- A tile of call 0's product, at an index. -/
theorem pay0_at (x0 : Vec Ideal S1024x5632 .bf16) (x1 : Vec Ideal S5632x512 .bf16) (x3 : Vec Ideal S1024x512 .f32) (j : S1024x512.Idx) :
    k0_pay1 x0 x1 x3 j = x3 j + ∑ k : Fin 5632, x0 (ix2 (j 0) k) * x1 (ix2 k (j 1)) := by
  pointwise [k0_pay1]

/-- Where call 0's blocks lie. -/
theorem idx0 : ∀ t : Fin cfg0.N, win0_0.index t = ![t.val / 8, 0]
    ∧ win0_1.index t = ![0, t.val % 8]
    ∧ win0_2.index t = ![t.val / 8, t.val % 8]
    ∧ win0_3.index t = ![t.val / 8, t.val % 8] :=
  (by decide +kernel : ∀ t : Fin grid0.N, _)

/-- Call 0's result array, as a function of the arrays the call finds. -/
theorem final0 (V : (c : Dev nD) → (b : Ref sig .tc) → Buf (Elt Ideal) ((c : Thread nD τ).loc b)) (c : Dev nD) :
    (dat0 V c).arrAt 3 cfg0.N = part0 (V c main_arg0) (V c main_arg1) (V c main_arg2) := by
  refine (dat0 V c).arrAt_eq_of_covers 3 _ (by decide +kernel) fun t hf y => ?_
  blk_simp
  rw [after0_3]
  unfold out0_3
  frame_out
  refine (pay0_at ..).trans ?_
  unfold part0
  refine congrArg₂ (fun a b : EReal => a + b) ?_ (Finset.sum_congr rfl fun k _ => congrArg₂ (fun a b : EReal => a * b) ?_ ?_)
  · blk_point [iblk0, idx0 t] <;> rfl
  · blk_point [iblk0, idx0 t] <;> rfl
  · blk_point [iblk0, idx0 t] <;> rfl

/-- What call 1 leaves: the array it adds to, and the sum over its part of the contracted axis. -/
def part1 (x : FVec Ideal S4096x11264 .bf16) (y : FVec Ideal S11264x4096 .bf16) (a : FVec Ideal S4096x4096 .f32) : FVec Ideal S4096x4096 .f32 :=
  fun i => a i + ∑ k : Fin 5632, x (ix2 (i 0) ⟨1 * 5632 + k.val, by omega⟩) * y (ix2 ⟨1 * 5632 + k.val, by omega⟩ (i 1))

/-- A tile of call 1's product, at an index. -/
theorem pay1_at (x0 : Vec Ideal S1024x5632 .bf16) (x1 : Vec Ideal S5632x512 .bf16) (x3 : Vec Ideal S1024x512 .f32) (j : S1024x512.Idx) :
    k1_pay1 x0 x1 x3 j = x3 j + ∑ k : Fin 5632, x0 (ix2 (j 0) k) * x1 (ix2 k (j 1)) := by
  pointwise [k1_pay1]

/-- Where call 1's blocks lie. -/
theorem idx1 : ∀ t : Fin cfg1.N, win1_0.index t = ![t.val / 8, 1]
    ∧ win1_1.index t = ![1, t.val % 8]
    ∧ win1_2.index t = ![t.val / 8, t.val % 8]
    ∧ win1_3.index t = ![t.val / 8, t.val % 8] :=
  (by decide +kernel : ∀ t : Fin grid1.N, _)

/-- Call 1's result array, as a function of the arrays the call finds. -/
theorem final1 (V : (c : Dev nD) → (b : Ref sig .tc) → Buf (Elt Ideal) ((c : Thread nD τ).loc b)) (c : Dev nD) :
    (dat1 V c).arrAt 3 cfg1.N = part1 (V c main_arg0) (V c main_arg1) (V c main_v0) := by
  refine (dat1 V c).arrAt_eq_of_covers 3 _ (by decide +kernel) fun t hf y => ?_
  blk_simp
  rw [after1_3]
  unfold out1_3
  frame_out
  refine (pay1_at ..).trans ?_
  unfold part1
  refine congrArg₂ (fun a b : EReal => a + b) ?_ (Finset.sum_congr rfl fun k _ => congrArg₂ (fun a b : EReal => a * b) ?_ ?_)
  · blk_point [iblk1, idx1 t] <;> rfl
  · blk_point [iblk1, idx1 t] <;> rfl
  · blk_point [iblk1, idx1 t] <;> rfl

/-- The two halves of the contracted axis, added to the array the product is added to, are the reference's sum. -/
theorem ref_at (x0 : FVec Ideal S4096x11264 .bf16) (x1 : FVec Ideal S11264x4096 .bf16) (x2 : FVec Ideal S4096x4096 .f32) :
    part1 x0 x1 (part0 x0 x1 x2) = Cert.MmDownRefIdeal.Read.val_main_v3 (F := Ideal) x0 x1 x2 := by
  funext i
  refine Eq.trans ?_ (congrArg (fun b : EReal => x2 i + b) (Cert.MmDownRefIdeal.Read.val_main_v2_apply x0 x1 i)).symm
  refine (add_assoc _ _ _).trans (congrArg (fun b : EReal => x2 i + b) (Eq.trans ?_ (Fin.sum_univ_add (a := 5632) (b := 5632) _).symm))
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact congrArg x0 (funext fun a => match a with | ⟨0, _⟩ => rfl | ⟨1, _⟩ => Fin.ext (by show 0 * 5632 + k.val = k.val; omega))
  · exact congrArg x1 (funext fun a => match a with | ⟨0, _⟩ => Fin.ext (by show 0 * 5632 + k.val = k.val; omega) | ⟨1, _⟩ => rfl)
  · exact congrArg x0 (funext fun a => match a with | ⟨0, _⟩ => rfl | ⟨1, _⟩ => Fin.ext (by show 1 * 5632 + k.val = 5632 + k.val; omega))
  · exact congrArg x1 (funext fun a => match a with | ⟨0, _⟩ => Fin.ext (by show 1 * 5632 + k.val = 5632 + k.val; omega) | ⟨1, _⟩ => rfl)

variable (m : (ℓ : Loc nD τ sig) → Buf (Elt Ideal) ℓ) (ρ : Dev nD → PrngReg)

set_option backward.isDefEq.respectTransparency.types false in
/-- The run through all the calls, with the last one's result array named and the arguments kept. -/
theorem run_named : θ_run defs (onTc (τ := τ) (main (F := Ideal))) ⟨m, fun _ => 0, ρ⟩ fun r => ∀ c : Dev nD,
      r.2.mem ((c : Thread nD τ).loc main_v1) = (dat1 (V1 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- Call 0 finds `main_arg2` as launched. -/
theorem V0_main_arg2 (c : Dev nD) : V0 m ρ c main_arg2 = m ((c : Thread nD τ).loc main_arg2) := W0_args m ρ c main_arg2 (by decide)

/-- Call 0 finds `main_arg1` as launched. -/
theorem V0_main_arg1 (c : Dev nD) : V0 m ρ c main_arg1 = m ((c : Thread nD τ).loc main_arg1) := W0_args m ρ c main_arg1 (by decide)

/-- Call 0 finds `main_arg0` as launched. -/
theorem V0_main_arg0 (c : Dev nD) : V0 m ρ c main_arg0 = m ((c : Thread nD τ).loc main_arg0) := W0_args m ρ c main_arg0 (by decide)

/-- Call 1 finds `main_arg1` as launched. -/
theorem V1_main_arg1 (c : Dev nD) : V1 m ρ c main_arg1 = m ((c : Thread nD τ).loc main_arg1) := W1_args m ρ c main_arg1 (by decide)

/-- Call 1 finds `main_arg0` as launched. -/
theorem V1_main_arg0 (c : Dev nD) : V1 m ρ c main_arg0 = m ((c : Thread nD τ).loc main_arg0) := W1_args m ρ c main_arg0 (by decide)

/-- Call 1 finds in `main_v0` what call 0 left. -/
theorem V1_main_v0 (c : Dev nD) : V1 m ρ c main_v0 = (dat0 (V0 m ρ) c).arrAt 3 cfg0.N := W1_arr m ρ c 3

/-- The last call's result array is the reference's. -/
theorem final (c : Dev nD) : (dat1 (V1 m ρ) c).arrAt 3 cfg1.N = Cert.MmDownRefIdeal.Read.val_main_v3 (F := Ideal)
    (m ((c : Thread nD τ).loc main_arg0)) (m ((c : Thread nD τ).loc main_arg1)) (m ((c : Thread nD τ).loc main_arg2)) := by
  rw [final1, V1_main_arg0, V1_main_arg1, V1_main_v0]
  rw [final0, V0_main_arg0, V0_main_arg1, V0_main_arg2]
  exact ref_at _ _ _

/-- The calls' result is the reference's. -/
theorem claim : Cert.algebraic_MmDownIdeal_MmDownRefIdeal (hMmDownIdeal := Cert.MmDownIdeal.Gen.facts)
    (hMmDownRefIdeal := Cert.MmDownRefIdeal.Gen.facts) := by
  intro m g m' g' hpre hargs
  refine ⟨fun c => (dat1 (V1 m g) c).arrAt 3 cfg1.N, run_named m g,
    (θ_run Cert.MmDownRefIdeal.defs _ _).mono (fun r h c => ?_) (Cert.MmDownRefIdeal.Value.run m' g')⟩
  obtain ⟨h1, h2⟩ := h c
  obtain ⟨a0, a1, a2⟩ := hargs c
  refine ⟨h1.trans ((Cert.MmDownRefIdeal.Read.val_main_v3_eq _ _ _).trans ?_), h2⟩
  rw [a0, a1, a2]
  exact (final m g c).symm

end Cert.MmDownAlg
-- ==== Proof.MmDxn1HiAlg.lean ====
module

public import proofs.«01_k».proof.Proof.Gen.MmDxn1HiIdeal.Value
public import proofs.«01_k».proof.Proof.Gen.MmDxn1HiRefIdeal.Read
public import proofs.«01_k».proof.Proof.Gen.MmDxn1HiRefIdeal.Run
public import proofs.«01_k».proof.Defs
public import Idealize.ShloMosaic.Lib.Pipeline.ValueKit
public import Idealize.ShloMosaic.Lib.Claim

/-!
  The second of the two calls of `mm_dxn1`: a product over the second axis of both factors, in two steps along the contracted axis,
  into the last columns of the array the first call filled.
-/

@[expose] public section

set_option maxRecDepth 16384

noncomputable section

namespace Cert.MmDxn1HiAlg

open Cert.MmDxn1HiIdeal Cert.MmDxn1HiIdeal.Gen Cert.MmDxn1HiIdeal.Value Idealize.ShloMosaic Idealize.ShloMosaic.TcCoe Idealize.SL.Sem
open Idealize.ShloMosaic.Pipeline (Dat)

/-- The product of two blocks, at an index: the sum over the block's part of the contracted axis. -/
theorem pay_at (x0 : Vec Ideal S1024x5120 .bf16) (x1 : Vec Ideal S512x5120 .bf16) (j : S1024x512.Idx) :
    k0_pay1 x0 x1 j = ∑ k : Fin 5120, x0 (ix2 (j 0) k) * x1 (ix2 (j 1) k) := by
  pointwise [k0_pay1]

/-- What the first step keeps, at an index. -/
theorem keep_at (x0 : Vec Ideal S1024x5120 .bf16) (x1 : Vec Ideal S512x5120 .bf16) (j : S1024x512.Idx) :
    k0_pay2 x0 x1 j = k0_pay1 x0 x1 j := by
  unfold k0_pay2
  exact congrFun (shapeCast_self _ _) j

/-- Where the blocks of a grid point lie. -/
theorem idx_val : ∀ t : Fin cfg0.N, win0_0.index t = ![t.val / 8, t.val % 2]
    ∧ win0_1.index t = ![t.val / 2 % 4, t.val % 2]
    ∧ win0_2.index t = ![t.val / 8, t.val / 2 % 4 + 4] :=
  (by decide +kernel : ∀ t : Fin grid0.N, _)

/-- Only the second step of each tile is written back. -/
theorem flush_odd : ∀ t : Fin cfg0.N, (cfg0.win 2).flush t = true → t.val % 2 = 1 :=
  (by decide +kernel : ∀ t : Fin grid0.N, _)

/-- The sum over the whole contracted axis, for one element. -/
def whole (x : FVec Ideal S4096x10240 .bf16) (y : FVec Ideal S2048x10240 .bf16) (r : Fin 4096) (q : Fin 2048) : EReal :=
  ∑ k : Fin 10240, x (ix2 r k) * y (ix2 q k)

/-- It is the sum over its two halves. -/
theorem whole_eq (x : FVec Ideal S4096x10240 .bf16) (y : FVec Ideal S2048x10240 .bf16) (r : Fin 4096) (q : Fin 2048) :
    whole x y r q = (∑ k : Fin 5120, x (ix2 r ⟨k.val, by omega⟩) * y (ix2 q ⟨k.val, by omega⟩))
      + ∑ k : Fin 5120, x (ix2 r ⟨5120 + k.val, by omega⟩) * y (ix2 q ⟨5120 + k.val, by omega⟩) :=
  Fin.sum_univ_add (a := 5120) (b := 5120) _

variable (m : (ℓ : Loc nD τ sig) → Buf (Elt Ideal) ℓ) (c : Dev nD)

/-- What the first step of a tile leaves for the second, at an index. -/
theorem kept (t : Fin cfg0.N) (h : t.val % 2 = 0) (j : S1024x512.Idx) :
    (outsAt0 m c t.val t.isLt).2 j = k0_pay1 (iblk m c 0 t) (iblk m c 1 t) j := by
  rw [outsAt0_A m c t h (by omega)]
  dsimp only
  unfold sout0_A_0
  frame_out
  exact keep_at _ _ j

/-- What the second step of a tile writes, at an index. -/
theorem written (t : Fin cfg0.N) (h : t.val % 2 = 1) (j : S1024x512.Idx) :
    (outsAt0 m c t.val t.isLt).1 j
      = k0_pay1 (iblk m c 0 ⟨t.val - 1, Nat.lt_of_le_of_lt (Nat.sub_le _ _) t.isLt⟩) (iblk m c 1 ⟨t.val - 1, Nat.lt_of_le_of_lt (Nat.sub_le _ _) t.isLt⟩) j
        + k0_pay1 (iblk m c 0 t) (iblk m c 1 t) j := by
  rw [outsAt0_B m c t (by omega) h]
  dsimp only
  unfold out0_B_2
  frame_out
  unfold k0_pay4
  refine congrArg (fun a : EReal => a + k0_pay1 (iblk m c 0 t) (iblk m c 1 t) j) (Eq.trans ?_
    (kept m c ⟨t.val - 1, Nat.lt_of_le_of_lt (Nat.sub_le _ _) t.isLt⟩ (by show (t.val - 1) % 2 = 0; omega) j))
  exact congrFun ((Memref.isWhole_whole cc0_scratch0).read_unread _) j

/-- The array the call finds in its result's place: the argument it goes on from. -/
theorem entry : (V m c main_v0 : FVec Ideal S4096x4096 .f32) = m ((c : Thread nD τ).loc main_arg2) := rfl

/-- The result array after the run: the product in the last columns, the array it goes on from elsewhere. -/
theorem final : (dats m 0 c).arrAt 2 cfg0.N = fun i : S4096x4096.Idx => if 4 ≤ (i 1).val / 512 then
    whole (m ((c : Thread nD τ).loc main_arg0)) (m ((c : Thread nD τ).loc main_arg1)) (i 0) ⟨((i 1).val - 2048) % 2048, Nat.mod_lt _ (by decide)⟩
    else m ((c : Thread nD τ).loc main_arg2) i := by
  refine ((dats m 0 c).arrAt_eq_of_coversWhere 2
    (fun i => whole (m ((c : Thread nD τ).loc main_arg0)) (m ((c : Thread nD τ).loc main_arg1)) (i 0) ⟨((i 1).val - 2048) % 2048, Nat.mod_lt _ (by decide)⟩)
    (P := fun i => 4 ≤ (i 1).val / 512) (fun β => 4 ≤ β (1 : Fin _)) (by decide +kernel) (fun t hf y => ?_) (fun j => Iff.rfl)).trans ?_
  · have ho := flush_odd t hf
    have hN : t.val < 32 := t.isLt
    blk_simp
    rw [after0_2, written m c t ho]
    refine Eq.trans ?_ (whole_eq _ _ _ _).symm
    refine congrArg₂ (fun a b : EReal => a + b) ((pay_at ..).trans (Finset.sum_congr rfl fun k _ => congrArg₂ (fun a b : EReal => a * b) ?_ ?_))
      ((pay_at ..).trans (Finset.sum_congr rfl fun k _ => congrArg₂ (fun a b : EReal => a * b) ?_ ?_))
    · blk_point [iblk, V, idx_val t, idx_val ⟨t.val - 1, _⟩]
    · blk_point [iblk, V, idx_val t, idx_val ⟨t.val - 1, _⟩]
    · blk_point [iblk, V, idx_val t]
    · blk_point [iblk, V, idx_val t]
  · funext i
    exact if_congr Iff.rfl rfl ((congrFun (A_eq m c 2) i).trans (congrFun (entry m c) i))

/-- The reference's array at an index. -/
theorem ref_at (x0 : FVec Ideal S4096x10240 .bf16) (x1 : FVec Ideal S2048x10240 .bf16) (x2 : FVec Ideal S4096x4096 .f32) (i : S4096x4096.Idx) :
    Cert.MmDxn1HiRefIdeal.Read.val_main_v6 (F := Ideal) x0 x1 x2 i = if 4 ≤ (i 1).val / 512 then
      whole x0 x1 (i 0) ⟨((i 1).val - 2048) % 2048, Nat.mod_lt _ (by decide)⟩ else x2 i := by
  unfold Cert.MmDxn1HiRefIdeal.Read.val_main_v6
  have hl : (i 1).val < 4096 := (i 1).isLt
  by_cases h : 4 ≤ (i 1).val / 512
  · rw [if_pos h]
    let j : Cert.MmDxn1HiRefIdeal.S4096x2048.Idx := ix2 (i 0) ⟨((i 1).val - 2048) % 2048, Nat.mod_lt _ (by decide)⟩
    refine (concatenate_pair_apply_right (t := Cert.MmDxn1HiRefIdeal.S4096x4096) (s₁ := Cert.MmDxn1HiRefIdeal.S4096x2048) (s₂ := Cert.MmDxn1HiRefIdeal.S4096x2048) 1 _ _
      Cert.MmDxn1HiRefIdeal.Gen.concatenates_S4096x2048_S4096x2048_S4096x4096_d1 i rfl rfl j (fun b hb => match b with
        | ⟨0, _⟩ => rfl
        | ⟨1, _⟩ => absurd rfl hb) (by show ((i 1).val - 2048) % 2048 + 2048 = (i 1).val; omega)).trans ?_
    refine (Cert.MmDxn1HiRefIdeal.Read.val_main_v4_apply x0 x1 j).trans (Finset.sum_congr rfl fun k _ => congrArg₂ (fun a b : EReal => a * b) ?_ ?_)
    · exact congrArg x0 (funext fun a => match a with | ⟨0, _⟩ => rfl | ⟨1, _⟩ => rfl)
    · exact congrArg x1 (funext fun a => match a with | ⟨0, _⟩ => rfl | ⟨1, _⟩ => rfl)
  · rw [if_neg h]
    let j : Cert.MmDxn1HiRefIdeal.S4096x2048.Idx := ix2 (i 0) ⟨(i 1).val, by omega⟩
    refine (concatenate_pair_apply_left (t := Cert.MmDxn1HiRefIdeal.S4096x4096) (s₁ := Cert.MmDxn1HiRefIdeal.S4096x2048) (s₂ := Cert.MmDxn1HiRefIdeal.S4096x2048) 1 _ _
      Cert.MmDxn1HiRefIdeal.Gen.concatenates_S4096x2048_S4096x2048_S4096x4096_d1 i rfl j (fun b => match b with
        | ⟨0, _⟩ => rfl
        | ⟨1, _⟩ => rfl)).trans ?_
    refine (Cert.MmDxn1HiRefIdeal.Read.val_main_v5_apply (F := Ideal) x2 j).trans ?_
    exact congrArg x2 (funext fun a => match a with | ⟨0, _⟩ => rfl | ⟨1, _⟩ => rfl)

/-- The call's result is the reference's. -/
theorem claim : Cert.algebraic_MmDxn1HiIdeal_MmDxn1HiRefIdeal (hMmDxn1HiIdeal := Cert.MmDxn1HiIdeal.Gen.facts)
    (hMmDxn1HiRefIdeal := Cert.MmDxn1HiRefIdeal.Gen.facts) := by
  intro m g m' g' hpre hargs
  refine ⟨fun c => (dats m 0 c).arrAt 2 cfg0.N, run_blocks m g,
    (θ_run Cert.MmDxn1HiRefIdeal.defs _ _).mono (fun r h c => ?_) (Cert.MmDxn1HiRefIdeal.Value.run m' g')⟩
  obtain ⟨h1, h2⟩ := h c
  obtain ⟨a0, a1, a2⟩ := hargs c
  refine ⟨h1.trans ((Cert.MmDxn1HiRefIdeal.Read.val_main_v6_eq _ _ _).trans ?_), h2⟩
  rw [a0, a1, a2]
  exact (funext fun i => ref_at _ _ _ i).trans (final m c).symm

end Cert.MmDxn1HiAlg
-- ==== Proof.MmDxn1LoAlg.lean ====
module

public import proofs.«01_k».proof.Proof.Gen.MmDxn1LoIdeal.Value
public import proofs.«01_k».proof.Proof.Gen.MmDxn1LoRefIdeal.Read
public import proofs.«01_k».proof.Proof.Gen.MmDxn1LoRefIdeal.Run
public import proofs.«01_k».proof.Defs
public import proofs.«01_k».proof.Proof.Gen.On_first_columns
public import Idealize.ShloMosaic.Lib.Pipeline.ValueKit
public import Idealize.ShloMosaic.Lib.Claim

/-!
  The first of the two calls of `mm_dxn1`: a product over the second axis of both factors, in two steps along the contracted axis,
  into the first columns of its result.
-/

@[expose] public section

set_option maxRecDepth 16384

noncomputable section

namespace Cert.MmDxn1LoAlg

open Cert.MmDxn1LoIdeal Cert.MmDxn1LoIdeal.Gen Cert.MmDxn1LoIdeal.Value Idealize.ShloMosaic Idealize.ShloMosaic.TcCoe Idealize.SL.Sem
open Idealize.ShloMosaic.Pipeline (Dat)

/-- The product of two blocks, at an index: the sum over the block's part of the contracted axis. -/
theorem pay_at (x0 : Vec Ideal S1024x5120 .bf16) (x1 : Vec Ideal S512x5120 .bf16) (j : S1024x512.Idx) :
    k0_pay1 x0 x1 j = ∑ k : Fin 5120, x0 (ix2 (j 0) k) * x1 (ix2 (j 1) k) := by
  pointwise [k0_pay1]

/-- What the first step keeps, at an index. -/
theorem keep_at (x0 : Vec Ideal S1024x5120 .bf16) (x1 : Vec Ideal S512x5120 .bf16) (j : S1024x512.Idx) :
    k0_pay2 x0 x1 j = k0_pay1 x0 x1 j := by
  unfold k0_pay2
  exact congrFun (shapeCast_self _ _) j

/-- Where the blocks of a grid point lie. -/
theorem idx_val : ∀ t : Fin cfg0.N, win0_0.index t = ![t.val / 8, t.val % 2]
    ∧ win0_1.index t = ![t.val / 2 % 4, t.val % 2]
    ∧ win0_2.index t = ![t.val / 8, t.val / 2 % 4] :=
  (by decide +kernel : ∀ t : Fin grid0.N, _)

/-- Only the second step of each tile is written back. -/
theorem flush_odd : ∀ t : Fin cfg0.N, (cfg0.win 2).flush t = true → t.val % 2 = 1 :=
  (by decide +kernel : ∀ t : Fin grid0.N, _)

/-- The sum over the whole contracted axis, for one element. -/
def whole (x : FVec Ideal S4096x10240 .bf16) (y : FVec Ideal S2048x10240 .bf16) (r : Fin 4096) (q : Fin 2048) : EReal :=
  ∑ k : Fin 10240, x (ix2 r k) * y (ix2 q k)

/-- It is the sum over its two halves. -/
theorem whole_eq (x : FVec Ideal S4096x10240 .bf16) (y : FVec Ideal S2048x10240 .bf16) (r : Fin 4096) (q : Fin 2048) :
    whole x y r q = (∑ k : Fin 5120, x (ix2 r ⟨k.val, by omega⟩) * y (ix2 q ⟨k.val, by omega⟩))
      + ∑ k : Fin 5120, x (ix2 r ⟨5120 + k.val, by omega⟩) * y (ix2 q ⟨5120 + k.val, by omega⟩) :=
  Fin.sum_univ_add (a := 5120) (b := 5120) _

variable (m : (ℓ : Loc nD τ sig) → Buf (Elt Ideal) ℓ) (c : Dev nD)

/-- What the first step of a tile leaves for the second, at an index. -/
theorem kept (t : Fin cfg0.N) (h : t.val % 2 = 0) (j : S1024x512.Idx) :
    (outsAt0 m c t.val t.isLt).2 j = k0_pay1 (iblk m c 0 t) (iblk m c 1 t) j := by
  rw [outsAt0_A m c t h (by omega)]
  dsimp only
  unfold sout0_A_0
  frame_out
  exact keep_at _ _ j

/-- What the second step of a tile writes, at an index. -/
theorem written (t : Fin cfg0.N) (h : t.val % 2 = 1) (j : S1024x512.Idx) :
    (outsAt0 m c t.val t.isLt).1 j
      = k0_pay1 (iblk m c 0 ⟨t.val - 1, Nat.lt_of_le_of_lt (Nat.sub_le _ _) t.isLt⟩) (iblk m c 1 ⟨t.val - 1, Nat.lt_of_le_of_lt (Nat.sub_le _ _) t.isLt⟩) j
        + k0_pay1 (iblk m c 0 t) (iblk m c 1 t) j := by
  rw [outsAt0_B m c t (by omega) h]
  dsimp only
  unfold out0_B_2
  frame_out
  unfold k0_pay4
  refine congrArg (fun a : EReal => a + k0_pay1 (iblk m c 0 t) (iblk m c 1 t) j) (Eq.trans ?_
    (kept m c ⟨t.val - 1, Nat.lt_of_le_of_lt (Nat.sub_le _ _) t.isLt⟩ (by show (t.val - 1) % 2 = 0; omega) j))
  exact congrFun ((Memref.isWhole_whole cc0_scratch0).read_unread _) j

/-- The result array after the run, at an index of the columns the call writes. -/
theorem final (i : S4096x4096.Idx) (hi : (i 1).val < 2048) : (dats m 0 c).arrAt 2 cfg0.N i
    = whole (m ((c : Thread nD τ).loc main_arg0)) (m ((c : Thread nD τ).loc main_arg1)) (i 0) ⟨(i 1).val, hi⟩ := by
  refine ((dats m 0 c).arrAt_apply_of_coversWhere 2
    (fun i => whole (m ((c : Thread nD τ).loc main_arg0)) (m ((c : Thread nD τ).loc main_arg1)) (i 0) ⟨(i 1).val % 2048, Nat.mod_lt _ (by decide)⟩)
    (P := fun i => (i 1).val / 512 < 4) (fun β => β (1 : Fin _) < 4) (by decide +kernel) (fun t hf y => ?_) (fun j => Iff.rfl) i).trans ?_
  · have ho := flush_odd t hf
    have hN : t.val < 32 := t.isLt
    blk_simp
    rw [after0_2, written m c t ho]
    refine Eq.trans ?_ (whole_eq _ _ _ _).symm
    refine congrArg₂ (fun a b : EReal => a + b) ((pay_at ..).trans (Finset.sum_congr rfl fun k _ => congrArg₂ (fun a b : EReal => a * b) ?_ ?_))
      ((pay_at ..).trans (Finset.sum_congr rfl fun k _ => congrArg₂ (fun a b : EReal => a * b) ?_ ?_))
    · blk_point [iblk, V, idx_val t, idx_val ⟨t.val - 1, _⟩]
    · blk_point [iblk, V, idx_val t, idx_val ⟨t.val - 1, _⟩]
    · blk_point [iblk, V, idx_val t]
    · blk_point [iblk, V, idx_val t]
  · rw [if_pos (show (i 1).val / 512 < 4 by omega)]
    exact congrArg (whole _ _ (i 0)) (Fin.ext (Nat.mod_eq_of_lt hi))

/-- The mask holds at no index beyond the first 2048 columns. -/
theorem of_mask (x0 : FVec Ideal S4096x10240 .bf16) (x1 : FVec Ideal S2048x10240 .bf16) (x2 : FVec Ideal S8x128 .f32) (i : S4096x4096.Idx)
    (h : Cert.On_first_columns.fn (F := Ideal) x0 x1 x2 i = 1#1) : (i 1).val < 2048 := by
  have h1 : BitVec.ofBool ((BitVec.ofNat 32 (i 1).val).slt 2048#32) = 1#1 := h
  have h2 : (BitVec.ofNat 32 (i 1).val).slt 2048#32 = true := by
    cases hb : (BitVec.ofNat 32 (i 1).val).slt 2048#32 with
    | true => rfl
    | false => rw [hb] at h1; exact absurd h1 (by decide)
  have hi : (i 1).val < 4096 := (i 1).isLt
  have h3 := BitVec.slt_iff_toInt_lt.mp h2
  have h4 : (BitVec.ofNat 32 (i 1).val).toInt = ((i 1).val : Int) := by
    rw [BitVec.toInt_eq_toNat_of_lt (by rw [BitVec.toNat_ofNat]; omega), BitVec.toNat_ofNat, Nat.mod_eq_of_lt (by omega)]
  rw [h4, show (2048#32 : BitVec 32).toInt = 2048 from by decide] at h3
  omega

/-- The reference's array at an index of the first 2048 columns. -/
theorem ref_at (x0 : FVec Ideal S4096x10240 .bf16) (x1 : FVec Ideal S2048x10240 .bf16) (i : S4096x4096.Idx) (hi : (i 1).val < 2048) :
    Cert.MmDxn1LoRefIdeal.Read.val_main_v6 (F := Ideal) x0 x1 i = whole x0 x1 (i 0) ⟨(i 1).val, hi⟩ := by
  unfold Cert.MmDxn1LoRefIdeal.Read.val_main_v6
  let j : Cert.MmDxn1LoRefIdeal.S4096x2048.Idx := ix2 (i 0) ⟨(i 1).val, hi⟩
  refine (concatenate_pair_apply_left (t := Cert.MmDxn1LoRefIdeal.S4096x4096) (s₁ := Cert.MmDxn1LoRefIdeal.S4096x2048) (s₂ := Cert.MmDxn1LoRefIdeal.S4096x2048) 1 _ _
    Cert.MmDxn1LoRefIdeal.Gen.concatenates_S4096x2048_S4096x2048_S4096x4096_d1 i rfl j (fun b => match b with
      | ⟨0, _⟩ => rfl
      | ⟨1, _⟩ => rfl)).trans ?_
  refine (Cert.MmDxn1LoRefIdeal.Read.val_main_v4_apply x0 x1 j).trans (Finset.sum_congr rfl fun k _ => congrArg₂ (fun a b : EReal => a * b) ?_ ?_)
  · exact congrArg x0 (funext fun a => match a with | ⟨0, _⟩ => rfl | ⟨1, _⟩ => rfl)
  · exact congrArg x1 (funext fun a => match a with | ⟨0, _⟩ => rfl | ⟨1, _⟩ => rfl)

/-- On the first 2048 columns the call's result is the reference's. -/
theorem claim : Cert.algebraic_MmDxn1LoIdeal_MmDxn1LoRefIdeal_on_first_columns (hMmDxn1LoIdeal := Cert.MmDxn1LoIdeal.Gen.facts)
    (hMmDxn1LoRefIdeal := Cert.MmDxn1LoRefIdeal.Gen.facts) (hOn_first_columns := Cert.On_first_columns.Gen.facts) := by
  intro m g m' g' hpre hargs
  refine ⟨fun c => (dats m 0 c).arrAt 2 cfg0.N,
    (θ_run defs _ _).mono (fun r h c => ⟨fun i _ => congrFun (h c).1 i, (h c).2⟩) (run_blocks m g),
    (θ_run Cert.MmDxn1LoRefIdeal.defs _ _).mono (fun r h c => ?_) (Cert.MmDxn1LoRefIdeal.Value.run m' g')⟩
  obtain ⟨h1, h2⟩ := h c
  obtain ⟨a0, a1, _⟩ := hargs c
  refine ⟨fun i hm => ?_, h2⟩
  have hi := of_mask _ _ _ i hm
  refine (congrFun (h1.trans (Cert.MmDxn1LoRefIdeal.Read.val_main_v6_eq _ _)) i).trans ?_
  rw [a0, a1]
  exact (ref_at _ _ i hi).trans (final m c i hi).symm

end Cert.MmDxn1LoAlg
-- ==== Proof.MmDxn2Alg.lean ====
module

public import proofs.«01_k».proof.Proof.Gen.MmDxn2Ideal.Value
public import proofs.«01_k».proof.Proof.Gen.MmDxn2RefIdeal.Read
public import proofs.«01_k».proof.Proof.Gen.MmDxn2RefIdeal.Run
public import proofs.«01_k».proof.Defs
public import Idealize.ShloMosaic.Lib.Pipeline.ValueKit
public import Idealize.ShloMosaic.Lib.Claim

/-!
  The product `mm_dxn2`: the gradient of the attention input rows, tile by tile.
-/

@[expose] public section

set_option maxRecDepth 16384

noncomputable section

namespace Cert.MmDxn2Alg

open Cert.MmDxn2Ideal Cert.MmDxn2Ideal.Gen Cert.MmDxn2Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S1024x4096 .bf16) (x1 : Vec Ideal S1024x4096 .bf16) (j : S1024x1024.Idx) :
    k0_pay1 x0 x1 j = ∑ k : Fin 4096, x0 (ix2 (j 0) k) * x1 (ix2 (j 1) k) := by
  pointwise [k0_pay1]

/-- Where the blocks of a grid point lie. -/
theorem idx_val : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- The result array is the reference's. -/
theorem final : (dats m 0 c).arrAt 2 cfg0.N = Cert.MmDxn2RefIdeal.Read.val_main_v4 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay_at ..).trans (Eq.trans ?_ (Cert.MmDxn2RefIdeal.Read.val_main_v4_apply ..).symm)
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmDxn2Ideal_MmDxn2RefIdeal (hMmDxn2Ideal := Cert.MmDxn2Ideal.Gen.facts)
    (hMmDxn2RefIdeal := Cert.MmDxn2RefIdeal.Gen.facts) := by
  intro m g m' g' hpre hargs
  refine ⟨fun c => (dats m 0 c).arrAt 2 cfg0.N, run_blocks m g,
    (θ_run Cert.MmDxn2RefIdeal.defs _ _).mono (fun r h c => ?_) (Cert.MmDxn2RefIdeal.Value.run m' g')⟩
  obtain ⟨h1, h2⟩ := h c
  obtain ⟨a0, a1, _⟩ := hargs c
  refine ⟨h1.trans ((Cert.MmDxn2RefIdeal.Read.val_main_v4_eq _ _).trans ?_), h2⟩
  rw [a0, a1]
  exact (final m c).symm

end Cert.MmDxn2Alg
-- ==== Proof.MmDxn3Alg.lean ====
module

public import proofs.«01_k».proof.Proof.Gen.MmDxn3Ideal
public import proofs.«01_k».proof.Proof.Gen.MmDxn3Ideal.Frame
public import proofs.«01_k».proof.Proof.Gen.MmDxn3RefIdeal
public import proofs.«01_k».proof.Proof.Gen.MmDxn3RefIdeal.Read
public import proofs.«01_k».proof.Proof.Gen.MmDxn3RefIdeal.Run
public import proofs.«01_k».proof.Defs
public import Idealize.ShloMosaic.Lib.Claim
public import Idealize.ShloMosaic.Lib.Pipeline.ValueKit

/-!
  A product in four calls, each adding its part to what the one before left: each call's result array as a function of the arrays it
  reads, the run through all of them, and the sum of the parts.
-/

@[expose] public section

set_option maxRecDepth 16384

noncomputable section

namespace Cert.MmDxn3Alg

open Cert.MmDxn3Ideal Cert.MmDxn3Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

/-- What call 0 leaves: the sum over its part of the contracted axis. -/
def part0 (x : FVec Ideal S4096x11264 .bf16) (y : FVec Ideal S11264x4096 .bf16) : FVec Ideal S4096x4096 .f32 :=
  fun i => ∑ k : Fin 5632, x (ix2 (i 0) ⟨0 * 5632 + k.val, by omega⟩) * y (ix2 ⟨0 * 5632 + k.val, by omega⟩ (i 1))

/-- A tile of call 0's product, at an index. -/
theorem pay0_at (x0 : Vec Ideal S1024x5632 .bf16) (x1 : Vec Ideal S5632x512 .bf16) (j : S1024x512.Idx) :
    k0_pay1 x0 x1 j = ∑ k : Fin 5632, x0 (ix2 (j 0) k) * x1 (ix2 k (j 1)) := by
  pointwise [k0_pay1]

/-- Where call 0's blocks lie. -/
theorem idx0 : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- Call 0's result array, as a function of the arrays the call finds. -/
theorem final0 (V : (c : Dev nD) → (b : Ref sig .tc) → Buf (Elt Ideal) ((c : Thread nD τ).loc b)) (c : Dev nD) :
    (dat0 V c).arrAt 2 cfg0.N = part0 (V c main_arg0) (V c main_arg2) := by
  refine (dat0 V c).arrAt_eq_of_covers 2 _ (by decide +kernel) fun t hf y => ?_
  blk_simp
  rw [after0_2]
  unfold outsAt0
  frame_out
  refine (pay0_at ..).trans ?_
  unfold part0
  refine Finset.sum_congr rfl fun k _ => congrArg₂ (fun a b : EReal => a * b) ?_ ?_
  · blk_point [iblk0, idx0 t] <;> rfl
  · blk_point [iblk0, idx0 t] <;> rfl

/-- What call 1 leaves: the array it adds to, and the sum over its part of the contracted axis. -/
def part1 (x : FVec Ideal S4096x11264 .bf16) (y : FVec Ideal S11264x4096 .bf16) (a : FVec Ideal S4096x4096 .f32) : FVec Ideal S4096x4096 .f32 :=
  fun i => a i + ∑ k : Fin 5632, x (ix2 (i 0) ⟨1 * 5632 + k.val, by omega⟩) * y (ix2 ⟨1 * 5632 + k.val, by omega⟩ (i 1))

/-- A tile of call 1's product, at an index. -/
theorem pay1_at (x0 : Vec Ideal S1024x5632 .bf16) (x1 : Vec Ideal S5632x512 .bf16) (x3 : Vec Ideal S1024x512 .f32) (j : S1024x512.Idx) :
    k1_pay1 x0 x1 x3 j = x3 j + ∑ k : Fin 5632, x0 (ix2 (j 0) k) * x1 (ix2 k (j 1)) := by
  pointwise [k1_pay1]

/-- Where call 1's blocks lie. -/
theorem idx1 : ∀ t : Fin cfg1.N, win1_0.index t = ![t.val / 8, 1]
    ∧ win1_1.index t = ![1, t.val % 8]
    ∧ win1_2.index t = ![t.val / 8, t.val % 8]
    ∧ win1_3.index t = ![t.val / 8, t.val % 8] :=
  (by decide +kernel : ∀ t : Fin grid1.N, _)

/-- Call 1's result array, as a function of the arrays the call finds. -/
theorem final1 (V : (c : Dev nD) → (b : Ref sig .tc) → Buf (Elt Ideal) ((c : Thread nD τ).loc b)) (c : Dev nD) :
    (dat1 V c).arrAt 3 cfg1.N = part1 (V c main_arg0) (V c main_arg2) (V c main_v0) := by
  refine (dat1 V c).arrAt_eq_of_covers 3 _ (by decide +kernel) fun t hf y => ?_
  blk_simp
  rw [after1_3]
  unfold out1_3
  frame_out
  refine (pay1_at ..).trans ?_
  unfold part1
  refine congrArg₂ (fun a b : EReal => a + b) ?_ (Finset.sum_congr rfl fun k _ => congrArg₂ (fun a b : EReal => a * b) ?_ ?_)
  · blk_point [iblk1, idx1 t] <;> rfl
  · blk_point [iblk1, idx1 t] <;> rfl
  · blk_point [iblk1, idx1 t] <;> rfl

/-- What call 2 leaves: the array it adds to, and the sum over its part of the contracted axis. -/
def part2 (x : FVec Ideal S4096x11264 .bf16) (y : FVec Ideal S11264x4096 .bf16) (a : FVec Ideal S4096x4096 .f32) : FVec Ideal S4096x4096 .f32 :=
  fun i => a i + ∑ k : Fin 5632, x (ix2 (i 0) ⟨0 * 5632 + k.val, by omega⟩) * y (ix2 ⟨0 * 5632 + k.val, by omega⟩ (i 1))

/-- A tile of call 2's product, at an index. -/
theorem pay2_at (x0 : Vec Ideal S1024x5632 .bf16) (x1 : Vec Ideal S5632x512 .bf16) (x3 : Vec Ideal S1024x512 .f32) (j : S1024x512.Idx) :
    k2_pay1 x0 x1 x3 j = x3 j + ∑ k : Fin 5632, x0 (ix2 (j 0) k) * x1 (ix2 k (j 1)) := by
  pointwise [k2_pay1]

/-- Where call 2's blocks lie. -/
theorem idx2 : ∀ t : Fin cfg2.N, win2_0.index t = ![t.val / 8, 0]
    ∧ win2_1.index t = ![0, t.val % 8]
    ∧ win2_2.index t = ![t.val / 8, t.val % 8]
    ∧ win2_3.index t = ![t.val / 8, t.val % 8] :=
  (by decide +kernel : ∀ t : Fin grid2.N, _)

/-- Call 2's result array, as a function of the arrays the call finds. -/
theorem final2 (V : (c : Dev nD) → (b : Ref sig .tc) → Buf (Elt Ideal) ((c : Thread nD τ).loc b)) (c : Dev nD) :
    (dat2 V c).arrAt 3 cfg2.N = part2 (V c main_arg1) (V c main_arg3) (V c main_v1) := by
  refine (dat2 V c).arrAt_eq_of_covers 3 _ (by decide +kernel) fun t hf y => ?_
  blk_simp
  rw [after2_3]
  unfold out2_3
  frame_out
  refine (pay2_at ..).trans ?_
  unfold part2
  refine congrArg₂ (fun a b : EReal => a + b) ?_ (Finset.sum_congr rfl fun k _ => congrArg₂ (fun a b : EReal => a * b) ?_ ?_)
  · blk_point [iblk2, idx2 t] <;> rfl
  · blk_point [iblk2, idx2 t] <;> rfl
  · blk_point [iblk2, idx2 t] <;> rfl

/-- What call 3 leaves: the array it adds to, and the sum over its part of the contracted axis. -/
def part3 (x : FVec Ideal S4096x11264 .bf16) (y : FVec Ideal S11264x4096 .bf16) (a : FVec Ideal S4096x4096 .f32) : FVec Ideal S4096x4096 .f32 :=
  fun i => a i + ∑ k : Fin 5632, x (ix2 (i 0) ⟨1 * 5632 + k.val, by omega⟩) * y (ix2 ⟨1 * 5632 + k.val, by omega⟩ (i 1))

/-- A tile of call 3's product, at an index. -/
theorem pay3_at (x0 : Vec Ideal S1024x5632 .bf16) (x1 : Vec Ideal S5632x512 .bf16) (x3 : Vec Ideal S1024x512 .f32) (j : S1024x512.Idx) :
    k3_pay1 x0 x1 x3 j = x3 j + ∑ k : Fin 5632, x0 (ix2 (j 0) k) * x1 (ix2 k (j 1)) := by
  pointwise [k3_pay1]

/-- Where call 3's blocks lie. -/
theorem idx3 : ∀ t : Fin cfg3.N, win3_0.index t = ![t.val / 8, 1]
    ∧ win3_1.index t = ![1, t.val % 8]
    ∧ win3_2.index t = ![t.val / 8, t.val % 8]
    ∧ win3_3.index t = ![t.val / 8, t.val % 8] :=
  (by decide +kernel : ∀ t : Fin grid3.N, _)

/-- Call 3's result array, as a function of the arrays the call finds. -/
theorem final3 (V : (c : Dev nD) → (b : Ref sig .tc) → Buf (Elt Ideal) ((c : Thread nD τ).loc b)) (c : Dev nD) :
    (dat3 V c).arrAt 3 cfg3.N = part3 (V c main_arg1) (V c main_arg3) (V c main_v2) := by
  refine (dat3 V c).arrAt_eq_of_covers 3 _ (by decide +kernel) fun t hf y => ?_
  blk_simp
  rw [after3_3]
  unfold out3_3
  frame_out
  refine (pay3_at ..).trans ?_
  unfold part3
  refine congrArg₂ (fun a b : EReal => a + b) ?_ (Finset.sum_congr rfl fun k _ => congrArg₂ (fun a b : EReal => a * b) ?_ ?_)
  · blk_point [iblk3, idx3 t] <;> rfl
  · blk_point [iblk3, idx3 t] <;> rfl
  · blk_point [iblk3, idx3 t] <;> rfl

/-- One branch's product over the feed-forward width is the sum of its two halves. -/
theorem up_at (x1 : FVec Ideal S4096x11264 .bf16) (x3 : FVec Ideal S11264x4096 .bf16) (i : S4096x4096.Idx) :
    (∑ k : Fin 5632, x1 (ix2 (i 0) ⟨0 * 5632 + k.val, by omega⟩) * x3 (ix2 ⟨0 * 5632 + k.val, by omega⟩ (i 1)))
      + (∑ k : Fin 5632, x1 (ix2 (i 0) ⟨1 * 5632 + k.val, by omega⟩) * x3 (ix2 ⟨1 * 5632 + k.val, by omega⟩ (i 1)))
      = Cert.MmDxn3RefIdeal.Read.val_main_v9 (F := Ideal) x1 x3 i := by
  refine Eq.trans ?_ (Cert.MmDxn3RefIdeal.Read.val_main_v9_apply x1 x3 i).symm
  refine Eq.trans ?_ (Fin.sum_univ_add (a := 5632) (b := 5632) _).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact congrArg x1 (funext fun a => match a with | ⟨0, _⟩ => rfl | ⟨1, _⟩ => Fin.ext (by show 0 * 5632 + k.val = k.val; omega))
  · refine Eq.trans ?_ (Cert.MmDxn3RefIdeal.Read.val_main_v7_apply (F := Ideal) _ _).symm
    exact congrArg x3 (funext fun a => match a with | ⟨0, _⟩ => Fin.ext (by show 0 * 5632 + k.val = k.val; omega) | ⟨1, _⟩ => rfl)
  · exact congrArg x1 (funext fun a => match a with | ⟨0, _⟩ => rfl | ⟨1, _⟩ => Fin.ext (by show 1 * 5632 + k.val = 5632 + k.val; omega))
  · refine Eq.trans ?_ (Cert.MmDxn3RefIdeal.Read.val_main_v7_apply (F := Ideal) _ _).symm
    exact congrArg x3 (funext fun a => match a with | ⟨0, _⟩ => Fin.ext (by show 1 * 5632 + k.val = 5632 + k.val; omega) | ⟨1, _⟩ => rfl)

/-- The other branch's. -/
theorem gate_at (x0 : FVec Ideal S4096x11264 .bf16) (x2 : FVec Ideal S11264x4096 .bf16) (i : S4096x4096.Idx) :
    (∑ k : Fin 5632, x0 (ix2 (i 0) ⟨0 * 5632 + k.val, by omega⟩) * x2 (ix2 ⟨0 * 5632 + k.val, by omega⟩ (i 1)))
      + (∑ k : Fin 5632, x0 (ix2 (i 0) ⟨1 * 5632 + k.val, by omega⟩) * x2 (ix2 ⟨1 * 5632 + k.val, by omega⟩ (i 1)))
      = Cert.MmDxn3RefIdeal.Read.val_main_v10 (F := Ideal) x0 x2 i := by
  refine Eq.trans ?_ (Cert.MmDxn3RefIdeal.Read.val_main_v10_apply x0 x2 i).symm
  refine Eq.trans ?_ (Fin.sum_univ_add (a := 5632) (b := 5632) _).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact congrArg x0 (funext fun a => match a with | ⟨0, _⟩ => rfl | ⟨1, _⟩ => Fin.ext (by show 0 * 5632 + k.val = k.val; omega))
  · refine Eq.trans ?_ (Cert.MmDxn3RefIdeal.Read.val_main_v5_apply (F := Ideal) _ _).symm
    exact congrArg x2 (funext fun a => match a with | ⟨0, _⟩ => Fin.ext (by show 0 * 5632 + k.val = k.val; omega) | ⟨1, _⟩ => rfl)
  · exact congrArg x0 (funext fun a => match a with | ⟨0, _⟩ => rfl | ⟨1, _⟩ => Fin.ext (by show 1 * 5632 + k.val = 5632 + k.val; omega))
  · refine Eq.trans ?_ (Cert.MmDxn3RefIdeal.Read.val_main_v5_apply (F := Ideal) _ _).symm
    exact congrArg x2 (funext fun a => match a with | ⟨0, _⟩ => Fin.ext (by show 1 * 5632 + k.val = 5632 + k.val; omega) | ⟨1, _⟩ => rfl)

/-- The four calls, each adding to what the one before left, make the reference's sum of two products. -/
theorem ref_at (x0 x1 : FVec Ideal S4096x11264 .bf16) (x2 x3 : FVec Ideal S11264x4096 .bf16) :
    part3 x1 x3 (part2 x1 x3 (part1 x0 x2 (part0 x0 x2))) = Cert.MmDxn3RefIdeal.Read.val_main_v11 (F := Ideal) x0 x1 x2 x3 := by
  funext i
  refine Eq.trans ?_ ((congrArg₂ (fun a b : EReal => a + b) (up_at x1 x3 i) (gate_at x0 x2 i)))
  exact (add_assoc _ _ _).trans (add_comm _ _)

variable (m : (ℓ : Loc nD τ sig) → Buf (Elt Ideal) ℓ) (ρ : Dev nD → PrngReg)

set_option backward.isDefEq.respectTransparency.types false in
/-- The run through all the calls, with the last one's result array named and the arguments kept. -/
theorem run_named : θ_run defs (onTc (τ := τ) (main (F := Ideal))) ⟨m, fun _ => 0, ρ⟩ fun r => ∀ c : Dev nD,
      r.2.mem ((c : Thread nD τ).loc main_v3) = (dat3 (V3 m ρ) c).arrAt 3 cfg3.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- Call 0 finds `main_arg2` as launched. -/
theorem V0_main_arg2 (c : Dev nD) : V0 m ρ c main_arg2 = m ((c : Thread nD τ).loc main_arg2) := W0_args m ρ c main_arg2 (by decide)

/-- Call 0 finds `main_arg0` as launched. -/
theorem V0_main_arg0 (c : Dev nD) : V0 m ρ c main_arg0 = m ((c : Thread nD τ).loc main_arg0) := W0_args m ρ c main_arg0 (by decide)

/-- Call 1 finds `main_arg2` as launched. -/
theorem V1_main_arg2 (c : Dev nD) : V1 m ρ c main_arg2 = m ((c : Thread nD τ).loc main_arg2) := W1_args m ρ c main_arg2 (by decide)

/-- Call 1 finds `main_arg0` as launched. -/
theorem V1_main_arg0 (c : Dev nD) : V1 m ρ c main_arg0 = m ((c : Thread nD τ).loc main_arg0) := W1_args m ρ c main_arg0 (by decide)

/-- Call 1 finds in `main_v0` what call 0 left. -/
theorem V1_main_v0 (c : Dev nD) : V1 m ρ c main_v0 = (dat0 (V0 m ρ) c).arrAt 2 cfg0.N := W1_arr m ρ c 2

/-- Call 2 finds `main_arg1` as launched. -/
theorem V2_main_arg1 (c : Dev nD) : V2 m ρ c main_arg1 = m ((c : Thread nD τ).loc main_arg1) := W2_args m ρ c main_arg1 (by decide)

/-- Call 2 finds `main_arg3` as launched. -/
theorem V2_main_arg3 (c : Dev nD) : V2 m ρ c main_arg3 = m ((c : Thread nD τ).loc main_arg3) := W2_args m ρ c main_arg3 (by decide)

/-- Call 2 finds in `main_v1` what call 1 left. -/
theorem V2_main_v1 (c : Dev nD) : V2 m ρ c main_v1 = (dat1 (V1 m ρ) c).arrAt 3 cfg1.N := W2_arr m ρ c 3

/-- Call 3 finds `main_arg1` as launched. -/
theorem V3_main_arg1 (c : Dev nD) : V3 m ρ c main_arg1 = m ((c : Thread nD τ).loc main_arg1) := W3_args m ρ c main_arg1 (by decide)

/-- Call 3 finds `main_arg3` as launched. -/
theorem V3_main_arg3 (c : Dev nD) : V3 m ρ c main_arg3 = m ((c : Thread nD τ).loc main_arg3) := W3_args m ρ c main_arg3 (by decide)

/-- Call 3 finds in `main_v2` what call 2 left. -/
theorem V3_main_v2 (c : Dev nD) : V3 m ρ c main_v2 = (dat2 (V2 m ρ) c).arrAt 3 cfg2.N := W3_arr m ρ c 3

/-- The last call's result array is the reference's. -/
theorem final (c : Dev nD) : (dat3 (V3 m ρ) c).arrAt 3 cfg3.N = Cert.MmDxn3RefIdeal.Read.val_main_v11 (F := Ideal)
    (m ((c : Thread nD τ).loc main_arg0)) (m ((c : Thread nD τ).loc main_arg1)) (m ((c : Thread nD τ).loc main_arg2)) (m ((c : Thread nD τ).loc main_arg3)) := by
  rw [final3, V3_main_arg1, V3_main_arg3, V3_main_v2]
  rw [final2, V2_main_arg1, V2_main_arg3, V2_main_v1]
  rw [final1, V1_main_arg0, V1_main_arg2, V1_main_v0]
  rw [final0, V0_main_arg0, V0_main_arg2]
  exact ref_at _ _ _ _

/-- The calls' result is the reference's. -/
theorem claim : Cert.algebraic_MmDxn3Ideal_MmDxn3RefIdeal (hMmDxn3Ideal := Cert.MmDxn3Ideal.Gen.facts)
    (hMmDxn3RefIdeal := Cert.MmDxn3RefIdeal.Gen.facts) := by
  intro m g m' g' hpre hargs
  refine ⟨fun c => (dat3 (V3 m g) c).arrAt 3 cfg3.N, run_named m g,
    (θ_run Cert.MmDxn3RefIdeal.defs _ _).mono (fun r h c => ?_) (Cert.MmDxn3RefIdeal.Value.run m' g')⟩
  obtain ⟨h1, h2⟩ := h c
  obtain ⟨a0, a1, a2, a3, a4⟩ := hargs c
  refine ⟨h1.trans ((Cert.MmDxn3RefIdeal.Read.val_main_v11_eq _ _ _ _).trans ?_), h2⟩
  rw [a0, a1, a2, a3]
  exact (final m g c).symm

end Cert.MmDxn3Alg
-- ==== Proof.MmGateAlg.lean ====
module

public import proofs.«01_k».proof.Proof.Gen.MmGateIdeal.Value
public import proofs.«01_k».proof.Proof.Gen.MmGateRefIdeal.Read
public import proofs.«01_k».proof.Proof.Gen.MmGateRefIdeal.Run
public import proofs.«01_k».proof.Defs
public import Idealize.ShloMosaic.Lib.Pipeline.ValueKit
public import Idealize.ShloMosaic.Lib.Claim

/-!
  The product `mm_gate`, whose weight comes transposed, tile by tile.
-/

@[expose] public section

set_option maxRecDepth 16384

noncomputable section

namespace Cert.MmGateAlg

open Cert.MmGateIdeal Cert.MmGateIdeal.Gen Cert.MmGateIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S1024x4096 .bf16) (x1 : Vec Ideal S1024x4096 .bf16) (j : S1024x1024.Idx) :
    k0_pay1 x0 x1 j = ∑ k : Fin 4096, x0 (ix2 (j 0) k) * x1 (ix2 (j 1) k) := by
  pointwise [k0_pay1]

/-- Where the blocks of a grid point lie. -/
theorem idx_val : ∀ t : Fin cfg0.N, win0_0.index t = ![t.val / 11, 0]
    ∧ win0_1.index t = ![t.val % 11, 0]
    ∧ win0_2.index t = ![t.val / 11, t.val % 11] :=
  (by decide +kernel : ∀ t : Fin grid0.N, _)

/-- The result array is the reference's. -/
theorem final : (dats m 0 c).arrAt 2 cfg0.N = Cert.MmGateRefIdeal.Read.val_main_v3 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_at ..).trans (Eq.trans ?_ (Cert.MmGateRefIdeal.Read.val_main_v3_apply ..).symm)
  refine Finset.sum_congr rfl fun k _ => congrArg₂ (fun a b : EReal => a * b) ?_ ?_
  · blk_point [iblk, V, idx_val t] <;> rfl
  · refine Eq.trans ?_ (Cert.MmGateRefIdeal.Read.val_main_v2_apply (F := Ideal) _ _).symm
    blk_point [iblk, V, idx_val t] <;> rfl

/-- The kernel's product is the reference's. -/
theorem claim : Cert.algebraic_MmGateIdeal_MmGateRefIdeal (hMmGateIdeal := Cert.MmGateIdeal.Gen.facts)
    (hMmGateRefIdeal := Cert.MmGateRefIdeal.Gen.facts) := by
  intro m g m' g' hpre hargs
  refine ⟨fun c => (dats m 0 c).arrAt 2 cfg0.N, run_blocks m g,
    (θ_run Cert.MmGateRefIdeal.defs _ _).mono (fun r h c => ?_) (Cert.MmGateRefIdeal.Value.run m' g')⟩
  obtain ⟨h1, h2⟩ := h c
  obtain ⟨a0, a1⟩ := hargs c
  refine ⟨h1.trans ((Cert.MmGateRefIdeal.Read.val_main_v3_eq _ _).trans ?_), h2⟩
  rw [a0, a1]
  exact (final m c).symm

end Cert.MmGateAlg
-- ==== Proof.MmInAlg.lean ====
module

public import proofs.«01_k».proof.Proof.Gen.MmInIdeal
public import proofs.«01_k».proof.Proof.Gen.MmInIdeal.Frame
public import proofs.«01_k».proof.Proof.Gen.MmInRefIdeal
public import proofs.«01_k».proof.Proof.Gen.MmInRefIdeal.Read
public import proofs.«01_k».proof.Proof.Gen.MmInRefIdeal.Run
public import proofs.«01_k».proof.Defs
public import Idealize.ShloMosaic.Lib.Claim
public import Idealize.ShloMosaic.Lib.Pipeline.ValueKit

/-!
  A product in two calls, each adding its part to what the one before left: each call's result array as a function of the arrays it
  reads, the run through all of them, and the sum of the parts.
-/

@[expose] public section

set_option maxRecDepth 16384

noncomputable section

namespace Cert.MmInAlg

open Cert.MmInIdeal Cert.MmInIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat Cfg Window BodyObligation cellOf)

local notation "𝕄" => MT nD τ sig Unit (Elt Ideal) ℕ (UR sig nD τ) ℕ

/-- What call 0 leaves: the sum over its part of the contracted axis. -/
def part0 (x : FVec Ideal S4096x4096 .bf16) (y : FVec Ideal S2048x10240 .bf16) : FVec Ideal S4096x10240 .f32 :=
  fun i => ∑ k : Fin 2048, x (ix2 (i 0) ⟨0 * 2048 + k.val, by omega⟩) * y (ix2 ⟨0 * 2048 + k.val, by omega⟩ (i 1))

/-- A tile of call 0's product, at an index. -/
theorem pay0_at (x0 : Vec Ideal S1024x2048 .bf16) (x1 : Vec Ideal S2048x1024 .bf16) (j : S1024x1024.Idx) :
    k0_pay1 x0 x1 j = ∑ k : Fin 2048, x0 (ix2 (j 0) k) * x1 (ix2 k (j 1)) := by
  pointwise [k0_pay1]

/-- Where call 0's blocks lie. -/
theorem idx0 : ∀ t : Fin cfg0.N, win0_0.index t = ![t.val / 10, 0]
    ∧ win0_1.index t = ![0, t.val % 10]
    ∧ win0_2.index t = ![t.val / 10, t.val % 10] :=
  (by decide +kernel : ∀ t : Fin grid0.N, _)

/-- Call 0's result array, as a function of the arrays the call finds. -/
theorem final0 (V : (c : Dev nD) → (b : Ref sig .tc) → Buf (Elt Ideal) ((c : Thread nD τ).loc b)) (c : Dev nD) :
    (dat0 V c).arrAt 2 cfg0.N = part0 (V c main_arg0) (V c main_arg1) := by
  refine (dat0 V c).arrAt_eq_of_covers 2 _ (by decide +kernel) fun t hf y => ?_
  blk_simp
  rw [after0_2]
  unfold out0_2
  frame_out
  refine (pay0_at ..).trans ?_
  unfold part0
  refine Finset.sum_congr rfl fun k _ => congrArg₂ (fun a b : EReal => a * b) ?_ ?_
  · blk_point [iblk0, idx0 t] <;> rfl
  · blk_point [iblk0, idx0 t] <;> rfl

/-- What call 1 leaves: the array it adds to, and the sum over its part of the contracted axis. -/
def part1 (x : FVec Ideal S4096x4096 .bf16) (y : FVec Ideal S2048x10240 .bf16) (a : FVec Ideal S4096x10240 .f32) : FVec Ideal S4096x10240 .f32 :=
  fun i => a i + ∑ k : Fin 2048, x (ix2 (i 0) ⟨1 * 2048 + k.val, by omega⟩) * y (ix2 ⟨0 * 2048 + k.val, by omega⟩ (i 1))

/-- A tile of call 1's product, at an index. -/
theorem pay1_at (x0 : Vec Ideal S1024x2048 .bf16) (x1 : Vec Ideal S2048x1024 .bf16) (x3 : Vec Ideal S1024x1024 .f32) (j : S1024x1024.Idx) :
    k1_pay1 x0 x1 x3 j = x3 j + ∑ k : Fin 2048, x0 (ix2 (j 0) k) * x1 (ix2 k (j 1)) := by
  pointwise [k1_pay1]

/-- Where call 1's blocks lie. -/
theorem idx1 : ∀ t : Fin cfg1.N, win1_0.index t = ![t.val / 10, 1]
    ∧ win1_1.index t = ![0, t.val % 10]
    ∧ win1_2.index t = ![t.val / 10, t.val % 10]
    ∧ win1_3.index t = ![t.val / 10, t.val % 10] :=
  (by decide +kernel : ∀ t : Fin grid1.N, _)

/-- Call 1's result array, as a function of the arrays the call finds. -/
theorem final1 (V : (c : Dev nD) → (b : Ref sig .tc) → Buf (Elt Ideal) ((c : Thread nD τ).loc b)) (c : Dev nD) :
    (dat1 V c).arrAt 3 cfg1.N = part1 (V c main_arg0) (V c main_arg2) (V c main_v0) := by
  refine (dat1 V c).arrAt_eq_of_covers 3 _ (by decide +kernel) fun t hf y => ?_
  blk_simp
  rw [after1_3]
  unfold out1_3
  frame_out
  refine (pay1_at ..).trans ?_
  unfold part1
  refine congrArg₂ (fun a b : EReal => a + b) ?_ (Finset.sum_congr rfl fun k _ => congrArg₂ (fun a b : EReal => a * b) ?_ ?_)
  · blk_point [iblk1, idx1 t] <;> rfl
  · blk_point [iblk1, idx1 t] <;> rfl
  · blk_point [iblk1, idx1 t] <;> rfl

/-- An entry of the joined weight's upper half. -/
theorem w_lo (x1 x2 : FVec Ideal S2048x10240 .bf16) (i : Cert.MmInRefIdeal.S4096x10240.Idx) (k : Fin 2048) (h : (i 0).val = k.val) :
    Cert.MmInRefIdeal.Read.val_main_v1 (F := Ideal) x1 x2 i = x1 (ix2 k (i 1)) := by
  unfold Cert.MmInRefIdeal.Read.val_main_v1
  exact concatenate_pair_apply_left (t := Cert.MmInRefIdeal.S4096x10240) (s₁ := Cert.MmInRefIdeal.S2048x10240) (s₂ := Cert.MmInRefIdeal.S2048x10240) 0 x1 x2
    Cert.MmInRefIdeal.Gen.concatenates_S2048x10240_S2048x10240_S4096x10240_d0 i rfl (ix2 k (i 1)) (fun b => by
    match b with
    | ⟨0, _⟩ => exact h.symm
    | ⟨1, _⟩ => rfl)

/-- An entry of the joined weight's lower half. -/
theorem w_hi (x1 x2 : FVec Ideal S2048x10240 .bf16) (i : Cert.MmInRefIdeal.S4096x10240.Idx) (k : Fin 2048) (h : (i 0).val = 2048 + k.val) :
    Cert.MmInRefIdeal.Read.val_main_v1 (F := Ideal) x1 x2 i = x2 (ix2 k (i 1)) := by
  unfold Cert.MmInRefIdeal.Read.val_main_v1
  exact concatenate_pair_apply_right (t := Cert.MmInRefIdeal.S4096x10240) (s₁ := Cert.MmInRefIdeal.S2048x10240) (s₂ := Cert.MmInRefIdeal.S2048x10240) 0 x1 x2
    Cert.MmInRefIdeal.Gen.concatenates_S2048x10240_S2048x10240_S4096x10240_d0 i rfl rfl (ix2 k (i 1))
    (fun b hb => by
      match b with
      | ⟨0, _⟩ => exact absurd rfl hb
      | ⟨1, _⟩ => rfl)
    ((Nat.add_comm _ _).trans h.symm)

/-- The two halves of the contracted axis make the reference's sum. -/
theorem ref_at (x0 : FVec Ideal S4096x4096 .bf16) (x1 x2 : FVec Ideal S2048x10240 .bf16) :
    part1 x0 x2 (part0 x0 x1) = Cert.MmInRefIdeal.Read.val_main_v3 (F := Ideal) x0 x1 x2 := by
  funext i
  refine Eq.trans ?_ (Cert.MmInRefIdeal.Read.val_main_v3_apply x0 x1 x2 i).symm
  refine Eq.trans ?_ (Fin.sum_univ_add (a := 2048) (b := 2048) _).symm
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact congrArg x0 (funext fun a => match a with | ⟨0, _⟩ => rfl | ⟨1, _⟩ => Fin.ext (by show 0 * 2048 + k.val = k.val; omega))
  · refine Eq.trans ?_ (w_lo x1 x2 _ k rfl).symm
    exact congrArg x1 (funext fun a => match a with | ⟨0, _⟩ => Fin.ext (by show 0 * 2048 + k.val = k.val; omega) | ⟨1, _⟩ => rfl)
  · exact congrArg x0 (funext fun a => match a with | ⟨0, _⟩ => rfl | ⟨1, _⟩ => Fin.ext (by show 1 * 2048 + k.val = 2048 + k.val; omega))
  · refine Eq.trans ?_ (w_hi x1 x2 _ k rfl).symm
    exact congrArg x2 (funext fun a => match a with | ⟨0, _⟩ => Fin.ext (by show 0 * 2048 + k.val = k.val; omega) | ⟨1, _⟩ => rfl)

variable (m : (ℓ : Loc nD τ sig) → Buf (Elt Ideal) ℓ) (ρ : Dev nD → PrngReg)

set_option backward.isDefEq.respectTransparency.types false in
/-- The run through all the calls, with the last one's result array named and the arguments kept. -/
theorem run_named : θ_run defs (onTc (τ := τ) (main (F := Ideal))) ⟨m, fun _ => 0, ρ⟩ fun r => ∀ c : Dev nD,
      r.2.mem ((c : Thread nD τ).loc main_v1) = (dat1 (V1 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- Call 0 finds `main_arg1` as launched. -/
theorem V0_main_arg1 (c : Dev nD) : V0 m ρ c main_arg1 = m ((c : Thread nD τ).loc main_arg1) := W0_args m ρ c main_arg1 (by decide)

/-- Call 0 finds `main_arg0` as launched. -/
theorem V0_main_arg0 (c : Dev nD) : V0 m ρ c main_arg0 = m ((c : Thread nD τ).loc main_arg0) := W0_args m ρ c main_arg0 (by decide)

/-- Call 1 finds `main_arg2` as launched. -/
theorem V1_main_arg2 (c : Dev nD) : V1 m ρ c main_arg2 = m ((c : Thread nD τ).loc main_arg2) := W1_args m ρ c main_arg2 (by decide)

/-- Call 1 finds `main_arg0` as launched. -/
theorem V1_main_arg0 (c : Dev nD) : V1 m ρ c main_arg0 = m ((c : Thread nD τ).loc main_arg0) := W1_args m ρ c main_arg0 (by decide)

/-- Call 1 finds in `main_v0` what call 0 left. -/
theorem V1_main_v0 (c : Dev nD) : V1 m ρ c main_v0 = (dat0 (V0 m ρ) c).arrAt 2 cfg0.N := W1_arr m ρ c 2

/-- The last call's result array is the reference's. -/
theorem final (c : Dev nD) : (dat1 (V1 m ρ) c).arrAt 3 cfg1.N = Cert.MmInRefIdeal.Read.val_main_v3 (F := Ideal)
    (m ((c : Thread nD τ).loc main_arg0)) (m ((c : Thread nD τ).loc main_arg1)) (m ((c : Thread nD τ).loc main_arg2)) := by
  rw [final1, V1_main_arg0, V1_main_arg2, V1_main_v0]
  rw [final0, V0_main_arg0, V0_main_arg1]
  exact ref_at _ _ _

/-- The calls' result is the reference's. -/
theorem claim : Cert.algebraic_MmInIdeal_MmInRefIdeal (hMmInIdeal := Cert.MmInIdeal.Gen.facts)
    (hMmInRefIdeal := Cert.MmInRefIdeal.Gen.facts) := by
  intro m g m' g' hpre hargs
  refine ⟨fun c => (dat1 (V1 m g) c).arrAt 3 cfg1.N, run_named m g,
    (θ_run Cert.MmInRefIdeal.defs _ _).mono (fun r h c => ?_) (Cert.MmInRefIdeal.Value.run m' g')⟩
  obtain ⟨h1, h2⟩ := h c
  obtain ⟨a0, a1, a2⟩ := hargs c
  refine ⟨h1.trans ((Cert.MmInRefIdeal.Read.val_main_v3_eq _ _ _).trans ?_), h2⟩
  rw [a0, a1, a2]
  exact (final m g c).symm

end Cert.MmInAlg
-- ==== Proof.MmKAlg.lean ====
module

public import proofs.«01_k».proof.Proof.Gen.MmKIdeal.Value
public import proofs.«01_k».proof.Proof.Gen.MmKRefIdeal.Read
public import proofs.«01_k».proof.Proof.Gen.MmKRefIdeal.Run
public import proofs.«01_k».proof.Defs
public import Idealize.ShloMosaic.Lib.Pipeline.ValueKit
public import Idealize.ShloMosaic.Lib.Claim

/-!
  The product `mm_k`, tile by tile.
-/

@[expose] public section

set_option maxRecDepth 16384

noncomputable section

namespace Cert.MmKAlg

open Cert.MmKIdeal Cert.MmKIdeal.Gen Cert.MmKIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S256x4096 .bf16) (x1 : Vec Ideal S4096x1024 .bf16) (j : S256x1024.Idx) :
    k0_pay1 x0 x1 j = ∑ k : Fin 4096, x0 (ix2 (j 0) k) * x1 (ix2 k (j 1)) := by
  pointwise [k0_pay1]

/-- Where the blocks of a grid point lie. -/
theorem idx_val : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- The result array is the reference's. -/
theorem final : (dats m 0 c).arrAt 2 cfg0.N = Cert.MmKRefIdeal.Read.val_main_v3 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_at ..).trans (Eq.trans ?_ (Cert.MmKRefIdeal.Read.val_main_v2_apply ..).symm)
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmKIdeal_MmKRefIdeal (hMmKIdeal := Cert.MmKIdeal.Gen.facts)
    (hMmKRefIdeal := Cert.MmKRefIdeal.Gen.facts) := by
  intro m g m' g' hpre hargs
  refine ⟨fun c => (dats m 0 c).arrAt 2 cfg0.N, run_blocks m g,
    (θ_run Cert.MmKRefIdeal.defs _ _).mono (fun r h c => ?_) (Cert.MmKRefIdeal.Value.run m' g')⟩
  obtain ⟨h1, h2⟩ := h c
  obtain ⟨a0, a1⟩ := hargs c
  refine ⟨h1.trans ((Cert.MmKRefIdeal.Read.val_main_v3_eq _ _).trans ?_), h2⟩
  rw [a0, a1]
  exact (final m c).symm

end Cert.MmKAlg
-- ==== Proof.MmOutAlg.lean ====
module

public import proofs.«01_k».proof.Proof.Gen.MmOutIdeal.Value
public import proofs.«01_k».proof.Proof.Gen.MmOutRefIdeal.Read
public import proofs.«01_k».proof.Proof.Gen.MmOutRefIdeal.Run
public import proofs.«01_k».proof.Defs
public import Idealize.ShloMosaic.Lib.Pipeline.ValueKit
public import Idealize.ShloMosaic.Lib.Claim

/-!
  The product `mm_out` with its residual, tile by tile.
-/

@[expose] public section

set_option maxRecDepth 16384

noncomputable section

namespace Cert.MmOutAlg

open Cert.MmOutIdeal Cert.MmOutIdeal.Gen Cert.MmOutIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis, added to the tile it is added to. -/
theorem pay_at (x0 : Vec Ideal S1024x4096 .bf16) (x1 : Vec Ideal S4096x1024 .bf16) (x2 : Vec Ideal S1024x1024 .f32) (j : S1024x1024.Idx) :
    k0_pay1 x0 x1 x2 j = x2 j + ∑ k : Fin 4096, x0 (ix2 (j 0) k) * x1 (ix2 k (j 1)) := by
  pointwise [k0_pay1]

/-- Where the blocks of a grid point lie. -/
theorem idx_val : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- The result array is the reference's. -/
theorem final : (dats m 0 c).arrAt 3 cfg0.N = Cert.MmOutRefIdeal.Read.val_main_v3 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  refine (pay_at ..).trans (congrArg₂ (fun a b : EReal => a + b) ?_ (Eq.trans ?_ (Cert.MmOutRefIdeal.Read.val_main_v2_apply ..).symm))
  · blk_point [iblk, V, idx_val t] <;> rfl
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmOutIdeal_MmOutRefIdeal (hMmOutIdeal := Cert.MmOutIdeal.Gen.facts)
    (hMmOutRefIdeal := Cert.MmOutRefIdeal.Gen.facts) := by
  intro m g m' g' hpre hargs
  refine ⟨fun c => (dats m 0 c).arrAt 3 cfg0.N, run_blocks m g,
    (θ_run Cert.MmOutRefIdeal.defs _ _).mono (fun r h c => ?_) (Cert.MmOutRefIdeal.Value.run m' g')⟩
  obtain ⟨h1, h2⟩ := h c
  obtain ⟨a0, a1, a2, _⟩ := hargs c
  refine ⟨h1.trans ((Cert.MmOutRefIdeal.Read.val_main_v3_eq _ _ _).trans ?_), h2⟩
  rw [a0, a1, a2]
  exact (final m c).symm

end Cert.MmOutAlg
-- ==== Proof.MmQAlg.lean ====
module

public import proofs.«01_k».proof.Proof.Gen.MmQIdeal.Value
public import proofs.«01_k».proof.Proof.Gen.MmQRefIdeal.Read
public import proofs.«01_k».proof.Proof.Gen.MmQRefIdeal.Run
public import proofs.«01_k».proof.Defs
public import Idealize.ShloMosaic.Lib.Pipeline.ValueKit
public import Idealize.ShloMosaic.Lib.Claim

/-!
  The product `mm_q`, tile by tile.
-/

@[expose] public section

set_option maxRecDepth 16384

noncomputable section

namespace Cert.MmQAlg

open Cert.MmQIdeal Cert.MmQIdeal.Gen Cert.MmQIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- A tile of the product, at an index: the sum over the contracted axis. -/
theorem pay_at (x0 : Vec Ideal S1024x4096 .bf16) (x1 : Vec Ideal S4096x1024 .bf16) (j : S1024x1024.Idx) :
    k0_pay1 x0 x1 j = ∑ k : Fin 4096, x0 (ix2 (j 0) k) * x1 (ix2 k (j 1)) := by
  pointwise [k0_pay1]

/-- Where the blocks of a grid point lie. -/
theorem idx_val : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- The result array is the reference's. -/
theorem final : (dats m 0 c).arrAt 2 cfg0.N = Cert.MmQRefIdeal.Read.val_main_v3 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay_at ..).trans (Eq.trans ?_ (Cert.MmQRefIdeal.Read.val_main_v2_apply ..).symm)
  refine Finset.sum_congr rfl fun k _ => congrArg₂ (fun a b : EReal => a * b) ?_ ?_
  · blk_point [iblk, V, idx_val t] <;> rfl
  · blk_point [iblk, V, idx_val t] <;> rfl

/-- The kernel's product is the reference's. -/
theorem claim : Cert.algebraic_MmQIdeal_MmQRefIdeal (hMmQIdeal := Cert.MmQIdeal.Gen.facts)
    (hMmQRefIdeal := Cert.MmQRefIdeal.Gen.facts) := by
  intro m g m' g' hpre hargs
  refine ⟨fun c => (dats m 0 c).arrAt 2 cfg0.N, run_blocks m g,
    (θ_run Cert.MmQRefIdeal.defs _ _).mono (fun r h c => ?_) (Cert.MmQRefIdeal.Value.run m' g')⟩
  obtain ⟨h1, h2⟩ := h c
  obtain ⟨a0, a1, _⟩ := hargs c
  refine ⟨h1.trans ((Cert.MmQRefIdeal.Read.val_main_v3_eq _ _).trans ?_), h2⟩
  rw [a0, a1]
  exact (final m c).symm

end Cert.MmQAlg
-- ==== Proof.NormFwdAlg.lean ====
module

public import proofs.«01_k».proof.Proof.Gen.NormFwdIdeal.Value
public import proofs.«01_k».proof.Proof.Gen.NormFwdRefIdeal.Read
public import proofs.«01_k».proof.Proof.Gen.NormFwdRefIdeal.Run
public import proofs.«01_k».proof.Defs
public import Idealize.ShloMosaic.Lib.Pipeline.ValueKit
public import Idealize.ShloMosaic.Lib.Claim

/-!
  The forward norm, row block by row block: the same formula at each element.
-/

@[expose] public section

set_option maxRecDepth 16384

noncomputable section

namespace Cert.NormFwdAlg

open Cert.NormFwdIdeal Cert.NormFwdIdeal.Gen Cert.NormFwdIdeal.Value Idealize.ShloMosaic Idealize.ShloMosaic.TcCoe Idealize.SL.Sem
open Idealize.ShloMosaic.Pipeline (Dat)

/-- A single-precision constant of the norm. -/
abbrev num (b : BitVec 32) : EReal := FloatOps.ofBits (F := Ideal) .f32 b

/-- One over the root mean square of a row of length 4096. -/
def inv (f : Fin 4096 → EReal) : EReal :=
  FloatOps.hostUnary (F := Ideal) (φ := .f32) .rsqrt (Ideal.div (∑ k : Fin 4096, f k * f k) (num 0x45800000#32) + num 0x358637BD#32)

/-- The block of inverse root mean squares, at an index. -/
theorem inv_at (x : Vec Ideal S256x4096 .f32) (j : S256x1.Idx) : k0_pay1 x j = inv fun k => x (ix2 (j 0) k) := by
  pointwise [k0_pay1]
  rfl

/-- The block of normalised rows, at an index. -/
theorem norm_at (x : Vec Ideal S256x4096 .f32) (w : Vec Ideal S1x4096 .f32) (j : S256x4096.Idx) :
    k0_pay2 x w j = x j * inv (fun k => x (ix2 (j 0) k)) * w (ix2 0 (j 1)) := by
  pointwise [k0_pay2, inv_at]

/-- The reference's inverse root mean squares, at an index. -/
theorem ref_inv (x0 : FVec Ideal S4096x4096 .f32) (i : S4096x1.Idx) :
    Cert.NormFwdRefIdeal.Read.val_main_v8 (F := Ideal) x0 i = inv fun k => x0 (ix2 (i 0) k) := by
  rw [Cert.NormFwdRefIdeal.Read.val_main_v8_apply, Cert.NormFwdRefIdeal.Read.val_main_v7_apply, Cert.NormFwdRefIdeal.Read.val_main_v5_apply,
    Cert.NormFwdRefIdeal.Read.val_main_v3_apply, Cert.NormFwdRefIdeal.Read.val_main_v2_apply, Cert.NormFwdRefIdeal.Read.val_main_cst_apply,
    Cert.NormFwdRefIdeal.Read.val_main_v4_apply, Cert.NormFwdRefIdeal.Read.val_main_cst_0_apply, Cert.NormFwdRefIdeal.Read.val_main_v6_apply,
    Cert.NormFwdRefIdeal.Read.val_main_cst_1_apply]
  simp only [Cert.NormFwdRefIdeal.Read.val_main_v1_apply]
  show FloatOps.hostUnary (F := Ideal) (φ := .f32) .rsqrt (Ideal.div (Ideal.ofBits .f32 0x00000000#32 + _) _ + _) = _
  rw [Ideal.ofBits_zero_f32, zero_add]
  have e : ∀ k : Fin 4096, Cert.NormFwdRefIdeal.Read.idx_main_v2 (Cert.NormFwdRefIdeal.Read.idx_main_v3 i) k = ix2 (i 0) k := fun k => by
    funext a
    match a with
    | ⟨0, _⟩ => rfl
    | ⟨1, _⟩ => rfl
  simp only [e]
  rfl

/-- The reference's normalised rows, at an index. -/
theorem ref_norm (x0 : FVec Ideal S4096x4096 .f32) (x1 : FVec Ideal S1x4096 .f32) (i : S4096x4096.Idx) :
    Cert.NormFwdRefIdeal.Read.val_main_v14 (F := Ideal) x0 x1 i = x0 i * inv (fun k => x0 (ix2 (i 0) k)) * x1 (ix2 0 (i 1)) := by
  rw [Cert.NormFwdRefIdeal.Read.val_main_v14_apply, Cert.NormFwdRefIdeal.Read.val_main_v13_apply, Cert.NormFwdRefIdeal.Read.val_main_v10_apply,
    Cert.NormFwdRefIdeal.Read.val_main_v9_apply, ref_inv, Cert.NormFwdRefIdeal.Read.val_main_v12_apply, Cert.NormFwdRefIdeal.Read.val_main_v11_apply,
    Cert.NormFwdRefIdeal.Read.val_main_v0_apply]
  have h1 : (i 1).val < 4096 := (i 1).isLt
  refine congrArg (fun z : EReal => x0 i * inv (fun k => x0 (ix2 (i 0) k)) * z) (congrArg x1 ?_)
  funext a
  match a with
  | ⟨0, _⟩ => rfl
  | ⟨1, _⟩ => exact Fin.ext (show (i 1).val % 4096 = (i 1).val by omega)

/-- An index of a matrix is the pair of its two coordinates. -/
theorem pair_eq {n k : ℕ} (i : (⟨2, ![n, k]⟩ : Shape).Idx) : ix2 (i 0) (i 1) = i := by
  funext a
  match a with
  | ⟨0, _⟩ => rfl
  | ⟨1, _⟩ => rfl

/-- Where the blocks of a grid point lie. -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

variable (m : (ℓ : Loc nD τ sig) → Buf (Elt Ideal) ℓ) (c : Dev nD)

/-- The rows to be normalised. -/
def H : FVec Ideal S4096x4096 .f32 := m ((c : Thread nD τ).loc main_arg0)
/-- The norm's weights. -/
def G : FVec Ideal S1x4096 .f32 := m ((c : Thread nD τ).loc main_arg1)

/-- Row `r` of a grid point's block. -/
def row (t : Fin cfg0.N) (r : Fin 256) : Fin 4096 := ⟨t.val * 256 + r.val, by have ht : t.val < 16 := t.isLt; have := r.isLt; omega⟩

/-- The rows' block at a grid point, at an index. -/
theorem blk0_at (t : Fin cfg0.N) (r : Fin 256) (k : Fin 4096) :
    (iblk m c 0 t : FVec Ideal S256x4096 .f32) (ix2 r k) = H m c (ix2 (row t r) k) := by
  blk_point [iblk, V, idx_val t] <;> rfl

/-- The weights' block at a grid point, at an index. -/
theorem blk1_at (t : Fin cfg0.N) (k : Fin 4096) :
    (iblk m c 1 t : FVec Ideal S1x4096 .f32) (ix2 0 k) = G m c (ix2 0 k) := by
  blk_point [iblk, V, idx_val t] <;> rfl

/-- The array of normalised rows is the reference's. -/
theorem final_norm : (dats m 0 c).arrAt 2 cfg0.N = Cert.NormFwdRefIdeal.Read.val_main_v14 (F := Ideal) (H m c) (G m c) := by
  refine (dats m 0 c).arrAt_eq_of_covers 2 _ (by decide +kernel) fun t hf y => ?_
  have he : (((cfg0.win 2).blk t).view.emb y : S4096x4096.Idx) = ix2 (row t (y 0)) (y 1) := by
    blk_ext [idx_val t] <;> rfl
  refine Eq.trans ?_ (congrArg (Cert.NormFwdRefIdeal.Read.val_main_v14 (F := Ideal) (H m c) (G m c)) he).symm
  refine Eq.trans ?_ (ref_norm ..).symm
  blk_simp
  rw [after0_2]
  unfold out0_2
  frame_out
  refine (norm_at ..).trans ?_
  have e0 : ∀ k : Fin 4096, (iblk m c 0 t : FVec Ideal S256x4096 .f32) (ix2 (y 0) k) = H m c (ix2 (row t (y 0)) k) := fun k => blk0_at m c t (y 0) k
  have e1 : (iblk m c 0 t : FVec Ideal S256x4096 .f32) y = H m c (ix2 (row t (y 0)) (y 1)) :=
    (congrArg (iblk m c 0 t : FVec Ideal S256x4096 .f32) (pair_eq y).symm).trans (e0 (y 1))
  have e2 : (iblk m c 1 t : FVec Ideal S1x4096 .f32) (ix2 0 (y 1)) = G m c (ix2 0 (y 1)) := blk1_at m c t (y 1)
  have e3 : (fun k : Fin 4096 => (iblk m c 0 t : FVec Ideal S256x4096 .f32) (ix2 (y 0) k)) = fun k => H m c (ix2 (row t (y 0)) k) := funext e0
  exact congrArg₂ (fun a b : EReal => a * b) (congrArg₂ (fun a b : EReal => a * b) e1 (congrArg inv e3)) e2

/-- The array of inverse root mean squares is the reference's. -/
theorem final_inv : (dats m 0 c).arrAt 3 cfg0.N = Cert.NormFwdRefIdeal.Read.val_main_v8 (F := Ideal) (H m c) := by
  refine (dats m 0 c).arrAt_eq_of_covers 3 _ (by decide +kernel) fun t hf y => ?_
  have he : (((cfg0.win 3).blk t).view.emb y : S4096x1.Idx) = ix2 (row t (y 0)) (y 1) := by
    blk_ext [idx_val t] <;> rfl
  refine Eq.trans ?_ (congrArg (Cert.NormFwdRefIdeal.Read.val_main_v8 (F := Ideal) (H m c)) he).symm
  refine Eq.trans ?_ (ref_inv ..).symm
  blk_simp
  rw [after0_3]
  unfold out0_3
  frame_out
  refine (inv_at ..).trans ?_
  exact congrArg inv (funext fun k => blk0_at m c t (y 0) k)

/-- The call's results are the reference's. -/
theorem claim : Cert.algebraic_NormFwdIdeal_NormFwdRefIdeal (hNormFwdIdeal := Cert.NormFwdIdeal.Gen.facts)
    (hNormFwdRefIdeal := Cert.NormFwdRefIdeal.Gen.facts) := by
  intro m g m' g' hpre hargs
  refine ⟨fun c => (dats m 0 c).arrAt 2 cfg0.N, fun c => (dats m 0 c).arrAt 3 cfg0.N, run_blocks m g,
    (θ_run Cert.NormFwdRefIdeal.defs _ _).mono (fun r h c => ?_) (Cert.NormFwdRefIdeal.Value.run m' g')⟩
  obtain ⟨h1, h2, hr⟩ := h c
  obtain ⟨a0, a1⟩ := hargs c
  refine ⟨h1.trans ((Cert.NormFwdRefIdeal.Read.val_main_v14_eq _ _).trans ?_), h2.trans ((Cert.NormFwdRefIdeal.Read.val_main_v8_eq _).trans ?_), hr⟩
  · rw [a0, a1]
    exact (final_norm m c).symm
  · rw [a0]
    exact (final_inv m c).symm

end Cert.NormFwdAlg
-- ==== Proof.lean ====
/- The claims of this certificate, put together: each kernel runs and leaves its arguments, each reference does, the
   idealized text is the text, and where a value is claimed the two programs end with the same results. -/
module

public import proofs.«01_k».proof.Defs
public import Idealize.ShloMosaic.Lib.Claim
public import proofs.«01_k».proof.Proof.Gen.On_first_columns
public import proofs.«01_k».proof.Proof.Gen.Pre_core_dw_down_own
public import proofs.«01_k».proof.Proof.Gen.Pre_core_dw_down_sib
public import proofs.«01_k».proof.Proof.Gen.Pre_core_dw_gate_own
public import proofs.«01_k».proof.Proof.Gen.Pre_core_dw_gate_sib
public import proofs.«01_k».proof.Proof.Gen.Pre_core_dw_k_own
public import proofs.«01_k».proof.Proof.Gen.Pre_core_dw_k_sib
public import proofs.«01_k».proof.Proof.Gen.Pre_core_dw_o_own
public import proofs.«01_k».proof.Proof.Gen.Pre_core_dw_o_sib
public import proofs.«01_k».proof.Proof.Gen.Pre_core_dw_in_own
public import proofs.«01_k».proof.Proof.Gen.Pre_core_dw_in_sib
public import proofs.«01_k».proof.Proof.Gen.Pre_finite_attention
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.MixB
public import proofs.«01_k».proof.Proof.Gen.MixB.Frame
public import proofs.«01_k».proof.Proof.Gen.MixBIdeal
public import proofs.«01_k».proof.Proof.Gen.MixBIdeal.Frame
public import proofs.«01_k».proof.Proof.Gen.MixBIdeal.Value
public import proofs.«01_k».proof.Proof.Gen.MixBRefIdeal
public import proofs.«01_k».proof.Proof.Gen.MixBRefIdeal.Run
public import proofs.«01_k».proof.Proof.Gen.MixBRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MmDf
public import proofs.«01_k».proof.Proof.Gen.MmDf.Frame
public import proofs.«01_k».proof.Proof.Gen.MmDfIdeal
public import proofs.«01_k».proof.Proof.Gen.MmDfIdeal.Frame
public import proofs.«01_k».proof.Proof.Gen.MmDfIdeal.Value
public import proofs.«01_k».proof.Proof.Gen.MmDfRefIdeal
public import proofs.«01_k».proof.Proof.Gen.MmDfRefIdeal.Run
public import proofs.«01_k».proof.Proof.Gen.MmDfRefIdeal.Read
public import proofs.«01_k».proof.Proof.Gen.MmDxn3
public import proofs.«01_k».proof.Proof.Gen.MmDxn3.Frame
public import proofs.«01_k».proof.Proof.Gen.MmDxn3Ideal
public import proofs.«01_k».proof.Proof.Gen.MmDxn3Ideal.Frame
public import proofs.«01_k».proof.Proof.Gen.MmDxn3RefIdeal
public import proofs.«01_k».proof.Proof.Gen.MmDxn3RefIdeal.Run
public import proofs.«01_k».proof.Proof.Gen.MmDxn3RefIdeal.Read
public import proofs.«01_k».proof.Proof.Gen.MmDo
public import proofs.«01_k».proof.Proof.Gen.MmDo.Frame
public import proofs.«01_k».proof.Proof.Gen.MmDoIdeal
public import proofs.«01_k».proof.Proof.Gen.MmDoIdeal.Frame
public import proofs.«01_k».proof.Proof.Gen.MmDoIdeal.Value
public import proofs.«01_k».proof.Proof.Gen.MmDoRefIdeal
public import proofs.«01_k».proof.Proof.Gen.MmDoRefIdeal.Run
public import proofs.«01_k».proof.Proof.Gen.MmDoRefIdeal.Read
public import proofs.«01_k».proof.Proof.Gen.MmDxn2
public import proofs.«01_k».proof.Proof.Gen.MmDxn2.Frame
public import proofs.«01_k».proof.Proof.Gen.MmDxn2Ideal
public import proofs.«01_k».proof.Proof.Gen.MmDxn2Ideal.Frame
public import proofs.«01_k».proof.Proof.Gen.MmDxn2Ideal.Value
public import proofs.«01_k».proof.Proof.Gen.MmDxn2RefIdeal
public import proofs.«01_k».proof.Proof.Gen.MmDxn2RefIdeal.Run
public import proofs.«01_k».proof.Proof.Gen.MmDxn2RefIdeal.Read
public import proofs.«01_k».proof.Proof.Gen.MmDmem
public import proofs.«01_k».proof.Proof.Gen.MmDmem.Frame
public import proofs.«01_k».proof.Proof.Gen.MmDmemIdeal
public import proofs.«01_k».proof.Proof.Gen.MmDmemIdeal.Frame
public import proofs.«01_k».proof.Proof.Gen.MmDmemRefIdeal
public import proofs.«01_k».proof.Proof.Gen.MmDmemRefIdeal.Run
public import proofs.«01_k».proof.Proof.Gen.MmDmemRefIdeal.Read
public import proofs.«01_k».proof.Proof.Gen.DwInSib
public import proofs.«01_k».proof.Proof.Gen.DwInSib.Frame
public import proofs.«01_k».proof.Proof.Gen.DwInSibIdeal
public import proofs.«01_k».proof.Proof.Gen.DwInSibIdeal.Frame
public import proofs.«01_k».proof.Proof.Gen.DwInSibRefIdeal
public import proofs.«01_k».proof.Proof.Gen.DwInSibRefIdeal.Run
public import proofs.«01_k».proof.Proof.Gen.DwInSibRefIdeal.Read
public import proofs.«01_k».proof.Proof.Gen.DwInOwn
public import proofs.«01_k».proof.Proof.Gen.DwInOwn.Frame
public import proofs.«01_k».proof.Proof.Gen.DwInOwnIdeal
public import proofs.«01_k».proof.Proof.Gen.DwInOwnIdeal.Frame
public import proofs.«01_k».proof.Proof.Gen.DwInOwnRefIdeal
public import proofs.«01_k».proof.Proof.Gen.DwInOwnRefIdeal.Run
public import proofs.«01_k».proof.Proof.Gen.DwInOwnRefIdeal.Read
public import proofs.«01_k».proof.Proof.Gen.DwOSib
public import proofs.«01_k».proof.Proof.Gen.DwOSib.Frame
public import proofs.«01_k».proof.Proof.Gen.DwOSibIdeal
public import proofs.«01_k».proof.Proof.Gen.DwOSibIdeal.Frame
public import proofs.«01_k».proof.Proof.Gen.DwOSibRefIdeal
public import proofs.«01_k».proof.Proof.Gen.DwOSibRefIdeal.Run
public import proofs.«01_k».proof.Proof.Gen.DwOSibRefIdeal.Read
public import proofs.«01_k».proof.Proof.Gen.DwOOwn
public import proofs.«01_k».proof.Proof.Gen.DwOOwn.Frame
public import proofs.«01_k».proof.Proof.Gen.DwOOwnIdeal
public import proofs.«01_k».proof.Proof.Gen.DwOOwnIdeal.Frame
public import proofs.«01_k».proof.Proof.Gen.DwOOwnRefIdeal
public import proofs.«01_k».proof.Proof.Gen.DwOOwnRefIdeal.Run
public import proofs.«01_k».proof.Proof.Gen.DwOOwnRefIdeal.Read
public import proofs.«01_k».proof.Proof.Gen.DwKSib
public import proofs.«01_k».proof.Proof.Gen.DwKSib.Frame
public import proofs.«01_k».proof.Proof.Gen.DwKSibIdeal
public import proofs.«01_k».proof.Proof.Gen.DwKSibIdeal.Frame
public import proofs.«01_k».proof.Proof.Gen.DwKSibRefIdeal
public import proofs.«01_k».proof.Proof.Gen.DwKSibRefIdeal.Run
public import proofs.«01_k».proof.Proof.Gen.DwKSibRefIdeal.Read
public import proofs.«01_k».proof.Proof.Gen.DwKOwn
public import proofs.«01_k».proof.Proof.Gen.DwKOwn.Frame
public import proofs.«01_k».proof.Proof.Gen.DwKOwnIdeal
public import proofs.«01_k».proof.Proof.Gen.DwKOwnIdeal.Frame
public import proofs.«01_k».proof.Proof.Gen.DwKOwnRefIdeal
public import proofs.«01_k».proof.Proof.Gen.DwKOwnRefIdeal.Run
public import proofs.«01_k».proof.Proof.Gen.DwKOwnRefIdeal.Read
public import proofs.«01_k».proof.Proof.Gen.DwGateSib
public import proofs.«01_k».proof.Proof.Gen.DwGateSib.Frame
public import proofs.«01_k».proof.Proof.Gen.DwGateSibIdeal
public import proofs.«01_k».proof.Proof.Gen.DwGateSibIdeal.Frame
public import proofs.«01_k».proof.Proof.Gen.DwGateSibRefIdeal
public import proofs.«01_k».proof.Proof.Gen.DwGateSibRefIdeal.Run
public import proofs.«01_k».proof.Proof.Gen.DwGateSibRefIdeal.Read
public import proofs.«01_k».proof.Proof.Gen.DwGateOwn
public import proofs.«01_k».proof.Proof.Gen.DwGateOwn.Frame
public import proofs.«01_k».proof.Proof.Gen.DwGateOwnIdeal
public import proofs.«01_k».proof.Proof.Gen.DwGateOwnIdeal.Frame
public import proofs.«01_k».proof.Proof.Gen.DwGateOwnRefIdeal
public import proofs.«01_k».proof.Proof.Gen.DwGateOwnRefIdeal.Run
public import proofs.«01_k».proof.Proof.Gen.DwGateOwnRefIdeal.Read
public import proofs.«01_k».proof.Proof.Gen.DwDownSib
public import proofs.«01_k».proof.Proof.Gen.DwDownSib.Frame
public import proofs.«01_k».proof.Proof.Gen.DwDownSibIdeal
public import proofs.«01_k».proof.Proof.Gen.DwDownSibIdeal.Frame
public import proofs.«01_k».proof.Proof.Gen.DwDownSibRefIdeal
public import proofs.«01_k».proof.Proof.Gen.DwDownSibRefIdeal.Run
public import proofs.«01_k».proof.Proof.Gen.DwDownSibRefIdeal.Read
public import proofs.«01_k».proof.Proof.Gen.DwDownOwn
public import proofs.«01_k».proof.Proof.Gen.DwDownOwn.Frame
public import proofs.«01_k».proof.Proof.Gen.DwDownOwnIdeal
public import proofs.«01_k».proof.Proof.Gen.DwDownOwnIdeal.Frame
public import proofs.«01_k».proof.Proof.Gen.DwDownOwnRefIdeal
public import proofs.«01_k».proof.Proof.Gen.DwDownOwnRefIdeal.Run
public import proofs.«01_k».proof.Proof.Gen.DwDownOwnRefIdeal.Read
public import proofs.«01_k».proof.Proof.Gen.MmIn
public import proofs.«01_k».proof.Proof.Gen.MmIn.Frame
public import proofs.«01_k».proof.Proof.Gen.MmInIdeal
public import proofs.«01_k».proof.Proof.Gen.MmInIdeal.Frame
public import proofs.«01_k».proof.Proof.Gen.MmInRefIdeal
public import proofs.«01_k».proof.Proof.Gen.MmInRefIdeal.Run
public import proofs.«01_k».proof.Proof.Gen.MmInRefIdeal.Read
public import proofs.«01_k».proof.Proof.Gen.MmOut
public import proofs.«01_k».proof.Proof.Gen.MmOut.Frame
public import proofs.«01_k».proof.Proof.Gen.MmOutIdeal
public import proofs.«01_k».proof.Proof.Gen.MmOutIdeal.Frame
public import proofs.«01_k».proof.Proof.Gen.MmOutIdeal.Value
public import proofs.«01_k».proof.Proof.Gen.MmOutRefIdeal
public import proofs.«01_k».proof.Proof.Gen.MmOutRefIdeal.Run
public import proofs.«01_k».proof.Proof.Gen.MmOutRefIdeal.Read
public import proofs.«01_k».proof.Proof.Gen.MmQ
public import proofs.«01_k».proof.Proof.Gen.MmQ.Frame
public import proofs.«01_k».proof.Proof.Gen.MmQIdeal
public import proofs.«01_k».proof.Proof.Gen.MmQIdeal.Frame
public import proofs.«01_k».proof.Proof.Gen.MmQIdeal.Value
public import proofs.«01_k».proof.Proof.Gen.MmQRefIdeal
public import proofs.«01_k».proof.Proof.Gen.MmQRefIdeal.Run
public import proofs.«01_k».proof.Proof.Gen.MmQRefIdeal.Read
public import proofs.«01_k».proof.Proof.Gen.MmK
public import proofs.«01_k».proof.Proof.Gen.MmK.Frame
public import proofs.«01_k».proof.Proof.Gen.MmKIdeal
public import proofs.«01_k».proof.Proof.Gen.MmKIdeal.Frame
public import proofs.«01_k».proof.Proof.Gen.MmKIdeal.Value
public import proofs.«01_k».proof.Proof.Gen.MmKRefIdeal
public import proofs.«01_k».proof.Proof.Gen.MmKRefIdeal.Run
public import proofs.«01_k».proof.Proof.Gen.MmKRefIdeal.Read
public import proofs.«01_k».proof.Proof.Gen.MmGate
public import proofs.«01_k».proof.Proof.Gen.MmGate.Frame
public import proofs.«01_k».proof.Proof.Gen.MmGateIdeal
public import proofs.«01_k».proof.Proof.Gen.MmGateIdeal.Frame
public import proofs.«01_k».proof.Proof.Gen.MmGateIdeal.Value
public import proofs.«01_k».proof.Proof.Gen.MmGateRefIdeal
public import proofs.«01_k».proof.Proof.Gen.MmGateRefIdeal.Run
public import proofs.«01_k».proof.Proof.Gen.MmGateRefIdeal.Read
public import proofs.«01_k».proof.Proof.Gen.MmDown
public import proofs.«01_k».proof.Proof.Gen.MmDown.Frame
public import proofs.«01_k».proof.Proof.Gen.MmDownIdeal
public import proofs.«01_k».proof.Proof.Gen.MmDownIdeal.Frame
public import proofs.«01_k».proof.Proof.Gen.MmDownRefIdeal
public import proofs.«01_k».proof.Proof.Gen.MmDownRefIdeal.Run
public import proofs.«01_k».proof.Proof.Gen.MmDownRefIdeal.Read
public import proofs.«01_k».proof.Proof.Gen.MmDxn1Lo
public import proofs.«01_k».proof.Proof.Gen.MmDxn1Lo.Frame
public import proofs.«01_k».proof.Proof.Gen.MmDxn1LoIdeal
public import proofs.«01_k».proof.Proof.Gen.MmDxn1LoIdeal.Frame
public import proofs.«01_k».proof.Proof.Gen.MmDxn1LoIdeal.Value
public import proofs.«01_k».proof.Proof.Gen.MmDxn1LoRefIdeal
public import proofs.«01_k».proof.Proof.Gen.MmDxn1LoRefIdeal.Run
public import proofs.«01_k».proof.Proof.Gen.MmDxn1LoRefIdeal.Read
public import proofs.«01_k».proof.Proof.Gen.MmDxn1Hi
public import proofs.«01_k».proof.Proof.Gen.MmDxn1Hi.Frame
public import proofs.«01_k».proof.Proof.Gen.MmDxn1HiIdeal
public import proofs.«01_k».proof.Proof.Gen.MmDxn1HiIdeal.Frame
public import proofs.«01_k».proof.Proof.Gen.MmDxn1HiIdeal.Value
public import proofs.«01_k».proof.Proof.Gen.MmDxn1HiRefIdeal
public import proofs.«01_k».proof.Proof.Gen.MmDxn1HiRefIdeal.Run
public import proofs.«01_k».proof.Proof.Gen.MmDxn1HiRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamO
public import proofs.«01_k».proof.Proof.Gen.AdamO.Frame
public import proofs.«01_k».proof.Proof.Gen.AdamOIdeal
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.Gen.MixBFwd
public import proofs.«01_k».proof.Proof.Gen.MixBFwd.Frame
public import proofs.«01_k».proof.Proof.Gen.MixBFwdIdeal
public import proofs.«01_k».proof.Proof.Gen.MixBFwdIdeal.Frame
public import proofs.«01_k».proof.Proof.Gen.MixBFwdIdeal.Value
public import proofs.«01_k».proof.Proof.Gen.MixBFwdRefIdeal
public import proofs.«01_k».proof.Proof.Gen.MixBFwdRefIdeal.Run
public import proofs.«01_k».proof.Proof.Gen.MixBFwdRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamDownAlg
public import proofs.«01_k».proof.Proof.AdamGateAlg
public import proofs.«01_k».proof.Proof.AdamInAlg
public import proofs.«01_k».proof.Proof.AdamOAlg
public import proofs.«01_k».proof.Proof.AdamSmallAlg
public import proofs.«01_k».proof.Proof.AttnAlg
public import proofs.«01_k».proof.Proof.AttnFwdAlg
public import proofs.«01_k».proof.Proof.AttnPay
public import proofs.«01_k».proof.Proof.AttnRead
public import proofs.«01_k».proof.Proof.AttnValue
public import proofs.«01_k».proof.Proof.DwDownOwnAlg
public import proofs.«01_k».proof.Proof.DwDownOwnOk
public import proofs.«01_k».proof.Proof.DwDownSibAlg
public import proofs.«01_k».proof.Proof.DwDownSibOk
public import proofs.«01_k».proof.Proof.DwGateOwnAlg
public import proofs.«01_k».proof.Proof.DwGateOwnOk
public import proofs.«01_k».proof.Proof.DwGateSibAlg
public import proofs.«01_k».proof.Proof.DwGateSibOk
public import proofs.«01_k».proof.Proof.DwInOwnAlg
public import proofs.«01_k».proof.Proof.DwInOwnOk
public import proofs.«01_k».proof.Proof.DwInSibAlg
public import proofs.«01_k».proof.Proof.DwInSibOk
public import proofs.«01_k».proof.Proof.DwKOwnAlg
public import proofs.«01_k».proof.Proof.DwKOwnOk
public import proofs.«01_k».proof.Proof.DwKSibAlg
public import proofs.«01_k».proof.Proof.DwKSibOk
public import proofs.«01_k».proof.Proof.DwOOwnAlg
public import proofs.«01_k».proof.Proof.DwOOwnOk
public import proofs.«01_k».proof.Proof.DwOSibAlg
public import proofs.«01_k».proof.Proof.DwOSibOk
public import proofs.«01_k».proof.Proof.MixBAlg
public import proofs.«01_k».proof.Proof.MixBFwdAlg
public import proofs.«01_k».proof.Proof.MixBPay
public import proofs.«01_k».proof.Proof.MixBRead
public import proofs.«01_k».proof.Proof.MmDfAlg
public import proofs.«01_k».proof.Proof.MmDmemAlg
public import proofs.«01_k».proof.Proof.MmDoAlg
public import proofs.«01_k».proof.Proof.MmDownAlg
public import proofs.«01_k».proof.Proof.MmDxn1HiAlg
public import proofs.«01_k».proof.Proof.MmDxn1LoAlg
public import proofs.«01_k».proof.Proof.MmDxn2Alg
public import proofs.«01_k».proof.Proof.MmDxn3Alg
public import proofs.«01_k».proof.Proof.MmGateAlg
public import proofs.«01_k».proof.Proof.MmInAlg
public import proofs.«01_k».proof.Proof.MmKAlg
public import proofs.«01_k».proof.Proof.MmOutAlg
public import proofs.«01_k».proof.Proof.MmQAlg
public import proofs.«01_k».proof.Proof.NormFwdAlg
public import proofs.«01_k».proof.Proof.SoftmaxMath

@[expose] public section

noncomputable section

namespace Cert.Proof

open Idealize.ShloMosaic Idealize.SL.Sem

/-- The reference program AttnRefIdeal runs and leaves its arguments as they were. -/
theorem frame_AttnRefIdeal : Cert.quiescent_AttnRefIdeal (hAttnRefIdeal := Cert.AttnRefIdeal.Gen.facts) :=
  fun m g _ => (θ_run Cert.AttnRefIdeal.defs _ _).mono (fun r h => ⟨fun c => (h c).2.2.2,
      Idealize.ShloMosaic.sem_eq_zero_of_no_sems (by decide) r.2⟩) (Cert.AttnRefIdeal.Value.run (F := Ideal) m g)

/-- The reference program MixBRefIdeal runs and leaves its arguments as they were. -/
theorem frame_MixBRefIdeal : Cert.quiescent_MixBRefIdeal (hMixBRefIdeal := Cert.MixBRefIdeal.Gen.facts) :=
  fun m g _ => (θ_run Cert.MixBRefIdeal.defs _ _).mono (fun r h => ⟨fun c => (h c).2.2.2.2,
      Idealize.ShloMosaic.sem_eq_zero_of_no_sems (by decide) r.2⟩) (Cert.MixBRefIdeal.Value.run (F := Ideal) m g)

/-- The reference program FfnRefIdeal runs and leaves its arguments as they were. -/
theorem frame_FfnRefIdeal : Cert.quiescent_FfnRefIdeal (hFfnRefIdeal := Cert.FfnRefIdeal.Gen.facts) :=
  fun m g _ => (θ_run Cert.FfnRefIdeal.defs _ _).mono (fun r h => ⟨fun c => (h c).2.2.2,
      Idealize.ShloMosaic.sem_eq_zero_of_no_sems (by decide) r.2⟩) (Cert.FfnRefIdeal.Value.run (F := Ideal) m g)

/-- The reference program MmDfRefIdeal runs and leaves its arguments as they were. -/
theorem frame_MmDfRefIdeal : Cert.quiescent_MmDfRefIdeal (hMmDfRefIdeal := Cert.MmDfRefIdeal.Gen.facts) :=
  fun m g _ => (θ_run Cert.MmDfRefIdeal.defs _ _).mono (fun r h => ⟨fun c => (h c).2,
      Idealize.ShloMosaic.sem_eq_zero_of_no_sems (by decide) r.2⟩) (Cert.MmDfRefIdeal.Value.run (F := Ideal) m g)

/-- The reference program MmDxn3RefIdeal runs and leaves its arguments as they were. -/
theorem frame_MmDxn3RefIdeal : Cert.quiescent_MmDxn3RefIdeal (hMmDxn3RefIdeal := Cert.MmDxn3RefIdeal.Gen.facts) :=
  fun m g _ => (θ_run Cert.MmDxn3RefIdeal.defs _ _).mono (fun r h => ⟨fun c => (h c).2,
      Idealize.ShloMosaic.sem_eq_zero_of_no_sems (by decide) r.2⟩) (Cert.MmDxn3RefIdeal.Value.run (F := Ideal) m g)

/-- The reference program MmDoRefIdeal runs and leaves its arguments as they were. -/
theorem frame_MmDoRefIdeal : Cert.quiescent_MmDoRefIdeal (hMmDoRefIdeal := Cert.MmDoRefIdeal.Gen.facts) :=
  fun m g _ => (θ_run Cert.MmDoRefIdeal.defs _ _).mono (fun r h => ⟨fun c => (h c).2,
      Idealize.ShloMosaic.sem_eq_zero_of_no_sems (by decide) r.2⟩) (Cert.MmDoRefIdeal.Value.run (F := Ideal) m g)

/-- The reference program MmDxn2RefIdeal runs and leaves its arguments as they were. -/
theorem frame_MmDxn2RefIdeal : Cert.quiescent_MmDxn2RefIdeal (hMmDxn2RefIdeal := Cert.MmDxn2RefIdeal.Gen.facts) :=
  fun m g _ => (θ_run Cert.MmDxn2RefIdeal.defs _ _).mono (fun r h => ⟨fun c => (h c).2,
      Idealize.ShloMosaic.sem_eq_zero_of_no_sems (by decide) r.2⟩) (Cert.MmDxn2RefIdeal.Value.run (F := Ideal) m g)

/-- The reference program MmDmemRefIdeal runs and leaves its arguments as they were. -/
theorem frame_MmDmemRefIdeal : Cert.quiescent_MmDmemRefIdeal (hMmDmemRefIdeal := Cert.MmDmemRefIdeal.Gen.facts) :=
  fun m g _ => (θ_run Cert.MmDmemRefIdeal.defs _ _).mono (fun r h => ⟨fun c => (h c).2,
      Idealize.ShloMosaic.sem_eq_zero_of_no_sems (by decide) r.2⟩) (Cert.MmDmemRefIdeal.Value.run (F := Ideal) m g)

/-- The reference program DwInSibRefIdeal runs and leaves its arguments as they were. -/
theorem frame_DwInSibRefIdeal : Cert.quiescent_DwInSibRefIdeal (hDwInSibRefIdeal := Cert.DwInSibRefIdeal.Gen.facts) (hPre_core_dw_in_sib := Cert.Pre_core_dw_in_sib.Gen.facts) :=
  fun m g _ => (θ_run Cert.DwInSibRefIdeal.defs _ _).mono (fun r h => ⟨fun c => (h c).2,
      Idealize.ShloMosaic.sem_eq_zero_of_no_sems (by decide) r.2⟩) (Cert.DwInSibRefIdeal.Value.run (F := Ideal) m g)

/-- The reference program DwInOwnRefIdeal runs and leaves its arguments as they were. -/
theorem frame_DwInOwnRefIdeal : Cert.quiescent_DwInOwnRefIdeal (hDwInOwnRefIdeal := Cert.DwInOwnRefIdeal.Gen.facts) (hPre_core_dw_in_own := Cert.Pre_core_dw_in_own.Gen.facts) :=
  fun m g _ => (θ_run Cert.DwInOwnRefIdeal.defs _ _).mono (fun r h => ⟨fun c => (h c).2,
      Idealize.ShloMosaic.sem_eq_zero_of_no_sems (by decide) r.2⟩) (Cert.DwInOwnRefIdeal.Value.run (F := Ideal) m g)

/-- The reference program DwOSibRefIdeal runs and leaves its arguments as they were. -/
theorem frame_DwOSibRefIdeal : Cert.quiescent_DwOSibRefIdeal (hDwOSibRefIdeal := Cert.DwOSibRefIdeal.Gen.facts) (hPre_core_dw_o_sib := Cert.Pre_core_dw_o_sib.Gen.facts) :=
  fun m g _ => (θ_run Cert.DwOSibRefIdeal.defs _ _).mono (fun r h => ⟨fun c => (h c).2,
      Idealize.ShloMosaic.sem_eq_zero_of_no_sems (by decide) r.2⟩) (Cert.DwOSibRefIdeal.Value.run (F := Ideal) m g)

/-- The reference program DwOOwnRefIdeal runs and leaves its arguments as they were. -/
theorem frame_DwOOwnRefIdeal : Cert.quiescent_DwOOwnRefIdeal (hDwOOwnRefIdeal := Cert.DwOOwnRefIdeal.Gen.facts) (hPre_core_dw_o_own := Cert.Pre_core_dw_o_own.Gen.facts) :=
  fun m g _ => (θ_run Cert.DwOOwnRefIdeal.defs _ _).mono (fun r h => ⟨fun c => (h c).2,
      Idealize.ShloMosaic.sem_eq_zero_of_no_sems (by decide) r.2⟩) (Cert.DwOOwnRefIdeal.Value.run (F := Ideal) m g)

/-- The reference program DwKSibRefIdeal runs and leaves its arguments as they were. -/
theorem frame_DwKSibRefIdeal : Cert.quiescent_DwKSibRefIdeal (hDwKSibRefIdeal := Cert.DwKSibRefIdeal.Gen.facts) (hPre_core_dw_k_sib := Cert.Pre_core_dw_k_sib.Gen.facts) :=
  fun m g _ => (θ_run Cert.DwKSibRefIdeal.defs _ _).mono (fun r h => ⟨fun c => (h c).2,
      Idealize.ShloMosaic.sem_eq_zero_of_no_sems (by decide) r.2⟩) (Cert.DwKSibRefIdeal.Value.run (F := Ideal) m g)

/-- The reference program DwKOwnRefIdeal runs and leaves its arguments as they were. -/
theorem frame_DwKOwnRefIdeal : Cert.quiescent_DwKOwnRefIdeal (hDwKOwnRefIdeal := Cert.DwKOwnRefIdeal.Gen.facts) (hPre_core_dw_k_own := Cert.Pre_core_dw_k_own.Gen.facts) :=
  fun m g _ => (θ_run Cert.DwKOwnRefIdeal.defs _ _).mono (fun r h => ⟨fun c => (h c).2,
      Idealize.ShloMosaic.sem_eq_zero_of_no_sems (by decide) r.2⟩) (Cert.DwKOwnRefIdeal.Value.run (F := Ideal) m g)

/-- The reference program DwGateSibRefIdeal runs and leaves its arguments as they were. -/
theorem frame_DwGateSibRefIdeal : Cert.quiescent_DwGateSibRefIdeal (hDwGateSibRefIdeal := Cert.DwGateSibRefIdeal.Gen.facts) (hPre_core_dw_gate_sib := Cert.Pre_core_dw_gate_sib.Gen.facts) :=
  fun m g _ => (θ_run Cert.DwGateSibRefIdeal.defs _ _).mono (fun r h => ⟨fun c => (h c).2,
      Idealize.ShloMosaic.sem_eq_zero_of_no_sems (by decide) r.2⟩) (Cert.DwGateSibRefIdeal.Value.run (F := Ideal) m g)

/-- The reference program DwGateOwnRefIdeal runs and leaves its arguments as they were. -/
theorem frame_DwGateOwnRefIdeal : Cert.quiescent_DwGateOwnRefIdeal (hDwGateOwnRefIdeal := Cert.DwGateOwnRefIdeal.Gen.facts) (hPre_core_dw_gate_own := Cert.Pre_core_dw_gate_own.Gen.facts) :=
  fun m g _ => (θ_run Cert.DwGateOwnRefIdeal.defs _ _).mono (fun r h => ⟨fun c => (h c).2,
      Idealize.ShloMosaic.sem_eq_zero_of_no_sems (by decide) r.2⟩) (Cert.DwGateOwnRefIdeal.Value.run (F := Ideal) m g)

/-- The reference program DwDownSibRefIdeal runs and leaves its arguments as they were. -/
theorem frame_DwDownSibRefIdeal : Cert.quiescent_DwDownSibRefIdeal (hDwDownSibRefIdeal := Cert.DwDownSibRefIdeal.Gen.facts) (hPre_core_dw_down_sib := Cert.Pre_core_dw_down_sib.Gen.facts) :=
  fun m g _ => (θ_run Cert.DwDownSibRefIdeal.defs _ _).mono (fun r h => ⟨fun c => (h c).2,
      Idealize.ShloMosaic.sem_eq_zero_of_no_sems (by decide) r.2⟩) (Cert.DwDownSibRefIdeal.Value.run (F := Ideal) m g)

/-- The reference program DwDownOwnRefIdeal runs and leaves its arguments as they were. -/
theorem frame_DwDownOwnRefIdeal : Cert.quiescent_DwDownOwnRefIdeal (hDwDownOwnRefIdeal := Cert.DwDownOwnRefIdeal.Gen.facts) (hPre_core_dw_down_own := Cert.Pre_core_dw_down_own.Gen.facts) :=
  fun m g _ => (θ_run Cert.DwDownOwnRefIdeal.defs _ _).mono (fun r h => ⟨fun c => (h c).2,
      Idealize.ShloMosaic.sem_eq_zero_of_no_sems (by decide) r.2⟩) (Cert.DwDownOwnRefIdeal.Value.run (F := Ideal) m g)

/-- The reference program MmInRefIdeal runs and leaves its arguments as they were. -/
theorem frame_MmInRefIdeal : Cert.quiescent_MmInRefIdeal (hMmInRefIdeal := Cert.MmInRefIdeal.Gen.facts) :=
  fun m g _ => (θ_run Cert.MmInRefIdeal.defs _ _).mono (fun r h => ⟨fun c => (h c).2,
      Idealize.ShloMosaic.sem_eq_zero_of_no_sems (by decide) r.2⟩) (Cert.MmInRefIdeal.Value.run (F := Ideal) m g)

/-- The reference program MmOutRefIdeal runs and leaves its arguments as they were. -/
theorem frame_MmOutRefIdeal : Cert.quiescent_MmOutRefIdeal (hMmOutRefIdeal := Cert.MmOutRefIdeal.Gen.facts) :=
  fun m g _ => (θ_run Cert.MmOutRefIdeal.defs _ _).mono (fun r h => ⟨fun c => (h c).2,
      Idealize.ShloMosaic.sem_eq_zero_of_no_sems (by decide) r.2⟩) (Cert.MmOutRefIdeal.Value.run (F := Ideal) m g)

/-- The reference program MmQRefIdeal runs and leaves its arguments as they were. -/
theorem frame_MmQRefIdeal : Cert.quiescent_MmQRefIdeal (hMmQRefIdeal := Cert.MmQRefIdeal.Gen.facts) :=
  fun m g _ => (θ_run Cert.MmQRefIdeal.defs _ _).mono (fun r h => ⟨fun c => (h c).2,
      Idealize.ShloMosaic.sem_eq_zero_of_no_sems (by decide) r.2⟩) (Cert.MmQRefIdeal.Value.run (F := Ideal) m g)

/-- The reference program MmKRefIdeal runs and leaves its arguments as they were. -/
theorem frame_MmKRefIdeal : Cert.quiescent_MmKRefIdeal (hMmKRefIdeal := Cert.MmKRefIdeal.Gen.facts) :=
  fun m g _ => (θ_run Cert.MmKRefIdeal.defs _ _).mono (fun r h => ⟨fun c => (h c).2,
      Idealize.ShloMosaic.sem_eq_zero_of_no_sems (by decide) r.2⟩) (Cert.MmKRefIdeal.Value.run (F := Ideal) m g)

/-- The reference program MmGateRefIdeal runs and leaves its arguments as they were. -/
theorem frame_MmGateRefIdeal : Cert.quiescent_MmGateRefIdeal (hMmGateRefIdeal := Cert.MmGateRefIdeal.Gen.facts) :=
  fun m g _ => (θ_run Cert.MmGateRefIdeal.defs _ _).mono (fun r h => ⟨fun c => (h c).2,
      Idealize.ShloMosaic.sem_eq_zero_of_no_sems (by decide) r.2⟩) (Cert.MmGateRefIdeal.Value.run (F := Ideal) m g)

/-- The reference program MmDownRefIdeal runs and leaves its arguments as they were. -/
theorem frame_MmDownRefIdeal : Cert.quiescent_MmDownRefIdeal (hMmDownRefIdeal := Cert.MmDownRefIdeal.Gen.facts) :=
  fun m g _ => (θ_run Cert.MmDownRefIdeal.defs _ _).mono (fun r h => ⟨fun c => (h c).2,
      Idealize.ShloMosaic.sem_eq_zero_of_no_sems (by decide) r.2⟩) (Cert.MmDownRefIdeal.Value.run (F := Ideal) m g)

/-- The reference program MmDxn1LoRefIdeal runs and leaves its arguments as they were. -/
theorem frame_MmDxn1LoRefIdeal : Cert.quiescent_MmDxn1LoRefIdeal (hMmDxn1LoRefIdeal := Cert.MmDxn1LoRefIdeal.Gen.facts) :=
  fun m g _ => (θ_run Cert.MmDxn1LoRefIdeal.defs _ _).mono (fun r h => ⟨fun c => (h c).2,
      Idealize.ShloMosaic.sem_eq_zero_of_no_sems (by decide) r.2⟩) (Cert.MmDxn1LoRefIdeal.Value.run (F := Ideal) m g)

/-- The reference program MmDxn1HiRefIdeal runs and leaves its arguments as they were. -/
theorem frame_MmDxn1HiRefIdeal : Cert.quiescent_MmDxn1HiRefIdeal (hMmDxn1HiRefIdeal := Cert.MmDxn1HiRefIdeal.Gen.facts) :=
  fun m g _ => (θ_run Cert.MmDxn1HiRefIdeal.defs _ _).mono (fun r h => ⟨fun c => (h c).2,
      Idealize.ShloMosaic.sem_eq_zero_of_no_sems (by decide) r.2⟩) (Cert.MmDxn1HiRefIdeal.Value.run (F := Ideal) m g)

/-- The reference program AttnFwdRefIdeal runs and leaves its arguments as they were. -/
theorem frame_AttnFwdRefIdeal : Cert.quiescent_AttnFwdRefIdeal (hAttnFwdRefIdeal := Cert.AttnFwdRefIdeal.Gen.facts) :=
  fun m g _ => (θ_run Cert.AttnFwdRefIdeal.defs _ _).mono (fun r h => ⟨fun c => (h c).2,
      Idealize.ShloMosaic.sem_eq_zero_of_no_sems (by decide) r.2⟩) (Cert.AttnFwdRefIdeal.Value.run (F := Ideal) m g)

/-- The reference program NormFwdRefIdeal runs and leaves its arguments as they were. -/
theorem frame_NormFwdRefIdeal : Cert.quiescent_NormFwdRefIdeal (hNormFwdRefIdeal := Cert.NormFwdRefIdeal.Gen.facts) :=
  fun m g _ => (θ_run Cert.NormFwdRefIdeal.defs _ _).mono (fun r h => ⟨fun c => (h c).2.2,
      Idealize.ShloMosaic.sem_eq_zero_of_no_sems (by decide) r.2⟩) (Cert.NormFwdRefIdeal.Value.run (F := Ideal) m g)

/-- The reference program AdamInRefIdeal runs and leaves its arguments as they were. -/
theorem frame_AdamInRefIdeal : Cert.quiescent_AdamInRefIdeal (hAdamInRefIdeal := Cert.AdamInRefIdeal.Gen.facts) :=
  fun m g _ => (θ_run Cert.AdamInRefIdeal.defs _ _).mono (fun r h => ⟨fun c => (h c).2.2.2,
      Idealize.ShloMosaic.sem_eq_zero_of_no_sems (by decide) r.2⟩) (Cert.AdamInRefIdeal.Value.run (F := Ideal) m g)

/-- The reference program AdamORefIdeal runs and leaves its arguments as they were. -/
theorem frame_AdamORefIdeal : Cert.quiescent_AdamORefIdeal (hAdamORefIdeal := Cert.AdamORefIdeal.Gen.facts) :=
  fun m g _ => (θ_run Cert.AdamORefIdeal.defs _ _).mono (fun r h => ⟨fun c => (h c).2.2.2,
      Idealize.ShloMosaic.sem_eq_zero_of_no_sems (by decide) r.2⟩) (Cert.AdamORefIdeal.Value.run (F := Ideal) m g)

/-- The reference program AdamDownRefIdeal runs and leaves its arguments as they were. -/
theorem frame_AdamDownRefIdeal : Cert.quiescent_AdamDownRefIdeal (hAdamDownRefIdeal := Cert.AdamDownRefIdeal.Gen.facts) :=
  fun m g _ => (θ_run Cert.AdamDownRefIdeal.defs _ _).mono (fun r h => ⟨fun c => (h c).2.2.2.2,
      Idealize.ShloMosaic.sem_eq_zero_of_no_sems (by decide) r.2⟩) (Cert.AdamDownRefIdeal.Value.run (F := Ideal) m g)

/-- The reference program AdamGateRefIdeal runs and leaves its arguments as they were. -/
theorem frame_AdamGateRefIdeal : Cert.quiescent_AdamGateRefIdeal (hAdamGateRefIdeal := Cert.AdamGateRefIdeal.Gen.facts) :=
  fun m g _ => (θ_run Cert.AdamGateRefIdeal.defs _ _).mono (fun r h => ⟨fun c => (h c).2.2.2.2,
      Idealize.ShloMosaic.sem_eq_zero_of_no_sems (by decide) r.2⟩) (Cert.AdamGateRefIdeal.Value.run (F := Ideal) m g)

/-- The reference program MixBFwdRefIdeal runs and leaves its arguments as they were. -/
theorem frame_MixBFwdRefIdeal : Cert.quiescent_MixBFwdRefIdeal (hMixBFwdRefIdeal := Cert.MixBFwdRefIdeal.Gen.facts) :=
  fun m g _ => (θ_run Cert.MixBFwdRefIdeal.defs _ _).mono (fun r h => ⟨fun c => (h c).2,
      Idealize.ShloMosaic.sem_eq_zero_of_no_sems (by decide) r.2⟩) (Cert.MixBFwdRefIdeal.Value.run (F := Ideal) m g)

/-- The reference program AdamSmallRefIdeal runs and leaves its arguments as they were. -/
theorem frame_AdamSmallRefIdeal : Cert.quiescent_AdamSmallRefIdeal (hAdamSmallRefIdeal := Cert.AdamSmallRefIdeal.Gen.facts) :=
  fun m g _ => (θ_run Cert.AdamSmallRefIdeal.defs _ _).mono (fun r h => ⟨fun c => (h c).2.2.2,
      Idealize.ShloMosaic.sem_eq_zero_of_no_sems (by decide) r.2⟩) (Cert.AdamSmallRefIdeal.Value.run (F := Ideal) m g)

/-- Every claim of the certificate. -/
theorem claim : Cert.Claim :=
  ⟨Cert.Attn.Gen.facts,
    Cert.AttnIdeal.Gen.facts,
    Cert.AttnRefIdeal.Gen.facts,
    Cert.MixB.Gen.facts,
    Cert.MixBIdeal.Gen.facts,
    Cert.MixBRefIdeal.Gen.facts,
    Cert.Ffn.Gen.facts,
    Cert.FfnIdeal.Gen.facts,
    Cert.FfnRefIdeal.Gen.facts,
    Cert.MmDf.Gen.facts,
    Cert.MmDfIdeal.Gen.facts,
    Cert.MmDfRefIdeal.Gen.facts,
    Cert.MmDxn3.Gen.facts,
    Cert.MmDxn3Ideal.Gen.facts,
    Cert.MmDxn3RefIdeal.Gen.facts,
    Cert.MmDo.Gen.facts,
    Cert.MmDoIdeal.Gen.facts,
    Cert.MmDoRefIdeal.Gen.facts,
    Cert.MmDxn2.Gen.facts,
    Cert.MmDxn2Ideal.Gen.facts,
    Cert.MmDxn2RefIdeal.Gen.facts,
    Cert.MmDmem.Gen.facts,
    Cert.MmDmemIdeal.Gen.facts,
    Cert.MmDmemRefIdeal.Gen.facts,
    Cert.DwInSib.Gen.facts,
    Cert.DwInSibIdeal.Gen.facts,
    Cert.DwInSibRefIdeal.Gen.facts,
    Cert.DwInOwn.Gen.facts,
    Cert.DwInOwnIdeal.Gen.facts,
    Cert.DwInOwnRefIdeal.Gen.facts,
    Cert.DwOSib.Gen.facts,
    Cert.DwOSibIdeal.Gen.facts,
    Cert.DwOSibRefIdeal.Gen.facts,
    Cert.DwOOwn.Gen.facts,
    Cert.DwOOwnIdeal.Gen.facts,
    Cert.DwOOwnRefIdeal.Gen.facts,
    Cert.DwKSib.Gen.facts,
    Cert.DwKSibIdeal.Gen.facts,
    Cert.DwKSibRefIdeal.Gen.facts,
    Cert.DwKOwn.Gen.facts,
    Cert.DwKOwnIdeal.Gen.facts,
    Cert.DwKOwnRefIdeal.Gen.facts,
    Cert.DwGateSib.Gen.facts,
    Cert.DwGateSibIdeal.Gen.facts,
    Cert.DwGateSibRefIdeal.Gen.facts,
    Cert.DwGateOwn.Gen.facts,
    Cert.DwGateOwnIdeal.Gen.facts,
    Cert.DwGateOwnRefIdeal.Gen.facts,
    Cert.DwDownSib.Gen.facts,
    Cert.DwDownSibIdeal.Gen.facts,
    Cert.DwDownSibRefIdeal.Gen.facts,
    Cert.DwDownOwn.Gen.facts,
    Cert.DwDownOwnIdeal.Gen.facts,
    Cert.DwDownOwnRefIdeal.Gen.facts,
    Cert.MmIn.Gen.facts,
    Cert.MmInIdeal.Gen.facts,
    Cert.MmInRefIdeal.Gen.facts,
    Cert.MmOut.Gen.facts,
    Cert.MmOutIdeal.Gen.facts,
    Cert.MmOutRefIdeal.Gen.facts,
    Cert.MmQ.Gen.facts,
    Cert.MmQIdeal.Gen.facts,
    Cert.MmQRefIdeal.Gen.facts,
    Cert.MmK.Gen.facts,
    Cert.MmKIdeal.Gen.facts,
    Cert.MmKRefIdeal.Gen.facts,
    Cert.MmGate.Gen.facts,
    Cert.MmGateIdeal.Gen.facts,
    Cert.MmGateRefIdeal.Gen.facts,
    Cert.MmDown.Gen.facts,
    Cert.MmDownIdeal.Gen.facts,
    Cert.MmDownRefIdeal.Gen.facts,
    Cert.MmDxn1Lo.Gen.facts,
    Cert.MmDxn1LoIdeal.Gen.facts,
    Cert.MmDxn1LoRefIdeal.Gen.facts,
    Cert.MmDxn1Hi.Gen.facts,
    Cert.MmDxn1HiIdeal.Gen.facts,
    Cert.MmDxn1HiRefIdeal.Gen.facts,
    Cert.AttnFwd.Gen.facts,
    Cert.AttnFwdIdeal.Gen.facts,
    Cert.AttnFwdRefIdeal.Gen.facts,
    Cert.NormFwd.Gen.facts,
    Cert.NormFwdIdeal.Gen.facts,
    Cert.NormFwdRefIdeal.Gen.facts,
    Cert.AdamIn.Gen.facts,
    Cert.AdamInIdeal.Gen.facts,
    Cert.AdamInRefIdeal.Gen.facts,
    Cert.AdamO.Gen.facts,
    Cert.AdamOIdeal.Gen.facts,
    Cert.AdamORefIdeal.Gen.facts,
    Cert.AdamDown.Gen.facts,
    Cert.AdamDownIdeal.Gen.facts,
    Cert.AdamDownRefIdeal.Gen.facts,
    Cert.AdamGate.Gen.facts,
    Cert.AdamGateIdeal.Gen.facts,
    Cert.AdamGateRefIdeal.Gen.facts,
    Cert.MixBFwd.Gen.facts,
    Cert.MixBFwdIdeal.Gen.facts,
    Cert.MixBFwdRefIdeal.Gen.facts,
    Cert.AdamSmall.Gen.facts,
    Cert.AdamSmallIdeal.Gen.facts,
    Cert.AdamSmallRefIdeal.Gen.facts,
    Cert.Pre_finite_attention.Gen.facts,
    Cert.Pre_core_dw_in_sib.Gen.facts,
    Cert.Pre_core_dw_in_own.Gen.facts,
    Cert.Pre_core_dw_o_sib.Gen.facts,
    Cert.Pre_core_dw_o_own.Gen.facts,
    Cert.Pre_core_dw_k_sib.Gen.facts,
    Cert.Pre_core_dw_k_own.Gen.facts,
    Cert.Pre_core_dw_gate_sib.Gen.facts,
    Cert.Pre_core_dw_gate_own.Gen.facts,
    Cert.Pre_core_dw_down_sib.Gen.facts,
    Cert.Pre_core_dw_down_own.Gen.facts,
    Cert.On_first_columns.Gen.facts,
    fun m g _ => Cert.Attn.Gen.frame m g,
    fun m g _ => Cert.AttnIdeal.Gen.frame m g,
    fun m g _ => Cert.AttnIdeal.Gen.frame m g,
    frame_AttnRefIdeal,
    fun m g _ => frame_AttnRefIdeal m g trivial,
    fun m g _ => Cert.MixB.Gen.frame m g,
    fun m g _ => Cert.MixBIdeal.Gen.frame m g,
    frame_MixBRefIdeal,
    fun m g _ => Cert.Ffn.Gen.frame m g,
    fun m g _ => Cert.FfnIdeal.Gen.frame m g,
    frame_FfnRefIdeal,
    fun m g _ => Cert.MmDf.Gen.frame m g,
    fun m g _ => Cert.MmDfIdeal.Gen.frame m g,
    frame_MmDfRefIdeal,
    fun m g _ => Cert.MmDxn3.Gen.frame m g,
    fun m g _ => Cert.MmDxn3Ideal.Gen.frame m g,
    frame_MmDxn3RefIdeal,
    fun m g _ => Cert.MmDo.Gen.frame m g,
    fun m g _ => Cert.MmDoIdeal.Gen.frame m g,
    frame_MmDoRefIdeal,
    fun m g _ => Cert.MmDxn2.Gen.frame m g,
    fun m g _ => Cert.MmDxn2Ideal.Gen.frame m g,
    frame_MmDxn2RefIdeal,
    fun m g _ => Cert.MmDmem.Gen.frame m g,
    fun m g _ => Cert.MmDmemIdeal.Gen.frame m g,
    frame_MmDmemRefIdeal,
    fun m g h => Cert.DwInSib.Gen.frame m g (Cert.DwInSib.Gen.ok_of_pre m h),
    fun m g h => Cert.DwInSibIdeal.Gen.frame m g (Cert.DwInSibIdeal.Gen.ok_of_pre m h),
    frame_DwInSibRefIdeal,
    fun m g h => Cert.DwInOwn.Gen.frame m g (Cert.DwInOwn.Gen.ok_of_pre m h),
    fun m g h => Cert.DwInOwnIdeal.Gen.frame m g (Cert.DwInOwnIdeal.Gen.ok_of_pre m h),
    frame_DwInOwnRefIdeal,
    fun m g h => Cert.DwOSib.Gen.frame m g (Cert.DwOSib.Gen.ok_of_pre m h),
    fun m g h => Cert.DwOSibIdeal.Gen.frame m g (Cert.DwOSibIdeal.Gen.ok_of_pre m h),
    frame_DwOSibRefIdeal,
    fun m g h => Cert.DwOOwn.Gen.frame m g (Cert.DwOOwn.Gen.ok_of_pre m h),
    fun m g h => Cert.DwOOwnIdeal.Gen.frame m g (Cert.DwOOwnIdeal.Gen.ok_of_pre m h),
    frame_DwOOwnRefIdeal,
    fun m g h => Cert.DwKSib.Gen.frame m g (Cert.DwKSib.Gen.ok_of_pre m h),
    fun m g h => Cert.DwKSibIdeal.Gen.frame m g (Cert.DwKSibIdeal.Gen.ok_of_pre m h),
    frame_DwKSibRefIdeal,
    fun m g h => Cert.DwKOwn.Gen.frame m g (Cert.DwKOwn.Gen.ok_of_pre m h),
    fun m g h => Cert.DwKOwnIdeal.Gen.frame m g (Cert.DwKOwnIdeal.Gen.ok_of_pre m h),
    frame_DwKOwnRefIdeal,
    fun m g h => Cert.DwGateSib.Gen.frame m g (Cert.DwGateSib.Gen.ok_of_pre m h),
    fun m g h => Cert.DwGateSibIdeal.Gen.frame m g (Cert.DwGateSibIdeal.Gen.ok_of_pre m h),
    frame_DwGateSibRefIdeal,
    fun m g h => Cert.DwGateOwn.Gen.frame m g (Cert.DwGateOwn.Gen.ok_of_pre m h),
    fun m g h => Cert.DwGateOwnIdeal.Gen.frame m g (Cert.DwGateOwnIdeal.Gen.ok_of_pre m h),
    frame_DwGateOwnRefIdeal,
    fun m g h => Cert.DwDownSib.Gen.frame m g (Cert.DwDownSib.Gen.ok_of_pre m h),
    fun m g h => Cert.DwDownSibIdeal.Gen.frame m g (Cert.DwDownSibIdeal.Gen.ok_of_pre m h),
    frame_DwDownSibRefIdeal,
    fun m g h => Cert.DwDownOwn.Gen.frame m g (Cert.DwDownOwn.Gen.ok_of_pre m h),
    fun m g h => Cert.DwDownOwnIdeal.Gen.frame m g (Cert.DwDownOwnIdeal.Gen.ok_of_pre m h),
    frame_DwDownOwnRefIdeal,
    fun m g _ => Cert.MmIn.Gen.frame m g,
    fun m g _ => Cert.MmInIdeal.Gen.frame m g,
    frame_MmInRefIdeal,
    fun m g _ => Cert.MmOut.Gen.frame m g,
    fun m g _ => Cert.MmOutIdeal.Gen.frame m g,
    frame_MmOutRefIdeal,
    fun m g _ => Cert.MmQ.Gen.frame m g,
    fun m g _ => Cert.MmQIdeal.Gen.frame m g,
    frame_MmQRefIdeal,
    fun m g _ => Cert.MmK.Gen.frame m g,
    fun m g _ => Cert.MmKIdeal.Gen.frame m g,
    frame_MmKRefIdeal,
    fun m g _ => Cert.MmGate.Gen.frame m g,
    fun m g _ => Cert.MmGateIdeal.Gen.frame m g,
    frame_MmGateRefIdeal,
    fun m g _ => Cert.MmDown.Gen.frame m g,
    fun m g _ => Cert.MmDownIdeal.Gen.frame m g,
    frame_MmDownRefIdeal,
    fun m g _ => Cert.MmDxn1Lo.Gen.frame m g,
    fun m g _ => Cert.MmDxn1LoIdeal.Gen.frame m g,
    frame_MmDxn1LoRefIdeal,
    fun m g _ => Cert.MmDxn1Hi.Gen.frame m g,
    fun m g _ => Cert.MmDxn1HiIdeal.Gen.frame m g,
    frame_MmDxn1HiRefIdeal,
    fun m g _ => Cert.AttnFwd.Gen.frame m g,
    fun m g _ => Cert.AttnFwdIdeal.Gen.frame m g,
    frame_AttnFwdRefIdeal,
    fun m g _ => Cert.NormFwd.Gen.frame m g,
    fun m g _ => Cert.NormFwdIdeal.Gen.frame m g,
    frame_NormFwdRefIdeal,
    fun m g _ => Cert.AdamIn.Gen.frame m g,
    fun m g _ => Cert.AdamInIdeal.Gen.frame m g,
    frame_AdamInRefIdeal,
    fun m g _ => Cert.AdamO.Gen.frame m g,
    fun m g _ => Cert.AdamOIdeal.Gen.frame m g,
    frame_AdamORefIdeal,
    fun m g _ => Cert.AdamDown.Gen.frame m g,
    fun m g _ => Cert.AdamDownIdeal.Gen.frame m g,
    frame_AdamDownRefIdeal,
    fun m g _ => Cert.AdamGate.Gen.frame m g,
    fun m g _ => Cert.AdamGateIdeal.Gen.frame m g,
    frame_AdamGateRefIdeal,
    fun m g _ => Cert.MixBFwd.Gen.frame m g,
    fun m g _ => Cert.MixBFwdIdeal.Gen.frame m g,
    frame_MixBFwdRefIdeal,
    fun m g _ => Cert.AdamSmall.Gen.frame m g,
    fun m g _ => Cert.AdamSmallIdeal.Gen.frame m g,
    frame_AdamSmallRefIdeal,
    trivial,
    Cert.AttnAlg.claim,
    trivial,
    Cert.MixBAlg.claim,
    trivial,
    trivial,
    Cert.MmDfAlg.claim,
    trivial,
    Cert.MmDxn3Alg.claim,
    trivial,
    Cert.MmDoAlg.claim,
    trivial,
    Cert.MmDxn2Alg.claim,
    trivial,
    Cert.MmDmemAlg.claim,
    trivial,
    Cert.DwInSibAlg.claim,
    trivial,
    Cert.DwInOwnAlg.claim,
    trivial,
    Cert.DwOSibAlg.claim,
    trivial,
    Cert.DwOOwnAlg.claim,
    trivial,
    Cert.DwKSibAlg.claim,
    trivial,
    Cert.DwKOwnAlg.claim,
    trivial,
    Cert.DwGateSibAlg.claim,
    trivial,
    Cert.DwGateOwnAlg.claim,
    trivial,
    Cert.DwDownSibAlg.claim,
    trivial,
    Cert.DwDownOwnAlg.claim,
    trivial,
    Cert.MmInAlg.claim,
    trivial,
    Cert.MmOutAlg.claim,
    trivial,
    Cert.MmQAlg.claim,
    trivial,
    Cert.MmKAlg.claim,
    trivial,
    Cert.MmGateAlg.claim,
    trivial,
    Cert.MmDownAlg.claim,
    trivial,
    Cert.MmDxn1LoAlg.claim,
    trivial,
    Cert.MmDxn1HiAlg.claim,
    trivial,
    Cert.AttnFwdAlg.claim,
    trivial,
    Cert.NormFwdAlg.claim,
    trivial,
    Cert.AdamInAlg.claim,
    trivial,
    Cert.AdamOAlg.claim,
    trivial,
    Cert.AdamDownAlg.claim,
    trivial,
    Cert.AdamGateAlg.claim,
    trivial,
    Cert.MixBFwdAlg.claim,
    trivial,
    Cert.AdamSmallAlg.claim⟩

end Cert.Proof

end
